-- ==== Defs.lean ====
def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutKernelIdeal_out_finite [hPre_out_finite : Cert.Pre_out_finite.Facts] (m : (ℓ : Loc Cert.OutKernelIdeal.nD Cert.OutKernelIdeal.τ Cert.OutKernelIdeal.sig) → Buf (Elt Ideal) ℓ) : Prop :=
  ∀ c : Dev Cert.OutKernelIdeal.nD,
    (Cert.Pre_out_finite.fn (F := Ideal) (m ((c.tc : Thread Cert.OutKernelIdeal.nD Cert.OutKernelIdeal.τ).loc Cert.OutKernelIdeal.main_arg0)) (m ((c.tc : Thread Cert.OutKernelIdeal.nD Cert.OutKernelIdeal.τ).loc Cert.OutKernelIdeal.main_arg1)) (m ((c.tc : Thread Cert.OutKernelIdeal.nD Cert.OutKernelIdeal.τ).loc Cert.OutKernelIdeal.main_arg2)) (m ((c.tc : Thread Cert.OutKernelIdeal.nD Cert.OutKernelIdeal.τ).loc Cert.OutKernelIdeal.main_arg3)) (m ((c.tc : Thread Cert.OutKernelIdeal.nD Cert.OutKernelIdeal.τ).loc Cert.OutKernelIdeal.main_arg4)) (m ((c.tc : Thread Cert.OutKernelIdeal.nD Cert.OutKernelIdeal.τ).loc Cert.OutKernelIdeal.main_arg5))) = (fun _ => 1#1)

def Pre_OutReferenceIdeal (m : (ℓ : Loc Cert.OutReferenceIdeal.nD Cert.OutReferenceIdeal.τ Cert.OutReferenceIdeal.sig) → Buf (Elt Ideal) ℓ) : Prop :=
  True

def Pre_OutReferenceIdeal_out_finite [hPre_out_finite : Cert.Pre_out_finite.Facts] (m : (ℓ : Loc Cert.OutReferenceIdeal.nD Cert.OutReferenceIdeal.τ Cert.OutReferenceIdeal.sig) → Buf (Elt Ideal) ℓ) : Prop :=
  ∀ c : Dev Cert.OutReferenceIdeal.nD,
    (Cert.Pre_out_finite.fn (F := Ideal) (m ((c.tc : Thread Cert.OutReferenceIdeal.nD Cert.OutReferenceIdeal.τ).loc Cert.OutReferenceIdeal.main_arg0)) (m ((c.tc : Thread Cert.OutReferenceIdeal.nD Cert.OutReferenceIdeal.τ).loc Cert.OutReferenceIdeal.main_arg1)) (m ((c.tc : Thread Cert.OutReferenceIdeal.nD Cert.OutReferenceIdeal.τ).loc Cert.OutReferenceIdeal.main_arg2)) (m ((c.tc : Thread Cert.OutReferenceIdeal.nD Cert.OutReferenceIdeal.τ).loc Cert.OutReferenceIdeal.main_arg3)) (m ((c.tc : Thread Cert.OutReferenceIdeal.nD Cert.OutReferenceIdeal.τ).loc Cert.OutReferenceIdeal.main_arg4)) (m ((c.tc : Thread Cert.OutReferenceIdeal.nD Cert.OutReferenceIdeal.τ).loc Cert.OutReferenceIdeal.main_arg5))) = (fun _ => 1#1)

def Pre_LruKernel (m : (ℓ : Loc Cert.LruKernel.nD Cert.LruKernel.τ Cert.LruKernel.sig) → Buf (Elt Bits) ℓ) : Prop :=
  True

def Pre_LruKernelIdeal (m : (ℓ : Loc Cert.LruKernelIdeal.nD Cert.LruKernelIdeal.τ Cert.LruKernelIdeal.sig) → Buf (Elt Ideal) ℓ) : Prop :=
  True

def Pre_LruKernelIdeal_lru_finite [hPre_lru_finite : Cert.Pre_lru_finite.Facts] (m : (ℓ : Loc Cert.LruKernelIdeal.nD Cert.LruKernelIdeal.τ Cert.LruKernelIdeal.sig) → Buf (Elt Ideal) ℓ) : Prop :=
  ∀ c : Dev Cert.LruKernelIdeal.nD,
    (Cert.Pre_lru_finite.fn (F := Ideal) (m ((c.tc : Thread Cert.LruKernelIdeal.nD Cert.LruKernelIdeal.τ).loc Cert.LruKernelIdeal.main_arg0)) (m ((c.tc : Thread Cert.LruKernelIdeal.nD Cert.LruKernelIdeal.τ).loc Cert.LruKernelIdeal.main_arg1)) (m ((c.tc : Thread Cert.LruKernelIdeal.nD Cert.LruKernelIdeal.τ).loc Cert.LruKernelIdeal.main_arg2)) (m ((c.tc : Thread Cert.LruKernelIdeal.nD Cert.LruKernelIdeal.τ).loc Cert.LruKernelIdeal.main_arg3)) (m ((c.tc : Thread Cert.LruKernelIdeal.nD Cert.LruKernelIdeal.τ).loc Cert.LruKernelIdeal.main_arg4)) (m ((c.tc : Thread Cert.LruKernelIdeal.nD Cert.LruKernelIdeal.τ).loc Cert.LruKernelIdeal.main_arg5)) (m ((c.tc : Thread Cert.LruKernelIdeal.nD Cert.LruKernelIdeal.τ).loc Cert.LruKernelIdeal.main_arg6)) (m ((c.tc : Thread Cert.LruKernelIdeal.nD Cert.LruKernelIdeal.τ).loc Cert.LruKernelIdeal.main_arg7)) (m ((c.tc : Thread Cert.LruKernelIdeal.nD Cert.LruKernelIdeal.τ).loc Cert.LruKernelIdeal.main_arg8)) (m ((c.tc : Thread Cert.LruKernelIdeal.nD Cert.LruKernelIdeal.τ).loc Cert.LruKernelIdeal.main_arg9))) = (fun _ => 1#1)

def Pre_LruReferenceIdeal (m : (ℓ : Loc Cert.LruReferenceIdeal.nD Cert.LruReferenceIdeal.τ Cert.LruReferenceIdeal.sig) → Buf (Elt Ideal) ℓ) : Prop :=
  True

def Pre_LruReferenceIdeal_lru_finite [hPre_lru_finite : Cert.Pre_lru_finite.Facts] (m : (ℓ : Loc Cert.LruReferenceIdeal.nD Cert.LruReferenceIdeal.τ Cert.LruReferenceIdeal.sig) → Buf (Elt Ideal) ℓ) : Prop :=
  ∀ c : Dev Cert.LruReferenceIdeal.nD,
    (Cert.Pre_lru_finite.fn (F := Ideal) (m ((c.tc : Thread Cert.LruReferenceIdeal.nD Cert.LruReferenceIdeal.τ).loc Cert.LruReferenceIdeal.main_arg0)) (m ((c.tc : Thread Cert.LruReferenceIdeal.nD Cert.LruReferenceIdeal.τ).loc Cert.LruReferenceIdeal.main_arg1)) (m ((c.tc : Thread Cert.LruReferenceIdeal.nD Cert.LruReferenceIdeal.τ).loc Cert.LruReferenceIdeal.main_arg2)) (m ((c.tc : Thread Cert.LruReferenceIdeal.nD Cert.LruReferenceIdeal.τ).loc Cert.LruReferenceIdeal.main_arg3)) (m ((c.tc : Thread Cert.LruReferenceIdeal.nD Cert.LruReferenceIdeal.τ).loc Cert.LruReferenceIdeal.main_arg4)) (m ((c.tc : Thread Cert.LruReferenceIdeal.nD Cert.LruReferenceIdeal.τ).loc Cert.LruReferenceIdeal.main_arg5)) (m ((c.tc : Thread Cert.LruReferenceIdeal.nD Cert.LruReferenceIdeal.τ).loc Cert.LruReferenceIdeal.main_arg6)) (m ((c.tc : Thread Cert.LruReferenceIdeal.nD Cert.LruReferenceIdeal.τ).loc Cert.LruReferenceIdeal.main_arg7)) (m ((c.tc : Thread Cert.LruReferenceIdeal.nD Cert.LruReferenceIdeal.τ).loc Cert.LruReferenceIdeal.main_arg8)) (m ((c.tc : Thread Cert.LruReferenceIdeal.nD Cert.LruReferenceIdeal.τ).loc Cert.LruReferenceIdeal.main_arg9))) = (fun _ => 1#1)

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxKernelIdeal_dx_finite [hPre_dx_finite : Cert.Pre_dx_finite.Facts] (m : (ℓ : Loc Cert.DxKernelIdeal.nD Cert.DxKernelIdeal.τ Cert.DxKernelIdeal.sig) → Buf (Elt Ideal) ℓ) : Prop :=
  ∀ c : Dev Cert.DxKernelIdeal.nD,
    (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))) = (fun _ => 1#1)

def Pre_DxReferenceIdeal (m : (ℓ : Loc Cert.DxReferenceIdeal.nD Cert.DxReferenceIdeal.τ Cert.DxReferenceIdeal.sig) → Buf (Elt Ideal) ℓ) : Prop :=
  True

def Pre_DxReferenceIdeal_dx_finite [hPre_dx_finite : Cert.Pre_dx_finite.Facts] (m : (ℓ : Loc Cert.DxReferenceIdeal.nD Cert.DxReferenceIdeal.τ Cert.DxReferenceIdeal.sig) → Buf (Elt Ideal) ℓ) : Prop :=
  ∀ c : Dev Cert.DxReferenceIdeal.nD,
    (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))) = (fun _ => 1#1)

def Pre_FinKernel (m : (ℓ : Loc Cert.FinKernel.nD Cert.FinKernel.τ Cert.FinKernel.sig) → Buf (Elt Bits) ℓ) : Prop :=
  True

def Pre_FinKernelIdeal (m : (ℓ : Loc Cert.FinKernelIdeal.nD Cert.FinKernelIdeal.τ Cert.FinKernelIdeal.sig) → Buf (Elt Ideal) ℓ) : Prop :=
  True

def Pre_FinKernelIdeal_fin_finite [hPre_fin_finite : Cert.Pre_fin_finite.Facts] (m : (ℓ : Loc Cert.FinKernelIdeal.nD Cert.FinKernelIdeal.τ Cert.FinKernelIdeal.sig) → Buf (Elt Ideal) ℓ) : Prop :=
  ∀ c : Dev Cert.FinKernelIdeal.nD,
    (Cert.Pre_fin_finite.fn (F := Ideal) (m ((c.tc : Thread Cert.FinKernelIdeal.nD Cert.FinKernelIdeal.τ).loc Cert.FinKernelIdeal.main_arg0)) (m ((c.tc : Thread Cert.FinKernelIdeal.nD Cert.FinKernelIdeal.τ).loc Cert.FinKernelIdeal.main_arg1)) (m ((c.tc : Thread Cert.FinKernelIdeal.nD Cert.FinKernelIdeal.τ).loc Cert.FinKernelIdeal.main_arg2)) (m ((c.tc : Thread Cert.FinKernelIdeal.nD Cert.FinKernelIdeal.τ).loc Cert.FinKernelIdeal.main_arg3))) = (fun _ => 1#1)

def Pre_FinReferenceIdeal (m : (ℓ : Loc Cert.FinReferenceIdeal.nD Cert.FinReferenceIdeal.τ Cert.FinReferenceIdeal.sig) → Buf (Elt Ideal) ℓ) : Prop :=
  True

def Pre_FinReferenceIdeal_fin_finite [hPre_fin_finite : Cert.Pre_fin_finite.Facts] (m : (ℓ : Loc Cert.FinReferenceIdeal.nD Cert.FinReferenceIdeal.τ Cert.FinReferenceIdeal.sig) → Buf (Elt Ideal) ℓ) : Prop :=
  ∀ c : Dev Cert.FinReferenceIdeal.nD,
    (Cert.Pre_fin_finite.fn (F := Ideal) (m ((c.tc : Thread Cert.FinReferenceIdeal.nD Cert.FinReferenceIdeal.τ).loc Cert.FinReferenceIdeal.main_arg0)) (m ((c.tc : Thread Cert.FinReferenceIdeal.nD Cert.FinReferenceIdeal.τ).loc Cert.FinReferenceIdeal.main_arg1)) (m ((c.tc : Thread Cert.FinReferenceIdeal.nD Cert.FinReferenceIdeal.τ).loc Cert.FinReferenceIdeal.main_arg2)) (m ((c.tc : Thread Cert.FinReferenceIdeal.nD Cert.FinReferenceIdeal.τ).loc Cert.FinReferenceIdeal.main_arg3))) = (fun _ => 1#1)

def Pre_HgbKernel (m : (ℓ : Loc Cert.HgbKernel.nD Cert.HgbKernel.τ Cert.HgbKernel.sig) → Buf (Elt Bits) ℓ) : Prop :=
  True

def Pre_HgbKernelIdeal (m : (ℓ : Loc Cert.HgbKernelIdeal.nD Cert.HgbKernelIdeal.τ Cert.HgbKernelIdeal.sig) → Buf (Elt Ideal) ℓ) : Prop :=
  True

def Pre_HgfKernel (m : (ℓ : Loc Cert.HgfKernel.nD Cert.HgfKernel.τ Cert.HgfKernel.sig) → Buf (Elt Bits) ℓ) : Prop :=
  True

def Pre_HgfKernelIdeal (m : (ℓ : Loc Cert.HgfKernelIdeal.nD Cert.HgfKernelIdeal.τ Cert.HgfKernelIdeal.sig) → Buf (Elt Ideal) ℓ) : Prop :=
  True

def Pre_DwoKernel (m : (ℓ : Loc Cert.DwoKernel.nD Cert.DwoKernel.τ Cert.DwoKernel.sig) → Buf (Elt Bits) ℓ) : Prop :=
  True

def Pre_DwoKernelIdeal (m : (ℓ : Loc Cert.DwoKernelIdeal.nD Cert.DwoKernelIdeal.τ Cert.DwoKernelIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_DwiKernel (m : (ℓ : Loc Cert.DwiKernel.nD Cert.DwiKernel.τ Cert.DwiKernel.sig) → Buf (Elt Bits) ℓ) : Prop :=
  True

def Pre_DwiKernelIdeal (m : (ℓ : Loc Cert.DwiKernelIdeal.nD Cert.DwiKernelIdeal.τ Cert.DwiKernelIdeal.sig) → Buf (Elt Ideal) ℓ) : Prop :=
  True

def Pre_DwiReferenceIdeal (m : (ℓ : Loc Cert.DwiReferenceIdeal.nD Cert.DwiReferenceIdeal.τ Cert.DwiReferenceIdeal.sig) → Buf (Elt Ideal) ℓ) : Prop :=
  True

def Pre_SohKernel (m : (ℓ : Loc Cert.SohKernel.nD Cert.SohKernel.τ Cert.SohKernel.sig) → Buf (Elt Bits) ℓ) : Prop :=
  True

def Pre_SohKernelIdeal (m : (ℓ : Loc Cert.SohKernelIdeal.nD Cert.SohKernelIdeal.τ Cert.SohKernelIdeal.sig) → Buf (Elt Ideal) ℓ) : Prop :=
  True

def Pre_SohReferenceIdeal (m : (ℓ : Loc Cert.SohReferenceIdeal.nD Cert.SohReferenceIdeal.τ Cert.SohReferenceIdeal.sig) → Buf (Elt Ideal) ℓ) : Prop :=
  True

def Pre_SohReference (m : (ℓ : Loc Cert.SohReference.nD Cert.SohReference.τ Cert.SohReference.sig) → Buf (Elt Bits) ℓ) : Prop :=
  True

def Pre_SooKernel (m : (ℓ : Loc Cert.SooKernel.nD Cert.SooKernel.τ Cert.SooKernel.sig) → Buf (Elt Bits) ℓ) : Prop :=
  True

def Pre_SooKernelIdeal (m : (ℓ : Loc Cert.SooKernelIdeal.nD Cert.SooKernelIdeal.τ Cert.SooKernelIdeal.sig) → Buf (Elt Ideal) ℓ) : Prop :=
  True

def Pre_SooReferenceIdeal (m : (ℓ : Loc Cert.SooReferenceIdeal.nD Cert.SooReferenceIdeal.τ Cert.SooReferenceIdeal.sig) → Buf (Elt Ideal) ℓ) : Prop :=
  True

def Pre_SooReference (m : (ℓ : Loc Cert.SooReference.nD Cert.SooReference.τ Cert.SooReference.sig) → Buf (Elt Bits) ℓ) : Prop :=
  True

def Pre_SogKernel (m : (ℓ : Loc Cert.SogKernel.nD Cert.SogKernel.τ Cert.SogKernel.sig) → Buf (Elt Bits) ℓ) : Prop :=
  True

def Pre_SogKernelIdeal (m : (ℓ : Loc Cert.SogKernelIdeal.nD Cert.SogKernelIdeal.τ Cert.SogKernelIdeal.sig) → Buf (Elt Ideal) ℓ) : Prop :=
  True

def Pre_SogReferenceIdeal (m : (ℓ : Loc Cert.SogReferenceIdeal.nD Cert.SogReferenceIdeal.τ Cert.SogReferenceIdeal.sig) → Buf (Elt Ideal) ℓ) : Prop :=
  True

def Pre_SogReference (m : (ℓ : Loc Cert.SogReference.nD Cert.SogReference.τ Cert.SogReference.sig) → Buf (Elt Bits) ℓ) : Prop :=
  True

def Pre_SchKernel (m : (ℓ : Loc Cert.SchKernel.nD Cert.SchKernel.τ Cert.SchKernel.sig) → Buf (Elt Bits) ℓ) : Prop :=
  True

def Pre_SchKernelIdeal (m : (ℓ : Loc Cert.SchKernelIdeal.nD Cert.SchKernelIdeal.τ Cert.SchKernelIdeal.sig) → Buf (Elt Ideal) ℓ) : Prop :=
  True

def Pre_SchReferenceIdeal (m : (ℓ : Loc Cert.SchReferenceIdeal.nD Cert.SchReferenceIdeal.τ Cert.SchReferenceIdeal.sig) → Buf (Elt Ideal) ℓ) : Prop :=
  True

def Pre_ScoKernel (m : (ℓ : Loc Cert.ScoKernel.nD Cert.ScoKernel.τ Cert.ScoKernel.sig) → Buf (Elt Bits) ℓ) : Prop :=
  True

def Pre_ScoKernelIdeal (m : (ℓ : Loc Cert.ScoKernelIdeal.nD Cert.ScoKernelIdeal.τ Cert.ScoKernelIdeal.sig) → Buf (Elt Ideal) ℓ) : Prop :=
  True

def Pre_ScoReferenceIdeal (m : (ℓ : Loc Cert.ScoReferenceIdeal.nD Cert.ScoReferenceIdeal.τ Cert.ScoReferenceIdeal.sig) → Buf (Elt Ideal) ℓ) : Prop :=
  True

def Pre_ScgKernel (m : (ℓ : Loc Cert.ScgKernel.nD Cert.ScgKernel.τ Cert.ScgKernel.sig) → Buf (Elt Bits) ℓ) : Prop :=
  True

def Pre_ScgKernelIdeal (m : (ℓ : Loc Cert.ScgKernelIdeal.nD Cert.ScgKernelIdeal.τ Cert.ScgKernelIdeal.sig) → Buf (Elt Ideal) ℓ) : Prop :=
  True

def Pre_ScgReferenceIdeal (m : (ℓ : Loc Cert.ScgReferenceIdeal.nD Cert.ScgReferenceIdeal.τ Cert.ScgReferenceIdeal.sig) → Buf (Elt Ideal) ℓ) : Prop :=
  True

def Pre_AdbKernel (m : (ℓ : Loc Cert.AdbKernel.nD Cert.AdbKernel.τ Cert.AdbKernel.sig) → Buf (Elt Bits) ℓ) : Prop :=
  True

def Pre_AdbKernelIdeal (m : (ℓ : Loc Cert.AdbKernelIdeal.nD Cert.AdbKernelIdeal.τ Cert.AdbKernelIdeal.sig) → Buf (Elt Ideal) ℓ) : Prop :=
  True

def Pre_AdbReferenceIdeal (m : (ℓ : Loc Cert.AdbReferenceIdeal.nD Cert.AdbReferenceIdeal.τ Cert.AdbReferenceIdeal.sig) → Buf (Elt Ideal) ℓ) : Prop :=
  True

def Pre_AdoKernel (m : (ℓ : Loc Cert.AdoKernel.nD Cert.AdoKernel.τ Cert.AdoKernel.sig) → Buf (Elt Bits) ℓ) : Prop :=
  True

def Pre_AdoKernelIdeal (m : (ℓ : Loc Cert.AdoKernelIdeal.nD Cert.AdoKernelIdeal.τ Cert.AdoKernelIdeal.sig) → Buf (Elt Ideal) ℓ) : Prop :=
  True

def Pre_AdoReferenceIdeal (m : (ℓ : Loc Cert.AdoReferenceIdeal.nD Cert.AdoReferenceIdeal.τ Cert.AdoReferenceIdeal.sig) → Buf (Elt Ideal) ℓ) : Prop :=
  True

def Pre_AdgKernel (m : (ℓ : Loc Cert.AdgKernel.nD Cert.AdgKernel.τ Cert.AdgKernel.sig) → Buf (Elt Bits) ℓ) : Prop :=
  True

def Pre_AdgKernelIdeal (m : (ℓ : Loc Cert.AdgKernelIdeal.nD Cert.AdgKernelIdeal.τ Cert.AdgKernelIdeal.sig) → Buf (Elt Ideal) ℓ) : Prop :=
  True

def Pre_AdgReferenceIdeal (m : (ℓ : Loc Cert.AdgReferenceIdeal.nD Cert.AdgReferenceIdeal.τ Cert.AdgReferenceIdeal.sig) → Buf (Elt Ideal) ℓ) : Prop :=
  True

def Pre_AsaKernel (m : (ℓ : Loc Cert.AsaKernel.nD Cert.AsaKernel.τ Cert.AsaKernel.sig) → Buf (Elt Bits) ℓ) : Prop :=
  True

def Pre_AsaKernelIdeal (m : (ℓ : Loc Cert.AsaKernelIdeal.nD Cert.AsaKernelIdeal.τ Cert.AsaKernelIdeal.sig) → Buf (Elt Ideal) ℓ) : Prop :=
  True

def Pre_AsaReferenceIdeal (m : (ℓ : Loc Cert.AsaReferenceIdeal.nD Cert.AsaReferenceIdeal.τ Cert.AsaReferenceIdeal.sig) → Buf (Elt Ideal) ℓ) : Prop :=
  True

def Pre_AsgKernel (m : (ℓ : Loc Cert.AsgKernel.nD Cert.AsgKernel.τ Cert.AsgKernel.sig) → Buf (Elt Bits) ℓ) : Prop :=
  True

def Pre_AsgKernelIdeal (m : (ℓ : Loc Cert.AsgKernelIdeal.nD Cert.AsgKernelIdeal.τ Cert.AsgKernelIdeal.sig) → Buf (Elt Ideal) ℓ) : Prop :=
  True

def Pre_AsgReferenceIdeal (m : (ℓ : Loc Cert.AsgReferenceIdeal.nD Cert.AsgReferenceIdeal.τ Cert.AsgReferenceIdeal.sig) → Buf (Elt Ideal) ℓ) : Prop :=
  True

def Pre_AsbKernel (m : (ℓ : Loc Cert.AsbKernel.nD Cert.AsbKernel.τ Cert.AsbKernel.sig) → Buf (Elt Bits) ℓ) : Prop :=
  True

def Pre_AsbKernelIdeal (m : (ℓ : Loc Cert.AsbKernelIdeal.nD Cert.AsbKernelIdeal.τ Cert.AsbKernelIdeal.sig) → Buf (Elt Ideal) ℓ) : Prop :=
  True

def Pre_AsbReferenceIdeal (m : (ℓ : Loc Cert.AsbReferenceIdeal.nD Cert.AsbReferenceIdeal.τ Cert.AsbReferenceIdeal.sig) → Buf (Elt Ideal) ℓ) : Prop :=
  True

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutKernelIdeal_pre_out_finite [hOutKernelIdeal : Cert.OutKernelIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal_out_finite m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_OutReferenceIdeal_pre_out_finite [hOutReferenceIdeal : Cert.OutReferenceIdeal.Facts] [hPre_out_finite : Cert.Pre_out_finite.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal_out_finite m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_LruKernel [hLruKernel : Cert.LruKernel.Facts] : Prop :=
  ∀ (m : (ℓ : Loc Cert.LruKernel.nD Cert.LruKernel.τ Cert.LruKernel.sig) → Buf (Elt Bits) ℓ) (g : Dev Cert.LruKernel.nD → PrngReg), Pre_LruKernel m →
    θ_run (Cert.LruKernel.defs (F := Bits)) (onTc (τ := Cert.LruKernel.τ) (Cert.LruKernel.main (F := Bits))) ⟨m, fun _ => 0, g⟩ (fun r => (∀ c : Dev Cert.LruKernel.nD,
      r.2.mem ((c.tc : Thread Cert.LruKernel.nD Cert.LruKernel.τ).loc Cert.LruKernel.main_arg0) = m ((c.tc : Thread Cert.LruKernel.nD Cert.LruKernel.τ).loc Cert.LruKernel.main_arg0)
      ∧ r.2.mem ((c.tc : Thread Cert.LruKernel.nD Cert.LruKernel.τ).loc Cert.LruKernel.main_arg1) = m ((c.tc : Thread Cert.LruKernel.nD Cert.LruKernel.τ).loc Cert.LruKernel.main_arg1)
      ∧ r.2.mem ((c.tc : Thread Cert.LruKernel.nD Cert.LruKernel.τ).loc Cert.LruKernel.main_arg2) = m ((c.tc : Thread Cert.LruKernel.nD Cert.LruKernel.τ).loc Cert.LruKernel.main_arg2)
      ∧ r.2.mem ((c.tc : Thread Cert.LruKernel.nD Cert.LruKernel.τ).loc Cert.LruKernel.main_arg3) = m ((c.tc : Thread Cert.LruKernel.nD Cert.LruKernel.τ).loc Cert.LruKernel.main_arg3)
      ∧ r.2.mem ((c.tc : Thread Cert.LruKernel.nD Cert.LruKernel.τ).loc Cert.LruKernel.main_arg4) = m ((c.tc : Thread Cert.LruKernel.nD Cert.LruKernel.τ).loc Cert.LruKernel.main_arg4)
      ∧ r.2.mem ((c.tc : Thread Cert.LruKernel.nD Cert.LruKernel.τ).loc Cert.LruKernel.main_arg5) = m ((c.tc : Thread Cert.LruKernel.nD Cert.LruKernel.τ).loc Cert.LruKernel.main_arg5)
      ∧ r.2.mem ((c.tc : Thread Cert.LruKernel.nD Cert.LruKernel.τ).loc Cert.LruKernel.main_arg6) = m ((c.tc : Thread Cert.LruKernel.nD Cert.LruKernel.τ).loc Cert.LruKernel.main_arg6)
      ∧ r.2.mem ((c.tc : Thread Cert.LruKernel.nD Cert.LruKernel.τ).loc Cert.LruKernel.main_arg7) = m ((c.tc : Thread Cert.LruKernel.nD Cert.LruKernel.τ).loc Cert.LruKernel.main_arg7)
      ∧ r.2.mem ((c.tc : Thread Cert.LruKernel.nD Cert.LruKernel.τ).loc Cert.LruKernel.main_arg8) = m ((c.tc : Thread Cert.LruKernel.nD Cert.LruKernel.τ).loc Cert.LruKernel.main_arg8)
      ∧ r.2.mem ((c.tc : Thread Cert.LruKernel.nD Cert.LruKernel.τ).loc Cert.LruKernel.main_arg9) = m ((c.tc : Thread Cert.LruKernel.nD Cert.LruKernel.τ).loc Cert.LruKernel.main_arg9))
      ∧ r.2.sem = fun _ => 0)

def quiescent_LruKernelIdeal [hLruKernelIdeal : Cert.LruKernelIdeal.Facts] : Prop :=
  ∀ (m : (ℓ : Loc Cert.LruKernelIdeal.nD Cert.LruKernelIdeal.τ Cert.LruKernelIdeal.sig) → Buf (Elt Ideal) ℓ) (g : Dev Cert.LruKernelIdeal.nD → PrngReg), Pre_LruKernelIdeal m →
    θ_run (Cert.LruKernelIdeal.defs (F := Ideal)) (onTc (τ := Cert.LruKernelIdeal.τ) (Cert.LruKernelIdeal.main (F := Ideal))) ⟨m, fun _ => 0, g⟩ (fun r => (∀ c : Dev Cert.LruKernelIdeal.nD,
      r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
      ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
      ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
      ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
      ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
      ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
      ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
      ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
      ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8)
      ∧ r.2.mem ((c.tc : Thread Cert.LruKernelIdeal.nD Cert.LruKernelIdeal.τ).loc Cert.LruKernelIdeal.main_arg9) = m ((c.tc : Thread Cert.LruKernelIdeal.nD Cert.LruKernelIdeal.τ).loc Cert.LruKernelIdeal.main_arg9))
      ∧ r.2.sem = fun _ => 0)

def quiescent_LruKernelIdeal_pre_lru_finite [hLruKernelIdeal : Cert.LruKernelIdeal.Facts] [hPre_lru_finite : Cert.Pre_lru_finite.Facts] : Prop :=
  ∀ (m : (ℓ : Loc Cert.LruKernelIdeal.nD Cert.LruKernelIdeal.τ Cert.LruKernelIdeal.sig) → Buf (Elt Ideal) ℓ) (g : Dev Cert.LruKernelIdeal.nD → PrngReg), Pre_LruKernelIdeal_lru_finite m →
    θ_run (Cert.LruKernelIdeal.defs (F := Ideal)) (onTc (τ := Cert.LruKernelIdeal.τ) (Cert.LruKernelIdeal.main (F := Ideal))) ⟨m, fun _ => 0, g⟩ (fun r => (∀ c : Dev Cert.LruKernelIdeal.nD,
      r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
      ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
      ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
      ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
      ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
      ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
      ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
      ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
      ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8)
      ∧ r.2.mem ((c.tc : Thread Cert.LruKernelIdeal.nD Cert.LruKernelIdeal.τ).loc Cert.LruKernelIdeal.main_arg9) = m ((c.tc : Thread Cert.LruKernelIdeal.nD Cert.LruKernelIdeal.τ).loc Cert.LruKernelIdeal.main_arg9))
      ∧ r.2.sem = fun _ => 0)

def quiescent_LruReferenceIdeal [hLruReferenceIdeal : Cert.LruReferenceIdeal.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6)
      ∧ r.2.mem ((c.tc : Thread Cert.LruReferenceIdeal.nD Cert.LruReferenceIdeal.τ).loc Cert.LruReferenceIdeal.main_arg7) = m ((c.tc : Thread Cert.LruReferenceIdeal.nD Cert.LruReferenceIdeal.τ).loc Cert.LruReferenceIdeal.main_arg7)
      ∧ r.2.mem ((c.tc : Thread Cert.LruReferenceIdeal.nD Cert.LruReferenceIdeal.τ).loc Cert.LruReferenceIdeal.main_arg8) = m ((c.tc : Thread Cert.LruReferenceIdeal.nD Cert.LruReferenceIdeal.τ).loc Cert.LruReferenceIdeal.main_arg8)
      ∧ r.2.mem ((c.tc : Thread Cert.LruReferenceIdeal.nD Cert.LruReferenceIdeal.τ).loc Cert.LruReferenceIdeal.main_arg9) = m ((c.tc : Thread Cert.LruReferenceIdeal.nD Cert.LruReferenceIdeal.τ).loc Cert.LruReferenceIdeal.main_arg9))
      ∧ r.2.sem = fun _ => 0)

def quiescent_LruReferenceIdeal_pre_lru_finite [hLruReferenceIdeal : Cert.LruReferenceIdeal.Facts] [hPre_lru_finite : Cert.Pre_lru_finite.Facts] : Prop :=
  ∀ (m : (ℓ : Loc Cert.LruReferenceIdeal.nD Cert.LruReferenceIdeal.τ Cert.LruReferenceIdeal.sig) → Buf (Elt Ideal) ℓ) (g : Dev Cert.LruReferenceIdeal.nD → PrngReg), Pre_LruReferenceIdeal_lru_finite m →
    θ_run (Cert.LruReferenceIdeal.defs (F := Ideal)) (onTc (τ := Cert.LruReferenceIdeal.τ) (Cert.LruReferenceIdeal.main (F := Ideal))) ⟨m, fun _ => 0, g⟩ (fun r => (∀ c : Dev Cert.LruReferenceIdeal.nD,
      r.2.mem ((c.tc : Thread Cert.LruReferenceIdeal.nD Cert.LruReferenceIdeal.τ).loc Cert.LruReferenceIdeal.main_arg0) = m ((c.tc : Thread Cert.LruReferenceIdeal.nD Cert.LruReferenceIdeal.τ).loc Cert.LruReferenceIdeal.main_arg0)
      ∧ r.2.mem ((c.tc : Thread Cert.LruReferenceIdeal.nD Cert.LruReferenceIdeal.τ).loc Cert.LruReferenceIdeal.main_arg1) = m ((c.tc : Thread Cert.LruReferenceIdeal.nD Cert.LruReferenceIdeal.τ).loc Cert.LruReferenceIdeal.main_arg1)
      ∧ r.2.mem ((c.tc : Thread Cert.LruReferenceIdeal.nD Cert.LruReferenceIdeal.τ).loc Cert.LruReferenceIdeal.main_arg2) = m ((c.tc : Thread Cert.LruReferenceIdeal.nD Cert.LruReferenceIdeal.τ).loc Cert.LruReferenceIdeal.main_arg2)
      ∧ r.2.mem ((c.tc : Thread Cert.LruReferenceIdeal.nD Cert.LruReferenceIdeal.τ).loc Cert.LruReferenceIdeal.main_arg3) = m ((c.tc : Thread Cert.LruReferenceIdeal.nD Cert.LruReferenceIdeal.τ).loc Cert.LruReferenceIdeal.main_arg3)
      ∧ r.2.mem ((c.tc : Thread Cert.LruReferenceIdeal.nD Cert.LruReferenceIdeal.τ).loc Cert.LruReferenceIdeal.main_arg4) = m ((c.tc : Thread Cert.LruReferenceIdeal.nD Cert.LruReferenceIdeal.τ).loc Cert.LruReferenceIdeal.main_arg4)
      ∧ r.2.mem ((c.tc : Thread Cert.LruReferenceIdeal.nD Cert.LruReferenceIdeal.τ).loc Cert.LruReferenceIdeal.main_arg5) = m ((c.tc : Thread Cert.LruReferenceIdeal.nD Cert.LruReferenceIdeal.τ).loc Cert.LruReferenceIdeal.main_arg5)
      ∧ r.2.mem ((c.tc : Thread Cert.LruReferenceIdeal.nD Cert.LruReferenceIdeal.τ).loc Cert.LruReferenceIdeal.main_arg6) = m ((c.tc : Thread Cert.LruReferenceIdeal.nD Cert.LruReferenceIdeal.τ).loc Cert.LruReferenceIdeal.main_arg6)
      ∧ r.2.mem ((c.tc : Thread Cert.LruReferenceIdeal.nD Cert.LruReferenceIdeal.τ).loc Cert.LruReferenceIdeal.main_arg7) = m ((c.tc : Thread Cert.LruReferenceIdeal.nD Cert.LruReferenceIdeal.τ).loc Cert.LruReferenceIdeal.main_arg7)
      ∧ r.2.mem ((c.tc : Thread Cert.LruReferenceIdeal.nD Cert.LruReferenceIdeal.τ).loc Cert.LruReferenceIdeal.main_arg8) = m ((c.tc : Thread Cert.LruReferenceIdeal.nD Cert.LruReferenceIdeal.τ).loc Cert.LruReferenceIdeal.main_arg8)
      ∧ r.2.mem ((c.tc : Thread Cert.LruReferenceIdeal.nD Cert.LruReferenceIdeal.τ).loc Cert.LruReferenceIdeal.main_arg9) = m ((c.tc : Thread Cert.LruReferenceIdeal.nD Cert.LruReferenceIdeal.τ).loc Cert.LruReferenceIdeal.main_arg9))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxKernelIdeal_pre_dx_finite [hDxKernelIdeal : Cert.DxKernelIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal_dx_finite m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_DxReferenceIdeal_pre_dx_finite [hDxReferenceIdeal : Cert.DxReferenceIdeal.Facts] [hPre_dx_finite : Cert.Pre_dx_finite.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal_dx_finite m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_FinKernel [hFinKernel : Cert.FinKernel.Facts] : Prop :=
  ∀ (m : (ℓ : Loc Cert.FinKernel.nD Cert.FinKernel.τ Cert.FinKernel.sig) → Buf (Elt Bits) ℓ) (g : Dev Cert.FinKernel.nD → PrngReg), Pre_FinKernel m →
    θ_run (Cert.FinKernel.defs (F := Bits)) (onTc (τ := Cert.FinKernel.τ) (Cert.FinKernel.main (F := Bits))) ⟨m, fun _ => 0, g⟩ (fun r => (∀ c : Dev Cert.FinKernel.nD,
      r.2.mem ((c.tc : Thread Cert.FinKernel.nD Cert.FinKernel.τ).loc Cert.FinKernel.main_arg0) = m ((c.tc : Thread Cert.FinKernel.nD Cert.FinKernel.τ).loc Cert.FinKernel.main_arg0)
      ∧ r.2.mem ((c.tc : Thread Cert.FinKernel.nD Cert.FinKernel.τ).loc Cert.FinKernel.main_arg1) = m ((c.tc : Thread Cert.FinKernel.nD Cert.FinKernel.τ).loc Cert.FinKernel.main_arg1)
      ∧ r.2.mem ((c.tc : Thread Cert.FinKernel.nD Cert.FinKernel.τ).loc Cert.FinKernel.main_arg2) = m ((c.tc : Thread Cert.FinKernel.nD Cert.FinKernel.τ).loc Cert.FinKernel.main_arg2)
      ∧ r.2.mem ((c.tc : Thread Cert.FinKernel.nD Cert.FinKernel.τ).loc Cert.FinKernel.main_arg3) = m ((c.tc : Thread Cert.FinKernel.nD Cert.FinKernel.τ).loc Cert.FinKernel.main_arg3))
      ∧ r.2.sem = fun _ => 0)

def quiescent_FinKernelIdeal [hFinKernelIdeal : Cert.FinKernelIdeal.Facts] : Prop :=
  ∀ (m : (ℓ : Loc Cert.FinKernelIdeal.nD Cert.FinKernelIdeal.τ Cert.FinKernelIdeal.sig) → Buf (Elt Ideal) ℓ) (g : Dev Cert.FinKernelIdeal.nD → PrngReg), Pre_FinKernelIdeal m →
    θ_run (Cert.FinKernelIdeal.defs (F := Ideal)) (onTc (τ := Cert.FinKernelIdeal.τ) (Cert.FinKernelIdeal.main (F := Ideal))) ⟨m, fun _ => 0, g⟩ (fun r => (∀ c : Dev Cert.FinKernelIdeal.nD,
      r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
      ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
      ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2)
      ∧ r.2.mem ((c.tc : Thread Cert.FinKernelIdeal.nD Cert.FinKernelIdeal.τ).loc Cert.FinKernelIdeal.main_arg3) = m ((c.tc : Thread Cert.FinKernelIdeal.nD Cert.FinKernelIdeal.τ).loc Cert.FinKernelIdeal.main_arg3))
      ∧ r.2.sem = fun _ => 0)

def quiescent_FinKernelIdeal_pre_fin_finite [hFinKernelIdeal : Cert.FinKernelIdeal.Facts] [hPre_fin_finite : Cert.Pre_fin_finite.Facts] : Prop :=
  ∀ (m : (ℓ : Loc Cert.FinKernelIdeal.nD Cert.FinKernelIdeal.τ Cert.FinKernelIdeal.sig) → Buf (Elt Ideal) ℓ) (g : Dev Cert.FinKernelIdeal.nD → PrngReg), Pre_FinKernelIdeal_fin_finite m →
    θ_run (Cert.FinKernelIdeal.defs (F := Ideal)) (onTc (τ := Cert.FinKernelIdeal.τ) (Cert.FinKernelIdeal.main (F := Ideal))) ⟨m, fun _ => 0, g⟩ (fun r => (∀ c : Dev Cert.FinKernelIdeal.nD,
      r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
      ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
      ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2)
      ∧ r.2.mem ((c.tc : Thread Cert.FinKernelIdeal.nD Cert.FinKernelIdeal.τ).loc Cert.FinKernelIdeal.main_arg3) = m ((c.tc : Thread Cert.FinKernelIdeal.nD Cert.FinKernelIdeal.τ).loc Cert.FinKernelIdeal.main_arg3))
      ∧ r.2.sem = fun _ => 0)

def quiescent_FinReferenceIdeal [hFinReferenceIdeal : Cert.FinReferenceIdeal.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1)
      ∧ r.2.mem ((c.tc : Thread Cert.FinReferenceIdeal.nD Cert.FinReferenceIdeal.τ).loc Cert.FinReferenceIdeal.main_arg2) = m ((c.tc : Thread Cert.FinReferenceIdeal.nD Cert.FinReferenceIdeal.τ).loc Cert.FinReferenceIdeal.main_arg2)
      ∧ r.2.mem ((c.tc : Thread Cert.FinReferenceIdeal.nD Cert.FinReferenceIdeal.τ).loc Cert.FinReferenceIdeal.main_arg3) = m ((c.tc : Thread Cert.FinReferenceIdeal.nD Cert.FinReferenceIdeal.τ).loc Cert.FinReferenceIdeal.main_arg3))
      ∧ r.2.sem = fun _ => 0)

def quiescent_FinReferenceIdeal_pre_fin_finite [hFinReferenceIdeal : Cert.FinReferenceIdeal.Facts] [hPre_fin_finite : Cert.Pre_fin_finite.Facts] : Prop :=
  ∀ (m : (ℓ : Loc Cert.FinReferenceIdeal.nD Cert.FinReferenceIdeal.τ Cert.FinReferenceIdeal.sig) → Buf (Elt Ideal) ℓ) (g : Dev Cert.FinReferenceIdeal.nD → PrngReg), Pre_FinReferenceIdeal_fin_finite m →
    θ_run (Cert.FinReferenceIdeal.defs (F := Ideal)) (onTc (τ := Cert.FinReferenceIdeal.τ) (Cert.FinReferenceIdeal.main (F := Ideal))) ⟨m, fun _ => 0, g⟩ (fun r => (∀ c : Dev Cert.FinReferenceIdeal.nD,
      r.2.mem ((c.tc : Thread Cert.FinReferenceIdeal.nD Cert.FinReferenceIdeal.τ).loc Cert.FinReferenceIdeal.main_arg0) = m ((c.tc : Thread Cert.FinReferenceIdeal.nD Cert.FinReferenceIdeal.τ).loc Cert.FinReferenceIdeal.main_arg0)
      ∧ r.2.mem ((c.tc : Thread Cert.FinReferenceIdeal.nD Cert.FinReferenceIdeal.τ).loc Cert.FinReferenceIdeal.main_arg1) = m ((c.tc : Thread Cert.FinReferenceIdeal.nD Cert.FinReferenceIdeal.τ).loc Cert.FinReferenceIdeal.main_arg1)
      ∧ r.2.mem ((c.tc : Thread Cert.FinReferenceIdeal.nD Cert.FinReferenceIdeal.τ).loc Cert.FinReferenceIdeal.main_arg2) = m ((c.tc : Thread Cert.FinReferenceIdeal.nD Cert.FinReferenceIdeal.τ).loc Cert.FinReferenceIdeal.main_arg2)
      ∧ r.2.mem ((c.tc : Thread Cert.FinReferenceIdeal.nD Cert.FinReferenceIdeal.τ).loc Cert.FinReferenceIdeal.main_arg3) = m ((c.tc : Thread Cert.FinReferenceIdeal.nD Cert.FinReferenceIdeal.τ).loc Cert.FinReferenceIdeal.main_arg3))
      ∧ r.2.sem = fun _ => 0)

def quiescent_HgbKernel [hHgbKernel : Cert.HgbKernel.Facts] : Prop :=
  ∀ (m : (ℓ : Loc Cert.HgbKernel.nD Cert.HgbKernel.τ Cert.HgbKernel.sig) → Buf (Elt Bits) ℓ) (g : Dev Cert.HgbKernel.nD → PrngReg), Pre_HgbKernel m →
    θ_run (Cert.HgbKernel.defs (F := Bits)) (onTc (τ := Cert.HgbKernel.τ) (Cert.HgbKernel.main (F := Bits))) ⟨m, fun _ => 0, g⟩ (fun r => (∀ c : Dev Cert.HgbKernel.nD,
      r.2.mem ((c.tc : Thread Cert.HgbKernel.nD Cert.HgbKernel.τ).loc Cert.HgbKernel.main_arg0) = m ((c.tc : Thread Cert.HgbKernel.nD Cert.HgbKernel.τ).loc Cert.HgbKernel.main_arg0)
      ∧ r.2.mem ((c.tc : Thread Cert.HgbKernel.nD Cert.HgbKernel.τ).loc Cert.HgbKernel.main_arg1) = m ((c.tc : Thread Cert.HgbKernel.nD Cert.HgbKernel.τ).loc Cert.HgbKernel.main_arg1)
      ∧ r.2.mem ((c.tc : Thread Cert.HgbKernel.nD Cert.HgbKernel.τ).loc Cert.HgbKernel.main_arg2) = m ((c.tc : Thread Cert.HgbKernel.nD Cert.HgbKernel.τ).loc Cert.HgbKernel.main_arg2)
      ∧ r.2.mem ((c.tc : Thread Cert.HgbKernel.nD Cert.HgbKernel.τ).loc Cert.HgbKernel.main_arg3) = m ((c.tc : Thread Cert.HgbKernel.nD Cert.HgbKernel.τ).loc Cert.HgbKernel.main_arg3)
      ∧ r.2.mem ((c.tc : Thread Cert.HgbKernel.nD Cert.HgbKernel.τ).loc Cert.HgbKernel.main_arg4) = m ((c.tc : Thread Cert.HgbKernel.nD Cert.HgbKernel.τ).loc Cert.HgbKernel.main_arg4)
      ∧ r.2.mem ((c.tc : Thread Cert.HgbKernel.nD Cert.HgbKernel.τ).loc Cert.HgbKernel.main_arg5) = m ((c.tc : Thread Cert.HgbKernel.nD Cert.HgbKernel.τ).loc Cert.HgbKernel.main_arg5)
      ∧ r.2.mem ((c.tc : Thread Cert.HgbKernel.nD Cert.HgbKernel.τ).loc Cert.HgbKernel.main_arg6) = m ((c.tc : Thread Cert.HgbKernel.nD Cert.HgbKernel.τ).loc Cert.HgbKernel.main_arg6)
      ∧ r.2.mem ((c.tc : Thread Cert.HgbKernel.nD Cert.HgbKernel.τ).loc Cert.HgbKernel.main_arg7) = m ((c.tc : Thread Cert.HgbKernel.nD Cert.HgbKernel.τ).loc Cert.HgbKernel.main_arg7))
      ∧ r.2.sem = fun _ => 0)

def quiescent_HgbKernelIdeal [hHgbKernelIdeal : Cert.HgbKernelIdeal.Facts] : Prop :=
  ∀ (m : (ℓ : Loc Cert.HgbKernelIdeal.nD Cert.HgbKernelIdeal.τ Cert.HgbKernelIdeal.sig) → Buf (Elt Ideal) ℓ) (g : Dev Cert.HgbKernelIdeal.nD → PrngReg), Pre_HgbKernelIdeal m →
    θ_run (Cert.HgbKernelIdeal.defs (F := Ideal)) (onTc (τ := Cert.HgbKernelIdeal.τ) (Cert.HgbKernelIdeal.main (F := Ideal))) ⟨m, fun _ => 0, g⟩ (fun r => (∀ c : Dev Cert.HgbKernelIdeal.nD,
      r.2.mem ((c.tc : Thread Cert.HgbKernelIdeal.nD Cert.HgbKernelIdeal.τ).loc Cert.HgbKernelIdeal.main_arg0) = m ((c.tc : Thread Cert.HgbKernelIdeal.nD Cert.HgbKernelIdeal.τ).loc Cert.HgbKernelIdeal.main_arg0)
      ∧ r.2.mem ((c.tc : Thread Cert.HgbKernelIdeal.nD Cert.HgbKernelIdeal.τ).loc Cert.HgbKernelIdeal.main_arg1) = m ((c.tc : Thread Cert.HgbKernelIdeal.nD Cert.HgbKernelIdeal.τ).loc Cert.HgbKernelIdeal.main_arg1)
      ∧ r.2.mem ((c.tc : Thread Cert.HgbKernelIdeal.nD Cert.HgbKernelIdeal.τ).loc Cert.HgbKernelIdeal.main_arg2) = m ((c.tc : Thread Cert.HgbKernelIdeal.nD Cert.HgbKernelIdeal.τ).loc Cert.HgbKernelIdeal.main_arg2)
      ∧ r.2.mem ((c.tc : Thread Cert.HgbKernelIdeal.nD Cert.HgbKernelIdeal.τ).loc Cert.HgbKernelIdeal.main_arg3) = m ((c.tc : Thread Cert.HgbKernelIdeal.nD Cert.HgbKernelIdeal.τ).loc Cert.HgbKernelIdeal.main_arg3)
      ∧ r.2.mem ((c.tc : Thread Cert.HgbKernelIdeal.nD Cert.HgbKernelIdeal.τ).loc Cert.HgbKernelIdeal.main_arg4) = m ((c.tc : Thread Cert.HgbKernelIdeal.nD Cert.HgbKernelIdeal.τ).loc Cert.HgbKernelIdeal.main_arg4)
      ∧ r.2.mem ((c.tc : Thread Cert.HgbKernelIdeal.nD Cert.HgbKernelIdeal.τ).loc Cert.HgbKernelIdeal.main_arg5) = m ((c.tc : Thread Cert.HgbKernelIdeal.nD Cert.HgbKernelIdeal.τ).loc Cert.HgbKernelIdeal.main_arg5)
      ∧ r.2.mem ((c.tc : Thread Cert.HgbKernelIdeal.nD Cert.HgbKernelIdeal.τ).loc Cert.HgbKernelIdeal.main_arg6) = m ((c.tc : Thread Cert.HgbKernelIdeal.nD Cert.HgbKernelIdeal.τ).loc Cert.HgbKernelIdeal.main_arg6)
      ∧ r.2.mem ((c.tc : Thread Cert.HgbKernelIdeal.nD Cert.HgbKernelIdeal.τ).loc Cert.HgbKernelIdeal.main_arg7) = m ((c.tc : Thread Cert.HgbKernelIdeal.nD Cert.HgbKernelIdeal.τ).loc Cert.HgbKernelIdeal.main_arg7))
      ∧ r.2.sem = fun _ => 0)

def quiescent_HgfKernel [hHgfKernel : Cert.HgfKernel.Facts] : Prop :=
  ∀ (m : (ℓ : Loc Cert.HgfKernel.nD Cert.HgfKernel.τ Cert.HgfKernel.sig) → Buf (Elt Bits) ℓ) (g : Dev Cert.HgfKernel.nD → PrngReg), Pre_HgfKernel m →
    θ_run (Cert.HgfKernel.defs (F := Bits)) (onTc (τ := Cert.HgfKernel.τ) (Cert.HgfKernel.main (F := Bits))) ⟨m, fun _ => 0, g⟩ (fun r => (∀ c : Dev Cert.HgfKernel.nD,
      r.2.mem ((c.tc : Thread Cert.HgfKernel.nD Cert.HgfKernel.τ).loc Cert.HgfKernel.main_arg0) = m ((c.tc : Thread Cert.HgfKernel.nD Cert.HgfKernel.τ).loc Cert.HgfKernel.main_arg0)
      ∧ r.2.mem ((c.tc : Thread Cert.HgfKernel.nD Cert.HgfKernel.τ).loc Cert.HgfKernel.main_arg1) = m ((c.tc : Thread Cert.HgfKernel.nD Cert.HgfKernel.τ).loc Cert.HgfKernel.main_arg1)
      ∧ r.2.mem ((c.tc : Thread Cert.HgfKernel.nD Cert.HgfKernel.τ).loc Cert.HgfKernel.main_arg2) = m ((c.tc : Thread Cert.HgfKernel.nD Cert.HgfKernel.τ).loc Cert.HgfKernel.main_arg2)
      ∧ r.2.mem ((c.tc : Thread Cert.HgfKernel.nD Cert.HgfKernel.τ).loc Cert.HgfKernel.main_arg3) = m ((c.tc : Thread Cert.HgfKernel.nD Cert.HgfKernel.τ).loc Cert.HgfKernel.main_arg3))
      ∧ r.2.sem = fun _ => 0)

def quiescent_HgfKernelIdeal [hHgfKernelIdeal : Cert.HgfKernelIdeal.Facts] : Prop :=
  ∀ (m : (ℓ : Loc Cert.HgfKernelIdeal.nD Cert.HgfKernelIdeal.τ Cert.HgfKernelIdeal.sig) → Buf (Elt Ideal) ℓ) (g : Dev Cert.HgfKernelIdeal.nD → PrngReg), Pre_HgfKernelIdeal m →
    θ_run (Cert.HgfKernelIdeal.defs (F := Ideal)) (onTc (τ := Cert.HgfKernelIdeal.τ) (Cert.HgfKernelIdeal.main (F := Ideal))) ⟨m, fun _ => 0, g⟩ (fun r => (∀ c : Dev Cert.HgfKernelIdeal.nD,
      r.2.mem ((c.tc : Thread Cert.HgfKernelIdeal.nD Cert.HgfKernelIdeal.τ).loc Cert.HgfKernelIdeal.main_arg0) = m ((c.tc : Thread Cert.HgfKernelIdeal.nD Cert.HgfKernelIdeal.τ).loc Cert.HgfKernelIdeal.main_arg0)
      ∧ r.2.mem ((c.tc : Thread Cert.HgfKernelIdeal.nD Cert.HgfKernelIdeal.τ).loc Cert.HgfKernelIdeal.main_arg1) = m ((c.tc : Thread Cert.HgfKernelIdeal.nD Cert.HgfKernelIdeal.τ).loc Cert.HgfKernelIdeal.main_arg1)
      ∧ r.2.mem ((c.tc : Thread Cert.HgfKernelIdeal.nD Cert.HgfKernelIdeal.τ).loc Cert.HgfKernelIdeal.main_arg2) = m ((c.tc : Thread Cert.HgfKernelIdeal.nD Cert.HgfKernelIdeal.τ).loc Cert.HgfKernelIdeal.main_arg2)
      ∧ r.2.mem ((c.tc : Thread Cert.HgfKernelIdeal.nD Cert.HgfKernelIdeal.τ).loc Cert.HgfKernelIdeal.main_arg3) = m ((c.tc : Thread Cert.HgfKernelIdeal.nD Cert.HgfKernelIdeal.τ).loc Cert.HgfKernelIdeal.main_arg3))
      ∧ r.2.sem = fun _ => 0)

def quiescent_DwoKernel [hDwoKernel : Cert.DwoKernel.Facts] : Prop :=
  ∀ (m : (ℓ : Loc Cert.DwoKernel.nD Cert.DwoKernel.τ Cert.DwoKernel.sig) → Buf (Elt Bits) ℓ) (g : Dev Cert.DwoKernel.nD → PrngReg), Pre_DwoKernel m →
    θ_run (Cert.DwoKernel.defs (F := Bits)) (onTc (τ := Cert.DwoKernel.τ) (Cert.DwoKernel.main (F := Bits))) ⟨m, fun _ => 0, g⟩ (fun r => (∀ c : Dev Cert.DwoKernel.nD,
      r.2.mem ((c.tc : Thread Cert.DwoKernel.nD Cert.DwoKernel.τ).loc Cert.DwoKernel.main_arg0) = m ((c.tc : Thread Cert.DwoKernel.nD Cert.DwoKernel.τ).loc Cert.DwoKernel.main_arg0)
      ∧ r.2.mem ((c.tc : Thread Cert.DwoKernel.nD Cert.DwoKernel.τ).loc Cert.DwoKernel.main_arg1) = m ((c.tc : Thread Cert.DwoKernel.nD Cert.DwoKernel.τ).loc Cert.DwoKernel.main_arg1)
      ∧ r.2.mem ((c.tc : Thread Cert.DwoKernel.nD Cert.DwoKernel.τ).loc Cert.DwoKernel.main_arg2) = m ((c.tc : Thread Cert.DwoKernel.nD Cert.DwoKernel.τ).loc Cert.DwoKernel.main_arg2))
      ∧ r.2.sem = fun _ => 0)

def quiescent_DwoKernelIdeal [hDwoKernelIdeal : Cert.DwoKernelIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg), Pre_DwoKernelIdeal m →
    θ_run (Cert.DwoKernelIdeal.defs (F := Ideal)) (onTc (τ := Cert.DwoKernelIdeal.τ) (Cert.DwoKernelIdeal.main (F := Ideal))) ⟨m, fun _ => 0, g⟩ (fun r => (∀ c : Dev Cert.DwoKernelIdeal.nD,
      r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
      ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1)
      ∧ r.2.mem ((c.tc : Thread Cert.DwoKernelIdeal.nD Cert.DwoKernelIdeal.τ).loc Cert.DwoKernelIdeal.main_arg2) = m ((c.tc : Thread Cert.DwoKernelIdeal.nD Cert.DwoKernelIdeal.τ).loc Cert.DwoKernelIdeal.main_arg2))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1)
      ∧ r.2.mem ((c.tc : Thread Cert.DwoReferenceIdeal.nD Cert.DwoReferenceIdeal.τ).loc Cert.DwoReferenceIdeal.main_arg2) = m ((c.tc : Thread Cert.DwoReferenceIdeal.nD Cert.DwoReferenceIdeal.τ).loc Cert.DwoReferenceIdeal.main_arg2))
      ∧ r.2.sem = fun _ => 0)

def quiescent_DwiKernel [hDwiKernel : Cert.DwiKernel.Facts] : Prop :=
  ∀ (m : (ℓ : Loc Cert.DwiKernel.nD Cert.DwiKernel.τ Cert.DwiKernel.sig) → Buf (Elt Bits) ℓ) (g : Dev Cert.DwiKernel.nD → PrngReg), Pre_DwiKernel m →
    θ_run (Cert.DwiKernel.defs (F := Bits)) (onTc (τ := Cert.DwiKernel.τ) (Cert.DwiKernel.main (F := Bits))) ⟨m, fun _ => 0, g⟩ (fun r => (∀ c : Dev Cert.DwiKernel.nD,
      r.2.mem ((c.tc : Thread Cert.DwiKernel.nD Cert.DwiKernel.τ).loc Cert.DwiKernel.main_arg0) = m ((c.tc : Thread Cert.DwiKernel.nD Cert.DwiKernel.τ).loc Cert.DwiKernel.main_arg0)
      ∧ r.2.mem ((c.tc : Thread Cert.DwiKernel.nD Cert.DwiKernel.τ).loc Cert.DwiKernel.main_arg1) = m ((c.tc : Thread Cert.DwiKernel.nD Cert.DwiKernel.τ).loc Cert.DwiKernel.main_arg1)
      ∧ r.2.mem ((c.tc : Thread Cert.DwiKernel.nD Cert.DwiKernel.τ).loc Cert.DwiKernel.main_arg2) = m ((c.tc : Thread Cert.DwiKernel.nD Cert.DwiKernel.τ).loc Cert.DwiKernel.main_arg2)
      ∧ r.2.mem ((c.tc : Thread Cert.DwiKernel.nD Cert.DwiKernel.τ).loc Cert.DwiKernel.main_arg3) = m ((c.tc : Thread Cert.DwiKernel.nD Cert.DwiKernel.τ).loc Cert.DwiKernel.main_arg3))
      ∧ r.2.sem = fun _ => 0)

def quiescent_DwiKernelIdeal [hDwiKernelIdeal : Cert.DwiKernelIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg), Pre_DwiKernelIdeal m →
    θ_run (Cert.DwiKernelIdeal.defs (F := Ideal)) (onTc (τ := Cert.DwiKernelIdeal.τ) (Cert.DwiKernelIdeal.main (F := Ideal))) ⟨m, fun _ => 0, g⟩ (fun r => (∀ c : Dev Cert.DwiKernelIdeal.nD,
      r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
      ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1)
      ∧ r.2.mem ((c.tc : Thread Cert.DwiKernelIdeal.nD Cert.DwiKernelIdeal.τ).loc Cert.DwiKernelIdeal.main_arg2) = m ((c.tc : Thread Cert.DwiKernelIdeal.nD Cert.DwiKernelIdeal.τ).loc Cert.DwiKernelIdeal.main_arg2)
      ∧ r.2.mem ((c.tc : Thread Cert.DwiKernelIdeal.nD Cert.DwiKernelIdeal.τ).loc Cert.DwiKernelIdeal.main_arg3) = m ((c.tc : Thread Cert.DwiKernelIdeal.nD Cert.DwiKernelIdeal.τ).loc Cert.DwiKernelIdeal.main_arg3))
      ∧ r.2.sem = fun _ => 0)

def quiescent_DwiReferenceIdeal [hDwiReferenceIdeal : Cert.DwiReferenceIdeal.Facts] : Prop :=
  ∀ (m : (ℓ : Loc Cert.DwiReferenceIdeal.nD Cert.DwiReferenceIdeal.τ Cert.DwiReferenceIdeal.sig) → Buf (Elt Ideal) ℓ) (g : Dev Cert.DwiReferenceIdeal.nD → PrngReg), Pre_DwiReferenceIdeal m →
    θ_run (Cert.DwiReferenceIdeal.defs (F := Ideal)) (onTc (τ := Cert.DwiReferenceIdeal.τ) (Cert.DwiReferenceIdeal.main (F := Ideal))) ⟨m, fun _ => 0, g⟩ (fun r => (∀ c : Dev Cert.DwiReferenceIdeal.nD,
      r.2.mem ((c.tc : Thread Cert.DwiReferenceIdeal.nD Cert.DwiReferenceIdeal.τ).loc Cert.DwiReferenceIdeal.main_arg0) = m ((c.tc : Thread Cert.DwiReferenceIdeal.nD Cert.DwiReferenceIdeal.τ).loc Cert.DwiReferenceIdeal.main_arg0)
      ∧ r.2.mem ((c.tc : Thread Cert.DwiReferenceIdeal.nD Cert.DwiReferenceIdeal.τ).loc Cert.DwiReferenceIdeal.main_arg1) = m ((c.tc : Thread Cert.DwiReferenceIdeal.nD Cert.DwiReferenceIdeal.τ).loc Cert.DwiReferenceIdeal.main_arg1)
      ∧ r.2.mem ((c.tc : Thread Cert.DwiReferenceIdeal.nD Cert.DwiReferenceIdeal.τ).loc Cert.DwiReferenceIdeal.main_arg2) = m ((c.tc : Thread Cert.DwiReferenceIdeal.nD Cert.DwiReferenceIdeal.τ).loc Cert.DwiReferenceIdeal.main_arg2)
      ∧ r.2.mem ((c.tc : Thread Cert.DwiReferenceIdeal.nD Cert.DwiReferenceIdeal.τ).loc Cert.DwiReferenceIdeal.main_arg3) = m ((c.tc : Thread Cert.DwiReferenceIdeal.nD Cert.DwiReferenceIdeal.τ).loc Cert.DwiReferenceIdeal.main_arg3))
      ∧ r.2.sem = fun _ => 0)

def quiescent_SohKernel [hSohKernel : Cert.SohKernel.Facts] : Prop :=
  ∀ (m : (ℓ : Loc Cert.SohKernel.nD Cert.SohKernel.τ Cert.SohKernel.sig) → Buf (Elt Bits) ℓ) (g : Dev Cert.SohKernel.nD → PrngReg), Pre_SohKernel m →
    θ_run (Cert.SohKernel.defs (F := Bits)) (onTc (τ := Cert.SohKernel.τ) (Cert.SohKernel.main (F := Bits))) ⟨m, fun _ => 0, g⟩ (fun r => (∀ c : Dev Cert.SohKernel.nD,
      r.2.mem ((c.tc : Thread Cert.SohKernel.nD Cert.SohKernel.τ).loc Cert.SohKernel.main_arg0) = m ((c.tc : Thread Cert.SohKernel.nD Cert.SohKernel.τ).loc Cert.SohKernel.main_arg0)
      ∧ r.2.mem ((c.tc : Thread Cert.SohKernel.nD Cert.SohKernel.τ).loc Cert.SohKernel.main_arg1) = m ((c.tc : Thread Cert.SohKernel.nD Cert.SohKernel.τ).loc Cert.SohKernel.main_arg1))
      ∧ r.2.sem = fun _ => 0)

def quiescent_SohKernelIdeal [hSohKernelIdeal : Cert.SohKernelIdeal.Facts] : Prop :=
  ∀ (m : (ℓ : Loc Cert.SohKernelIdeal.nD Cert.SohKernelIdeal.τ Cert.SohKernelIdeal.sig) → Buf (Elt Ideal) ℓ) (g : Dev Cert.SohKernelIdeal.nD → PrngReg), Pre_SohKernelIdeal m →
    θ_run (Cert.SohKernelIdeal.defs (F := Ideal)) (onTc (τ := Cert.SohKernelIdeal.τ) (Cert.SohKernelIdeal.main (F := Ideal))) ⟨m, fun _ => 0, g⟩ (fun r => (∀ c : Dev Cert.SohKernelIdeal.nD,
      r.2.mem ((c.tc : Thread Cert.SohKernelIdeal.nD Cert.SohKernelIdeal.τ).loc Cert.SohKernelIdeal.main_arg0) = m ((c.tc : Thread Cert.SohKernelIdeal.nD Cert.SohKernelIdeal.τ).loc Cert.SohKernelIdeal.main_arg0)
      ∧ r.2.mem ((c.tc : Thread Cert.SohKernelIdeal.nD Cert.SohKernelIdeal.τ).loc Cert.SohKernelIdeal.main_arg1) = m ((c.tc : Thread Cert.SohKernelIdeal.nD Cert.SohKernelIdeal.τ).loc Cert.SohKernelIdeal.main_arg1))
      ∧ r.2.sem = fun _ => 0)

def quiescent_SohReferenceIdeal [hSohReferenceIdeal : Cert.SohReferenceIdeal.Facts] : Prop :=
  ∀ (m : (ℓ : Loc Cert.SohReferenceIdeal.nD Cert.SohReferenceIdeal.τ Cert.SohReferenceIdeal.sig) → Buf (Elt Ideal) ℓ) (g : Dev Cert.SohReferenceIdeal.nD → PrngReg), Pre_SohReferenceIdeal m →
    θ_run (Cert.SohReferenceIdeal.defs (F := Ideal)) (onTc (τ := Cert.SohReferenceIdeal.τ) (Cert.SohReferenceIdeal.main (F := Ideal))) ⟨m, fun _ => 0, g⟩ (fun r => (∀ c : Dev Cert.SohReferenceIdeal.nD,
      r.2.mem ((c.tc : Thread Cert.SohReferenceIdeal.nD Cert.SohReferenceIdeal.τ).loc Cert.SohReferenceIdeal.main_arg0) = m ((c.tc : Thread Cert.SohReferenceIdeal.nD Cert.SohReferenceIdeal.τ).loc Cert.SohReferenceIdeal.main_arg0)
      ∧ r.2.mem ((c.tc : Thread Cert.SohReferenceIdeal.nD Cert.SohReferenceIdeal.τ).loc Cert.SohReferenceIdeal.main_arg1) = m ((c.tc : Thread Cert.SohReferenceIdeal.nD Cert.SohReferenceIdeal.τ).loc Cert.SohReferenceIdeal.main_arg1))
      ∧ r.2.sem = fun _ => 0)

def quiescent_SohReference [hSohReference : Cert.SohReference.Facts] : Prop :=
  ∀ (m : (ℓ : Loc Cert.SohReference.nD Cert.SohReference.τ Cert.SohReference.sig) → Buf (Elt Bits) ℓ) (g : Dev Cert.SohReference.nD → PrngReg), Pre_SohReference m →
    θ_run (Cert.SohReference.defs (F := Bits)) (onTc (τ := Cert.SohReference.τ) (Cert.SohReference.main (F := Bits))) ⟨m, fun _ => 0, g⟩ (fun r => (∀ c : Dev Cert.SohReference.nD,
      r.2.mem ((c.tc : Thread Cert.SohReference.nD Cert.SohReference.τ).loc Cert.SohReference.main_arg0) = m ((c.tc : Thread Cert.SohReference.nD Cert.SohReference.τ).loc Cert.SohReference.main_arg0)
      ∧ r.2.mem ((c.tc : Thread Cert.SohReference.nD Cert.SohReference.τ).loc Cert.SohReference.main_arg1) = m ((c.tc : Thread Cert.SohReference.nD Cert.SohReference.τ).loc Cert.SohReference.main_arg1))
      ∧ r.2.sem = fun _ => 0)

def quiescent_SooKernel [hSooKernel : Cert.SooKernel.Facts] : Prop :=
  ∀ (m : (ℓ : Loc Cert.SooKernel.nD Cert.SooKernel.τ Cert.SooKernel.sig) → Buf (Elt Bits) ℓ) (g : Dev Cert.SooKernel.nD → PrngReg), Pre_SooKernel m →
    θ_run (Cert.SooKernel.defs (F := Bits)) (onTc (τ := Cert.SooKernel.τ) (Cert.SooKernel.main (F := Bits))) ⟨m, fun _ => 0, g⟩ (fun r => (∀ c : Dev Cert.SooKernel.nD,
      r.2.mem ((c.tc : Thread Cert.SooKernel.nD Cert.SooKernel.τ).loc Cert.SooKernel.main_arg0) = m ((c.tc : Thread Cert.SooKernel.nD Cert.SooKernel.τ).loc Cert.SooKernel.main_arg0)
      ∧ r.2.mem ((c.tc : Thread Cert.SooKernel.nD Cert.SooKernel.τ).loc Cert.SooKernel.main_arg1) = m ((c.tc : Thread Cert.SooKernel.nD Cert.SooKernel.τ).loc Cert.SooKernel.main_arg1))
      ∧ r.2.sem = fun _ => 0)

def quiescent_SooKernelIdeal [hSooKernelIdeal : Cert.SooKernelIdeal.Facts] : Prop :=
  ∀ (m : (ℓ : Loc Cert.SooKernelIdeal.nD Cert.SooKernelIdeal.τ Cert.SooKernelIdeal.sig) → Buf (Elt Ideal) ℓ) (g : Dev Cert.SooKernelIdeal.nD → PrngReg), Pre_SooKernelIdeal m →
    θ_run (Cert.SooKernelIdeal.defs (F := Ideal)) (onTc (τ := Cert.SooKernelIdeal.τ) (Cert.SooKernelIdeal.main (F := Ideal))) ⟨m, fun _ => 0, g⟩ (fun r => (∀ c : Dev Cert.SooKernelIdeal.nD,
      r.2.mem ((c.tc : Thread Cert.SooKernelIdeal.nD Cert.SooKernelIdeal.τ).loc Cert.SooKernelIdeal.main_arg0) = m ((c.tc : Thread Cert.SooKernelIdeal.nD Cert.SooKernelIdeal.τ).loc Cert.SooKernelIdeal.main_arg0)
      ∧ r.2.mem ((c.tc : Thread Cert.SooKernelIdeal.nD Cert.SooKernelIdeal.τ).loc Cert.SooKernelIdeal.main_arg1) = m ((c.tc : Thread Cert.SooKernelIdeal.nD Cert.SooKernelIdeal.τ).loc Cert.SooKernelIdeal.main_arg1))
      ∧ r.2.sem = fun _ => 0)

def quiescent_SooReferenceIdeal [hSooReferenceIdeal : Cert.SooReferenceIdeal.Facts] : Prop :=
  ∀ (m : (ℓ : Loc Cert.SooReferenceIdeal.nD Cert.SooReferenceIdeal.τ Cert.SooReferenceIdeal.sig) → Buf (Elt Ideal) ℓ) (g : Dev Cert.SooReferenceIdeal.nD → PrngReg), Pre_SooReferenceIdeal m →
    θ_run (Cert.SooReferenceIdeal.defs (F := Ideal)) (onTc (τ := Cert.SooReferenceIdeal.τ) (Cert.SooReferenceIdeal.main (F := Ideal))) ⟨m, fun _ => 0, g⟩ (fun r => (∀ c : Dev Cert.SooReferenceIdeal.nD,
      r.2.mem ((c.tc : Thread Cert.SooReferenceIdeal.nD Cert.SooReferenceIdeal.τ).loc Cert.SooReferenceIdeal.main_arg0) = m ((c.tc : Thread Cert.SooReferenceIdeal.nD Cert.SooReferenceIdeal.τ).loc Cert.SooReferenceIdeal.main_arg0)
      ∧ r.2.mem ((c.tc : Thread Cert.SooReferenceIdeal.nD Cert.SooReferenceIdeal.τ).loc Cert.SooReferenceIdeal.main_arg1) = m ((c.tc : Thread Cert.SooReferenceIdeal.nD Cert.SooReferenceIdeal.τ).loc Cert.SooReferenceIdeal.main_arg1))
      ∧ r.2.sem = fun _ => 0)

def quiescent_SooReference [hSooReference : Cert.SooReference.Facts] : Prop :=
  ∀ (m : (ℓ : Loc Cert.SooReference.nD Cert.SooReference.τ Cert.SooReference.sig) → Buf (Elt Bits) ℓ) (g : Dev Cert.SooReference.nD → PrngReg), Pre_SooReference m →
    θ_run (Cert.SooReference.defs (F := Bits)) (onTc (τ := Cert.SooReference.τ) (Cert.SooReference.main (F := Bits))) ⟨m, fun _ => 0, g⟩ (fun r => (∀ c : Dev Cert.SooReference.nD,
      r.2.mem ((c.tc : Thread Cert.SooReference.nD Cert.SooReference.τ).loc Cert.SooReference.main_arg0) = m ((c.tc : Thread Cert.SooReference.nD Cert.SooReference.τ).loc Cert.SooReference.main_arg0)
      ∧ r.2.mem ((c.tc : Thread Cert.SooReference.nD Cert.SooReference.τ).loc Cert.SooReference.main_arg1) = m ((c.tc : Thread Cert.SooReference.nD Cert.SooReference.τ).loc Cert.SooReference.main_arg1))
      ∧ r.2.sem = fun _ => 0)

def quiescent_SogKernel [hSogKernel : Cert.SogKernel.Facts] : Prop :=
  ∀ (m : (ℓ : Loc Cert.SogKernel.nD Cert.SogKernel.τ Cert.SogKernel.sig) → Buf (Elt Bits) ℓ) (g : Dev Cert.SogKernel.nD → PrngReg), Pre_SogKernel m →
    θ_run (Cert.SogKernel.defs (F := Bits)) (onTc (τ := Cert.SogKernel.τ) (Cert.SogKernel.main (F := Bits))) ⟨m, fun _ => 0, g⟩ (fun r => (∀ c : Dev Cert.SogKernel.nD,
      r.2.mem ((c.tc : Thread Cert.SogKernel.nD Cert.SogKernel.τ).loc Cert.SogKernel.main_arg0) = m ((c.tc : Thread Cert.SogKernel.nD Cert.SogKernel.τ).loc Cert.SogKernel.main_arg0)
      ∧ r.2.mem ((c.tc : Thread Cert.SogKernel.nD Cert.SogKernel.τ).loc Cert.SogKernel.main_arg1) = m ((c.tc : Thread Cert.SogKernel.nD Cert.SogKernel.τ).loc Cert.SogKernel.main_arg1))
      ∧ r.2.sem = fun _ => 0)

def quiescent_SogKernelIdeal [hSogKernelIdeal : Cert.SogKernelIdeal.Facts] : Prop :=
  ∀ (m : (ℓ : Loc Cert.SogKernelIdeal.nD Cert.SogKernelIdeal.τ Cert.SogKernelIdeal.sig) → Buf (Elt Ideal) ℓ) (g : Dev Cert.SogKernelIdeal.nD → PrngReg), Pre_SogKernelIdeal m →
    θ_run (Cert.SogKernelIdeal.defs (F := Ideal)) (onTc (τ := Cert.SogKernelIdeal.τ) (Cert.SogKernelIdeal.main (F := Ideal))) ⟨m, fun _ => 0, g⟩ (fun r => (∀ c : Dev Cert.SogKernelIdeal.nD,
      r.2.mem ((c.tc : Thread Cert.SogKernelIdeal.nD Cert.SogKernelIdeal.τ).loc Cert.SogKernelIdeal.main_arg0) = m ((c.tc : Thread Cert.SogKernelIdeal.nD Cert.SogKernelIdeal.τ).loc Cert.SogKernelIdeal.main_arg0)
      ∧ r.2.mem ((c.tc : Thread Cert.SogKernelIdeal.nD Cert.SogKernelIdeal.τ).loc Cert.SogKernelIdeal.main_arg1) = m ((c.tc : Thread Cert.SogKernelIdeal.nD Cert.SogKernelIdeal.τ).loc Cert.SogKernelIdeal.main_arg1))
      ∧ r.2.sem = fun _ => 0)

def quiescent_SogReferenceIdeal [hSogReferenceIdeal : Cert.SogReferenceIdeal.Facts] : Prop :=
  ∀ (m : (ℓ : Loc Cert.SogReferenceIdeal.nD Cert.SogReferenceIdeal.τ Cert.SogReferenceIdeal.sig) → Buf (Elt Ideal) ℓ) (g : Dev Cert.SogReferenceIdeal.nD → PrngReg), Pre_SogReferenceIdeal m →
    θ_run (Cert.SogReferenceIdeal.defs (F := Ideal)) (onTc (τ := Cert.SogReferenceIdeal.τ) (Cert.SogReferenceIdeal.main (F := Ideal))) ⟨m, fun _ => 0, g⟩ (fun r => (∀ c : Dev Cert.SogReferenceIdeal.nD,
      r.2.mem ((c.tc : Thread Cert.SogReferenceIdeal.nD Cert.SogReferenceIdeal.τ).loc Cert.SogReferenceIdeal.main_arg0) = m ((c.tc : Thread Cert.SogReferenceIdeal.nD Cert.SogReferenceIdeal.τ).loc Cert.SogReferenceIdeal.main_arg0)
      ∧ r.2.mem ((c.tc : Thread Cert.SogReferenceIdeal.nD Cert.SogReferenceIdeal.τ).loc Cert.SogReferenceIdeal.main_arg1) = m ((c.tc : Thread Cert.SogReferenceIdeal.nD Cert.SogReferenceIdeal.τ).loc Cert.SogReferenceIdeal.main_arg1))
      ∧ r.2.sem = fun _ => 0)

def quiescent_SogReference [hSogReference : Cert.SogReference.Facts] : Prop :=
  ∀ (m : (ℓ : Loc Cert.SogReference.nD Cert.SogReference.τ Cert.SogReference.sig) → Buf (Elt Bits) ℓ) (g : Dev Cert.SogReference.nD → PrngReg), Pre_SogReference m →
    θ_run (Cert.SogReference.defs (F := Bits)) (onTc (τ := Cert.SogReference.τ) (Cert.SogReference.main (F := Bits))) ⟨m, fun _ => 0, g⟩ (fun r => (∀ c : Dev Cert.SogReference.nD,
      r.2.mem ((c.tc : Thread Cert.SogReference.nD Cert.SogReference.τ).loc Cert.SogReference.main_arg0) = m ((c.tc : Thread Cert.SogReference.nD Cert.SogReference.τ).loc Cert.SogReference.main_arg0)
      ∧ r.2.mem ((c.tc : Thread Cert.SogReference.nD Cert.SogReference.τ).loc Cert.SogReference.main_arg1) = m ((c.tc : Thread Cert.SogReference.nD Cert.SogReference.τ).loc Cert.SogReference.main_arg1))
      ∧ r.2.sem = fun _ => 0)

def quiescent_SchKernel [hSchKernel : Cert.SchKernel.Facts] : Prop :=
  ∀ (m : (ℓ : Loc Cert.SchKernel.nD Cert.SchKernel.τ Cert.SchKernel.sig) → Buf (Elt Bits) ℓ) (g : Dev Cert.SchKernel.nD → PrngReg), Pre_SchKernel m →
    θ_run (Cert.SchKernel.defs (F := Bits)) (onTc (τ := Cert.SchKernel.τ) (Cert.SchKernel.main (F := Bits))) ⟨m, fun _ => 0, g⟩ (fun r => (∀ c : Dev Cert.SchKernel.nD,
      r.2.mem ((c.tc : Thread Cert.SchKernel.nD Cert.SchKernel.τ).loc Cert.SchKernel.main_arg0) = m ((c.tc : Thread Cert.SchKernel.nD Cert.SchKernel.τ).loc Cert.SchKernel.main_arg0)
      ∧ r.2.mem ((c.tc : Thread Cert.SchKernel.nD Cert.SchKernel.τ).loc Cert.SchKernel.main_arg1) = m ((c.tc : Thread Cert.SchKernel.nD Cert.SchKernel.τ).loc Cert.SchKernel.main_arg1))
      ∧ r.2.sem = fun _ => 0)

def quiescent_SchKernelIdeal [hSchKernelIdeal : Cert.SchKernelIdeal.Facts] : Prop :=
  ∀ (m : (ℓ : Loc Cert.SchKernelIdeal.nD Cert.SchKernelIdeal.τ Cert.SchKernelIdeal.sig) → Buf (Elt Ideal) ℓ) (g : Dev Cert.SchKernelIdeal.nD → PrngReg), Pre_SchKernelIdeal m →
    θ_run (Cert.SchKernelIdeal.defs (F := Ideal)) (onTc (τ := Cert.SchKernelIdeal.τ) (Cert.SchKernelIdeal.main (F := Ideal))) ⟨m, fun _ => 0, g⟩ (fun r => (∀ c : Dev Cert.SchKernelIdeal.nD,
      r.2.mem ((c.tc : Thread Cert.SchKernelIdeal.nD Cert.SchKernelIdeal.τ).loc Cert.SchKernelIdeal.main_arg0) = m ((c.tc : Thread Cert.SchKernelIdeal.nD Cert.SchKernelIdeal.τ).loc Cert.SchKernelIdeal.main_arg0)
      ∧ r.2.mem ((c.tc : Thread Cert.SchKernelIdeal.nD Cert.SchKernelIdeal.τ).loc Cert.SchKernelIdeal.main_arg1) = m ((c.tc : Thread Cert.SchKernelIdeal.nD Cert.SchKernelIdeal.τ).loc Cert.SchKernelIdeal.main_arg1))
      ∧ r.2.sem = fun _ => 0)

def quiescent_SchReferenceIdeal [hSchReferenceIdeal : Cert.SchReferenceIdeal.Facts] : Prop :=
  ∀ (m : (ℓ : Loc Cert.SchReferenceIdeal.nD Cert.SchReferenceIdeal.τ Cert.SchReferenceIdeal.sig) → Buf (Elt Ideal) ℓ) (g : Dev Cert.SchReferenceIdeal.nD → PrngReg), Pre_SchReferenceIdeal m →
    θ_run (Cert.SchReferenceIdeal.defs (F := Ideal)) (onTc (τ := Cert.SchReferenceIdeal.τ) (Cert.SchReferenceIdeal.main (F := Ideal))) ⟨m, fun _ => 0, g⟩ (fun r => (∀ c : Dev Cert.SchReferenceIdeal.nD,
      r.2.mem ((c.tc : Thread Cert.SchReferenceIdeal.nD Cert.SchReferenceIdeal.τ).loc Cert.SchReferenceIdeal.main_arg0) = m ((c.tc : Thread Cert.SchReferenceIdeal.nD Cert.SchReferenceIdeal.τ).loc Cert.SchReferenceIdeal.main_arg0)
      ∧ r.2.mem ((c.tc : Thread Cert.SchReferenceIdeal.nD Cert.SchReferenceIdeal.τ).loc Cert.SchReferenceIdeal.main_arg1) = m ((c.tc : Thread Cert.SchReferenceIdeal.nD Cert.SchReferenceIdeal.τ).loc Cert.SchReferenceIdeal.main_arg1))
      ∧ r.2.sem = fun _ => 0)

def quiescent_ScoKernel [hScoKernel : Cert.ScoKernel.Facts] : Prop :=
  ∀ (m : (ℓ : Loc Cert.ScoKernel.nD Cert.ScoKernel.τ Cert.ScoKernel.sig) → Buf (Elt Bits) ℓ) (g : Dev Cert.ScoKernel.nD → PrngReg), Pre_ScoKernel m →
    θ_run (Cert.ScoKernel.defs (F := Bits)) (onTc (τ := Cert.ScoKernel.τ) (Cert.ScoKernel.main (F := Bits))) ⟨m, fun _ => 0, g⟩ (fun r => (∀ c : Dev Cert.ScoKernel.nD,
      r.2.mem ((c.tc : Thread Cert.ScoKernel.nD Cert.ScoKernel.τ).loc Cert.ScoKernel.main_arg0) = m ((c.tc : Thread Cert.ScoKernel.nD Cert.ScoKernel.τ).loc Cert.ScoKernel.main_arg0)
      ∧ r.2.mem ((c.tc : Thread Cert.ScoKernel.nD Cert.ScoKernel.τ).loc Cert.ScoKernel.main_arg1) = m ((c.tc : Thread Cert.ScoKernel.nD Cert.ScoKernel.τ).loc Cert.ScoKernel.main_arg1))
      ∧ r.2.sem = fun _ => 0)

def quiescent_ScoKernelIdeal [hScoKernelIdeal : Cert.ScoKernelIdeal.Facts] : Prop :=
  ∀ (m : (ℓ : Loc Cert.ScoKernelIdeal.nD Cert.ScoKernelIdeal.τ Cert.ScoKernelIdeal.sig) → Buf (Elt Ideal) ℓ) (g : Dev Cert.ScoKernelIdeal.nD → PrngReg), Pre_ScoKernelIdeal m →
    θ_run (Cert.ScoKernelIdeal.defs (F := Ideal)) (onTc (τ := Cert.ScoKernelIdeal.τ) (Cert.ScoKernelIdeal.main (F := Ideal))) ⟨m, fun _ => 0, g⟩ (fun r => (∀ c : Dev Cert.ScoKernelIdeal.nD,
      r.2.mem ((c.tc : Thread Cert.ScoKernelIdeal.nD Cert.ScoKernelIdeal.τ).loc Cert.ScoKernelIdeal.main_arg0) = m ((c.tc : Thread Cert.ScoKernelIdeal.nD Cert.ScoKernelIdeal.τ).loc Cert.ScoKernelIdeal.main_arg0)
      ∧ r.2.mem ((c.tc : Thread Cert.ScoKernelIdeal.nD Cert.ScoKernelIdeal.τ).loc Cert.ScoKernelIdeal.main_arg1) = m ((c.tc : Thread Cert.ScoKernelIdeal.nD Cert.ScoKernelIdeal.τ).loc Cert.ScoKernelIdeal.main_arg1))
      ∧ r.2.sem = fun _ => 0)

def quiescent_ScoReferenceIdeal [hScoReferenceIdeal : Cert.ScoReferenceIdeal.Facts] : Prop :=
  ∀ (m : (ℓ : Loc Cert.ScoReferenceIdeal.nD Cert.ScoReferenceIdeal.τ Cert.ScoReferenceIdeal.sig) → Buf (Elt Ideal) ℓ) (g : Dev Cert.ScoReferenceIdeal.nD → PrngReg), Pre_ScoReferenceIdeal m →
    θ_run (Cert.ScoReferenceIdeal.defs (F := Ideal)) (onTc (τ := Cert.ScoReferenceIdeal.τ) (Cert.ScoReferenceIdeal.main (F := Ideal))) ⟨m, fun _ => 0, g⟩ (fun r => (∀ c : Dev Cert.ScoReferenceIdeal.nD,
      r.2.mem ((c.tc : Thread Cert.ScoReferenceIdeal.nD Cert.ScoReferenceIdeal.τ).loc Cert.ScoReferenceIdeal.main_arg0) = m ((c.tc : Thread Cert.ScoReferenceIdeal.nD Cert.ScoReferenceIdeal.τ).loc Cert.ScoReferenceIdeal.main_arg0)
      ∧ r.2.mem ((c.tc : Thread Cert.ScoReferenceIdeal.nD Cert.ScoReferenceIdeal.τ).loc Cert.ScoReferenceIdeal.main_arg1) = m ((c.tc : Thread Cert.ScoReferenceIdeal.nD Cert.ScoReferenceIdeal.τ).loc Cert.ScoReferenceIdeal.main_arg1))
      ∧ r.2.sem = fun _ => 0)

def quiescent_ScgKernel [hScgKernel : Cert.ScgKernel.Facts] : Prop :=
  ∀ (m : (ℓ : Loc Cert.ScgKernel.nD Cert.ScgKernel.τ Cert.ScgKernel.sig) → Buf (Elt Bits) ℓ) (g : Dev Cert.ScgKernel.nD → PrngReg), Pre_ScgKernel m →
    θ_run (Cert.ScgKernel.defs (F := Bits)) (onTc (τ := Cert.ScgKernel.τ) (Cert.ScgKernel.main (F := Bits))) ⟨m, fun _ => 0, g⟩ (fun r => (∀ c : Dev Cert.ScgKernel.nD,
      r.2.mem ((c.tc : Thread Cert.ScgKernel.nD Cert.ScgKernel.τ).loc Cert.ScgKernel.main_arg0) = m ((c.tc : Thread Cert.ScgKernel.nD Cert.ScgKernel.τ).loc Cert.ScgKernel.main_arg0)
      ∧ r.2.mem ((c.tc : Thread Cert.ScgKernel.nD Cert.ScgKernel.τ).loc Cert.ScgKernel.main_arg1) = m ((c.tc : Thread Cert.ScgKernel.nD Cert.ScgKernel.τ).loc Cert.ScgKernel.main_arg1))
      ∧ r.2.sem = fun _ => 0)

def quiescent_ScgKernelIdeal [hScgKernelIdeal : Cert.ScgKernelIdeal.Facts] : Prop :=
  ∀ (m : (ℓ : Loc Cert.ScgKernelIdeal.nD Cert.ScgKernelIdeal.τ Cert.ScgKernelIdeal.sig) → Buf (Elt Ideal) ℓ) (g : Dev Cert.ScgKernelIdeal.nD → PrngReg), Pre_ScgKernelIdeal m →
    θ_run (Cert.ScgKernelIdeal.defs (F := Ideal)) (onTc (τ := Cert.ScgKernelIdeal.τ) (Cert.ScgKernelIdeal.main (F := Ideal))) ⟨m, fun _ => 0, g⟩ (fun r => (∀ c : Dev Cert.ScgKernelIdeal.nD,
      r.2.mem ((c.tc : Thread Cert.ScgKernelIdeal.nD Cert.ScgKernelIdeal.τ).loc Cert.ScgKernelIdeal.main_arg0) = m ((c.tc : Thread Cert.ScgKernelIdeal.nD Cert.ScgKernelIdeal.τ).loc Cert.ScgKernelIdeal.main_arg0)
      ∧ r.2.mem ((c.tc : Thread Cert.ScgKernelIdeal.nD Cert.ScgKernelIdeal.τ).loc Cert.ScgKernelIdeal.main_arg1) = m ((c.tc : Thread Cert.ScgKernelIdeal.nD Cert.ScgKernelIdeal.τ).loc Cert.ScgKernelIdeal.main_arg1))
      ∧ r.2.sem = fun _ => 0)

def quiescent_ScgReferenceIdeal [hScgReferenceIdeal : Cert.ScgReferenceIdeal.Facts] : Prop :=
  ∀ (m : (ℓ : Loc Cert.ScgReferenceIdeal.nD Cert.ScgReferenceIdeal.τ Cert.ScgReferenceIdeal.sig) → Buf (Elt Ideal) ℓ) (g : Dev Cert.ScgReferenceIdeal.nD → PrngReg), Pre_ScgReferenceIdeal m →
    θ_run (Cert.ScgReferenceIdeal.defs (F := Ideal)) (onTc (τ := Cert.ScgReferenceIdeal.τ) (Cert.ScgReferenceIdeal.main (F := Ideal))) ⟨m, fun _ => 0, g⟩ (fun r => (∀ c : Dev Cert.ScgReferenceIdeal.nD,
      r.2.mem ((c.tc : Thread Cert.ScgReferenceIdeal.nD Cert.ScgReferenceIdeal.τ).loc Cert.ScgReferenceIdeal.main_arg0) = m ((c.tc : Thread Cert.ScgReferenceIdeal.nD Cert.ScgReferenceIdeal.τ).loc Cert.ScgReferenceIdeal.main_arg0)
      ∧ r.2.mem ((c.tc : Thread Cert.ScgReferenceIdeal.nD Cert.ScgReferenceIdeal.τ).loc Cert.ScgReferenceIdeal.main_arg1) = m ((c.tc : Thread Cert.ScgReferenceIdeal.nD Cert.ScgReferenceIdeal.τ).loc Cert.ScgReferenceIdeal.main_arg1))
      ∧ r.2.sem = fun _ => 0)

def quiescent_AdbKernel [hAdbKernel : Cert.AdbKernel.Facts] : Prop :=
  ∀ (m : (ℓ : Loc Cert.AdbKernel.nD Cert.AdbKernel.τ Cert.AdbKernel.sig) → Buf (Elt Bits) ℓ) (g : Dev Cert.AdbKernel.nD → PrngReg), Pre_AdbKernel m →
    θ_run (Cert.AdbKernel.defs (F := Bits)) (onTc (τ := Cert.AdbKernel.τ) (Cert.AdbKernel.main (F := Bits))) ⟨m, fun _ => 0, g⟩ (fun r => (∀ c : Dev Cert.AdbKernel.nD,
      r.2.mem ((c.tc : Thread Cert.AdbKernel.nD Cert.AdbKernel.τ).loc Cert.AdbKernel.main_arg0) = m ((c.tc : Thread Cert.AdbKernel.nD Cert.AdbKernel.τ).loc Cert.AdbKernel.main_arg0)
      ∧ r.2.mem ((c.tc : Thread Cert.AdbKernel.nD Cert.AdbKernel.τ).loc Cert.AdbKernel.main_arg1) = m ((c.tc : Thread Cert.AdbKernel.nD Cert.AdbKernel.τ).loc Cert.AdbKernel.main_arg1)
      ∧ r.2.mem ((c.tc : Thread Cert.AdbKernel.nD Cert.AdbKernel.τ).loc Cert.AdbKernel.main_arg2) = m ((c.tc : Thread Cert.AdbKernel.nD Cert.AdbKernel.τ).loc Cert.AdbKernel.main_arg2)
      ∧ r.2.mem ((c.tc : Thread Cert.AdbKernel.nD Cert.AdbKernel.τ).loc Cert.AdbKernel.main_arg3) = m ((c.tc : Thread Cert.AdbKernel.nD Cert.AdbKernel.τ).loc Cert.AdbKernel.main_arg3)
      ∧ r.2.mem ((c.tc : Thread Cert.AdbKernel.nD Cert.AdbKernel.τ).loc Cert.AdbKernel.main_arg4) = m ((c.tc : Thread Cert.AdbKernel.nD Cert.AdbKernel.τ).loc Cert.AdbKernel.main_arg4))
      ∧ r.2.sem = fun _ => 0)

def quiescent_AdbKernelIdeal [hAdbKernelIdeal : Cert.AdbKernelIdeal.Facts] : Prop :=
  ∀ (m : (ℓ : Loc Cert.AdbKernelIdeal.nD Cert.AdbKernelIdeal.τ Cert.AdbKernelIdeal.sig) → Buf (Elt Ideal) ℓ) (g : Dev Cert.AdbKernelIdeal.nD → PrngReg), Pre_AdbKernelIdeal m →
    θ_run (Cert.AdbKernelIdeal.defs (F := Ideal)) (onTc (τ := Cert.AdbKernelIdeal.τ) (Cert.AdbKernelIdeal.main (F := Ideal))) ⟨m, fun _ => 0, g⟩ (fun r => (∀ c : Dev Cert.AdbKernelIdeal.nD,
      r.2.mem ((c.tc : Thread Cert.AdbKernelIdeal.nD Cert.AdbKernelIdeal.τ).loc Cert.AdbKernelIdeal.main_arg0) = m ((c.tc : Thread Cert.AdbKernelIdeal.nD Cert.AdbKernelIdeal.τ).loc Cert.AdbKernelIdeal.main_arg0)
      ∧ r.2.mem ((c.tc : Thread Cert.AdbKernelIdeal.nD Cert.AdbKernelIdeal.τ).loc Cert.AdbKernelIdeal.main_arg1) = m ((c.tc : Thread Cert.AdbKernelIdeal.nD Cert.AdbKernelIdeal.τ).loc Cert.AdbKernelIdeal.main_arg1)
      ∧ r.2.mem ((c.tc : Thread Cert.AdbKernelIdeal.nD Cert.AdbKernelIdeal.τ).loc Cert.AdbKernelIdeal.main_arg2) = m ((c.tc : Thread Cert.AdbKernelIdeal.nD Cert.AdbKernelIdeal.τ).loc Cert.AdbKernelIdeal.main_arg2)
      ∧ r.2.mem ((c.tc : Thread Cert.AdbKernelIdeal.nD Cert.AdbKernelIdeal.τ).loc Cert.AdbKernelIdeal.main_arg3) = m ((c.tc : Thread Cert.AdbKernelIdeal.nD Cert.AdbKernelIdeal.τ).loc Cert.AdbKernelIdeal.main_arg3)
      ∧ r.2.mem ((c.tc : Thread Cert.AdbKernelIdeal.nD Cert.AdbKernelIdeal.τ).loc Cert.AdbKernelIdeal.main_arg4) = m ((c.tc : Thread Cert.AdbKernelIdeal.nD Cert.AdbKernelIdeal.τ).loc Cert.AdbKernelIdeal.main_arg4))
      ∧ r.2.sem = fun _ => 0)

def quiescent_AdbReferenceIdeal [hAdbReferenceIdeal : Cert.AdbReferenceIdeal.Facts] : Prop :=
  ∀ (m : (ℓ : Loc Cert.AdbReferenceIdeal.nD Cert.AdbReferenceIdeal.τ Cert.AdbReferenceIdeal.sig) → Buf (Elt Ideal) ℓ) (g : Dev Cert.AdbReferenceIdeal.nD → PrngReg), Pre_AdbReferenceIdeal m →
    θ_run (Cert.AdbReferenceIdeal.defs (F := Ideal)) (onTc (τ := Cert.AdbReferenceIdeal.τ) (Cert.AdbReferenceIdeal.main (F := Ideal))) ⟨m, fun _ => 0, g⟩ (fun r => (∀ c : Dev Cert.AdbReferenceIdeal.nD,
      r.2.mem ((c.tc : Thread Cert.AdbReferenceIdeal.nD Cert.AdbReferenceIdeal.τ).loc Cert.AdbReferenceIdeal.main_arg0) = m ((c.tc : Thread Cert.AdbReferenceIdeal.nD Cert.AdbReferenceIdeal.τ).loc Cert.AdbReferenceIdeal.main_arg0)
      ∧ r.2.mem ((c.tc : Thread Cert.AdbReferenceIdeal.nD Cert.AdbReferenceIdeal.τ).loc Cert.AdbReferenceIdeal.main_arg1) = m ((c.tc : Thread Cert.AdbReferenceIdeal.nD Cert.AdbReferenceIdeal.τ).loc Cert.AdbReferenceIdeal.main_arg1)
      ∧ r.2.mem ((c.tc : Thread Cert.AdbReferenceIdeal.nD Cert.AdbReferenceIdeal.τ).loc Cert.AdbReferenceIdeal.main_arg2) = m ((c.tc : Thread Cert.AdbReferenceIdeal.nD Cert.AdbReferenceIdeal.τ).loc Cert.AdbReferenceIdeal.main_arg2)
      ∧ r.2.mem ((c.tc : Thread Cert.AdbReferenceIdeal.nD Cert.AdbReferenceIdeal.τ).loc Cert.AdbReferenceIdeal.main_arg3) = m ((c.tc : Thread Cert.AdbReferenceIdeal.nD Cert.AdbReferenceIdeal.τ).loc Cert.AdbReferenceIdeal.main_arg3)
      ∧ r.2.mem ((c.tc : Thread Cert.AdbReferenceIdeal.nD Cert.AdbReferenceIdeal.τ).loc Cert.AdbReferenceIdeal.main_arg4) = m ((c.tc : Thread Cert.AdbReferenceIdeal.nD Cert.AdbReferenceIdeal.τ).loc Cert.AdbReferenceIdeal.main_arg4))
      ∧ r.2.sem = fun _ => 0)

def quiescent_AdoKernel [hAdoKernel : Cert.AdoKernel.Facts] : Prop :=
  ∀ (m : (ℓ : Loc Cert.AdoKernel.nD Cert.AdoKernel.τ Cert.AdoKernel.sig) → Buf (Elt Bits) ℓ) (g : Dev Cert.AdoKernel.nD → PrngReg), Pre_AdoKernel m →
    θ_run (Cert.AdoKernel.defs (F := Bits)) (onTc (τ := Cert.AdoKernel.τ) (Cert.AdoKernel.main (F := Bits))) ⟨m, fun _ => 0, g⟩ (fun r => (∀ c : Dev Cert.AdoKernel.nD,
      r.2.mem ((c.tc : Thread Cert.AdoKernel.nD Cert.AdoKernel.τ).loc Cert.AdoKernel.main_arg0) = m ((c.tc : Thread Cert.AdoKernel.nD Cert.AdoKernel.τ).loc Cert.AdoKernel.main_arg0)
      ∧ r.2.mem ((c.tc : Thread Cert.AdoKernel.nD Cert.AdoKernel.τ).loc Cert.AdoKernel.main_arg1) = m ((c.tc : Thread Cert.AdoKernel.nD Cert.AdoKernel.τ).loc Cert.AdoKernel.main_arg1)
      ∧ r.2.mem ((c.tc : Thread Cert.AdoKernel.nD Cert.AdoKernel.τ).loc Cert.AdoKernel.main_arg2) = m ((c.tc : Thread Cert.AdoKernel.nD Cert.AdoKernel.τ).loc Cert.AdoKernel.main_arg2)
      ∧ r.2.mem ((c.tc : Thread Cert.AdoKernel.nD Cert.AdoKernel.τ).loc Cert.AdoKernel.main_arg3) = m ((c.tc : Thread Cert.AdoKernel.nD Cert.AdoKernel.τ).loc Cert.AdoKernel.main_arg3)
      ∧ r.2.mem ((c.tc : Thread Cert.AdoKernel.nD Cert.AdoKernel.τ).loc Cert.AdoKernel.main_arg4) = m ((c.tc : Thread Cert.AdoKernel.nD Cert.AdoKernel.τ).loc Cert.AdoKernel.main_arg4))
      ∧ r.2.sem = fun _ => 0)

def quiescent_AdoKernelIdeal [hAdoKernelIdeal : Cert.AdoKernelIdeal.Facts] : Prop :=
  ∀ (m : (ℓ : Loc Cert.AdoKernelIdeal.nD Cert.AdoKernelIdeal.τ Cert.AdoKernelIdeal.sig) → Buf (Elt Ideal) ℓ) (g : Dev Cert.AdoKernelIdeal.nD → PrngReg), Pre_AdoKernelIdeal m →
    θ_run (Cert.AdoKernelIdeal.defs (F := Ideal)) (onTc (τ := Cert.AdoKernelIdeal.τ) (Cert.AdoKernelIdeal.main (F := Ideal))) ⟨m, fun _ => 0, g⟩ (fun r => (∀ c : Dev Cert.AdoKernelIdeal.nD,
      r.2.mem ((c.tc : Thread Cert.AdoKernelIdeal.nD Cert.AdoKernelIdeal.τ).loc Cert.AdoKernelIdeal.main_arg0) = m ((c.tc : Thread Cert.AdoKernelIdeal.nD Cert.AdoKernelIdeal.τ).loc Cert.AdoKernelIdeal.main_arg0)
      ∧ r.2.mem ((c.tc : Thread Cert.AdoKernelIdeal.nD Cert.AdoKernelIdeal.τ).loc Cert.AdoKernelIdeal.main_arg1) = m ((c.tc : Thread Cert.AdoKernelIdeal.nD Cert.AdoKernelIdeal.τ).loc Cert.AdoKernelIdeal.main_arg1)
      ∧ r.2.mem ((c.tc : Thread Cert.AdoKernelIdeal.nD Cert.AdoKernelIdeal.τ).loc Cert.AdoKernelIdeal.main_arg2) = m ((c.tc : Thread Cert.AdoKernelIdeal.nD Cert.AdoKernelIdeal.τ).loc Cert.AdoKernelIdeal.main_arg2)
      ∧ r.2.mem ((c.tc : Thread Cert.AdoKernelIdeal.nD Cert.AdoKernelIdeal.τ).loc Cert.AdoKernelIdeal.main_arg3) = m ((c.tc : Thread Cert.AdoKernelIdeal.nD Cert.AdoKernelIdeal.τ).loc Cert.AdoKernelIdeal.main_arg3)
      ∧ r.2.mem ((c.tc : Thread Cert.AdoKernelIdeal.nD Cert.AdoKernelIdeal.τ).loc Cert.AdoKernelIdeal.main_arg4) = m ((c.tc : Thread Cert.AdoKernelIdeal.nD Cert.AdoKernelIdeal.τ).loc Cert.AdoKernelIdeal.main_arg4))
      ∧ r.2.sem = fun _ => 0)

def quiescent_AdoReferenceIdeal [hAdoReferenceIdeal : Cert.AdoReferenceIdeal.Facts] : Prop :=
  ∀ (m : (ℓ : Loc Cert.AdoReferenceIdeal.nD Cert.AdoReferenceIdeal.τ Cert.AdoReferenceIdeal.sig) → Buf (Elt Ideal) ℓ) (g : Dev Cert.AdoReferenceIdeal.nD → PrngReg), Pre_AdoReferenceIdeal m →
    θ_run (Cert.AdoReferenceIdeal.defs (F := Ideal)) (onTc (τ := Cert.AdoReferenceIdeal.τ) (Cert.AdoReferenceIdeal.main (F := Ideal))) ⟨m, fun _ => 0, g⟩ (fun r => (∀ c : Dev Cert.AdoReferenceIdeal.nD,
      r.2.mem ((c.tc : Thread Cert.AdoReferenceIdeal.nD Cert.AdoReferenceIdeal.τ).loc Cert.AdoReferenceIdeal.main_arg0) = m ((c.tc : Thread Cert.AdoReferenceIdeal.nD Cert.AdoReferenceIdeal.τ).loc Cert.AdoReferenceIdeal.main_arg0)
      ∧ r.2.mem ((c.tc : Thread Cert.AdoReferenceIdeal.nD Cert.AdoReferenceIdeal.τ).loc Cert.AdoReferenceIdeal.main_arg1) = m ((c.tc : Thread Cert.AdoReferenceIdeal.nD Cert.AdoReferenceIdeal.τ).loc Cert.AdoReferenceIdeal.main_arg1)
      ∧ r.2.mem ((c.tc : Thread Cert.AdoReferenceIdeal.nD Cert.AdoReferenceIdeal.τ).loc Cert.AdoReferenceIdeal.main_arg2) = m ((c.tc : Thread Cert.AdoReferenceIdeal.nD Cert.AdoReferenceIdeal.τ).loc Cert.AdoReferenceIdeal.main_arg2)
      ∧ r.2.mem ((c.tc : Thread Cert.AdoReferenceIdeal.nD Cert.AdoReferenceIdeal.τ).loc Cert.AdoReferenceIdeal.main_arg3) = m ((c.tc : Thread Cert.AdoReferenceIdeal.nD Cert.AdoReferenceIdeal.τ).loc Cert.AdoReferenceIdeal.main_arg3)
      ∧ r.2.mem ((c.tc : Thread Cert.AdoReferenceIdeal.nD Cert.AdoReferenceIdeal.τ).loc Cert.AdoReferenceIdeal.main_arg4) = m ((c.tc : Thread Cert.AdoReferenceIdeal.nD Cert.AdoReferenceIdeal.τ).loc Cert.AdoReferenceIdeal.main_arg4))
      ∧ r.2.sem = fun _ => 0)

def quiescent_AdgKernel [hAdgKernel : Cert.AdgKernel.Facts] : Prop :=
  ∀ (m : (ℓ : Loc Cert.AdgKernel.nD Cert.AdgKernel.τ Cert.AdgKernel.sig) → Buf (Elt Bits) ℓ) (g : Dev Cert.AdgKernel.nD → PrngReg), Pre_AdgKernel m →
    θ_run (Cert.AdgKernel.defs (F := Bits)) (onTc (τ := Cert.AdgKernel.τ) (Cert.AdgKernel.main (F := Bits))) ⟨m, fun _ => 0, g⟩ (fun r => (∀ c : Dev Cert.AdgKernel.nD,
      r.2.mem ((c.tc : Thread Cert.AdgKernel.nD Cert.AdgKernel.τ).loc Cert.AdgKernel.main_arg0) = m ((c.tc : Thread Cert.AdgKernel.nD Cert.AdgKernel.τ).loc Cert.AdgKernel.main_arg0)
      ∧ r.2.mem ((c.tc : Thread Cert.AdgKernel.nD Cert.AdgKernel.τ).loc Cert.AdgKernel.main_arg1) = m ((c.tc : Thread Cert.AdgKernel.nD Cert.AdgKernel.τ).loc Cert.AdgKernel.main_arg1)
      ∧ r.2.mem ((c.tc : Thread Cert.AdgKernel.nD Cert.AdgKernel.τ).loc Cert.AdgKernel.main_arg2) = m ((c.tc : Thread Cert.AdgKernel.nD Cert.AdgKernel.τ).loc Cert.AdgKernel.main_arg2)
      ∧ r.2.mem ((c.tc : Thread Cert.AdgKernel.nD Cert.AdgKernel.τ).loc Cert.AdgKernel.main_arg3) = m ((c.tc : Thread Cert.AdgKernel.nD Cert.AdgKernel.τ).loc Cert.AdgKernel.main_arg3)
      ∧ r.2.mem ((c.tc : Thread Cert.AdgKernel.nD Cert.AdgKernel.τ).loc Cert.AdgKernel.main_arg4) = m ((c.tc : Thread Cert.AdgKernel.nD Cert.AdgKernel.τ).loc Cert.AdgKernel.main_arg4))
      ∧ r.2.sem = fun _ => 0)

def quiescent_AdgKernelIdeal [hAdgKernelIdeal : Cert.AdgKernelIdeal.Facts] : Prop :=
  ∀ (m : (ℓ : Loc Cert.AdgKernelIdeal.nD Cert.AdgKernelIdeal.τ Cert.AdgKernelIdeal.sig) → Buf (Elt Ideal) ℓ) (g : Dev Cert.AdgKernelIdeal.nD → PrngReg), Pre_AdgKernelIdeal m →
    θ_run (Cert.AdgKernelIdeal.defs (F := Ideal)) (onTc (τ := Cert.AdgKernelIdeal.τ) (Cert.AdgKernelIdeal.main (F := Ideal))) ⟨m, fun _ => 0, g⟩ (fun r => (∀ c : Dev Cert.AdgKernelIdeal.nD,
      r.2.mem ((c.tc : Thread Cert.AdgKernelIdeal.nD Cert.AdgKernelIdeal.τ).loc Cert.AdgKernelIdeal.main_arg0) = m ((c.tc : Thread Cert.AdgKernelIdeal.nD Cert.AdgKernelIdeal.τ).loc Cert.AdgKernelIdeal.main_arg0)
      ∧ r.2.mem ((c.tc : Thread Cert.AdgKernelIdeal.nD Cert.AdgKernelIdeal.τ).loc Cert.AdgKernelIdeal.main_arg1) = m ((c.tc : Thread Cert.AdgKernelIdeal.nD Cert.AdgKernelIdeal.τ).loc Cert.AdgKernelIdeal.main_arg1)
      ∧ r.2.mem ((c.tc : Thread Cert.AdgKernelIdeal.nD Cert.AdgKernelIdeal.τ).loc Cert.AdgKernelIdeal.main_arg2) = m ((c.tc : Thread Cert.AdgKernelIdeal.nD Cert.AdgKernelIdeal.τ).loc Cert.AdgKernelIdeal.main_arg2)
      ∧ r.2.mem ((c.tc : Thread Cert.AdgKernelIdeal.nD Cert.AdgKernelIdeal.τ).loc Cert.AdgKernelIdeal.main_arg3) = m ((c.tc : Thread Cert.AdgKernelIdeal.nD Cert.AdgKernelIdeal.τ).loc Cert.AdgKernelIdeal.main_arg3)
      ∧ r.2.mem ((c.tc : Thread Cert.AdgKernelIdeal.nD Cert.AdgKernelIdeal.τ).loc Cert.AdgKernelIdeal.main_arg4) = m ((c.tc : Thread Cert.AdgKernelIdeal.nD Cert.AdgKernelIdeal.τ).loc Cert.AdgKernelIdeal.main_arg4))
      ∧ r.2.sem = fun _ => 0)

def quiescent_AdgReferenceIdeal [hAdgReferenceIdeal : Cert.AdgReferenceIdeal.Facts] : Prop :=
  ∀ (m : (ℓ : Loc Cert.AdgReferenceIdeal.nD Cert.AdgReferenceIdeal.τ Cert.AdgReferenceIdeal.sig) → Buf (Elt Ideal) ℓ) (g : Dev Cert.AdgReferenceIdeal.nD → PrngReg), Pre_AdgReferenceIdeal m →
    θ_run (Cert.AdgReferenceIdeal.defs (F := Ideal)) (onTc (τ := Cert.AdgReferenceIdeal.τ) (Cert.AdgReferenceIdeal.main (F := Ideal))) ⟨m, fun _ => 0, g⟩ (fun r => (∀ c : Dev Cert.AdgReferenceIdeal.nD,
      r.2.mem ((c.tc : Thread Cert.AdgReferenceIdeal.nD Cert.AdgReferenceIdeal.τ).loc Cert.AdgReferenceIdeal.main_arg0) = m ((c.tc : Thread Cert.AdgReferenceIdeal.nD Cert.AdgReferenceIdeal.τ).loc Cert.AdgReferenceIdeal.main_arg0)
      ∧ r.2.mem ((c.tc : Thread Cert.AdgReferenceIdeal.nD Cert.AdgReferenceIdeal.τ).loc Cert.AdgReferenceIdeal.main_arg1) = m ((c.tc : Thread Cert.AdgReferenceIdeal.nD Cert.AdgReferenceIdeal.τ).loc Cert.AdgReferenceIdeal.main_arg1)
      ∧ r.2.mem ((c.tc : Thread Cert.AdgReferenceIdeal.nD Cert.AdgReferenceIdeal.τ).loc Cert.AdgReferenceIdeal.main_arg2) = m ((c.tc : Thread Cert.AdgReferenceIdeal.nD Cert.AdgReferenceIdeal.τ).loc Cert.AdgReferenceIdeal.main_arg2)
      ∧ r.2.mem ((c.tc : Thread Cert.AdgReferenceIdeal.nD Cert.AdgReferenceIdeal.τ).loc Cert.AdgReferenceIdeal.main_arg3) = m ((c.tc : Thread Cert.AdgReferenceIdeal.nD Cert.AdgReferenceIdeal.τ).loc Cert.AdgReferenceIdeal.main_arg3)
      ∧ r.2.mem ((c.tc : Thread Cert.AdgReferenceIdeal.nD Cert.AdgReferenceIdeal.τ).loc Cert.AdgReferenceIdeal.main_arg4) = m ((c.tc : Thread Cert.AdgReferenceIdeal.nD Cert.AdgReferenceIdeal.τ).loc Cert.AdgReferenceIdeal.main_arg4))
      ∧ r.2.sem = fun _ => 0)

def quiescent_AsaKernel [hAsaKernel : Cert.AsaKernel.Facts] : Prop :=
  ∀ (m : (ℓ : Loc Cert.AsaKernel.nD Cert.AsaKernel.τ Cert.AsaKernel.sig) → Buf (Elt Bits) ℓ) (g : Dev Cert.AsaKernel.nD → PrngReg), Pre_AsaKernel m →
    θ_run (Cert.AsaKernel.defs (F := Bits)) (onTc (τ := Cert.AsaKernel.τ) (Cert.AsaKernel.main (F := Bits))) ⟨m, fun _ => 0, g⟩ (fun r => (∀ c : Dev Cert.AsaKernel.nD,
      r.2.mem ((c.tc : Thread Cert.AsaKernel.nD Cert.AsaKernel.τ).loc Cert.AsaKernel.main_arg0) = m ((c.tc : Thread Cert.AsaKernel.nD Cert.AsaKernel.τ).loc Cert.AsaKernel.main_arg0)
      ∧ r.2.mem ((c.tc : Thread Cert.AsaKernel.nD Cert.AsaKernel.τ).loc Cert.AsaKernel.main_arg1) = m ((c.tc : Thread Cert.AsaKernel.nD Cert.AsaKernel.τ).loc Cert.AsaKernel.main_arg1)
      ∧ r.2.mem ((c.tc : Thread Cert.AsaKernel.nD Cert.AsaKernel.τ).loc Cert.AsaKernel.main_arg2) = m ((c.tc : Thread Cert.AsaKernel.nD Cert.AsaKernel.τ).loc Cert.AsaKernel.main_arg2)
      ∧ r.2.mem ((c.tc : Thread Cert.AsaKernel.nD Cert.AsaKernel.τ).loc Cert.AsaKernel.main_arg3) = m ((c.tc : Thread Cert.AsaKernel.nD Cert.AsaKernel.τ).loc Cert.AsaKernel.main_arg3)
      ∧ r.2.mem ((c.tc : Thread Cert.AsaKernel.nD Cert.AsaKernel.τ).loc Cert.AsaKernel.main_arg4) = m ((c.tc : Thread Cert.AsaKernel.nD Cert.AsaKernel.τ).loc Cert.AsaKernel.main_arg4)
      ∧ r.2.mem ((c.tc : Thread Cert.AsaKernel.nD Cert.AsaKernel.τ).loc Cert.AsaKernel.main_arg5) = m ((c.tc : Thread Cert.AsaKernel.nD Cert.AsaKernel.τ).loc Cert.AsaKernel.main_arg5)
      ∧ r.2.mem ((c.tc : Thread Cert.AsaKernel.nD Cert.AsaKernel.τ).loc Cert.AsaKernel.main_arg6) = m ((c.tc : Thread Cert.AsaKernel.nD Cert.AsaKernel.τ).loc Cert.AsaKernel.main_arg6)
      ∧ r.2.mem ((c.tc : Thread Cert.AsaKernel.nD Cert.AsaKernel.τ).loc Cert.AsaKernel.main_arg7) = m ((c.tc : Thread Cert.AsaKernel.nD Cert.AsaKernel.τ).loc Cert.AsaKernel.main_arg7)
      ∧ r.2.mem ((c.tc : Thread Cert.AsaKernel.nD Cert.AsaKernel.τ).loc Cert.AsaKernel.main_arg8) = m ((c.tc : Thread Cert.AsaKernel.nD Cert.AsaKernel.τ).loc Cert.AsaKernel.main_arg8)
      ∧ r.2.mem ((c.tc : Thread Cert.AsaKernel.nD Cert.AsaKernel.τ).loc Cert.AsaKernel.main_arg9) = m ((c.tc : Thread Cert.AsaKernel.nD Cert.AsaKernel.τ).loc Cert.AsaKernel.main_arg9)
      ∧ r.2.mem ((c.tc : Thread Cert.AsaKernel.nD Cert.AsaKernel.τ).loc Cert.AsaKernel.main_arg10) = m ((c.tc : Thread Cert.AsaKernel.nD Cert.AsaKernel.τ).loc Cert.AsaKernel.main_arg10)
      ∧ r.2.mem ((c.tc : Thread Cert.AsaKernel.nD Cert.AsaKernel.τ).loc Cert.AsaKernel.main_arg11) = m ((c.tc : Thread Cert.AsaKernel.nD Cert.AsaKernel.τ).loc Cert.AsaKernel.main_arg11))
      ∧ r.2.sem = fun _ => 0)

def quiescent_AsaKernelIdeal [hAsaKernelIdeal : Cert.AsaKernelIdeal.Facts] : Prop :=
  ∀ (m : (ℓ : Loc Cert.AsaKernelIdeal.nD Cert.AsaKernelIdeal.τ Cert.AsaKernelIdeal.sig) → Buf (Elt Ideal) ℓ) (g : Dev Cert.AsaKernelIdeal.nD → PrngReg), Pre_AsaKernelIdeal m →
    θ_run (Cert.AsaKernelIdeal.defs (F := Ideal)) (onTc (τ := Cert.AsaKernelIdeal.τ) (Cert.AsaKernelIdeal.main (F := Ideal))) ⟨m, fun _ => 0, g⟩ (fun r => (∀ c : Dev Cert.AsaKernelIdeal.nD,
      r.2.mem ((c.tc : Thread Cert.AsaKernelIdeal.nD Cert.AsaKernelIdeal.τ).loc Cert.AsaKernelIdeal.main_arg0) = m ((c.tc : Thread Cert.AsaKernelIdeal.nD Cert.AsaKernelIdeal.τ).loc Cert.AsaKernelIdeal.main_arg0)
      ∧ r.2.mem ((c.tc : Thread Cert.AsaKernelIdeal.nD Cert.AsaKernelIdeal.τ).loc Cert.AsaKernelIdeal.main_arg1) = m ((c.tc : Thread Cert.AsaKernelIdeal.nD Cert.AsaKernelIdeal.τ).loc Cert.AsaKernelIdeal.main_arg1)
      ∧ r.2.mem ((c.tc : Thread Cert.AsaKernelIdeal.nD Cert.AsaKernelIdeal.τ).loc Cert.AsaKernelIdeal.main_arg2) = m ((c.tc : Thread Cert.AsaKernelIdeal.nD Cert.AsaKernelIdeal.τ).loc Cert.AsaKernelIdeal.main_arg2)
      ∧ r.2.mem ((c.tc : Thread Cert.AsaKernelIdeal.nD Cert.AsaKernelIdeal.τ).loc Cert.AsaKernelIdeal.main_arg3) = m ((c.tc : Thread Cert.AsaKernelIdeal.nD Cert.AsaKernelIdeal.τ).loc Cert.AsaKernelIdeal.main_arg3)
      ∧ r.2.mem ((c.tc : Thread Cert.AsaKernelIdeal.nD Cert.AsaKernelIdeal.τ).loc Cert.AsaKernelIdeal.main_arg4) = m ((c.tc : Thread Cert.AsaKernelIdeal.nD Cert.AsaKernelIdeal.τ).loc Cert.AsaKernelIdeal.main_arg4)
      ∧ r.2.mem ((c.tc : Thread Cert.AsaKernelIdeal.nD Cert.AsaKernelIdeal.τ).loc Cert.AsaKernelIdeal.main_arg5) = m ((c.tc : Thread Cert.AsaKernelIdeal.nD Cert.AsaKernelIdeal.τ).loc Cert.AsaKernelIdeal.main_arg5)
      ∧ r.2.mem ((c.tc : Thread Cert.AsaKernelIdeal.nD Cert.AsaKernelIdeal.τ).loc Cert.AsaKernelIdeal.main_arg6) = m ((c.tc : Thread Cert.AsaKernelIdeal.nD Cert.AsaKernelIdeal.τ).loc Cert.AsaKernelIdeal.main_arg6)
      ∧ r.2.mem ((c.tc : Thread Cert.AsaKernelIdeal.nD Cert.AsaKernelIdeal.τ).loc Cert.AsaKernelIdeal.main_arg7) = m ((c.tc : Thread Cert.AsaKernelIdeal.nD Cert.AsaKernelIdeal.τ).loc Cert.AsaKernelIdeal.main_arg7)
      ∧ r.2.mem ((c.tc : Thread Cert.AsaKernelIdeal.nD Cert.AsaKernelIdeal.τ).loc Cert.AsaKernelIdeal.main_arg8) = m ((c.tc : Thread Cert.AsaKernelIdeal.nD Cert.AsaKernelIdeal.τ).loc Cert.AsaKernelIdeal.main_arg8)
      ∧ r.2.mem ((c.tc : Thread Cert.AsaKernelIdeal.nD Cert.AsaKernelIdeal.τ).loc Cert.AsaKernelIdeal.main_arg9) = m ((c.tc : Thread Cert.AsaKernelIdeal.nD Cert.AsaKernelIdeal.τ).loc Cert.AsaKernelIdeal.main_arg9)
      ∧ r.2.mem ((c.tc : Thread Cert.AsaKernelIdeal.nD Cert.AsaKernelIdeal.τ).loc Cert.AsaKernelIdeal.main_arg10) = m ((c.tc : Thread Cert.AsaKernelIdeal.nD Cert.AsaKernelIdeal.τ).loc Cert.AsaKernelIdeal.main_arg10)
      ∧ r.2.mem ((c.tc : Thread Cert.AsaKernelIdeal.nD Cert.AsaKernelIdeal.τ).loc Cert.AsaKernelIdeal.main_arg11) = m ((c.tc : Thread Cert.AsaKernelIdeal.nD Cert.AsaKernelIdeal.τ).loc Cert.AsaKernelIdeal.main_arg11))
      ∧ r.2.sem = fun _ => 0)

def quiescent_AsaReferenceIdeal [hAsaReferenceIdeal : Cert.AsaReferenceIdeal.Facts] : Prop :=
  ∀ (m : (ℓ : Loc Cert.AsaReferenceIdeal.nD Cert.AsaReferenceIdeal.τ Cert.AsaReferenceIdeal.sig) → Buf (Elt Ideal) ℓ) (g : Dev Cert.AsaReferenceIdeal.nD → PrngReg), Pre_AsaReferenceIdeal m →
    θ_run (Cert.AsaReferenceIdeal.defs (F := Ideal)) (onTc (τ := Cert.AsaReferenceIdeal.τ) (Cert.AsaReferenceIdeal.main (F := Ideal))) ⟨m, fun _ => 0, g⟩ (fun r => (∀ c : Dev Cert.AsaReferenceIdeal.nD,
      r.2.mem ((c.tc : Thread Cert.AsaReferenceIdeal.nD Cert.AsaReferenceIdeal.τ).loc Cert.AsaReferenceIdeal.main_arg0) = m ((c.tc : Thread Cert.AsaReferenceIdeal.nD Cert.AsaReferenceIdeal.τ).loc Cert.AsaReferenceIdeal.main_arg0)
      ∧ r.2.mem ((c.tc : Thread Cert.AsaReferenceIdeal.nD Cert.AsaReferenceIdeal.τ).loc Cert.AsaReferenceIdeal.main_arg1) = m ((c.tc : Thread Cert.AsaReferenceIdeal.nD Cert.AsaReferenceIdeal.τ).loc Cert.AsaReferenceIdeal.main_arg1)
      ∧ r.2.mem ((c.tc : Thread Cert.AsaReferenceIdeal.nD Cert.AsaReferenceIdeal.τ).loc Cert.AsaReferenceIdeal.main_arg2) = m ((c.tc : Thread Cert.AsaReferenceIdeal.nD Cert.AsaReferenceIdeal.τ).loc Cert.AsaReferenceIdeal.main_arg2)
      ∧ r.2.mem ((c.tc : Thread Cert.AsaReferenceIdeal.nD Cert.AsaReferenceIdeal.τ).loc Cert.AsaReferenceIdeal.main_arg3) = m ((c.tc : Thread Cert.AsaReferenceIdeal.nD Cert.AsaReferenceIdeal.τ).loc Cert.AsaReferenceIdeal.main_arg3)
      ∧ r.2.mem ((c.tc : Thread Cert.AsaReferenceIdeal.nD Cert.AsaReferenceIdeal.τ).loc Cert.AsaReferenceIdeal.main_arg4) = m ((c.tc : Thread Cert.AsaReferenceIdeal.nD Cert.AsaReferenceIdeal.τ).loc Cert.AsaReferenceIdeal.main_arg4)
      ∧ r.2.mem ((c.tc : Thread Cert.AsaReferenceIdeal.nD Cert.AsaReferenceIdeal.τ).loc Cert.AsaReferenceIdeal.main_arg5) = m ((c.tc : Thread Cert.AsaReferenceIdeal.nD Cert.AsaReferenceIdeal.τ).loc Cert.AsaReferenceIdeal.main_arg5)
      ∧ r.2.mem ((c.tc : Thread Cert.AsaReferenceIdeal.nD Cert.AsaReferenceIdeal.τ).loc Cert.AsaReferenceIdeal.main_arg6) = m ((c.tc : Thread Cert.AsaReferenceIdeal.nD Cert.AsaReferenceIdeal.τ).loc Cert.AsaReferenceIdeal.main_arg6)
      ∧ r.2.mem ((c.tc : Thread Cert.AsaReferenceIdeal.nD Cert.AsaReferenceIdeal.τ).loc Cert.AsaReferenceIdeal.main_arg7) = m ((c.tc : Thread Cert.AsaReferenceIdeal.nD Cert.AsaReferenceIdeal.τ).loc Cert.AsaReferenceIdeal.main_arg7)
      ∧ r.2.mem ((c.tc : Thread Cert.AsaReferenceIdeal.nD Cert.AsaReferenceIdeal.τ).loc Cert.AsaReferenceIdeal.main_arg8) = m ((c.tc : Thread Cert.AsaReferenceIdeal.nD Cert.AsaReferenceIdeal.τ).loc Cert.AsaReferenceIdeal.main_arg8)
      ∧ r.2.mem ((c.tc : Thread Cert.AsaReferenceIdeal.nD Cert.AsaReferenceIdeal.τ).loc Cert.AsaReferenceIdeal.main_arg9) = m ((c.tc : Thread Cert.AsaReferenceIdeal.nD Cert.AsaReferenceIdeal.τ).loc Cert.AsaReferenceIdeal.main_arg9)
      ∧ r.2.mem ((c.tc : Thread Cert.AsaReferenceIdeal.nD Cert.AsaReferenceIdeal.τ).loc Cert.AsaReferenceIdeal.main_arg10) = m ((c.tc : Thread Cert.AsaReferenceIdeal.nD Cert.AsaReferenceIdeal.τ).loc Cert.AsaReferenceIdeal.main_arg10)
      ∧ r.2.mem ((c.tc : Thread Cert.AsaReferenceIdeal.nD Cert.AsaReferenceIdeal.τ).loc Cert.AsaReferenceIdeal.main_arg11) = m ((c.tc : Thread Cert.AsaReferenceIdeal.nD Cert.AsaReferenceIdeal.τ).loc Cert.AsaReferenceIdeal.main_arg11))
      ∧ r.2.sem = fun _ => 0)

def quiescent_AsgKernel [hAsgKernel : Cert.AsgKernel.Facts] : Prop :=
  ∀ (m : (ℓ : Loc Cert.AsgKernel.nD Cert.AsgKernel.τ Cert.AsgKernel.sig) → Buf (Elt Bits) ℓ) (g : Dev Cert.AsgKernel.nD → PrngReg), Pre_AsgKernel m →
    θ_run (Cert.AsgKernel.defs (F := Bits)) (onTc (τ := Cert.AsgKernel.τ) (Cert.AsgKernel.main (F := Bits))) ⟨m, fun _ => 0, g⟩ (fun r => (∀ c : Dev Cert.AsgKernel.nD,
      r.2.mem ((c.tc : Thread Cert.AsgKernel.nD Cert.AsgKernel.τ).loc Cert.AsgKernel.main_arg0) = m ((c.tc : Thread Cert.AsgKernel.nD Cert.AsgKernel.τ).loc Cert.AsgKernel.main_arg0)
      ∧ r.2.mem ((c.tc : Thread Cert.AsgKernel.nD Cert.AsgKernel.τ).loc Cert.AsgKernel.main_arg1) = m ((c.tc : Thread Cert.AsgKernel.nD Cert.AsgKernel.τ).loc Cert.AsgKernel.main_arg1)
      ∧ r.2.mem ((c.tc : Thread Cert.AsgKernel.nD Cert.AsgKernel.τ).loc Cert.AsgKernel.main_arg2) = m ((c.tc : Thread Cert.AsgKernel.nD Cert.AsgKernel.τ).loc Cert.AsgKernel.main_arg2)
      ∧ r.2.mem ((c.tc : Thread Cert.AsgKernel.nD Cert.AsgKernel.τ).loc Cert.AsgKernel.main_arg3) = m ((c.tc : Thread Cert.AsgKernel.nD Cert.AsgKernel.τ).loc Cert.AsgKernel.main_arg3)
      ∧ r.2.mem ((c.tc : Thread Cert.AsgKernel.nD Cert.AsgKernel.τ).loc Cert.AsgKernel.main_arg4) = m ((c.tc : Thread Cert.AsgKernel.nD Cert.AsgKernel.τ).loc Cert.AsgKernel.main_arg4)
      ∧ r.2.mem ((c.tc : Thread Cert.AsgKernel.nD Cert.AsgKernel.τ).loc Cert.AsgKernel.main_arg5) = m ((c.tc : Thread Cert.AsgKernel.nD Cert.AsgKernel.τ).loc Cert.AsgKernel.main_arg5)
      ∧ r.2.mem ((c.tc : Thread Cert.AsgKernel.nD Cert.AsgKernel.τ).loc Cert.AsgKernel.main_arg6) = m ((c.tc : Thread Cert.AsgKernel.nD Cert.AsgKernel.τ).loc Cert.AsgKernel.main_arg6)
      ∧ r.2.mem ((c.tc : Thread Cert.AsgKernel.nD Cert.AsgKernel.τ).loc Cert.AsgKernel.main_arg7) = m ((c.tc : Thread Cert.AsgKernel.nD Cert.AsgKernel.τ).loc Cert.AsgKernel.main_arg7))
      ∧ r.2.sem = fun _ => 0)

def quiescent_AsgKernelIdeal [hAsgKernelIdeal : Cert.AsgKernelIdeal.Facts] : Prop :=
  ∀ (m : (ℓ : Loc Cert.AsgKernelIdeal.nD Cert.AsgKernelIdeal.τ Cert.AsgKernelIdeal.sig) → Buf (Elt Ideal) ℓ) (g : Dev Cert.AsgKernelIdeal.nD → PrngReg), Pre_AsgKernelIdeal m →
    θ_run (Cert.AsgKernelIdeal.defs (F := Ideal)) (onTc (τ := Cert.AsgKernelIdeal.τ) (Cert.AsgKernelIdeal.main (F := Ideal))) ⟨m, fun _ => 0, g⟩ (fun r => (∀ c : Dev Cert.AsgKernelIdeal.nD,
      r.2.mem ((c.tc : Thread Cert.AsgKernelIdeal.nD Cert.AsgKernelIdeal.τ).loc Cert.AsgKernelIdeal.main_arg0) = m ((c.tc : Thread Cert.AsgKernelIdeal.nD Cert.AsgKernelIdeal.τ).loc Cert.AsgKernelIdeal.main_arg0)
      ∧ r.2.mem ((c.tc : Thread Cert.AsgKernelIdeal.nD Cert.AsgKernelIdeal.τ).loc Cert.AsgKernelIdeal.main_arg1) = m ((c.tc : Thread Cert.AsgKernelIdeal.nD Cert.AsgKernelIdeal.τ).loc Cert.AsgKernelIdeal.main_arg1)
      ∧ r.2.mem ((c.tc : Thread Cert.AsgKernelIdeal.nD Cert.AsgKernelIdeal.τ).loc Cert.AsgKernelIdeal.main_arg2) = m ((c.tc : Thread Cert.AsgKernelIdeal.nD Cert.AsgKernelIdeal.τ).loc Cert.AsgKernelIdeal.main_arg2)
      ∧ r.2.mem ((c.tc : Thread Cert.AsgKernelIdeal.nD Cert.AsgKernelIdeal.τ).loc Cert.AsgKernelIdeal.main_arg3) = m ((c.tc : Thread Cert.AsgKernelIdeal.nD Cert.AsgKernelIdeal.τ).loc Cert.AsgKernelIdeal.main_arg3)
      ∧ r.2.mem ((c.tc : Thread Cert.AsgKernelIdeal.nD Cert.AsgKernelIdeal.τ).loc Cert.AsgKernelIdeal.main_arg4) = m ((c.tc : Thread Cert.AsgKernelIdeal.nD Cert.AsgKernelIdeal.τ).loc Cert.AsgKernelIdeal.main_arg4)
      ∧ r.2.mem ((c.tc : Thread Cert.AsgKernelIdeal.nD Cert.AsgKernelIdeal.τ).loc Cert.AsgKernelIdeal.main_arg5) = m ((c.tc : Thread Cert.AsgKernelIdeal.nD Cert.AsgKernelIdeal.τ).loc Cert.AsgKernelIdeal.main_arg5)
      ∧ r.2.mem ((c.tc : Thread Cert.AsgKernelIdeal.nD Cert.AsgKernelIdeal.τ).loc Cert.AsgKernelIdeal.main_arg6) = m ((c.tc : Thread Cert.AsgKernelIdeal.nD Cert.AsgKernelIdeal.τ).loc Cert.AsgKernelIdeal.main_arg6)
      ∧ r.2.mem ((c.tc : Thread Cert.AsgKernelIdeal.nD Cert.AsgKernelIdeal.τ).loc Cert.AsgKernelIdeal.main_arg7) = m ((c.tc : Thread Cert.AsgKernelIdeal.nD Cert.AsgKernelIdeal.τ).loc Cert.AsgKernelIdeal.main_arg7))
      ∧ r.2.sem = fun _ => 0)

def quiescent_AsgReferenceIdeal [hAsgReferenceIdeal : Cert.AsgReferenceIdeal.Facts] : Prop :=
  ∀ (m : (ℓ : Loc Cert.AsgReferenceIdeal.nD Cert.AsgReferenceIdeal.τ Cert.AsgReferenceIdeal.sig) → Buf (Elt Ideal) ℓ) (g : Dev Cert.AsgReferenceIdeal.nD → PrngReg), Pre_AsgReferenceIdeal m →
    θ_run (Cert.AsgReferenceIdeal.defs (F := Ideal)) (onTc (τ := Cert.AsgReferenceIdeal.τ) (Cert.AsgReferenceIdeal.main (F := Ideal))) ⟨m, fun _ => 0, g⟩ (fun r => (∀ c : Dev Cert.AsgReferenceIdeal.nD,
      r.2.mem ((c.tc : Thread Cert.AsgReferenceIdeal.nD Cert.AsgReferenceIdeal.τ).loc Cert.AsgReferenceIdeal.main_arg0) = m ((c.tc : Thread Cert.AsgReferenceIdeal.nD Cert.AsgReferenceIdeal.τ).loc Cert.AsgReferenceIdeal.main_arg0)
      ∧ r.2.mem ((c.tc : Thread Cert.AsgReferenceIdeal.nD Cert.AsgReferenceIdeal.τ).loc Cert.AsgReferenceIdeal.main_arg1) = m ((c.tc : Thread Cert.AsgReferenceIdeal.nD Cert.AsgReferenceIdeal.τ).loc Cert.AsgReferenceIdeal.main_arg1)
      ∧ r.2.mem ((c.tc : Thread Cert.AsgReferenceIdeal.nD Cert.AsgReferenceIdeal.τ).loc Cert.AsgReferenceIdeal.main_arg2) = m ((c.tc : Thread Cert.AsgReferenceIdeal.nD Cert.AsgReferenceIdeal.τ).loc Cert.AsgReferenceIdeal.main_arg2)
      ∧ r.2.mem ((c.tc : Thread Cert.AsgReferenceIdeal.nD Cert.AsgReferenceIdeal.τ).loc Cert.AsgReferenceIdeal.main_arg3) = m ((c.tc : Thread Cert.AsgReferenceIdeal.nD Cert.AsgReferenceIdeal.τ).loc Cert.AsgReferenceIdeal.main_arg3)
      ∧ r.2.mem ((c.tc : Thread Cert.AsgReferenceIdeal.nD Cert.AsgReferenceIdeal.τ).loc Cert.AsgReferenceIdeal.main_arg4) = m ((c.tc : Thread Cert.AsgReferenceIdeal.nD Cert.AsgReferenceIdeal.τ).loc Cert.AsgReferenceIdeal.main_arg4)
      ∧ r.2.mem ((c.tc : Thread Cert.AsgReferenceIdeal.nD Cert.AsgReferenceIdeal.τ).loc Cert.AsgReferenceIdeal.main_arg5) = m ((c.tc : Thread Cert.AsgReferenceIdeal.nD Cert.AsgReferenceIdeal.τ).loc Cert.AsgReferenceIdeal.main_arg5)
      ∧ r.2.mem ((c.tc : Thread Cert.AsgReferenceIdeal.nD Cert.AsgReferenceIdeal.τ).loc Cert.AsgReferenceIdeal.main_arg6) = m ((c.tc : Thread Cert.AsgReferenceIdeal.nD Cert.AsgReferenceIdeal.τ).loc Cert.AsgReferenceIdeal.main_arg6)
      ∧ r.2.mem ((c.tc : Thread Cert.AsgReferenceIdeal.nD Cert.AsgReferenceIdeal.τ).loc Cert.AsgReferenceIdeal.main_arg7) = m ((c.tc : Thread Cert.AsgReferenceIdeal.nD Cert.AsgReferenceIdeal.τ).loc Cert.AsgReferenceIdeal.main_arg7))
      ∧ r.2.sem = fun _ => 0)

def quiescent_AsbKernel [hAsbKernel : Cert.AsbKernel.Facts] : Prop :=
  ∀ (m : (ℓ : Loc Cert.AsbKernel.nD Cert.AsbKernel.τ Cert.AsbKernel.sig) → Buf (Elt Bits) ℓ) (g : Dev Cert.AsbKernel.nD → PrngReg), Pre_AsbKernel m →
    θ_run (Cert.AsbKernel.defs (F := Bits)) (onTc (τ := Cert.AsbKernel.τ) (Cert.AsbKernel.main (F := Bits))) ⟨m, fun _ => 0, g⟩ (fun r => (∀ c : Dev Cert.AsbKernel.nD,
      r.2.mem ((c.tc : Thread Cert.AsbKernel.nD Cert.AsbKernel.τ).loc Cert.AsbKernel.main_arg0) = m ((c.tc : Thread Cert.AsbKernel.nD Cert.AsbKernel.τ).loc Cert.AsbKernel.main_arg0)
      ∧ r.2.mem ((c.tc : Thread Cert.AsbKernel.nD Cert.AsbKernel.τ).loc Cert.AsbKernel.main_arg1) = m ((c.tc : Thread Cert.AsbKernel.nD Cert.AsbKernel.τ).loc Cert.AsbKernel.main_arg1)
      ∧ r.2.mem ((c.tc : Thread Cert.AsbKernel.nD Cert.AsbKernel.τ).loc Cert.AsbKernel.main_arg2) = m ((c.tc : Thread Cert.AsbKernel.nD Cert.AsbKernel.τ).loc Cert.AsbKernel.main_arg2)
      ∧ r.2.mem ((c.tc : Thread Cert.AsbKernel.nD Cert.AsbKernel.τ).loc Cert.AsbKernel.main_arg3) = m ((c.tc : Thread Cert.AsbKernel.nD Cert.AsbKernel.τ).loc Cert.AsbKernel.main_arg3)
      ∧ r.2.mem ((c.tc : Thread Cert.AsbKernel.nD Cert.AsbKernel.τ).loc Cert.AsbKernel.main_arg4) = m ((c.tc : Thread Cert.AsbKernel.nD Cert.AsbKernel.τ).loc Cert.AsbKernel.main_arg4)
      ∧ r.2.mem ((c.tc : Thread Cert.AsbKernel.nD Cert.AsbKernel.τ).loc Cert.AsbKernel.main_arg5) = m ((c.tc : Thread Cert.AsbKernel.nD Cert.AsbKernel.τ).loc Cert.AsbKernel.main_arg5)
      ∧ r.2.mem ((c.tc : Thread Cert.AsbKernel.nD Cert.AsbKernel.τ).loc Cert.AsbKernel.main_arg6) = m ((c.tc : Thread Cert.AsbKernel.nD Cert.AsbKernel.τ).loc Cert.AsbKernel.main_arg6)
      ∧ r.2.mem ((c.tc : Thread Cert.AsbKernel.nD Cert.AsbKernel.τ).loc Cert.AsbKernel.main_arg7) = m ((c.tc : Thread Cert.AsbKernel.nD Cert.AsbKernel.τ).loc Cert.AsbKernel.main_arg7)
      ∧ r.2.mem ((c.tc : Thread Cert.AsbKernel.nD Cert.AsbKernel.τ).loc Cert.AsbKernel.main_arg8) = m ((c.tc : Thread Cert.AsbKernel.nD Cert.AsbKernel.τ).loc Cert.AsbKernel.main_arg8)
      ∧ r.2.mem ((c.tc : Thread Cert.AsbKernel.nD Cert.AsbKernel.τ).loc Cert.AsbKernel.main_arg9) = m ((c.tc : Thread Cert.AsbKernel.nD Cert.AsbKernel.τ).loc Cert.AsbKernel.main_arg9)
      ∧ r.2.mem ((c.tc : Thread Cert.AsbKernel.nD Cert.AsbKernel.τ).loc Cert.AsbKernel.main_arg10) = m ((c.tc : Thread Cert.AsbKernel.nD Cert.AsbKernel.τ).loc Cert.AsbKernel.main_arg10)
      ∧ r.2.mem ((c.tc : Thread Cert.AsbKernel.nD Cert.AsbKernel.τ).loc Cert.AsbKernel.main_arg11) = m ((c.tc : Thread Cert.AsbKernel.nD Cert.AsbKernel.τ).loc Cert.AsbKernel.main_arg11)
      ∧ r.2.mem ((c.tc : Thread Cert.AsbKernel.nD Cert.AsbKernel.τ).loc Cert.AsbKernel.main_arg12) = m ((c.tc : Thread Cert.AsbKernel.nD Cert.AsbKernel.τ).loc Cert.AsbKernel.main_arg12)
      ∧ r.2.mem ((c.tc : Thread Cert.AsbKernel.nD Cert.AsbKernel.τ).loc Cert.AsbKernel.main_arg13) = m ((c.tc : Thread Cert.AsbKernel.nD Cert.AsbKernel.τ).loc Cert.AsbKernel.main_arg13)
      ∧ r.2.mem ((c.tc : Thread Cert.AsbKernel.nD Cert.AsbKernel.τ).loc Cert.AsbKernel.main_arg14) = m ((c.tc : Thread Cert.AsbKernel.nD Cert.AsbKernel.τ).loc Cert.AsbKernel.main_arg14)
      ∧ r.2.mem ((c.tc : Thread Cert.AsbKernel.nD Cert.AsbKernel.τ).loc Cert.AsbKernel.main_arg15) = m ((c.tc : Thread Cert.AsbKernel.nD Cert.AsbKernel.τ).loc Cert.AsbKernel.main_arg15))
      ∧ r.2.sem = fun _ => 0)

def quiescent_AsbKernelIdeal [hAsbKernelIdeal : Cert.AsbKernelIdeal.Facts] : Prop :=
  ∀ (m : (ℓ : Loc Cert.AsbKernelIdeal.nD Cert.AsbKernelIdeal.τ Cert.AsbKernelIdeal.sig) → Buf (Elt Ideal) ℓ) (g : Dev Cert.AsbKernelIdeal.nD → PrngReg), Pre_AsbKernelIdeal m →
    θ_run (Cert.AsbKernelIdeal.defs (F := Ideal)) (onTc (τ := Cert.AsbKernelIdeal.τ) (Cert.AsbKernelIdeal.main (F := Ideal))) ⟨m, fun _ => 0, g⟩ (fun r => (∀ c : Dev Cert.AsbKernelIdeal.nD,
      r.2.mem ((c.tc : Thread Cert.AsbKernelIdeal.nD Cert.AsbKernelIdeal.τ).loc Cert.AsbKernelIdeal.main_arg0) = m ((c.tc : Thread Cert.AsbKernelIdeal.nD Cert.AsbKernelIdeal.τ).loc Cert.AsbKernelIdeal.main_arg0)
      ∧ r.2.mem ((c.tc : Thread Cert.AsbKernelIdeal.nD Cert.AsbKernelIdeal.τ).loc Cert.AsbKernelIdeal.main_arg1) = m ((c.tc : Thread Cert.AsbKernelIdeal.nD Cert.AsbKernelIdeal.τ).loc Cert.AsbKernelIdeal.main_arg1)
      ∧ r.2.mem ((c.tc : Thread Cert.AsbKernelIdeal.nD Cert.AsbKernelIdeal.τ).loc Cert.AsbKernelIdeal.main_arg2) = m ((c.tc : Thread Cert.AsbKernelIdeal.nD Cert.AsbKernelIdeal.τ).loc Cert.AsbKernelIdeal.main_arg2)
      ∧ r.2.mem ((c.tc : Thread Cert.AsbKernelIdeal.nD Cert.AsbKernelIdeal.τ).loc Cert.AsbKernelIdeal.main_arg3) = m ((c.tc : Thread Cert.AsbKernelIdeal.nD Cert.AsbKernelIdeal.τ).loc Cert.AsbKernelIdeal.main_arg3)
      ∧ r.2.mem ((c.tc : Thread Cert.AsbKernelIdeal.nD Cert.AsbKernelIdeal.τ).loc Cert.AsbKernelIdeal.main_arg4) = m ((c.tc : Thread Cert.AsbKernelIdeal.nD Cert.AsbKernelIdeal.τ).loc Cert.AsbKernelIdeal.main_arg4)
      ∧ r.2.mem ((c.tc : Thread Cert.AsbKernelIdeal.nD Cert.AsbKernelIdeal.τ).loc Cert.AsbKernelIdeal.main_arg5) = m ((c.tc : Thread Cert.AsbKernelIdeal.nD Cert.AsbKernelIdeal.τ).loc Cert.AsbKernelIdeal.main_arg5)
      ∧ r.2.mem ((c.tc : Thread Cert.AsbKernelIdeal.nD Cert.AsbKernelIdeal.τ).loc Cert.AsbKernelIdeal.main_arg6) = m ((c.tc : Thread Cert.AsbKernelIdeal.nD Cert.AsbKernelIdeal.τ).loc Cert.AsbKernelIdeal.main_arg6)
      ∧ r.2.mem ((c.tc : Thread Cert.AsbKernelIdeal.nD Cert.AsbKernelIdeal.τ).loc Cert.AsbKernelIdeal.main_arg7) = m ((c.tc : Thread Cert.AsbKernelIdeal.nD Cert.AsbKernelIdeal.τ).loc Cert.AsbKernelIdeal.main_arg7)
      ∧ r.2.mem ((c.tc : Thread Cert.AsbKernelIdeal.nD Cert.AsbKernelIdeal.τ).loc Cert.AsbKernelIdeal.main_arg8) = m ((c.tc : Thread Cert.AsbKernelIdeal.nD Cert.AsbKernelIdeal.τ).loc Cert.AsbKernelIdeal.main_arg8)
      ∧ r.2.mem ((c.tc : Thread Cert.AsbKernelIdeal.nD Cert.AsbKernelIdeal.τ).loc Cert.AsbKernelIdeal.main_arg9) = m ((c.tc : Thread Cert.AsbKernelIdeal.nD Cert.AsbKernelIdeal.τ).loc Cert.AsbKernelIdeal.main_arg9)
      ∧ r.2.mem ((c.tc : Thread Cert.AsbKernelIdeal.nD Cert.AsbKernelIdeal.τ).loc Cert.AsbKernelIdeal.main_arg10) = m ((c.tc : Thread Cert.AsbKernelIdeal.nD Cert.AsbKernelIdeal.τ).loc Cert.AsbKernelIdeal.main_arg10)
      ∧ r.2.mem ((c.tc : Thread Cert.AsbKernelIdeal.nD Cert.AsbKernelIdeal.τ).loc Cert.AsbKernelIdeal.main_arg11) = m ((c.tc : Thread Cert.AsbKernelIdeal.nD Cert.AsbKernelIdeal.τ).loc Cert.AsbKernelIdeal.main_arg11)
      ∧ r.2.mem ((c.tc : Thread Cert.AsbKernelIdeal.nD Cert.AsbKernelIdeal.τ).loc Cert.AsbKernelIdeal.main_arg12) = m ((c.tc : Thread Cert.AsbKernelIdeal.nD Cert.AsbKernelIdeal.τ).loc Cert.AsbKernelIdeal.main_arg12)
      ∧ r.2.mem ((c.tc : Thread Cert.AsbKernelIdeal.nD Cert.AsbKernelIdeal.τ).loc Cert.AsbKernelIdeal.main_arg13) = m ((c.tc : Thread Cert.AsbKernelIdeal.nD Cert.AsbKernelIdeal.τ).loc Cert.AsbKernelIdeal.main_arg13)
      ∧ r.2.mem ((c.tc : Thread Cert.AsbKernelIdeal.nD Cert.AsbKernelIdeal.τ).loc Cert.AsbKernelIdeal.main_arg14) = m ((c.tc : Thread Cert.AsbKernelIdeal.nD Cert.AsbKernelIdeal.τ).loc Cert.AsbKernelIdeal.main_arg14)
      ∧ r.2.mem ((c.tc : Thread Cert.AsbKernelIdeal.nD Cert.AsbKernelIdeal.τ).loc Cert.AsbKernelIdeal.main_arg15) = m ((c.tc : Thread Cert.AsbKernelIdeal.nD Cert.AsbKernelIdeal.τ).loc Cert.AsbKernelIdeal.main_arg15))
      ∧ r.2.sem = fun _ => 0)

def quiescent_AsbReferenceIdeal [hAsbReferenceIdeal : Cert.AsbReferenceIdeal.Facts] : Prop :=
  ∀ (m : (ℓ : Loc Cert.AsbReferenceIdeal.nD Cert.AsbReferenceIdeal.τ Cert.AsbReferenceIdeal.sig) → Buf (Elt Ideal) ℓ) (g : Dev Cert.AsbReferenceIdeal.nD → PrngReg), Pre_AsbReferenceIdeal m →
    θ_run (Cert.AsbReferenceIdeal.defs (F := Ideal)) (onTc (τ := Cert.AsbReferenceIdeal.τ) (Cert.AsbReferenceIdeal.main (F := Ideal))) ⟨m, fun _ => 0, g⟩ (fun r => (∀ c : Dev Cert.AsbReferenceIdeal.nD,
      r.2.mem ((c.tc : Thread Cert.AsbReferenceIdeal.nD Cert.AsbReferenceIdeal.τ).loc Cert.AsbReferenceIdeal.main_arg0) = m ((c.tc : Thread Cert.AsbReferenceIdeal.nD Cert.AsbReferenceIdeal.τ).loc Cert.AsbReferenceIdeal.main_arg0)
      ∧ r.2.mem ((c.tc : Thread Cert.AsbReferenceIdeal.nD Cert.AsbReferenceIdeal.τ).loc Cert.AsbReferenceIdeal.main_arg1) = m ((c.tc : Thread Cert.AsbReferenceIdeal.nD Cert.AsbReferenceIdeal.τ).loc Cert.AsbReferenceIdeal.main_arg1)
      ∧ r.2.mem ((c.tc : Thread Cert.AsbReferenceIdeal.nD Cert.AsbReferenceIdeal.τ).loc Cert.AsbReferenceIdeal.main_arg2) = m ((c.tc : Thread Cert.AsbReferenceIdeal.nD Cert.AsbReferenceIdeal.τ).loc Cert.AsbReferenceIdeal.main_arg2)
      ∧ r.2.mem ((c.tc : Thread Cert.AsbReferenceIdeal.nD Cert.AsbReferenceIdeal.τ).loc Cert.AsbReferenceIdeal.main_arg3) = m ((c.tc : Thread Cert.AsbReferenceIdeal.nD Cert.AsbReferenceIdeal.τ).loc Cert.AsbReferenceIdeal.main_arg3)
      ∧ r.2.mem ((c.tc : Thread Cert.AsbReferenceIdeal.nD Cert.AsbReferenceIdeal.τ).loc Cert.AsbReferenceIdeal.main_arg4) = m ((c.tc : Thread Cert.AsbReferenceIdeal.nD Cert.AsbReferenceIdeal.τ).loc Cert.AsbReferenceIdeal.main_arg4)
      ∧ r.2.mem ((c.tc : Thread Cert.AsbReferenceIdeal.nD Cert.AsbReferenceIdeal.τ).loc Cert.AsbReferenceIdeal.main_arg5) = m ((c.tc : Thread Cert.AsbReferenceIdeal.nD Cert.AsbReferenceIdeal.τ).loc Cert.AsbReferenceIdeal.main_arg5)
      ∧ r.2.mem ((c.tc : Thread Cert.AsbReferenceIdeal.nD Cert.AsbReferenceIdeal.τ).loc Cert.AsbReferenceIdeal.main_arg6) = m ((c.tc : Thread Cert.AsbReferenceIdeal.nD Cert.AsbReferenceIdeal.τ).loc Cert.AsbReferenceIdeal.main_arg6)
      ∧ r.2.mem ((c.tc : Thread Cert.AsbReferenceIdeal.nD Cert.AsbReferenceIdeal.τ).loc Cert.AsbReferenceIdeal.main_arg7) = m ((c.tc : Thread Cert.AsbReferenceIdeal.nD Cert.AsbReferenceIdeal.τ).loc Cert.AsbReferenceIdeal.main_arg7)
      ∧ r.2.mem ((c.tc : Thread Cert.AsbReferenceIdeal.nD Cert.AsbReferenceIdeal.τ).loc Cert.AsbReferenceIdeal.main_arg8) = m ((c.tc : Thread Cert.AsbReferenceIdeal.nD Cert.AsbReferenceIdeal.τ).loc Cert.AsbReferenceIdeal.main_arg8)
      ∧ r.2.mem ((c.tc : Thread Cert.AsbReferenceIdeal.nD Cert.AsbReferenceIdeal.τ).loc Cert.AsbReferenceIdeal.main_arg9) = m ((c.tc : Thread Cert.AsbReferenceIdeal.nD Cert.AsbReferenceIdeal.τ).loc Cert.AsbReferenceIdeal.main_arg9)
      ∧ r.2.mem ((c.tc : Thread Cert.AsbReferenceIdeal.nD Cert.AsbReferenceIdeal.τ).loc Cert.AsbReferenceIdeal.main_arg10) = m ((c.tc : Thread Cert.AsbReferenceIdeal.nD Cert.AsbReferenceIdeal.τ).loc Cert.AsbReferenceIdeal.main_arg10)
      ∧ r.2.mem ((c.tc : Thread Cert.AsbReferenceIdeal.nD Cert.AsbReferenceIdeal.τ).loc Cert.AsbReferenceIdeal.main_arg11) = m ((c.tc : Thread Cert.AsbReferenceIdeal.nD Cert.AsbReferenceIdeal.τ).loc Cert.AsbReferenceIdeal.main_arg11)
      ∧ r.2.mem ((c.tc : Thread Cert.AsbReferenceIdeal.nD Cert.AsbReferenceIdeal.τ).loc Cert.AsbReferenceIdeal.main_arg12) = m ((c.tc : Thread Cert.AsbReferenceIdeal.nD Cert.AsbReferenceIdeal.τ).loc Cert.AsbReferenceIdeal.main_arg12)
      ∧ r.2.mem ((c.tc : Thread Cert.AsbReferenceIdeal.nD Cert.AsbReferenceIdeal.τ).loc Cert.AsbReferenceIdeal.main_arg13) = m ((c.tc : Thread Cert.AsbReferenceIdeal.nD Cert.AsbReferenceIdeal.τ).loc Cert.AsbReferenceIdeal.main_arg13)
      ∧ r.2.mem ((c.tc : Thread Cert.AsbReferenceIdeal.nD Cert.AsbReferenceIdeal.τ).loc Cert.AsbReferenceIdeal.main_arg14) = m ((c.tc : Thread Cert.AsbReferenceIdeal.nD Cert.AsbReferenceIdeal.τ).loc Cert.AsbReferenceIdeal.main_arg14)
      ∧ r.2.mem ((c.tc : Thread Cert.AsbReferenceIdeal.nD Cert.AsbReferenceIdeal.τ).loc Cert.AsbReferenceIdeal.main_arg15) = m ((c.tc : Thread Cert.AsbReferenceIdeal.nD Cert.AsbReferenceIdeal.τ).loc Cert.AsbReferenceIdeal.main_arg15))
      ∧ r.2.sem = fun _ => 0)

def preserves_OutKernel_OutKernelIdeal : Prop :=
  True

def algebraic_OutKernelIdeal_OutReferenceIdeal_pre_out_finite [hOutKernelIdeal : Cert.OutKernelIdeal.Facts] [hOutReferenceIdeal : Cert.OutReferenceIdeal.Facts] [hPre_out_finite : Cert.Pre_out_finite.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal_out_finite m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)) →
    ∃ (v0 : (c : Dev Cert.OutKernelIdeal.nD) → Buf (Elt Ideal) ((c.tc : Thread Cert.OutKernelIdeal.nD Cert.OutKernelIdeal.τ).loc Cert.OutKernelIdeal.main_v6_0)) (v1 : (c : Dev Cert.OutKernelIdeal.nD) → Buf (Elt Ideal) ((c.tc : Thread Cert.OutKernelIdeal.nD Cert.OutKernelIdeal.τ).loc Cert.OutKernelIdeal.main_v6_1)) (v2 : (c : Dev Cert.OutKernelIdeal.nD) → Buf (Elt Ideal) ((c.tc : Thread Cert.OutKernelIdeal.nD Cert.OutKernelIdeal.τ).loc Cert.OutKernelIdeal.main_v6_2)) (v3 : (c : Dev Cert.OutKernelIdeal.nD) → Buf (Elt Ideal) ((c.tc : Thread Cert.OutKernelIdeal.nD Cert.OutKernelIdeal.τ).loc Cert.OutKernelIdeal.main_v6_3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v6_0) = v0 c
          ∧ r.2.mem ((c.tc : Thread Cert.OutKernelIdeal.nD Cert.OutKernelIdeal.τ).loc Cert.OutKernelIdeal.main_v6_1) = v1 c
          ∧ r.2.mem ((c.tc : Thread Cert.OutKernelIdeal.nD Cert.OutKernelIdeal.τ).loc Cert.OutKernelIdeal.main_v6_2) = v2 c
          ∧ r.2.mem ((c.tc : Thread Cert.OutKernelIdeal.nD Cert.OutKernelIdeal.τ).loc Cert.OutKernelIdeal.main_v6_3) = v3 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v32) = v0 c
          ∧ r.2.mem ((c.tc : Thread Cert.OutReferenceIdeal.nD Cert.OutReferenceIdeal.τ).loc Cert.OutReferenceIdeal.main_v69) = v1 c
          ∧ r.2.mem ((c.tc : Thread Cert.OutReferenceIdeal.nD Cert.OutReferenceIdeal.τ).loc Cert.OutReferenceIdeal.main_v68) = v2 c
          ∧ r.2.mem ((c.tc : Thread Cert.OutReferenceIdeal.nD Cert.OutReferenceIdeal.τ).loc Cert.OutReferenceIdeal.main_v35) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_LruKernel_LruKernelIdeal : Prop :=
  IdealRules.named_const.Statement Cert.LruKernelIdeal.κ "log_series" .f32 0x3C23D70A#32 ⊥
  ∧ IdealRules.named_const.Statement Cert.LruKernelIdeal.κ "sq_series" .f32 0xBC23D70A#32 ⊤

def algebraic_LruKernelIdeal_LruReferenceIdeal_pre_lru_finite [hLruKernelIdeal : Cert.LruKernelIdeal.Facts] [hLruReferenceIdeal : Cert.LruReferenceIdeal.Facts] [hPre_lru_finite : Cert.Pre_lru_finite.Facts] : Prop :=
  ∀ (m : (ℓ : Loc Cert.LruKernelIdeal.nD Cert.LruKernelIdeal.τ Cert.LruKernelIdeal.sig) → Buf (Elt Ideal) ℓ) (g : Dev Cert.LruKernelIdeal.nD → PrngReg)
    (m' : (ℓ : Loc Cert.LruReferenceIdeal.nD Cert.LruReferenceIdeal.τ Cert.LruReferenceIdeal.sig) → Buf (Elt Ideal) ℓ) (g' : Dev Cert.LruReferenceIdeal.nD → PrngReg), Pre_LruKernelIdeal_lru_finite m →
    (∀ c : Dev Cert.LruKernelIdeal.nD,
      m' ((c.tc : Thread Cert.LruReferenceIdeal.nD Cert.LruReferenceIdeal.τ).loc Cert.LruReferenceIdeal.main_arg0) = m ((c.tc : Thread Cert.LruKernelIdeal.nD Cert.LruKernelIdeal.τ).loc Cert.LruKernelIdeal.main_arg0)
      ∧ m' ((c.tc : Thread Cert.LruReferenceIdeal.nD Cert.LruReferenceIdeal.τ).loc Cert.LruReferenceIdeal.main_arg1) = m ((c.tc : Thread Cert.LruKernelIdeal.nD Cert.LruKernelIdeal.τ).loc Cert.LruKernelIdeal.main_arg1)
      ∧ m' ((c.tc : Thread Cert.LruReferenceIdeal.nD Cert.LruReferenceIdeal.τ).loc Cert.LruReferenceIdeal.main_arg2) = m ((c.tc : Thread Cert.LruKernelIdeal.nD Cert.LruKernelIdeal.τ).loc Cert.LruKernelIdeal.main_arg2)
      ∧ m' ((c.tc : Thread Cert.LruReferenceIdeal.nD Cert.LruReferenceIdeal.τ).loc Cert.LruReferenceIdeal.main_arg3) = m ((c.tc : Thread Cert.LruKernelIdeal.nD Cert.LruKernelIdeal.τ).loc Cert.LruKernelIdeal.main_arg3)
      ∧ m' ((c.tc : Thread Cert.LruReferenceIdeal.nD Cert.LruReferenceIdeal.τ).loc Cert.LruReferenceIdeal.main_arg4) = m ((c.tc : Thread Cert.LruKernelIdeal.nD Cert.LruKernelIdeal.τ).loc Cert.LruKernelIdeal.main_arg4)
      ∧ m' ((c.tc : Thread Cert.LruReferenceIdeal.nD Cert.LruReferenceIdeal.τ).loc Cert.LruReferenceIdeal.main_arg5) = m ((c.tc : Thread Cert.LruKernelIdeal.nD Cert.LruKernelIdeal.τ).loc Cert.LruKernelIdeal.main_arg5)
      ∧ m' ((c.tc : Thread Cert.LruReferenceIdeal.nD Cert.LruReferenceIdeal.τ).loc Cert.LruReferenceIdeal.main_arg6) = m ((c.tc : Thread Cert.LruKernelIdeal.nD Cert.LruKernelIdeal.τ).loc Cert.LruKernelIdeal.main_arg6)
      ∧ m' ((c.tc : Thread Cert.LruReferenceIdeal.nD Cert.LruReferenceIdeal.τ).loc Cert.LruReferenceIdeal.main_arg7) = m ((c.tc : Thread Cert.LruKernelIdeal.nD Cert.LruKernelIdeal.τ).loc Cert.LruKernelIdeal.main_arg7)
      ∧ m' ((c.tc : Thread Cert.LruReferenceIdeal.nD Cert.LruReferenceIdeal.τ).loc Cert.LruReferenceIdeal.main_arg8) = m ((c.tc : Thread Cert.LruKernelIdeal.nD Cert.LruKernelIdeal.τ).loc Cert.LruKernelIdeal.main_arg8)
      ∧ m' ((c.tc : Thread Cert.LruReferenceIdeal.nD Cert.LruReferenceIdeal.τ).loc Cert.LruReferenceIdeal.main_arg9) = m ((c.tc : Thread Cert.LruKernelIdeal.nD Cert.LruKernelIdeal.τ).loc Cert.LruKernelIdeal.main_arg9)) →
    ∃ (v0 : (c : Dev Cert.LruKernelIdeal.nD) → Buf (Elt Ideal) ((c.tc : Thread Cert.LruKernelIdeal.nD Cert.LruKernelIdeal.τ).loc Cert.LruKernelIdeal.main_v11)) (v1 : (c : Dev Cert.LruKernelIdeal.nD) → Buf (Elt Ideal) ((c.tc : Thread Cert.LruKernelIdeal.nD Cert.LruKernelIdeal.τ).loc Cert.LruKernelIdeal.main_v12)) (v2 : (c : Dev Cert.LruKernelIdeal.nD) → Buf (Elt Ideal) ((c.tc : Thread Cert.LruKernelIdeal.nD Cert.LruKernelIdeal.τ).loc Cert.LruKernelIdeal.main_v9_1)) (v3 : (c : Dev Cert.LruKernelIdeal.nD) → Buf (Elt Ideal) ((c.tc : Thread Cert.LruKernelIdeal.nD Cert.LruKernelIdeal.τ).loc Cert.LruKernelIdeal.main_v9_2)) (v4 : (c : Dev Cert.LruKernelIdeal.nD) → Buf (Elt Ideal) ((c.tc : Thread Cert.LruKernelIdeal.nD Cert.LruKernelIdeal.τ).loc Cert.LruKernelIdeal.main_v9_3)) (v5 : (c : Dev Cert.LruKernelIdeal.nD) → Buf (Elt Ideal) ((c.tc : Thread Cert.LruKernelIdeal.nD Cert.LruKernelIdeal.τ).loc Cert.LruKernelIdeal.main_v9_4)) (v6 : (c : Dev Cert.LruKernelIdeal.nD) → Buf (Elt Ideal) ((c.tc : Thread Cert.LruKernelIdeal.nD Cert.LruKernelIdeal.τ).loc Cert.LruKernelIdeal.main_v9_5)) (v7 : (c : Dev Cert.LruKernelIdeal.nD) → Buf (Elt Ideal) ((c.tc : Thread Cert.LruKernelIdeal.nD Cert.LruKernelIdeal.τ).loc Cert.LruKernelIdeal.main_v9_6)) (v8 : (c : Dev Cert.LruKernelIdeal.nD) → Buf (Elt Ideal) ((c.tc : Thread Cert.LruKernelIdeal.nD Cert.LruKernelIdeal.τ).loc Cert.LruKernelIdeal.main_v9_7)),
      θ_run (Cert.LruKernelIdeal.defs (F := Ideal)) (onTc (τ := Cert.LruKernelIdeal.τ) (Cert.LruKernelIdeal.main (F := Ideal))) ⟨m, fun _ => 0, g⟩ (fun r => ∀ c : Dev Cert.LruKernelIdeal.nD,
          r.2.mem ((c.tc : Thread Cert.LruKernelIdeal.nD Cert.LruKernelIdeal.τ).loc Cert.LruKernelIdeal.main_v11) = v0 c
          ∧ r.2.mem ((c.tc : Thread Cert.LruKernelIdeal.nD Cert.LruKernelIdeal.τ).loc Cert.LruKernelIdeal.main_v12) = v1 c
          ∧ r.2.mem ((c.tc : Thread Cert.LruKernelIdeal.nD Cert.LruKernelIdeal.τ).loc Cert.LruKernelIdeal.main_v9_1) = v2 c
          ∧ r.2.mem ((c.tc : Thread Cert.LruKernelIdeal.nD Cert.LruKernelIdeal.τ).loc Cert.LruKernelIdeal.main_v9_2) = v3 c
          ∧ r.2.mem ((c.tc : Thread Cert.LruKernelIdeal.nD Cert.LruKernelIdeal.τ).loc Cert.LruKernelIdeal.main_v9_3) = v4 c
          ∧ r.2.mem ((c.tc : Thread Cert.LruKernelIdeal.nD Cert.LruKernelIdeal.τ).loc Cert.LruKernelIdeal.main_v9_4) = v5 c
          ∧ r.2.mem ((c.tc : Thread Cert.LruKernelIdeal.nD Cert.LruKernelIdeal.τ).loc Cert.LruKernelIdeal.main_v9_5) = v6 c
          ∧ r.2.mem ((c.tc : Thread Cert.LruKernelIdeal.nD Cert.LruKernelIdeal.τ).loc Cert.LruKernelIdeal.main_v9_6) = v7 c
          ∧ r.2.mem ((c.tc : Thread Cert.LruKernelIdeal.nD Cert.LruKernelIdeal.τ).loc Cert.LruKernelIdeal.main_v9_7) = v8 c
          ∧ r.2.mem ((c.tc : Thread Cert.LruKernelIdeal.nD Cert.LruKernelIdeal.τ).loc Cert.LruKernelIdeal.main_arg0) = m ((c.tc : Thread Cert.LruKernelIdeal.nD Cert.LruKernelIdeal.τ).loc Cert.LruKernelIdeal.main_arg0)
          ∧ r.2.mem ((c.tc : Thread Cert.LruKernelIdeal.nD Cert.LruKernelIdeal.τ).loc Cert.LruKernelIdeal.main_arg1) = m ((c.tc : Thread Cert.LruKernelIdeal.nD Cert.LruKernelIdeal.τ).loc Cert.LruKernelIdeal.main_arg1)
          ∧ r.2.mem ((c.tc : Thread Cert.LruKernelIdeal.nD Cert.LruKernelIdeal.τ).loc Cert.LruKernelIdeal.main_arg2) = m ((c.tc : Thread Cert.LruKernelIdeal.nD Cert.LruKernelIdeal.τ).loc Cert.LruKernelIdeal.main_arg2)
          ∧ r.2.mem ((c.tc : Thread Cert.LruKernelIdeal.nD Cert.LruKernelIdeal.τ).loc Cert.LruKernelIdeal.main_arg3) = m ((c.tc : Thread Cert.LruKernelIdeal.nD Cert.LruKernelIdeal.τ).loc Cert.LruKernelIdeal.main_arg3)
          ∧ r.2.mem ((c.tc : Thread Cert.LruKernelIdeal.nD Cert.LruKernelIdeal.τ).loc Cert.LruKernelIdeal.main_arg4) = m ((c.tc : Thread Cert.LruKernelIdeal.nD Cert.LruKernelIdeal.τ).loc Cert.LruKernelIdeal.main_arg4)
          ∧ r.2.mem ((c.tc : Thread Cert.LruKernelIdeal.nD Cert.LruKernelIdeal.τ).loc Cert.LruKernelIdeal.main_arg5) = m ((c.tc : Thread Cert.LruKernelIdeal.nD Cert.LruKernelIdeal.τ).loc Cert.LruKernelIdeal.main_arg5)
          ∧ r.2.mem ((c.tc : Thread Cert.LruKernelIdeal.nD Cert.LruKernelIdeal.τ).loc Cert.LruKernelIdeal.main_arg6) = m ((c.tc : Thread Cert.LruKernelIdeal.nD Cert.LruKernelIdeal.τ).loc Cert.LruKernelIdeal.main_arg6)
          ∧ r.2.mem ((c.tc : Thread Cert.LruKernelIdeal.nD Cert.LruKernelIdeal.τ).loc Cert.LruKernelIdeal.main_arg7) = m ((c.tc : Thread Cert.LruKernelIdeal.nD Cert.LruKernelIdeal.τ).loc Cert.LruKernelIdeal.main_arg7)
          ∧ r.2.mem ((c.tc : Thread Cert.LruKernelIdeal.nD Cert.LruKernelIdeal.τ).loc Cert.LruKernelIdeal.main_arg8) = m ((c.tc : Thread Cert.LruKernelIdeal.nD Cert.LruKernelIdeal.τ).loc Cert.LruKernelIdeal.main_arg8)
          ∧ r.2.mem ((c.tc : Thread Cert.LruKernelIdeal.nD Cert.LruKernelIdeal.τ).loc Cert.LruKernelIdeal.main_arg9) = m ((c.tc : Thread Cert.LruKernelIdeal.nD Cert.LruKernelIdeal.τ).loc Cert.LruKernelIdeal.main_arg9))
      ∧ θ_run (Cert.LruReferenceIdeal.defs (F := Ideal)) (onTc (τ := Cert.LruReferenceIdeal.τ) (Cert.LruReferenceIdeal.main (F := Ideal))) ⟨m', fun _ => 0, g'⟩ (fun r => ∀ c : Dev Cert.LruReferenceIdeal.nD,
          r.2.mem ((c.tc : Thread Cert.LruReferenceIdeal.nD Cert.LruReferenceIdeal.τ).loc Cert.LruReferenceIdeal.main_v191) = v0 c
          ∧ r.2.mem ((c.tc : Thread Cert.LruReferenceIdeal.nD Cert.LruReferenceIdeal.τ).loc Cert.LruReferenceIdeal.main_v195) = v1 c
          ∧ r.2.mem ((c.tc : Thread Cert.LruReferenceIdeal.nD Cert.LruReferenceIdeal.τ).loc Cert.LruReferenceIdeal.main_v138) = v2 c
          ∧ r.2.mem ((c.tc : Thread Cert.LruReferenceIdeal.nD Cert.LruReferenceIdeal.τ).loc Cert.LruReferenceIdeal.main_v127) = v3 c
          ∧ r.2.mem ((c.tc : Thread Cert.LruReferenceIdeal.nD Cert.LruReferenceIdeal.τ).loc Cert.LruReferenceIdeal.main_v196) = v4 c
          ∧ r.2.mem ((c.tc : Thread Cert.LruReferenceIdeal.nD Cert.LruReferenceIdeal.τ).loc Cert.LruReferenceIdeal.main_v197) = v5 c
          ∧ r.2.mem ((c.tc : Thread Cert.LruReferenceIdeal.nD Cert.LruReferenceIdeal.τ).loc Cert.LruReferenceIdeal.main_v113) = v6 c
          ∧ r.2.mem ((c.tc : Thread Cert.LruReferenceIdeal.nD Cert.LruReferenceIdeal.τ).loc Cert.LruReferenceIdeal.main_v184) = v7 c
          ∧ r.2.mem ((c.tc : Thread Cert.LruReferenceIdeal.nD Cert.LruReferenceIdeal.τ).loc Cert.LruReferenceIdeal.main_v173) = v8 c
          ∧ r.2.mem ((c.tc : Thread Cert.LruReferenceIdeal.nD Cert.LruReferenceIdeal.τ).loc Cert.LruReferenceIdeal.main_arg0) = m' ((c.tc : Thread Cert.LruReferenceIdeal.nD Cert.LruReferenceIdeal.τ).loc Cert.LruReferenceIdeal.main_arg0)
          ∧ r.2.mem ((c.tc : Thread Cert.LruReferenceIdeal.nD Cert.LruReferenceIdeal.τ).loc Cert.LruReferenceIdeal.main_arg1) = m' ((c.tc : Thread Cert.LruReferenceIdeal.nD Cert.LruReferenceIdeal.τ).loc Cert.LruReferenceIdeal.main_arg1)
          ∧ r.2.mem ((c.tc : Thread Cert.LruReferenceIdeal.nD Cert.LruReferenceIdeal.τ).loc Cert.LruReferenceIdeal.main_arg2) = m' ((c.tc : Thread Cert.LruReferenceIdeal.nD Cert.LruReferenceIdeal.τ).loc Cert.LruReferenceIdeal.main_arg2)
          ∧ r.2.mem ((c.tc : Thread Cert.LruReferenceIdeal.nD Cert.LruReferenceIdeal.τ).loc Cert.LruReferenceIdeal.main_arg3) = m' ((c.tc : Thread Cert.LruReferenceIdeal.nD Cert.LruReferenceIdeal.τ).loc Cert.LruReferenceIdeal.main_arg3)
          ∧ r.2.mem ((c.tc : Thread Cert.LruReferenceIdeal.nD Cert.LruReferenceIdeal.τ).loc Cert.LruReferenceIdeal.main_arg4) = m' ((c.tc : Thread Cert.LruReferenceIdeal.nD Cert.LruReferenceIdeal.τ).loc Cert.LruReferenceIdeal.main_arg4)
          ∧ r.2.mem ((c.tc : Thread Cert.LruReferenceIdeal.nD Cert.LruReferenceIdeal.τ).loc Cert.LruReferenceIdeal.main_arg5) = m' ((c.tc : Thread Cert.LruReferenceIdeal.nD Cert.LruReferenceIdeal.τ).loc Cert.LruReferenceIdeal.main_arg5)
          ∧ r.2.mem ((c.tc : Thread Cert.LruReferenceIdeal.nD Cert.LruReferenceIdeal.τ).loc Cert.LruReferenceIdeal.main_arg6) = m' ((c.tc : Thread Cert.LruReferenceIdeal.nD Cert.LruReferenceIdeal.τ).loc Cert.LruReferenceIdeal.main_arg6)
          ∧ r.2.mem ((c.tc : Thread Cert.LruReferenceIdeal.nD Cert.LruReferenceIdeal.τ).loc Cert.LruReferenceIdeal.main_arg7) = m' ((c.tc : Thread Cert.LruReferenceIdeal.nD Cert.LruReferenceIdeal.τ).loc Cert.LruReferenceIdeal.main_arg7)
          ∧ r.2.mem ((c.tc : Thread Cert.LruReferenceIdeal.nD Cert.LruReferenceIdeal.τ).loc Cert.LruReferenceIdeal.main_arg8) = m' ((c.tc : Thread Cert.LruReferenceIdeal.nD Cert.LruReferenceIdeal.τ).loc Cert.LruReferenceIdeal.main_arg8)
          ∧ r.2.mem ((c.tc : Thread Cert.LruReferenceIdeal.nD Cert.LruReferenceIdeal.τ).loc Cert.LruReferenceIdeal.main_arg9) = m' ((c.tc : Thread Cert.LruReferenceIdeal.nD Cert.LruReferenceIdeal.τ).loc Cert.LruReferenceIdeal.main_arg9))

def preserves_DxKernel_DxKernelIdeal : Prop :=
  True

def algebraic_DxKernelIdeal_DxReferenceIdeal_pre_dx_finite [hDxKernelIdeal : Cert.DxKernelIdeal.Facts] [hDxReferenceIdeal : Cert.DxReferenceIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal_dx_finite m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)) →
    ∃ (v0 : (c : Dev Cert.DxKernelIdeal.nD) → Buf (Elt Ideal) ((c.tc : Thread Cert.DxKernelIdeal.nD Cert.DxKernelIdeal.τ).loc Cert.DxKernelIdeal.main_v9_0)) (v1 : (c : Dev Cert.DxKernelIdeal.nD) → Buf (Elt Ideal) ((c.tc : Thread Cert.DxKernelIdeal.nD Cert.DxKernelIdeal.τ).loc Cert.DxKernelIdeal.main_v9_1)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v9_0) = v0 c
          ∧ r.2.mem ((c.tc : Thread Cert.DxKernelIdeal.nD Cert.DxKernelIdeal.τ).loc Cert.DxKernelIdeal.main_v9_1) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v36) = v0 c
          ∧ r.2.mem ((c.tc : Thread Cert.DxReferenceIdeal.nD Cert.DxReferenceIdeal.τ).loc Cert.DxReferenceIdeal.main_v19) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_FinKernel_FinKernelIdeal : Prop :=
  True

def algebraic_FinKernelIdeal_FinReferenceIdeal_pre_fin_finite [hFinKernelIdeal : Cert.FinKernelIdeal.Facts] [hFinReferenceIdeal : Cert.FinReferenceIdeal.Facts] [hPre_fin_finite : Cert.Pre_fin_finite.Facts] : Prop :=
  ∀ (m : (ℓ : Loc Cert.FinKernelIdeal.nD Cert.FinKernelIdeal.τ Cert.FinKernelIdeal.sig) → Buf (Elt Ideal) ℓ) (g : Dev Cert.FinKernelIdeal.nD → PrngReg)
    (m' : (ℓ : Loc Cert.FinReferenceIdeal.nD Cert.FinReferenceIdeal.τ Cert.FinReferenceIdeal.sig) → Buf (Elt Ideal) ℓ) (g' : Dev Cert.FinReferenceIdeal.nD → PrngReg), Pre_FinKernelIdeal_fin_finite m →
    (∀ c : Dev Cert.FinKernelIdeal.nD,
      m' ((c.tc : Thread Cert.FinReferenceIdeal.nD Cert.FinReferenceIdeal.τ).loc Cert.FinReferenceIdeal.main_arg0) = m ((c.tc : Thread Cert.FinKernelIdeal.nD Cert.FinKernelIdeal.τ).loc Cert.FinKernelIdeal.main_arg0)
      ∧ m' ((c.tc : Thread Cert.FinReferenceIdeal.nD Cert.FinReferenceIdeal.τ).loc Cert.FinReferenceIdeal.main_arg1) = m ((c.tc : Thread Cert.FinKernelIdeal.nD Cert.FinKernelIdeal.τ).loc Cert.FinKernelIdeal.main_arg1)
      ∧ m' ((c.tc : Thread Cert.FinReferenceIdeal.nD Cert.FinReferenceIdeal.τ).loc Cert.FinReferenceIdeal.main_arg2) = m ((c.tc : Thread Cert.FinKernelIdeal.nD Cert.FinKernelIdeal.τ).loc Cert.FinKernelIdeal.main_arg2)
      ∧ m' ((c.tc : Thread Cert.FinReferenceIdeal.nD Cert.FinReferenceIdeal.τ).loc Cert.FinReferenceIdeal.main_arg3) = m ((c.tc : Thread Cert.FinKernelIdeal.nD Cert.FinKernelIdeal.τ).loc Cert.FinKernelIdeal.main_arg3)) →
    ∃ (v0 : (c : Dev Cert.FinKernelIdeal.nD) → Buf (Elt Ideal) ((c.tc : Thread Cert.FinKernelIdeal.nD Cert.FinKernelIdeal.τ).loc Cert.FinKernelIdeal.main_v0)),
      θ_run (Cert.FinKernelIdeal.defs (F := Ideal)) (onTc (τ := Cert.FinKernelIdeal.τ) (Cert.FinKernelIdeal.main (F := Ideal))) ⟨m, fun _ => 0, g⟩ (fun r => ∀ c : Dev Cert.FinKernelIdeal.nD,
          r.2.mem ((c.tc : Thread Cert.FinKernelIdeal.nD Cert.FinKernelIdeal.τ).loc Cert.FinKernelIdeal.main_v0) = v0 c
          ∧ r.2.mem ((c.tc : Thread Cert.FinKernelIdeal.nD Cert.FinKernelIdeal.τ).loc Cert.FinKernelIdeal.main_arg0) = m ((c.tc : Thread Cert.FinKernelIdeal.nD Cert.FinKernelIdeal.τ).loc Cert.FinKernelIdeal.main_arg0)
          ∧ r.2.mem ((c.tc : Thread Cert.FinKernelIdeal.nD Cert.FinKernelIdeal.τ).loc Cert.FinKernelIdeal.main_arg1) = m ((c.tc : Thread Cert.FinKernelIdeal.nD Cert.FinKernelIdeal.τ).loc Cert.FinKernelIdeal.main_arg1)
          ∧ r.2.mem ((c.tc : Thread Cert.FinKernelIdeal.nD Cert.FinKernelIdeal.τ).loc Cert.FinKernelIdeal.main_arg2) = m ((c.tc : Thread Cert.FinKernelIdeal.nD Cert.FinKernelIdeal.τ).loc Cert.FinKernelIdeal.main_arg2)
          ∧ r.2.mem ((c.tc : Thread Cert.FinKernelIdeal.nD Cert.FinKernelIdeal.τ).loc Cert.FinKernelIdeal.main_arg3) = m ((c.tc : Thread Cert.FinKernelIdeal.nD Cert.FinKernelIdeal.τ).loc Cert.FinKernelIdeal.main_arg3))
      ∧ θ_run (Cert.FinReferenceIdeal.defs (F := Ideal)) (onTc (τ := Cert.FinReferenceIdeal.τ) (Cert.FinReferenceIdeal.main (F := Ideal))) ⟨m', fun _ => 0, g'⟩ (fun r => ∀ c : Dev Cert.FinReferenceIdeal.nD,
          r.2.mem ((c.tc : Thread Cert.FinReferenceIdeal.nD Cert.FinReferenceIdeal.τ).loc Cert.FinReferenceIdeal.main_v54) = v0 c
          ∧ r.2.mem ((c.tc : Thread Cert.FinReferenceIdeal.nD Cert.FinReferenceIdeal.τ).loc Cert.FinReferenceIdeal.main_arg0) = m' ((c.tc : Thread Cert.FinReferenceIdeal.nD Cert.FinReferenceIdeal.τ).loc Cert.FinReferenceIdeal.main_arg0)
          ∧ r.2.mem ((c.tc : Thread Cert.FinReferenceIdeal.nD Cert.FinReferenceIdeal.τ).loc Cert.FinReferenceIdeal.main_arg1) = m' ((c.tc : Thread Cert.FinReferenceIdeal.nD Cert.FinReferenceIdeal.τ).loc Cert.FinReferenceIdeal.main_arg1)
          ∧ r.2.mem ((c.tc : Thread Cert.FinReferenceIdeal.nD Cert.FinReferenceIdeal.τ).loc Cert.FinReferenceIdeal.main_arg2) = m' ((c.tc : Thread Cert.FinReferenceIdeal.nD Cert.FinReferenceIdeal.τ).loc Cert.FinReferenceIdeal.main_arg2)
          ∧ r.2.mem ((c.tc : Thread Cert.FinReferenceIdeal.nD Cert.FinReferenceIdeal.τ).loc Cert.FinReferenceIdeal.main_arg3) = m' ((c.tc : Thread Cert.FinReferenceIdeal.nD Cert.FinReferenceIdeal.τ).loc Cert.FinReferenceIdeal.main_arg3))

def preserves_HgbKernel_HgbKernelIdeal : Prop :=
  True

def preserves_HgfKernel_HgfKernelIdeal : Prop :=
  True

def preserves_DwoKernel_DwoKernelIdeal : Prop :=
  True

def algebraic_DwoKernelIdeal_DwoReferenceIdeal [hDwoKernelIdeal : Cert.DwoKernelIdeal.Facts] [hDwoReferenceIdeal : Cert.DwoReferenceIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoKernelIdeal m →
    (∀ c : Dev Cert.DwoKernelIdeal.nD,
      m' ((c.tc : Thread Cert.DwoReferenceIdeal.nD Cert.DwoReferenceIdeal.τ).loc Cert.DwoReferenceIdeal.main_arg0) = m ((c.tc : Thread Cert.DwoKernelIdeal.nD Cert.DwoKernelIdeal.τ).loc Cert.DwoKernelIdeal.main_arg0)
      ∧ m' ((c.tc : Thread Cert.DwoReferenceIdeal.nD Cert.DwoReferenceIdeal.τ).loc Cert.DwoReferenceIdeal.main_arg1) = m ((c.tc : Thread Cert.DwoKernelIdeal.nD Cert.DwoKernelIdeal.τ).loc Cert.DwoKernelIdeal.main_arg1)
      ∧ m' ((c.tc : Thread Cert.DwoReferenceIdeal.nD Cert.DwoReferenceIdeal.τ).loc Cert.DwoReferenceIdeal.main_arg2) = m ((c.tc : Thread Cert.DwoKernelIdeal.nD Cert.DwoKernelIdeal.τ).loc Cert.DwoKernelIdeal.main_arg2)) →
    ∃ (v0 : (c : Dev Cert.DwoKernelIdeal.nD) → Buf (Elt Ideal) ((c.tc : Thread Cert.DwoKernelIdeal.nD Cert.DwoKernelIdeal.τ).loc Cert.DwoKernelIdeal.main_v4)),
      θ_run (Cert.DwoKernelIdeal.defs (F := Ideal)) (onTc (τ := Cert.DwoKernelIdeal.τ) (Cert.DwoKernelIdeal.main (F := Ideal))) ⟨m, fun _ => 0, g⟩ (fun r => ∀ c : Dev Cert.DwoKernelIdeal.nD,
          r.2.mem ((c.tc : Thread Cert.DwoKernelIdeal.nD Cert.DwoKernelIdeal.τ).loc Cert.DwoKernelIdeal.main_v4) = v0 c
          ∧ r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
          ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1)
          ∧ r.2.mem ((c.tc : Thread Cert.DwoKernelIdeal.nD Cert.DwoKernelIdeal.τ).loc Cert.DwoKernelIdeal.main_arg2) = m ((c.tc : Thread Cert.DwoKernelIdeal.nD Cert.DwoKernelIdeal.τ).loc Cert.DwoKernelIdeal.main_arg2))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v4) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1)
          ∧ r.2.mem ((c.tc : Thread Cert.DwoReferenceIdeal.nD Cert.DwoReferenceIdeal.τ).loc Cert.DwoReferenceIdeal.main_arg2) = m' ((c.tc : Thread Cert.DwoReferenceIdeal.nD Cert.DwoReferenceIdeal.τ).loc Cert.DwoReferenceIdeal.main_arg2))

def preserves_DwiKernel_DwiKernelIdeal : Prop :=
  True

def algebraic_DwiKernelIdeal_DwiReferenceIdeal [hDwiKernelIdeal : Cert.DwiKernelIdeal.Facts] [hDwiReferenceIdeal : Cert.DwiReferenceIdeal.Facts] : Prop :=
  ∀ (m : (ℓ : Loc Cert.DwiKernelIdeal.nD Cert.DwiKernelIdeal.τ Cert.DwiKernelIdeal.sig) → Buf (Elt Ideal) ℓ) (g : Dev Cert.DwiKernelIdeal.nD → PrngReg)
    (m' : (ℓ : Loc Cert.DwiReferenceIdeal.nD Cert.DwiReferenceIdeal.τ Cert.DwiReferenceIdeal.sig) → Buf (Elt Ideal) ℓ) (g' : Dev Cert.DwiReferenceIdeal.nD → PrngReg), Pre_DwiKernelIdeal m →
    (∀ c : Dev Cert.DwiKernelIdeal.nD,
      m' ((c.tc : Thread Cert.DwiReferenceIdeal.nD Cert.DwiReferenceIdeal.τ).loc Cert.DwiReferenceIdeal.main_arg0) = m ((c.tc : Thread Cert.DwiKernelIdeal.nD Cert.DwiKernelIdeal.τ).loc Cert.DwiKernelIdeal.main_arg0)
      ∧ m' ((c.tc : Thread Cert.DwiReferenceIdeal.nD Cert.DwiReferenceIdeal.τ).loc Cert.DwiReferenceIdeal.main_arg1) = m ((c.tc : Thread Cert.DwiKernelIdeal.nD Cert.DwiKernelIdeal.τ).loc Cert.DwiKernelIdeal.main_arg1)
      ∧ m' ((c.tc : Thread Cert.DwiReferenceIdeal.nD Cert.DwiReferenceIdeal.τ).loc Cert.DwiReferenceIdeal.main_arg2) = m ((c.tc : Thread Cert.DwiKernelIdeal.nD Cert.DwiKernelIdeal.τ).loc Cert.DwiKernelIdeal.main_arg2)
      ∧ m' ((c.tc : Thread Cert.DwiReferenceIdeal.nD Cert.DwiReferenceIdeal.τ).loc Cert.DwiReferenceIdeal.main_arg3) = m ((c.tc : Thread Cert.DwiKernelIdeal.nD Cert.DwiKernelIdeal.τ).loc Cert.DwiKernelIdeal.main_arg3)) →
    ∃ (v0 : (c : Dev Cert.DwiKernelIdeal.nD) → Buf (Elt Ideal) ((c.tc : Thread Cert.DwiKernelIdeal.nD Cert.DwiKernelIdeal.τ).loc Cert.DwiKernelIdeal.main_v20)),
      θ_run (Cert.DwiKernelIdeal.defs (F := Ideal)) (onTc (τ := Cert.DwiKernelIdeal.τ) (Cert.DwiKernelIdeal.main (F := Ideal))) ⟨m, fun _ => 0, g⟩ (fun r => ∀ c : Dev Cert.DwiKernelIdeal.nD,
          r.2.mem ((c.tc : Thread Cert.DwiKernelIdeal.nD Cert.DwiKernelIdeal.τ).loc Cert.DwiKernelIdeal.main_v20) = v0 c
          ∧ r.2.mem ((c.tc : Thread Cert.DwiKernelIdeal.nD Cert.DwiKernelIdeal.τ).loc Cert.DwiKernelIdeal.main_arg0) = m ((c.tc : Thread Cert.DwiKernelIdeal.nD Cert.DwiKernelIdeal.τ).loc Cert.DwiKernelIdeal.main_arg0)
          ∧ r.2.mem ((c.tc : Thread Cert.DwiKernelIdeal.nD Cert.DwiKernelIdeal.τ).loc Cert.DwiKernelIdeal.main_arg1) = m ((c.tc : Thread Cert.DwiKernelIdeal.nD Cert.DwiKernelIdeal.τ).loc Cert.DwiKernelIdeal.main_arg1)
          ∧ r.2.mem ((c.tc : Thread Cert.DwiKernelIdeal.nD Cert.DwiKernelIdeal.τ).loc Cert.DwiKernelIdeal.main_arg2) = m ((c.tc : Thread Cert.DwiKernelIdeal.nD Cert.DwiKernelIdeal.τ).loc Cert.DwiKernelIdeal.main_arg2)
          ∧ r.2.mem ((c.tc : Thread Cert.DwiKernelIdeal.nD Cert.DwiKernelIdeal.τ).loc Cert.DwiKernelIdeal.main_arg3) = m ((c.tc : Thread Cert.DwiKernelIdeal.nD Cert.DwiKernelIdeal.τ).loc Cert.DwiKernelIdeal.main_arg3))
      ∧ θ_run (Cert.DwiReferenceIdeal.defs (F := Ideal)) (onTc (τ := Cert.DwiReferenceIdeal.τ) (Cert.DwiReferenceIdeal.main (F := Ideal))) ⟨m', fun _ => 0, g'⟩ (fun r => ∀ c : Dev Cert.DwiReferenceIdeal.nD,
          r.2.mem ((c.tc : Thread Cert.DwiReferenceIdeal.nD Cert.DwiReferenceIdeal.τ).loc Cert.DwiReferenceIdeal.main_v16) = v0 c
          ∧ r.2.mem ((c.tc : Thread Cert.DwiReferenceIdeal.nD Cert.DwiReferenceIdeal.τ).loc Cert.DwiReferenceIdeal.main_arg0) = m' ((c.tc : Thread Cert.DwiReferenceIdeal.nD Cert.DwiReferenceIdeal.τ).loc Cert.DwiReferenceIdeal.main_arg0)
          ∧ r.2.mem ((c.tc : Thread Cert.DwiReferenceIdeal.nD Cert.DwiReferenceIdeal.τ).loc Cert.DwiReferenceIdeal.main_arg1) = m' ((c.tc : Thread Cert.DwiReferenceIdeal.nD Cert.DwiReferenceIdeal.τ).loc Cert.DwiReferenceIdeal.main_arg1)
          ∧ r.2.mem ((c.tc : Thread Cert.DwiReferenceIdeal.nD Cert.DwiReferenceIdeal.τ).loc Cert.DwiReferenceIdeal.main_arg2) = m' ((c.tc : Thread Cert.DwiReferenceIdeal.nD Cert.DwiReferenceIdeal.τ).loc Cert.DwiReferenceIdeal.main_arg2)
          ∧ r.2.mem ((c.tc : Thread Cert.DwiReferenceIdeal.nD Cert.DwiReferenceIdeal.τ).loc Cert.DwiReferenceIdeal.main_arg3) = m' ((c.tc : Thread Cert.DwiReferenceIdeal.nD Cert.DwiReferenceIdeal.τ).loc Cert.DwiReferenceIdeal.main_arg3))

def preserves_SohKernel_SohKernelIdeal : Prop :=
  True

def bitexact_SohKernel_SohReference [hSohKernel : Cert.SohKernel.Facts] [hSohReference : Cert.SohReference.Facts] : Prop :=
  ∀ (m : (ℓ : Loc Cert.SohKernel.nD Cert.SohKernel.τ Cert.SohKernel.sig) → Buf (Elt Bits) ℓ) (g : Dev Cert.SohKernel.nD → PrngReg)
    (m' : (ℓ : Loc Cert.SohReference.nD Cert.SohReference.τ Cert.SohReference.sig) → Buf (Elt Bits) ℓ) (g' : Dev Cert.SohReference.nD → PrngReg), Pre_SohKernel m →
    (∀ c : Dev Cert.SohKernel.nD,
      m' ((c.tc : Thread Cert.SohReference.nD Cert.SohReference.τ).loc Cert.SohReference.main_arg0) = m ((c.tc : Thread Cert.SohKernel.nD Cert.SohKernel.τ).loc Cert.SohKernel.main_arg0)
      ∧ m' ((c.tc : Thread Cert.SohReference.nD Cert.SohReference.τ).loc Cert.SohReference.main_arg1) = m ((c.tc : Thread Cert.SohKernel.nD Cert.SohKernel.τ).loc Cert.SohKernel.main_arg1)) →
    ∃ (v0 : (c : Dev Cert.SohKernel.nD) → Buf (Elt Bits) ((c.tc : Thread Cert.SohKernel.nD Cert.SohKernel.τ).loc Cert.SohKernel.main_v1)),
      θ_run (Cert.SohKernel.defs (F := Bits)) (onTc (τ := Cert.SohKernel.τ) (Cert.SohKernel.main (F := Bits))) ⟨m, fun _ => 0, g⟩ (fun r => ∀ c : Dev Cert.SohKernel.nD,
          r.2.mem ((c.tc : Thread Cert.SohKernel.nD Cert.SohKernel.τ).loc Cert.SohKernel.main_v1) = v0 c
          ∧ r.2.mem ((c.tc : Thread Cert.SohKernel.nD Cert.SohKernel.τ).loc Cert.SohKernel.main_arg0) = m ((c.tc : Thread Cert.SohKernel.nD Cert.SohKernel.τ).loc Cert.SohKernel.main_arg0)
          ∧ r.2.mem ((c.tc : Thread Cert.SohKernel.nD Cert.SohKernel.τ).loc Cert.SohKernel.main_arg1) = m ((c.tc : Thread Cert.SohKernel.nD Cert.SohKernel.τ).loc Cert.SohKernel.main_arg1))
      ∧ θ_run (Cert.SohReference.defs (F := Bits)) (onTc (τ := Cert.SohReference.τ) (Cert.SohReference.main (F := Bits))) ⟨m', fun _ => 0, g'⟩ (fun r => ∀ c : Dev Cert.SohReference.nD,
          r.2.mem ((c.tc : Thread Cert.SohReference.nD Cert.SohReference.τ).loc Cert.SohReference.main_v3) = v0 c
          ∧ r.2.mem ((c.tc : Thread Cert.SohReference.nD Cert.SohReference.τ).loc Cert.SohReference.main_arg0) = m' ((c.tc : Thread Cert.SohReference.nD Cert.SohReference.τ).loc Cert.SohReference.main_arg0)
          ∧ r.2.mem ((c.tc : Thread Cert.SohReference.nD Cert.SohReference.τ).loc Cert.SohReference.main_arg1) = m' ((c.tc : Thread Cert.SohReference.nD Cert.SohReference.τ).loc Cert.SohReference.main_arg1))

def algebraic_SohKernelIdeal_SohReferenceIdeal [hSohKernelIdeal : Cert.SohKernelIdeal.Facts] [hSohReferenceIdeal : Cert.SohReferenceIdeal.Facts] : Prop :=
  ∀ (m : (ℓ : Loc Cert.SohKernelIdeal.nD Cert.SohKernelIdeal.τ Cert.SohKernelIdeal.sig) → Buf (Elt Ideal) ℓ) (g : Dev Cert.SohKernelIdeal.nD → PrngReg)
    (m' : (ℓ : Loc Cert.SohReferenceIdeal.nD Cert.SohReferenceIdeal.τ Cert.SohReferenceIdeal.sig) → Buf (Elt Ideal) ℓ) (g' : Dev Cert.SohReferenceIdeal.nD → PrngReg), Pre_SohKernelIdeal m →
    (∀ c : Dev Cert.SohKernelIdeal.nD,
      m' ((c.tc : Thread Cert.SohReferenceIdeal.nD Cert.SohReferenceIdeal.τ).loc Cert.SohReferenceIdeal.main_arg0) = m ((c.tc : Thread Cert.SohKernelIdeal.nD Cert.SohKernelIdeal.τ).loc Cert.SohKernelIdeal.main_arg0)
      ∧ m' ((c.tc : Thread Cert.SohReferenceIdeal.nD Cert.SohReferenceIdeal.τ).loc Cert.SohReferenceIdeal.main_arg1) = m ((c.tc : Thread Cert.SohKernelIdeal.nD Cert.SohKernelIdeal.τ).loc Cert.SohKernelIdeal.main_arg1)) →
    ∃ (v0 : (c : Dev Cert.SohKernelIdeal.nD) → Buf (Elt Ideal) ((c.tc : Thread Cert.SohKernelIdeal.nD Cert.SohKernelIdeal.τ).loc Cert.SohKernelIdeal.main_v1)),
      θ_run (Cert.SohKernelIdeal.defs (F := Ideal)) (onTc (τ := Cert.SohKernelIdeal.τ) (Cert.SohKernelIdeal.main (F := Ideal))) ⟨m, fun _ => 0, g⟩ (fun r => ∀ c : Dev Cert.SohKernelIdeal.nD,
          r.2.mem ((c.tc : Thread Cert.SohKernelIdeal.nD Cert.SohKernelIdeal.τ).loc Cert.SohKernelIdeal.main_v1) = v0 c
          ∧ r.2.mem ((c.tc : Thread Cert.SohKernelIdeal.nD Cert.SohKernelIdeal.τ).loc Cert.SohKernelIdeal.main_arg0) = m ((c.tc : Thread Cert.SohKernelIdeal.nD Cert.SohKernelIdeal.τ).loc Cert.SohKernelIdeal.main_arg0)
          ∧ r.2.mem ((c.tc : Thread Cert.SohKernelIdeal.nD Cert.SohKernelIdeal.τ).loc Cert.SohKernelIdeal.main_arg1) = m ((c.tc : Thread Cert.SohKernelIdeal.nD Cert.SohKernelIdeal.τ).loc Cert.SohKernelIdeal.main_arg1))
      ∧ θ_run (Cert.SohReferenceIdeal.defs (F := Ideal)) (onTc (τ := Cert.SohReferenceIdeal.τ) (Cert.SohReferenceIdeal.main (F := Ideal))) ⟨m', fun _ => 0, g'⟩ (fun r => ∀ c : Dev Cert.SohReferenceIdeal.nD,
          r.2.mem ((c.tc : Thread Cert.SohReferenceIdeal.nD Cert.SohReferenceIdeal.τ).loc Cert.SohReferenceIdeal.main_v3) = v0 c
          ∧ r.2.mem ((c.tc : Thread Cert.SohReferenceIdeal.nD Cert.SohReferenceIdeal.τ).loc Cert.SohReferenceIdeal.main_arg0) = m' ((c.tc : Thread Cert.SohReferenceIdeal.nD Cert.SohReferenceIdeal.τ).loc Cert.SohReferenceIdeal.main_arg0)
          ∧ r.2.mem ((c.tc : Thread Cert.SohReferenceIdeal.nD Cert.SohReferenceIdeal.τ).loc Cert.SohReferenceIdeal.main_arg1) = m' ((c.tc : Thread Cert.SohReferenceIdeal.nD Cert.SohReferenceIdeal.τ).loc Cert.SohReferenceIdeal.main_arg1))

def preserves_SooKernel_SooKernelIdeal : Prop :=
  True

def bitexact_SooKernel_SooReference [hSooKernel : Cert.SooKernel.Facts] [hSooReference : Cert.SooReference.Facts] : Prop :=
  ∀ (m : (ℓ : Loc Cert.SooKernel.nD Cert.SooKernel.τ Cert.SooKernel.sig) → Buf (Elt Bits) ℓ) (g : Dev Cert.SooKernel.nD → PrngReg)
    (m' : (ℓ : Loc Cert.SooReference.nD Cert.SooReference.τ Cert.SooReference.sig) → Buf (Elt Bits) ℓ) (g' : Dev Cert.SooReference.nD → PrngReg), Pre_SooKernel m →
    (∀ c : Dev Cert.SooKernel.nD,
      m' ((c.tc : Thread Cert.SooReference.nD Cert.SooReference.τ).loc Cert.SooReference.main_arg0) = m ((c.tc : Thread Cert.SooKernel.nD Cert.SooKernel.τ).loc Cert.SooKernel.main_arg0)
      ∧ m' ((c.tc : Thread Cert.SooReference.nD Cert.SooReference.τ).loc Cert.SooReference.main_arg1) = m ((c.tc : Thread Cert.SooKernel.nD Cert.SooKernel.τ).loc Cert.SooKernel.main_arg1)) →
    ∃ (v0 : (c : Dev Cert.SooKernel.nD) → Buf (Elt Bits) ((c.tc : Thread Cert.SooKernel.nD Cert.SooKernel.τ).loc Cert.SooKernel.main_v1)),
      θ_run (Cert.SooKernel.defs (F := Bits)) (onTc (τ := Cert.SooKernel.τ) (Cert.SooKernel.main (F := Bits))) ⟨m, fun _ => 0, g⟩ (fun r => ∀ c : Dev Cert.SooKernel.nD,
          r.2.mem ((c.tc : Thread Cert.SooKernel.nD Cert.SooKernel.τ).loc Cert.SooKernel.main_v1) = v0 c
          ∧ r.2.mem ((c.tc : Thread Cert.SooKernel.nD Cert.SooKernel.τ).loc Cert.SooKernel.main_arg0) = m ((c.tc : Thread Cert.SooKernel.nD Cert.SooKernel.τ).loc Cert.SooKernel.main_arg0)
          ∧ r.2.mem ((c.tc : Thread Cert.SooKernel.nD Cert.SooKernel.τ).loc Cert.SooKernel.main_arg1) = m ((c.tc : Thread Cert.SooKernel.nD Cert.SooKernel.τ).loc Cert.SooKernel.main_arg1))
      ∧ θ_run (Cert.SooReference.defs (F := Bits)) (onTc (τ := Cert.SooReference.τ) (Cert.SooReference.main (F := Bits))) ⟨m', fun _ => 0, g'⟩ (fun r => ∀ c : Dev Cert.SooReference.nD,
          r.2.mem ((c.tc : Thread Cert.SooReference.nD Cert.SooReference.τ).loc Cert.SooReference.main_v3) = v0 c
          ∧ r.2.mem ((c.tc : Thread Cert.SooReference.nD Cert.SooReference.τ).loc Cert.SooReference.main_arg0) = m' ((c.tc : Thread Cert.SooReference.nD Cert.SooReference.τ).loc Cert.SooReference.main_arg0)
          ∧ r.2.mem ((c.tc : Thread Cert.SooReference.nD Cert.SooReference.τ).loc Cert.SooReference.main_arg1) = m' ((c.tc : Thread Cert.SooReference.nD Cert.SooReference.τ).loc Cert.SooReference.main_arg1))

def algebraic_SooKernelIdeal_SooReferenceIdeal [hSooKernelIdeal : Cert.SooKernelIdeal.Facts] [hSooReferenceIdeal : Cert.SooReferenceIdeal.Facts] : Prop :=
  ∀ (m : (ℓ : Loc Cert.SooKernelIdeal.nD Cert.SooKernelIdeal.τ Cert.SooKernelIdeal.sig) → Buf (Elt Ideal) ℓ) (g : Dev Cert.SooKernelIdeal.nD → PrngReg)
    (m' : (ℓ : Loc Cert.SooReferenceIdeal.nD Cert.SooReferenceIdeal.τ Cert.SooReferenceIdeal.sig) → Buf (Elt Ideal) ℓ) (g' : Dev Cert.SooReferenceIdeal.nD → PrngReg), Pre_SooKernelIdeal m →
    (∀ c : Dev Cert.SooKernelIdeal.nD,
      m' ((c.tc : Thread Cert.SooReferenceIdeal.nD Cert.SooReferenceIdeal.τ).loc Cert.SooReferenceIdeal.main_arg0) = m ((c.tc : Thread Cert.SooKernelIdeal.nD Cert.SooKernelIdeal.τ).loc Cert.SooKernelIdeal.main_arg0)
      ∧ m' ((c.tc : Thread Cert.SooReferenceIdeal.nD Cert.SooReferenceIdeal.τ).loc Cert.SooReferenceIdeal.main_arg1) = m ((c.tc : Thread Cert.SooKernelIdeal.nD Cert.SooKernelIdeal.τ).loc Cert.SooKernelIdeal.main_arg1)) →
    ∃ (v0 : (c : Dev Cert.SooKernelIdeal.nD) → Buf (Elt Ideal) ((c.tc : Thread Cert.SooKernelIdeal.nD Cert.SooKernelIdeal.τ).loc Cert.SooKernelIdeal.main_v1)),
      θ_run (Cert.SooKernelIdeal.defs (F := Ideal)) (onTc (τ := Cert.SooKernelIdeal.τ) (Cert.SooKernelIdeal.main (F := Ideal))) ⟨m, fun _ => 0, g⟩ (fun r => ∀ c : Dev Cert.SooKernelIdeal.nD,
          r.2.mem ((c.tc : Thread Cert.SooKernelIdeal.nD Cert.SooKernelIdeal.τ).loc Cert.SooKernelIdeal.main_v1) = v0 c
          ∧ r.2.mem ((c.tc : Thread Cert.SooKernelIdeal.nD Cert.SooKernelIdeal.τ).loc Cert.SooKernelIdeal.main_arg0) = m ((c.tc : Thread Cert.SooKernelIdeal.nD Cert.SooKernelIdeal.τ).loc Cert.SooKernelIdeal.main_arg0)
          ∧ r.2.mem ((c.tc : Thread Cert.SooKernelIdeal.nD Cert.SooKernelIdeal.τ).loc Cert.SooKernelIdeal.main_arg1) = m ((c.tc : Thread Cert.SooKernelIdeal.nD Cert.SooKernelIdeal.τ).loc Cert.SooKernelIdeal.main_arg1))
      ∧ θ_run (Cert.SooReferenceIdeal.defs (F := Ideal)) (onTc (τ := Cert.SooReferenceIdeal.τ) (Cert.SooReferenceIdeal.main (F := Ideal))) ⟨m', fun _ => 0, g'⟩ (fun r => ∀ c : Dev Cert.SooReferenceIdeal.nD,
          r.2.mem ((c.tc : Thread Cert.SooReferenceIdeal.nD Cert.SooReferenceIdeal.τ).loc Cert.SooReferenceIdeal.main_v3) = v0 c
          ∧ r.2.mem ((c.tc : Thread Cert.SooReferenceIdeal.nD Cert.SooReferenceIdeal.τ).loc Cert.SooReferenceIdeal.main_arg0) = m' ((c.tc : Thread Cert.SooReferenceIdeal.nD Cert.SooReferenceIdeal.τ).loc Cert.SooReferenceIdeal.main_arg0)
          ∧ r.2.mem ((c.tc : Thread Cert.SooReferenceIdeal.nD Cert.SooReferenceIdeal.τ).loc Cert.SooReferenceIdeal.main_arg1) = m' ((c.tc : Thread Cert.SooReferenceIdeal.nD Cert.SooReferenceIdeal.τ).loc Cert.SooReferenceIdeal.main_arg1))

def preserves_SogKernel_SogKernelIdeal : Prop :=
  True

def bitexact_SogKernel_SogReference [hSogKernel : Cert.SogKernel.Facts] [hSogReference : Cert.SogReference.Facts] : Prop :=
  ∀ (m : (ℓ : Loc Cert.SogKernel.nD Cert.SogKernel.τ Cert.SogKernel.sig) → Buf (Elt Bits) ℓ) (g : Dev Cert.SogKernel.nD → PrngReg)
    (m' : (ℓ : Loc Cert.SogReference.nD Cert.SogReference.τ Cert.SogReference.sig) → Buf (Elt Bits) ℓ) (g' : Dev Cert.SogReference.nD → PrngReg), Pre_SogKernel m →
    (∀ c : Dev Cert.SogKernel.nD,
      m' ((c.tc : Thread Cert.SogReference.nD Cert.SogReference.τ).loc Cert.SogReference.main_arg0) = m ((c.tc : Thread Cert.SogKernel.nD Cert.SogKernel.τ).loc Cert.SogKernel.main_arg0)
      ∧ m' ((c.tc : Thread Cert.SogReference.nD Cert.SogReference.τ).loc Cert.SogReference.main_arg1) = m ((c.tc : Thread Cert.SogKernel.nD Cert.SogKernel.τ).loc Cert.SogKernel.main_arg1)) →
    ∃ (v0 : (c : Dev Cert.SogKernel.nD) → Buf (Elt Bits) ((c.tc : Thread Cert.SogKernel.nD Cert.SogKernel.τ).loc Cert.SogKernel.main_v1)),
      θ_run (Cert.SogKernel.defs (F := Bits)) (onTc (τ := Cert.SogKernel.τ) (Cert.SogKernel.main (F := Bits))) ⟨m, fun _ => 0, g⟩ (fun r => ∀ c : Dev Cert.SogKernel.nD,
          r.2.mem ((c.tc : Thread Cert.SogKernel.nD Cert.SogKernel.τ).loc Cert.SogKernel.main_v1) = v0 c
          ∧ r.2.mem ((c.tc : Thread Cert.SogKernel.nD Cert.SogKernel.τ).loc Cert.SogKernel.main_arg0) = m ((c.tc : Thread Cert.SogKernel.nD Cert.SogKernel.τ).loc Cert.SogKernel.main_arg0)
          ∧ r.2.mem ((c.tc : Thread Cert.SogKernel.nD Cert.SogKernel.τ).loc Cert.SogKernel.main_arg1) = m ((c.tc : Thread Cert.SogKernel.nD Cert.SogKernel.τ).loc Cert.SogKernel.main_arg1))
      ∧ θ_run (Cert.SogReference.defs (F := Bits)) (onTc (τ := Cert.SogReference.τ) (Cert.SogReference.main (F := Bits))) ⟨m', fun _ => 0, g'⟩ (fun r => ∀ c : Dev Cert.SogReference.nD,
          r.2.mem ((c.tc : Thread Cert.SogReference.nD Cert.SogReference.τ).loc Cert.SogReference.main_v3) = v0 c
          ∧ r.2.mem ((c.tc : Thread Cert.SogReference.nD Cert.SogReference.τ).loc Cert.SogReference.main_arg0) = m' ((c.tc : Thread Cert.SogReference.nD Cert.SogReference.τ).loc Cert.SogReference.main_arg0)
          ∧ r.2.mem ((c.tc : Thread Cert.SogReference.nD Cert.SogReference.τ).loc Cert.SogReference.main_arg1) = m' ((c.tc : Thread Cert.SogReference.nD Cert.SogReference.τ).loc Cert.SogReference.main_arg1))

def algebraic_SogKernelIdeal_SogReferenceIdeal [hSogKernelIdeal : Cert.SogKernelIdeal.Facts] [hSogReferenceIdeal : Cert.SogReferenceIdeal.Facts] : Prop :=
  ∀ (m : (ℓ : Loc Cert.SogKernelIdeal.nD Cert.SogKernelIdeal.τ Cert.SogKernelIdeal.sig) → Buf (Elt Ideal) ℓ) (g : Dev Cert.SogKernelIdeal.nD → PrngReg)
    (m' : (ℓ : Loc Cert.SogReferenceIdeal.nD Cert.SogReferenceIdeal.τ Cert.SogReferenceIdeal.sig) → Buf (Elt Ideal) ℓ) (g' : Dev Cert.SogReferenceIdeal.nD → PrngReg), Pre_SogKernelIdeal m →
    (∀ c : Dev Cert.SogKernelIdeal.nD,
      m' ((c.tc : Thread Cert.SogReferenceIdeal.nD Cert.SogReferenceIdeal.τ).loc Cert.SogReferenceIdeal.main_arg0) = m ((c.tc : Thread Cert.SogKernelIdeal.nD Cert.SogKernelIdeal.τ).loc Cert.SogKernelIdeal.main_arg0)
      ∧ m' ((c.tc : Thread Cert.SogReferenceIdeal.nD Cert.SogReferenceIdeal.τ).loc Cert.SogReferenceIdeal.main_arg1) = m ((c.tc : Thread Cert.SogKernelIdeal.nD Cert.SogKernelIdeal.τ).loc Cert.SogKernelIdeal.main_arg1)) →
    ∃ (v0 : (c : Dev Cert.SogKernelIdeal.nD) → Buf (Elt Ideal) ((c.tc : Thread Cert.SogKernelIdeal.nD Cert.SogKernelIdeal.τ).loc Cert.SogKernelIdeal.main_v1)),
      θ_run (Cert.SogKernelIdeal.defs (F := Ideal)) (onTc (τ := Cert.SogKernelIdeal.τ) (Cert.SogKernelIdeal.main (F := Ideal))) ⟨m, fun _ => 0, g⟩ (fun r => ∀ c : Dev Cert.SogKernelIdeal.nD,
          r.2.mem ((c.tc : Thread Cert.SogKernelIdeal.nD Cert.SogKernelIdeal.τ).loc Cert.SogKernelIdeal.main_v1) = v0 c
          ∧ r.2.mem ((c.tc : Thread Cert.SogKernelIdeal.nD Cert.SogKernelIdeal.τ).loc Cert.SogKernelIdeal.main_arg0) = m ((c.tc : Thread Cert.SogKernelIdeal.nD Cert.SogKernelIdeal.τ).loc Cert.SogKernelIdeal.main_arg0)
          ∧ r.2.mem ((c.tc : Thread Cert.SogKernelIdeal.nD Cert.SogKernelIdeal.τ).loc Cert.SogKernelIdeal.main_arg1) = m ((c.tc : Thread Cert.SogKernelIdeal.nD Cert.SogKernelIdeal.τ).loc Cert.SogKernelIdeal.main_arg1))
      ∧ θ_run (Cert.SogReferenceIdeal.defs (F := Ideal)) (onTc (τ := Cert.SogReferenceIdeal.τ) (Cert.SogReferenceIdeal.main (F := Ideal))) ⟨m', fun _ => 0, g'⟩ (fun r => ∀ c : Dev Cert.SogReferenceIdeal.nD,
          r.2.mem ((c.tc : Thread Cert.SogReferenceIdeal.nD Cert.SogReferenceIdeal.τ).loc Cert.SogReferenceIdeal.main_v3) = v0 c
          ∧ r.2.mem ((c.tc : Thread Cert.SogReferenceIdeal.nD Cert.SogReferenceIdeal.τ).loc Cert.SogReferenceIdeal.main_arg0) = m' ((c.tc : Thread Cert.SogReferenceIdeal.nD Cert.SogReferenceIdeal.τ).loc Cert.SogReferenceIdeal.main_arg0)
          ∧ r.2.mem ((c.tc : Thread Cert.SogReferenceIdeal.nD Cert.SogReferenceIdeal.τ).loc Cert.SogReferenceIdeal.main_arg1) = m' ((c.tc : Thread Cert.SogReferenceIdeal.nD Cert.SogReferenceIdeal.τ).loc Cert.SogReferenceIdeal.main_arg1))

def preserves_SchKernel_SchKernelIdeal : Prop :=
  True

def algebraic_SchKernelIdeal_SchReferenceIdeal [hSchKernelIdeal : Cert.SchKernelIdeal.Facts] [hSchReferenceIdeal : Cert.SchReferenceIdeal.Facts] : Prop :=
  ∀ (m : (ℓ : Loc Cert.SchKernelIdeal.nD Cert.SchKernelIdeal.τ Cert.SchKernelIdeal.sig) → Buf (Elt Ideal) ℓ) (g : Dev Cert.SchKernelIdeal.nD → PrngReg)
    (m' : (ℓ : Loc Cert.SchReferenceIdeal.nD Cert.SchReferenceIdeal.τ Cert.SchReferenceIdeal.sig) → Buf (Elt Ideal) ℓ) (g' : Dev Cert.SchReferenceIdeal.nD → PrngReg), Pre_SchKernelIdeal m →
    (∀ c : Dev Cert.SchKernelIdeal.nD,
      m' ((c.tc : Thread Cert.SchReferenceIdeal.nD Cert.SchReferenceIdeal.τ).loc Cert.SchReferenceIdeal.main_arg0) = m ((c.tc : Thread Cert.SchKernelIdeal.nD Cert.SchKernelIdeal.τ).loc Cert.SchKernelIdeal.main_arg0)
      ∧ m' ((c.tc : Thread Cert.SchReferenceIdeal.nD Cert.SchReferenceIdeal.τ).loc Cert.SchReferenceIdeal.main_arg1) = m ((c.tc : Thread Cert.SchKernelIdeal.nD Cert.SchKernelIdeal.τ).loc Cert.SchKernelIdeal.main_arg1)) →
    ∃ (v0 : (c : Dev Cert.SchKernelIdeal.nD) → Buf (Elt Ideal) ((c.tc : Thread Cert.SchKernelIdeal.nD Cert.SchKernelIdeal.τ).loc Cert.SchKernelIdeal.main_v1)),
      θ_run (Cert.SchKernelIdeal.defs (F := Ideal)) (onTc (τ := Cert.SchKernelIdeal.τ) (Cert.SchKernelIdeal.main (F := Ideal))) ⟨m, fun _ => 0, g⟩ (fun r => ∀ c : Dev Cert.SchKernelIdeal.nD,
          r.2.mem ((c.tc : Thread Cert.SchKernelIdeal.nD Cert.SchKernelIdeal.τ).loc Cert.SchKernelIdeal.main_v1) = v0 c
          ∧ r.2.mem ((c.tc : Thread Cert.SchKernelIdeal.nD Cert.SchKernelIdeal.τ).loc Cert.SchKernelIdeal.main_arg0) = m ((c.tc : Thread Cert.SchKernelIdeal.nD Cert.SchKernelIdeal.τ).loc Cert.SchKernelIdeal.main_arg0)
          ∧ r.2.mem ((c.tc : Thread Cert.SchKernelIdeal.nD Cert.SchKernelIdeal.τ).loc Cert.SchKernelIdeal.main_arg1) = m ((c.tc : Thread Cert.SchKernelIdeal.nD Cert.SchKernelIdeal.τ).loc Cert.SchKernelIdeal.main_arg1))
      ∧ θ_run (Cert.SchReferenceIdeal.defs (F := Ideal)) (onTc (τ := Cert.SchReferenceIdeal.τ) (Cert.SchReferenceIdeal.main (F := Ideal))) ⟨m', fun _ => 0, g'⟩ (fun r => ∀ c : Dev Cert.SchReferenceIdeal.nD,
          r.2.mem ((c.tc : Thread Cert.SchReferenceIdeal.nD Cert.SchReferenceIdeal.τ).loc Cert.SchReferenceIdeal.main_v5) = v0 c
          ∧ r.2.mem ((c.tc : Thread Cert.SchReferenceIdeal.nD Cert.SchReferenceIdeal.τ).loc Cert.SchReferenceIdeal.main_arg0) = m' ((c.tc : Thread Cert.SchReferenceIdeal.nD Cert.SchReferenceIdeal.τ).loc Cert.SchReferenceIdeal.main_arg0)
          ∧ r.2.mem ((c.tc : Thread Cert.SchReferenceIdeal.nD Cert.SchReferenceIdeal.τ).loc Cert.SchReferenceIdeal.main_arg1) = m' ((c.tc : Thread Cert.SchReferenceIdeal.nD Cert.SchReferenceIdeal.τ).loc Cert.SchReferenceIdeal.main_arg1))

def preserves_ScoKernel_ScoKernelIdeal : Prop :=
  True

def algebraic_ScoKernelIdeal_ScoReferenceIdeal [hScoKernelIdeal : Cert.ScoKernelIdeal.Facts] [hScoReferenceIdeal : Cert.ScoReferenceIdeal.Facts] : Prop :=
  ∀ (m : (ℓ : Loc Cert.ScoKernelIdeal.nD Cert.ScoKernelIdeal.τ Cert.ScoKernelIdeal.sig) → Buf (Elt Ideal) ℓ) (g : Dev Cert.ScoKernelIdeal.nD → PrngReg)
    (m' : (ℓ : Loc Cert.ScoReferenceIdeal.nD Cert.ScoReferenceIdeal.τ Cert.ScoReferenceIdeal.sig) → Buf (Elt Ideal) ℓ) (g' : Dev Cert.ScoReferenceIdeal.nD → PrngReg), Pre_ScoKernelIdeal m →
    (∀ c : Dev Cert.ScoKernelIdeal.nD,
      m' ((c.tc : Thread Cert.ScoReferenceIdeal.nD Cert.ScoReferenceIdeal.τ).loc Cert.ScoReferenceIdeal.main_arg0) = m ((c.tc : Thread Cert.ScoKernelIdeal.nD Cert.ScoKernelIdeal.τ).loc Cert.ScoKernelIdeal.main_arg0)
      ∧ m' ((c.tc : Thread Cert.ScoReferenceIdeal.nD Cert.ScoReferenceIdeal.τ).loc Cert.ScoReferenceIdeal.main_arg1) = m ((c.tc : Thread Cert.ScoKernelIdeal.nD Cert.ScoKernelIdeal.τ).loc Cert.ScoKernelIdeal.main_arg1)) →
    ∃ (v0 : (c : Dev Cert.ScoKernelIdeal.nD) → Buf (Elt Ideal) ((c.tc : Thread Cert.ScoKernelIdeal.nD Cert.ScoKernelIdeal.τ).loc Cert.ScoKernelIdeal.main_v1)),
      θ_run (Cert.ScoKernelIdeal.defs (F := Ideal)) (onTc (τ := Cert.ScoKernelIdeal.τ) (Cert.ScoKernelIdeal.main (F := Ideal))) ⟨m, fun _ => 0, g⟩ (fun r => ∀ c : Dev Cert.ScoKernelIdeal.nD,
          r.2.mem ((c.tc : Thread Cert.ScoKernelIdeal.nD Cert.ScoKernelIdeal.τ).loc Cert.ScoKernelIdeal.main_v1) = v0 c
          ∧ r.2.mem ((c.tc : Thread Cert.ScoKernelIdeal.nD Cert.ScoKernelIdeal.τ).loc Cert.ScoKernelIdeal.main_arg0) = m ((c.tc : Thread Cert.ScoKernelIdeal.nD Cert.ScoKernelIdeal.τ).loc Cert.ScoKernelIdeal.main_arg0)
          ∧ r.2.mem ((c.tc : Thread Cert.ScoKernelIdeal.nD Cert.ScoKernelIdeal.τ).loc Cert.ScoKernelIdeal.main_arg1) = m ((c.tc : Thread Cert.ScoKernelIdeal.nD Cert.ScoKernelIdeal.τ).loc Cert.ScoKernelIdeal.main_arg1))
      ∧ θ_run (Cert.ScoReferenceIdeal.defs (F := Ideal)) (onTc (τ := Cert.ScoReferenceIdeal.τ) (Cert.ScoReferenceIdeal.main (F := Ideal))) ⟨m', fun _ => 0, g'⟩ (fun r => ∀ c : Dev Cert.ScoReferenceIdeal.nD,
          r.2.mem ((c.tc : Thread Cert.ScoReferenceIdeal.nD Cert.ScoReferenceIdeal.τ).loc Cert.ScoReferenceIdeal.main_v5) = v0 c
          ∧ r.2.mem ((c.tc : Thread Cert.ScoReferenceIdeal.nD Cert.ScoReferenceIdeal.τ).loc Cert.ScoReferenceIdeal.main_arg0) = m' ((c.tc : Thread Cert.ScoReferenceIdeal.nD Cert.ScoReferenceIdeal.τ).loc Cert.ScoReferenceIdeal.main_arg0)
          ∧ r.2.mem ((c.tc : Thread Cert.ScoReferenceIdeal.nD Cert.ScoReferenceIdeal.τ).loc Cert.ScoReferenceIdeal.main_arg1) = m' ((c.tc : Thread Cert.ScoReferenceIdeal.nD Cert.ScoReferenceIdeal.τ).loc Cert.ScoReferenceIdeal.main_arg1))

def preserves_ScgKernel_ScgKernelIdeal : Prop :=
  True

def algebraic_ScgKernelIdeal_ScgReferenceIdeal [hScgKernelIdeal : Cert.ScgKernelIdeal.Facts] [hScgReferenceIdeal : Cert.ScgReferenceIdeal.Facts] : Prop :=
  ∀ (m : (ℓ : Loc Cert.ScgKernelIdeal.nD Cert.ScgKernelIdeal.τ Cert.ScgKernelIdeal.sig) → Buf (Elt Ideal) ℓ) (g : Dev Cert.ScgKernelIdeal.nD → PrngReg)
    (m' : (ℓ : Loc Cert.ScgReferenceIdeal.nD Cert.ScgReferenceIdeal.τ Cert.ScgReferenceIdeal.sig) → Buf (Elt Ideal) ℓ) (g' : Dev Cert.ScgReferenceIdeal.nD → PrngReg), Pre_ScgKernelIdeal m →
    (∀ c : Dev Cert.ScgKernelIdeal.nD,
      m' ((c.tc : Thread Cert.ScgReferenceIdeal.nD Cert.ScgReferenceIdeal.τ).loc Cert.ScgReferenceIdeal.main_arg0) = m ((c.tc : Thread Cert.ScgKernelIdeal.nD Cert.ScgKernelIdeal.τ).loc Cert.ScgKernelIdeal.main_arg0)
      ∧ m' ((c.tc : Thread Cert.ScgReferenceIdeal.nD Cert.ScgReferenceIdeal.τ).loc Cert.ScgReferenceIdeal.main_arg1) = m ((c.tc : Thread Cert.ScgKernelIdeal.nD Cert.ScgKernelIdeal.τ).loc Cert.ScgKernelIdeal.main_arg1)) →
    ∃ (v0 : (c : Dev Cert.ScgKernelIdeal.nD) → Buf (Elt Ideal) ((c.tc : Thread Cert.ScgKernelIdeal.nD Cert.ScgKernelIdeal.τ).loc Cert.ScgKernelIdeal.main_v1)),
      θ_run (Cert.ScgKernelIdeal.defs (F := Ideal)) (onTc (τ := Cert.ScgKernelIdeal.τ) (Cert.ScgKernelIdeal.main (F := Ideal))) ⟨m, fun _ => 0, g⟩ (fun r => ∀ c : Dev Cert.ScgKernelIdeal.nD,
          r.2.mem ((c.tc : Thread Cert.ScgKernelIdeal.nD Cert.ScgKernelIdeal.τ).loc Cert.ScgKernelIdeal.main_v1) = v0 c
          ∧ r.2.mem ((c.tc : Thread Cert.ScgKernelIdeal.nD Cert.ScgKernelIdeal.τ).loc Cert.ScgKernelIdeal.main_arg0) = m ((c.tc : Thread Cert.ScgKernelIdeal.nD Cert.ScgKernelIdeal.τ).loc Cert.ScgKernelIdeal.main_arg0)
          ∧ r.2.mem ((c.tc : Thread Cert.ScgKernelIdeal.nD Cert.ScgKernelIdeal.τ).loc Cert.ScgKernelIdeal.main_arg1) = m ((c.tc : Thread Cert.ScgKernelIdeal.nD Cert.ScgKernelIdeal.τ).loc Cert.ScgKernelIdeal.main_arg1))
      ∧ θ_run (Cert.ScgReferenceIdeal.defs (F := Ideal)) (onTc (τ := Cert.ScgReferenceIdeal.τ) (Cert.ScgReferenceIdeal.main (F := Ideal))) ⟨m', fun _ => 0, g'⟩ (fun r => ∀ c : Dev Cert.ScgReferenceIdeal.nD,
          r.2.mem ((c.tc : Thread Cert.ScgReferenceIdeal.nD Cert.ScgReferenceIdeal.τ).loc Cert.ScgReferenceIdeal.main_v5) = v0 c
          ∧ r.2.mem ((c.tc : Thread Cert.ScgReferenceIdeal.nD Cert.ScgReferenceIdeal.τ).loc Cert.ScgReferenceIdeal.main_arg0) = m' ((c.tc : Thread Cert.ScgReferenceIdeal.nD Cert.ScgReferenceIdeal.τ).loc Cert.ScgReferenceIdeal.main_arg0)
          ∧ r.2.mem ((c.tc : Thread Cert.ScgReferenceIdeal.nD Cert.ScgReferenceIdeal.τ).loc Cert.ScgReferenceIdeal.main_arg1) = m' ((c.tc : Thread Cert.ScgReferenceIdeal.nD Cert.ScgReferenceIdeal.τ).loc Cert.ScgReferenceIdeal.main_arg1))

def preserves_AdbKernel_AdbKernelIdeal : Prop :=
  True

def algebraic_AdbKernelIdeal_AdbReferenceIdeal [hAdbKernelIdeal : Cert.AdbKernelIdeal.Facts] [hAdbReferenceIdeal : Cert.AdbReferenceIdeal.Facts] : Prop :=
  ∀ (m : (ℓ : Loc Cert.AdbKernelIdeal.nD Cert.AdbKernelIdeal.τ Cert.AdbKernelIdeal.sig) → Buf (Elt Ideal) ℓ) (g : Dev Cert.AdbKernelIdeal.nD → PrngReg)
    (m' : (ℓ : Loc Cert.AdbReferenceIdeal.nD Cert.AdbReferenceIdeal.τ Cert.AdbReferenceIdeal.sig) → Buf (Elt Ideal) ℓ) (g' : Dev Cert.AdbReferenceIdeal.nD → PrngReg), Pre_AdbKernelIdeal m →
    (∀ c : Dev Cert.AdbKernelIdeal.nD,
      m' ((c.tc : Thread Cert.AdbReferenceIdeal.nD Cert.AdbReferenceIdeal.τ).loc Cert.AdbReferenceIdeal.main_arg0) = m ((c.tc : Thread Cert.AdbKernelIdeal.nD Cert.AdbKernelIdeal.τ).loc Cert.AdbKernelIdeal.main_arg0)
      ∧ m' ((c.tc : Thread Cert.AdbReferenceIdeal.nD Cert.AdbReferenceIdeal.τ).loc Cert.AdbReferenceIdeal.main_arg1) = m ((c.tc : Thread Cert.AdbKernelIdeal.nD Cert.AdbKernelIdeal.τ).loc Cert.AdbKernelIdeal.main_arg1)
      ∧ m' ((c.tc : Thread Cert.AdbReferenceIdeal.nD Cert.AdbReferenceIdeal.τ).loc Cert.AdbReferenceIdeal.main_arg2) = m ((c.tc : Thread Cert.AdbKernelIdeal.nD Cert.AdbKernelIdeal.τ).loc Cert.AdbKernelIdeal.main_arg2)
      ∧ m' ((c.tc : Thread Cert.AdbReferenceIdeal.nD Cert.AdbReferenceIdeal.τ).loc Cert.AdbReferenceIdeal.main_arg3) = m ((c.tc : Thread Cert.AdbKernelIdeal.nD Cert.AdbKernelIdeal.τ).loc Cert.AdbKernelIdeal.main_arg3)
      ∧ m' ((c.tc : Thread Cert.AdbReferenceIdeal.nD Cert.AdbReferenceIdeal.τ).loc Cert.AdbReferenceIdeal.main_arg4) = m ((c.tc : Thread Cert.AdbKernelIdeal.nD Cert.AdbKernelIdeal.τ).loc Cert.AdbKernelIdeal.main_arg4)) →
    ∃ (v0 : (c : Dev Cert.AdbKernelIdeal.nD) → Buf (Elt Ideal) ((c.tc : Thread Cert.AdbKernelIdeal.nD Cert.AdbKernelIdeal.τ).loc Cert.AdbKernelIdeal.main_v1_0)) (v1 : (c : Dev Cert.AdbKernelIdeal.nD) → Buf (Elt Ideal) ((c.tc : Thread Cert.AdbKernelIdeal.nD Cert.AdbKernelIdeal.τ).loc Cert.AdbKernelIdeal.main_v1_1)) (v2 : (c : Dev Cert.AdbKernelIdeal.nD) → Buf (Elt Ideal) ((c.tc : Thread Cert.AdbKernelIdeal.nD Cert.AdbKernelIdeal.τ).loc Cert.AdbKernelIdeal.main_v1_2)) (v3 : (c : Dev Cert.AdbKernelIdeal.nD) → Buf (Elt Ideal) ((c.tc : Thread Cert.AdbKernelIdeal.nD Cert.AdbKernelIdeal.τ).loc Cert.AdbKernelIdeal.main_v1_3)),
      θ_run (Cert.AdbKernelIdeal.defs (F := Ideal)) (onTc (τ := Cert.AdbKernelIdeal.τ) (Cert.AdbKernelIdeal.main (F := Ideal))) ⟨m, fun _ => 0, g⟩ (fun r => ∀ c : Dev Cert.AdbKernelIdeal.nD,
          r.2.mem ((c.tc : Thread Cert.AdbKernelIdeal.nD Cert.AdbKernelIdeal.τ).loc Cert.AdbKernelIdeal.main_v1_0) = v0 c
          ∧ r.2.mem ((c.tc : Thread Cert.AdbKernelIdeal.nD Cert.AdbKernelIdeal.τ).loc Cert.AdbKernelIdeal.main_v1_1) = v1 c
          ∧ r.2.mem ((c.tc : Thread Cert.AdbKernelIdeal.nD Cert.AdbKernelIdeal.τ).loc Cert.AdbKernelIdeal.main_v1_2) = v2 c
          ∧ r.2.mem ((c.tc : Thread Cert.AdbKernelIdeal.nD Cert.AdbKernelIdeal.τ).loc Cert.AdbKernelIdeal.main_v1_3) = v3 c
          ∧ r.2.mem ((c.tc : Thread Cert.AdbKernelIdeal.nD Cert.AdbKernelIdeal.τ).loc Cert.AdbKernelIdeal.main_arg0) = m ((c.tc : Thread Cert.AdbKernelIdeal.nD Cert.AdbKernelIdeal.τ).loc Cert.AdbKernelIdeal.main_arg0)
          ∧ r.2.mem ((c.tc : Thread Cert.AdbKernelIdeal.nD Cert.AdbKernelIdeal.τ).loc Cert.AdbKernelIdeal.main_arg1) = m ((c.tc : Thread Cert.AdbKernelIdeal.nD Cert.AdbKernelIdeal.τ).loc Cert.AdbKernelIdeal.main_arg1)
          ∧ r.2.mem ((c.tc : Thread Cert.AdbKernelIdeal.nD Cert.AdbKernelIdeal.τ).loc Cert.AdbKernelIdeal.main_arg2) = m ((c.tc : Thread Cert.AdbKernelIdeal.nD Cert.AdbKernelIdeal.τ).loc Cert.AdbKernelIdeal.main_arg2)
          ∧ r.2.mem ((c.tc : Thread Cert.AdbKernelIdeal.nD Cert.AdbKernelIdeal.τ).loc Cert.AdbKernelIdeal.main_arg3) = m ((c.tc : Thread Cert.AdbKernelIdeal.nD Cert.AdbKernelIdeal.τ).loc Cert.AdbKernelIdeal.main_arg3)
          ∧ r.2.mem ((c.tc : Thread Cert.AdbKernelIdeal.nD Cert.AdbKernelIdeal.τ).loc Cert.AdbKernelIdeal.main_arg4) = m ((c.tc : Thread Cert.AdbKernelIdeal.nD Cert.AdbKernelIdeal.τ).loc Cert.AdbKernelIdeal.main_arg4))
      ∧ θ_run (Cert.AdbReferenceIdeal.defs (F := Ideal)) (onTc (τ := Cert.AdbReferenceIdeal.τ) (Cert.AdbReferenceIdeal.main (F := Ideal))) ⟨m', fun _ => 0, g'⟩ (fun r => ∀ c : Dev Cert.AdbReferenceIdeal.nD,
          r.2.mem ((c.tc : Thread Cert.AdbReferenceIdeal.nD Cert.AdbReferenceIdeal.τ).loc Cert.AdbReferenceIdeal.main_v2) = v0 c
          ∧ r.2.mem ((c.tc : Thread Cert.AdbReferenceIdeal.nD Cert.AdbReferenceIdeal.τ).loc Cert.AdbReferenceIdeal.main_v26) = v1 c
          ∧ r.2.mem ((c.tc : Thread Cert.AdbReferenceIdeal.nD Cert.AdbReferenceIdeal.τ).loc Cert.AdbReferenceIdeal.main_v7) = v2 c
          ∧ r.2.mem ((c.tc : Thread Cert.AdbReferenceIdeal.nD Cert.AdbReferenceIdeal.τ).loc Cert.AdbReferenceIdeal.main_v13) = v3 c
          ∧ r.2.mem ((c.tc : Thread Cert.AdbReferenceIdeal.nD Cert.AdbReferenceIdeal.τ).loc Cert.AdbReferenceIdeal.main_arg0) = m' ((c.tc : Thread Cert.AdbReferenceIdeal.nD Cert.AdbReferenceIdeal.τ).loc Cert.AdbReferenceIdeal.main_arg0)
          ∧ r.2.mem ((c.tc : Thread Cert.AdbReferenceIdeal.nD Cert.AdbReferenceIdeal.τ).loc Cert.AdbReferenceIdeal.main_arg1) = m' ((c.tc : Thread Cert.AdbReferenceIdeal.nD Cert.AdbReferenceIdeal.τ).loc Cert.AdbReferenceIdeal.main_arg1)
          ∧ r.2.mem ((c.tc : Thread Cert.AdbReferenceIdeal.nD Cert.AdbReferenceIdeal.τ).loc Cert.AdbReferenceIdeal.main_arg2) = m' ((c.tc : Thread Cert.AdbReferenceIdeal.nD Cert.AdbReferenceIdeal.τ).loc Cert.AdbReferenceIdeal.main_arg2)
          ∧ r.2.mem ((c.tc : Thread Cert.AdbReferenceIdeal.nD Cert.AdbReferenceIdeal.τ).loc Cert.AdbReferenceIdeal.main_arg3) = m' ((c.tc : Thread Cert.AdbReferenceIdeal.nD Cert.AdbReferenceIdeal.τ).loc Cert.AdbReferenceIdeal.main_arg3)
          ∧ r.2.mem ((c.tc : Thread Cert.AdbReferenceIdeal.nD Cert.AdbReferenceIdeal.τ).loc Cert.AdbReferenceIdeal.main_arg4) = m' ((c.tc : Thread Cert.AdbReferenceIdeal.nD Cert.AdbReferenceIdeal.τ).loc Cert.AdbReferenceIdeal.main_arg4))

def preserves_AdoKernel_AdoKernelIdeal : Prop :=
  True

def algebraic_AdoKernelIdeal_AdoReferenceIdeal [hAdoKernelIdeal : Cert.AdoKernelIdeal.Facts] [hAdoReferenceIdeal : Cert.AdoReferenceIdeal.Facts] : Prop :=
  ∀ (m : (ℓ : Loc Cert.AdoKernelIdeal.nD Cert.AdoKernelIdeal.τ Cert.AdoKernelIdeal.sig) → Buf (Elt Ideal) ℓ) (g : Dev Cert.AdoKernelIdeal.nD → PrngReg)
    (m' : (ℓ : Loc Cert.AdoReferenceIdeal.nD Cert.AdoReferenceIdeal.τ Cert.AdoReferenceIdeal.sig) → Buf (Elt Ideal) ℓ) (g' : Dev Cert.AdoReferenceIdeal.nD → PrngReg), Pre_AdoKernelIdeal m →
    (∀ c : Dev Cert.AdoKernelIdeal.nD,
      m' ((c.tc : Thread Cert.AdoReferenceIdeal.nD Cert.AdoReferenceIdeal.τ).loc Cert.AdoReferenceIdeal.main_arg0) = m ((c.tc : Thread Cert.AdoKernelIdeal.nD Cert.AdoKernelIdeal.τ).loc Cert.AdoKernelIdeal.main_arg0)
      ∧ m' ((c.tc : Thread Cert.AdoReferenceIdeal.nD Cert.AdoReferenceIdeal.τ).loc Cert.AdoReferenceIdeal.main_arg1) = m ((c.tc : Thread Cert.AdoKernelIdeal.nD Cert.AdoKernelIdeal.τ).loc Cert.AdoKernelIdeal.main_arg1)
      ∧ m' ((c.tc : Thread Cert.AdoReferenceIdeal.nD Cert.AdoReferenceIdeal.τ).loc Cert.AdoReferenceIdeal.main_arg2) = m ((c.tc : Thread Cert.AdoKernelIdeal.nD Cert.AdoKernelIdeal.τ).loc Cert.AdoKernelIdeal.main_arg2)
      ∧ m' ((c.tc : Thread Cert.AdoReferenceIdeal.nD Cert.AdoReferenceIdeal.τ).loc Cert.AdoReferenceIdeal.main_arg3) = m ((c.tc : Thread Cert.AdoKernelIdeal.nD Cert.AdoKernelIdeal.τ).loc Cert.AdoKernelIdeal.main_arg3)
      ∧ m' ((c.tc : Thread Cert.AdoReferenceIdeal.nD Cert.AdoReferenceIdeal.τ).loc Cert.AdoReferenceIdeal.main_arg4) = m ((c.tc : Thread Cert.AdoKernelIdeal.nD Cert.AdoKernelIdeal.τ).loc Cert.AdoKernelIdeal.main_arg4)) →
    ∃ (v0 : (c : Dev Cert.AdoKernelIdeal.nD) → Buf (Elt Ideal) ((c.tc : Thread Cert.AdoKernelIdeal.nD Cert.AdoKernelIdeal.τ).loc Cert.AdoKernelIdeal.main_v1_0)) (v1 : (c : Dev Cert.AdoKernelIdeal.nD) → Buf (Elt Ideal) ((c.tc : Thread Cert.AdoKernelIdeal.nD Cert.AdoKernelIdeal.τ).loc Cert.AdoKernelIdeal.main_v1_1)) (v2 : (c : Dev Cert.AdoKernelIdeal.nD) → Buf (Elt Ideal) ((c.tc : Thread Cert.AdoKernelIdeal.nD Cert.AdoKernelIdeal.τ).loc Cert.AdoKernelIdeal.main_v1_2)) (v3 : (c : Dev Cert.AdoKernelIdeal.nD) → Buf (Elt Ideal) ((c.tc : Thread Cert.AdoKernelIdeal.nD Cert.AdoKernelIdeal.τ).loc Cert.AdoKernelIdeal.main_v1_3)),
      θ_run (Cert.AdoKernelIdeal.defs (F := Ideal)) (onTc (τ := Cert.AdoKernelIdeal.τ) (Cert.AdoKernelIdeal.main (F := Ideal))) ⟨m, fun _ => 0, g⟩ (fun r => ∀ c : Dev Cert.AdoKernelIdeal.nD,
          r.2.mem ((c.tc : Thread Cert.AdoKernelIdeal.nD Cert.AdoKernelIdeal.τ).loc Cert.AdoKernelIdeal.main_v1_0) = v0 c
          ∧ r.2.mem ((c.tc : Thread Cert.AdoKernelIdeal.nD Cert.AdoKernelIdeal.τ).loc Cert.AdoKernelIdeal.main_v1_1) = v1 c
          ∧ r.2.mem ((c.tc : Thread Cert.AdoKernelIdeal.nD Cert.AdoKernelIdeal.τ).loc Cert.AdoKernelIdeal.main_v1_2) = v2 c
          ∧ r.2.mem ((c.tc : Thread Cert.AdoKernelIdeal.nD Cert.AdoKernelIdeal.τ).loc Cert.AdoKernelIdeal.main_v1_3) = v3 c
          ∧ r.2.mem ((c.tc : Thread Cert.AdoKernelIdeal.nD Cert.AdoKernelIdeal.τ).loc Cert.AdoKernelIdeal.main_arg0) = m ((c.tc : Thread Cert.AdoKernelIdeal.nD Cert.AdoKernelIdeal.τ).loc Cert.AdoKernelIdeal.main_arg0)
          ∧ r.2.mem ((c.tc : Thread Cert.AdoKernelIdeal.nD Cert.AdoKernelIdeal.τ).loc Cert.AdoKernelIdeal.main_arg1) = m ((c.tc : Thread Cert.AdoKernelIdeal.nD Cert.AdoKernelIdeal.τ).loc Cert.AdoKernelIdeal.main_arg1)
          ∧ r.2.mem ((c.tc : Thread Cert.AdoKernelIdeal.nD Cert.AdoKernelIdeal.τ).loc Cert.AdoKernelIdeal.main_arg2) = m ((c.tc : Thread Cert.AdoKernelIdeal.nD Cert.AdoKernelIdeal.τ).loc Cert.AdoKernelIdeal.main_arg2)
          ∧ r.2.mem ((c.tc : Thread Cert.AdoKernelIdeal.nD Cert.AdoKernelIdeal.τ).loc Cert.AdoKernelIdeal.main_arg3) = m ((c.tc : Thread Cert.AdoKernelIdeal.nD Cert.AdoKernelIdeal.τ).loc Cert.AdoKernelIdeal.main_arg3)
          ∧ r.2.mem ((c.tc : Thread Cert.AdoKernelIdeal.nD Cert.AdoKernelIdeal.τ).loc Cert.AdoKernelIdeal.main_arg4) = m ((c.tc : Thread Cert.AdoKernelIdeal.nD Cert.AdoKernelIdeal.τ).loc Cert.AdoKernelIdeal.main_arg4))
      ∧ θ_run (Cert.AdoReferenceIdeal.defs (F := Ideal)) (onTc (τ := Cert.AdoReferenceIdeal.τ) (Cert.AdoReferenceIdeal.main (F := Ideal))) ⟨m', fun _ => 0, g'⟩ (fun r => ∀ c : Dev Cert.AdoReferenceIdeal.nD,
          r.2.mem ((c.tc : Thread Cert.AdoReferenceIdeal.nD Cert.AdoReferenceIdeal.τ).loc Cert.AdoReferenceIdeal.main_v0) = v0 c
          ∧ r.2.mem ((c.tc : Thread Cert.AdoReferenceIdeal.nD Cert.AdoReferenceIdeal.τ).loc Cert.AdoReferenceIdeal.main_v24) = v1 c
          ∧ r.2.mem ((c.tc : Thread Cert.AdoReferenceIdeal.nD Cert.AdoReferenceIdeal.τ).loc Cert.AdoReferenceIdeal.main_v5) = v2 c
          ∧ r.2.mem ((c.tc : Thread Cert.AdoReferenceIdeal.nD Cert.AdoReferenceIdeal.τ).loc Cert.AdoReferenceIdeal.main_v11) = v3 c
          ∧ r.2.mem ((c.tc : Thread Cert.AdoReferenceIdeal.nD Cert.AdoReferenceIdeal.τ).loc Cert.AdoReferenceIdeal.main_arg0) = m' ((c.tc : Thread Cert.AdoReferenceIdeal.nD Cert.AdoReferenceIdeal.τ).loc Cert.AdoReferenceIdeal.main_arg0)
          ∧ r.2.mem ((c.tc : Thread Cert.AdoReferenceIdeal.nD Cert.AdoReferenceIdeal.τ).loc Cert.AdoReferenceIdeal.main_arg1) = m' ((c.tc : Thread Cert.AdoReferenceIdeal.nD Cert.AdoReferenceIdeal.τ).loc Cert.AdoReferenceIdeal.main_arg1)
          ∧ r.2.mem ((c.tc : Thread Cert.AdoReferenceIdeal.nD Cert.AdoReferenceIdeal.τ).loc Cert.AdoReferenceIdeal.main_arg2) = m' ((c.tc : Thread Cert.AdoReferenceIdeal.nD Cert.AdoReferenceIdeal.τ).loc Cert.AdoReferenceIdeal.main_arg2)
          ∧ r.2.mem ((c.tc : Thread Cert.AdoReferenceIdeal.nD Cert.AdoReferenceIdeal.τ).loc Cert.AdoReferenceIdeal.main_arg3) = m' ((c.tc : Thread Cert.AdoReferenceIdeal.nD Cert.AdoReferenceIdeal.τ).loc Cert.AdoReferenceIdeal.main_arg3)
          ∧ r.2.mem ((c.tc : Thread Cert.AdoReferenceIdeal.nD Cert.AdoReferenceIdeal.τ).loc Cert.AdoReferenceIdeal.main_arg4) = m' ((c.tc : Thread Cert.AdoReferenceIdeal.nD Cert.AdoReferenceIdeal.τ).loc Cert.AdoReferenceIdeal.main_arg4))

def preserves_AdgKernel_AdgKernelIdeal : Prop :=
  True

def algebraic_AdgKernelIdeal_AdgReferenceIdeal [hAdgKernelIdeal : Cert.AdgKernelIdeal.Facts] [hAdgReferenceIdeal : Cert.AdgReferenceIdeal.Facts] : Prop :=
  ∀ (m : (ℓ : Loc Cert.AdgKernelIdeal.nD Cert.AdgKernelIdeal.τ Cert.AdgKernelIdeal.sig) → Buf (Elt Ideal) ℓ) (g : Dev Cert.AdgKernelIdeal.nD → PrngReg)
    (m' : (ℓ : Loc Cert.AdgReferenceIdeal.nD Cert.AdgReferenceIdeal.τ Cert.AdgReferenceIdeal.sig) → Buf (Elt Ideal) ℓ) (g' : Dev Cert.AdgReferenceIdeal.nD → PrngReg), Pre_AdgKernelIdeal m →
    (∀ c : Dev Cert.AdgKernelIdeal.nD,
      m' ((c.tc : Thread Cert.AdgReferenceIdeal.nD Cert.AdgReferenceIdeal.τ).loc Cert.AdgReferenceIdeal.main_arg0) = m ((c.tc : Thread Cert.AdgKernelIdeal.nD Cert.AdgKernelIdeal.τ).loc Cert.AdgKernelIdeal.main_arg0)
      ∧ m' ((c.tc : Thread Cert.AdgReferenceIdeal.nD Cert.AdgReferenceIdeal.τ).loc Cert.AdgReferenceIdeal.main_arg1) = m ((c.tc : Thread Cert.AdgKernelIdeal.nD Cert.AdgKernelIdeal.τ).loc Cert.AdgKernelIdeal.main_arg1)
      ∧ m' ((c.tc : Thread Cert.AdgReferenceIdeal.nD Cert.AdgReferenceIdeal.τ).loc Cert.AdgReferenceIdeal.main_arg2) = m ((c.tc : Thread Cert.AdgKernelIdeal.nD Cert.AdgKernelIdeal.τ).loc Cert.AdgKernelIdeal.main_arg2)
      ∧ m' ((c.tc : Thread Cert.AdgReferenceIdeal.nD Cert.AdgReferenceIdeal.τ).loc Cert.AdgReferenceIdeal.main_arg3) = m ((c.tc : Thread Cert.AdgKernelIdeal.nD Cert.AdgKernelIdeal.τ).loc Cert.AdgKernelIdeal.main_arg3)
      ∧ m' ((c.tc : Thread Cert.AdgReferenceIdeal.nD Cert.AdgReferenceIdeal.τ).loc Cert.AdgReferenceIdeal.main_arg4) = m ((c.tc : Thread Cert.AdgKernelIdeal.nD Cert.AdgKernelIdeal.τ).loc Cert.AdgKernelIdeal.main_arg4)) →
    ∃ (v0 : (c : Dev Cert.AdgKernelIdeal.nD) → Buf (Elt Ideal) ((c.tc : Thread Cert.AdgKernelIdeal.nD Cert.AdgKernelIdeal.τ).loc Cert.AdgKernelIdeal.main_v1_0)) (v1 : (c : Dev Cert.AdgKernelIdeal.nD) → Buf (Elt Ideal) ((c.tc : Thread Cert.AdgKernelIdeal.nD Cert.AdgKernelIdeal.τ).loc Cert.AdgKernelIdeal.main_v1_1)) (v2 : (c : Dev Cert.AdgKernelIdeal.nD) → Buf (Elt Ideal) ((c.tc : Thread Cert.AdgKernelIdeal.nD Cert.AdgKernelIdeal.τ).loc Cert.AdgKernelIdeal.main_v1_2)) (v3 : (c : Dev Cert.AdgKernelIdeal.nD) → Buf (Elt Ideal) ((c.tc : Thread Cert.AdgKernelIdeal.nD Cert.AdgKernelIdeal.τ).loc Cert.AdgKernelIdeal.main_v1_3)),
      θ_run (Cert.AdgKernelIdeal.defs (F := Ideal)) (onTc (τ := Cert.AdgKernelIdeal.τ) (Cert.AdgKernelIdeal.main (F := Ideal))) ⟨m, fun _ => 0, g⟩ (fun r => ∀ c : Dev Cert.AdgKernelIdeal.nD,
          r.2.mem ((c.tc : Thread Cert.AdgKernelIdeal.nD Cert.AdgKernelIdeal.τ).loc Cert.AdgKernelIdeal.main_v1_0) = v0 c
          ∧ r.2.mem ((c.tc : Thread Cert.AdgKernelIdeal.nD Cert.AdgKernelIdeal.τ).loc Cert.AdgKernelIdeal.main_v1_1) = v1 c
          ∧ r.2.mem ((c.tc : Thread Cert.AdgKernelIdeal.nD Cert.AdgKernelIdeal.τ).loc Cert.AdgKernelIdeal.main_v1_2) = v2 c
          ∧ r.2.mem ((c.tc : Thread Cert.AdgKernelIdeal.nD Cert.AdgKernelIdeal.τ).loc Cert.AdgKernelIdeal.main_v1_3) = v3 c
          ∧ r.2.mem ((c.tc : Thread Cert.AdgKernelIdeal.nD Cert.AdgKernelIdeal.τ).loc Cert.AdgKernelIdeal.main_arg0) = m ((c.tc : Thread Cert.AdgKernelIdeal.nD Cert.AdgKernelIdeal.τ).loc Cert.AdgKernelIdeal.main_arg0)
          ∧ r.2.mem ((c.tc : Thread Cert.AdgKernelIdeal.nD Cert.AdgKernelIdeal.τ).loc Cert.AdgKernelIdeal.main_arg1) = m ((c.tc : Thread Cert.AdgKernelIdeal.nD Cert.AdgKernelIdeal.τ).loc Cert.AdgKernelIdeal.main_arg1)
          ∧ r.2.mem ((c.tc : Thread Cert.AdgKernelIdeal.nD Cert.AdgKernelIdeal.τ).loc Cert.AdgKernelIdeal.main_arg2) = m ((c.tc : Thread Cert.AdgKernelIdeal.nD Cert.AdgKernelIdeal.τ).loc Cert.AdgKernelIdeal.main_arg2)
          ∧ r.2.mem ((c.tc : Thread Cert.AdgKernelIdeal.nD Cert.AdgKernelIdeal.τ).loc Cert.AdgKernelIdeal.main_arg3) = m ((c.tc : Thread Cert.AdgKernelIdeal.nD Cert.AdgKernelIdeal.τ).loc Cert.AdgKernelIdeal.main_arg3)
          ∧ r.2.mem ((c.tc : Thread Cert.AdgKernelIdeal.nD Cert.AdgKernelIdeal.τ).loc Cert.AdgKernelIdeal.main_arg4) = m ((c.tc : Thread Cert.AdgKernelIdeal.nD Cert.AdgKernelIdeal.τ).loc Cert.AdgKernelIdeal.main_arg4))
      ∧ θ_run (Cert.AdgReferenceIdeal.defs (F := Ideal)) (onTc (τ := Cert.AdgReferenceIdeal.τ) (Cert.AdgReferenceIdeal.main (F := Ideal))) ⟨m', fun _ => 0, g'⟩ (fun r => ∀ c : Dev Cert.AdgReferenceIdeal.nD,
          r.2.mem ((c.tc : Thread Cert.AdgReferenceIdeal.nD Cert.AdgReferenceIdeal.τ).loc Cert.AdgReferenceIdeal.main_v0) = v0 c
          ∧ r.2.mem ((c.tc : Thread Cert.AdgReferenceIdeal.nD Cert.AdgReferenceIdeal.τ).loc Cert.AdgReferenceIdeal.main_v24) = v1 c
          ∧ r.2.mem ((c.tc : Thread Cert.AdgReferenceIdeal.nD Cert.AdgReferenceIdeal.τ).loc Cert.AdgReferenceIdeal.main_v5) = v2 c
          ∧ r.2.mem ((c.tc : Thread Cert.AdgReferenceIdeal.nD Cert.AdgReferenceIdeal.τ).loc Cert.AdgReferenceIdeal.main_v11) = v3 c
          ∧ r.2.mem ((c.tc : Thread Cert.AdgReferenceIdeal.nD Cert.AdgReferenceIdeal.τ).loc Cert.AdgReferenceIdeal.main_arg0) = m' ((c.tc : Thread Cert.AdgReferenceIdeal.nD Cert.AdgReferenceIdeal.τ).loc Cert.AdgReferenceIdeal.main_arg0)
          ∧ r.2.mem ((c.tc : Thread Cert.AdgReferenceIdeal.nD Cert.AdgReferenceIdeal.τ).loc Cert.AdgReferenceIdeal.main_arg1) = m' ((c.tc : Thread Cert.AdgReferenceIdeal.nD Cert.AdgReferenceIdeal.τ).loc Cert.AdgReferenceIdeal.main_arg1)
          ∧ r.2.mem ((c.tc : Thread Cert.AdgReferenceIdeal.nD Cert.AdgReferenceIdeal.τ).loc Cert.AdgReferenceIdeal.main_arg2) = m' ((c.tc : Thread Cert.AdgReferenceIdeal.nD Cert.AdgReferenceIdeal.τ).loc Cert.AdgReferenceIdeal.main_arg2)
          ∧ r.2.mem ((c.tc : Thread Cert.AdgReferenceIdeal.nD Cert.AdgReferenceIdeal.τ).loc Cert.AdgReferenceIdeal.main_arg3) = m' ((c.tc : Thread Cert.AdgReferenceIdeal.nD Cert.AdgReferenceIdeal.τ).loc Cert.AdgReferenceIdeal.main_arg3)
          ∧ r.2.mem ((c.tc : Thread Cert.AdgReferenceIdeal.nD Cert.AdgReferenceIdeal.τ).loc Cert.AdgReferenceIdeal.main_arg4) = m' ((c.tc : Thread Cert.AdgReferenceIdeal.nD Cert.AdgReferenceIdeal.τ).loc Cert.AdgReferenceIdeal.main_arg4))

def preserves_AsaKernel_AsaKernelIdeal : Prop :=
  True

def algebraic_AsaKernelIdeal_AsaReferenceIdeal [hAsaKernelIdeal : Cert.AsaKernelIdeal.Facts] [hAsaReferenceIdeal : Cert.AsaReferenceIdeal.Facts] : Prop :=
  ∀ (m : (ℓ : Loc Cert.AsaKernelIdeal.nD Cert.AsaKernelIdeal.τ Cert.AsaKernelIdeal.sig) → Buf (Elt Ideal) ℓ) (g : Dev Cert.AsaKernelIdeal.nD → PrngReg)
    (m' : (ℓ : Loc Cert.AsaReferenceIdeal.nD Cert.AsaReferenceIdeal.τ Cert.AsaReferenceIdeal.sig) → Buf (Elt Ideal) ℓ) (g' : Dev Cert.AsaReferenceIdeal.nD → PrngReg), Pre_AsaKernelIdeal m →
    (∀ c : Dev Cert.AsaKernelIdeal.nD,
      m' ((c.tc : Thread Cert.AsaReferenceIdeal.nD Cert.AsaReferenceIdeal.τ).loc Cert.AsaReferenceIdeal.main_arg0) = m ((c.tc : Thread Cert.AsaKernelIdeal.nD Cert.AsaKernelIdeal.τ).loc Cert.AsaKernelIdeal.main_arg0)
      ∧ m' ((c.tc : Thread Cert.AsaReferenceIdeal.nD Cert.AsaReferenceIdeal.τ).loc Cert.AsaReferenceIdeal.main_arg1) = m ((c.tc : Thread Cert.AsaKernelIdeal.nD Cert.AsaKernelIdeal.τ).loc Cert.AsaKernelIdeal.main_arg1)
      ∧ m' ((c.tc : Thread Cert.AsaReferenceIdeal.nD Cert.AsaReferenceIdeal.τ).loc Cert.AsaReferenceIdeal.main_arg2) = m ((c.tc : Thread Cert.AsaKernelIdeal.nD Cert.AsaKernelIdeal.τ).loc Cert.AsaKernelIdeal.main_arg2)
      ∧ m' ((c.tc : Thread Cert.AsaReferenceIdeal.nD Cert.AsaReferenceIdeal.τ).loc Cert.AsaReferenceIdeal.main_arg3) = m ((c.tc : Thread Cert.AsaKernelIdeal.nD Cert.AsaKernelIdeal.τ).loc Cert.AsaKernelIdeal.main_arg3)
      ∧ m' ((c.tc : Thread Cert.AsaReferenceIdeal.nD Cert.AsaReferenceIdeal.τ).loc Cert.AsaReferenceIdeal.main_arg4) = m ((c.tc : Thread Cert.AsaKernelIdeal.nD Cert.AsaKernelIdeal.τ).loc Cert.AsaKernelIdeal.main_arg4)
      ∧ m' ((c.tc : Thread Cert.AsaReferenceIdeal.nD Cert.AsaReferenceIdeal.τ).loc Cert.AsaReferenceIdeal.main_arg5) = m ((c.tc : Thread Cert.AsaKernelIdeal.nD Cert.AsaKernelIdeal.τ).loc Cert.AsaKernelIdeal.main_arg5)
      ∧ m' ((c.tc : Thread Cert.AsaReferenceIdeal.nD Cert.AsaReferenceIdeal.τ).loc Cert.AsaReferenceIdeal.main_arg6) = m ((c.tc : Thread Cert.AsaKernelIdeal.nD Cert.AsaKernelIdeal.τ).loc Cert.AsaKernelIdeal.main_arg6)
      ∧ m' ((c.tc : Thread Cert.AsaReferenceIdeal.nD Cert.AsaReferenceIdeal.τ).loc Cert.AsaReferenceIdeal.main_arg7) = m ((c.tc : Thread Cert.AsaKernelIdeal.nD Cert.AsaKernelIdeal.τ).loc Cert.AsaKernelIdeal.main_arg7)
      ∧ m' ((c.tc : Thread Cert.AsaReferenceIdeal.nD Cert.AsaReferenceIdeal.τ).loc Cert.AsaReferenceIdeal.main_arg8) = m ((c.tc : Thread Cert.AsaKernelIdeal.nD Cert.AsaKernelIdeal.τ).loc Cert.AsaKernelIdeal.main_arg8)
      ∧ m' ((c.tc : Thread Cert.AsaReferenceIdeal.nD Cert.AsaReferenceIdeal.τ).loc Cert.AsaReferenceIdeal.main_arg9) = m ((c.tc : Thread Cert.AsaKernelIdeal.nD Cert.AsaKernelIdeal.τ).loc Cert.AsaKernelIdeal.main_arg9)
      ∧ m' ((c.tc : Thread Cert.AsaReferenceIdeal.nD Cert.AsaReferenceIdeal.τ).loc Cert.AsaReferenceIdeal.main_arg10) = m ((c.tc : Thread Cert.AsaKernelIdeal.nD Cert.AsaKernelIdeal.τ).loc Cert.AsaKernelIdeal.main_arg10)
      ∧ m' ((c.tc : Thread Cert.AsaReferenceIdeal.nD Cert.AsaReferenceIdeal.τ).loc Cert.AsaReferenceIdeal.main_arg11) = m ((c.tc : Thread Cert.AsaKernelIdeal.nD Cert.AsaKernelIdeal.τ).loc Cert.AsaKernelIdeal.main_arg11)) →
    ∃ (v0 : (c : Dev Cert.AsaKernelIdeal.nD) → Buf (Elt Ideal) ((c.tc : Thread Cert.AsaKernelIdeal.nD Cert.AsaKernelIdeal.τ).loc Cert.AsaKernelIdeal.main_v0_0)) (v1 : (c : Dev Cert.AsaKernelIdeal.nD) → Buf (Elt Ideal) ((c.tc : Thread Cert.AsaKernelIdeal.nD Cert.AsaKernelIdeal.τ).loc Cert.AsaKernelIdeal.main_v0_1)) (v2 : (c : Dev Cert.AsaKernelIdeal.nD) → Buf (Elt Ideal) ((c.tc : Thread Cert.AsaKernelIdeal.nD Cert.AsaKernelIdeal.τ).loc Cert.AsaKernelIdeal.main_v0_2)) (v3 : (c : Dev Cert.AsaKernelIdeal.nD) → Buf (Elt Ideal) ((c.tc : Thread Cert.AsaKernelIdeal.nD Cert.AsaKernelIdeal.τ).loc Cert.AsaKernelIdeal.main_v0_3)) (v4 : (c : Dev Cert.AsaKernelIdeal.nD) → Buf (Elt Ideal) ((c.tc : Thread Cert.AsaKernelIdeal.nD Cert.AsaKernelIdeal.τ).loc Cert.AsaKernelIdeal.main_v0_4)) (v5 : (c : Dev Cert.AsaKernelIdeal.nD) → Buf (Elt Ideal) ((c.tc : Thread Cert.AsaKernelIdeal.nD Cert.AsaKernelIdeal.τ).loc Cert.AsaKernelIdeal.main_v0_5)) (v6 : (c : Dev Cert.AsaKernelIdeal.nD) → Buf (Elt Ideal) ((c.tc : Thread Cert.AsaKernelIdeal.nD Cert.AsaKernelIdeal.τ).loc Cert.AsaKernelIdeal.main_v0_6)) (v7 : (c : Dev Cert.AsaKernelIdeal.nD) → Buf (Elt Ideal) ((c.tc : Thread Cert.AsaKernelIdeal.nD Cert.AsaKernelIdeal.τ).loc Cert.AsaKernelIdeal.main_v0_7)) (v8 : (c : Dev Cert.AsaKernelIdeal.nD) → Buf (Elt Ideal) ((c.tc : Thread Cert.AsaKernelIdeal.nD Cert.AsaKernelIdeal.τ).loc Cert.AsaKernelIdeal.main_v0_8)),
      θ_run (Cert.AsaKernelIdeal.defs (F := Ideal)) (onTc (τ := Cert.AsaKernelIdeal.τ) (Cert.AsaKernelIdeal.main (F := Ideal))) ⟨m, fun _ => 0, g⟩ (fun r => ∀ c : Dev Cert.AsaKernelIdeal.nD,
          r.2.mem ((c.tc : Thread Cert.AsaKernelIdeal.nD Cert.AsaKernelIdeal.τ).loc Cert.AsaKernelIdeal.main_v0_0) = v0 c
          ∧ r.2.mem ((c.tc : Thread Cert.AsaKernelIdeal.nD Cert.AsaKernelIdeal.τ).loc Cert.AsaKernelIdeal.main_v0_1) = v1 c
          ∧ r.2.mem ((c.tc : Thread Cert.AsaKernelIdeal.nD Cert.AsaKernelIdeal.τ).loc Cert.AsaKernelIdeal.main_v0_2) = v2 c
          ∧ r.2.mem ((c.tc : Thread Cert.AsaKernelIdeal.nD Cert.AsaKernelIdeal.τ).loc Cert.AsaKernelIdeal.main_v0_3) = v3 c
          ∧ r.2.mem ((c.tc : Thread Cert.AsaKernelIdeal.nD Cert.AsaKernelIdeal.τ).loc Cert.AsaKernelIdeal.main_v0_4) = v4 c
          ∧ r.2.mem ((c.tc : Thread Cert.AsaKernelIdeal.nD Cert.AsaKernelIdeal.τ).loc Cert.AsaKernelIdeal.main_v0_5) = v5 c
          ∧ r.2.mem ((c.tc : Thread Cert.AsaKernelIdeal.nD Cert.AsaKernelIdeal.τ).loc Cert.AsaKernelIdeal.main_v0_6) = v6 c
          ∧ r.2.mem ((c.tc : Thread Cert.AsaKernelIdeal.nD Cert.AsaKernelIdeal.τ).loc Cert.AsaKernelIdeal.main_v0_7) = v7 c
          ∧ r.2.mem ((c.tc : Thread Cert.AsaKernelIdeal.nD Cert.AsaKernelIdeal.τ).loc Cert.AsaKernelIdeal.main_v0_8) = v8 c
          ∧ r.2.mem ((c.tc : Thread Cert.AsaKernelIdeal.nD Cert.AsaKernelIdeal.τ).loc Cert.AsaKernelIdeal.main_arg0) = m ((c.tc : Thread Cert.AsaKernelIdeal.nD Cert.AsaKernelIdeal.τ).loc Cert.AsaKernelIdeal.main_arg0)
          ∧ r.2.mem ((c.tc : Thread Cert.AsaKernelIdeal.nD Cert.AsaKernelIdeal.τ).loc Cert.AsaKernelIdeal.main_arg1) = m ((c.tc : Thread Cert.AsaKernelIdeal.nD Cert.AsaKernelIdeal.τ).loc Cert.AsaKernelIdeal.main_arg1)
          ∧ r.2.mem ((c.tc : Thread Cert.AsaKernelIdeal.nD Cert.AsaKernelIdeal.τ).loc Cert.AsaKernelIdeal.main_arg2) = m ((c.tc : Thread Cert.AsaKernelIdeal.nD Cert.AsaKernelIdeal.τ).loc Cert.AsaKernelIdeal.main_arg2)
          ∧ r.2.mem ((c.tc : Thread Cert.AsaKernelIdeal.nD Cert.AsaKernelIdeal.τ).loc Cert.AsaKernelIdeal.main_arg3) = m ((c.tc : Thread Cert.AsaKernelIdeal.nD Cert.AsaKernelIdeal.τ).loc Cert.AsaKernelIdeal.main_arg3)
          ∧ r.2.mem ((c.tc : Thread Cert.AsaKernelIdeal.nD Cert.AsaKernelIdeal.τ).loc Cert.AsaKernelIdeal.main_arg4) = m ((c.tc : Thread Cert.AsaKernelIdeal.nD Cert.AsaKernelIdeal.τ).loc Cert.AsaKernelIdeal.main_arg4)
          ∧ r.2.mem ((c.tc : Thread Cert.AsaKernelIdeal.nD Cert.AsaKernelIdeal.τ).loc Cert.AsaKernelIdeal.main_arg5) = m ((c.tc : Thread Cert.AsaKernelIdeal.nD Cert.AsaKernelIdeal.τ).loc Cert.AsaKernelIdeal.main_arg5)
          ∧ r.2.mem ((c.tc : Thread Cert.AsaKernelIdeal.nD Cert.AsaKernelIdeal.τ).loc Cert.AsaKernelIdeal.main_arg6) = m ((c.tc : Thread Cert.AsaKernelIdeal.nD Cert.AsaKernelIdeal.τ).loc Cert.AsaKernelIdeal.main_arg6)
          ∧ r.2.mem ((c.tc : Thread Cert.AsaKernelIdeal.nD Cert.AsaKernelIdeal.τ).loc Cert.AsaKernelIdeal.main_arg7) = m ((c.tc : Thread Cert.AsaKernelIdeal.nD Cert.AsaKernelIdeal.τ).loc Cert.AsaKernelIdeal.main_arg7)
          ∧ r.2.mem ((c.tc : Thread Cert.AsaKernelIdeal.nD Cert.AsaKernelIdeal.τ).loc Cert.AsaKernelIdeal.main_arg8) = m ((c.tc : Thread Cert.AsaKernelIdeal.nD Cert.AsaKernelIdeal.τ).loc Cert.AsaKernelIdeal.main_arg8)
          ∧ r.2.mem ((c.tc : Thread Cert.AsaKernelIdeal.nD Cert.AsaKernelIdeal.τ).loc Cert.AsaKernelIdeal.main_arg9) = m ((c.tc : Thread Cert.AsaKernelIdeal.nD Cert.AsaKernelIdeal.τ).loc Cert.AsaKernelIdeal.main_arg9)
          ∧ r.2.mem ((c.tc : Thread Cert.AsaKernelIdeal.nD Cert.AsaKernelIdeal.τ).loc Cert.AsaKernelIdeal.main_arg10) = m ((c.tc : Thread Cert.AsaKernelIdeal.nD Cert.AsaKernelIdeal.τ).loc Cert.AsaKernelIdeal.main_arg10)
          ∧ r.2.mem ((c.tc : Thread Cert.AsaKernelIdeal.nD Cert.AsaKernelIdeal.τ).loc Cert.AsaKernelIdeal.main_arg11) = m ((c.tc : Thread Cert.AsaKernelIdeal.nD Cert.AsaKernelIdeal.τ).loc Cert.AsaKernelIdeal.main_arg11))
      ∧ θ_run (Cert.AsaReferenceIdeal.defs (F := Ideal)) (onTc (τ := Cert.AsaReferenceIdeal.τ) (Cert.AsaReferenceIdeal.main (F := Ideal))) ⟨m', fun _ => 0, g'⟩ (fun r => ∀ c : Dev Cert.AsaReferenceIdeal.nD,
          r.2.mem ((c.tc : Thread Cert.AsaReferenceIdeal.nD Cert.AsaReferenceIdeal.τ).loc Cert.AsaReferenceIdeal.main_v23) = v0 c
          ∧ r.2.mem ((c.tc : Thread Cert.AsaReferenceIdeal.nD Cert.AsaReferenceIdeal.τ).loc Cert.AsaReferenceIdeal.main_v47) = v1 c
          ∧ r.2.mem ((c.tc : Thread Cert.AsaReferenceIdeal.nD Cert.AsaReferenceIdeal.τ).loc Cert.AsaReferenceIdeal.main_v71) = v2 c
          ∧ r.2.mem ((c.tc : Thread Cert.AsaReferenceIdeal.nD Cert.AsaReferenceIdeal.τ).loc Cert.AsaReferenceIdeal.main_v4) = v3 c
          ∧ r.2.mem ((c.tc : Thread Cert.AsaReferenceIdeal.nD Cert.AsaReferenceIdeal.τ).loc Cert.AsaReferenceIdeal.main_v28) = v4 c
          ∧ r.2.mem ((c.tc : Thread Cert.AsaReferenceIdeal.nD Cert.AsaReferenceIdeal.τ).loc Cert.AsaReferenceIdeal.main_v52) = v5 c
          ∧ r.2.mem ((c.tc : Thread Cert.AsaReferenceIdeal.nD Cert.AsaReferenceIdeal.τ).loc Cert.AsaReferenceIdeal.main_v10) = v6 c
          ∧ r.2.mem ((c.tc : Thread Cert.AsaReferenceIdeal.nD Cert.AsaReferenceIdeal.τ).loc Cert.AsaReferenceIdeal.main_v34) = v7 c
          ∧ r.2.mem ((c.tc : Thread Cert.AsaReferenceIdeal.nD Cert.AsaReferenceIdeal.τ).loc Cert.AsaReferenceIdeal.main_v58) = v8 c
          ∧ r.2.mem ((c.tc : Thread Cert.AsaReferenceIdeal.nD Cert.AsaReferenceIdeal.τ).loc Cert.AsaReferenceIdeal.main_arg0) = m' ((c.tc : Thread Cert.AsaReferenceIdeal.nD Cert.AsaReferenceIdeal.τ).loc Cert.AsaReferenceIdeal.main_arg0)
          ∧ r.2.mem ((c.tc : Thread Cert.AsaReferenceIdeal.nD Cert.AsaReferenceIdeal.τ).loc Cert.AsaReferenceIdeal.main_arg1) = m' ((c.tc : Thread Cert.AsaReferenceIdeal.nD Cert.AsaReferenceIdeal.τ).loc Cert.AsaReferenceIdeal.main_arg1)
          ∧ r.2.mem ((c.tc : Thread Cert.AsaReferenceIdeal.nD Cert.AsaReferenceIdeal.τ).loc Cert.AsaReferenceIdeal.main_arg2) = m' ((c.tc : Thread Cert.AsaReferenceIdeal.nD Cert.AsaReferenceIdeal.τ).loc Cert.AsaReferenceIdeal.main_arg2)
          ∧ r.2.mem ((c.tc : Thread Cert.AsaReferenceIdeal.nD Cert.AsaReferenceIdeal.τ).loc Cert.AsaReferenceIdeal.main_arg3) = m' ((c.tc : Thread Cert.AsaReferenceIdeal.nD Cert.AsaReferenceIdeal.τ).loc Cert.AsaReferenceIdeal.main_arg3)
          ∧ r.2.mem ((c.tc : Thread Cert.AsaReferenceIdeal.nD Cert.AsaReferenceIdeal.τ).loc Cert.AsaReferenceIdeal.main_arg4) = m' ((c.tc : Thread Cert.AsaReferenceIdeal.nD Cert.AsaReferenceIdeal.τ).loc Cert.AsaReferenceIdeal.main_arg4)
          ∧ r.2.mem ((c.tc : Thread Cert.AsaReferenceIdeal.nD Cert.AsaReferenceIdeal.τ).loc Cert.AsaReferenceIdeal.main_arg5) = m' ((c.tc : Thread Cert.AsaReferenceIdeal.nD Cert.AsaReferenceIdeal.τ).loc Cert.AsaReferenceIdeal.main_arg5)
          ∧ r.2.mem ((c.tc : Thread Cert.AsaReferenceIdeal.nD Cert.AsaReferenceIdeal.τ).loc Cert.AsaReferenceIdeal.main_arg6) = m' ((c.tc : Thread Cert.AsaReferenceIdeal.nD Cert.AsaReferenceIdeal.τ).loc Cert.AsaReferenceIdeal.main_arg6)
          ∧ r.2.mem ((c.tc : Thread Cert.AsaReferenceIdeal.nD Cert.AsaReferenceIdeal.τ).loc Cert.AsaReferenceIdeal.main_arg7) = m' ((c.tc : Thread Cert.AsaReferenceIdeal.nD Cert.AsaReferenceIdeal.τ).loc Cert.AsaReferenceIdeal.main_arg7)
          ∧ r.2.mem ((c.tc : Thread Cert.AsaReferenceIdeal.nD Cert.AsaReferenceIdeal.τ).loc Cert.AsaReferenceIdeal.main_arg8) = m' ((c.tc : Thread Cert.AsaReferenceIdeal.nD Cert.AsaReferenceIdeal.τ).loc Cert.AsaReferenceIdeal.main_arg8)
          ∧ r.2.mem ((c.tc : Thread Cert.AsaReferenceIdeal.nD Cert.AsaReferenceIdeal.τ).loc Cert.AsaReferenceIdeal.main_arg9) = m' ((c.tc : Thread Cert.AsaReferenceIdeal.nD Cert.AsaReferenceIdeal.τ).loc Cert.AsaReferenceIdeal.main_arg9)
          ∧ r.2.mem ((c.tc : Thread Cert.AsaReferenceIdeal.nD Cert.AsaReferenceIdeal.τ).loc Cert.AsaReferenceIdeal.main_arg10) = m' ((c.tc : Thread Cert.AsaReferenceIdeal.nD Cert.AsaReferenceIdeal.τ).loc Cert.AsaReferenceIdeal.main_arg10)
          ∧ r.2.mem ((c.tc : Thread Cert.AsaReferenceIdeal.nD Cert.AsaReferenceIdeal.τ).loc Cert.AsaReferenceIdeal.main_arg11) = m' ((c.tc : Thread Cert.AsaReferenceIdeal.nD Cert.AsaReferenceIdeal.τ).loc Cert.AsaReferenceIdeal.main_arg11))

def preserves_AsgKernel_AsgKernelIdeal : Prop :=
  True

def algebraic_AsgKernelIdeal_AsgReferenceIdeal [hAsgKernelIdeal : Cert.AsgKernelIdeal.Facts] [hAsgReferenceIdeal : Cert.AsgReferenceIdeal.Facts] : Prop :=
  ∀ (m : (ℓ : Loc Cert.AsgKernelIdeal.nD Cert.AsgKernelIdeal.τ Cert.AsgKernelIdeal.sig) → Buf (Elt Ideal) ℓ) (g : Dev Cert.AsgKernelIdeal.nD → PrngReg)
    (m' : (ℓ : Loc Cert.AsgReferenceIdeal.nD Cert.AsgReferenceIdeal.τ Cert.AsgReferenceIdeal.sig) → Buf (Elt Ideal) ℓ) (g' : Dev Cert.AsgReferenceIdeal.nD → PrngReg), Pre_AsgKernelIdeal m →
    (∀ c : Dev Cert.AsgKernelIdeal.nD,
      m' ((c.tc : Thread Cert.AsgReferenceIdeal.nD Cert.AsgReferenceIdeal.τ).loc Cert.AsgReferenceIdeal.main_arg0) = m ((c.tc : Thread Cert.AsgKernelIdeal.nD Cert.AsgKernelIdeal.τ).loc Cert.AsgKernelIdeal.main_arg0)
      ∧ m' ((c.tc : Thread Cert.AsgReferenceIdeal.nD Cert.AsgReferenceIdeal.τ).loc Cert.AsgReferenceIdeal.main_arg1) = m ((c.tc : Thread Cert.AsgKernelIdeal.nD Cert.AsgKernelIdeal.τ).loc Cert.AsgKernelIdeal.main_arg1)
      ∧ m' ((c.tc : Thread Cert.AsgReferenceIdeal.nD Cert.AsgReferenceIdeal.τ).loc Cert.AsgReferenceIdeal.main_arg2) = m ((c.tc : Thread Cert.AsgKernelIdeal.nD Cert.AsgKernelIdeal.τ).loc Cert.AsgKernelIdeal.main_arg2)
      ∧ m' ((c.tc : Thread Cert.AsgReferenceIdeal.nD Cert.AsgReferenceIdeal.τ).loc Cert.AsgReferenceIdeal.main_arg3) = m ((c.tc : Thread Cert.AsgKernelIdeal.nD Cert.AsgKernelIdeal.τ).loc Cert.AsgKernelIdeal.main_arg3)
      ∧ m' ((c.tc : Thread Cert.AsgReferenceIdeal.nD Cert.AsgReferenceIdeal.τ).loc Cert.AsgReferenceIdeal.main_arg4) = m ((c.tc : Thread Cert.AsgKernelIdeal.nD Cert.AsgKernelIdeal.τ).loc Cert.AsgKernelIdeal.main_arg4)
      ∧ m' ((c.tc : Thread Cert.AsgReferenceIdeal.nD Cert.AsgReferenceIdeal.τ).loc Cert.AsgReferenceIdeal.main_arg5) = m ((c.tc : Thread Cert.AsgKernelIdeal.nD Cert.AsgKernelIdeal.τ).loc Cert.AsgKernelIdeal.main_arg5)
      ∧ m' ((c.tc : Thread Cert.AsgReferenceIdeal.nD Cert.AsgReferenceIdeal.τ).loc Cert.AsgReferenceIdeal.main_arg6) = m ((c.tc : Thread Cert.AsgKernelIdeal.nD Cert.AsgKernelIdeal.τ).loc Cert.AsgKernelIdeal.main_arg6)
      ∧ m' ((c.tc : Thread Cert.AsgReferenceIdeal.nD Cert.AsgReferenceIdeal.τ).loc Cert.AsgReferenceIdeal.main_arg7) = m ((c.tc : Thread Cert.AsgKernelIdeal.nD Cert.AsgKernelIdeal.τ).loc Cert.AsgKernelIdeal.main_arg7)) →
    ∃ (v0 : (c : Dev Cert.AsgKernelIdeal.nD) → Buf (Elt Ideal) ((c.tc : Thread Cert.AsgKernelIdeal.nD Cert.AsgKernelIdeal.τ).loc Cert.AsgKernelIdeal.main_v0_0)) (v1 : (c : Dev Cert.AsgKernelIdeal.nD) → Buf (Elt Ideal) ((c.tc : Thread Cert.AsgKernelIdeal.nD Cert.AsgKernelIdeal.τ).loc Cert.AsgKernelIdeal.main_v0_1)) (v2 : (c : Dev Cert.AsgKernelIdeal.nD) → Buf (Elt Ideal) ((c.tc : Thread Cert.AsgKernelIdeal.nD Cert.AsgKernelIdeal.τ).loc Cert.AsgKernelIdeal.main_v0_2)) (v3 : (c : Dev Cert.AsgKernelIdeal.nD) → Buf (Elt Ideal) ((c.tc : Thread Cert.AsgKernelIdeal.nD Cert.AsgKernelIdeal.τ).loc Cert.AsgKernelIdeal.main_v0_3)) (v4 : (c : Dev Cert.AsgKernelIdeal.nD) → Buf (Elt Ideal) ((c.tc : Thread Cert.AsgKernelIdeal.nD Cert.AsgKernelIdeal.τ).loc Cert.AsgKernelIdeal.main_v0_4)) (v5 : (c : Dev Cert.AsgKernelIdeal.nD) → Buf (Elt Ideal) ((c.tc : Thread Cert.AsgKernelIdeal.nD Cert.AsgKernelIdeal.τ).loc Cert.AsgKernelIdeal.main_v0_5)),
      θ_run (Cert.AsgKernelIdeal.defs (F := Ideal)) (onTc (τ := Cert.AsgKernelIdeal.τ) (Cert.AsgKernelIdeal.main (F := Ideal))) ⟨m, fun _ => 0, g⟩ (fun r => ∀ c : Dev Cert.AsgKernelIdeal.nD,
          r.2.mem ((c.tc : Thread Cert.AsgKernelIdeal.nD Cert.AsgKernelIdeal.τ).loc Cert.AsgKernelIdeal.main_v0_0) = v0 c
          ∧ r.2.mem ((c.tc : Thread Cert.AsgKernelIdeal.nD Cert.AsgKernelIdeal.τ).loc Cert.AsgKernelIdeal.main_v0_1) = v1 c
          ∧ r.2.mem ((c.tc : Thread Cert.AsgKernelIdeal.nD Cert.AsgKernelIdeal.τ).loc Cert.AsgKernelIdeal.main_v0_2) = v2 c
          ∧ r.2.mem ((c.tc : Thread Cert.AsgKernelIdeal.nD Cert.AsgKernelIdeal.τ).loc Cert.AsgKernelIdeal.main_v0_3) = v3 c
          ∧ r.2.mem ((c.tc : Thread Cert.AsgKernelIdeal.nD Cert.AsgKernelIdeal.τ).loc Cert.AsgKernelIdeal.main_v0_4) = v4 c
          ∧ r.2.mem ((c.tc : Thread Cert.AsgKernelIdeal.nD Cert.AsgKernelIdeal.τ).loc Cert.AsgKernelIdeal.main_v0_5) = v5 c
          ∧ r.2.mem ((c.tc : Thread Cert.AsgKernelIdeal.nD Cert.AsgKernelIdeal.τ).loc Cert.AsgKernelIdeal.main_arg0) = m ((c.tc : Thread Cert.AsgKernelIdeal.nD Cert.AsgKernelIdeal.τ).loc Cert.AsgKernelIdeal.main_arg0)
          ∧ r.2.mem ((c.tc : Thread Cert.AsgKernelIdeal.nD Cert.AsgKernelIdeal.τ).loc Cert.AsgKernelIdeal.main_arg1) = m ((c.tc : Thread Cert.AsgKernelIdeal.nD Cert.AsgKernelIdeal.τ).loc Cert.AsgKernelIdeal.main_arg1)
          ∧ r.2.mem ((c.tc : Thread Cert.AsgKernelIdeal.nD Cert.AsgKernelIdeal.τ).loc Cert.AsgKernelIdeal.main_arg2) = m ((c.tc : Thread Cert.AsgKernelIdeal.nD Cert.AsgKernelIdeal.τ).loc Cert.AsgKernelIdeal.main_arg2)
          ∧ r.2.mem ((c.tc : Thread Cert.AsgKernelIdeal.nD Cert.AsgKernelIdeal.τ).loc Cert.AsgKernelIdeal.main_arg3) = m ((c.tc : Thread Cert.AsgKernelIdeal.nD Cert.AsgKernelIdeal.τ).loc Cert.AsgKernelIdeal.main_arg3)
          ∧ r.2.mem ((c.tc : Thread Cert.AsgKernelIdeal.nD Cert.AsgKernelIdeal.τ).loc Cert.AsgKernelIdeal.main_arg4) = m ((c.tc : Thread Cert.AsgKernelIdeal.nD Cert.AsgKernelIdeal.τ).loc Cert.AsgKernelIdeal.main_arg4)
          ∧ r.2.mem ((c.tc : Thread Cert.AsgKernelIdeal.nD Cert.AsgKernelIdeal.τ).loc Cert.AsgKernelIdeal.main_arg5) = m ((c.tc : Thread Cert.AsgKernelIdeal.nD Cert.AsgKernelIdeal.τ).loc Cert.AsgKernelIdeal.main_arg5)
          ∧ r.2.mem ((c.tc : Thread Cert.AsgKernelIdeal.nD Cert.AsgKernelIdeal.τ).loc Cert.AsgKernelIdeal.main_arg6) = m ((c.tc : Thread Cert.AsgKernelIdeal.nD Cert.AsgKernelIdeal.τ).loc Cert.AsgKernelIdeal.main_arg6)
          ∧ r.2.mem ((c.tc : Thread Cert.AsgKernelIdeal.nD Cert.AsgKernelIdeal.τ).loc Cert.AsgKernelIdeal.main_arg7) = m ((c.tc : Thread Cert.AsgKernelIdeal.nD Cert.AsgKernelIdeal.τ).loc Cert.AsgKernelIdeal.main_arg7))
      ∧ θ_run (Cert.AsgReferenceIdeal.defs (F := Ideal)) (onTc (τ := Cert.AsgReferenceIdeal.τ) (Cert.AsgReferenceIdeal.main (F := Ideal))) ⟨m', fun _ => 0, g'⟩ (fun r => ∀ c : Dev Cert.AsgReferenceIdeal.nD,
          r.2.mem ((c.tc : Thread Cert.AsgReferenceIdeal.nD Cert.AsgReferenceIdeal.τ).loc Cert.AsgReferenceIdeal.main_v23) = v0 c
          ∧ r.2.mem ((c.tc : Thread Cert.AsgReferenceIdeal.nD Cert.AsgReferenceIdeal.τ).loc Cert.AsgReferenceIdeal.main_v47) = v1 c
          ∧ r.2.mem ((c.tc : Thread Cert.AsgReferenceIdeal.nD Cert.AsgReferenceIdeal.τ).loc Cert.AsgReferenceIdeal.main_v4) = v2 c
          ∧ r.2.mem ((c.tc : Thread Cert.AsgReferenceIdeal.nD Cert.AsgReferenceIdeal.τ).loc Cert.AsgReferenceIdeal.main_v28) = v3 c
          ∧ r.2.mem ((c.tc : Thread Cert.AsgReferenceIdeal.nD Cert.AsgReferenceIdeal.τ).loc Cert.AsgReferenceIdeal.main_v10) = v4 c
          ∧ r.2.mem ((c.tc : Thread Cert.AsgReferenceIdeal.nD Cert.AsgReferenceIdeal.τ).loc Cert.AsgReferenceIdeal.main_v34) = v5 c
          ∧ r.2.mem ((c.tc : Thread Cert.AsgReferenceIdeal.nD Cert.AsgReferenceIdeal.τ).loc Cert.AsgReferenceIdeal.main_arg0) = m' ((c.tc : Thread Cert.AsgReferenceIdeal.nD Cert.AsgReferenceIdeal.τ).loc Cert.AsgReferenceIdeal.main_arg0)
          ∧ r.2.mem ((c.tc : Thread Cert.AsgReferenceIdeal.nD Cert.AsgReferenceIdeal.τ).loc Cert.AsgReferenceIdeal.main_arg1) = m' ((c.tc : Thread Cert.AsgReferenceIdeal.nD Cert.AsgReferenceIdeal.τ).loc Cert.AsgReferenceIdeal.main_arg1)
          ∧ r.2.mem ((c.tc : Thread Cert.AsgReferenceIdeal.nD Cert.AsgReferenceIdeal.τ).loc Cert.AsgReferenceIdeal.main_arg2) = m' ((c.tc : Thread Cert.AsgReferenceIdeal.nD Cert.AsgReferenceIdeal.τ).loc Cert.AsgReferenceIdeal.main_arg2)
          ∧ r.2.mem ((c.tc : Thread Cert.AsgReferenceIdeal.nD Cert.AsgReferenceIdeal.τ).loc Cert.AsgReferenceIdeal.main_arg3) = m' ((c.tc : Thread Cert.AsgReferenceIdeal.nD Cert.AsgReferenceIdeal.τ).loc Cert.AsgReferenceIdeal.main_arg3)
          ∧ r.2.mem ((c.tc : Thread Cert.AsgReferenceIdeal.nD Cert.AsgReferenceIdeal.τ).loc Cert.AsgReferenceIdeal.main_arg4) = m' ((c.tc : Thread Cert.AsgReferenceIdeal.nD Cert.AsgReferenceIdeal.τ).loc Cert.AsgReferenceIdeal.main_arg4)
          ∧ r.2.mem ((c.tc : Thread Cert.AsgReferenceIdeal.nD Cert.AsgReferenceIdeal.τ).loc Cert.AsgReferenceIdeal.main_arg5) = m' ((c.tc : Thread Cert.AsgReferenceIdeal.nD Cert.AsgReferenceIdeal.τ).loc Cert.AsgReferenceIdeal.main_arg5)
          ∧ r.2.mem ((c.tc : Thread Cert.AsgReferenceIdeal.nD Cert.AsgReferenceIdeal.τ).loc Cert.AsgReferenceIdeal.main_arg6) = m' ((c.tc : Thread Cert.AsgReferenceIdeal.nD Cert.AsgReferenceIdeal.τ).loc Cert.AsgReferenceIdeal.main_arg6)
          ∧ r.2.mem ((c.tc : Thread Cert.AsgReferenceIdeal.nD Cert.AsgReferenceIdeal.τ).loc Cert.AsgReferenceIdeal.main_arg7) = m' ((c.tc : Thread Cert.AsgReferenceIdeal.nD Cert.AsgReferenceIdeal.τ).loc Cert.AsgReferenceIdeal.main_arg7))

def preserves_AsbKernel_AsbKernelIdeal : Prop :=
  True

def algebraic_AsbKernelIdeal_AsbReferenceIdeal [hAsbKernelIdeal : Cert.AsbKernelIdeal.Facts] [hAsbReferenceIdeal : Cert.AsbReferenceIdeal.Facts] : Prop :=
  ∀ (m : (ℓ : Loc Cert.AsbKernelIdeal.nD Cert.AsbKernelIdeal.τ Cert.AsbKernelIdeal.sig) → Buf (Elt Ideal) ℓ) (g : Dev Cert.AsbKernelIdeal.nD → PrngReg)
    (m' : (ℓ : Loc Cert.AsbReferenceIdeal.nD Cert.AsbReferenceIdeal.τ Cert.AsbReferenceIdeal.sig) → Buf (Elt Ideal) ℓ) (g' : Dev Cert.AsbReferenceIdeal.nD → PrngReg), Pre_AsbKernelIdeal m →
    (∀ c : Dev Cert.AsbKernelIdeal.nD,
      m' ((c.tc : Thread Cert.AsbReferenceIdeal.nD Cert.AsbReferenceIdeal.τ).loc Cert.AsbReferenceIdeal.main_arg0) = m ((c.tc : Thread Cert.AsbKernelIdeal.nD Cert.AsbKernelIdeal.τ).loc Cert.AsbKernelIdeal.main_arg0)
      ∧ m' ((c.tc : Thread Cert.AsbReferenceIdeal.nD Cert.AsbReferenceIdeal.τ).loc Cert.AsbReferenceIdeal.main_arg1) = m ((c.tc : Thread Cert.AsbKernelIdeal.nD Cert.AsbKernelIdeal.τ).loc Cert.AsbKernelIdeal.main_arg1)
      ∧ m' ((c.tc : Thread Cert.AsbReferenceIdeal.nD Cert.AsbReferenceIdeal.τ).loc Cert.AsbReferenceIdeal.main_arg2) = m ((c.tc : Thread Cert.AsbKernelIdeal.nD Cert.AsbKernelIdeal.τ).loc Cert.AsbKernelIdeal.main_arg2)
      ∧ m' ((c.tc : Thread Cert.AsbReferenceIdeal.nD Cert.AsbReferenceIdeal.τ).loc Cert.AsbReferenceIdeal.main_arg3) = m ((c.tc : Thread Cert.AsbKernelIdeal.nD Cert.AsbKernelIdeal.τ).loc Cert.AsbKernelIdeal.main_arg3)
      ∧ m' ((c.tc : Thread Cert.AsbReferenceIdeal.nD Cert.AsbReferenceIdeal.τ).loc Cert.AsbReferenceIdeal.main_arg4) = m ((c.tc : Thread Cert.AsbKernelIdeal.nD Cert.AsbKernelIdeal.τ).loc Cert.AsbKernelIdeal.main_arg4)
      ∧ m' ((c.tc : Thread Cert.AsbReferenceIdeal.nD Cert.AsbReferenceIdeal.τ).loc Cert.AsbReferenceIdeal.main_arg5) = m ((c.tc : Thread Cert.AsbKernelIdeal.nD Cert.AsbKernelIdeal.τ).loc Cert.AsbKernelIdeal.main_arg5)
      ∧ m' ((c.tc : Thread Cert.AsbReferenceIdeal.nD Cert.AsbReferenceIdeal.τ).loc Cert.AsbReferenceIdeal.main_arg6) = m ((c.tc : Thread Cert.AsbKernelIdeal.nD Cert.AsbKernelIdeal.τ).loc Cert.AsbKernelIdeal.main_arg6)
      ∧ m' ((c.tc : Thread Cert.AsbReferenceIdeal.nD Cert.AsbReferenceIdeal.τ).loc Cert.AsbReferenceIdeal.main_arg7) = m ((c.tc : Thread Cert.AsbKernelIdeal.nD Cert.AsbKernelIdeal.τ).loc Cert.AsbKernelIdeal.main_arg7)
      ∧ m' ((c.tc : Thread Cert.AsbReferenceIdeal.nD Cert.AsbReferenceIdeal.τ).loc Cert.AsbReferenceIdeal.main_arg8) = m ((c.tc : Thread Cert.AsbKernelIdeal.nD Cert.AsbKernelIdeal.τ).loc Cert.AsbKernelIdeal.main_arg8)
      ∧ m' ((c.tc : Thread Cert.AsbReferenceIdeal.nD Cert.AsbReferenceIdeal.τ).loc Cert.AsbReferenceIdeal.main_arg9) = m ((c.tc : Thread Cert.AsbKernelIdeal.nD Cert.AsbKernelIdeal.τ).loc Cert.AsbKernelIdeal.main_arg9)
      ∧ m' ((c.tc : Thread Cert.AsbReferenceIdeal.nD Cert.AsbReferenceIdeal.τ).loc Cert.AsbReferenceIdeal.main_arg10) = m ((c.tc : Thread Cert.AsbKernelIdeal.nD Cert.AsbKernelIdeal.τ).loc Cert.AsbKernelIdeal.main_arg10)
      ∧ m' ((c.tc : Thread Cert.AsbReferenceIdeal.nD Cert.AsbReferenceIdeal.τ).loc Cert.AsbReferenceIdeal.main_arg11) = m ((c.tc : Thread Cert.AsbKernelIdeal.nD Cert.AsbKernelIdeal.τ).loc Cert.AsbKernelIdeal.main_arg11)
      ∧ m' ((c.tc : Thread Cert.AsbReferenceIdeal.nD Cert.AsbReferenceIdeal.τ).loc Cert.AsbReferenceIdeal.main_arg12) = m ((c.tc : Thread Cert.AsbKernelIdeal.nD Cert.AsbKernelIdeal.τ).loc Cert.AsbKernelIdeal.main_arg12)
      ∧ m' ((c.tc : Thread Cert.AsbReferenceIdeal.nD Cert.AsbReferenceIdeal.τ).loc Cert.AsbReferenceIdeal.main_arg13) = m ((c.tc : Thread Cert.AsbKernelIdeal.nD Cert.AsbKernelIdeal.τ).loc Cert.AsbKernelIdeal.main_arg13)
      ∧ m' ((c.tc : Thread Cert.AsbReferenceIdeal.nD Cert.AsbReferenceIdeal.τ).loc Cert.AsbReferenceIdeal.main_arg14) = m ((c.tc : Thread Cert.AsbKernelIdeal.nD Cert.AsbKernelIdeal.τ).loc Cert.AsbKernelIdeal.main_arg14)
      ∧ m' ((c.tc : Thread Cert.AsbReferenceIdeal.nD Cert.AsbReferenceIdeal.τ).loc Cert.AsbReferenceIdeal.main_arg15) = m ((c.tc : Thread Cert.AsbKernelIdeal.nD Cert.AsbKernelIdeal.τ).loc Cert.AsbKernelIdeal.main_arg15)) →
    ∃ (v0 : (c : Dev Cert.AsbKernelIdeal.nD) → Buf (Elt Ideal) ((c.tc : Thread Cert.AsbKernelIdeal.nD Cert.AsbKernelIdeal.τ).loc Cert.AsbKernelIdeal.main_v0_0)) (v1 : (c : Dev Cert.AsbKernelIdeal.nD) → Buf (Elt Ideal) ((c.tc : Thread Cert.AsbKernelIdeal.nD Cert.AsbKernelIdeal.τ).loc Cert.AsbKernelIdeal.main_v0_1)) (v2 : (c : Dev Cert.AsbKernelIdeal.nD) → Buf (Elt Ideal) ((c.tc : Thread Cert.AsbKernelIdeal.nD Cert.AsbKernelIdeal.τ).loc Cert.AsbKernelIdeal.main_v0_2)) (v3 : (c : Dev Cert.AsbKernelIdeal.nD) → Buf (Elt Ideal) ((c.tc : Thread Cert.AsbKernelIdeal.nD Cert.AsbKernelIdeal.τ).loc Cert.AsbKernelIdeal.main_v0_3)) (v4 : (c : Dev Cert.AsbKernelIdeal.nD) → Buf (Elt Ideal) ((c.tc : Thread Cert.AsbKernelIdeal.nD Cert.AsbKernelIdeal.τ).loc Cert.AsbKernelIdeal.main_v0_4)) (v5 : (c : Dev Cert.AsbKernelIdeal.nD) → Buf (Elt Ideal) ((c.tc : Thread Cert.AsbKernelIdeal.nD Cert.AsbKernelIdeal.τ).loc Cert.AsbKernelIdeal.main_v0_5)) (v6 : (c : Dev Cert.AsbKernelIdeal.nD) → Buf (Elt Ideal) ((c.tc : Thread Cert.AsbKernelIdeal.nD Cert.AsbKernelIdeal.τ).loc Cert.AsbKernelIdeal.main_v0_6)) (v7 : (c : Dev Cert.AsbKernelIdeal.nD) → Buf (Elt Ideal) ((c.tc : Thread Cert.AsbKernelIdeal.nD Cert.AsbKernelIdeal.τ).loc Cert.AsbKernelIdeal.main_v0_7)) (v8 : (c : Dev Cert.AsbKernelIdeal.nD) → Buf (Elt Ideal) ((c.tc : Thread Cert.AsbKernelIdeal.nD Cert.AsbKernelIdeal.τ).loc Cert.AsbKernelIdeal.main_v0_8)) (v9 : (c : Dev Cert.AsbKernelIdeal.nD) → Buf (Elt Ideal) ((c.tc : Thread Cert.AsbKernelIdeal.nD Cert.AsbKernelIdeal.τ).loc Cert.AsbKernelIdeal.main_v0_9)) (v10 : (c : Dev Cert.AsbKernelIdeal.nD) → Buf (Elt Ideal) ((c.tc : Thread Cert.AsbKernelIdeal.nD Cert.AsbKernelIdeal.τ).loc Cert.AsbKernelIdeal.main_v0_10)) (v11 : (c : Dev Cert.AsbKernelIdeal.nD) → Buf (Elt Ideal) ((c.tc : Thread Cert.AsbKernelIdeal.nD Cert.AsbKernelIdeal.τ).loc Cert.AsbKernelIdeal.main_v0_11)),
      θ_run (Cert.AsbKernelIdeal.defs (F := Ideal)) (onTc (τ := Cert.AsbKernelIdeal.τ) (Cert.AsbKernelIdeal.main (F := Ideal))) ⟨m, fun _ => 0, g⟩ (fun r => ∀ c : Dev Cert.AsbKernelIdeal.nD,
          r.2.mem ((c.tc : Thread Cert.AsbKernelIdeal.nD Cert.AsbKernelIdeal.τ).loc Cert.AsbKernelIdeal.main_v0_0) = v0 c
          ∧ r.2.mem ((c.tc : Thread Cert.AsbKernelIdeal.nD Cert.AsbKernelIdeal.τ).loc Cert.AsbKernelIdeal.main_v0_1) = v1 c
          ∧ r.2.mem ((c.tc : Thread Cert.AsbKernelIdeal.nD Cert.AsbKernelIdeal.τ).loc Cert.AsbKernelIdeal.main_v0_2) = v2 c
          ∧ r.2.mem ((c.tc : Thread Cert.AsbKernelIdeal.nD Cert.AsbKernelIdeal.τ).loc Cert.AsbKernelIdeal.main_v0_3) = v3 c
          ∧ r.2.mem ((c.tc : Thread Cert.AsbKernelIdeal.nD Cert.AsbKernelIdeal.τ).loc Cert.AsbKernelIdeal.main_v0_4) = v4 c
          ∧ r.2.mem ((c.tc : Thread Cert.AsbKernelIdeal.nD Cert.AsbKernelIdeal.τ).loc Cert.AsbKernelIdeal.main_v0_5) = v5 c
          ∧ r.2.mem ((c.tc : Thread Cert.AsbKernelIdeal.nD Cert.AsbKernelIdeal.τ).loc Cert.AsbKernelIdeal.main_v0_6) = v6 c
          ∧ r.2.mem ((c.tc : Thread Cert.AsbKernelIdeal.nD Cert.AsbKernelIdeal.τ).loc Cert.AsbKernelIdeal.main_v0_7) = v7 c
          ∧ r.2.mem ((c.tc : Thread Cert.AsbKernelIdeal.nD Cert.AsbKernelIdeal.τ).loc Cert.AsbKernelIdeal.main_v0_8) = v8 c
          ∧ r.2.mem ((c.tc : Thread Cert.AsbKernelIdeal.nD Cert.AsbKernelIdeal.τ).loc Cert.AsbKernelIdeal.main_v0_9) = v9 c
          ∧ r.2.mem ((c.tc : Thread Cert.AsbKernelIdeal.nD Cert.AsbKernelIdeal.τ).loc Cert.AsbKernelIdeal.main_v0_10) = v10 c
          ∧ r.2.mem ((c.tc : Thread Cert.AsbKernelIdeal.nD Cert.AsbKernelIdeal.τ).loc Cert.AsbKernelIdeal.main_v0_11) = v11 c
          ∧ r.2.mem ((c.tc : Thread Cert.AsbKernelIdeal.nD Cert.AsbKernelIdeal.τ).loc Cert.AsbKernelIdeal.main_arg0) = m ((c.tc : Thread Cert.AsbKernelIdeal.nD Cert.AsbKernelIdeal.τ).loc Cert.AsbKernelIdeal.main_arg0)
          ∧ r.2.mem ((c.tc : Thread Cert.AsbKernelIdeal.nD Cert.AsbKernelIdeal.τ).loc Cert.AsbKernelIdeal.main_arg1) = m ((c.tc : Thread Cert.AsbKernelIdeal.nD Cert.AsbKernelIdeal.τ).loc Cert.AsbKernelIdeal.main_arg1)
          ∧ r.2.mem ((c.tc : Thread Cert.AsbKernelIdeal.nD Cert.AsbKernelIdeal.τ).loc Cert.AsbKernelIdeal.main_arg2) = m ((c.tc : Thread Cert.AsbKernelIdeal.nD Cert.AsbKernelIdeal.τ).loc Cert.AsbKernelIdeal.main_arg2)
          ∧ r.2.mem ((c.tc : Thread Cert.AsbKernelIdeal.nD Cert.AsbKernelIdeal.τ).loc Cert.AsbKernelIdeal.main_arg3) = m ((c.tc : Thread Cert.AsbKernelIdeal.nD Cert.AsbKernelIdeal.τ).loc Cert.AsbKernelIdeal.main_arg3)
          ∧ r.2.mem ((c.tc : Thread Cert.AsbKernelIdeal.nD Cert.AsbKernelIdeal.τ).loc Cert.AsbKernelIdeal.main_arg4) = m ((c.tc : Thread Cert.AsbKernelIdeal.nD Cert.AsbKernelIdeal.τ).loc Cert.AsbKernelIdeal.main_arg4)
          ∧ r.2.mem ((c.tc : Thread Cert.AsbKernelIdeal.nD Cert.AsbKernelIdeal.τ).loc Cert.AsbKernelIdeal.main_arg5) = m ((c.tc : Thread Cert.AsbKernelIdeal.nD Cert.AsbKernelIdeal.τ).loc Cert.AsbKernelIdeal.main_arg5)
          ∧ r.2.mem ((c.tc : Thread Cert.AsbKernelIdeal.nD Cert.AsbKernelIdeal.τ).loc Cert.AsbKernelIdeal.main_arg6) = m ((c.tc : Thread Cert.AsbKernelIdeal.nD Cert.AsbKernelIdeal.τ).loc Cert.AsbKernelIdeal.main_arg6)
          ∧ r.2.mem ((c.tc : Thread Cert.AsbKernelIdeal.nD Cert.AsbKernelIdeal.τ).loc Cert.AsbKernelIdeal.main_arg7) = m ((c.tc : Thread Cert.AsbKernelIdeal.nD Cert.AsbKernelIdeal.τ).loc Cert.AsbKernelIdeal.main_arg7)
          ∧ r.2.mem ((c.tc : Thread Cert.AsbKernelIdeal.nD Cert.AsbKernelIdeal.τ).loc Cert.AsbKernelIdeal.main_arg8) = m ((c.tc : Thread Cert.AsbKernelIdeal.nD Cert.AsbKernelIdeal.τ).loc Cert.AsbKernelIdeal.main_arg8)
          ∧ r.2.mem ((c.tc : Thread Cert.AsbKernelIdeal.nD Cert.AsbKernelIdeal.τ).loc Cert.AsbKernelIdeal.main_arg9) = m ((c.tc : Thread Cert.AsbKernelIdeal.nD Cert.AsbKernelIdeal.τ).loc Cert.AsbKernelIdeal.main_arg9)
          ∧ r.2.mem ((c.tc : Thread Cert.AsbKernelIdeal.nD Cert.AsbKernelIdeal.τ).loc Cert.AsbKernelIdeal.main_arg10) = m ((c.tc : Thread Cert.AsbKernelIdeal.nD Cert.AsbKernelIdeal.τ).loc Cert.AsbKernelIdeal.main_arg10)
          ∧ r.2.mem ((c.tc : Thread Cert.AsbKernelIdeal.nD Cert.AsbKernelIdeal.τ).loc Cert.AsbKernelIdeal.main_arg11) = m ((c.tc : Thread Cert.AsbKernelIdeal.nD Cert.AsbKernelIdeal.τ).loc Cert.AsbKernelIdeal.main_arg11)
          ∧ r.2.mem ((c.tc : Thread Cert.AsbKernelIdeal.nD Cert.AsbKernelIdeal.τ).loc Cert.AsbKernelIdeal.main_arg12) = m ((c.tc : Thread Cert.AsbKernelIdeal.nD Cert.AsbKernelIdeal.τ).loc Cert.AsbKernelIdeal.main_arg12)
          ∧ r.2.mem ((c.tc : Thread Cert.AsbKernelIdeal.nD Cert.AsbKernelIdeal.τ).loc Cert.AsbKernelIdeal.main_arg13) = m ((c.tc : Thread Cert.AsbKernelIdeal.nD Cert.AsbKernelIdeal.τ).loc Cert.AsbKernelIdeal.main_arg13)
          ∧ r.2.mem ((c.tc : Thread Cert.AsbKernelIdeal.nD Cert.AsbKernelIdeal.τ).loc Cert.AsbKernelIdeal.main_arg14) = m ((c.tc : Thread Cert.AsbKernelIdeal.nD Cert.AsbKernelIdeal.τ).loc Cert.AsbKernelIdeal.main_arg14)
          ∧ r.2.mem ((c.tc : Thread Cert.AsbKernelIdeal.nD Cert.AsbKernelIdeal.τ).loc Cert.AsbKernelIdeal.main_arg15) = m ((c.tc : Thread Cert.AsbKernelIdeal.nD Cert.AsbKernelIdeal.τ).loc Cert.AsbKernelIdeal.main_arg15))
      ∧ θ_run (Cert.AsbReferenceIdeal.defs (F := Ideal)) (onTc (τ := Cert.AsbReferenceIdeal.τ) (Cert.AsbReferenceIdeal.main (F := Ideal))) ⟨m', fun _ => 0, g'⟩ (fun r => ∀ c : Dev Cert.AsbReferenceIdeal.nD,
          r.2.mem ((c.tc : Thread Cert.AsbReferenceIdeal.nD Cert.AsbReferenceIdeal.τ).loc Cert.AsbReferenceIdeal.main_v23) = v0 c
          ∧ r.2.mem ((c.tc : Thread Cert.AsbReferenceIdeal.nD Cert.AsbReferenceIdeal.τ).loc Cert.AsbReferenceIdeal.main_v47) = v1 c
          ∧ r.2.mem ((c.tc : Thread Cert.AsbReferenceIdeal.nD Cert.AsbReferenceIdeal.τ).loc Cert.AsbReferenceIdeal.main_v71) = v2 c
          ∧ r.2.mem ((c.tc : Thread Cert.AsbReferenceIdeal.nD Cert.AsbReferenceIdeal.τ).loc Cert.AsbReferenceIdeal.main_v95) = v3 c
          ∧ r.2.mem ((c.tc : Thread Cert.AsbReferenceIdeal.nD Cert.AsbReferenceIdeal.τ).loc Cert.AsbReferenceIdeal.main_v4) = v4 c
          ∧ r.2.mem ((c.tc : Thread Cert.AsbReferenceIdeal.nD Cert.AsbReferenceIdeal.τ).loc Cert.AsbReferenceIdeal.main_v28) = v5 c
          ∧ r.2.mem ((c.tc : Thread Cert.AsbReferenceIdeal.nD Cert.AsbReferenceIdeal.τ).loc Cert.AsbReferenceIdeal.main_v52) = v6 c
          ∧ r.2.mem ((c.tc : Thread Cert.AsbReferenceIdeal.nD Cert.AsbReferenceIdeal.τ).loc Cert.AsbReferenceIdeal.main_v76) = v7 c
          ∧ r.2.mem ((c.tc : Thread Cert.AsbReferenceIdeal.nD Cert.AsbReferenceIdeal.τ).loc Cert.AsbReferenceIdeal.main_v10) = v8 c
          ∧ r.2.mem ((c.tc : Thread Cert.AsbReferenceIdeal.nD Cert.AsbReferenceIdeal.τ).loc Cert.AsbReferenceIdeal.main_v34) = v9 c
          ∧ r.2.mem ((c.tc : Thread Cert.AsbReferenceIdeal.nD Cert.AsbReferenceIdeal.τ).loc Cert.AsbReferenceIdeal.main_v58) = v10 c
          ∧ r.2.mem ((c.tc : Thread Cert.AsbReferenceIdeal.nD Cert.AsbReferenceIdeal.τ).loc Cert.AsbReferenceIdeal.main_v82) = v11 c
          ∧ r.2.mem ((c.tc : Thread Cert.AsbReferenceIdeal.nD Cert.AsbReferenceIdeal.τ).loc Cert.AsbReferenceIdeal.main_arg0) = m' ((c.tc : Thread Cert.AsbReferenceIdeal.nD Cert.AsbReferenceIdeal.τ).loc Cert.AsbReferenceIdeal.main_arg0)
          ∧ r.2.mem ((c.tc : Thread Cert.AsbReferenceIdeal.nD Cert.AsbReferenceIdeal.τ).loc Cert.AsbReferenceIdeal.main_arg1) = m' ((c.tc : Thread Cert.AsbReferenceIdeal.nD Cert.AsbReferenceIdeal.τ).loc Cert.AsbReferenceIdeal.main_arg1)
          ∧ r.2.mem ((c.tc : Thread Cert.AsbReferenceIdeal.nD Cert.AsbReferenceIdeal.τ).loc Cert.AsbReferenceIdeal.main_arg2) = m' ((c.tc : Thread Cert.AsbReferenceIdeal.nD Cert.AsbReferenceIdeal.τ).loc Cert.AsbReferenceIdeal.main_arg2)
          ∧ r.2.mem ((c.tc : Thread Cert.AsbReferenceIdeal.nD Cert.AsbReferenceIdeal.τ).loc Cert.AsbReferenceIdeal.main_arg3) = m' ((c.tc : Thread Cert.AsbReferenceIdeal.nD Cert.AsbReferenceIdeal.τ).loc Cert.AsbReferenceIdeal.main_arg3)
          ∧ r.2.mem ((c.tc : Thread Cert.AsbReferenceIdeal.nD Cert.AsbReferenceIdeal.τ).loc Cert.AsbReferenceIdeal.main_arg4) = m' ((c.tc : Thread Cert.AsbReferenceIdeal.nD Cert.AsbReferenceIdeal.τ).loc Cert.AsbReferenceIdeal.main_arg4)
          ∧ r.2.mem ((c.tc : Thread Cert.AsbReferenceIdeal.nD Cert.AsbReferenceIdeal.τ).loc Cert.AsbReferenceIdeal.main_arg5) = m' ((c.tc : Thread Cert.AsbReferenceIdeal.nD Cert.AsbReferenceIdeal.τ).loc Cert.AsbReferenceIdeal.main_arg5)
          ∧ r.2.mem ((c.tc : Thread Cert.AsbReferenceIdeal.nD Cert.AsbReferenceIdeal.τ).loc Cert.AsbReferenceIdeal.main_arg6) = m' ((c.tc : Thread Cert.AsbReferenceIdeal.nD Cert.AsbReferenceIdeal.τ).loc Cert.AsbReferenceIdeal.main_arg6)
          ∧ r.2.mem ((c.tc : Thread Cert.AsbReferenceIdeal.nD Cert.AsbReferenceIdeal.τ).loc Cert.AsbReferenceIdeal.main_arg7) = m' ((c.tc : Thread Cert.AsbReferenceIdeal.nD Cert.AsbReferenceIdeal.τ).loc Cert.AsbReferenceIdeal.main_arg7)
          ∧ r.2.mem ((c.tc : Thread Cert.AsbReferenceIdeal.nD Cert.AsbReferenceIdeal.τ).loc Cert.AsbReferenceIdeal.main_arg8) = m' ((c.tc : Thread Cert.AsbReferenceIdeal.nD Cert.AsbReferenceIdeal.τ).loc Cert.AsbReferenceIdeal.main_arg8)
          ∧ r.2.mem ((c.tc : Thread Cert.AsbReferenceIdeal.nD Cert.AsbReferenceIdeal.τ).loc Cert.AsbReferenceIdeal.main_arg9) = m' ((c.tc : Thread Cert.AsbReferenceIdeal.nD Cert.AsbReferenceIdeal.τ).loc Cert.AsbReferenceIdeal.main_arg9)
          ∧ r.2.mem ((c.tc : Thread Cert.AsbReferenceIdeal.nD Cert.AsbReferenceIdeal.τ).loc Cert.AsbReferenceIdeal.main_arg10) = m' ((c.tc : Thread Cert.AsbReferenceIdeal.nD Cert.AsbReferenceIdeal.τ).loc Cert.AsbReferenceIdeal.main_arg10)
          ∧ r.2.mem ((c.tc : Thread Cert.AsbReferenceIdeal.nD Cert.AsbReferenceIdeal.τ).loc Cert.AsbReferenceIdeal.main_arg11) = m' ((c.tc : Thread Cert.AsbReferenceIdeal.nD Cert.AsbReferenceIdeal.τ).loc Cert.AsbReferenceIdeal.main_arg11)
          ∧ r.2.mem ((c.tc : Thread Cert.AsbReferenceIdeal.nD Cert.AsbReferenceIdeal.τ).loc Cert.AsbReferenceIdeal.main_arg12) = m' ((c.tc : Thread Cert.AsbReferenceIdeal.nD Cert.AsbReferenceIdeal.τ).loc Cert.AsbReferenceIdeal.main_arg12)
          ∧ r.2.mem ((c.tc : Thread Cert.AsbReferenceIdeal.nD Cert.AsbReferenceIdeal.τ).loc Cert.AsbReferenceIdeal.main_arg13) = m' ((c.tc : Thread Cert.AsbReferenceIdeal.nD Cert.AsbReferenceIdeal.τ).loc Cert.AsbReferenceIdeal.main_arg13)
          ∧ r.2.mem ((c.tc : Thread Cert.AsbReferenceIdeal.nD Cert.AsbReferenceIdeal.τ).loc Cert.AsbReferenceIdeal.main_arg14) = m' ((c.tc : Thread Cert.AsbReferenceIdeal.nD Cert.AsbReferenceIdeal.τ).loc Cert.AsbReferenceIdeal.main_arg14)
          ∧ r.2.mem ((c.tc : Thread Cert.AsbReferenceIdeal.nD Cert.AsbReferenceIdeal.τ).loc Cert.AsbReferenceIdeal.main_arg15) = m' ((c.tc : Thread Cert.AsbReferenceIdeal.nD Cert.AsbReferenceIdeal.τ).loc Cert.AsbReferenceIdeal.main_arg15))

def Claim : Prop :=
  ∃ (hOutKernel : Cert.OutKernel.Facts) (hOutKernelIdeal : Cert.OutKernelIdeal.Facts) (hOutReferenceIdeal : Cert.OutReferenceIdeal.Facts) (hLruKernel : Cert.LruKernel.Facts) (hLruKernelIdeal : Cert.LruKernelIdeal.Facts) (hLruReferenceIdeal : Cert.LruReferenceIdeal.Facts) (hDxKernel : Cert.DxKernel.Facts) (hDxKernelIdeal : Cert.DxKernelIdeal.Facts) (hDxReferenceIdeal : Cert.DxReferenceIdeal.Facts) (hFinKernel : Cert.FinKernel.Facts) (hFinKernelIdeal : Cert.FinKernelIdeal.Facts) (hFinReferenceIdeal : Cert.FinReferenceIdeal.Facts) (hHgbKernel : Cert.HgbKernel.Facts) (hHgbKernelIdeal : Cert.HgbKernelIdeal.Facts) (hHgfKernel : Cert.HgfKernel.Facts) (hHgfKernelIdeal : Cert.HgfKernelIdeal.Facts) (hDwoKernel : Cert.DwoKernel.Facts) (hDwoKernelIdeal : Cert.DwoKernelIdeal.Facts) (hDwoReferenceIdeal : Cert.DwoReferenceIdeal.Facts) (hDwiKernel : Cert.DwiKernel.Facts) (hDwiKernelIdeal : Cert.DwiKernelIdeal.Facts) (hDwiReferenceIdeal : Cert.DwiReferenceIdeal.Facts) (hSohKernel : Cert.SohKernel.Facts) (hSohKernelIdeal : Cert.SohKernelIdeal.Facts) (hSohReferenceIdeal : Cert.SohReferenceIdeal.Facts) (hSohReference : Cert.SohReference.Facts) (hSooKernel : Cert.SooKernel.Facts) (hSooKernelIdeal : Cert.SooKernelIdeal.Facts) (hSooReferenceIdeal : Cert.SooReferenceIdeal.Facts) (hSooReference : Cert.SooReference.Facts) (hSogKernel : Cert.SogKernel.Facts) (hSogKernelIdeal : Cert.SogKernelIdeal.Facts) (hSogReferenceIdeal : Cert.SogReferenceIdeal.Facts) (hSogReference : Cert.SogReference.Facts) (hSchKernel : Cert.SchKernel.Facts) (hSchKernelIdeal : Cert.SchKernelIdeal.Facts) (hSchReferenceIdeal : Cert.SchReferenceIdeal.Facts) (hScoKernel : Cert.ScoKernel.Facts) (hScoKernelIdeal : Cert.ScoKernelIdeal.Facts) (hScoReferenceIdeal : Cert.ScoReferenceIdeal.Facts) (hScgKernel : Cert.ScgKernel.Facts) (hScgKernelIdeal : Cert.ScgKernelIdeal.Facts) (hScgReferenceIdeal : Cert.ScgReferenceIdeal.Facts) (hAdbKernel : Cert.AdbKernel.Facts) (hAdbKernelIdeal : Cert.AdbKernelIdeal.Facts) (hAdbReferenceIdeal : Cert.AdbReferenceIdeal.Facts) (hAdoKernel : Cert.AdoKernel.Facts) (hAdoKernelIdeal : Cert.AdoKernelIdeal.Facts) (hAdoReferenceIdeal : Cert.AdoReferenceIdeal.Facts) (hAdgKernel : Cert.AdgKernel.Facts) (hAdgKernelIdeal : Cert.AdgKernelIdeal.Facts) (hAdgReferenceIdeal : Cert.AdgReferenceIdeal.Facts) (hAsaKernel : Cert.AsaKernel.Facts) (hAsaKernelIdeal : Cert.AsaKernelIdeal.Facts) (hAsaReferenceIdeal : Cert.AsaReferenceIdeal.Facts) (hAsgKernel : Cert.AsgKernel.Facts) (hAsgKernelIdeal : Cert.AsgKernelIdeal.Facts) (hAsgReferenceIdeal : Cert.AsgReferenceIdeal.Facts) (hAsbKernel : Cert.AsbKernel.Facts) (hAsbKernelIdeal : Cert.AsbKernelIdeal.Facts) (hAsbReferenceIdeal : Cert.AsbReferenceIdeal.Facts) (hPre_out_finite : Cert.Pre_out_finite.Facts) (hPre_lru_finite : Cert.Pre_lru_finite.Facts) (hPre_dx_finite : Cert.Pre_dx_finite.Facts) (hPre_fin_finite : Cert.Pre_fin_finite.Facts),
    quiescent_OutKernel (hOutKernel := hOutKernel)
    ∧ quiescent_OutKernelIdeal (hOutKernelIdeal := hOutKernelIdeal)
    ∧ quiescent_OutKernelIdeal_pre_out_finite (hOutKernelIdeal := hOutKernelIdeal) (hPre_out_finite := hPre_out_finite)
    ∧ quiescent_OutReferenceIdeal (hOutReferenceIdeal := hOutReferenceIdeal)
    ∧ quiescent_OutReferenceIdeal_pre_out_finite (hOutReferenceIdeal := hOutReferenceIdeal) (hPre_out_finite := hPre_out_finite)
    ∧ quiescent_LruKernel (hLruKernel := hLruKernel)
    ∧ quiescent_LruKernelIdeal (hLruKernelIdeal := hLruKernelIdeal)
    ∧ quiescent_LruKernelIdeal_pre_lru_finite (hLruKernelIdeal := hLruKernelIdeal) (hPre_lru_finite := hPre_lru_finite)
    ∧ quiescent_LruReferenceIdeal (hLruReferenceIdeal := hLruReferenceIdeal)
    ∧ quiescent_LruReferenceIdeal_pre_lru_finite (hLruReferenceIdeal := hLruReferenceIdeal) (hPre_lru_finite := hPre_lru_finite)
    ∧ quiescent_DxKernel (hDxKernel := hDxKernel)
    ∧ quiescent_DxKernelIdeal (hDxKernelIdeal := hDxKernelIdeal)
    ∧ quiescent_DxKernelIdeal_pre_dx_finite (hDxKernelIdeal := hDxKernelIdeal) (hPre_dx_finite := hPre_dx_finite)
    ∧ quiescent_DxReferenceIdeal (hDxReferenceIdeal := hDxReferenceIdeal)
    ∧ quiescent_DxReferenceIdeal_pre_dx_finite (hDxReferenceIdeal := hDxReferenceIdeal) (hPre_dx_finite := hPre_dx_finite)
    ∧ quiescent_FinKernel (hFinKernel := hFinKernel)
    ∧ quiescent_FinKernelIdeal (hFinKernelIdeal := hFinKernelIdeal)
    ∧ quiescent_FinKernelIdeal_pre_fin_finite (hFinKernelIdeal := hFinKernelIdeal) (hPre_fin_finite := hPre_fin_finite)
    ∧ quiescent_FinReferenceIdeal (hFinReferenceIdeal := hFinReferenceIdeal)
    ∧ quiescent_FinReferenceIdeal_pre_fin_finite (hFinReferenceIdeal := hFinReferenceIdeal) (hPre_fin_finite := hPre_fin_finite)
    ∧ quiescent_HgbKernel (hHgbKernel := hHgbKernel)
    ∧ quiescent_HgbKernelIdeal (hHgbKernelIdeal := hHgbKernelIdeal)
    ∧ quiescent_HgfKernel (hHgfKernel := hHgfKernel)
    ∧ quiescent_HgfKernelIdeal (hHgfKernelIdeal := hHgfKernelIdeal)
    ∧ quiescent_DwoKernel (hDwoKernel := hDwoKernel)
    ∧ quiescent_DwoKernelIdeal (hDwoKernelIdeal := hDwoKernelIdeal)
    ∧ quiescent_DwoReferenceIdeal (hDwoReferenceIdeal := hDwoReferenceIdeal)
    ∧ quiescent_DwiKernel (hDwiKernel := hDwiKernel)
    ∧ quiescent_DwiKernelIdeal (hDwiKernelIdeal := hDwiKernelIdeal)
    ∧ quiescent_DwiReferenceIdeal (hDwiReferenceIdeal := hDwiReferenceIdeal)
    ∧ quiescent_SohKernel (hSohKernel := hSohKernel)
    ∧ quiescent_SohKernelIdeal (hSohKernelIdeal := hSohKernelIdeal)
    ∧ quiescent_SohReferenceIdeal (hSohReferenceIdeal := hSohReferenceIdeal)
    ∧ quiescent_SohReference (hSohReference := hSohReference)
    ∧ quiescent_SooKernel (hSooKernel := hSooKernel)
    ∧ quiescent_SooKernelIdeal (hSooKernelIdeal := hSooKernelIdeal)
    ∧ quiescent_SooReferenceIdeal (hSooReferenceIdeal := hSooReferenceIdeal)
    ∧ quiescent_SooReference (hSooReference := hSooReference)
    ∧ quiescent_SogKernel (hSogKernel := hSogKernel)
    ∧ quiescent_SogKernelIdeal (hSogKernelIdeal := hSogKernelIdeal)
    ∧ quiescent_SogReferenceIdeal (hSogReferenceIdeal := hSogReferenceIdeal)
    ∧ quiescent_SogReference (hSogReference := hSogReference)
    ∧ quiescent_SchKernel (hSchKernel := hSchKernel)
    ∧ quiescent_SchKernelIdeal (hSchKernelIdeal := hSchKernelIdeal)
    ∧ quiescent_SchReferenceIdeal (hSchReferenceIdeal := hSchReferenceIdeal)
    ∧ quiescent_ScoKernel (hScoKernel := hScoKernel)
    ∧ quiescent_ScoKernelIdeal (hScoKernelIdeal := hScoKernelIdeal)
    ∧ quiescent_ScoReferenceIdeal (hScoReferenceIdeal := hScoReferenceIdeal)
    ∧ quiescent_ScgKernel (hScgKernel := hScgKernel)
    ∧ quiescent_ScgKernelIdeal (hScgKernelIdeal := hScgKernelIdeal)
    ∧ quiescent_ScgReferenceIdeal (hScgReferenceIdeal := hScgReferenceIdeal)
    ∧ quiescent_AdbKernel (hAdbKernel := hAdbKernel)
    ∧ quiescent_AdbKernelIdeal (hAdbKernelIdeal := hAdbKernelIdeal)
    ∧ quiescent_AdbReferenceIdeal (hAdbReferenceIdeal := hAdbReferenceIdeal)
    ∧ quiescent_AdoKernel (hAdoKernel := hAdoKernel)
    ∧ quiescent_AdoKernelIdeal (hAdoKernelIdeal := hAdoKernelIdeal)
    ∧ quiescent_AdoReferenceIdeal (hAdoReferenceIdeal := hAdoReferenceIdeal)
    ∧ quiescent_AdgKernel (hAdgKernel := hAdgKernel)
    ∧ quiescent_AdgKernelIdeal (hAdgKernelIdeal := hAdgKernelIdeal)
    ∧ quiescent_AdgReferenceIdeal (hAdgReferenceIdeal := hAdgReferenceIdeal)
    ∧ quiescent_AsaKernel (hAsaKernel := hAsaKernel)
    ∧ quiescent_AsaKernelIdeal (hAsaKernelIdeal := hAsaKernelIdeal)
    ∧ quiescent_AsaReferenceIdeal (hAsaReferenceIdeal := hAsaReferenceIdeal)
    ∧ quiescent_AsgKernel (hAsgKernel := hAsgKernel)
    ∧ quiescent_AsgKernelIdeal (hAsgKernelIdeal := hAsgKernelIdeal)
    ∧ quiescent_AsgReferenceIdeal (hAsgReferenceIdeal := hAsgReferenceIdeal)
    ∧ quiescent_AsbKernel (hAsbKernel := hAsbKernel)
    ∧ quiescent_AsbKernelIdeal (hAsbKernelIdeal := hAsbKernelIdeal)
    ∧ quiescent_AsbReferenceIdeal (hAsbReferenceIdeal := hAsbReferenceIdeal)
    ∧ preserves_OutKernel_OutKernelIdeal
    ∧ algebraic_OutKernelIdeal_OutReferenceIdeal_pre_out_finite (hOutKernelIdeal := hOutKernelIdeal) (hOutReferenceIdeal := hOutReferenceIdeal) (hPre_out_finite := hPre_out_finite)
    ∧ preserves_LruKernel_LruKernelIdeal
    ∧ algebraic_LruKernelIdeal_LruReferenceIdeal_pre_lru_finite (hLruKernelIdeal := hLruKernelIdeal) (hLruReferenceIdeal := hLruReferenceIdeal) (hPre_lru_finite := hPre_lru_finite)
    ∧ preserves_DxKernel_DxKernelIdeal
    ∧ algebraic_DxKernelIdeal_DxReferenceIdeal_pre_dx_finite (hDxKernelIdeal := hDxKernelIdeal) (hDxReferenceIdeal := hDxReferenceIdeal) (hPre_dx_finite := hPre_dx_finite)
    ∧ preserves_FinKernel_FinKernelIdeal
    ∧ algebraic_FinKernelIdeal_FinReferenceIdeal_pre_fin_finite (hFinKernelIdeal := hFinKernelIdeal) (hFinReferenceIdeal := hFinReferenceIdeal) (hPre_fin_finite := hPre_fin_finite)
    ∧ preserves_HgbKernel_HgbKernelIdeal
    ∧ preserves_HgfKernel_HgfKernelIdeal
    ∧ preserves_DwoKernel_DwoKernelIdeal
    ∧ algebraic_DwoKernelIdeal_DwoReferenceIdeal (hDwoKernelIdeal := hDwoKernelIdeal) (hDwoReferenceIdeal := hDwoReferenceIdeal)
    ∧ preserves_DwiKernel_DwiKernelIdeal
    ∧ algebraic_DwiKernelIdeal_DwiReferenceIdeal (hDwiKernelIdeal := hDwiKernelIdeal) (hDwiReferenceIdeal := hDwiReferenceIdeal)
    ∧ preserves_SohKernel_SohKernelIdeal
    ∧ bitexact_SohKernel_SohReference (hSohKernel := hSohKernel) (hSohReference := hSohReference)
    ∧ algebraic_SohKernelIdeal_SohReferenceIdeal (hSohKernelIdeal := hSohKernelIdeal) (hSohReferenceIdeal := hSohReferenceIdeal)
    ∧ preserves_SooKernel_SooKernelIdeal
    ∧ bitexact_SooKernel_SooReference (hSooKernel := hSooKernel) (hSooReference := hSooReference)
    ∧ algebraic_SooKernelIdeal_SooReferenceIdeal (hSooKernelIdeal := hSooKernelIdeal) (hSooReferenceIdeal := hSooReferenceIdeal)
    ∧ preserves_SogKernel_SogKernelIdeal
    ∧ bitexact_SogKernel_SogReference (hSogKernel := hSogKernel) (hSogReference := hSogReference)
    ∧ algebraic_SogKernelIdeal_SogReferenceIdeal (hSogKernelIdeal := hSogKernelIdeal) (hSogReferenceIdeal := hSogReferenceIdeal)
    ∧ preserves_SchKernel_SchKernelIdeal
    ∧ algebraic_SchKernelIdeal_SchReferenceIdeal (hSchKernelIdeal := hSchKernelIdeal) (hSchReferenceIdeal := hSchReferenceIdeal)
    ∧ preserves_ScoKernel_ScoKernelIdeal
    ∧ algebraic_ScoKernelIdeal_ScoReferenceIdeal (hScoKernelIdeal := hScoKernelIdeal) (hScoReferenceIdeal := hScoReferenceIdeal)
    ∧ preserves_ScgKernel_ScgKernelIdeal
    ∧ algebraic_ScgKernelIdeal_ScgReferenceIdeal (hScgKernelIdeal := hScgKernelIdeal) (hScgReferenceIdeal := hScgReferenceIdeal)
    ∧ preserves_AdbKernel_AdbKernelIdeal
    ∧ algebraic_AdbKernelIdeal_AdbReferenceIdeal (hAdbKernelIdeal := hAdbKernelIdeal) (hAdbReferenceIdeal := hAdbReferenceIdeal)
    ∧ preserves_AdoKernel_AdoKernelIdeal
    ∧ algebraic_AdoKernelIdeal_AdoReferenceIdeal (hAdoKernelIdeal := hAdoKernelIdeal) (hAdoReferenceIdeal := hAdoReferenceIdeal)
    ∧ preserves_AdgKernel_AdgKernelIdeal
    ∧ algebraic_AdgKernelIdeal_AdgReferenceIdeal (hAdgKernelIdeal := hAdgKernelIdeal) (hAdgReferenceIdeal := hAdgReferenceIdeal)
    ∧ preserves_AsaKernel_AsaKernelIdeal
    ∧ algebraic_AsaKernelIdeal_AsaReferenceIdeal (hAsaKernelIdeal := hAsaKernelIdeal) (hAsaReferenceIdeal := hAsaReferenceIdeal)
    ∧ preserves_AsgKernel_AsgKernelIdeal
    ∧ algebraic_AsgKernelIdeal_AsgReferenceIdeal (hAsgKernelIdeal := hAsgKernelIdeal) (hAsgReferenceIdeal := hAsgReferenceIdeal)
    ∧ preserves_AsbKernel_AsbKernelIdeal
    ∧ algebraic_AsbKernelIdeal_AsbReferenceIdeal (hAsbKernelIdeal := hAsbKernelIdeal) (hAsbReferenceIdeal := hAsbReferenceIdeal)
-- ==== Pre_dx_finite.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S8192x6144 : S_.BroadcastsInDim S8192x6144 (![] : Fin 0 → Fin S8192x6144.rank)
  reducesTo_S8192x6144_S_d0_1 : S8192x6144.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x1024 .f32) (main_arg1 : FVec F S1x1024 .f32) (main_arg2 : FVec F S1024x6144 .f32) (main_arg3 : FVec F S8192x6144 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x6144 .f32 := Host.absf main_arg2
  let main_cst_2 : FVec F S_ .f32 := constant S_ .f32 0x7F800000#32
  let main_v9 : FVec F S1024x6144 .f32 := broadcastInDim S1024x6144 ![] bcast_S_S1024x6144 main_cst_2
  let main_v10 : IVec S1024x6144 1 := cmpf .olt main_v8 main_v9
  let main_c_3 : IVec S_ 1 := constantI S_ 1 1#1
  let main_v11 : IVec S_ 1 := (fun x v => Host.reduce IntOp.andi x v reducesTo_S1024x6144_S_d0_1 h_S_) main_v10 main_c_3
  let main_v12 : FVec F S8192x6144 .f32 := Host.absf main_arg3
  let main_cst_4 : FVec F S_ .f32 := constant S_ .f32 0x7F800000#32
  let main_v13 : FVec F S8192x6144 .f32 := broadcastInDim S8192x6144 ![] bcast_S_S8192x6144 main_cst_4
  let main_v14 : IVec S8192x6144 1 := cmpf .olt main_v12 main_v13
  let main_c_5 : IVec S_ 1 := constantI S_ 1 1#1
  let main_v15 : IVec S_ 1 := (fun x v => Host.reduce IntOp.andi x v reducesTo_S8192x6144_S_d0_1 h_S_) main_v14 main_c_5
  fn_part1 (F := F) main_v3 main_v7 main_v11 main_v15
-- ==== Pre_fin_finite.lean ====
abbrev S16x1024 : Shape := ⟨2, ![16, 1024]⟩
abbrev S7x16x1024 : Shape := ⟨3, ![7, 16, 1024]⟩
abbrev S1x1024 : Shape := ⟨2, ![1, 1024]⟩
abbrev S2x1024 : Shape := ⟨2, ![2, 1024]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S7x16x1024 : S_.BroadcastsInDim S7x16x1024 (![] : Fin 0 → Fin S7x16x1024.rank)
  reducesTo_S7x16x1024_S_d0_1_2 : S7x16x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S16x1024 .f32) (main_arg1 : FVec F S7x16x1024 .f32) (main_arg2 : FVec F S1x1024 .f32) (main_arg3 : FVec F S2x1024 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S7x16x1024 .f32 := Host.absf main_arg1
  let main_cst_0 : FVec F S_ .f32 := constant S_ .f32 0x7F800000#32
  let main_v5 : FVec F S7x16x1024 .f32 := broadcastInDim S7x16x1024 ![] bcast_S_S7x16x1024 main_cst_0
  let main_v6 : IVec S7x16x1024 1 := cmpf .olt main_v4 main_v5
  let main_c_1 : IVec S_ 1 := constantI S_ 1 1#1
  let main_v7 : IVec S_ 1 := (fun x v => Host.reduce IntOp.andi x v reducesTo_S7x16x1024_S_d0_1_2 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S2x1024 .f32 := Host.absf main_arg3
  let main_cst_4 : FVec F S_ .f32 := constant S_ .f32 0x7F800000#32
  let main_v13 : FVec F S2x1024 .f32 := broadcastInDim S2x1024 ![] bcast_S_S2x1024 main_cst_4
  let main_v14 : IVec S2x1024 1 := cmpf .olt main_v12 main_v13
  let main_c_5 : IVec S_ 1 := constantI S_ 1 1#1
  let main_v15 : IVec S_ 1 := (fun x v => Host.reduce IntOp.andi x v reducesTo_S2x1024_S_d0_1 h_S_) main_v14 main_c_5
  fn_part1 (F := F) main_v3 main_v7 main_v11 main_v15
-- ==== Pre_lru_finite.lean ====
abbrev S8192x6144 : Shape := ⟨2, ![8192, 6144]⟩
abbrev S2048x1024 : Shape := ⟨2, ![2048, 1024]⟩
abbrev S4x1024 : Shape := ⟨2, ![4, 1024]⟩
abbrev S1x1024 : Shape := ⟨2, ![1, 1024]⟩
abbrev S4x256x256 : Shape := ⟨3, ![4, 256, 256]⟩
abbrev S4x256 : Shape := ⟨2, ![4, 256]⟩
abbrev S8192x1024 : Shape := ⟨2, ![8192, 1024]⟩
abbrev S_ : Shape := ⟨0, ![]⟩

class Facts : Prop where
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4x1024 : S_.BroadcastsInDim S4x1024 (![] : Fin 0 → Fin S4x1024.rank)
  reducesTo_S4x1024_S_d0_1 : S4x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_arg8 : FVec F S1x1024 .f32) (main_arg9 : FVec F S8192x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : FVec F S8192x1024 .f32 := Host.absf main_arg9
  let main_cst_16 : FVec F S_ .f32 := constant S_ .f32 0x7F800000#32
  let main_v37 : FVec F S8192x1024 .f32 := broadcastInDim S8192x1024 ![] bcast_S_S8192x1024 main_cst_16
  let main_v38 : IVec S8192x1024 1 := cmpf .olt main_v36 main_v37
  let main_c_17 : IVec S_ 1 := constantI S_ 1 1#1
  let main_v39 : IVec S_ 1 := (fun x v => Host.reduce IntOp.andi x v reducesTo_S8192x1024_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg4 : FVec F S4x256x256 .f32) (main_arg5 : FVec F S4x256 .f32) (main_arg6 : FVec F S4x256x256 .f32) (main_arg7 : FVec F S4x256 .f32) (main_arg8 : FVec F S1x1024 .f32) (main_arg9 : FVec F S8192x1024 .f32) (main_v3 : IVec S_ 1) (main_v7 : IVec S_ 1) (main_v11 : IVec S_ 1) (main_v15 : IVec S_ 1) : IVec S_ 1 :=
  let main_v16 : FVec F S4x256x256 .f32 := Host.absf main_arg4
  let main_cst_6 : FVec F S_ .f32 := constant S_ .f32 0x7F800000#32
  let main_v17 : FVec F S4x256x256 .f32 := broadcastInDim S4x256x256 ![] bcast_S_S4x256x256 main_cst_6
  let main_v18 : IVec S4x256x256 1 := cmpf .olt main_v16 main_v17
  let main_c_7 : IVec S_ 1 := constantI S_ 1 1#1
  let main_v19 : IVec S_ 1 := (fun x v => Host.reduce IntOp.andi x v reducesTo_S4x256x256_S_d0_1_2 h_S_) main_v18 main_c_7
  let main_v20 : FVec F S4x256 .f32 := Host.absf main_arg5
  let main_cst_8 : FVec F S_ .f32 := constant S_ .f32 0x7F800000#32
  let main_v21 : FVec F S4x256 .f32 := broadcastInDim S4x256 ![] bcast_S_S4x256 main_cst_8
  let main_v22 : IVec S4x256 1 := cmpf .olt main_v20 main_v21
  let main_c_9 : IVec S_ 1 := constantI S_ 1 1#1
  let main_v23 : IVec S_ 1 := (fun x v => Host.reduce IntOp.andi x v reducesTo_S4x256_S_d0_1 h_S_) main_v22 main_c_9
  let main_v24 : FVec F S4x256x256 .f32 := Host.absf main_arg6
  let main_cst_10 : FVec F S_ .f32 := constant S_ .f32 0x7F800000#32
  let main_v25 : FVec F S4x256x256 .f32 := broadcastInDim S4x256x256 ![] bcast_S_S4x256x256 main_cst_10
  let main_v26 : IVec S4x256x256 1 := cmpf .olt main_v24 main_v25
  let main_c_11 : IVec S_ 1 := constantI S_ 1 1#1
  let main_v27 : IVec S_ 1 := (fun x v => Host.reduce IntOp.andi x v reducesTo_S4x256x256_S_d0_1_2 h_S_) main_v26 main_c_11
  let main_v28 : FVec F S4x256 .f32 := Host.absf main_arg7
  let main_cst_12 : FVec F S_ .f32 := constant S_ .f32 0x7F800000#32
  let main_v29 : FVec F S4x256 .f32 := broadcastInDim S4x256 ![] bcast_S_S4x256 main_cst_12
  let main_v30 : IVec S4x256 1 := cmpf .olt main_v28 main_v29
  let main_c_13 : IVec S_ 1 := constantI S_ 1 1#1
  let main_v31 : IVec S_ 1 := (fun x v => Host.reduce IntOp.andi x v reducesTo_S4x256_S_d0_1 h_S_) main_v30 main_c_13
  fn_part2 (F := F) main_arg8 main_arg9 main_v3 main_v7 main_v11 main_v15 main_v19 main_v23 main_v27 main_v31

def fn {F : FTy → Type} [FloatOps F] (main_arg0 : FVec F S8192x6144 .f32) (main_arg1 : FVec F S2048x1024 .f32) (main_arg2 : FVec F S4x1024 .f32) (main_arg3 : FVec F S1x1024 .f32) (main_arg4 : FVec F S4x256x256 .f32) (main_arg5 : FVec F S4x256 .f32) (main_arg6 : FVec F S4x256x256 .f32) (main_arg7 : FVec F S4x256 .f32) (main_arg8 : FVec F S1x1024 .f32) (main_arg9 : FVec F S8192x1024 .f32) : IVec S_ 1 :=
  let main_v0 : FVec F S8192x6144 .f32 := Host.absf main_arg0
  let main_cst : FVec F S_ .f32 := constant S_ .f32 0x7F800000#32
  let main_v1 : FVec F S8192x6144 .f32 := broadcastInDim S8192x6144 ![] bcast_S_S8192x6144 main_cst
  let main_v2 : IVec S8192x6144 1 := cmpf .olt main_v0 main_v1
  let main_c : IVec S_ 1 := constantI S_ 1 1#1
  let main_v3 : IVec S_ 1 := (fun x v => Host.reduce IntOp.andi x v reducesTo_S8192x6144_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S4x1024 .f32 := Host.absf main_arg2
  let main_cst_2 : FVec F S_ .f32 := constant S_ .f32 0x7F800000#32
  let main_v9 : FVec F S4x1024 .f32 := broadcastInDim S4x1024 ![] bcast_S_S4x1024 main_cst_2
  let main_v10 : IVec S4x1024 1 := cmpf .olt main_v8 main_v9
  let main_c_3 : IVec S_ 1 := constantI S_ 1 1#1
  let main_v11 : IVec S_ 1 := (fun x v => Host.reduce IntOp.andi x v reducesTo_S4x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_arg7 main_arg8 main_arg9 main_v3 main_v7 main_v11 main_v15
-- ==== Pre_out_finite.lean ====
abbrev S8192x1024 : Shape := ⟨2, ![8192, 1024]⟩
abbrev S2048x1024 : Shape := ⟨2, ![2048, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S8192x1024 .f32) (main_arg5 : FVec F S1x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S8192x1024 .f32) (main_arg2 : FVec F S2048x1024 .f32) (main_arg3 : FVec F S8192x1024 .f32) (main_arg4 : FVec F S8192x1024 .f32) (main_arg5 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : FVec F S2048x1024 .f32 := Host.absf main_arg2
  let main_cst_2 : FVec F S_ .f32 := constant S_ .f32 0x7F800000#32
  let main_v9 : FVec F S2048x1024 .f32 := broadcastInDim S2048x1024 ![] bcast_S_S2048x1024 main_cst_2
  let main_v10 : IVec S2048x1024 1 := cmpf .olt main_v8 main_v9
  let main_c_3 : IVec S_ 1 := constantI S_ 1 1#1
  let main_v11 : IVec S_ 1 := (fun x v => Host.reduce IntOp.andi x v reducesTo_S2048x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_arg4 main_arg5 main_v3 main_v7 main_v11 main_v15
-- ==== OutKernel.lean ====
abbrev S8192x1024 : Shape := ⟨2, ![8192, 1024]⟩
abbrev S2048x1024 : Shape := ⟨2, ![2048, 1024]⟩
abbrev S1x1024 : Shape := ⟨2, ![1, 1024]⟩
abbrev S1x8192x1024 : Shape := ⟨3, ![1, 8192, 1024]⟩
abbrev S2x8192x1024 : Shape := ⟨3, ![2, 8192, 1024]⟩
abbrev S2x1024x1024 : Shape := ⟨3, ![2, 1024, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .hbm, ⟨7, _⟩ => ⟨S8192x1024, .bf16⟩
  | .hbm, ⟨8, _⟩ => ⟨S1x8192x1024, .bf16⟩
  | .hbm, ⟨9, _⟩ => ⟨S1x8192x1024, .bf16⟩
  | .hbm, ⟨10, _⟩ => ⟨S2x8192x1024, .bf16⟩
  | .hbm, ⟨11, _⟩ => ⟨S2048x1024, .bf16⟩
  | .hbm, ⟨12, _⟩ => ⟨S8192x1024, .f32⟩
  | .hbm, ⟨13, _⟩ => ⟨S8192x1024, .bf16⟩
  | .hbm, ⟨14, _⟩ => ⟨S1x1024, .f32⟩
  | .hbm, ⟨15, _⟩ => ⟨S1x1024, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== OutReferenceIdeal.lean ====
abbrev S8192x1024 : Shape := ⟨2, ![8192, 1024]⟩
abbrev S2048x1024 : Shape := ⟨2, ![2048, 1024]⟩
abbrev S1x1024 : Shape := ⟨2, ![1, 1024]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S2048x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x2048, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S8192, .f32⟩
  | .hbm, ⟨77, _⟩ => ⟨S8192x1, .f32⟩
  | .hbm, ⟨78, _⟩ => ⟨S_, .f32⟩
  | .hbm, ⟨79, _⟩ => ⟨S8192x1, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S8192x1, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_cst_8 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_cst_10 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== LruKernel.lean ====
abbrev S8192x6144 : Shape := ⟨2, ![8192, 6144]⟩
abbrev S2048x1024 : Shape := ⟨2, ![2048, 1024]⟩
abbrev S4x1024 : Shape := ⟨2, ![4, 1024]⟩
abbrev S1x1024 : Shape := ⟨2, ![1, 1024]⟩
abbrev S4x256x256 : Shape := ⟨3, ![4, 256, 256]⟩
abbrev S4x256 : Shape := ⟨2, ![4, 256]⟩
abbrev S8192x1024 : Shape := ⟨2, ![8192, 1024]⟩
abbrev S8192x12x512 : Shape := ⟨3, ![8192, 12, 512]⟩
abbrev S12x8192x512 : Shape := ⟨3, ![12, 8192, 512]⟩
abbrev S2x8192x1024 : Shape := ⟨3, ![2, 8192, 1024]⟩
abbrev S2x512x512 : Shape := ⟨3, ![2, 512, 512]⟩
abbrev S2x8x512 : Shape := ⟨3, ![2, 8, 512]⟩
abbrev S512x1024 : Shape := ⟨2, ![512, 1024]⟩
abbrev S1x512x1024 : Shape := ⟨3, ![1, 512, 1024]⟩
abbrev S8x1024 : Shape := ⟨2, ![8, 1024]⟩
abbrev S1x8x512 : Shape := ⟨3, ![1, 8, 512]⟩
abbrev S8x512 : Shape := ⟨2, ![8, 512]⟩
abbrev S1x512x512 : Shape := ⟨3, ![1, 512, 512]⟩
abbrev S512x512 : Shape := ⟨2, ![512, 512]⟩
abbrev S504x1024 : Shape := ⟨2, ![504, 1024]⟩
abbrev S512x256 : Shape := ⟨2, ![512, 256]⟩
abbrev S1x256x256 : Shape := ⟨3, ![1, 256, 256]⟩
abbrev S256x256 : Shape := ⟨2, ![256, 256]⟩
abbrev S6x8192x1024 : Shape := ⟨3, ![6, 8192, 1024]⟩
abbrev S1024x1024 : Shape := ⟨2, ![1024, 1024]⟩
abbrev S2x512x1024 : Shape := ⟨3, ![2, 512, 1024]⟩
abbrev S1024 : Shape := ⟨1, ![1024]⟩
abbrev S1x8192x1024 : Shape := ⟨3, ![1, 8192, 1024]⟩

abbrev nBuf : Space → Nat
  | .hbm => 31
  | .vmem => 55
  | .smem => 0
  | _ => 0

abbrev bufTy : (tb : Table) → Fin (tcTables nBuf tb) → BufTy
  | .hbm, ⟨0, _⟩ => ⟨S8192x6144, .f32⟩
  | .hbm, ⟨1, _⟩ => ⟨S2048x1024, .f32⟩
  | .hbm, ⟨2, _⟩ => ⟨S4x1024, .f32⟩
  | .hbm, ⟨3, _⟩ => ⟨S1x1024, .f32⟩
  | .hbm, ⟨4, _⟩ => ⟨S4x256x256, .f32⟩
  | .hbm, ⟨5, _⟩ => ⟨S4x256, .f32⟩
  | .hbm, ⟨6, _⟩ => ⟨S4x256x256, .f32⟩
  | .hbm, ⟨7, _⟩ => ⟨S4x256, .f32⟩
  | .hbm, ⟨8, _⟩ => ⟨S1x1024, .f32⟩
  | .hbm, ⟨9, _⟩ => ⟨S8192x1024, .f32⟩
  | .hbm, ⟨10, _⟩ => ⟨S8192x12x512, .f32⟩
  | .hbm, ⟨11, _⟩ => ⟨S12x8192x512, .f32⟩
  | .hbm, ⟨12, _⟩ => ⟨S4x256x256, .bf16⟩
  | .hbm, ⟨13, _⟩ => ⟨S4x256x256, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S2x8192x1024, .bf16⟩
  | .hbm, ⟨18, _⟩ => ⟨S8192x1024, .bf16⟩
  | .hbm, ⟨19, _⟩ => ⟨S2048x1024, .bf16⟩
  | .hbm, ⟨20, _⟩ => ⟨S6x8192x1024, .bf16⟩
  | .hbm, ⟨21, _⟩ => ⟨S4x256x256, .f32⟩
  | .hbm, ⟨22, _⟩ => ⟨S4x256x256, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S4x1024, .f32⟩
  | .hbm, ⟨27, _⟩ => ⟨S1x1024, .f32⟩
  | .hbm, ⟨28, _⟩ => ⟨S1x8192x1024, .bf16⟩
  | .hbm, ⟨29, _⟩ => ⟨S8192x1024, .bf16⟩
  | .hbm, ⟨30, _⟩ => ⟨S2x8192x1024, .bf16⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S2x512x512, .f32⟩
  | .local _ .vmem, ⟨5, _⟩ => ⟨S2x512x512, .f32⟩
  | .local _ .vmem, ⟨6, _⟩ => ⟨S4x256x256, .bf16⟩
  | .local _ .vmem, ⟨7, _⟩ => ⟨S4x256x256, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S4x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x512x1024, .bf16⟩
  | .local _ .vmem, ⟨16, _⟩ => ⟨S1x512x1024, .bf16⟩
  | .local _ .vmem, ⟨17, _⟩ => ⟨S512x1024, .f32⟩
  | .local _ .vmem, ⟨18, _⟩ => ⟨S512x1024, .f32⟩
  | .local _ .vmem, ⟨19, _⟩ => ⟨S8x1024, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S2x512x512, .f32⟩
  | .local _ .vmem, ⟨24, _⟩ => ⟨S2x512x512, .f32⟩
  | .local _ .vmem, ⟨25, _⟩ => ⟨S2x8x512, .f32⟩
  | .local _ .vmem, ⟨26, _⟩ => ⟨S2x8x512, .f32⟩
  | .local _ .vmem, ⟨27, _⟩ => ⟨S2x512x512, .f32⟩
  | .local _ .vmem, ⟨28, _⟩ => ⟨S2x512x512, .f32⟩
  | .local _ .vmem, ⟨29, _⟩ => ⟨S512x1024, .f32⟩
  | .local _ .vmem, ⟨30, _⟩ => ⟨S512x1024, .f32⟩
  | .local _ .vmem, ⟨31, _⟩ => ⟨S8x1024, .f32⟩
  | .local _ .vmem, ⟨32, _⟩ => ⟨S8x1024, .f32⟩
  | .local _ .vmem, ⟨33, _⟩ => ⟨S4x256x256, .bf16⟩
  | .local _ .vmem, ⟨34, _⟩ => ⟨S4x256x256, .bf16⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S4x1024, .f32⟩
  | .local _ .vmem, ⟨39, _⟩ => ⟨S1x1024, .f32⟩
  | .local _ .vmem, ⟨40, _⟩ => ⟨S2x512x1024, .bf16⟩
  | .local _ .vmem, ⟨41, _⟩ => ⟨S2x512x1024, .bf16⟩
  | .local _ .vmem, ⟨42, _⟩ => ⟨S4x256x256, .f32⟩
  | .local _ .vmem, ⟨43, _⟩ => ⟨S4x256x256, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S4x1024, .f32⟩
  | .local _ .vmem, ⟨48, _⟩ => ⟨S1x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .f32⟩
  | .local _ .vmem, ⟨52, _⟩ => ⟨S8x1024, .f32⟩
  | .local _ .vmem, ⟨53, _⟩ => ⟨S8x1024, .f32⟩
  | .local _ .vmem, ⟨54, _⟩ => ⟨S8x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg12_0 : Ref sig .tc := ⟨.vmem, 38, rfl⟩
abbrev cc1_stg13_0 : Ref sig .tc := ⟨.vmem, 39, rfl⟩
abbrev cc1_stg14_0 : Ref sig .tc := ⟨.vmem, 40, rfl⟩
abbrev cc1_stg14_1 : Ref sig .tc := ⟨.vmem, 41, rfl⟩
abbrev cc1_stg15_0 : Ref sig .tc := ⟨.vmem, 42, rfl⟩
abbrev cc1_stg16_0 : Ref sig .tc := ⟨.vmem, 43, rfl⟩
abbrev cc1_stg17_0 : Ref sig .tc := ⟨.vmem, 44, rfl⟩
abbrev cc1_stg18_0 : Ref sig .tc := ⟨.vmem, 45, rfl⟩
abbrev cc1_stg19_0 : Ref sig .tc := ⟨.vmem, 46, rfl⟩
abbrev cc1_stg20_0 : Ref sig .tc := ⟨.vmem, 47, rfl⟩
abbrev cc1_stg21_0 : Ref sig .tc := ⟨.vmem, 48, rfl⟩
abbrev cc1_scratch0 : Ref sig .tc := ⟨.vmem, 49, rfl⟩
abbrev cc1_scratch1 : Ref sig .tc := ⟨.vmem, 50, rfl⟩
abbrev cc1_scratch2 : Ref sig .tc := ⟨.vmem, 51, rfl⟩
abbrev cc1_scratch3 : Ref sig .tc := ⟨.vmem, 52, rfl⟩
abbrev cc1_scratch4 : Ref sig .tc := ⟨.vmem, 53, rfl⟩
abbrev cc1_scratch5 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem12_0 : DmaSem sig := 35
abbrev cc1_sem13_0 : DmaSem sig := 36
abbrev cc1_sem14_0 : DmaSem sig := 37
abbrev cc1_sem14_1 : DmaSem sig := 38
abbrev cc1_sem15_0 : DmaSem sig := 39
abbrev cc1_sem16_0 : DmaSem sig := 40
abbrev cc1_sem17_0 : DmaSem sig := 41
abbrev cc1_sem18_0 : DmaSem sig := 42
abbrev cc1_sem19_0 : DmaSem sig := 43
abbrev cc1_sem20_0 : DmaSem sig := 44
abbrev cc1_sem21_0 : DmaSem sig := 45

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_71 : BitVec 32 := 0#32
  let c64_i32 : BitVec 32 := 64#32
  let v183 : BitVec 32 := Scalar.addi c0_i32_71 c64_i32
  let c1_i32_72 : BitVec 32 := 1#32
  ⟨c0_i32_71, v183, c1_i32_72⟩
def k0_mult1 (k0_t1 : Fin k0_t1_loop.trips) : BitVec 32 :=
  let c0_i32_71 : BitVec 32 := 0#32
  let c1_i32_72 : BitVec 32 := 1#32
  let arg16 : BitVec 32 := Scf.iv c0_i32_71 c1_i32_72 k0_t1
  let c8_i32 : BitVec 32 := 8#32
  let v208 : BitVec 32 := Scalar.muli arg16 c8_i32
  v208
def k0_off1 (k0_t1 : Fin k0_t1_loop.trips) : Fin 2 → Nat :=
  let c0_i32_71 : BitVec 32 := 0#32
  let c1_i32_72 : BitVec 32 := 1#32
  let arg16 : BitVec 32 := Scf.iv c0_i32_71 c1_i32_72 k0_t1
  let c8_i32 : BitVec 32 := 8#32
  let v208 : BitVec 32 := Scalar.muli arg16 c8_i32
  let v209 : BitVec 32 := v208
  let v210 : Index := Scalar.indexCast v209
  let c0_90 : Index := 0#32
  ![v210.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![16], ![false]⟩

@[reducible] def k1_t1_loop : Scf.Loop 32 :=
  let c0_i32_91 : BitVec 32 := 0#32
  let c64_i32 : BitVec 32 := 64#32
  let v221 : BitVec 32 := Scalar.addi c0_i32_91 c64_i32
  let c1_i32_92 : BitVec 32 := 1#32
  ⟨c0_i32_91, v221, c1_i32_92⟩
def k1_mult1 (k1_t1 : Fin k1_t1_loop.trips) : BitVec 32 :=
  let c63_i32 : BitVec 32 := 63#32
  let c0_i32_91 : BitVec 32 := 0#32
  let c1_i32_92 : BitVec 32 := 1#32
  let arg29 : BitVec 32 := Scf.iv c0_i32_91 c1_i32_92 k1_t1
  let v488 : BitVec 32 := Scalar.subi c63_i32 arg29
  let c8_i32 : BitVec 32 := 8#32
  let v489 : BitVec 32 := Scalar.muli v488 c8_i32
  v489
def k1_off1 (k1_t1 : Fin k1_t1_loop.trips) : Fin 2 → Nat :=
  let c63_i32 : BitVec 32 := 63#32
  let c0_i32_91 : BitVec 32 := 0#32
  let c1_i32_92 : BitVec 32 := 1#32
  let arg29 : BitVec 32 := Scf.iv c0_i32_91 c1_i32_92 k1_t1
  let v488 : BitVec 32 := Scalar.subi c63_i32 arg29
  let c8_i32 : BitVec 32 := 8#32
  let v489 : BitVec 32 := Scalar.muli v488 c8_i32
  let v490 : BitVec 32 := v489
  let v491 : Index := Scalar.indexCast v490
  let c0_227 : Index := 0#32
  ![v491.toNat, 0]
def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc1_transform_4 (i : grid1.Coords) : Fin 3 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  let c0_i32_0 : BitVec 32 := 0#32
  ![c1_i32.toNat, v0.toNat, c0_i32.toNat]

def cc1_transform_5 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  let c0_i32_0 : BitVec 32 := 0#32
  ![c2_i32.toNat, v0.toNat, c0_i32.toNat]

def cc1_transform_15 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_16 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4x256x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x256x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2x512x1024 .bf16 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 1 → Memref sig .tc .vmem S4x256x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S4x256x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x1024 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S4x1024 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x1024 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]
-- ==== LruKernelIdeal.lean ====
variable {F : FTy → Type} [FloatOps F] [Named F]
def κ : String → Option EReal := fun
  | "log_series" => some ⊥
  | "sq_series" => some ⊤
  | _ => none
-- ==== LruReferenceIdeal.lean ====
abbrev S8192x6144 : Shape := ⟨2, ![8192, 6144]⟩
abbrev S2048x1024 : Shape := ⟨2, ![2048, 1024]⟩
abbrev S4x1024 : Shape := ⟨2, ![4, 1024]⟩
abbrev S1x1024 : Shape := ⟨2, ![1, 1024]⟩
abbrev S4x256x256 : Shape := ⟨3, ![4, 256, 256]⟩
abbrev S4x256 : Shape := ⟨2, ![4, 256]⟩
abbrev S8192x1024 : Shape := ⟨2, ![8192, 1024]⟩
abbrev S_ : Shape := ⟨0, ![]⟩
abbrev S8192x4096 : Shape := ⟨2, ![8192, 4096]⟩
abbrev S3x1024 : Shape := ⟨2, ![3, 1024]⟩
abbrev S8195x1024 : Shape := ⟨2, ![8195, 1024]⟩
abbrev S1024 : Shape := ⟨1, ![1024]⟩
abbrev S8192x4x256 : Shape := ⟨3, ![8192, 4, 256]⟩
abbrev S4x256x8192 : Shape := ⟨3, ![4, 256, 8192]⟩
abbrev S1x4x256 : Shape := ⟨3, ![1, 4, 256]⟩
abbrev S1024x1024 : Shape := ⟨2, ![1024, 1024]⟩
abbrev S4x8192x256 : Shape := ⟨3, ![4, 8192, 256]⟩
abbrev S1x8192x1024 : Shape := ⟨3, ![1, 8192, 1024]⟩
abbrev S2x8192x1024 : Shape := ⟨3, ![2, 8192, 1024]⟩

abbrev nBuf : Space → Nat
  | .hbm => 336
  | .vmem => 0
  | .smem => 0
  | _ => 0

abbrev hbmTy0_0 (i : Nat) : BufTy := match i % 128 with
  | 0 => ⟨S8192x6144, .f32⟩
  | 1 => ⟨S2048x1024, .f32⟩
  | 2 => ⟨S4x1024, .f32⟩
  | 3 => ⟨S1x1024, .f32⟩
  | 4 => ⟨S4x256x256, .f32⟩
  | 5 => ⟨S4x256, .f32⟩
  | 6 => ⟨S4x256x256, .f32⟩
  | 7 => ⟨S4x256, .f32⟩
  | 8 => ⟨S1x1024, .f32⟩
  | 9 => ⟨S8192x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S1x1024, .f32⟩
  | 16 => ⟨S1x1024, .i1⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S8192x1024, .f32⟩
  | 26 => ⟨S8192x1024, .f32⟩
  | 27 => ⟨S8192x4096, .f32⟩
  | 28 => ⟨S_, .f32⟩
  | 29 => ⟨S3x1024, .f32⟩
  | 30 => ⟨S8195x1024, .f32⟩
  | 31 => ⟨S_, .f32⟩
  | 32 => ⟨S3x1024, .f32⟩
  | 33 => ⟨S1x1024, .f32⟩
  | 34 => ⟨S1024, .f32⟩
  | 35 => ⟨S8192x1024, .f32⟩
  | 36 => ⟨S1x1024, .f32⟩
  | 37 => ⟨S8192x1024, .f32⟩
  | 38 => ⟨S8192x1024, .f32⟩
  | 39 => ⟨S8192x1024, .f32⟩
  | 40 => ⟨S8192x1024, .f32⟩
  | 41 => ⟨S1x1024, .f32⟩
  | 42 => ⟨S1024, .f32⟩
  | 43 => ⟨S8192x1024, .f32⟩
  | 44 => ⟨S1x1024, .f32⟩
  | 45 => ⟨S8192x1024, .f32⟩
  | 46 => ⟨S8192x1024, .f32⟩
  | 47 => ⟨S8192x1024, .f32⟩
  | 48 => ⟨S1x1024, .f32⟩
  | 49 => ⟨S1024, .f32⟩
  | 50 => ⟨S8192x1024, .f32⟩
  | 51 => ⟨S1x1024, .f32⟩
  | 52 => ⟨S8192x1024, .f32⟩
  | 53 => ⟨S8192x1024, .f32⟩
  | 54 => ⟨S8192x1024, .f32⟩
  | 55 => ⟨S1x1024, .f32⟩
  | 56 => ⟨S1024, .f32⟩
  | 57 => ⟨S8192x1024, .f32⟩
  | 58 => ⟨S1x1024, .f32⟩
  | 59 => ⟨S8192x1024, .f32⟩
  | 60 => ⟨S8192x1024, .f32⟩
  | 61 => ⟨S8192x1024, .f32⟩
  | 62 => ⟨S8192x4x256, .f32⟩
  | 63 => ⟨S4x256x8192, .f32⟩
  | 64 => ⟨S8192x4x256, .f32⟩
  | 65 => ⟨S1x4x256, .f32⟩
  | 66 => ⟨S8192x4x256, .f32⟩
  | 67 => ⟨S8192x4x256, .f32⟩
  | 68 => ⟨S8192x4x256, .f32⟩
  | 69 => ⟨S8192x4x256, .f32⟩
  | 70 => ⟨S_, .f32⟩
  | 71 => ⟨S8192x4x256, .f32⟩
  | 72 => ⟨S8192x4x256, .f32⟩
  | 73 => ⟨S_, .f32⟩
  | 74 => ⟨S8192x4x256, .f32⟩
  | 75 => ⟨S8192x4x256, .f32⟩
  | 76 => ⟨S_, .f32⟩
  | 77 => ⟨S8192x4x256, .f32⟩
  | 78 => ⟨S8192x4x256, .f32⟩
  | 79 => ⟨S8192x4x256, .f32⟩
  | 80 => ⟨S8192x1024, .f32⟩
  | 81 => ⟨S4x256x8192, .f32⟩
  | 82 => ⟨S8192x4x256, .f32⟩
  | 83 => ⟨S1x4x256, .f32⟩
  | 84 => ⟨S8192x4x256, .f32⟩
  | 85 => ⟨S8192x4x256, .f32⟩
  | 86 => ⟨S8192x4x256, .f32⟩
  | 87 => ⟨S8192x4x256, .f32⟩
  | 88 => ⟨S_, .f32⟩
  | 89 => ⟨S8192x4x256, .f32⟩
  | 90 => ⟨S8192x4x256, .f32⟩
  | 91 => ⟨S_, .f32⟩
  | 92 => ⟨S8192x4x256, .f32⟩
  | 93 => ⟨S8192x4x256, .f32⟩
  | 94 => ⟨S_, .f32⟩
  | 95 => ⟨S8192x4x256, .f32⟩
  | 96 => ⟨S8192x4x256, .f32⟩
  | 97 => ⟨S8192x4x256, .f32⟩
  | 98 => ⟨S8192x1024, .f32⟩
  | 99 => ⟨S_, .f32⟩
  | 100 => ⟨S8192x1024, .f32⟩
  | 101 => ⟨S8192x1024, .f32⟩
  | 102 => ⟨S8192x1024, .f32⟩
  | 103 => ⟨S8192x1024, .f32⟩
  | 104 => ⟨S8192x1024, .f32⟩
  | 105 => ⟨S_, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S_, .f32⟩
  | 113 => ⟨S8192x1024, .f32⟩
  | 114 => ⟨S8192x1024, .f32⟩
  | 115 => ⟨S8192x1024, .f32⟩
  | 116 => ⟨S8192x1024, .f32⟩
  | 117 => ⟨S_, .f32⟩
  | 118 => ⟨S1024, .f32⟩
  | 119 => ⟨S_, .f32⟩
  | 120 => ⟨S8192x1024, .f32⟩
  | 121 => ⟨S_, .f32⟩
  | 122 => ⟨S8192x1024, .f32⟩
  | 123 => ⟨S_, .i32⟩
  | 124 => ⟨S8192x1024, .f32⟩
  | 125 => ⟨S8192x1024, .f32⟩
  | 126 => ⟨S_, .i32⟩
  | 127 => ⟨S1024, .f32⟩
  | _ => ⟨S8192x6144, .f32⟩

abbrev hbmTy0_1 (i : Nat) : BufTy := match i % 128 with
  | 0 => ⟨S8192x1024, .f32⟩
  | 1 => ⟨S8192x1024, .f32⟩
  | 2 => ⟨S_, .i32⟩
  | 3 => ⟨S_, .i1⟩
  | 4 => ⟨S_, .i32⟩
  | 5 => ⟨S1x1024, .f32⟩
  | 6 => ⟨S1024, .f32⟩
  | 7 => ⟨S_, .i32⟩
  | 8 => ⟨S1x1024, .f32⟩
  | 9 => ⟨S1024, .f32⟩
  | 10 => ⟨S1024, .f32⟩
  | 11 => ⟨S1024, .f32⟩
  | 12 => ⟨S1x1024, .f32⟩
  | 13 => ⟨S_, .i32⟩
  | 14 => ⟨S8192x1024, .f32⟩
  | 15 => ⟨S1x1024, .f32⟩
  | 16 => ⟨S_, .i32⟩
  | 17 => ⟨S8192x1024, .f32⟩
  | 18 => ⟨S_, .i32⟩
  | 19 => ⟨S_, .i32⟩
  | 20 => ⟨S8192x1024, .f32⟩
  | 21 => ⟨S8192x1024, .f32⟩
  | 22 => ⟨S_, .f32⟩
  | 23 => ⟨S8192x1024, .f32⟩
  | 24 => ⟨S8192x1024, .f32⟩
  | 25 => ⟨S_, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S1024x1024, .f32⟩
  | 35 => ⟨S8192x1024, .f32⟩
  | 36 => ⟨S_, .f32⟩
  | 37 => ⟨S1024, .f32⟩
  | 38 => ⟨S8192x1024, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S1024, .f32⟩
  | 47 => ⟨S_, .f32⟩
  | 48 => ⟨S8192x1024, .f32⟩
  | 49 => ⟨S_, .f32⟩
  | 50 => ⟨S8192x1024, .f32⟩
  | 51 => ⟨S_, .i32⟩
  | 52 => ⟨S8192x1024, .f32⟩
  | 53 => ⟨S8192x1024, .f32⟩
  | 54 => ⟨S8192x1024, .f32⟩
  | 55 => ⟨S_, .i32⟩
  | 56 => ⟨S1024, .f32⟩
  | 57 => ⟨S8192x1024, .f32⟩
  | 58 => ⟨S8192x1024, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S1x1024, .f32⟩
  | 67 => ⟨S1024, .f32⟩
  | 68 => ⟨S_, .i32⟩
  | 69 => ⟨S1x1024, .f32⟩
  | 70 => ⟨S1024, .f32⟩
  | 71 => ⟨S_, .i32⟩
  | 72 => ⟨S1x1024, .f32⟩
  | 73 => ⟨S1024, .f32⟩
  | 74 => ⟨S1024, .f32⟩
  | 75 => ⟨S1024, .f32⟩
  | 76 => ⟨S1024, .f32⟩
  | 77 => ⟨S1x1024, .f32⟩
  | 78 => ⟨S_, .i32⟩
  | 79 => ⟨S8192x1024, .f32⟩
  | 80 => ⟨S1x1024, .f32⟩
  | 81 => ⟨S_, .i32⟩
  | 82 => ⟨S8192x1024, .f32⟩
  | 83 => ⟨S_, .i32⟩
  | 84 => ⟨S_, .i32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S_, .f32⟩
  | 99 => ⟨S1024, .f32⟩
  | 100 => ⟨S1x1024, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S8192x4x256, .f32⟩
  | 107 => ⟨S8192x4x256, .f32⟩
  | 108 => ⟨S_, .f32⟩
  | 109 => ⟨S4x256, .f32⟩
  | 110 => ⟨S1x4x256, .f32⟩
  | 111 => ⟨S_, .f32⟩
  | 112 => ⟨S4x256, .f32⟩
  | 113 => ⟨S4x256x8192, .f32⟩
  | 114 => ⟨S4x8192x256, .f32⟩
  | 115 => ⟨S8192x4x256, .f32⟩
  | 116 => ⟨S4x256x256, .f32⟩
  | 117 => ⟨S4x256x256, .f32⟩
  | 118 => ⟨S8192x4x256, .f32⟩
  | 119 => ⟨S8192x4x256, .f32⟩
  | 120 => ⟨S_, .f32⟩
  | 121 => ⟨S4x256, .f32⟩
  | 122 => ⟨S1x4x256, .f32⟩
  | 123 => ⟨S_, .f32⟩
  | 124 => ⟨S4x256, .f32⟩
  | 125 => ⟨S4x256x8192, .f32⟩
  | 126 => ⟨S4x8192x256, .f32⟩
  | 127 => ⟨S8192x4x256, .f32⟩
  | _ => ⟨S8192x6144, .f32⟩

abbrev hbmTy0_2 (i : Nat) : BufTy := match i % 128 with
  | 0 => ⟨S8192x4x256, .f32⟩
  | 1 => ⟨S4x256x256, .f32⟩
  | 2 => ⟨S4x256x256, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S_, .f32⟩
  | 14 => ⟨S8195x1024, .f32⟩
  | 15 => ⟨S1x1024, .f32⟩
  | 16 => ⟨S_, .f32⟩
  | 17 => ⟨S4x1024, .f32⟩
  | 18 => ⟨S8192x1024, .f32⟩
  | 19 => ⟨S8192x1024, .f32⟩
  | 20 => ⟨S8192x1024, .f32⟩
  | 21 => ⟨S_, .f32⟩
  | 22 => ⟨S1024, .f32⟩
  | 23 => ⟨S1x1024, .f32⟩
  | 24 => ⟨S_, .f32⟩
  | 25 => ⟨S1024, .f32⟩
  | 26 => ⟨S_, .f32⟩
  | 27 => ⟨S8195x1024, .f32⟩
  | 28 => ⟨S8195x1024, .f32⟩
  | 29 => ⟨S1x1024, .f32⟩
  | 30 => ⟨S_, .f32⟩
  | 31 => ⟨S4x1024, .f32⟩
  | 32 => ⟨S4x1024, .f32⟩
  | 33 => ⟨S8192x1024, .f32⟩
  | 34 => ⟨S8192x1024, .f32⟩
  | 35 => ⟨S8192x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S_, .f32⟩
  | 42 => ⟨S8195x1024, .f32⟩
  | 43 => ⟨S8195x1024, .f32⟩
  | 44 => ⟨S1x1024, .f32⟩
  | 45 => ⟨S_, .f32⟩
  | 46 => ⟨S4x1024, .f32⟩
  | 47 => ⟨S4x1024, .f32⟩
  | 48 => ⟨S_, .f32⟩
  | 49 => ⟨S1024, .f32⟩
  | 50 => ⟨S1x1024, .f32⟩
  | 51 => ⟨S8192x1024, .f32⟩
  | 52 => ⟨S8192x1024, .f32⟩
  | 53 => ⟨S8192x1024, .f32⟩
  | 54 => ⟨S_, .f32⟩
  | 55 => ⟨S1024, .f32⟩
  | 56 => ⟨S1x1024, .f32⟩
  | 57 => ⟨S_, .f32⟩
  | 58 => ⟨S1024, .f32⟩
  | 59 => ⟨S_, .f32⟩
  | 60 => ⟨S8195x1024, .f32⟩
  | 61 => ⟨S8195x1024, .f32⟩
  | 62 => ⟨S1x1024, .f32⟩
  | 63 => ⟨S_, .f32⟩
  | 64 => ⟨S4x1024, .f32⟩
  | 65 => ⟨S4x1024, .f32⟩
  | 66 => ⟨S3x1024, .f32⟩
  | 67 => ⟨S8192x1024, .f32⟩
  | 68 => ⟨S_, .f32⟩
  | 69 => ⟨S8192x4096, .f32⟩
  | 70 => ⟨S8192x6144, .f32⟩
  | 71 => ⟨S8192x1024, .f32⟩
  | 72 => ⟨S8192x1024, .f32⟩
  | 73 => ⟨S8192x1024, .bf16⟩
  | 74 => ⟨S1x8192x1024, .f32⟩
  | 75 => ⟨S1x8192x1024, .f32⟩
  | 76 => ⟨S2x8192x1024, .f32⟩
  | 77 => ⟨S2x8192x1024, .bf16⟩
  | 78 => ⟨S1x1024, .f32⟩
  | 79 => ⟨S1x1024, .f32⟩
  | _ => ⟨S8192x6144, .f32⟩

abbrev hbmTy (i : Nat) : BufTy := match i / 128 with
  | 0 => hbmTy0_0 i
  | 1 => hbmTy0_1 i
  | 2 => hbmTy0_2 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_1 : Ref sig .tc := ⟨.hbm, 70, rfl⟩
abbrev main_v45 : Ref sig .tc := ⟨.hbm, 71, rfl⟩
abbrev main_v46 : Ref sig .tc := ⟨.hbm, 72, rfl⟩
abbrev main_cst_2 : Ref sig .tc := ⟨.hbm, 73, rfl⟩
abbrev main_v47 : Ref sig .tc := ⟨.hbm, 74, rfl⟩
abbrev main_v48 : Ref sig .tc := ⟨.hbm, 75, rfl⟩
abbrev main_cst_3 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_4 : Ref sig .tc := ⟨.hbm, 88, rfl⟩
abbrev main_v60 : Ref sig .tc := ⟨.hbm, 89, rfl⟩
abbrev main_v61 : Ref sig .tc := ⟨.hbm, 90, rfl⟩
abbrev main_cst_5 : Ref sig .tc := ⟨.hbm, 91, rfl⟩
abbrev main_v62 : Ref sig .tc := ⟨.hbm, 92, rfl⟩
abbrev main_v63 : Ref sig .tc := ⟨.hbm, 93, rfl⟩
abbrev main_cst_6 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_7 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_8 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_9 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_10 : Ref sig .tc := ⟨.hbm, 117, rfl⟩
abbrev main_v83 : Ref sig .tc := ⟨.hbm, 118, rfl⟩
abbrev main_cst_11 : Ref sig .tc := ⟨.hbm, 119, rfl⟩
abbrev main_v84 : Ref sig .tc := ⟨.hbm, 120, rfl⟩
abbrev main_cst_12 : Ref sig .tc := ⟨.hbm, 121, rfl⟩
abbrev main_v85 : Ref sig .tc := ⟨.hbm, 122, rfl⟩
abbrev main_c : Ref sig .tc := ⟨.hbm, 123, rfl⟩
abbrev main_v86_0 : Ref sig .tc := ⟨.hbm, 124, rfl⟩
abbrev main_v86_1 : Ref sig .tc := ⟨.hbm, 125, rfl⟩
abbrev main_v86_2 : Ref sig .tc := ⟨.hbm, 126, rfl⟩
abbrev main_v86_3 : Ref sig .tc := ⟨.hbm, 127, rfl⟩
abbrev main_v86_4 : Ref sig .tc := ⟨.hbm, 128, rfl⟩
abbrev main_v86_5 : Ref sig .tc := ⟨.hbm, 129, rfl⟩
abbrev main_while0c_c_48 : Ref sig .tc := ⟨.hbm, 130, rfl⟩
abbrev main_while0c_v198 : Ref sig .tc := ⟨.hbm, 131, rfl⟩
abbrev main_while0b_call1_c : Ref sig .tc := ⟨.hbm, 132, rfl⟩
abbrev main_while0b_call1_v0 : Ref sig .tc := ⟨.hbm, 133, rfl⟩
abbrev main_while0b_v198 : Ref sig .tc := ⟨.hbm, 134, rfl⟩
abbrev main_while0b_call2_c : Ref sig .tc := ⟨.hbm, 135, rfl⟩
abbrev main_while0b_call2_v0 : Ref sig .tc := ⟨.hbm, 136, rfl⟩
abbrev main_while0b_v199 : Ref sig .tc := ⟨.hbm, 137, rfl⟩
abbrev main_while0b_v200 : Ref sig .tc := ⟨.hbm, 138, rfl⟩
abbrev main_while0b_v201 : Ref sig .tc := ⟨.hbm, 139, rfl⟩
abbrev main_while0b_call3_v0 : Ref sig .tc := ⟨.hbm, 140, rfl⟩
abbrev main_while0b_call3_c : Ref sig .tc := ⟨.hbm, 141, rfl⟩
abbrev main_while0b_v202 : Ref sig .tc := ⟨.hbm, 142, rfl⟩
abbrev main_while0b_call4_v0 : Ref sig .tc := ⟨.hbm, 143, rfl⟩
abbrev main_while0b_call4_c : Ref sig .tc := ⟨.hbm, 144, rfl⟩
abbrev main_while0b_v203 : Ref sig .tc := ⟨.hbm, 145, rfl⟩
abbrev main_while0b_c_48 : Ref sig .tc := ⟨.hbm, 146, rfl⟩
abbrev main_while0b_v204 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_v87_2 : Ref sig .tc := ⟨.hbm, 155, rfl⟩
abbrev main_call5_cst_1 : Ref sig .tc := ⟨.hbm, 156, rfl⟩
abbrev main_call5_v6 : Ref sig .tc := ⟨.hbm, 157, rfl⟩
abbrev main_call5_v7 : Ref sig .tc := ⟨.hbm, 158, rfl⟩
abbrev main_v87_1 : Ref sig .tc := ⟨.hbm, 159, rfl⟩
abbrev main_v87_0 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_cst_13 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_call6_v0 : Ref sig .tc := ⟨.hbm, 169, rfl⟩
abbrev main_call6_v1 : Ref sig .tc := ⟨.hbm, 170, rfl⟩
abbrev main_call6_v2 : Ref sig .tc := ⟨.hbm, 171, rfl⟩
abbrev main_v95 : Ref sig .tc := ⟨.hbm, 172, rfl⟩
abbrev main_cst_14 : Ref sig .tc := ⟨.hbm, 173, rfl⟩
abbrev main_v96 : Ref sig .tc := ⟨.hbm, 174, rfl⟩
abbrev main_cst_15 : Ref sig .tc := ⟨.hbm, 175, rfl⟩
abbrev main_v97 : Ref sig .tc := ⟨.hbm, 176, rfl⟩
abbrev main_cst_16 : Ref sig .tc := ⟨.hbm, 177, rfl⟩
abbrev main_v98 : Ref sig .tc := ⟨.hbm, 178, rfl⟩
abbrev main_c_17 : Ref sig .tc := ⟨.hbm, 179, rfl⟩
abbrev main_v99_0 : Ref sig .tc := ⟨.hbm, 180, rfl⟩
abbrev main_v99_1 : Ref sig .tc := ⟨.hbm, 181, rfl⟩
abbrev main_v99_2 : Ref sig .tc := ⟨.hbm, 182, rfl⟩
abbrev main_v99_3 : Ref sig .tc := ⟨.hbm, 183, rfl⟩
abbrev main_v99_4 : Ref sig .tc := ⟨.hbm, 184, rfl⟩
abbrev main_v99_5 : Ref sig .tc := ⟨.hbm, 185, rfl⟩
abbrev main_v99_6 : Ref sig .tc := ⟨.hbm, 186, rfl⟩
abbrev main_while1c_c_49 : Ref sig .tc := ⟨.hbm, 187, rfl⟩
abbrev main_while1c_v198 : Ref sig .tc := ⟨.hbm, 188, rfl⟩
abbrev main_while1b_c_49 : Ref sig .tc := ⟨.hbm, 189, rfl⟩
abbrev main_while1b_v198 : Ref sig .tc := ⟨.hbm, 190, rfl⟩
abbrev main_while1b_c_50 : Ref sig .tc := ⟨.hbm, 191, rfl⟩
abbrev main_while1b_v199 : Ref sig .tc := ⟨.hbm, 192, rfl⟩
abbrev main_while1b_call7_c : Ref sig .tc := ⟨.hbm, 193, rfl⟩
abbrev main_while1b_call7_v0 : Ref sig .tc := ⟨.hbm, 194, rfl⟩
abbrev main_while1b_v200 : Ref sig .tc := ⟨.hbm, 195, rfl⟩
abbrev main_while1b_call8_c : Ref sig .tc := ⟨.hbm, 196, rfl⟩
abbrev main_while1b_call8_v0 : Ref sig .tc := ⟨.hbm, 197, rfl⟩
abbrev main_while1b_v201 : Ref sig .tc := ⟨.hbm, 198, rfl⟩
abbrev main_while1b_call9_c : Ref sig .tc := ⟨.hbm, 199, rfl⟩
abbrev main_while1b_call9_v0 : Ref sig .tc := ⟨.hbm, 200, rfl⟩
abbrev main_while1b_v202 : Ref sig .tc := ⟨.hbm, 201, rfl⟩
abbrev main_while1b_v203 : Ref sig .tc := ⟨.hbm, 202, rfl⟩
abbrev main_while1b_v204 : Ref sig .tc := ⟨.hbm, 203, rfl⟩
abbrev main_while1b_v205 : Ref sig .tc := ⟨.hbm, 204, rfl⟩
abbrev main_while1b_call10_v0 : Ref sig .tc := ⟨.hbm, 205, rfl⟩
abbrev main_while1b_call10_c : Ref sig .tc := ⟨.hbm, 206, rfl⟩
abbrev main_while1b_v206 : Ref sig .tc := ⟨.hbm, 207, rfl⟩
abbrev main_while1b_call11_v0 : Ref sig .tc := ⟨.hbm, 208, rfl⟩
abbrev main_while1b_call11_c : Ref sig .tc := ⟨.hbm, 209, rfl⟩
abbrev main_while1b_v207 : Ref sig .tc := ⟨.hbm, 210, rfl⟩
abbrev main_while1b_c_51 : Ref sig .tc := ⟨.hbm, 211, rfl⟩
abbrev main_while1b_v208 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_v106 : Ref sig .tc := ⟨.hbm, 219, rfl⟩
abbrev main_cst_18 : Ref sig .tc := ⟨.hbm, 220, rfl⟩
abbrev main_v107 : Ref sig .tc := ⟨.hbm, 221, rfl⟩
abbrev main_v108 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_cst_19 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_v115 : Ref sig .tc := ⟨.hbm, 230, rfl⟩
abbrev main_cst_20 : Ref sig .tc := ⟨.hbm, 231, rfl⟩
abbrev main_v116 : Ref sig .tc := ⟨.hbm, 232, rfl⟩
abbrev main_v117 : Ref sig .tc := ⟨.hbm, 233, rfl⟩
abbrev main_v118 : Ref sig .tc := ⟨.hbm, 234, rfl⟩
abbrev main_v119 : Ref sig .tc := ⟨.hbm, 235, rfl⟩
abbrev main_cst_21 : Ref sig .tc := ⟨.hbm, 236, rfl⟩
abbrev main_v120 : Ref sig .tc := ⟨.hbm, 237, rfl⟩
abbrev main_v121 : Ref sig .tc := ⟨.hbm, 238, rfl⟩
abbrev main_cst_22 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_cst_23 : Ref sig .tc := ⟨.hbm, 248, rfl⟩
abbrev main_v130 : Ref sig .tc := ⟨.hbm, 249, rfl⟩
abbrev main_v131 : Ref sig .tc := ⟨.hbm, 250, rfl⟩
abbrev main_cst_24 : Ref sig .tc := ⟨.hbm, 251, rfl⟩
abbrev main_v132 : Ref sig .tc := ⟨.hbm, 252, rfl⟩
abbrev main_v133 : Ref sig .tc := ⟨.hbm, 253, rfl⟩
abbrev main_v134 : Ref sig .tc := ⟨.hbm, 254, rfl⟩
abbrev main_v135 : Ref sig .tc := ⟨.hbm, 255, rfl⟩
abbrev main_v136 : Ref sig .tc := ⟨.hbm, 256, rfl⟩
abbrev main_v137 : Ref sig .tc := ⟨.hbm, 257, rfl⟩
abbrev main_v138 : Ref sig .tc := ⟨.hbm, 258, rfl⟩
abbrev main_v139 : Ref sig .tc := ⟨.hbm, 259, rfl⟩
abbrev main_v140 : Ref sig .tc := ⟨.hbm, 260, rfl⟩
abbrev main_v141 : Ref sig .tc := ⟨.hbm, 261, rfl⟩
abbrev main_v142 : Ref sig .tc := ⟨.hbm, 262, rfl⟩
abbrev main_v143 : Ref sig .tc := ⟨.hbm, 263, rfl⟩
abbrev main_cst_25 : Ref sig .tc := ⟨.hbm, 264, rfl⟩
abbrev main_v144 : Ref sig .tc := ⟨.hbm, 265, rfl⟩
abbrev main_v145 : Ref sig .tc := ⟨.hbm, 266, rfl⟩
abbrev main_cst_26 : Ref sig .tc := ⟨.hbm, 267, rfl⟩
abbrev main_v146 : Ref sig .tc := ⟨.hbm, 268, rfl⟩
abbrev main_cst_27 : Ref sig .tc := ⟨.hbm, 269, rfl⟩
abbrev main_v147 : Ref sig .tc := ⟨.hbm, 270, rfl⟩
abbrev main_v148 : Ref sig .tc := ⟨.hbm, 271, rfl⟩
abbrev main_cst_28 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_cst_29 : Ref sig .tc := ⟨.hbm, 277, rfl⟩
abbrev main_v153 : Ref sig .tc := ⟨.hbm, 278, rfl⟩
abbrev main_v154 : Ref sig .tc := ⟨.hbm, 279, rfl⟩
abbrev main_cst_30 : Ref sig .tc := ⟨.hbm, 280, rfl⟩
abbrev main_v155 : Ref sig .tc := ⟨.hbm, 281, rfl⟩
abbrev main_cst_31 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_cst_32 : Ref sig .tc := ⟨.hbm, 286, rfl⟩
abbrev main_v159 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_cst_33 : Ref sig .tc := ⟨.hbm, 292, rfl⟩
abbrev main_v164 : Ref sig .tc := ⟨.hbm, 293, rfl⟩
abbrev main_v165 : Ref sig .tc := ⟨.hbm, 294, rfl⟩
abbrev main_cst_34 : Ref sig .tc := ⟨.hbm, 295, rfl⟩
abbrev main_v166 : Ref sig .tc := ⟨.hbm, 296, rfl⟩
abbrev main_cst_35 : Ref sig .tc := ⟨.hbm, 297, rfl⟩
abbrev main_v167 : Ref sig .tc := ⟨.hbm, 298, rfl⟩
abbrev main_v168 : Ref sig .tc := ⟨.hbm, 299, rfl⟩
abbrev main_v169 : Ref sig .tc := ⟨.hbm, 300, rfl⟩
abbrev main_cst_36 : Ref sig .tc := ⟨.hbm, 301, rfl⟩
abbrev main_v170 : Ref sig .tc := ⟨.hbm, 302, rfl⟩
abbrev main_v171 : Ref sig .tc := ⟨.hbm, 303, rfl⟩
abbrev main_cst_37 : Ref sig .tc := ⟨.hbm, 304, rfl⟩
abbrev main_v172 : Ref sig .tc := ⟨.hbm, 305, rfl⟩
abbrev main_v173 : Ref sig .tc := ⟨.hbm, 306, rfl⟩
abbrev main_v174 : Ref sig .tc := ⟨.hbm, 307, rfl⟩
abbrev main_v175 : Ref sig .tc := ⟨.hbm, 308, rfl⟩
abbrev main_v176 : Ref sig .tc := ⟨.hbm, 309, rfl⟩
abbrev main_cst_38 : Ref sig .tc := ⟨.hbm, 310, rfl⟩
abbrev main_v177 : Ref sig .tc := ⟨.hbm, 311, rfl⟩
abbrev main_v178 : Ref sig .tc := ⟨.hbm, 312, rfl⟩
abbrev main_cst_39 : Ref sig .tc := ⟨.hbm, 313, rfl⟩
abbrev main_v179 : Ref sig .tc := ⟨.hbm, 314, rfl⟩
abbrev main_cst_40 : Ref sig .tc := ⟨.hbm, 315, rfl⟩
abbrev main_v180 : Ref sig .tc := ⟨.hbm, 316, rfl⟩
abbrev main_v181 : Ref sig .tc := ⟨.hbm, 317, rfl⟩
abbrev main_v182 : Ref sig .tc := ⟨.hbm, 318, rfl⟩
abbrev main_cst_41 : Ref sig .tc := ⟨.hbm, 319, rfl⟩
abbrev main_v183 : Ref sig .tc := ⟨.hbm, 320, rfl⟩
abbrev main_v184 : Ref sig .tc := ⟨.hbm, 321, rfl⟩
abbrev main_v185 : Ref sig .tc := ⟨.hbm, 322, rfl⟩
abbrev main_v186 : Ref sig .tc := ⟨.hbm, 323, rfl⟩
abbrev main_cst_42 : Ref sig .tc := ⟨.hbm, 324, rfl⟩
abbrev main_v187 : Ref sig .tc := ⟨.hbm, 325, rfl⟩
abbrev main_v188 : Ref sig .tc := ⟨.hbm, 326, rfl⟩
abbrev main_v189 : Ref sig .tc := ⟨.hbm, 327, rfl⟩
abbrev main_v190 : Ref sig .tc := ⟨.hbm, 328, rfl⟩
abbrev main_v191 : Ref sig .tc := ⟨.hbm, 329, rfl⟩
abbrev main_v192 : Ref sig .tc := ⟨.hbm, 330, rfl⟩
abbrev main_v193 : Ref sig .tc := ⟨.hbm, 331, rfl⟩
abbrev main_v194 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== DxKernel.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S8192x6x1024 : Shape := ⟨3, ![8192, 6, 1024]⟩
abbrev S6x8192x1024 : Shape := ⟨3, ![6, 8192, 1024]⟩
abbrev S4x8192x1024 : Shape := ⟨3, ![4, 8192, 1024]⟩
abbrev S2x8192x1024 : Shape := ⟨3, ![2, 8192, 1024]⟩
abbrev S1024x12x512 : Shape := ⟨3, ![1024, 12, 512]⟩
abbrev S12x1024x512 : Shape := ⟨3, ![12, 1024, 512]⟩
abbrev S6x512x1024 : Shape := ⟨3, ![6, 512, 1024]⟩
abbrev S512x1024 : Shape := ⟨2, ![512, 1024]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 16
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x6144, .f32⟩
  | .hbm, ⟨4, _⟩ => ⟨S8192x1024, .f32⟩
  | .hbm, ⟨5, _⟩ => ⟨S8192x6144, .bf16⟩
  | .hbm, ⟨6, _⟩ => ⟨S8192x6x1024, .bf16⟩
  | .hbm, ⟨7, _⟩ => ⟨S6x8192x1024, .bf16⟩
  | .hbm, ⟨8, _⟩ => ⟨S4x8192x1024, .bf16⟩
  | .hbm, ⟨9, _⟩ => ⟨S2x8192x1024, .bf16⟩
  | .hbm, ⟨10, _⟩ => ⟨S6x8192x1024, .bf16⟩
  | .hbm, ⟨11, _⟩ => ⟨S1024x6144, .bf16⟩
  | .hbm, ⟨12, _⟩ => ⟨S1024x12x512, .bf16⟩
  | .hbm, ⟨13, _⟩ => ⟨S12x1024x512, .bf16⟩
  | .hbm, ⟨14, _⟩ => ⟨S8192x1024, .f32⟩
  | .hbm, ⟨15, _⟩ => ⟨S1x1024, .f32⟩
  | .local _ .vmem, ⟨0, _⟩ => ⟨S6x512x1024, .bf16⟩
  | .local _ .vmem, ⟨1, _⟩ => ⟨S6x512x1024, .bf16⟩
  | .local _ .vmem, ⟨2, _⟩ => ⟨S12x1024x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxReferenceIdeal.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x6144, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x6144, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== FinKernel.lean ====
abbrev S16x1024 : Shape := ⟨2, ![16, 1024]⟩
abbrev S7x16x1024 : Shape := ⟨3, ![7, 16, 1024]⟩
abbrev S1x1024 : Shape := ⟨2, ![1, 1024]⟩
abbrev S2x1024 : Shape := ⟨2, ![2, 1024]⟩
abbrev S1x16x1024 : Shape := ⟨3, ![1, 16, 1024]⟩

abbrev nBuf : Space → Nat
  | .hbm => 5
  | .vmem => 5
  | .smem => 0
  | _ => 0

abbrev bufTy : (tb : Table) → Fin (tcTables nBuf tb) → BufTy
  | .hbm, ⟨0, _⟩ => ⟨S16x1024, .f32⟩
  | .hbm, ⟨1, _⟩ => ⟨S7x16x1024, .f32⟩
  | .hbm, ⟨2, _⟩ => ⟨S1x1024, .f32⟩
  | .hbm, ⟨3, _⟩ => ⟨S2x1024, .f32⟩
  | .hbm, ⟨4, _⟩ => ⟨S16x1024, .f32⟩
  | .local _ .vmem, ⟨0, _⟩ => ⟨S16x1024, .f32⟩
  | .local _ .vmem, ⟨1, _⟩ => ⟨S7x16x1024, .f32⟩
  | .local _ .vmem, ⟨2, _⟩ => ⟨S1x1024, .f32⟩
  | .local _ .vmem, ⟨3, _⟩ => ⟨S2x1024, .f32⟩
  | .local _ .vmem, ⟨4, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== FinReferenceIdeal.lean ====
abbrev S16x1024 : Shape := ⟨2, ![16, 1024]⟩
abbrev S7x16x1024 : Shape := ⟨3, ![7, 16, 1024]⟩
abbrev S1x1024 : Shape := ⟨2, ![1, 1024]⟩
abbrev S2x1024 : Shape := ⟨2, ![2, 1024]⟩
abbrev S_ : Shape := ⟨0, ![]⟩
abbrev S1024 : Shape := ⟨1, ![1024]⟩
abbrev S8x1024 : Shape := ⟨2, ![8, 1024]⟩
abbrev S5x1024 : Shape := ⟨2, ![5, 1024]⟩

abbrev nBuf : Space → Nat
  | .hbm => 122
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S7x16x1024, .f32⟩
  | .hbm, ⟨2, _⟩ => ⟨S1x1024, .f32⟩
  | .hbm, ⟨3, _⟩ => ⟨S2x1024, .f32⟩
  | .hbm, ⟨4, _⟩ => ⟨S_, .f32⟩
  | .hbm, ⟨5, _⟩ => ⟨S16x1024, .f32⟩
  | .hbm, ⟨6, _⟩ => ⟨S16x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .i1⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .i1⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .i1⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x1024, .f32⟩
  | .hbm, ⟨44, _⟩ => ⟨S1x1024, .i1⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2x1024, .f32⟩
  | .hbm, ⟨61, _⟩ => ⟨S2x1024, .i1⟩
  | .hbm, ⟨62, _⟩ => ⟨S2x1024, .f32⟩
  | .hbm, ⟨63, _⟩ => ⟨S_, .f32⟩
  | .hbm, ⟨64, _⟩ => ⟨S1024, .f32⟩
  | .hbm, ⟨65, _⟩ => ⟨S_, .f32⟩
  | .hbm, ⟨66, _⟩ => ⟨S1024, .f32⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .i1⟩
  | .hbm, ⟨71, _⟩ => ⟨S_, .f32⟩
  | .hbm, ⟨72, _⟩ => ⟨S1024, .f32⟩
  | .hbm, ⟨73, _⟩ => ⟨S1024, .i1⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S1024, .f32⟩
  | .hbm, ⟨82, _⟩ => ⟨S1x1024, .f32⟩
  | .hbm, ⟨83, _⟩ => ⟨S2x1024, .f32⟩
  | .hbm, ⟨84, _⟩ => ⟨S2x1024, .f32⟩
  | .hbm, ⟨85, _⟩ => ⟨S2x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S2x1024, .f32⟩
  | .hbm, ⟨90, _⟩ => ⟨S2x1024, .f32⟩
  | .hbm, ⟨91, _⟩ => ⟨S1x1024, .f32⟩
  | .hbm, ⟨92, _⟩ => ⟨S_, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S_, .f32⟩
  | .hbm, ⟨97, _⟩ => ⟨S2x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S2x1024, .f32⟩
  | .hbm, ⟨102, _⟩ => ⟨S_, .f32⟩
  | .hbm, ⟨103, _⟩ => ⟨S_, .f32⟩
  | .hbm, ⟨104, _⟩ => ⟨S2x1024, .f32⟩
  | .hbm, ⟨105, _⟩ => ⟨S2x1024, .f32⟩
  | .hbm, ⟨106, _⟩ => ⟨S2x1024, .f32⟩
  | .hbm, ⟨107, _⟩ => ⟨S2x1024, .f32⟩
  | .hbm, ⟨108, _⟩ => ⟨S_, .f32⟩
  | .hbm, ⟨109, _⟩ => ⟨S1024, .f32⟩
  | .hbm, ⟨110, _⟩ => ⟨S1x1024, .f32⟩
  | .hbm, ⟨111, _⟩ => ⟨S1x1024, .f32⟩
  | .hbm, ⟨112, _⟩ => ⟨S2x1024, .f32⟩
  | .hbm, ⟨113, _⟩ => ⟨S2x1024, .f32⟩
  | .hbm, ⟨114, _⟩ => ⟨S_, .f32⟩
  | .hbm, ⟨115, _⟩ => ⟨S1024, .f32⟩
  | .hbm, ⟨116, _⟩ => ⟨S2x1024, .f32⟩
  | .hbm, ⟨117, _⟩ => ⟨S2x1024, .f32⟩
  | .hbm, ⟨118, _⟩ => ⟨S2x1024, .f32⟩
  | .hbm, ⟨119, _⟩ => ⟨S8x1024, .f32⟩
  | .hbm, ⟨120, _⟩ => ⟨S5x1024, .f32⟩
  | .hbm, ⟨121, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v3_0 : Ref sig .tc := ⟨.hbm, 21, rfl⟩
abbrev main_call0_cst_0 : Ref sig .tc := ⟨.hbm, 22, rfl⟩
abbrev main_call0_v13 : Ref sig .tc := ⟨.hbm, 23, rfl⟩
abbrev main_call0_v14 : Ref sig .tc := ⟨.hbm, 24, rfl⟩
abbrev main_call0_cst_1 : Ref sig .tc := ⟨.hbm, 25, rfl⟩
abbrev main_call0_v15 : Ref sig .tc := ⟨.hbm, 26, rfl⟩
abbrev main_call0_v16 : Ref sig .tc := ⟨.hbm, 27, rfl⟩
abbrev main_call0_cst_2 : Ref sig .tc := ⟨.hbm, 28, rfl⟩
abbrev main_call0_v17 : Ref sig .tc := ⟨.hbm, 29, rfl⟩
abbrev main_call0_v18 : Ref sig .tc := ⟨.hbm, 30, rfl⟩
abbrev main_call0_cst_3 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_v3_1 : Ref sig .tc := ⟨.hbm, 35, rfl⟩
abbrev main_call0_cst_4 : Ref sig .tc := ⟨.hbm, 36, rfl⟩
abbrev main_call0_cst_5 : Ref sig .tc := ⟨.hbm, 37, rfl⟩
abbrev main_call0_v23 : Ref sig .tc := ⟨.hbm, 38, rfl⟩
abbrev main_call0_cst_6 : Ref sig .tc := ⟨.hbm, 39, rfl⟩
abbrev main_call0_cst_7 : Ref sig .tc := ⟨.hbm, 40, rfl⟩
abbrev main_call0_v24 : Ref sig .tc := ⟨.hbm, 41, rfl⟩
abbrev main_call0_cst_8 : Ref sig .tc := ⟨.hbm, 42, rfl⟩
abbrev main_call0_v25 : Ref sig .tc := ⟨.hbm, 43, rfl⟩
abbrev main_call0_v26 : Ref sig .tc := ⟨.hbm, 44, rfl⟩
abbrev main_call0_cst_9 : Ref sig .tc := ⟨.hbm, 45, rfl⟩
abbrev main_call0_v27 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_cst_10 : Ref sig .tc := ⟨.hbm, 51, rfl⟩
abbrev main_call0_v32 : Ref sig .tc := ⟨.hbm, 52, rfl⟩
abbrev main_v3_2 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_cst_0 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_cst_1 : Ref sig .tc := ⟨.hbm, 63, rfl⟩
abbrev main_v12 : Ref sig .tc := ⟨.hbm, 64, rfl⟩
abbrev main_cst_2 : Ref sig .tc := ⟨.hbm, 65, rfl⟩
abbrev main_v13 : Ref sig .tc := ⟨.hbm, 66, rfl⟩
abbrev main_v14 : Ref sig .tc := ⟨.hbm, 67, rfl⟩
abbrev main_cst_3 : Ref sig .tc := ⟨.hbm, 68, rfl⟩
abbrev main_v15 : Ref sig .tc := ⟨.hbm, 69, rfl⟩
abbrev main_v16 : Ref sig .tc := ⟨.hbm, 70, rfl⟩
abbrev main_cst_4 : Ref sig .tc := ⟨.hbm, 71, rfl⟩
abbrev main_v17 : Ref sig .tc := ⟨.hbm, 72, rfl⟩
abbrev main_v18 : Ref sig .tc := ⟨.hbm, 73, rfl⟩
abbrev main_cst_5 : Ref sig .tc := ⟨.hbm, 74, rfl⟩
abbrev main_v19 : Ref sig .tc := ⟨.hbm, 75, rfl⟩
abbrev main_cst_6 : Ref sig .tc := ⟨.hbm, 76, rfl⟩
abbrev main_v20 : Ref sig .tc := ⟨.hbm, 77, rfl⟩
abbrev main_cst_7 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_cst_8 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_cst_9 : Ref sig .tc := ⟨.hbm, 92, rfl⟩
abbrev main_v33 : Ref sig .tc := ⟨.hbm, 93, rfl⟩
abbrev main_v34 : Ref sig .tc := ⟨.hbm, 94, rfl⟩
abbrev main_call2_call0_cst : Ref sig .tc := ⟨.hbm, 95, rfl⟩
abbrev main_call2_call0_v0 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_cst_10 : Ref sig .tc := ⟨.hbm, 100, rfl⟩
abbrev main_v38 : Ref sig .tc := ⟨.hbm, 101, rfl⟩
abbrev main_call3_call0_cst : Ref sig .tc := ⟨.hbm, 102, rfl⟩
abbrev main_call3_call0_v0 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_11 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_cst_12 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩

abbrev nD : Nat := 1
abbrev τ : Topo := Topo.v7x

variable {F : FTy → Type} [FloatOps F]
-- ==== HgbKernel.lean ====
abbrev S8192x1024 : Shape := ⟨2, ![8192, 1024]⟩
abbrev S2048x1024 : Shape := ⟨2, ![2048, 1024]⟩
abbrev S12x8192x512 : Shape := ⟨3, ![12, 8192, 512]⟩
abbrev S128x8x128x128 : Shape := ⟨4, ![128, 8, 128, 128]⟩
abbrev S2x1024 : Shape := ⟨2, ![2, 1024]⟩
abbrev S1x1024 : Shape := ⟨2, ![1, 1024]⟩
abbrev S6x8192x1024 : Shape := ⟨3, ![6, 8192, 1024]⟩
abbrev S512x1024 : Shape := ⟨2, ![512, 1024]⟩
abbrev S1024x1024 : Shape := ⟨2, ![1024, 1024]⟩
abbrev S4x512x512 : Shape := ⟨3, ![4, 512, 512]⟩
abbrev S8x8x128x128 : Shape := ⟨4, ![8, 8, 128, 128]⟩
abbrev S4x512x1024 : Shape := ⟨3, ![4, 512, 1024]⟩
abbrev S8x128x128 : Shape := ⟨3, ![8, 128, 128]⟩
abbrev S64x64 : Shape := ⟨2, ![64, 64]⟩
abbrev S64x128 : Shape := ⟨2, ![64, 128]⟩
abbrev S1x64x512 : Shape := ⟨3, ![1, 64, 512]⟩
abbrev S64x512 : Shape := ⟨2, ![64, 512]⟩
abbrev S64x1024 : Shape := ⟨2, ![64, 1024]⟩
abbrev S8x1024 : Shape := ⟨2, ![8, 1024]⟩
abbrev S64 : Shape := ⟨1, ![64]⟩
abbrev S64x1 : Shape := ⟨2, ![64, 1]⟩
abbrev S1x128 : Shape := ⟨2, ![1, 128]⟩
abbrev S128x64 : Shape := ⟨2, ![128, 64]⟩
abbrev S1x1x128x128 : Shape := ⟨4, ![1, 1, 128, 128]⟩
abbrev S128x128 : Shape := ⟨2, ![128, 128]⟩
abbrev S1x128x128 : Shape := ⟨3, ![1, 128, 128]⟩
abbrev S64x256 : Shape := ⟨2, ![64, 256]⟩
abbrev S128x256 : Shape := ⟨2, ![128, 256]⟩
abbrev S256x128 : Shape := ⟨2, ![256, 128]⟩
abbrev S128 : Shape := ⟨1, ![128]⟩
abbrev S1024 : Shape := ⟨1, ![1024]⟩
abbrev S1x64x1024 : Shape := ⟨3, ![1, 64, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S12x8192x512, .f32⟩
  | .hbm, ⟨3, _⟩ => ⟨S8192x1024, .f32⟩
  | .hbm, ⟨4, _⟩ => ⟨S128x8x128x128, .f32⟩
  | .hbm, ⟨5, _⟩ => ⟨S2x1024, .f32⟩
  | .hbm, ⟨6, _⟩ => ⟨S1x1024, .f32⟩
  | .hbm, ⟨7, _⟩ => ⟨S6x8192x1024, .bf16⟩
  | .hbm, ⟨8, _⟩ => ⟨S6x8192x1024, .bf16⟩
  | .hbm, ⟨9, _⟩ => ⟨S1x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S4x512x512, .f32⟩
  | .local _ .vmem, ⟨4, _⟩ => ⟨S4x512x512, .f32⟩
  | .local _ .vmem, ⟨5, _⟩ => ⟨S4x512x512, .f32⟩
  | .local _ .vmem, ⟨6, _⟩ => ⟨S4x512x512, .f32⟩
  | .local _ .vmem, ⟨7, _⟩ => ⟨S512x1024, .f32⟩
  | .local _ .vmem, ⟨8, _⟩ => ⟨S512x1024, .f32⟩
  | .local _ .vmem, ⟨9, _⟩ => ⟨S8x8x128x128, .f32⟩
  | .local _ .vmem, ⟨10, _⟩ => ⟨S8x8x128x128, .f32⟩
  | .local _ .vmem, ⟨11, _⟩ => ⟨S2x1024, .f32⟩
  | .local _ .vmem, ⟨12, _⟩ => ⟨S1x1024, .f32⟩
  | .local _ .vmem, ⟨13, _⟩ => ⟨S4x512x1024, .bf16⟩
  | .local _ .vmem, ⟨14, _⟩ => ⟨S4x512x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S8x128x128, .f32⟩
  | .local _ .vmem, ⟨19, _⟩ => ⟨S8x128x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  let c0_i32_0 : BitVec 32 := 0#32
  ![c1_i32.toNat, v0.toNat, c0_i32.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  let c0_i32_0 : BitVec 32 := 0#32
  ![c2_i32.toNat, v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== HgfKernel.lean ====
abbrev S12x8192x512 : Shape := ⟨3, ![12, 8192, 512]⟩
abbrev S2x1024 : Shape := ⟨2, ![2, 1024]⟩
abbrev S1x1024 : Shape := ⟨2, ![1, 1024]⟩
abbrev S2x8192x1024 : Shape := ⟨3, ![2, 8192, 1024]⟩
abbrev S8192x1024 : Shape := ⟨2, ![8192, 1024]⟩
abbrev S128x8x128x128 : Shape := ⟨4, ![128, 8, 128, 128]⟩
abbrev S4x512x512 : Shape := ⟨3, ![4, 512, 512]⟩
abbrev S1x512x1024 : Shape := ⟨3, ![1, 512, 1024]⟩
abbrev S512x1024 : Shape := ⟨2, ![512, 1024]⟩
abbrev S8x8x128x128 : Shape := ⟨4, ![8, 8, 128, 128]⟩
abbrev S8x128x128 : Shape := ⟨3, ![8, 128, 128]⟩
abbrev S64x64 : Shape := ⟨2, ![64, 64]⟩
abbrev S1x64x512 : Shape := ⟨3, ![1, 64, 512]⟩
abbrev S64x512 : Shape := ⟨2, ![64, 512]⟩
abbrev S64x1024 : Shape := ⟨2, ![64, 1024]⟩
abbrev S8x1024 : Shape := ⟨2, ![8, 1024]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S128x64 : Shape := ⟨2, ![128, 64]⟩
abbrev S64x256 : Shape := ⟨2, ![64, 256]⟩
abbrev S1x128 : Shape := ⟨2, ![1, 128]⟩
abbrev S128x256 : Shape := ⟨2, ![128, 256]⟩
abbrev S64 : Shape := ⟨1, ![64]⟩
abbrev S64x1 : Shape := ⟨2, ![64, 1]⟩
abbrev S1x64x1024 : Shape := ⟨3, ![1, 64, 1024]⟩

abbrev nBuf : Space → Nat
  | .hbm => 7
  | .vmem => 13
  | .smem => 0
  | _ => 0

abbrev bufTy : (tb : Table) → Fin (tcTables nBuf tb) → BufTy
  | .hbm, ⟨0, _⟩ => ⟨S12x8192x512, .f32⟩
  | .hbm, ⟨1, _⟩ => ⟨S2x1024, .f32⟩
  | .hbm, ⟨2, _⟩ => ⟨S1x1024, .f32⟩
  | .hbm, ⟨3, _⟩ => ⟨S2x8192x1024, .bf16⟩
  | .hbm, ⟨4, _⟩ => ⟨S2x8192x1024, .bf16⟩
  | .hbm, ⟨5, _⟩ => ⟨S8192x1024, .f32⟩
  | .hbm, ⟨6, _⟩ => ⟨S128x8x128x128, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | .local _ .vmem, ⟨4, _⟩ => ⟨S2x1024, .f32⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .vmem, ⟨10, _⟩ => ⟨S8x8x128x128, .f32⟩
  | .local _ .vmem, ⟨11, _⟩ => ⟨S8x8x128x128, .f32⟩
  | .local _ .vmem, ⟨12, _⟩ => ⟨S8x128x128, .f32⟩
  | _, _ => ⟨S12x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DwoKernel.lean ====
abbrev S8192x2048 : Shape := ⟨2, ![8192, 2048]⟩
abbrev S2048x1024 : Shape := ⟨2, ![2048, 1024]⟩
abbrev S8192x1024 : Shape := ⟨2, ![8192, 1024]⟩
abbrev S8192x2x1024 : Shape := ⟨3, ![8192, 2, 1024]⟩
abbrev S2x8192x1024 : Shape := ⟨3, ![2, 8192, 1024]⟩
abbrev S2x4x256x1024 : Shape := ⟨4, ![2, 4, 256, 1024]⟩
abbrev S1x4096x512 : Shape := ⟨3, ![1, 4096, 512]⟩
abbrev S4096x1024 : Shape := ⟨2, ![4096, 1024]⟩
abbrev S2x1x256x1024 : Shape := ⟨4, ![2, 1, 256, 1024]⟩
abbrev S2x256x1024 : Shape := ⟨3, ![2, 256, 1024]⟩
abbrev S4096x512 : Shape := ⟨2, ![4096, 512]⟩
abbrev S512x1024 : Shape := ⟨2, ![512, 1024]⟩
abbrev S1x1x256x1024 : Shape := ⟨4, ![1, 1, 256, 1024]⟩
abbrev S256x1024 : Shape := ⟨2, ![256, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x2048, .bf16⟩
  | .hbm, ⟨4, _⟩ => ⟨S8192x2x1024, .bf16⟩
  | .hbm, ⟨5, _⟩ => ⟨S2x8192x1024, .bf16⟩
  | .hbm, ⟨6, _⟩ => ⟨S8192x1024, .bf16⟩
  | .hbm, ⟨7, _⟩ => ⟨S2x4x256x1024, .f32⟩
  | .local _ .vmem, ⟨0, _⟩ => ⟨S1x4096x512, .bf16⟩
  | .local _ .vmem, ⟨1, _⟩ => ⟨S1x4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S2x1x256x1024, .f32⟩
  | .local _ .vmem, ⟨5, _⟩ => ⟨S2x1x256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwoReferenceIdeal.lean ====
abbrev S8192x2048 : Shape := ⟨2, ![8192, 2048]⟩
abbrev S2048x1024 : Shape := ⟨2, ![2048, 1024]⟩
abbrev S8192x1024 : Shape := ⟨2, ![8192, 1024]⟩
abbrev S1024x2048 : Shape := ⟨2, ![1024, 2048]⟩
abbrev S4x2x256x1024 : Shape := ⟨4, ![4, 2, 256, 1024]⟩
abbrev S2x4x256x1024 : Shape := ⟨4, ![2, 4, 256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S1024x2048, .f32⟩
  | .hbm, ⟨5, _⟩ => ⟨S2048x1024, .f32⟩
  | .hbm, ⟨6, _⟩ => ⟨S4x2x256x1024, .f32⟩
  | .hbm, ⟨7, _⟩ => ⟨S2x4x256x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwiKernel.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x6x1024 : Shape := ⟨3, ![8192, 6, 1024]⟩
abbrev S6x8192x1024 : Shape := ⟨3, ![6, 8192, 1024]⟩
abbrev S4x8192x1024 : Shape := ⟨3, ![4, 8192, 1024]⟩
abbrev S2x8192x1024 : Shape := ⟨3, ![2, 8192, 1024]⟩
abbrev S2x12x512x512 : Shape := ⟨4, ![2, 12, 512, 512]⟩
abbrev S1024x4096 : Shape := ⟨2, ![1024, 4096]⟩
abbrev S1x4096x1024 : Shape := ⟨3, ![1, 4096, 1024]⟩
abbrev S2x2x512x512 : Shape := ⟨4, ![2, 2, 512, 512]⟩
abbrev S4096x1024 : Shape := ⟨2, ![4096, 1024]⟩
abbrev S1024x1024 : Shape := ⟨2, ![1024, 1024]⟩
abbrev S1x1x512x512 : Shape := ⟨4, ![1, 1, 512, 512]⟩
abbrev S512x512 : Shape := ⟨2, ![512, 512]⟩

abbrev nBuf : Space → Nat
  | .hbm => 28
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x6144, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S1024x8192, .bf16⟩
  | .hbm, ⟨21, _⟩ => ⟨S8192x6144, .bf16⟩
  | .hbm, ⟨22, _⟩ => ⟨S8192x6x1024, .bf16⟩
  | .hbm, ⟨23, _⟩ => ⟨S6x8192x1024, .bf16⟩
  | .hbm, ⟨24, _⟩ => ⟨S4x8192x1024, .bf16⟩
  | .hbm, ⟨25, _⟩ => ⟨S2x8192x1024, .bf16⟩
  | .hbm, ⟨26, _⟩ => ⟨S6x8192x1024, .bf16⟩
  | .hbm, ⟨27, _⟩ => ⟨S2x12x512x512, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S2x2x512x512, .f32⟩
  | .local _ .vmem, ⟨5, _⟩ => ⟨S2x2x512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c6_i32 : BitVec 32 := 6#32
  let c0_i32 : BitVec 32 := 0#32
  let v1 : BitVec 1 := Scalar.cmpi .eq c6_i32 c0_i32
  let c1_i32 : BitVec 32 := 1#32
  let v2 : BitVec 32 := Scalar.select v1 c1_i32 c6_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  let c0_i32_5 : BitVec 32 := 0#32
  let c0_i32_6 : BitVec 32 := 0#32
  ![c0_i32_3.toNat, v10.toNat, c0_i32_4.toNat, c0_i32_5.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwiReferenceIdeal.lean ====
abbrev S8192x1024 : Shape := ⟨2, ![8192, 1024]⟩
abbrev S1x1024 : Shape := ⟨2, ![1, 1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S6144x1024 : Shape := ⟨2, ![6144, 1024]⟩
abbrev S2x512x12x512 : Shape := ⟨4, ![2, 512, 12, 512]⟩
abbrev S2x12x512x512 : Shape := ⟨4, ![2, 12, 512, 512]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6144, .f32⟩
  | .hbm, ⟨3, _⟩ => ⟨S8192x6144, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x6144, .f32⟩
  | .hbm, ⟨20, _⟩ => ⟨S6144x1024, .f32⟩
  | .hbm, ⟨21, _⟩ => ⟨S1024x6144, .f32⟩
  | .hbm, ⟨22, _⟩ => ⟨S2x512x12x512, .f32⟩
  | .hbm, ⟨23, _⟩ => ⟨S2x12x512x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== SohKernel.lean ====
abbrev S2x6144x512 : Shape := ⟨3, ![2, 6144, 512]⟩
abbrev S6144x512 : Shape := ⟨2, ![6144, 512]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩

abbrev nBuf : Space → Nat
  | .hbm => 4
  | .vmem => 6
  | .smem => 1
  | _ => 0

abbrev bufTy : (tb : Table) → Fin (tcTables nBuf tb) → BufTy
  | .hbm, ⟨0, _⟩ => ⟨S2x6144x512, .f32⟩
  | .hbm, ⟨1, _⟩ => ⟨S6144x512, .f32⟩
  | .hbm, ⟨2, _⟩ => ⟨S_, .i32⟩
  | .hbm, ⟨3, _⟩ => ⟨S6144x512, .bf16⟩
  | .local _ .vmem, ⟨0, _⟩ => ⟨S1x2048x512, .f32⟩
  | .local _ .vmem, ⟨1, _⟩ => ⟨S1x2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .bf16⟩
  | .local _ .smem, ⟨0, _⟩ => ⟨S1, .i32⟩
  | _, _ => ⟨S2x6144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SohReference.lean ====
abbrev S2x6144x512 : Shape := ⟨3, ![2, 6144, 512]⟩
abbrev S6144x512 : Shape := ⟨2, ![6144, 512]⟩
abbrev S1x6144x512 : Shape := ⟨3, ![1, 6144, 512]⟩

abbrev nBuf : Space → Nat
  | .hbm => 6
  | .vmem => 0
  | .smem => 0
  | _ => 0

abbrev bufTy : (tb : Table) → Fin (tcTables nBuf tb) → BufTy
  | .hbm, ⟨0, _⟩ => ⟨S2x6144x512, .f32⟩
  | .hbm, ⟨1, _⟩ => ⟨S6144x512, .f32⟩
  | .hbm, ⟨2, _⟩ => ⟨S1x6144x512, .f32⟩
  | .hbm, ⟨3, _⟩ => ⟨S6144x512, .f32⟩
  | .hbm, ⟨4, _⟩ => ⟨S6144x512, .f32⟩
  | .hbm, ⟨5, _⟩ => ⟨S6144x512, .bf16⟩
  | _, _ => ⟨S2x6144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SooKernel.lean ====
abbrev S2x1024x1024 : Shape := ⟨3, ![2, 1024, 1024]⟩
abbrev S1024x1024 : Shape := ⟨2, ![1024, 1024]⟩
abbrev S_ : Shape := ⟨0, ![]⟩
abbrev S1 : Shape := ⟨1, ![1]⟩
abbrev S1x1024x1024 : Shape := ⟨3, ![1, 1024, 1024]⟩

abbrev nBuf : Space → Nat
  | .hbm => 4
  | .vmem => 3
  | .smem => 1
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S_, .i32⟩
  | .hbm, ⟨3, _⟩ => ⟨S1024x1024, .bf16⟩
  | .local _ .vmem, ⟨0, _⟩ => ⟨S1x1024x1024, .f32⟩
  | .local _ .vmem, ⟨1, _⟩ => ⟨S1024x1024, .f32⟩
  | .local _ .vmem, ⟨2, _⟩ => ⟨S1024x1024, .bf16⟩
  | .local _ .smem, ⟨0, _⟩ => ⟨S1, .i32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SooReference.lean ====
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1x1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SogKernel.lean ====
abbrev S2x512x256 : Shape := ⟨3, ![2, 512, 256]⟩
abbrev S512x256 : Shape := ⟨2, ![512, 256]⟩
abbrev S_ : Shape := ⟨0, ![]⟩
abbrev S1 : Shape := ⟨1, ![1]⟩
abbrev S1x512x256 : Shape := ⟨3, ![1, 512, 256]⟩

abbrev nBuf : Space → Nat
  | .hbm => 4
  | .vmem => 3
  | .smem => 1
  | _ => 0

abbrev bufTy : (tb : Table) → Fin (tcTables nBuf tb) → BufTy
  | .hbm, ⟨0, _⟩ => ⟨S2x512x256, .f32⟩
  | .hbm, ⟨1, _⟩ => ⟨S512x256, .f32⟩
  | .hbm, ⟨2, _⟩ => ⟨S_, .i32⟩
  | .hbm, ⟨3, _⟩ => ⟨S512x256, .bf16⟩
  | .local _ .vmem, ⟨0, _⟩ => ⟨S1x512x256, .f32⟩
  | .local _ .vmem, ⟨1, _⟩ => ⟨S512x256, .f32⟩
  | .local _ .vmem, ⟨2, _⟩ => ⟨S512x256, .bf16⟩
  | .local _ .smem, ⟨0, _⟩ => ⟨S1, .i32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SogReference.lean ====
abbrev S2x512x256 : Shape := ⟨3, ![2, 512, 256]⟩
abbrev S512x256 : Shape := ⟨2, ![512, 256]⟩
abbrev S1x512x256 : Shape := ⟨3, ![1, 512, 256]⟩

abbrev nBuf : Space → Nat
  | .hbm => 6
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S512x256, .f32⟩
  | .hbm, ⟨2, _⟩ => ⟨S1x512x256, .f32⟩
  | .hbm, ⟨3, _⟩ => ⟨S512x256, .f32⟩
  | .hbm, ⟨4, _⟩ => ⟨S512x256, .f32⟩
  | .hbm, ⟨5, _⟩ => ⟨S512x256, .bf16⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SchKernel.lean ====
abbrev S4x1536x512 : Shape := ⟨3, ![4, 1536, 512]⟩
abbrev S3x1536x512 : Shape := ⟨3, ![3, 1536, 512]⟩
abbrev S_ : Shape := ⟨0, ![]⟩
abbrev S1 : Shape := ⟨1, ![1]⟩
abbrev S1536x512 : Shape := ⟨2, ![1536, 512]⟩
abbrev S1x1536x512 : Shape := ⟨3, ![1, 1536, 512]⟩

abbrev nBuf : Space → Nat
  | .hbm => 4
  | .vmem => 3
  | .smem => 1
  | _ => 0

abbrev bufTy : (tb : Table) → Fin (tcTables nBuf tb) → BufTy
  | .hbm, ⟨0, _⟩ => ⟨S4x1536x512, .bf16⟩
  | .hbm, ⟨1, _⟩ => ⟨S3x1536x512, .bf16⟩
  | .hbm, ⟨2, _⟩ => ⟨S_, .i32⟩
  | .hbm, ⟨3, _⟩ => ⟨S1536x512, .f32⟩
  | .local _ .vmem, ⟨0, _⟩ => ⟨S1x1536x512, .bf16⟩
  | .local _ .vmem, ⟨1, _⟩ => ⟨S3x1536x512, .bf16⟩
  | .local _ .vmem, ⟨2, _⟩ => ⟨S1536x512, .f32⟩
  | .local _ .smem, ⟨0, _⟩ => ⟨S1, .i32⟩
  | _, _ => ⟨S4x1536x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1536x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1536x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SchReferenceIdeal.lean ====
abbrev S4x1536x512 : Shape := ⟨3, ![4, 1536, 512]⟩
abbrev S3x1536x512 : Shape := ⟨3, ![3, 1536, 512]⟩
abbrev S1x1536x512 : Shape := ⟨3, ![1, 1536, 512]⟩
abbrev S1536x512 : Shape := ⟨2, ![1536, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1536x512, .bf16⟩
  | .hbm, ⟨1, _⟩ => ⟨S3x1536x512, .bf16⟩
  | .hbm, ⟨2, _⟩ => ⟨S1x1536x512, .bf16⟩
  | .hbm, ⟨3, _⟩ => ⟨S1536x512, .bf16⟩
  | .hbm, ⟨4, _⟩ => ⟨S1536x512, .f32⟩
  | .hbm, ⟨5, _⟩ => ⟨S3x1536x512, .f32⟩
  | .hbm, ⟨6, _⟩ => ⟨S_, .f32⟩
  | .hbm, ⟨7, _⟩ => ⟨S1536x512, .f32⟩
  | .hbm, ⟨8, _⟩ => ⟨S1536x512, .f32⟩
  | _, _ => ⟨S4x1536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ScoKernel.lean ====
abbrev S4x256x1024 : Shape := ⟨3, ![4, 256, 1024]⟩
abbrev S3x256x1024 : Shape := ⟨3, ![3, 256, 1024]⟩
abbrev S_ : Shape := ⟨0, ![]⟩
abbrev S1 : Shape := ⟨1, ![1]⟩
abbrev S256x1024 : Shape := ⟨2, ![256, 1024]⟩
abbrev S1x256x1024 : Shape := ⟨3, ![1, 256, 1024]⟩

abbrev nBuf : Space → Nat
  | .hbm => 4
  | .vmem => 3
  | .smem => 1
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S_, .i32⟩
  | .hbm, ⟨3, _⟩ => ⟨S256x1024, .f32⟩
  | .local _ .vmem, ⟨0, _⟩ => ⟨S1x256x1024, .bf16⟩
  | .local _ .vmem, ⟨1, _⟩ => ⟨S3x256x1024, .bf16⟩
  | .local _ .vmem, ⟨2, _⟩ => ⟨S256x1024, .f32⟩
  | .local _ .smem, ⟨0, _⟩ => ⟨S1, .i32⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ScoReferenceIdeal.lean ====
abbrev S4x256x1024 : Shape := ⟨3, ![4, 256, 1024]⟩
abbrev S3x256x1024 : Shape := ⟨3, ![3, 256, 1024]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S3x256x1024, .bf16⟩
  | .hbm, ⟨2, _⟩ => ⟨S1x256x1024, .bf16⟩
  | .hbm, ⟨3, _⟩ => ⟨S256x1024, .bf16⟩
  | .hbm, ⟨4, _⟩ => ⟨S256x1024, .f32⟩
  | .hbm, ⟨5, _⟩ => ⟨S3x256x1024, .f32⟩
  | .hbm, ⟨6, _⟩ => ⟨S_, .f32⟩
  | .hbm, ⟨7, _⟩ => ⟨S256x1024, .f32⟩
  | .hbm, ⟨8, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ScgKernel.lean ====
abbrev S4x128x256 : Shape := ⟨3, ![4, 128, 256]⟩
abbrev S3x128x256 : Shape := ⟨3, ![3, 128, 256]⟩
abbrev S_ : Shape := ⟨0, ![]⟩
abbrev S1 : Shape := ⟨1, ![1]⟩
abbrev S128x256 : Shape := ⟨2, ![128, 256]⟩
abbrev S1x128x256 : Shape := ⟨3, ![1, 128, 256]⟩

abbrev nBuf : Space → Nat
  | .hbm => 4
  | .vmem => 3
  | .smem => 1
  | _ => 0

abbrev bufTy : (tb : Table) → Fin (tcTables nBuf tb) → BufTy
  | .hbm, ⟨0, _⟩ => ⟨S4x128x256, .bf16⟩
  | .hbm, ⟨1, _⟩ => ⟨S3x128x256, .bf16⟩
  | .hbm, ⟨2, _⟩ => ⟨S_, .i32⟩
  | .hbm, ⟨3, _⟩ => ⟨S128x256, .f32⟩
  | .local _ .vmem, ⟨0, _⟩ => ⟨S1x128x256, .bf16⟩
  | .local _ .vmem, ⟨1, _⟩ => ⟨S3x128x256, .bf16⟩
  | .local _ .vmem, ⟨2, _⟩ => ⟨S128x256, .f32⟩
  | .local _ .smem, ⟨0, _⟩ => ⟨S1, .i32⟩
  | _, _ => ⟨S4x128x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== ScgReferenceIdeal.lean ====
abbrev S4x128x256 : Shape := ⟨3, ![4, 128, 256]⟩
abbrev S3x128x256 : Shape := ⟨3, ![3, 128, 256]⟩
abbrev S1x128x256 : Shape := ⟨3, ![1, 128, 256]⟩
abbrev S128x256 : Shape := ⟨2, ![128, 256]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x128x256, .bf16⟩
  | .hbm, ⟨1, _⟩ => ⟨S3x128x256, .bf16⟩
  | .hbm, ⟨2, _⟩ => ⟨S1x128x256, .bf16⟩
  | .hbm, ⟨3, _⟩ => ⟨S128x256, .bf16⟩
  | .hbm, ⟨4, _⟩ => ⟨S128x256, .f32⟩
  | .hbm, ⟨5, _⟩ => ⟨S3x128x256, .f32⟩
  | .hbm, ⟨6, _⟩ => ⟨S_, .f32⟩
  | .hbm, ⟨7, _⟩ => ⟨S128x256, .f32⟩
  | .hbm, ⟨8, _⟩ => ⟨S128x256, .f32⟩
  | _, _ => ⟨S4x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdbKernel.lean ====
abbrev S3x512x512 : Shape := ⟨3, ![3, 512, 512]⟩
abbrev S1024x1536 : Shape := ⟨2, ![1024, 1536]⟩
abbrev S_ : Shape := ⟨0, ![]⟩
abbrev S1 : Shape := ⟨1, ![1]⟩
abbrev S1x512x512 : Shape := ⟨3, ![1, 512, 512]⟩
abbrev S512x512 : Shape := ⟨2, ![512, 512]⟩

abbrev nBuf : Space → Nat
  | .hbm => 10
  | .vmem => 18
  | .smem => 1
  | _ => 0

abbrev bufTy : (tb : Table) → Fin (tcTables nBuf tb) → BufTy
  | .hbm, ⟨0, _⟩ => ⟨S3x512x512, .f32⟩
  | .hbm, ⟨1, _⟩ => ⟨S3x512x512, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S_, .i32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .smem, ⟨0, _⟩ => ⟨S1, .i32⟩
  | _, _ => ⟨S3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdbReferenceIdeal.lean ====
abbrev S3x512x512 : Shape := ⟨3, ![3, 512, 512]⟩
abbrev S1024x1536 : Shape := ⟨2, ![1024, 1536]⟩
abbrev S3x1024x512 : Shape := ⟨3, ![3, 1024, 512]⟩
abbrev S1024x3x512 : Shape := ⟨3, ![1024, 3, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S3x512x512, .f32⟩
  | .hbm, ⟨1, _⟩ => ⟨S3x512x512, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S3x1024x512, .f32⟩
  | .hbm, ⟨6, _⟩ => ⟨S1024x3x512, .f32⟩
  | .hbm, ⟨7, _⟩ => ⟨S1024x1536, .f32⟩
  | .hbm, ⟨8, _⟩ => ⟨S_, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S1024x1536, .f32⟩
  | .hbm, ⟨23, _⟩ => ⟨S_, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S1024x1536, .f32⟩
  | .hbm, ⟨38, _⟩ => ⟨S_, .f32⟩
  | .hbm, ⟨39, _⟩ => ⟨S1024x1536, .f32⟩
  | .hbm, ⟨40, _⟩ => ⟨S1024x1536, .f32⟩
  | _, _ => ⟨S3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdoKernel.lean ====
abbrev S256x1024 : Shape := ⟨2, ![256, 1024]⟩
abbrev S512x1024 : Shape := ⟨2, ![512, 1024]⟩
abbrev S_ : Shape := ⟨0, ![]⟩
abbrev S1 : Shape := ⟨1, ![1]⟩

abbrev nBuf : Space → Nat
  | .hbm => 10
  | .vmem => 16
  | .smem => 1
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S_, .i32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .smem, ⟨0, _⟩ => ⟨S1, .i32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdoReferenceIdeal.lean ====
abbrev S256x1024 : Shape := ⟨2, ![256, 1024]⟩
abbrev S512x1024 : Shape := ⟨2, ![512, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S_, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdgKernel.lean ====
abbrev S128x256 : Shape := ⟨2, ![128, 256]⟩
abbrev S256x256 : Shape := ⟨2, ![256, 256]⟩
abbrev S_ : Shape := ⟨0, ![]⟩
abbrev S1 : Shape := ⟨1, ![1]⟩

abbrev nBuf : Space → Nat
  | .hbm => 10
  | .vmem => 16
  | .smem => 1
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S_, .i32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .smem, ⟨0, _⟩ => ⟨S1, .i32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdgReferenceIdeal.lean ====
abbrev S128x256 : Shape := ⟨2, ![128, 256]⟩
abbrev S256x256 : Shape := ⟨2, ![256, 256]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S_, .f32⟩
  | .hbm, ⟨7, _⟩ => ⟨S256x256, .f32⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S_, .f32⟩
  | .hbm, ⟨37, _⟩ => ⟨S256x256, .f32⟩
  | .hbm, ⟨38, _⟩ => ⟨S256x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AsaKernel.lean ====
abbrev S1x1024 : Shape := ⟨2, ![1, 1024]⟩
abbrev S4x256 : Shape := ⟨2, ![4, 256]⟩

abbrev nBuf : Space → Nat
  | .hbm => 21
  | .vmem => 21
  | .smem => 0
  | _ => 0

abbrev bufTy : (tb : Table) → Fin (tcTables nBuf tb) → BufTy
  | .hbm, ⟨0, _⟩ => ⟨S1x1024, .f32⟩
  | .hbm, ⟨1, _⟩ => ⟨S4x256, .f32⟩
  | .hbm, ⟨2, _⟩ => ⟨S1x1024, .f32⟩
  | .hbm, ⟨3, _⟩ => ⟨S1x1024, .f32⟩
  | .hbm, ⟨4, _⟩ => ⟨S4x256, .f32⟩
  | .hbm, ⟨5, _⟩ => ⟨S1x1024, .f32⟩
  | .hbm, ⟨6, _⟩ => ⟨S1x1024, .f32⟩
  | .hbm, ⟨7, _⟩ => ⟨S4x256, .f32⟩
  | .hbm, ⟨8, _⟩ => ⟨S1x1024, .f32⟩
  | .hbm, ⟨9, _⟩ => ⟨S1x1024, .f32⟩
  | .hbm, ⟨10, _⟩ => ⟨S4x256, .f32⟩
  | .hbm, ⟨11, _⟩ => ⟨S1x1024, .f32⟩
  | .hbm, ⟨12, _⟩ => ⟨S1x1024, .f32⟩
  | .hbm, ⟨13, _⟩ => ⟨S4x256, .f32⟩
  | .hbm, ⟨14, _⟩ => ⟨S1x1024, .f32⟩
  | .hbm, ⟨15, _⟩ => ⟨S1x1024, .f32⟩
  | .hbm, ⟨16, _⟩ => ⟨S4x256, .f32⟩
  | .hbm, ⟨17, _⟩ => ⟨S1x1024, .f32⟩
  | .hbm, ⟨18, _⟩ => ⟨S1x1024, .f32⟩
  | .hbm, ⟨19, _⟩ => ⟨S4x256, .f32⟩
  | .hbm, ⟨20, _⟩ => ⟨S1x1024, .f32⟩
  | .local _ .vmem, ⟨0, _⟩ => ⟨S1x1024, .f32⟩
  | .local _ .vmem, ⟨1, _⟩ => ⟨S4x256, .f32⟩
  | .local _ .vmem, ⟨2, _⟩ => ⟨S1x1024, .f32⟩
  | .local _ .vmem, ⟨3, _⟩ => ⟨S1x1024, .f32⟩
  | .local _ .vmem, ⟨4, _⟩ => ⟨S4x256, .f32⟩
  | .local _ .vmem, ⟨5, _⟩ => ⟨S1x1024, .f32⟩
  | .local _ .vmem, ⟨6, _⟩ => ⟨S1x1024, .f32⟩
  | .local _ .vmem, ⟨7, _⟩ => ⟨S4x256, .f32⟩
  | .local _ .vmem, ⟨8, _⟩ => ⟨S1x1024, .f32⟩
  | .local _ .vmem, ⟨9, _⟩ => ⟨S1x1024, .f32⟩
  | .local _ .vmem, ⟨10, _⟩ => ⟨S4x256, .f32⟩
  | .local _ .vmem, ⟨11, _⟩ => ⟨S1x1024, .f32⟩
  | .local _ .vmem, ⟨12, _⟩ => ⟨S1x1024, .f32⟩
  | .local _ .vmem, ⟨13, _⟩ => ⟨S4x256, .f32⟩
  | .local _ .vmem, ⟨14, _⟩ => ⟨S1x1024, .f32⟩
  | .local _ .vmem, ⟨15, _⟩ => ⟨S1x1024, .f32⟩
  | .local _ .vmem, ⟨16, _⟩ => ⟨S4x256, .f32⟩
  | .local _ .vmem, ⟨17, _⟩ => ⟨S1x1024, .f32⟩
  | .local _ .vmem, ⟨18, _⟩ => ⟨S1x1024, .f32⟩
  | .local _ .vmem, ⟨19, _⟩ => ⟨S4x256, .f32⟩
  | .local _ .vmem, ⟨20, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AsaReferenceIdeal.lean ====
abbrev S1x1024 : Shape := ⟨2, ![1, 1024]⟩
abbrev S4x256 : Shape := ⟨2, ![4, 256]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S4x256, .f32⟩
  | .hbm, ⟨2, _⟩ => ⟨S1x1024, .f32⟩
  | .hbm, ⟨3, _⟩ => ⟨S1x1024, .f32⟩
  | .hbm, ⟨4, _⟩ => ⟨S4x256, .f32⟩
  | .hbm, ⟨5, _⟩ => ⟨S1x1024, .f32⟩
  | .hbm, ⟨6, _⟩ => ⟨S1x1024, .f32⟩
  | .hbm, ⟨7, _⟩ => ⟨S4x256, .f32⟩
  | .hbm, ⟨8, _⟩ => ⟨S1x1024, .f32⟩
  | .hbm, ⟨9, _⟩ => ⟨S1x1024, .f32⟩
  | .hbm, ⟨10, _⟩ => ⟨S4x256, .f32⟩
  | .hbm, ⟨11, _⟩ => ⟨S1x1024, .f32⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S_, .f32⟩
  | .hbm, ⟨46, _⟩ => ⟨S4x256, .f32⟩
  | .hbm, ⟨47, _⟩ => ⟨S4x256, .f32⟩
  | .hbm, ⟨48, _⟩ => ⟨S_, .f32⟩
  | .hbm, ⟨49, _⟩ => ⟨S4x256, .f32⟩
  | .hbm, ⟨50, _⟩ => ⟨S4x256, .f32⟩
  | .hbm, ⟨51, _⟩ => ⟨S4x256, .f32⟩
  | .hbm, ⟨52, _⟩ => ⟨S_, .f32⟩
  | .hbm, ⟨53, _⟩ => ⟨S4x256, .f32⟩
  | .hbm, ⟨54, _⟩ => ⟨S4x256, .f32⟩
  | .hbm, ⟨55, _⟩ => ⟨S4x256, .f32⟩
  | .hbm, ⟨56, _⟩ => ⟨S_, .f32⟩
  | .hbm, ⟨57, _⟩ => ⟨S4x256, .f32⟩
  | .hbm, ⟨58, _⟩ => ⟨S4x256, .f32⟩
  | .hbm, ⟨59, _⟩ => ⟨S4x256, .f32⟩
  | .hbm, ⟨60, _⟩ => ⟨S_, .f32⟩
  | .hbm, ⟨61, _⟩ => ⟨S4x256, .f32⟩
  | .hbm, ⟨62, _⟩ => ⟨S4x256, .f32⟩
  | .hbm, ⟨63, _⟩ => ⟨S_, .f32⟩
  | .hbm, ⟨64, _⟩ => ⟨S4x256, .f32⟩
  | .hbm, ⟨65, _⟩ => ⟨S4x256, .f32⟩
  | .hbm, ⟨66, _⟩ => ⟨S4x256, .f32⟩
  | .hbm, ⟨67, _⟩ => ⟨S_, .f32⟩
  | .hbm, ⟨68, _⟩ => ⟨S4x256, .f32⟩
  | .hbm, ⟨69, _⟩ => ⟨S4x256, .f32⟩
  | .hbm, ⟨70, _⟩ => ⟨S4x256, .f32⟩
  | .hbm, ⟨71, _⟩ => ⟨S_, .f32⟩
  | .hbm, ⟨72, _⟩ => ⟨S4x256, .f32⟩
  | .hbm, ⟨73, _⟩ => ⟨S4x256, .f32⟩
  | .hbm, ⟨74, _⟩ => ⟨S4x256, .f32⟩
  | .hbm, ⟨75, _⟩ => ⟨S_, .f32⟩
  | .hbm, ⟨76, _⟩ => ⟨S4x256, .f32⟩
  | .hbm, ⟨77, _⟩ => ⟨S4x256, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S_, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AsgKernel.lean ====
abbrev S4x64 : Shape := ⟨2, ![4, 64]⟩

abbrev nBuf : Space → Nat
  | .hbm => 14
  | .vmem => 14
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .hbm, ⟨7, _⟩ => ⟨S4x64, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S4x64, .f32⟩
  | .hbm, ⟨12, _⟩ => ⟨S4x64, .f32⟩
  | .hbm, ⟨13, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | .local _ .vmem, ⟨7, _⟩ => ⟨S4x64, .f32⟩
  | .local _ .vmem, ⟨8, _⟩ => ⟨S4x64, .f32⟩
  | .local _ .vmem, ⟨9, _⟩ => ⟨S4x64, .f32⟩
  | .local _ .vmem, ⟨10, _⟩ => ⟨S4x64, .f32⟩
  | .local _ .vmem, ⟨11, _⟩ => ⟨S4x64, .f32⟩
  | .local _ .vmem, ⟨12, _⟩ => ⟨S4x64, .f32⟩
  | .local _ .vmem, ⟨13, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== AsgReferenceIdeal.lean ====
abbrev S4x64 : Shape := ⟨2, ![4, 64]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .hbm, ⟨7, _⟩ => ⟨S4x64, .f32⟩
  | .hbm, ⟨8, _⟩ => ⟨S_, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S4x64, .f32⟩
  | .hbm, ⟨23, _⟩ => ⟨S_, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | .hbm, ⟨37, _⟩ => ⟨S4x64, .f32⟩
  | .hbm, ⟨38, _⟩ => ⟨S_, .f32⟩
  | .hbm, ⟨39, _⟩ => ⟨S4x64, .f32⟩
  | .hbm, ⟨40, _⟩ => ⟨S4x64, .f32⟩
  | .hbm, ⟨41, _⟩ => ⟨S_, .f32⟩
  | .hbm, ⟨42, _⟩ => ⟨S4x64, .f32⟩
  | .hbm, ⟨43, _⟩ => ⟨S4x64, .f32⟩
  | .hbm, ⟨44, _⟩ => ⟨S_, .f32⟩
  | .hbm, ⟨45, _⟩ => ⟨S4x64, .f32⟩
  | .hbm, ⟨46, _⟩ => ⟨S4x64, .f32⟩
  | .hbm, ⟨47, _⟩ => ⟨S4x64, .f32⟩
  | .hbm, ⟨48, _⟩ => ⟨S_, .f32⟩
  | .hbm, ⟨49, _⟩ => ⟨S4x64, .f32⟩
  | .hbm, ⟨50, _⟩ => ⟨S4x64, .f32⟩
  | .hbm, ⟨51, _⟩ => ⟨S4x64, .f32⟩
  | .hbm, ⟨52, _⟩ => ⟨S_, .f32⟩
  | .hbm, ⟨53, _⟩ => ⟨S4x64, .f32⟩
  | .hbm, ⟨54, _⟩ => ⟨S4x64, .f32⟩
  | .hbm, ⟨55, _⟩ => ⟨S4x64, .f32⟩
  | .hbm, ⟨56, _⟩ => ⟨S_, .f32⟩
  | .hbm, ⟨57, _⟩ => ⟨S4x64, .f32⟩
  | .hbm, ⟨58, _⟩ => ⟨S4x64, .f32⟩
  | .hbm, ⟨59, _⟩ => ⟨S_, .f32⟩
  | .hbm, ⟨60, _⟩ => ⟨S4x64, .f32⟩
  | .hbm, ⟨61, _⟩ => ⟨S4x64, .f32⟩
  | .hbm, ⟨62, _⟩ => ⟨S4x64, .f32⟩
  | .hbm, ⟨63, _⟩ => ⟨S_, .f32⟩
  | .hbm, ⟨64, _⟩ => ⟨S4x64, .f32⟩
  | .hbm, ⟨65, _⟩ => ⟨S4x64, .f32⟩
  | .hbm, ⟨66, _⟩ => ⟨S4x64, .f32⟩
  | .hbm, ⟨67, _⟩ => ⟨S_, .f32⟩
  | .hbm, ⟨68, _⟩ => ⟨S4x64, .f32⟩
  | .hbm, ⟨69, _⟩ => ⟨S4x64, .f32⟩
  | .hbm, ⟨70, _⟩ => ⟨S4x64, .f32⟩
  | .hbm, ⟨71, _⟩ => ⟨S_, .f32⟩
  | .hbm, ⟨72, _⟩ => ⟨S4x64, .f32⟩
  | .hbm, ⟨73, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== AsbKernel.lean ====
abbrev S1x1024 : Shape := ⟨2, ![1, 1024]⟩
abbrev S2x1024 : Shape := ⟨2, ![2, 1024]⟩

abbrev nBuf : Space → Nat
  | .hbm => 28
  | .vmem => 28
  | .smem => 0
  | _ => 0

abbrev bufTy : (tb : Table) → Fin (tcTables nBuf tb) → BufTy
  | .hbm, ⟨0, _⟩ => ⟨S1x1024, .f32⟩
  | .hbm, ⟨1, _⟩ => ⟨S2x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S2x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S2x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S2x1024, .f32⟩
  | .hbm, ⟨26, _⟩ => ⟨S1x1024, .f32⟩
  | .hbm, ⟨27, _⟩ => ⟨S1x1024, .f32⟩
  | .local _ .vmem, ⟨0, _⟩ => ⟨S1x1024, .f32⟩
  | .local _ .vmem, ⟨1, _⟩ => ⟨S2x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S2x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S2x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S2x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S2x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S2x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S2x1024, .f32⟩
  | .local _ .vmem, ⟨26, _⟩ => ⟨S1x1024, .f32⟩
  | .local _ .vmem, ⟨27, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev main_v0_10 : Ref sig .tc := ⟨.hbm, 26, rfl⟩
abbrev main_v0_11 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S2x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
-- ==== AsbReferenceIdeal.lean ====
abbrev S1x1024 : Shape := ⟨2, ![1, 1024]⟩
abbrev S2x1024 : Shape := ⟨2, ![2, 1024]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x1024, .f32⟩
  | 1 => ⟨S2x1024, .f32⟩
  | 2 => ⟨S1x1024, .f32⟩
  | 3 => ⟨S1x1024, .f32⟩
  | 4 => ⟨S1x1024, .f32⟩
  | 5 => ⟨S2x1024, .f32⟩
  | 6 => ⟨S1x1024, .f32⟩
  | 7 => ⟨S1x1024, .f32⟩
  | 8 => ⟨S1x1024, .f32⟩
  | 9 => ⟨S2x1024, .f32⟩
  | 10 => ⟨S1x1024, .f32⟩
  | 11 => ⟨S1x1024, .f32⟩
  | 12 => ⟨S1x1024, .f32⟩
  | 13 => ⟨S2x1024, .f32⟩
  | 14 => ⟨S1x1024, .f32⟩
  | 15 => ⟨S1x1024, .f32⟩
  | 16 => ⟨S_, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S2x1024, .f32⟩
  | 51 => ⟨S2x1024, .f32⟩
  | 52 => ⟨S_, .f32⟩
  | 53 => ⟨S2x1024, .f32⟩
  | 54 => ⟨S2x1024, .f32⟩
  | 55 => ⟨S2x1024, .f32⟩
  | 56 => ⟨S_, .f32⟩
  | 57 => ⟨S2x1024, .f32⟩
  | 58 => ⟨S2x1024, .f32⟩
  | 59 => ⟨S2x1024, .f32⟩
  | 60 => ⟨S_, .f32⟩
  | 61 => ⟨S2x1024, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S_, .f32⟩
  | 68 => ⟨S2x1024, .f32⟩
  | 69 => ⟨S2x1024, .f32⟩
  | 70 => ⟨S2x1024, .f32⟩
  | 71 => ⟨S_, .f32⟩
  | 72 => ⟨S2x1024, .f32⟩
  | 73 => ⟨S2x1024, .f32⟩
  | 74 => ⟨S2x1024, .f32⟩
  | 75 => ⟨S_, .f32⟩
  | 76 => ⟨S2x1024, .f32⟩
  | 77 => ⟨S2x1024, .f32⟩
  | 78 => ⟨S2x1024, .f32⟩
  | 79 => ⟨S_, .f32⟩
  | 80 => ⟨S2x1024, .f32⟩
  | 81 => ⟨S2x1024, .f32⟩
  | 82 => ⟨S_, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S1x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S_, .f32⟩
  | 6 => ⟨S1x1024, .f32⟩
  | 7 => ⟨S1x1024, .f32⟩
  | 8 => ⟨S1x1024, .f32⟩
  | 9 => ⟨S_, .f32⟩
  | 10 => ⟨S1x1024, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | _ => ⟨S1x1024, .f32⟩

abbrev hbmTy (i : Nat) : BufTy := match i / 128 with
  | 0 => hbmTy0_0 i
  | 1 => hbmTy0_1 i
  | _ => ⟨S1x1024, .f32⟩

abbrev bufTy : (tb : Table) → Fin (tcTables nBuf tb) → BufTy
  | .hbm, ⟨i, _⟩ => hbmTy i
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== Proof.Out.Rows.lean ====
/- The output stage's arithmetic at coordinates: the projected row, its mean-square scale, the error, and the four arrays
   the stage returns, as functions of the argument arrays. -/
module

public import proofs.«01_k».proof.Proof.Gen.OutKernelIdeal.Skeleton
public import Idealize.ShloMosaic.Lib.Pipeline.ValueKit

@[expose] public section

set_option maxRecDepth 16384

noncomputable section

namespace Cert.OutKernelIdeal.Value

open Idealize.ShloMosaic Idealize.SL.Sem
open Cert.OutKernelIdeal

/-- The width of a row, as the programs write it. -/
abbrev width : EReal := Ideal.ofBits .f32 0x44800000#32
/-- The mean square's offset. -/
abbrev offset : EReal := Ideal.ofBits .f32 0x358637BD#32

variable (a b : FVec Ideal S8192x1024 .f32) (w : FVec Ideal S2048x1024 .f32) (x t : FVec Ideal S8192x1024 .f32)
  (g : FVec Ideal S1x1024 .f32)

/-- The projected row: both branches' outputs against their halves of the weights. -/
def proj (i : Fin 8192) (d : Fin 1024) : EReal :=
  (∑ k : Fin 1024, a (ix2 i k) * w (ix2 ⟨k.val, by omega⟩ d)) + ∑ k : Fin 1024, b (ix2 i k) * w (ix2 ⟨1024 + k.val, by omega⟩ d)

/-- The reciprocal root of the row's mean square. -/
def scale (i : Fin 8192) : EReal := Ideal.rsqrt (Ideal.div (∑ d : Fin 1024, proj a b w i d * proj a b w i d) width + offset)

/-- The normalised row. -/
def normed (i : Fin 8192) (d : Fin 1024) : EReal := proj a b w i d * scale a b w i

/-- The layer's output less the target. -/
def err (i : Fin 8192) (d : Fin 1024) : EReal := x (ix2 i d) + normed a b w i d * g (ix2 0 d) - t (ix2 i d)

/-- The loss's gradient at the layer's output. -/
def dOut (i : Fin 8192) (d : Fin 1024) : EReal := err a b w x t g i d * Ideal.ofBits .f32 0x3A800000#32

/-- The gradient at the normalised row. -/
def dNormed (i : Fin 8192) (d : Fin 1024) : EReal := dOut a b w x t g i d * g (ix2 0 d)

/-- The gradient at the projected row. -/
def dProj (i : Fin 8192) (d : Fin 1024) : EReal :=
  scale a b w i * (dNormed a b w x t g i d
    - normed a b w i d * Ideal.div (∑ l : Fin 1024, dNormed a b w x t g i l * normed a b w i l) width)

/-- A column's sum of squared errors. -/
def squares (d : Fin 1024) : EReal := ∑ i : Fin 8192, err a b w x t g i d * err a b w x t g i d

/-- The gradient of the norm's weights. -/
def dGain (d : Fin 1024) : EReal := ∑ i : Fin 8192, dOut a b w x t g i d * normed a b w i d

end Cert.OutKernelIdeal.Value
-- ==== Proof.Out.Blocks.lean ====
/- The output stage's four result arrays after the run. -/
module

public import proofs.«01_k».proof.Proof.Gen.OutKernelIdeal.Value
public import proofs.«01_k».proof.Proof.Out.Rows
public import Idealize.ShloMosaic.Lib.Pipeline.ValueKit

@[expose] public section

set_option maxRecDepth 16384

noncomputable section

namespace Cert.OutKernelIdeal.Value

open Idealize.ShloMosaic Idealize.ShloMosaic.TcCoe Idealize.SL.Sem
open Idealize.ShloMosaic.Pipeline (Dat)
open Cert.OutKernelIdeal Cert.OutKernelIdeal.Gen

variable (m : (ℓ : Loc nD τ sig) → Buf (Elt Ideal) ℓ)

theorem idx : ∀ t : Fin cfg0.N, win0_0.index t = ![0, t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] ∧ t.val < 8 :=
  (by decide +kernel : ∀ t : Fin grid0.N, _)

abbrev A0 (c : Dev nD) : FVec Ideal S8192x1024 .f32 := m ((c.tc : Thread nD τ).loc main_arg0)
abbrev A1 (c : Dev nD) : FVec Ideal S8192x1024 .f32 := m ((c.tc : Thread nD τ).loc main_arg1)
abbrev A2 (c : Dev nD) : FVec Ideal S2048x1024 .f32 := m ((c.tc : Thread nD τ).loc main_arg2)
abbrev A3 (c : Dev nD) : FVec Ideal S8192x1024 .f32 := m ((c.tc : Thread nD τ).loc main_arg3)
abbrev A4 (c : Dev nD) : FVec Ideal S8192x1024 .f32 := m ((c.tc : Thread nD τ).loc main_arg4)
abbrev A5 (c : Dev nD) : FVec Ideal S1x1024 .f32 := m ((c.tc : Thread nD τ).loc main_arg5)

/-- The array's row that a point's block holds at `p`. -/
abbrev row (t : Fin cfg0.N) (p : Fin 1024) : Fin 8192 :=
  ⟨t.val * 1024 + p.val, by have := (idx t).2.2.2.2.2.2.2.2.2; omega⟩

/-- The stacked branch outputs the kernel reads: the first is the first argument. -/
theorem stacked_0 (c : Dev nD) (i : Fin 8192) (k : Fin 1024) : V m c main_v4 (ix3 0 i k) = A0 m c (ix2 i k) := by
  entry_read; pointwise

theorem stacked_1 (c : Dev nD) (i : Fin 8192) (k : Fin 1024) : V m c main_v4 (ix3 1 i k) = A1 m c (ix2 i k) := by
  entry_read; pointwise

/-- A point's block of the stacked outputs, at a row. -/
theorem block0_0 (c : Dev nD) (t : Fin cfg0.N) (p k : Fin 1024) :
    iblk m c 0 t (ix3 0 p k) = A0 m c (ix2 (row t p) k) := by
  rw [← stacked_0 m c]; blk_ext [iblk, idx t]

theorem block0_1 (c : Dev nD) (t : Fin cfg0.N) (p k : Fin 1024) :
    iblk m c 0 t (ix3 1 p k) = A1 m c (ix2 (row t p) k) := by
  rw [← stacked_1 m c]; blk_ext [iblk, idx t]

set_option maxHeartbeats 1600000 in
/-- The gradient at the layer's output. -/
theorem final5 (c : Dev nD) : (dats m 0 c).arrAt 5 (cfgs 0).N
    = fun j => dOut (A0 m c) (A1 m c) (A2 m c) (A3 m c) (A4 m c) (A5 m c) (j 0) (j 1) := by
  refine (dats m 0 c).arrAt_eq_of_covers 5 _ (by decide +kernel) fun t _ y => ?_
  blk_simp
  rw [after0_5]
  by_cases h : t.val % 8 = 0
  all_goals
    first | rw [outsAt0_A m c t h] | rw [outsAt0_B m c t h]
    frame_out
    pointwise [k0_pay2, k0_pay10, k0_pay9, k0_pay8, k0_pay7, dOut, err, normed, scale, proj, block0_0 m c t, block0_1 m c t]
    blk_point [iblk, V, idx t]

set_option maxHeartbeats 1600000 in
/-- The gradient at the projected row. -/
theorem final6 (c : Dev nD) : (dats m 0 c).arrAt 6 (cfgs 0).N
    = fun j => dProj (A0 m c) (A1 m c) (A2 m c) (A3 m c) (A4 m c) (A5 m c) (j 0) (j 1) := by
  refine (dats m 0 c).arrAt_eq_of_covers 6 _ (by decide +kernel) fun t _ y => ?_
  blk_simp
  rw [after0_6]
  by_cases h : t.val % 8 = 0
  all_goals
    first | rw [outsAt0_A m c t h] | rw [outsAt0_B m c t h]
    frame_out
    pointwise [k0_pay4, k0_pay2, k0_pay10, k0_pay9, k0_pay8, k0_pay7, dProj, dNormed, dOut, err, normed, scale, proj,
      block0_0 m c t, block0_1 m c t]
    blk_point [iblk, V, idx t]

/-- The accumulating payloads: what was there and the block's column sums. -/
theorem pay1_at (e : FVec Ideal S1024x1024 .f32) (s : FVec Ideal S1x1024 .f32) (j : S1x1024.Idx) :
    k0_pay1 e s j = s j + ∑ p : Fin 1024, e (ix2 p (j 1)) * e (ix2 p (j 1)) := by pointwise [k0_pay1]

theorem pay3_at (n e : FVec Ideal S1024x1024 .f32) (s : FVec Ideal S1x1024 .f32) (j : S1x1024.Idx) :
    k0_pay3 n e s j = s j + ∑ p : Fin 1024, e (ix2 p (j 1)) * Ideal.ofBits .f32 0x3A800000#32 * n (ix2 p (j 1)) := by
  pointwise [k0_pay3, k0_pay2]

/-- A sum over a point's rows, over the points, is the sum over the array's rows. -/
theorem sum_rows (f : Fin 8192 → EReal) : ∑ t : Fin cfg0.N, ∑ p : Fin 1024, f (row t p) = ∑ i : Fin 8192, f i :=
  (Fin.sum_univ_tiles 8 1024 rfl f).symm

set_option maxHeartbeats 1600000 in
/-- The columns' sums of squared errors. -/
theorem final7 (c : Dev nD) : (dats m 0 c).arrAt 7 (cfgs 0).N
    = fun j => squares (A0 m c) (A1 m c) (A2 m c) (A3 m c) (A4 m c) (A5 m c) (j 1) := by
  refine (dats m 0 c).arrAt_eq_of_after_last 7 t0_7 (by decide +kernel) _ fun j => ?_
  blk_simp
  rw [after0_7, Pipeline.eq_sum_fin_of_reset_step_apply_last (fun n h => (outsAt0 m c n h).2.2.1) 8 (fun _ => 0)
    (fun t j => ∑ p : Fin 1024, err (A0 m c) (A1 m c) (A2 m c) (A3 m c) (A4 m c) (A5 m c) (row t p) (j 1)
      * err (A0 m c) (A1 m c) (A2 m c) (A3 m c) (A4 m c) (A5 m c) (row t p) (j 1))
    (fun t h j => by
      rw [outsAt0_A m c t h]; frame_out; rw [pay1_at]
      pointwise [k0_pay11, k0_pay5, k0_pay10, k0_pay9, k0_pay8, k0_pay7, err, normed, scale, proj, block0_0 m c t, block0_1 m c t]
      blk_point [iblk, V, idx t])
    (fun t h j => by
      rw [outsAt0_B m c t h]; frame_out; rw [pay1_at]
      pointwise [k0_pay11, k0_pay10, k0_pay9, k0_pay8, k0_pay7, err, normed, scale, proj, block0_0 m c t, block0_1 m c t]
      blk_point [iblk, V, idx t])
    (le_of_eq N_0) t0_7 rfl j, zero_add]
  exact sum_rows fun i => err (A0 m c) (A1 m c) (A2 m c) (A3 m c) (A4 m c) (A5 m c) i (j 1)
    * err (A0 m c) (A1 m c) (A2 m c) (A3 m c) (A4 m c) (A5 m c) i (j 1)

set_option maxHeartbeats 1600000 in
/-- The gradient of the norm's weights. -/
theorem final8 (c : Dev nD) : (dats m 0 c).arrAt 8 (cfgs 0).N
    = fun j => dGain (A0 m c) (A1 m c) (A2 m c) (A3 m c) (A4 m c) (A5 m c) (j 1) := by
  refine (dats m 0 c).arrAt_eq_of_after_last 8 t0_7 (by decide +kernel) _ fun j => ?_
  blk_simp
  rw [after0_8, Pipeline.eq_sum_fin_of_reset_step_apply_last (fun n h => (outsAt0 m c n h).2.2.2) 8 (fun _ => 0)
    (fun t j => ∑ p : Fin 1024, dOut (A0 m c) (A1 m c) (A2 m c) (A3 m c) (A4 m c) (A5 m c) (row t p) (j 1)
      * normed (A0 m c) (A1 m c) (A2 m c) (row t p) (j 1))
    (fun t h j => by
      rw [outsAt0_A m c t h]; frame_out; rw [pay3_at]
      pointwise [k0_pay6, k0_pay10, k0_pay9, k0_pay8, k0_pay7, dOut, err, normed, scale, proj, block0_0 m c t, block0_1 m c t]
      blk_point [iblk, V, idx t])
    (fun t h j => by
      rw [outsAt0_B m c t h]; frame_out; rw [pay3_at]
      pointwise [k0_pay10, k0_pay9, k0_pay8, k0_pay7, dOut, err, normed, scale, proj, block0_0 m c t, block0_1 m c t]
      blk_point [iblk, V, idx t])
    (le_of_eq N_0) t0_7 rfl j, zero_add]
  exact sum_rows fun i => dOut (A0 m c) (A1 m c) (A2 m c) (A3 m c) (A4 m c) (A5 m c) i (j 1)
    * normed (A0 m c) (A1 m c) (A2 m c) i (j 1)

end Cert.OutKernelIdeal.Value
-- ==== Proof.Common.Real.lean ====
/- Real numbers among the extended reals: the operations on them, the literals the programs write, and the finiteness
   precondition read back. -/
module

public import Idealize.ShloMosaic.Lib.ReduceAll
public import Idealize.ShloMosaic.Lib.Affine
public import Idealize.ShloMosaic.Lib.IdealHost
public import Idealize.ShloMosaic.Lib.Pipeline.ValueKit

@[expose] public section

set_option maxRecDepth 16384

noncomputable section

namespace Cert.Common

open Idealize.ShloMosaic

/-- A finite sum of reals is real. -/
theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

theorem div_real (x : ℝ) {y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.2 h.le), if_neg h.ne']

@[norm_cast] theorem coe_exp (x : ℝ) : ((Real.exp x : ℝ) : EReal) = Ideal.exp x := rfl
@[norm_cast] theorem coe_tanh (x : ℝ) : ((Real.tanh x : ℝ) : EReal) = Ideal.tanh x := rfl
@[norm_cast] theorem coe_fin_sum {n : ℕ} (f : Fin n → ℝ) : ((∑ i, f i : ℝ) : EReal) = ∑ i, ((f i : ℝ) : EReal) := (coe_sum _ f).symm
theorem sqrt_real {x : ℝ} (h : 0 ≤ x) : Ideal.sqrt (x : EReal) = ((Real.sqrt x : ℝ) : EReal) := by
  rw [Ideal.sqrt_coe, if_neg (not_lt.2 h)]
theorem log_real {x : ℝ} (h : 0 < x) : Ideal.log (x : EReal) = ((Real.log x : ℝ) : EReal) := by
  rw [Ideal.log_coe, if_neg (not_le.2 h)]
/-- The larger of a real and its opposite is its absolute value. -/
theorem abs_real (x : ℝ) : max (x : EReal) (-(x : EReal)) = ((|x| : ℝ) : EReal) := by
  rw [← EReal.coe_neg, ← EReal.coe_strictMono.monotone.map_max]; rfl
theorem max_real (x y : ℝ) : max (x : EReal) (y : EReal) = ((max x y : ℝ) : EReal) :=
  (EReal.coe_strictMono.monotone.map_max).symm

/-- Arrays of reals among the extended reals. -/
abbrev At1 (n : ℕ) (X : Shape.Idx ⟨1, ![n]⟩ → EReal) (f : ℕ → ℝ) : Prop := ∀ a, X (ix1 a) = ((f a : ℝ) : EReal)
abbrev At2 (n m : ℕ) (X : Shape.Idx ⟨2, ![n, m]⟩ → EReal) (f : ℕ → ℕ → ℝ) : Prop := ∀ a b, X (ix2 a b) = ((f a b : ℝ) : EReal)
abbrev At3 (n m l : ℕ) (X : Shape.Idx ⟨3, ![n, m, l]⟩ → EReal) (f : ℕ → ℕ → ℕ → ℝ) : Prop :=
  ∀ a b c, X (ix3 a b c) = ((f a b c : ℝ) : EReal)

/-- An extended real that is neither infinity is a real. -/
theorem real_of_abs_lt_top {x : EReal} (h : max x (-x) < ⊤) : ∃ r : ℝ, x = r := by
  induction x using EReal.rec with
  | bot => simp at h
  | top => simp at h
  | coe r => exact ⟨r, rfl⟩

theorem ofBits_inf : Ideal.ofBits .f32 0x7F800000#32 = ⊤ := by simp [Ideal.ofBits, Ideal.ieee]
theorem ofBits_1024 : Ideal.ofBits .f32 0x44800000#32 = ((1024 : ℝ) : EReal) := by
  simp [Ideal.ofBits, Ideal.ieee, -EReal.coe_mul]; norm_num
theorem ofBits_inv_1024 : Ideal.ofBits .f32 0x3A800000#32 = ((1 / 1024 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_eight : Ideal.ofBits .f32 0xC1000000#32 = ((-8 : ℝ) : EReal) := by
  simp [Ideal.ofBits, Ideal.ieee, -EReal.coe_mul]; norm_num
/-- The norm's offset is a positive real. -/
theorem ofBits_eps : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

instance : Subsingleton (Shape.Idx ⟨0, ![]⟩) := ⟨fun a b => funext fun i => i.elim0⟩

/-- The printed `jnp.all(jnp.abs(x) < inf)`, read back: every entry is a real. -/
theorem real_of_all {s : Shape} {axes : List (Fin s.rank)} (x : FVec Ideal s .f32)
    (hb : Shape.BroadcastsInDim ⟨0, ![]⟩ s ![]) (hr : s.ReducesTo axes ⟨0, ![]⟩) (hu : 0 < Shape.numel ⟨0, ![]⟩) (j : Shape.Idx ⟨0, ![]⟩)
    (h : Host.reduce IntOp.andi (cmpf .olt (Host.absf x) (broadcastInDim s ![] hb (constant ⟨0, ![]⟩ .f32 0x7F800000#32)))
      (constantI ⟨0, ![]⟩ 1 1#1) hr hu j = 1#1) : ∃ r : s.Idx → ℝ, x = fun i => ((r i : ℝ) : EReal) := by
  have hx : ∀ i, ∃ r : ℝ, x i = (r : EReal) := fun i => by
    have hi := Host.reduce_andi_all _ _ hr hu j h i
    refine real_of_abs_lt_top ?_
    have e : Ideal.cmp .olt (max (x i) (-(x i))) (Ideal.ofBits .f32 0x7F800000#32) = 1#1 := hi
    rw [ofBits_inf] at e
    by_contra hn
    have e' : BitVec.ofBool (decide (max (x i) (-(x i)) < ⊤)) = 1#1 := e
    rw [decide_eq_false hn] at e'
    exact absurd e' (by decide)
  choose r hr using hx
  exact ⟨r, funext hr⟩

end Cert.Common
-- ==== Proof.Common.Norm.lean ====
/- The derivative of a row's root-mean-square normalisation, in the two forms the programs compute. -/
module

public import Mathlib.Analysis.SpecialFunctions.Pow.Real

@[expose] public section

namespace Cert.Common

/-- The derivative of a row's normalisation, as the chain rule through the mean square gives it, in the form the kernels
    compute. -/
theorem norm_row (y n : Fin 1024 → ℝ) {e : ℝ} (he : 0 < e) (d : Fin 1024) :
    n d * (Real.sqrt ((∑ l, y l * y l) / 1024 + e))⁻¹
      + y d * ((∑ l, y l * n l) * (-(1 / 2) * ((Real.sqrt ((∑ l, y l * y l) / 1024 + e))⁻¹ / ((∑ l, y l * y l) / 1024 + e))) / 1024)
      + (∑ l, y l * n l) * (-(1 / 2) * ((Real.sqrt ((∑ l, y l * y l) / 1024 + e))⁻¹ / ((∑ l, y l * y l) / 1024 + e))) / 1024 * y d
    = (Real.sqrt ((∑ l, y l * y l) / 1024 + e))⁻¹ * (n d - y d * (Real.sqrt ((∑ l, y l * y l) / 1024 + e))⁻¹
        * ((∑ l, n l * (y l * (Real.sqrt ((∑ l, y l * y l) / 1024 + e))⁻¹)) / 1024)) := by
  have hs : 0 ≤ ∑ l, y l * y l := Finset.sum_nonneg fun l _ => mul_self_nonneg _
  set A := (∑ l, y l * y l) / 1024 + e with hA
  have hA0 : 0 < A := by positivity
  have hr : A⁻¹ = (Real.sqrt A)⁻¹ * (Real.sqrt A)⁻¹ := by rw [← mul_inv, Real.mul_self_sqrt hA0.le]
  have hn : ∑ l, n l * (y l * (Real.sqrt A)⁻¹) = (∑ l, y l * n l) * (Real.sqrt A)⁻¹ := by
    rw [Finset.sum_mul]; exact Finset.sum_congr rfl fun l _ => by ring
  rw [hn, div_eq_mul_inv (Real.sqrt A)⁻¹ A, hr]
  ring

end Cert.Common
-- ==== Proof.Out.Reference.lean ====
/- The output stage's reference read at coordinates: its four results are the functions of `Rows`. -/
module

public import proofs.«01_k».proof.Proof.Gen.OutReferenceIdeal.Read
public import proofs.«01_k».proof.Proof.Gen.OutReferenceIdeal.Run
public import proofs.«01_k».proof.Proof.Out.Rows
public import proofs.«01_k».proof.Proof.Common.Real
public import proofs.«01_k».proof.Proof.Common.Norm

@[expose] public section

set_option maxRecDepth 16384

noncomputable section

namespace Cert.OutReferenceIdeal.Meaning

open Idealize.ShloMosaic Idealize.SL.Sem
open Cert.OutReferenceIdeal Cert.OutReferenceIdeal.Read
open Cert.OutKernelIdeal.Value (proj scale normed err dOut dNormed dProj squares dGain width offset)
open Cert.Common

variable (a b : FVec Ideal S8192x1024 .f32) (w : FVec Ideal S2048x1024 .f32) (x t : FVec Ideal S8192x1024 .f32)
  (g : FVec Ideal S1x1024 .f32)

theorem proj_eq (i : Fin 8192) (d : Fin 1024) : val_main_v1 (F := Ideal) a b w (ix2 i d) = proj a b w i d := by
  pointwise [val_main_v1, val_main_v0, proj]

theorem scale_eq (i : Fin 8192) (u : Fin 1) : val_main_v9 (F := Ideal) a b w (ix2 i u) = scale a b w i := by
  pointwise [val_main_v9, val_main_v8, val_main_v7, val_main_cst_1, val_main_v6, val_main_v5, val_main_cst_0, val_main_v4,
    val_main_v3, val_main_cst, val_main_v2, proj_eq, scale]

theorem normed_eq (i : Fin 8192) (d : Fin 1024) : val_main_v14 (F := Ideal) a b w (ix2 i d) = normed a b w i d := by
  pointwise [val_main_v14, val_main_v13, proj_eq, scale_eq, normed]

theorem err_eq (i : Fin 8192) (d : Fin 1024) : val_main_v18 (F := Ideal) a b w x t g (ix2 i d) = err a b w x t g i d := by
  pointwise [val_main_v18, val_main_v17, val_main_v16, val_main_v15, normed_eq, err]

/-- Half of the mean's weight on twice the error is the error over the width. -/
theorem dOut_eq (i : Fin 8192) (d : Fin 1024) : val_main_v32 (F := Ideal) a b w x t g (ix2 i d) = dOut a b w x t g i d := by
  pointwise [val_main_v32, val_main_v31, val_main_v30, val_main_v29, val_main_cst_10, val_main_v28, val_main_v27, val_main_cst_9,
    val_main_cst_8, val_main_v21, val_main_v20, val_main_cst_3, err_eq, dOut]
  rw [ofBits_half, ofBits_1024, ofBits_two, ofBits_inv_1024, div_real _ (by norm_num), ← mul_assoc, ← EReal.coe_mul, mul_comm]
  norm_num

theorem dNormed_eq (i : Fin 8192) (d : Fin 1024) : val_main_v37 (F := Ideal) a b w x t g (ix2 i d) = dNormed a b w x t g i d := by
  pointwise [val_main_v37, val_main_v36, dOut_eq, dNormed]

theorem squares_eq (u : Fin 1) (d : Fin 1024) : val_main_v68 (F := Ideal) a b w x t g (ix2 u d) = squares a b w x t g d := by
  have h : val_main_v65 (F := Ideal) a b w x t g = val_main_v18 a b w x t g := rfl
  pointwise [val_main_v68, val_main_v67, val_main_cst_18, val_main_v66, h, err_eq, squares]

theorem dGain_eq (u : Fin 1) (d : Fin 1024) : val_main_v35 (F := Ideal) a b w x t g (ix2 u d) = dGain a b w x t g d := by
  pointwise [val_main_v35, val_main_v34, val_main_cst_11, val_main_v33, normed_eq, dOut_eq, dGain]
  exact Finset.sum_congr rfl fun i _ => mul_comm _ _

/-- The gradient at the projected row, where that row and the gradient at its normalisation are real. -/
theorem dProj_eq (i : Fin 8192) (d : Fin 1024) (hy : ∃ y : Fin 1024 → ℝ, ∀ d, proj a b w i d = (y d : EReal))
    (hn : ∃ n : Fin 1024 → ℝ, ∀ d, dNormed a b w x t g i d = (n d : EReal)) :
    val_main_v69 (F := Ideal) a b w x t g (ix2 i d) = dProj a b w x t g i d := by
  obtain ⟨y, hy⟩ := hy
  obtain ⟨n, hn⟩ := hn
  obtain ⟨e, he, hoff⟩ := ofBits_eps
  have hs : 0 ≤ ∑ l, y l * y l := Finset.sum_nonneg fun l _ => mul_self_nonneg _
  have hA : 0 < (∑ l, y l * y l) / 1024 + e := by positivity
  pointwise [val_main_v69, val_main_v51, val_main_v50, val_main_v49, val_main_v48, val_main_v47, val_main_v46, val_main_cst_14,
    val_main_v45, val_main_v44, val_main_cst_13, val_main_v43, val_main_v42, val_main_v41, val_main_v40, val_main_v39, val_main_cst_12,
    val_main_v38, val_main_v12, val_main_v11, val_main_cst_2, val_main_v10, val_main_v8, val_main_v7, val_main_cst_1, val_main_v6,
    val_main_v5, val_main_cst_0, val_main_v4, val_main_v3, val_main_cst, val_main_v2, proj_eq, scale_eq, dNormed_eq, dProj, normed]
  simp only [scale, width, offset, hy, hn, hoff, ofBits_1024, ofBits_neg_half, ← EReal.coe_mul, coe_sum, Finset.univ_unique, Finset.sum_singleton,
    div_real _ (show (1024 : ℝ) ≠ 0 by norm_num), ← EReal.coe_add, rsqrt_real hA, div_real _ hA.ne', ← EReal.coe_sub]
  exact congrArg _ (norm_row y n he d)

/-- Of real arguments the projected row is real. -/
theorem proj_real (ha : ∃ r : S8192x1024.Idx → ℝ, a = fun i => ((r i : ℝ) : EReal)) (hb : ∃ r : S8192x1024.Idx → ℝ, b = fun i => ((r i : ℝ) : EReal))
    (hw : ∃ r : S2048x1024.Idx → ℝ, w = fun i => ((r i : ℝ) : EReal)) (i : Fin 8192) :
    ∃ y : Fin 1024 → ℝ, ∀ d, proj a b w i d = (y d : EReal) := by
  obtain ⟨ra, rfl⟩ := ha
  obtain ⟨rb, rfl⟩ := hb
  obtain ⟨rw', rfl⟩ := hw
  have h : ∀ d, ∃ r : ℝ, proj (fun i => ((ra i : ℝ) : EReal)) (fun i => ((rb i : ℝ) : EReal)) (fun i => ((rw' i : ℝ) : EReal)) i d = r := fun d => by
    simp only [proj, ← EReal.coe_mul, coe_sum, ← EReal.coe_add]
    exact ⟨_, rfl⟩
  choose y hy using h
  exact ⟨y, hy⟩

/-- Of real arguments the gradient at the normalised row is real. -/
theorem dNormed_real (ha : ∃ r : S8192x1024.Idx → ℝ, a = fun i => ((r i : ℝ) : EReal)) (hb : ∃ r : S8192x1024.Idx → ℝ, b = fun i => ((r i : ℝ) : EReal))
    (hw : ∃ r : S2048x1024.Idx → ℝ, w = fun i => ((r i : ℝ) : EReal)) (hx : ∃ r : S8192x1024.Idx → ℝ, x = fun i => ((r i : ℝ) : EReal))
    (ht : ∃ r : S8192x1024.Idx → ℝ, t = fun i => ((r i : ℝ) : EReal)) (hg : ∃ r : S1x1024.Idx → ℝ, g = fun i => ((r i : ℝ) : EReal)) (i : Fin 8192) :
    ∃ n : Fin 1024 → ℝ, ∀ d, dNormed a b w x t g i d = (n d : EReal) := by
  obtain ⟨y, hy⟩ := proj_real a b w ha hb hw i
  obtain ⟨rx, rfl⟩ := hx
  obtain ⟨rt, rfl⟩ := ht
  obtain ⟨rg, rfl⟩ := hg
  obtain ⟨e, he, hoff⟩ := ofBits_eps
  have hs : 0 ≤ ∑ l, y l * y l := Finset.sum_nonneg fun l _ => mul_self_nonneg _
  have hA : 0 < (∑ l, y l * y l) / 1024 + e := by positivity
  have h : ∀ d, ∃ r : ℝ, dNormed a b w (fun i => ((rx i : ℝ) : EReal)) (fun i => ((rt i : ℝ) : EReal)) (fun i => ((rg i : ℝ) : EReal)) i d = r := fun d => by
    simp only [dNormed, dOut, err, normed, scale, width, offset, hy, hoff, ofBits_1024, ofBits_inv_1024, ← EReal.coe_mul, coe_sum,
      div_real _ (show (1024 : ℝ) ≠ 0 by norm_num), ← EReal.coe_add, rsqrt_real hA, ← EReal.coe_sub]
    exact ⟨_, rfl⟩
  choose n hn using h
  exact ⟨n, hn⟩

/-- The reference's run, its results by their stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v69) = val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v68) = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v35) = val_main_v35 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (val_main_v32_eq ..), (h c).2.1.trans (val_main_v69_eq ..),
    (h c).2.2.1.trans (val_main_v68_eq ..), (h c).2.2.2.1.trans (val_main_v35_eq ..), (h c).2.2.2.2⟩) (Cert.OutReferenceIdeal.Value.run m ρ)

end Cert.OutReferenceIdeal.Meaning
-- ==== Proof.Out.Claims.lean ====
/- The claims about the output stage: the frames, and the four results against the reference's. -/
module

public import proofs.«01_k».proof.Defs
public import proofs.«01_k».proof.Proof.Gen.OutKernel.Frame
public import proofs.«01_k».proof.Proof.Gen.OutKernelIdeal.Frame
public import proofs.«01_k».proof.Proof.Gen.OutReferenceIdeal.Run
public import proofs.«01_k».proof.Proof.Gen.Pre_out_finite
public import proofs.«01_k».proof.Proof.Out.Blocks
public import proofs.«01_k».proof.Proof.Out.Reference
public import Idealize.ShloMosaic.Lib.Claim

@[expose] public section

set_option maxRecDepth 16384

noncomputable section

namespace Cert.Proof.Out

open Idealize.ShloMosaic Idealize.SL.Sem
open Cert.OutKernelIdeal.Value Cert.Common

local instance : Cert.OutKernel.Facts := Cert.OutKernel.Gen.facts
local instance : Cert.OutKernelIdeal.Facts := Cert.OutKernelIdeal.Gen.facts
local instance : Cert.OutReferenceIdeal.Facts := Cert.OutReferenceIdeal.Gen.facts
local instance : Cert.Pre_out_finite.Facts := Cert.Pre_out_finite.Gen.facts

theorem frame_kernel : Cert.quiescent_OutKernel := fun m ρ _ => Cert.OutKernel.Gen.frame m ρ
theorem frame_kernel_ideal : Cert.quiescent_OutKernelIdeal := fun m ρ _ => Cert.OutKernelIdeal.Gen.frame m ρ
theorem frame_kernel_ideal_pre : Cert.quiescent_OutKernelIdeal_pre_out_finite := fun m ρ _ => frame_kernel_ideal m ρ trivial
theorem frame_reference : Cert.quiescent_OutReferenceIdeal := by
  intro m g _
  exact (θ_run Cert.OutReferenceIdeal.defs _ _).mono (fun r h => ⟨fun c => (h c).2.2.2.2, sem_eq_zero_of_no_sems (by decide) r.2⟩)
    (Cert.OutReferenceIdeal.Meaning.run m g)
theorem frame_reference_pre : Cert.quiescent_OutReferenceIdeal_pre_out_finite := fun m ρ _ => frame_reference m ρ trivial

/-- The precondition says that every argument's entries are real. -/
theorem reals (m : (ℓ : Loc Cert.OutKernelIdeal.nD Cert.OutKernelIdeal.τ Cert.OutKernelIdeal.sig) → Buf (Elt Ideal) ℓ)
    (h : Cert.Pre_OutKernelIdeal_out_finite m) (c : Dev Cert.OutKernelIdeal.nD) :
    (∃ r : _ → ℝ, A0 m c = fun i => ((r i : ℝ) : EReal)) ∧ (∃ r : _ → ℝ, A1 m c = fun i => ((r i : ℝ) : EReal))
    ∧ (∃ r : _ → ℝ, A2 m c = fun i => ((r i : ℝ) : EReal)) ∧ (∃ r : _ → ℝ, A3 m c = fun i => ((r i : ℝ) : EReal))
    ∧ (∃ r : _ → ℝ, A4 m c = fun i => ((r i : ℝ) : EReal)) ∧ (∃ r : _ → ℝ, A5 m c = fun i => ((r i : ℝ) : EReal)) := by
  have h := congrFun (h c) (fun i => i.elim0)
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ h0, real_of_all _ _ _ _ _ h1, real_of_all _ _ _ _ _ h2, real_of_all _ _ _ _ _ h3,
    real_of_all _ _ _ _ _ h4, real_of_all _ _ _ _ _ h5⟩

open Cert.OutReferenceIdeal.Meaning in
/-- The four results of the output stage are the reference's, of real arguments. -/
theorem algebraic : Cert.algebraic_OutKernelIdeal_OutReferenceIdeal_pre_out_finite := by
  pair_intro
  · run_from Cert.OutKernelIdeal.Gen.run_main m g
  · run_from Cert.OutReferenceIdeal.Meaning.run m' g'
    · rw [final5 m c]; funext j; rw [eq_ix2 j]; exact dOut_eq ..
    · obtain ⟨h0, h1, h2, h3, h4, h5⟩ := reals m hpre c
      rw [final6 m c]; funext j; rw [eq_ix2 j]
      exact dProj_eq _ _ _ _ _ _ _ _ (proj_real _ _ _ h0 h1 h2 _) (dNormed_real _ _ _ _ _ _ h0 h1 h2 h3 h4 h5 _)
    · rw [final7 m c]; funext j; rw [eq_ix2 j]; exact squares_eq ..
    · rw [final8 m c]; funext j; rw [eq_ix2 j]; exact dGain_eq ..

end Cert.Proof.Out
-- ==== Proof.Lru.Loop0.lean ====
module

public import proofs.«01_k».proof.Proof.Gen.LruKernelIdeal.Launch
public import proofs.«01_k».proof.Proof.Gen.LruKernelIdeal.Skeleton
public import proofs.«01_k».proof.Proof.Gen.LruKernelIdeal.Loops
public import proofs.«01_k».proof.Proof.Gen.LruKernelIdeal.Points
public import Idealize.ShloMosaic.Lib.WholeRead
public import Idealize.ShloMosaic.Lib.WritesUnit
public import Idealize.ShloMosaic.Lib.Pipeline.ValueKit
public import Idealize.ShloMosaic.Lib.Pipeline.FrameBody
public import Idealize.ShloMosaic.Lib.Tactic
public import Idealize.ShloMosaic.Lib.WordCmp

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The forward body's loop: sixty-four groups of eight rows, each a short scan of its own and the row carried in. -/

section Values

variable (I : IVec S8x1024 32) (A U : Vec F S512x1024 .f32) (init : Vec F S8x1024 .f32)

/-- Eight rows of a tile: group `k`'s. -/
def rows0 (X : Vec F S512x1024 .f32) (k : Fin k0_t1_loop.trips) : Vec F S8x1024 .f32 :=
  fun y => X ((Rect.unit (s := S512x1024) (k0_off1 k) S8x1024.size (k0_off1_inb k)).toLoadRect.idx y)

/-- A group's eight rows of the state, from its decays, its inputs and the row carried in. -/
def group0 (a u h : Vec F S8x1024 .f32) : Vec F S8x1024 .f32 :=
  k0_pay39 h (k0_pay3 I a u) (k0_pay4 I a) (k0_pay5 I a) (k0_pay6 I) 4#32

/-- The row a group hands on, in all eight rows. -/
def next0 (a u h : Vec F S8x1024 .f32) : Vec F S8x1024 .f32 :=
  k0_pay40 h (k0_pay3 I a u) (k0_pay4 I a) (k0_pay5 I a) (k0_pay6 I) 4#32

/-- The row carried into group `k`. -/
def carry0 : ℕ → Vec F S8x1024 .f32
  | 0 => init
  | k + 1 => if h : k < k0_t1_loop.trips then next0 I (rows0 A ⟨k, h⟩) (rows0 U ⟨k, h⟩) (carry0 k) else carry0 k

/-- The tile's state, group by group. -/
def tile0 : Vec F S512x1024 .f32 := fun y =>
  if h : (y 0).val / 8 < k0_t1_loop.trips then
    group0 I (rows0 A ⟨(y 0).val / 8, h⟩) (rows0 U ⟨(y 0).val / 8, h⟩) (carry0 I A U init ((y 0).val / 8))
      (ix2 ⟨(y 0).val % 8, Nat.mod_lt _ (by decide)⟩ (y 1))
  else A y

end Values

section Loop

variable (𝒱 : Variants) (c : Dev nD) (bd : Option 𝒱.V) (i : grid0.Coords) (arg1 : Memref sig .tc .vmem S2x512x512 .f32) (harg1 : arg1.IsWhole) (arg2 : Memref sig .tc .vmem S2x8x512 .f32) (harg2 : arg2.IsWhole) (arg3 : Memref sig .tc .vmem S2x512x512 .f32) (harg3 : arg3.IsWhole) (arg4 : Memref sig .tc .vmem S4x256x256 .bf16) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x512x1024 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole) (v96 : FVec F S512x1024 .f32) (v148 : FVec F S512x1024 .f32) (v153 : FVec F S512x1024 .f32) (v155 : FVec F S512x1024 .f32) (v165 : FVec F S512x1024 .f32) (v166 : FVec F S512x1024 .f32) (v181 : IVec S8x1024 32)
  (X13 : BufTy.Contents (Elt F) arg13.view.ty) (X14 : BufTy.Contents (Elt F) arg14.view.ty)

theorem trip0_next (k : Fin k0_t1_loop.trips) (acc : Vec F S8x1024 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 k).1 acc
      = next0 v181 (rows0 (arg13.view.read (Elt F) X13) k) (rows0 (arg14.view.read (Elt F) X14) k) acc := by
  unfold trip_k0_t1; rfl

theorem trip0_rows (k : Fin k0_t1_loop.trips) (acc : Vec F S8x1024 .f32) :
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 k).2.1 acc
      = [⟨Rect.unit (s := S512x1024) (k0_off1 k) S8x1024.size (k0_off1_inb k),
          group0 v181 (rows0 (arg13.view.read (Elt F) X13) k) (rows0 (arg14.view.read (Elt F) X14) k) acc⟩] := by
  unfold trip_k0_t1; rfl

theorem state0_carry (init : Vec F S8x1024 .f32) (k : ℕ) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 init k).1
      = carry0 v181 (arg13.view.read (Elt F) X13) (arg14.view.read (Elt F) X14) init k := by
  induction k with
  | zero => rfl
  | succ k ih =>
    rw [carry0]
    by_cases h : k < k0_t1_loop.trips
    · rw [dif_pos h, ← ih]
      have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 init ⟨k, h⟩
      dsimp only at e; rw [e]
      exact trip0_next ..
    · rw [dif_neg h, ← ih, st_k0_t1.eq_2]; unfold st_k0_t1Step; rw [dif_neg h]

theorem state0_rows (init : Vec F S8x1024 .f32) (f : BufTy.Contents (Elt F) arg11.view.ty) (k : ℕ) (hk : k ≤ 64)
    (y : S512x1024.Idx) (hy : (y 0).val < 8 * k) :
    arg11.view.read (Elt F) (arg11.view.writes (Elt F) f
        (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 init k).2) y
      = tile0 v181 (arg13.view.read (Elt F) X13) (arg14.view.read (Elt F) X14) init y := by
  induction k with
  | zero => omega
  | succ k ih =>
    have h : k < k0_t1_loop.trips := by have := k0_t1_abs; show k < 64; omega
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 init ⟨k, h⟩
    dsimp only at e; rw [e]
    simp only [trip0_rows, List.cons_append, List.nil_append]
    by_cases hm : 8 * k ≤ (y 0).val
    · refine (View.read_writes_cons_rows_of_mem arg11.view f _ _ _ y
        (ix2 ⟨(y 0).val % 8, Nat.mod_lt _ (by decide)⟩ (y 1)) (k0_off1_eq ⟨k, h⟩)
        (by show (y 0).val = 8 * k + (y 0).val % 8; omega) rfl).trans ?_
      have hq : (y 0).val / 8 = k := by omega
      unfold tile0
      rw [dif_pos (by rw [hq]; exact h), state0_carry]
      simp only [hq]; rfl
    · refine (View.read_writes_cons_rows_of_not_mem (W := 8) arg11.view f _ _ _ y (k0_off1_eq ⟨k, h⟩) rfl
        (by left; show (y 0).val < 8 * k; omega)).trans ?_
      exact ih (by omega) (by omega)

set_option warn.classDefReducibility false in
/-- What follows the loop finds the tile's state written out, and carries the last group's row. -/
instance exit0 (E : Set ℕ) (G : BufTy.Contents (Elt F) arg11.view.ty) (init : Vec F S8x1024 .f32) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 G init) where
  post acc := iprop((arg13.view.loc (c : Thread nD τ) ↦[arg13.view.set]{fullShare} X13)
    ∗ (arg14.view.loc (c : Thread nD τ) ↦[arg14.view.set]{fullShare} X14)
    ∗ (arg11.view.loc (c : Thread nD τ) ↦[arg11.view.set]{fullShare} harg11.unread (tile0 v181 (arg13.view.read (Elt F) X13) (arg14.view.read (Elt F) X14) init))
    ∗ ⌜acc = carry0 v181 (arg13.view.read (Elt F) X13) (arg14.view.read (Elt F) X14) init 64⌝)
  exit acc := by
    show inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 G init 64 acc ⊢ _
    iintro ⟨H13, H14, ⟨%f, H11, %hf⟩, %ha⟩
    obtain rfl : f = harg11.unread (tile0 v181 (arg13.view.read (Elt F) X13) (arg14.view.read (Elt F) X14) init) :=
      harg11.eq_unread (by
        rw [hf]; funext y
        exact state0_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v96 v148 v153 v155 v165 v166 v181 X13 X14 init G 64 (le_refl _) y (y 0).isLt)
    isplitl [H13]; · iexact H13
    isplitl [H14]; · iexact H14
    isplitl [H11]; · iexact H11
    ipureintro; rw [ha]; exact state0_carry ..

end Loop

end Cert.Lru

end
-- ==== Proof.Lru.RunB0.lean ====
module

public import proofs.«01_k».proof.Proof.Gen.LruKernelIdeal.Launch
public import proofs.«01_k».proof.Proof.Gen.LruKernelIdeal.Skeleton
public import proofs.«01_k».proof.Proof.Gen.LruKernelIdeal.Loops
public import proofs.«01_k».proof.Proof.Gen.LruKernelIdeal.Points
public import proofs.«01_k».proof.Proof.Lru.Loop0
public import Idealize.ShloMosaic.Lib.Pipeline.FrameBody
public import Idealize.ShloMosaic.Lib.Tactic
public import Idealize.ShloMosaic.Lib.WordCmp

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The branch of the forward body: the first point of the grid, where the carried row is cleared. -/
abbrev cond0 (i : grid0.Coords) : Prop := (Scalar.cmpi .ne (Scalar.extui (Scalar.cmpi .eq (BitVec.ofNat 32 (i 0).val) 0#32)) 0#32) = 1#1

set_option maxHeartbeats 4000000 in
/-- The forward body at a later point: as `run0A`, the carried row held at what the point before left. -/
noncomputable def run0B (c : Dev nD) (i : grid0.Coords) (arg1 : Memref sig .tc .vmem S2x512x512 .f32) (harg1 : arg1.IsWhole) (arg2 : Memref sig .tc .vmem S2x8x512 .f32) (harg2 : arg2.IsWhole) (arg3 : Memref sig .tc .vmem S2x512x512 .f32) (harg3 : arg3.IsWhole) (arg4 : Memref sig .tc .vmem S4x256x256 .bf16) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x512x1024 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole)
    (hc : ¬cond0 i) (x1 : Vec F S2x512x512 .f32) (x2 : Vec F S2x8x512 .f32) (x3 : Vec F S2x512x512 .f32) (x4 : Vec F S4x256x256 .bf16) (x5 : Vec F S4x256x256 .bf16) (x6 : Vec F S1x1024 .f32) (x7 : Vec F S1x1024 .f32) (x8 : Vec F S1x1024 .f32) (x9 : Vec F S4x1024 .f32) (x10 : Vec F S1x1024 .f32) (y15 : Vec F S8x1024 .f32) :
    Σ' (L11 : Vec F S512x1024 .f32), Σ' (L12 : List (View.Piece (Elt F) S1x512x1024 .bf16)), { L15 : List (View.Piece (Elt F) S8x1024 .f32) //
      ∀ (E : Set ℕ) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ owns (c : Thread nD τ) arg15 fullShare y15
          ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (arg11.view.loc (c : Thread nD τ) ↦[arg11.view.set]{fullShare} harg11.unread L11)
          ∗ (∃ f, arg12.view.loc (c : Thread nD τ) ↦[arg12.view.set]{fullShare} arg12.view.writes (Elt F) f L12)
          ∗ (∃ d, owns (c : Thread nD τ) arg13 fullShare d)
          ∗ (∃ d, owns (c : Thread nD τ) arg14 fullShare d)
          ∗ (∃ f, arg15.view.loc (c : Thread nD τ) ↦[arg15.view.set]{fullShare} arg15.view.writes (Elt F) f L15)) -∗ K ⟨⟩))
          ⊢ wp frame (wpE (defs₀ (F := F)) Variants.none c none) E (cc0_lru_fwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_lru_fwd_eq_skeleton]; unfold cc0_lru_fwd_skel
    simp only [k0_part2_eq_skeleton, k0_part3_eq_skeleton, k0_part4_eq_skeleton, k0_part5_eq_skeleton, k0_part6_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%f15, %hf15, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg15.eq_unread hf15
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HL2]
    · iexact HL2
    isplitl [H12]
    · iexists _; iexact H12
    isplitl [HL0]
    · iexists _, _; isplitr; swap; · iexact HL0
      ipureintro; rfl
    isplitl [HL1]
    · iexists _, _; isplitr; swap; · iexact HL1
      ipureintro; rfl
    iexists _; iexact H15

end Cert.Lru

end
-- ==== Proof.Lru.RunA0.lean ====
module

public import proofs.«01_k».proof.Proof.Gen.LruKernelIdeal.Launch
public import proofs.«01_k».proof.Proof.Gen.LruKernelIdeal.Skeleton
public import proofs.«01_k».proof.Proof.Gen.LruKernelIdeal.Loops
public import proofs.«01_k».proof.Proof.Gen.LruKernelIdeal.Points
public import proofs.«01_k».proof.Proof.Lru.RunB0
public import Idealize.ShloMosaic.Lib.Pipeline.FrameBody
public import Idealize.ShloMosaic.Lib.Tactic
public import Idealize.ShloMosaic.Lib.WordCmp

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The forward body at the first point: on whole memrefs, the inputs at their contents and everything else at anything, it
    runs to the end and leaves the inputs as they were and the found pieces written over each output and each carried scratch. -/
noncomputable def run0A (c : Dev nD) (i : grid0.Coords) (arg1 : Memref sig .tc .vmem S2x512x512 .f32) (harg1 : arg1.IsWhole) (arg2 : Memref sig .tc .vmem S2x8x512 .f32) (harg2 : arg2.IsWhole) (arg3 : Memref sig .tc .vmem S2x512x512 .f32) (harg3 : arg3.IsWhole) (arg4 : Memref sig .tc .vmem S4x256x256 .bf16) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S1x512x1024 .bf16) (harg12 : arg12.IsWhole) (arg13 : Memref sig .tc .vmem S512x1024 .f32) (harg13 : arg13.IsWhole) (arg14 : Memref sig .tc .vmem S512x1024 .f32) (harg14 : arg14.IsWhole) (arg15 : Memref sig .tc .vmem S8x1024 .f32) (harg15 : arg15.IsWhole)
    (hc : cond0 i) (x1 : Vec F S2x512x512 .f32) (x2 : Vec F S2x8x512 .f32) (x3 : Vec F S2x512x512 .f32) (x4 : Vec F S4x256x256 .bf16) (x5 : Vec F S4x256x256 .bf16) (x6 : Vec F S1x1024 .f32) (x7 : Vec F S1x1024 .f32) (x8 : Vec F S1x1024 .f32) (x9 : Vec F S4x1024 .f32) (x10 : Vec F S1x1024 .f32)  :
    Σ' (L11 : Vec F S512x1024 .f32), Σ' (L12 : List (View.Piece (Elt F) S1x512x1024 .bf16)), { L15 : List (View.Piece (Elt F) S8x1024 .f32) //
      ∀ (E : Set ℕ) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (∃ d, owns (c : Thread nD τ) arg11 fullShare d)
          ∗ (∃ d, owns (c : Thread nD τ) arg12 fullShare d)
          ∗ (∃ d, owns (c : Thread nD τ) arg13 fullShare d)
          ∗ (∃ d, owns (c : Thread nD τ) arg14 fullShare d)
          ∗ (∃ d, owns (c : Thread nD τ) arg15 fullShare d)
          ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ (arg11.view.loc (c : Thread nD τ) ↦[arg11.view.set]{fullShare} harg11.unread L11)
          ∗ (∃ f, arg12.view.loc (c : Thread nD τ) ↦[arg12.view.set]{fullShare} arg12.view.writes (Elt F) f L12)
          ∗ (∃ d, owns (c : Thread nD τ) arg13 fullShare d)
          ∗ (∃ d, owns (c : Thread nD τ) arg14 fullShare d)
          ∗ (∃ f, arg15.view.loc (c : Thread nD τ) ↦[arg15.view.set]{fullShare} arg15.view.writes (Elt F) f L15)) -∗ K ⟨⟩))
          ⊢ wp frame (wpE (defs₀ (F := F)) Variants.none c none) E (cc0_lru_fwd i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_lru_fwd_eq_skeleton]; unfold cc0_lru_fwd_skel
    simp only [k0_part2_eq_skeleton, k0_part3_eq_skeleton, k0_part4_eq_skeleton, k0_part5_eq_skeleton, k0_part6_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [HL2]
    · iexact HL2
    isplitl [H12]
    · iexists _; iexact H12
    isplitl [HL0]
    · iexists _, _; isplitr; swap; · iexact HL0
      ipureintro; rfl
    isplitl [HL1]
    · iexists _, _; isplitr; swap; · iexact HL1
      ipureintro; rfl
    iexists _; iexact H15

end Cert.Lru

end
-- ==== Proof.Lru.Data0.lean ====
module

public import proofs.«01_k».proof.Proof.Lru.RunA0
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What one point of the forward body leaves: its outputs' staging buffers and the scratch it carries on. -/
structure Left0 (F : FTy → Type) where
  h : Vec F S512x1024 .f32
  y : Vec F S1x512x1024 .bf16
  carry : Vec F S8x1024 .f32

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The branch is taken at the first point only. -/
theorem hcond0 (t : Fin cfg0.N) : cond0 (grid0.coords t) ↔ t.val = 0 := by
  have ht : t.val < 16 := Nat.lt_of_lt_of_eq t.isLt N_0
  have e0 : (grid0.coords t 0).val = t.val / 1 % 16 := Pipeline.Grid.coords_val t 0 (by decide) rfl
  simp only [cond0, e0]
  word_cmp

abbrev sc0_0 : Memref sig .tc .vmem S512x1024 .f32 := Memref.whole cc0_scratch0
abbrev sc0_1 : Memref sig .tc .vmem S512x1024 .f32 := Memref.whole cc0_scratch1
abbrev sc0_2 : Memref sig .tc .vmem S8x1024 .f32 := Memref.whole cc0_scratch2
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)

/-- The body's run at the first point, on the point's staging buffers and input blocks. -/
def first0 (c : Dev nD) (t : Fin cfg0.N) (h : cond0 (grid0.coords t)) :=
  run0A c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) (ms0_11 t) (hstage0_11 ((cfg0.slots t 11).cast nbuf0_11)) sc0_0 (Memref.isWhole_whole _) sc0_1 (Memref.isWhole_whole _) sc0_2 (Memref.isWhole_whole _) h (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)

/-- The body's run at a later point, over what the point before left. -/
def later0 (c : Dev nD) (t : Fin cfg0.N) (h : ¬cond0 (grid0.coords t)) (p : Left0 F) :=
  run0B c (grid0.coords t) (ms0_0 t) (hstage0_0 ((cfg0.slots t 0).cast nbuf0_0)) (ms0_1 t) (hstage0_1 ((cfg0.slots t 1).cast nbuf0_1)) (ms0_2 t) (hstage0_2 ((cfg0.slots t 2).cast nbuf0_2)) (ms0_3 t) (hstage0_3 ((cfg0.slots t 3).cast nbuf0_3)) (ms0_4 t) (hstage0_4 ((cfg0.slots t 4).cast nbuf0_4)) (ms0_5 t) (hstage0_5 ((cfg0.slots t 5).cast nbuf0_5)) (ms0_6 t) (hstage0_6 ((cfg0.slots t 6).cast nbuf0_6)) (ms0_7 t) (hstage0_7 ((cfg0.slots t 7).cast nbuf0_7)) (ms0_8 t) (hstage0_8 ((cfg0.slots t 8).cast nbuf0_8)) (ms0_9 t) (hstage0_9 ((cfg0.slots t 9).cast nbuf0_9)) (ms0_10 t) (hstage0_10 ((cfg0.slots t 10).cast nbuf0_10)) (ms0_11 t) (hstage0_11 ((cfg0.slots t 11).cast nbuf0_11)) sc0_0 (Memref.isWhole_whole _) sc0_1 (Memref.isWhole_whole _) sc0_2 (Memref.isWhole_whole _) h (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p.carry

/-! The view each of them is read back through; which of its buffers is on makes no difference. -/
abbrev view0_y : View sig .tc .vmem S1x512x1024 .bf16 := (Memref.whole cc0_stg11_0 : Memref sig .tc .vmem S1x512x1024 .bf16).view
abbrev view0_carry : View sig .tc .vmem S8x1024 .f32 := (sc0_2 : Memref sig .tc .vmem S8x1024 .f32).view

/-- What the first point leaves. -/
def leftA0 (c : Dev nD) (t : Fin cfg0.N) (h : cond0 (grid0.coords t)) : Left0 F where
  h := (first0 V c t h).1
  y := view0_y.read (Elt F) (view0_y.writes (Elt F) view0_y.junk (first0 V c t h).2.1)
  carry := view0_carry.read (Elt F) (view0_carry.writes (Elt F) view0_carry.junk (first0 V c t h).2.2.1)

/-- What a later point leaves, over what the point before left. -/
def leftB0 (c : Dev nD) (t : Fin cfg0.N) (h : ¬cond0 (grid0.coords t)) (p : Left0 F) : Left0 F where
  h := (later0 V c t h p).1
  y := view0_y.read (Elt F) (view0_y.writes (Elt F) view0_y.junk (later0 V c t h p).2.1)
  carry := view0_carry.read (Elt F) (view0_carry.writes (Elt F) view0_carry.junk (later0 V c t h p).2.2.1)

/-! Each list of pieces covers its buffer. -/
theorem coverA0_y (c : Dev nD) (t : Fin cfg0.N) (h : cond0 (grid0.coords t)) (y : S1x512x1024.Idx) :
    ∃ p ∈ (first0 V c t h).2.1, y ∈ p.1.set := View.cover_of_tiledL (s := S1x512x1024) _ ![1, 512, 1024] (by sl_kernel_rfl) y
theorem coverB0_y (c : Dev nD) (t : Fin cfg0.N) (h : ¬cond0 (grid0.coords t)) (p : Left0 F) (y : S1x512x1024.Idx) :
    ∃ q ∈ (later0 V c t h p).2.1, y ∈ q.1.set := View.cover_of_tiledL (s := S1x512x1024) _ ![1, 512, 1024] (by sl_kernel_rfl) y
theorem coverA0_carry (c : Dev nD) (t : Fin cfg0.N) (h : cond0 (grid0.coords t)) (y : S8x1024.Idx) :
    ∃ p ∈ (first0 V c t h).2.2.1, y ∈ p.1.set := View.cover_of_tiledL (s := S8x1024) _ ![8, 1024] (by sl_kernel_rfl) y
theorem coverB0_carry (c : Dev nD) (t : Fin cfg0.N) (h : ¬cond0 (grid0.coords t)) (p : Left0 F) (y : S8x1024.Idx) :
    ∃ q ∈ (later0 V c t h p).2.2.1, y ∈ q.1.set := View.cover_of_tiledL (s := S8x1024) _ ![8, 1024] (by sl_kernel_rfl) y

/-- What the points up to `n` leave. -/
def left0 (c : Dev nD) : (n : ℕ) → n < cfg0.N → Left0 F
  | 0, hn => leftA0 V c ⟨0, hn⟩ ((hcond0 _).mpr rfl)
  | n + 1, hn => leftB0 V c ⟨n + 1, hn⟩ (fun h => Nat.succ_ne_zero n ((hcond0 _).mp h)) (left0 c n (Nat.lt_of_succ_lt hn))

theorem left0_A (c : Dev nD) (t : Fin cfg0.N) (h : t.val = 0) : left0 V c t.val t.isLt = leftA0 V c t ((hcond0 t).mpr h) := by
  obtain ⟨n, hn⟩ := t
  cases n with
  | zero => rfl
  | succ n => exact absurd h (Nat.succ_ne_zero n)

theorem left0_B (c : Dev nD) (t : Fin cfg0.N) (h : ¬t.val = 0) : left0 V c t.val t.isLt
    = leftB0 V c t (fun g => h ((hcond0 t).mp g)) (left0 V c (t.val - 1) (Nat.lt_of_le_of_lt (Nat.sub_le _ _) t.isLt)) := by
  obtain ⟨n, hn⟩ := t
  cases n with
  | zero => exact absurd rfl h
  | succ n => rfl

/-- The scratch before position `n`: everything at anything before the first point, then the carried part at what the point
    before left. -/
def Phi0 (c : Dev nD) : (n : ℕ) → n ≤ cfg0.N → sProp 𝕄
  | 0, _ => Pipeline.ΦA spec0 c
  | n + 1, hn => iprop((((∃ d, owns (c : Thread nD τ) sc0_0 fullShare d) ∗ (∃ d, owns (c : Thread nD τ) sc0_1 fullShare d) ∗ owns (c : Thread nD τ) sc0_2 fullShare (left0 V c n hn).carry)
      ∗ Pipeline.scopedRestBut (Ix := Unit) (Name := ℕ) (U := UR sig nD τ) (Lvl := ℕ) (Val := Elt F) spec0 c [cc0_scratch0, cc0_scratch1, cc0_scratch2]) ∗ (∃ r, prngReg c r))

theorem ΦA0_eq (c : Dev nD) : (Pipeline.ΦA spec0 c : sProp 𝕄)
    = iprop((((∃ d, owns (c : Thread nD τ) sc0_0 fullShare d) ∗ (∃ d, owns (c : Thread nD τ) sc0_1 fullShare d) ∗ (∃ d, owns (c : Thread nD τ) sc0_2 fullShare d))
      ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA; rw [scopedRest0_split]; simp only [sc0_0, sc0_1, sc0_2, owns_whole]; try rfl

theorem Phi0_pos (c : Dev nD) (n : ℕ) (h : n ≤ cfg0.N) (hz : n ≠ 0) :
    Phi0 V c n h = iprop((((∃ d, owns (c : Thread nD τ) sc0_0 fullShare d) ∗ (∃ d, owns (c : Thread nD τ) sc0_1 fullShare d) ∗ owns (c : Thread nD τ) sc0_2 fullShare (left0 V c (n - 1) (by omega)).carry)
      ∗ Pipeline.scopedRestBut (Ix := Unit) (Name := ℕ) (U := UR sig nD τ) (Lvl := ℕ) (Val := Elt F) spec0 c [cc0_scratch0, cc0_scratch1, cc0_scratch2]) ∗ (∃ r, prngReg c r)) := by
  cases n with
  | zero => exact absurd rfl hz
  | succ n => rfl

/-- The region's proof data: each input's buffer at its block, the outputs at what the body leaves, the scratch as above. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => (left0 V c t.val t.isLt).h
    | ⟨11, _⟩ => (left0 V c t.val t.isLt).y
  Φ t := Phi0 V c t.val (Nat.le_of_lt_succ t.isLt)
  q w := Pipeline.shareOf spec0 w
  owed _ := 0

theorem A_eq0 (c : Dev nD) (w : Fin cfg0.W) : (dat0 V c).A w = V c (Pipeline.arrRef spec0 w) := by
  dsimp only [dat0]

theorem Phi0_castSucc (c : Dev nD) (t : Fin cfg0.N) : (dat0 V c).Φ t.castSucc = Phi0 V c t.val (Nat.le_of_lt t.isLt) := by
  dsimp only [dat0]; exact Pipeline.Dat.Φ_castSucc (Phi0 V c) t

/-! What the body leaves in each window's buffer, and what an input's buffer holds before it. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = (left0 V c t.val t.isLt).h := by dsimp only [dat0]
theorem after0_11 (c : Dev nD) (t : Fin cfg0.N) : (dat0 V c).after 11 t = (left0 V c t.val t.isLt).y := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)
theorem before0_9 (c : Dev nD) (t : Fin cfg0.N) (d) : (dat0 V c).before 9 t d = iblk0 V c 9 t :=
  ((dat0 V c).before_in_eq_fetched 9 rfl (fun _ => rfl) (fun _ _ _ => rfl) (fun t => by rw [after0_9]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t)
    ∗ owns (c : Thread nD τ) (ms0_10 t) fullShare ((dat0 V c).after 10 t)
    ∗ owns (c : Thread nD τ) (ms0_11 t) fullShare ((dat0 V c).after 11 t))

set_option maxHeartbeats 4000000 in
/-- The body at any point: the run of the point's case, its pieces read back. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).owesAt () t.succ = (dat0 V c).owesAt () t.castSucc from rfl,
    after0_0, after0_1, after0_2, after0_3, after0_4, after0_5, after0_6, after0_7, after0_8, after0_9, after0_10, after0_11,
    show (dat0 V c).Φ t.succ = Phi0 V c (t.val + 1) t.isLt from rfl, Phi0_castSucc]
  rw [Phi0_pos V c (t.val + 1) t.isLt (Nat.succ_ne_zero _)]
  simp only [Nat.add_sub_cancel]
  by_cases hz : t.val = 0
  · have hk : Phi0 V c t.val (Nat.le_of_lt t.isLt) = Pipeline.ΦA spec0 c := by
      obtain ⟨n, hn⟩ := t; dsimp only at hz; subst hz; rfl
    rw [hk, ΦA0_eq, left0_A V c t hz]
    unfold leftA0; dsimp only
    iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((first0 V c t ((hcond0 t).mpr hz)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, ⟨%e11, H11⟩, ⟨%g0, HS0⟩, ⟨%g1, HS1⟩, ⟨%g2, HS2⟩⟩
    isplitl [HS0 HS1 HS2 HR Hg]
    · isplitr [Hg]
      swap; · iexact Hg
      isplitr [HR]
      swap; · iexact HR
      isplitl [HS0]; · iexists _; iexact HS0
      isplitl [HS1]; · iexists _; iexact HS1
      unfold owns; iexists _; isplitr
      swap; · iexact HS2
      ipureintro; exact View.read_writes_of_cover _ _ _ _ _ (coverA0_carry V c t _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact (hstage0_10 ((cfg0.slots t 10).cast nbuf0_10)).read_unread _
    unfold owns; iexists _; isplitr
    swap; · iexact H11
    ipureintro; exact View.read_writes_of_cover _ _ _ _ _ (coverA0_y V c t _)
  · rw [Phi0_pos V c _ _ hz, left0_B V c t hz]
    generalize left0 V c (t.val - 1) (Nat.lt_of_le_of_lt (Nat.sub_le _ _) t.isLt) = p
    unfold leftB0; dsimp only
    iintro ⟨⟨⟨⟨HS0, HS1, HS2⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((later0 V c t (fun g => hz ((hcond0 t).mp g)) p).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    isplitl [HS2]; · iexact HS2
    iintro ⟨H0, H1, H2, H3, H4, H5, H6, H7, H8, H9, H10, ⟨%e11, H11⟩, ⟨%g0, HS0⟩, ⟨%g1, HS1⟩, ⟨%g2, HS2⟩⟩
    isplitl [HS0 HS1 HS2 HR Hg]
    · isplitr [Hg]
      swap; · iexact Hg
      isplitr [HR]
      swap; · iexact HR
      isplitl [HS0]; · iexists _; iexact HS0
      isplitl [HS1]; · iexists _; iexact HS1
      unfold owns; iexists _; isplitr
      swap; · iexact HS2
      ipureintro; exact View.read_writes_of_cover _ _ _ _ _ (coverB0_carry V c t _ p)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact (hstage0_10 ((cfg0.slots t 10).cast nbuf0_10)).read_unread _
    unfold owns; iexists _; isplitr
    swap; · iexact H11
    ipureintro; exact View.read_writes_of_cover _ _ _ _ _ (coverB0_y V c t _ p)

theorem defs₀_row0 (t : Fin cfg0.N) : defs₀ (F := F) .tc cfg0.body (cfg0.bodyArgs t (cfg0.slots t)) = bodyAt0 t := by
  unfold defs₀; rw [Defs.onTc_tc]

/-- The body's obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the region is entered with is the state before the first point, -/
theorem hin0 (c : Dev nD) : Pipeline.ΦA spec0 c ⊢ (dat0 V c).Φ 0 := .rfl

/-- and after the last point the scratch is given back. -/
theorem hout0 (c : Dev nD) : (dat0 V c).Φ (Fin.last cfg0.N) ⊢ Pipeline.ΦA spec0 c := by
  rw [show (dat0 V c).Φ (Fin.last cfg0.N) = Phi0 V c cfg0.N le_rfl from rfl,
    Phi0_pos V c _ _ (by rw [show cfg0.N = 16 from N_0]; decide), ΦA0_eq]
  iintro ⟨⟨⟨HS0, HS1, HS2⟩, HR⟩, Hg⟩
  isplitr [Hg]
  swap; · iexact Hg
  isplitr [HR]
  swap; · iexact HR
  isplitl [HS0]; · iexact HS0
  isplitl [HS1]; · iexact HS1
  iexists _; iexact HS2

end Cert.Lru

end
-- ==== Proof.Lru.Loop1.lean ====
module

public import proofs.«01_k».proof.Proof.Gen.LruKernelIdeal.Launch
public import proofs.«01_k».proof.Proof.Gen.LruKernelIdeal.Skeleton
public import proofs.«01_k».proof.Proof.Gen.LruKernelIdeal.Loops
public import proofs.«01_k».proof.Proof.Gen.LruKernelIdeal.Points
public import Idealize.ShloMosaic.Lib.WholeRead
public import Idealize.ShloMosaic.Lib.WritesUnit
public import Idealize.ShloMosaic.Lib.Pipeline.ValueKit
public import Idealize.ShloMosaic.Lib.Pipeline.FrameBody
public import Idealize.ShloMosaic.Lib.Tactic
public import Idealize.ShloMosaic.Lib.WordCmp

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The backward body's loop: sixty-four groups of eight rows from the last to the first, each a short scan of its own from
   its last row up and the row carried in from the group after it. -/

section Values

variable (I : IVec S8x1024 32) (A U : Vec F S512x1024 .f32) (init : Vec F S8x1024 .f32)

/-- Eight rows of a tile: group `k`'s. -/
def rows1 (X : Vec F S512x1024 .f32) (k : Fin k1_t1_loop.trips) : Vec F S8x1024 .f32 :=
  fun y => X ((Rect.unit (s := S512x1024) (k1_off1 k) S8x1024.size (k1_off1_inb k)).toLoadRect.idx y)

/-- A group's eight rows of the state, from its decays, its inputs and the row carried in. -/
def group1 (a u h : Vec F S8x1024 .f32) : Vec F S8x1024 .f32 :=
  k1_pay60 h (k1_pay14 I a u) (k1_pay15 I a) (k1_pay16 I a) k1_pay17

/-- The row a group hands on, in all eight rows. -/
def next1 (a u h : Vec F S8x1024 .f32) : Vec F S8x1024 .f32 :=
  k1_pay61 h (k1_pay14 I a u) (k1_pay15 I a) (k1_pay16 I a) k1_pay17

/-- The row carried into group `k`. -/
def carry1 : ℕ → Vec F S8x1024 .f32
  | 0 => init
  | k + 1 => if h : k < k1_t1_loop.trips then next1 I (rows1 A ⟨k, h⟩) (rows1 U ⟨k, h⟩) (carry1 k) else carry1 k

/-- The tile's state, group by group. -/
def tile1 : Vec F S512x1024 .f32 := fun y =>
  if h : 63 - (y 0).val / 8 < k1_t1_loop.trips then
    group1 I (rows1 A ⟨63 - (y 0).val / 8, h⟩) (rows1 U ⟨63 - (y 0).val / 8, h⟩) (carry1 I A U init (63 - (y 0).val / 8))
      (ix2 ⟨(y 0).val % 8, Nat.mod_lt _ (by decide)⟩ (y 1))
  else A y

end Values

section Loop

variable (𝒱 : Variants) (c : Dev nD) (bd : Option 𝒱.V) (i : grid1.Coords) (arg1 : Memref sig .tc .vmem S512x1024 .bf16) (harg1 : arg1.IsWhole) (arg2 : Memref sig .tc .vmem S1024x1024 .bf16) (harg2 : arg2.IsWhole) (arg3 : Memref sig .tc .vmem S2x512x512 .f32) (harg3 : arg3.IsWhole) (arg4 : Memref sig .tc .vmem S2x8x512 .f32) (harg4 : arg4.IsWhole) (arg5 : Memref sig .tc .vmem S2x512x512 .f32) (harg5 : arg5.IsWhole) (arg6 : Memref sig .tc .vmem S512x1024 .f32) (harg6 : arg6.IsWhole) (arg7 : Memref sig .tc .vmem S8x1024 .f32) (harg7 : arg7.IsWhole) (arg8 : Memref sig .tc .vmem S4x256x256 .bf16) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S4x1024 .f32) (harg13 : arg13.IsWhole) (arg14 : Memref sig .tc .vmem S1x1024 .f32) (harg14 : arg14.IsWhole) (arg15 : Memref sig .tc .vmem S2x512x1024 .bf16) (harg15 : arg15.IsWhole) (arg16 : Memref sig .tc .vmem S4x256x256 .f32) (harg16 : arg16.IsWhole) (arg17 : Memref sig .tc .vmem S4x256x256 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S4x1024 .f32) (harg21 : arg21.IsWhole) (arg22 : Memref sig .tc .vmem S1x1024 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S8x1024 .f32) (harg26 : arg26.IsWhole) (arg27 : Memref sig .tc .vmem S8x1024 .f32) (harg27 : arg27.IsWhole) (arg28 : Memref sig .tc .vmem S8x1024 .f32) (harg28 : arg28.IsWhole) (v0 : BitVec 1) (v153 : FVec F S512x1024 .f32) (v178 : FVec F S512x1024 .f32) (v183 : FVec F S512x1024 .f32) (v190 : FVec F S512x1024 .f32) (v192 : FVec F S512x1024 .f32) (v201 : Vec F S8x1024 .f32) (v202 : FVec F S512x1024 .f32) (v203 : IVec S8x1024 32) (c7_i32 : BitVec 32) (v219 : IVec S8x1024 32)
  (X23 : BufTy.Contents (Elt F) arg23.view.ty) (X24 : BufTy.Contents (Elt F) arg24.view.ty)

theorem trip1_next (k : Fin k1_t1_loop.trips) (acc : Vec F S8x1024 .f32) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 k).1 acc
      = next1 v219 (rows1 (arg23.view.read (Elt F) X23) k) (rows1 (arg24.view.read (Elt F) X24) k) acc := by
  unfold trip_k1_t1; rfl

theorem trip1_rows (k : Fin k1_t1_loop.trips) (acc : Vec F S8x1024 .f32) :
    (trip_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 k).2.1 acc
      = [⟨Rect.unit (s := S512x1024) (k1_off1 k) S8x1024.size (k1_off1_inb k),
          group1 v219 (rows1 (arg23.view.read (Elt F) X23) k) (rows1 (arg24.view.read (Elt F) X24) k) acc⟩] := by
  unfold trip_k1_t1; rfl

theorem state1_carry (init : Vec F S8x1024 .f32) (k : ℕ) :
    (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 init k).1
      = carry1 v219 (arg23.view.read (Elt F) X23) (arg24.view.read (Elt F) X24) init k := by
  induction k with
  | zero => rfl
  | succ k ih =>
    rw [carry1]
    by_cases h : k < k1_t1_loop.trips
    · rw [dif_pos h, ← ih]
      have e := st_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 init ⟨k, h⟩
      dsimp only at e; rw [e]
      exact trip1_next ..
    · rw [dif_neg h, ← ih, st_k1_t1.eq_2]; unfold st_k1_t1Step; rw [dif_neg h]

theorem state1_rows (init : Vec F S8x1024 .f32) (f : BufTy.Contents (Elt F) arg25.view.ty) (k : ℕ) (hk : k ≤ 64)
    (y : S512x1024.Idx) (hy : 512 ≤ (y 0).val + 8 * k) :
    arg25.view.read (Elt F) (arg25.view.writes (Elt F) f
        (st_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 init k).2) y
      = tile1 v219 (arg23.view.read (Elt F) X23) (arg24.view.read (Elt F) X24) init y := by
  induction k with
  | zero => have : (y 0).val < 512 := (y 0).isLt; omega
  | succ k ih =>
    have h : k < k1_t1_loop.trips := by have := k1_t1_abs; show k < 64; omega
    have e := st_k1_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 init ⟨k, h⟩
    dsimp only at e; rw [e]
    simp only [trip1_rows, List.cons_append, List.nil_append]
    have hy0 : (y 0).val < 512 := (y 0).isLt
    by_cases hm : (y 0).val + 8 * k < 512
    · refine (View.read_writes_cons_rows_of_mem arg25.view f _ _ _ y
        (ix2 ⟨(y 0).val % 8, Nat.mod_lt _ (by decide)⟩ (y 1)) (k1_off1_eq ⟨k, h⟩)
        (by show (y 0).val = (504 - 8 * k) + (y 0).val % 8; omega) rfl).trans ?_
      have hq : 63 - (y 0).val / 8 = k := by omega
      unfold tile1
      rw [dif_pos (by rw [hq]; exact h), state1_carry]
      simp only [hq]; rfl
    · refine (View.read_writes_cons_rows_of_not_mem (W := 8) arg25.view f _ _ _ y (k1_off1_eq ⟨k, h⟩) rfl
        (by right; show (504 - 8 * k) + 8 ≤ (y 0).val; omega)).trans ?_
      exact ih (by omega) (by omega)

set_option warn.classDefReducibility false in
/-- What follows the loop finds the tile's state written out, and carries the last group's row. -/
instance exit1 (E : Set ℕ) (G : BufTy.Contents (Elt F) arg25.view.ty) (init : Vec F S8x1024 .f32) :
    LoopExit (loopInv_k1_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 G init) where
  post acc := iprop((arg23.view.loc (c : Thread nD τ) ↦[arg23.view.set]{fullShare} X23)
    ∗ (arg24.view.loc (c : Thread nD τ) ↦[arg24.view.set]{fullShare} X24)
    ∗ (arg25.view.loc (c : Thread nD τ) ↦[arg25.view.set]{fullShare} harg25.unread (tile1 v219 (arg23.view.read (Elt F) X23) (arg24.view.read (Elt F) X24) init))
    ∗ ⌜acc = carry1 v219 (arg23.view.read (Elt F) X23) (arg24.view.read (Elt F) X24) init 64⌝)
  exit acc := by
    show inv_k1_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 G init 64 acc ⊢ _
    iintro ⟨H23, H24, ⟨%f, H25, %hf⟩, %ha⟩
    obtain rfl : f = harg25.unread (tile1 v219 (arg23.view.read (Elt F) X23) (arg24.view.read (Elt F) X24) init) :=
      harg25.eq_unread (by
        rw [hf]; funext y
        exact state1_rows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v0 v153 v178 v183 v190 v192 v201 v202 v203 c7_i32 v219 X23 X24 init G 64 (le_refl _) y (by omega))
    isplitl [H23]; · iexact H23
    isplitl [H24]; · iexact H24
    isplitl [H25]; · iexact H25
    ipureintro; rw [ha]; exact state1_carry ..

end Loop

end Cert.Lru

end
-- ==== Proof.Lru.RunB1.lean ====
module

public import proofs.«01_k».proof.Proof.Gen.LruKernelIdeal.Launch
public import proofs.«01_k».proof.Proof.Gen.LruKernelIdeal.Skeleton
public import proofs.«01_k».proof.Proof.Gen.LruKernelIdeal.Loops
public import proofs.«01_k».proof.Proof.Gen.LruKernelIdeal.Points
public import proofs.«01_k».proof.Proof.Lru.Loop1
public import Idealize.ShloMosaic.Lib.Pipeline.FrameBody
public import Idealize.ShloMosaic.Lib.Tactic
public import Idealize.ShloMosaic.Lib.WordCmp

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The branch of the backward body: the first point of the grid, where the sums are cleared. -/
abbrev cond1 (i : grid1.Coords) : Prop := (Scalar.cmpi .ne (Scalar.extui (Scalar.cmpi .eq (BitVec.ofNat 32 (i 0).val) 0#32)) 0#32) = 1#1

set_option maxHeartbeats 4000000 in
/-- The backward body at a later point: as `run1A`, the sums and the carried scratch held at what the point before left. -/
noncomputable def run1B (c : Dev nD) (i : grid1.Coords) (arg1 : Memref sig .tc .vmem S512x1024 .bf16) (harg1 : arg1.IsWhole) (arg2 : Memref sig .tc .vmem S1024x1024 .bf16) (harg2 : arg2.IsWhole) (arg3 : Memref sig .tc .vmem S2x512x512 .f32) (harg3 : arg3.IsWhole) (arg4 : Memref sig .tc .vmem S2x8x512 .f32) (harg4 : arg4.IsWhole) (arg5 : Memref sig .tc .vmem S2x512x512 .f32) (harg5 : arg5.IsWhole) (arg6 : Memref sig .tc .vmem S512x1024 .f32) (harg6 : arg6.IsWhole) (arg7 : Memref sig .tc .vmem S8x1024 .f32) (harg7 : arg7.IsWhole) (arg8 : Memref sig .tc .vmem S4x256x256 .bf16) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S4x1024 .f32) (harg13 : arg13.IsWhole) (arg14 : Memref sig .tc .vmem S1x1024 .f32) (harg14 : arg14.IsWhole) (arg15 : Memref sig .tc .vmem S2x512x1024 .bf16) (harg15 : arg15.IsWhole) (arg16 : Memref sig .tc .vmem S4x256x256 .f32) (harg16 : arg16.IsWhole) (arg17 : Memref sig .tc .vmem S4x256x256 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S4x1024 .f32) (harg21 : arg21.IsWhole) (arg22 : Memref sig .tc .vmem S1x1024 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S8x1024 .f32) (harg26 : arg26.IsWhole) (arg27 : Memref sig .tc .vmem S8x1024 .f32) (harg27 : arg27.IsWhole) (arg28 : Memref sig .tc .vmem S8x1024 .f32) (harg28 : arg28.IsWhole)
    (hc : ¬cond1 i) (x1 : Vec F S512x1024 .bf16) (x2 : Vec F S1024x1024 .bf16) (x3 : Vec F S2x512x512 .f32) (x4 : Vec F S2x8x512 .f32) (x5 : Vec F S2x512x512 .f32) (x6 : Vec F S512x1024 .f32) (x7 : Vec F S8x1024 .f32) (x8 : Vec F S4x256x256 .bf16) (x9 : Vec F S4x256x256 .bf16) (x10 : Vec F S1x1024 .f32) (x11 : Vec F S1x1024 .f32) (x12 : Vec F S1x1024 .f32) (x13 : Vec F S4x1024 .f32) (x14 : Vec F S1x1024 .f32) (y16 : Vec F S4x256x256 .f32) (y17 : Vec F S4x256x256 .f32) (y18 : Vec F S1x1024 .f32) (y19 : Vec F S1x1024 .f32) (y20 : Vec F S1x1024 .f32) (y21 : Vec F S4x1024 .f32) (y22 : Vec F S1x1024 .f32) (y26 : Vec F S8x1024 .f32) (y27 : Vec F S8x1024 .f32) (y28 : Vec F S8x1024 .f32) :
    Σ' (L15 : List (View.Piece (Elt F) S2x512x1024 .bf16)), Σ' (L16 : List (View.Piece (Elt F) S4x256x256 .f32)), Σ' (L17 : List (View.Piece (Elt F) S4x256x256 .f32)), Σ' (L18 : List (View.Piece (Elt F) S1x1024 .f32)), Σ' (L19 : List (View.Piece (Elt F) S1x1024 .f32)), Σ' (L20 : List (View.Piece (Elt F) S1x1024 .f32)), Σ' (L21 : List (View.Piece (Elt F) S4x1024 .f32)), Σ' (L22 : List (View.Piece (Elt F) S1x1024 .f32)), Σ' (L26 : List (View.Piece (Elt F) S8x1024 .f32)), Σ' (L27 : List (View.Piece (Elt F) S8x1024 .f32)), { L28 : List (View.Piece (Elt F) S8x1024 .f32) //
      ∀ (E : Set ℕ) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ (∃ d, owns (c : Thread nD τ) arg15 fullShare d)
          ∗ owns (c : Thread nD τ) arg16 fullShare y16
          ∗ owns (c : Thread nD τ) arg17 fullShare y17
          ∗ owns (c : Thread nD τ) arg18 fullShare y18
          ∗ owns (c : Thread nD τ) arg19 fullShare y19
          ∗ owns (c : Thread nD τ) arg20 fullShare y20
          ∗ owns (c : Thread nD τ) arg21 fullShare y21
          ∗ owns (c : Thread nD τ) arg22 fullShare y22
          ∗ (∃ d, owns (c : Thread nD τ) arg23 fullShare d)
          ∗ (∃ d, owns (c : Thread nD τ) arg24 fullShare d)
          ∗ (∃ d, owns (c : Thread nD τ) arg25 fullShare d)
          ∗ owns (c : Thread nD τ) arg26 fullShare y26
          ∗ owns (c : Thread nD τ) arg27 fullShare y27
          ∗ owns (c : Thread nD τ) arg28 fullShare y28
          ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ (∃ f, arg15.view.loc (c : Thread nD τ) ↦[arg15.view.set]{fullShare} arg15.view.writes (Elt F) f L15)
          ∗ (∃ f, arg16.view.loc (c : Thread nD τ) ↦[arg16.view.set]{fullShare} arg16.view.writes (Elt F) f L16)
          ∗ (∃ f, arg17.view.loc (c : Thread nD τ) ↦[arg17.view.set]{fullShare} arg17.view.writes (Elt F) f L17)
          ∗ (∃ f, arg18.view.loc (c : Thread nD τ) ↦[arg18.view.set]{fullShare} arg18.view.writes (Elt F) f L18)
          ∗ (∃ f, arg19.view.loc (c : Thread nD τ) ↦[arg19.view.set]{fullShare} arg19.view.writes (Elt F) f L19)
          ∗ (∃ f, arg20.view.loc (c : Thread nD τ) ↦[arg20.view.set]{fullShare} arg20.view.writes (Elt F) f L20)
          ∗ (∃ f, arg21.view.loc (c : Thread nD τ) ↦[arg21.view.set]{fullShare} arg21.view.writes (Elt F) f L21)
          ∗ (∃ f, arg22.view.loc (c : Thread nD τ) ↦[arg22.view.set]{fullShare} arg22.view.writes (Elt F) f L22)
          ∗ (∃ d, owns (c : Thread nD τ) arg23 fullShare d)
          ∗ (∃ d, owns (c : Thread nD τ) arg24 fullShare d)
          ∗ (∃ d, owns (c : Thread nD τ) arg25 fullShare d)
          ∗ (∃ f, arg26.view.loc (c : Thread nD τ) ↦[arg26.view.set]{fullShare} arg26.view.writes (Elt F) f L26)
          ∗ (∃ f, arg27.view.loc (c : Thread nD τ) ↦[arg27.view.set]{fullShare} arg27.view.writes (Elt F) f L27)
          ∗ (∃ f, arg28.view.loc (c : Thread nD τ) ↦[arg28.view.set]{fullShare} arg28.view.writes (Elt F) f L28)) -∗ K ⟨⟩))
          ⊢ wp frame (wpE (defs₀ (F := F)) Variants.none c none) E (cc1_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, fun E K => ?run⟩
  case run =>
    simp only [cc1_lru_bwd_eq_skeleton]; unfold cc1_lru_bwd_skel
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%d25, %f25, -, H25⟩, ⟨%f26, %hf26, H26⟩, ⟨%f27, %hf27, H27⟩, ⟨%f28, %hf28, H28⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg26.eq_unread hf26; obtain rfl := harg27.eq_unread hf27; obtain rfl := harg28.eq_unread hf28
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    isplitl [H21]
    · iexists _; iexact H21
    isplitl [H22]
    · iexists _; iexact H22
    isplitl [HL0]
    · iexists _, _; isplitr; swap; · iexact HL0
      ipureintro; rfl
    isplitl [HL1]
    · iexists _, _; isplitr; swap; · iexact HL1
      ipureintro; rfl
    isplitl [HL2]
    · iexists _, _; isplitr; swap; · iexact HL2
      ipureintro; rfl
    isplitl [H26]
    · iexists _; iexact H26
    isplitl [H27]
    · iexists _; iexact H27
    iexists _; iexact H28

end Cert.Lru

end
-- ==== Proof.Lru.RunA1.lean ====
module

public import proofs.«01_k».proof.Proof.Gen.LruKernelIdeal.Launch
public import proofs.«01_k».proof.Proof.Gen.LruKernelIdeal.Skeleton
public import proofs.«01_k».proof.Proof.Gen.LruKernelIdeal.Loops
public import proofs.«01_k».proof.Proof.Gen.LruKernelIdeal.Points
public import proofs.«01_k».proof.Proof.Lru.RunB1
public import Idealize.ShloMosaic.Lib.Pipeline.FrameBody
public import Idealize.ShloMosaic.Lib.Tactic
public import Idealize.ShloMosaic.Lib.WordCmp

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The backward body at the first point: on whole memrefs, the inputs at their contents and everything else at anything, it
    runs to the end and leaves the inputs as they were and the found pieces written over each output and each carried scratch. -/
noncomputable def run1A (c : Dev nD) (i : grid1.Coords) (arg1 : Memref sig .tc .vmem S512x1024 .bf16) (harg1 : arg1.IsWhole) (arg2 : Memref sig .tc .vmem S1024x1024 .bf16) (harg2 : arg2.IsWhole) (arg3 : Memref sig .tc .vmem S2x512x512 .f32) (harg3 : arg3.IsWhole) (arg4 : Memref sig .tc .vmem S2x8x512 .f32) (harg4 : arg4.IsWhole) (arg5 : Memref sig .tc .vmem S2x512x512 .f32) (harg5 : arg5.IsWhole) (arg6 : Memref sig .tc .vmem S512x1024 .f32) (harg6 : arg6.IsWhole) (arg7 : Memref sig .tc .vmem S8x1024 .f32) (harg7 : arg7.IsWhole) (arg8 : Memref sig .tc .vmem S4x256x256 .bf16) (harg8 : arg8.IsWhole) (arg9 : Memref sig .tc .vmem S4x256x256 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S4x1024 .f32) (harg13 : arg13.IsWhole) (arg14 : Memref sig .tc .vmem S1x1024 .f32) (harg14 : arg14.IsWhole) (arg15 : Memref sig .tc .vmem S2x512x1024 .bf16) (harg15 : arg15.IsWhole) (arg16 : Memref sig .tc .vmem S4x256x256 .f32) (harg16 : arg16.IsWhole) (arg17 : Memref sig .tc .vmem S4x256x256 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S4x1024 .f32) (harg21 : arg21.IsWhole) (arg22 : Memref sig .tc .vmem S1x1024 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S512x1024 .f32) (harg25 : arg25.IsWhole) (arg26 : Memref sig .tc .vmem S8x1024 .f32) (harg26 : arg26.IsWhole) (arg27 : Memref sig .tc .vmem S8x1024 .f32) (harg27 : arg27.IsWhole) (arg28 : Memref sig .tc .vmem S8x1024 .f32) (harg28 : arg28.IsWhole)
    (hc : cond1 i) (x1 : Vec F S512x1024 .bf16) (x2 : Vec F S1024x1024 .bf16) (x3 : Vec F S2x512x512 .f32) (x4 : Vec F S2x8x512 .f32) (x5 : Vec F S2x512x512 .f32) (x6 : Vec F S512x1024 .f32) (x7 : Vec F S8x1024 .f32) (x8 : Vec F S4x256x256 .bf16) (x9 : Vec F S4x256x256 .bf16) (x10 : Vec F S1x1024 .f32) (x11 : Vec F S1x1024 .f32) (x12 : Vec F S1x1024 .f32) (x13 : Vec F S4x1024 .f32) (x14 : Vec F S1x1024 .f32)  :
    Σ' (L15 : List (View.Piece (Elt F) S2x512x1024 .bf16)), Σ' (L16 : List (View.Piece (Elt F) S4x256x256 .f32)), Σ' (L17 : List (View.Piece (Elt F) S4x256x256 .f32)), Σ' (L18 : List (View.Piece (Elt F) S1x1024 .f32)), Σ' (L19 : List (View.Piece (Elt F) S1x1024 .f32)), Σ' (L20 : List (View.Piece (Elt F) S1x1024 .f32)), Σ' (L21 : List (View.Piece (Elt F) S4x1024 .f32)), Σ' (L22 : List (View.Piece (Elt F) S1x1024 .f32)), Σ' (L26 : List (View.Piece (Elt F) S8x1024 .f32)), Σ' (L27 : List (View.Piece (Elt F) S8x1024 .f32)), { L28 : List (View.Piece (Elt F) S8x1024 .f32) //
      ∀ (E : Set ℕ) (K : PUnit → sProp 𝕄),
        iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ (∃ d, owns (c : Thread nD τ) arg15 fullShare d)
          ∗ (∃ d, owns (c : Thread nD τ) arg16 fullShare d)
          ∗ (∃ d, owns (c : Thread nD τ) arg17 fullShare d)
          ∗ (∃ d, owns (c : Thread nD τ) arg18 fullShare d)
          ∗ (∃ d, owns (c : Thread nD τ) arg19 fullShare d)
          ∗ (∃ d, owns (c : Thread nD τ) arg20 fullShare d)
          ∗ (∃ d, owns (c : Thread nD τ) arg21 fullShare d)
          ∗ (∃ d, owns (c : Thread nD τ) arg22 fullShare d)
          ∗ (∃ d, owns (c : Thread nD τ) arg23 fullShare d)
          ∗ (∃ d, owns (c : Thread nD τ) arg24 fullShare d)
          ∗ (∃ d, owns (c : Thread nD τ) arg25 fullShare d)
          ∗ (∃ d, owns (c : Thread nD τ) arg26 fullShare d)
          ∗ (∃ d, owns (c : Thread nD τ) arg27 fullShare d)
          ∗ (∃ d, owns (c : Thread nD τ) arg28 fullShare d)
          ∗ (iprop(owns (c : Thread nD τ) arg1 fullShare x1
          ∗ owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare x9
          ∗ owns (c : Thread nD τ) arg10 fullShare x10
          ∗ owns (c : Thread nD τ) arg11 fullShare x11
          ∗ owns (c : Thread nD τ) arg12 fullShare x12
          ∗ owns (c : Thread nD τ) arg13 fullShare x13
          ∗ owns (c : Thread nD τ) arg14 fullShare x14
          ∗ (∃ f, arg15.view.loc (c : Thread nD τ) ↦[arg15.view.set]{fullShare} arg15.view.writes (Elt F) f L15)
          ∗ (∃ f, arg16.view.loc (c : Thread nD τ) ↦[arg16.view.set]{fullShare} arg16.view.writes (Elt F) f L16)
          ∗ (∃ f, arg17.view.loc (c : Thread nD τ) ↦[arg17.view.set]{fullShare} arg17.view.writes (Elt F) f L17)
          ∗ (∃ f, arg18.view.loc (c : Thread nD τ) ↦[arg18.view.set]{fullShare} arg18.view.writes (Elt F) f L18)
          ∗ (∃ f, arg19.view.loc (c : Thread nD τ) ↦[arg19.view.set]{fullShare} arg19.view.writes (Elt F) f L19)
          ∗ (∃ f, arg20.view.loc (c : Thread nD τ) ↦[arg20.view.set]{fullShare} arg20.view.writes (Elt F) f L20)
          ∗ (∃ f, arg21.view.loc (c : Thread nD τ) ↦[arg21.view.set]{fullShare} arg21.view.writes (Elt F) f L21)
          ∗ (∃ f, arg22.view.loc (c : Thread nD τ) ↦[arg22.view.set]{fullShare} arg22.view.writes (Elt F) f L22)
          ∗ (∃ d, owns (c : Thread nD τ) arg23 fullShare d)
          ∗ (∃ d, owns (c : Thread nD τ) arg24 fullShare d)
          ∗ (∃ d, owns (c : Thread nD τ) arg25 fullShare d)
          ∗ (∃ f, arg26.view.loc (c : Thread nD τ) ↦[arg26.view.set]{fullShare} arg26.view.writes (Elt F) f L26)
          ∗ (∃ f, arg27.view.loc (c : Thread nD τ) ↦[arg27.view.set]{fullShare} arg27.view.writes (Elt F) f L27)
          ∗ (∃ f, arg28.view.loc (c : Thread nD τ) ↦[arg28.view.set]{fullShare} arg28.view.writes (Elt F) f L28)) -∗ K ⟨⟩))
          ⊢ wp frame (wpE (defs₀ (F := F)) Variants.none c none) E (cc1_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, fun E K => ?run⟩
  case run =>
    simp only [cc1_lru_bwd_eq_skeleton]; unfold cc1_lru_bwd_skel
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _; iexact H16
    isplitl [H17]
    · iexists _; iexact H17
    isplitl [H18]
    · iexists _; iexact H18
    isplitl [H19]
    · iexists _; iexact H19
    isplitl [H20]
    · iexists _; iexact H20
    isplitl [H21]
    · iexists _; iexact H21
    isplitl [H22]
    · iexists _; iexact H22
    isplitl [HL0]
    · iexists _, _; isplitr; swap; · iexact HL0
      ipureintro; rfl
    isplitl [HL1]
    · iexists _, _; isplitr; swap; · iexact HL1
      ipureintro; rfl
    isplitl [HL2]
    · iexists _, _; isplitr; swap; · iexact HL2
      ipureintro; rfl
    isplitl [H26]
    · iexists _; iexact H26
    isplitl [H27]
    · iexists _; iexact H27
    iexists _; iexact H28

end Cert.Lru

end
-- ==== Proof.Lru.Data1.lean ====
module

public import proofs.«01_k».proof.Proof.Lru.RunA1
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What one point of the backward body leaves: its outputs' staging buffers and the scratch it carries on. -/
structure Left1 (F : FTy → Type) where
  dp : Vec F S2x512x1024 .bf16
  dwa : Vec F S4x256x256 .f32
  dwx : Vec F S4x256x256 .f32
  dba : Vec F S1x1024 .f32
  dbx : Vec F S1x1024 .f32
  dsp : Vec F S1x1024 .f32
  dcw : Vec F S4x1024 .f32
  dcb : Vec F S1x1024 .f32
  dhc : Vec F S8x1024 .f32
  afirst : Vec F S8x1024 .f32
  dxc : Vec F S8x1024 .f32

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The branch is taken at the first point only. -/
theorem hcond1 (t : Fin cfg1.N) : cond1 (grid1.coords t) ↔ t.val = 0 := by
  have ht : t.val < 16 := Nat.lt_of_lt_of_eq t.isLt N_1
  have e0 : (grid1.coords t 0).val = t.val / 1 % 16 := Pipeline.Grid.coords_val t 0 (by decide) rfl
  simp only [cond1, e0]
  word_cmp

abbrev sc1_0 : Memref sig .tc .vmem S512x1024 .f32 := Memref.whole cc1_scratch0
abbrev sc1_1 : Memref sig .tc .vmem S512x1024 .f32 := Memref.whole cc1_scratch1
abbrev sc1_2 : Memref sig .tc .vmem S512x1024 .f32 := Memref.whole cc1_scratch2
abbrev sc1_3 : Memref sig .tc .vmem S8x1024 .f32 := Memref.whole cc1_scratch3
abbrev sc1_4 : Memref sig .tc .vmem S8x1024 .f32 := Memref.whole cc1_scratch4
abbrev sc1_5 : Memref sig .tc .vmem S8x1024 .f32 := Memref.whole cc1_scratch5
abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)
abbrev ms1_7 (t : Fin cfg1.N) := win1_7.stage (cfg1.slots t 7)
abbrev ms1_8 (t : Fin cfg1.N) := win1_8.stage (cfg1.slots t 8)
abbrev ms1_9 (t : Fin cfg1.N) := win1_9.stage (cfg1.slots t 9)
abbrev ms1_10 (t : Fin cfg1.N) := win1_10.stage (cfg1.slots t 10)
abbrev ms1_11 (t : Fin cfg1.N) := win1_11.stage (cfg1.slots t 11)
abbrev ms1_12 (t : Fin cfg1.N) := win1_12.stage (cfg1.slots t 12)
abbrev ms1_13 (t : Fin cfg1.N) := win1_13.stage (cfg1.slots t 13)
abbrev ms1_14 (t : Fin cfg1.N) := win1_14.stage (cfg1.slots t 14)
abbrev ms1_15 (t : Fin cfg1.N) := win1_15.stage (cfg1.slots t 15)
abbrev ms1_16 (t : Fin cfg1.N) := win1_16.stage (cfg1.slots t 16)
abbrev ms1_17 (t : Fin cfg1.N) := win1_17.stage (cfg1.slots t 17)
abbrev ms1_18 (t : Fin cfg1.N) := win1_18.stage (cfg1.slots t 18)
abbrev ms1_19 (t : Fin cfg1.N) := win1_19.stage (cfg1.slots t 19)
abbrev ms1_20 (t : Fin cfg1.N) := win1_20.stage (cfg1.slots t 20)
abbrev ms1_21 (t : Fin cfg1.N) := win1_21.stage (cfg1.slots t 21)

/-- The body's run at the first point, on the point's staging buffers and input blocks. -/
def first1 (c : Dev nD) (t : Fin cfg1.N) (h : cond1 (grid1.coords t)) :=
  run1A c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) (ms1_5 t) (hstage1_5 ((cfg1.slots t 5).cast nbuf1_5)) (ms1_6 t) (hstage1_6 ((cfg1.slots t 6).cast nbuf1_6)) (ms1_7 t) (hstage1_7 ((cfg1.slots t 7).cast nbuf1_7)) (ms1_8 t) (hstage1_8 ((cfg1.slots t 8).cast nbuf1_8)) (ms1_9 t) (hstage1_9 ((cfg1.slots t 9).cast nbuf1_9)) (ms1_10 t) (hstage1_10 ((cfg1.slots t 10).cast nbuf1_10)) (ms1_11 t) (hstage1_11 ((cfg1.slots t 11).cast nbuf1_11)) (ms1_12 t) (hstage1_12 ((cfg1.slots t 12).cast nbuf1_12)) (ms1_13 t) (hstage1_13 ((cfg1.slots t 13).cast nbuf1_13)) (ms1_14 t) (hstage1_14 ((cfg1.slots t 14).cast nbuf1_14)) (ms1_15 t) (hstage1_15 ((cfg1.slots t 15).cast nbuf1_15)) (ms1_16 t) (hstage1_16 ((cfg1.slots t 16).cast nbuf1_16)) (ms1_17 t) (hstage1_17 ((cfg1.slots t 17).cast nbuf1_17)) (ms1_18 t) (hstage1_18 ((cfg1.slots t 18).cast nbuf1_18)) (ms1_19 t) (hstage1_19 ((cfg1.slots t 19).cast nbuf1_19)) (ms1_20 t) (hstage1_20 ((cfg1.slots t 20).cast nbuf1_20)) (ms1_21 t) (hstage1_21 ((cfg1.slots t 21).cast nbuf1_21)) sc1_0 (Memref.isWhole_whole _) sc1_1 (Memref.isWhole_whole _) sc1_2 (Memref.isWhole_whole _) sc1_3 (Memref.isWhole_whole _) sc1_4 (Memref.isWhole_whole _) sc1_5 (Memref.isWhole_whole _) h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)

/-- The body's run at a later point, over what the point before left. -/
def later1 (c : Dev nD) (t : Fin cfg1.N) (h : ¬cond1 (grid1.coords t)) (p : Left1 F) :=
  run1B c (grid1.coords t) (ms1_0 t) (hstage1_0 ((cfg1.slots t 0).cast nbuf1_0)) (ms1_1 t) (hstage1_1 ((cfg1.slots t 1).cast nbuf1_1)) (ms1_2 t) (hstage1_2 ((cfg1.slots t 2).cast nbuf1_2)) (ms1_3 t) (hstage1_3 ((cfg1.slots t 3).cast nbuf1_3)) (ms1_4 t) (hstage1_4 ((cfg1.slots t 4).cast nbuf1_4)) (ms1_5 t) (hstage1_5 ((cfg1.slots t 5).cast nbuf1_5)) (ms1_6 t) (hstage1_6 ((cfg1.slots t 6).cast nbuf1_6)) (ms1_7 t) (hstage1_7 ((cfg1.slots t 7).cast nbuf1_7)) (ms1_8 t) (hstage1_8 ((cfg1.slots t 8).cast nbuf1_8)) (ms1_9 t) (hstage1_9 ((cfg1.slots t 9).cast nbuf1_9)) (ms1_10 t) (hstage1_10 ((cfg1.slots t 10).cast nbuf1_10)) (ms1_11 t) (hstage1_11 ((cfg1.slots t 11).cast nbuf1_11)) (ms1_12 t) (hstage1_12 ((cfg1.slots t 12).cast nbuf1_12)) (ms1_13 t) (hstage1_13 ((cfg1.slots t 13).cast nbuf1_13)) (ms1_14 t) (hstage1_14 ((cfg1.slots t 14).cast nbuf1_14)) (ms1_15 t) (hstage1_15 ((cfg1.slots t 15).cast nbuf1_15)) (ms1_16 t) (hstage1_16 ((cfg1.slots t 16).cast nbuf1_16)) (ms1_17 t) (hstage1_17 ((cfg1.slots t 17).cast nbuf1_17)) (ms1_18 t) (hstage1_18 ((cfg1.slots t 18).cast nbuf1_18)) (ms1_19 t) (hstage1_19 ((cfg1.slots t 19).cast nbuf1_19)) (ms1_20 t) (hstage1_20 ((cfg1.slots t 20).cast nbuf1_20)) (ms1_21 t) (hstage1_21 ((cfg1.slots t 21).cast nbuf1_21)) sc1_0 (Memref.isWhole_whole _) sc1_1 (Memref.isWhole_whole _) sc1_2 (Memref.isWhole_whole _) sc1_3 (Memref.isWhole_whole _) sc1_4 (Memref.isWhole_whole _) sc1_5 (Memref.isWhole_whole _) h (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) p.dwa p.dwx p.dba p.dbx p.dsp p.dcw p.dcb p.dhc p.afirst p.dxc

/-! The view each of them is read back through; which of its buffers is on makes no difference. -/
abbrev view1_dp : View sig .tc .vmem S2x512x1024 .bf16 := (Memref.whole cc1_stg14_0 : Memref sig .tc .vmem S2x512x1024 .bf16).view
abbrev view1_dwa : View sig .tc .vmem S4x256x256 .f32 := (Memref.whole cc1_stg15_0 : Memref sig .tc .vmem S4x256x256 .f32).view
abbrev view1_dwx : View sig .tc .vmem S4x256x256 .f32 := (Memref.whole cc1_stg16_0 : Memref sig .tc .vmem S4x256x256 .f32).view
abbrev view1_dba : View sig .tc .vmem S1x1024 .f32 := (Memref.whole cc1_stg17_0 : Memref sig .tc .vmem S1x1024 .f32).view
abbrev view1_dbx : View sig .tc .vmem S1x1024 .f32 := (Memref.whole cc1_stg18_0 : Memref sig .tc .vmem S1x1024 .f32).view
abbrev view1_dsp : View sig .tc .vmem S1x1024 .f32 := (Memref.whole cc1_stg19_0 : Memref sig .tc .vmem S1x1024 .f32).view
abbrev view1_dcw : View sig .tc .vmem S4x1024 .f32 := (Memref.whole cc1_stg20_0 : Memref sig .tc .vmem S4x1024 .f32).view
abbrev view1_dcb : View sig .tc .vmem S1x1024 .f32 := (Memref.whole cc1_stg21_0 : Memref sig .tc .vmem S1x1024 .f32).view
abbrev view1_dhc : View sig .tc .vmem S8x1024 .f32 := (sc1_3 : Memref sig .tc .vmem S8x1024 .f32).view
abbrev view1_afirst : View sig .tc .vmem S8x1024 .f32 := (sc1_4 : Memref sig .tc .vmem S8x1024 .f32).view
abbrev view1_dxc : View sig .tc .vmem S8x1024 .f32 := (sc1_5 : Memref sig .tc .vmem S8x1024 .f32).view

/-- What the first point leaves. -/
def leftA1 (c : Dev nD) (t : Fin cfg1.N) (h : cond1 (grid1.coords t)) : Left1 F where
  dp := view1_dp.read (Elt F) (view1_dp.writes (Elt F) view1_dp.junk (first1 V c t h).1)
  dwa := view1_dwa.read (Elt F) (view1_dwa.writes (Elt F) view1_dwa.junk (first1 V c t h).2.1)
  dwx := view1_dwx.read (Elt F) (view1_dwx.writes (Elt F) view1_dwx.junk (first1 V c t h).2.2.1)
  dba := view1_dba.read (Elt F) (view1_dba.writes (Elt F) view1_dba.junk (first1 V c t h).2.2.2.1)
  dbx := view1_dbx.read (Elt F) (view1_dbx.writes (Elt F) view1_dbx.junk (first1 V c t h).2.2.2.2.1)
  dsp := view1_dsp.read (Elt F) (view1_dsp.writes (Elt F) view1_dsp.junk (first1 V c t h).2.2.2.2.2.1)
  dcw := view1_dcw.read (Elt F) (view1_dcw.writes (Elt F) view1_dcw.junk (first1 V c t h).2.2.2.2.2.2.1)
  dcb := view1_dcb.read (Elt F) (view1_dcb.writes (Elt F) view1_dcb.junk (first1 V c t h).2.2.2.2.2.2.2.1)
  dhc := view1_dhc.read (Elt F) (view1_dhc.writes (Elt F) view1_dhc.junk (first1 V c t h).2.2.2.2.2.2.2.2.1)
  afirst := view1_afirst.read (Elt F) (view1_afirst.writes (Elt F) view1_afirst.junk (first1 V c t h).2.2.2.2.2.2.2.2.2.1)
  dxc := view1_dxc.read (Elt F) (view1_dxc.writes (Elt F) view1_dxc.junk (first1 V c t h).2.2.2.2.2.2.2.2.2.2.1)

/-- What a later point leaves, over what the point before left. -/
def leftB1 (c : Dev nD) (t : Fin cfg1.N) (h : ¬cond1 (grid1.coords t)) (p : Left1 F) : Left1 F where
  dp := view1_dp.read (Elt F) (view1_dp.writes (Elt F) view1_dp.junk (later1 V c t h p).1)
  dwa := view1_dwa.read (Elt F) (view1_dwa.writes (Elt F) view1_dwa.junk (later1 V c t h p).2.1)
  dwx := view1_dwx.read (Elt F) (view1_dwx.writes (Elt F) view1_dwx.junk (later1 V c t h p).2.2.1)
  dba := view1_dba.read (Elt F) (view1_dba.writes (Elt F) view1_dba.junk (later1 V c t h p).2.2.2.1)
  dbx := view1_dbx.read (Elt F) (view1_dbx.writes (Elt F) view1_dbx.junk (later1 V c t h p).2.2.2.2.1)
  dsp := view1_dsp.read (Elt F) (view1_dsp.writes (Elt F) view1_dsp.junk (later1 V c t h p).2.2.2.2.2.1)
  dcw := view1_dcw.read (Elt F) (view1_dcw.writes (Elt F) view1_dcw.junk (later1 V c t h p).2.2.2.2.2.2.1)
  dcb := view1_dcb.read (Elt F) (view1_dcb.writes (Elt F) view1_dcb.junk (later1 V c t h p).2.2.2.2.2.2.2.1)
  dhc := view1_dhc.read (Elt F) (view1_dhc.writes (Elt F) view1_dhc.junk (later1 V c t h p).2.2.2.2.2.2.2.2.1)
  afirst := view1_afirst.read (Elt F) (view1_afirst.writes (Elt F) view1_afirst.junk (later1 V c t h p).2.2.2.2.2.2.2.2.2.1)
  dxc := view1_dxc.read (Elt F) (view1_dxc.writes (Elt F) view1_dxc.junk (later1 V c t h p).2.2.2.2.2.2.2.2.2.2.1)

/-! Each list of pieces covers its buffer. -/
theorem coverA1_dp (c : Dev nD) (t : Fin cfg1.N) (h : cond1 (grid1.coords t)) (y : S2x512x1024.Idx) :
    ∃ p ∈ (first1 V c t h).1, y ∈ p.1.set := View.cover_of_tiledL (s := S2x512x1024) _ ![1, 512, 1024] (by sl_kernel_rfl) y
theorem coverB1_dp (c : Dev nD) (t : Fin cfg1.N) (h : ¬cond1 (grid1.coords t)) (p : Left1 F) (y : S2x512x1024.Idx) :
    ∃ q ∈ (later1 V c t h p).1, y ∈ q.1.set := View.cover_of_tiledL (s := S2x512x1024) _ ![1, 512, 1024] (by sl_kernel_rfl) y
theorem coverA1_dwa (c : Dev nD) (t : Fin cfg1.N) (h : cond1 (grid1.coords t)) (y : S4x256x256.Idx) :
    ∃ p ∈ (first1 V c t h).2.1, y ∈ p.1.set := View.cover_of_tiledL (s := S4x256x256) _ ![1, 256, 256] (by sl_kernel_rfl) y
theorem coverB1_dwa (c : Dev nD) (t : Fin cfg1.N) (h : ¬cond1 (grid1.coords t)) (p : Left1 F) (y : S4x256x256.Idx) :
    ∃ q ∈ (later1 V c t h p).2.1, y ∈ q.1.set := View.cover_of_tiledL (s := S4x256x256) _ ![1, 256, 256] (by sl_kernel_rfl) y
theorem coverA1_dwx (c : Dev nD) (t : Fin cfg1.N) (h : cond1 (grid1.coords t)) (y : S4x256x256.Idx) :
    ∃ p ∈ (first1 V c t h).2.2.1, y ∈ p.1.set := View.cover_of_tiledL (s := S4x256x256) _ ![1, 256, 256] (by sl_kernel_rfl) y
theorem coverB1_dwx (c : Dev nD) (t : Fin cfg1.N) (h : ¬cond1 (grid1.coords t)) (p : Left1 F) (y : S4x256x256.Idx) :
    ∃ q ∈ (later1 V c t h p).2.2.1, y ∈ q.1.set := View.cover_of_tiledL (s := S4x256x256) _ ![1, 256, 256] (by sl_kernel_rfl) y
theorem coverA1_dba (c : Dev nD) (t : Fin cfg1.N) (h : cond1 (grid1.coords t)) (y : S1x1024.Idx) :
    ∃ p ∈ (first1 V c t h).2.2.2.1, y ∈ p.1.set := View.cover_of_tiledL (s := S1x1024) _ ![1, 1024] (by sl_kernel_rfl) y
theorem coverB1_dba (c : Dev nD) (t : Fin cfg1.N) (h : ¬cond1 (grid1.coords t)) (p : Left1 F) (y : S1x1024.Idx) :
    ∃ q ∈ (later1 V c t h p).2.2.2.1, y ∈ q.1.set := View.cover_of_tiledL (s := S1x1024) _ ![1, 1024] (by sl_kernel_rfl) y
theorem coverA1_dbx (c : Dev nD) (t : Fin cfg1.N) (h : cond1 (grid1.coords t)) (y : S1x1024.Idx) :
    ∃ p ∈ (first1 V c t h).2.2.2.2.1, y ∈ p.1.set := View.cover_of_tiledL (s := S1x1024) _ ![1, 1024] (by sl_kernel_rfl) y
theorem coverB1_dbx (c : Dev nD) (t : Fin cfg1.N) (h : ¬cond1 (grid1.coords t)) (p : Left1 F) (y : S1x1024.Idx) :
    ∃ q ∈ (later1 V c t h p).2.2.2.2.1, y ∈ q.1.set := View.cover_of_tiledL (s := S1x1024) _ ![1, 1024] (by sl_kernel_rfl) y
theorem coverA1_dsp (c : Dev nD) (t : Fin cfg1.N) (h : cond1 (grid1.coords t)) (y : S1x1024.Idx) :
    ∃ p ∈ (first1 V c t h).2.2.2.2.2.1, y ∈ p.1.set := View.cover_of_tiledL (s := S1x1024) _ ![1, 1024] (by sl_kernel_rfl) y
theorem coverB1_dsp (c : Dev nD) (t : Fin cfg1.N) (h : ¬cond1 (grid1.coords t)) (p : Left1 F) (y : S1x1024.Idx) :
    ∃ q ∈ (later1 V c t h p).2.2.2.2.2.1, y ∈ q.1.set := View.cover_of_tiledL (s := S1x1024) _ ![1, 1024] (by sl_kernel_rfl) y
theorem coverA1_dcw (c : Dev nD) (t : Fin cfg1.N) (h : cond1 (grid1.coords t)) (y : S4x1024.Idx) :
    ∃ p ∈ (first1 V c t h).2.2.2.2.2.2.1, y ∈ p.1.set := View.cover_of_tiledL (s := S4x1024) _ ![1, 1024] (by sl_kernel_rfl) y
theorem coverB1_dcw (c : Dev nD) (t : Fin cfg1.N) (h : ¬cond1 (grid1.coords t)) (p : Left1 F) (y : S4x1024.Idx) :
    ∃ q ∈ (later1 V c t h p).2.2.2.2.2.2.1, y ∈ q.1.set := View.cover_of_tiledL (s := S4x1024) _ ![1, 1024] (by sl_kernel_rfl) y
theorem coverA1_dcb (c : Dev nD) (t : Fin cfg1.N) (h : cond1 (grid1.coords t)) (y : S1x1024.Idx) :
    ∃ p ∈ (first1 V c t h).2.2.2.2.2.2.2.1, y ∈ p.1.set := View.cover_of_tiledL (s := S1x1024) _ ![1, 1024] (by sl_kernel_rfl) y
theorem coverB1_dcb (c : Dev nD) (t : Fin cfg1.N) (h : ¬cond1 (grid1.coords t)) (p : Left1 F) (y : S1x1024.Idx) :
    ∃ q ∈ (later1 V c t h p).2.2.2.2.2.2.2.1, y ∈ q.1.set := View.cover_of_tiledL (s := S1x1024) _ ![1, 1024] (by sl_kernel_rfl) y
theorem coverA1_dhc (c : Dev nD) (t : Fin cfg1.N) (h : cond1 (grid1.coords t)) (y : S8x1024.Idx) :
    ∃ p ∈ (first1 V c t h).2.2.2.2.2.2.2.2.1, y ∈ p.1.set := View.cover_of_tiledL (s := S8x1024) _ ![8, 1024] (by sl_kernel_rfl) y
theorem coverB1_dhc (c : Dev nD) (t : Fin cfg1.N) (h : ¬cond1 (grid1.coords t)) (p : Left1 F) (y : S8x1024.Idx) :
    ∃ q ∈ (later1 V c t h p).2.2.2.2.2.2.2.2.1, y ∈ q.1.set := View.cover_of_tiledL (s := S8x1024) _ ![8, 1024] (by sl_kernel_rfl) y
theorem coverA1_afirst (c : Dev nD) (t : Fin cfg1.N) (h : cond1 (grid1.coords t)) (y : S8x1024.Idx) :
    ∃ p ∈ (first1 V c t h).2.2.2.2.2.2.2.2.2.1, y ∈ p.1.set := View.cover_of_tiledL (s := S8x1024) _ ![8, 1024] (by sl_kernel_rfl) y
theorem coverB1_afirst (c : Dev nD) (t : Fin cfg1.N) (h : ¬cond1 (grid1.coords t)) (p : Left1 F) (y : S8x1024.Idx) :
    ∃ q ∈ (later1 V c t h p).2.2.2.2.2.2.2.2.2.1, y ∈ q.1.set := View.cover_of_tiledL (s := S8x1024) _ ![8, 1024] (by sl_kernel_rfl) y
theorem coverA1_dxc (c : Dev nD) (t : Fin cfg1.N) (h : cond1 (grid1.coords t)) (y : S8x1024.Idx) :
    ∃ p ∈ (first1 V c t h).2.2.2.2.2.2.2.2.2.2.1, y ∈ p.1.set := View.cover_of_tiledL (s := S8x1024) _ ![8, 1024] (by sl_kernel_rfl) y
theorem coverB1_dxc (c : Dev nD) (t : Fin cfg1.N) (h : ¬cond1 (grid1.coords t)) (p : Left1 F) (y : S8x1024.Idx) :
    ∃ q ∈ (later1 V c t h p).2.2.2.2.2.2.2.2.2.2.1, y ∈ q.1.set := View.cover_of_tiledL (s := S8x1024) _ ![8, 1024] (by sl_kernel_rfl) y

/-- What the points up to `n` leave. -/
def left1 (c : Dev nD) : (n : ℕ) → n < cfg1.N → Left1 F
  | 0, hn => leftA1 V c ⟨0, hn⟩ ((hcond1 _).mpr rfl)
  | n + 1, hn => leftB1 V c ⟨n + 1, hn⟩ (fun h => Nat.succ_ne_zero n ((hcond1 _).mp h)) (left1 c n (Nat.lt_of_succ_lt hn))

theorem left1_A (c : Dev nD) (t : Fin cfg1.N) (h : t.val = 0) : left1 V c t.val t.isLt = leftA1 V c t ((hcond1 t).mpr h) := by
  obtain ⟨n, hn⟩ := t
  cases n with
  | zero => rfl
  | succ n => exact absurd h (Nat.succ_ne_zero n)

theorem left1_B (c : Dev nD) (t : Fin cfg1.N) (h : ¬t.val = 0) : left1 V c t.val t.isLt
    = leftB1 V c t (fun g => h ((hcond1 t).mp g)) (left1 V c (t.val - 1) (Nat.lt_of_le_of_lt (Nat.sub_le _ _) t.isLt)) := by
  obtain ⟨n, hn⟩ := t
  cases n with
  | zero => exact absurd rfl h
  | succ n => rfl

/-- The scratch before position `n`: everything at anything before the first point, then the carried part at what the point
    before left. -/
def Phi1 (c : Dev nD) : (n : ℕ) → n ≤ cfg1.N → sProp 𝕄
  | 0, _ => Pipeline.ΦA spec1 c
  | n + 1, hn => iprop((((∃ d, owns (c : Thread nD τ) sc1_0 fullShare d) ∗ (∃ d, owns (c : Thread nD τ) sc1_1 fullShare d) ∗ (∃ d, owns (c : Thread nD τ) sc1_2 fullShare d) ∗ owns (c : Thread nD τ) sc1_3 fullShare (left1 V c n hn).dhc ∗ owns (c : Thread nD τ) sc1_4 fullShare (left1 V c n hn).afirst ∗ owns (c : Thread nD τ) sc1_5 fullShare (left1 V c n hn).dxc)
      ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) ∗ (∃ r, prngReg c r))

theorem ΦA1_eq (c : Dev nD) : (Pipeline.ΦA spec1 c : sProp 𝕄)
    = iprop((((∃ d, owns (c : Thread nD τ) sc1_0 fullShare d) ∗ (∃ d, owns (c : Thread nD τ) sc1_1 fullShare d) ∗ (∃ d, owns (c : Thread nD τ) sc1_2 fullShare d) ∗ (∃ d, owns (c : Thread nD τ) sc1_3 fullShare d) ∗ (∃ d, owns (c : Thread nD τ) sc1_4 fullShare d) ∗ (∃ d, owns (c : Thread nD τ) sc1_5 fullShare d))
      ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) ∗ (∃ r, prngReg c r)) := by
  unfold Pipeline.ΦA; rw [scopedRest1_split]; simp only [sc1_0, sc1_1, sc1_2, sc1_3, sc1_4, sc1_5, owns_whole]; try rfl

theorem Phi1_pos (c : Dev nD) (n : ℕ) (h : n ≤ cfg1.N) (hz : n ≠ 0) :
    Phi1 V c n h = iprop((((∃ d, owns (c : Thread nD τ) sc1_0 fullShare d) ∗ (∃ d, owns (c : Thread nD τ) sc1_1 fullShare d) ∗ (∃ d, owns (c : Thread nD τ) sc1_2 fullShare d) ∗ owns (c : Thread nD τ) sc1_3 fullShare (left1 V c (n - 1) (by omega)).dhc ∗ owns (c : Thread nD τ) sc1_4 fullShare (left1 V c (n - 1) (by omega)).afirst ∗ owns (c : Thread nD τ) sc1_5 fullShare (left1 V c (n - 1) (by omega)).dxc)
      ∗ Pipeline.scopedRestBut (Ix := Unit) (Name := ℕ) (U := UR sig nD τ) (Lvl := ℕ) (Val := Elt F) spec1 c [cc1_scratch0, cc1_scratch1, cc1_scratch2, cc1_scratch3, cc1_scratch4, cc1_scratch5]) ∗ (∃ r, prngReg c r)) := by
  cases n with
  | zero => exact absurd rfl hz
  | succ n => rfl

/-- The region's proof data: each input's buffer at its block, the outputs at what the body leaves, the scratch as above. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => (left1 V c t.val t.isLt).dp
    | ⟨15, _⟩ => (left1 V c t.val t.isLt).dwa
    | ⟨16, _⟩ => (left1 V c t.val t.isLt).dwx
    | ⟨17, _⟩ => (left1 V c t.val t.isLt).dba
    | ⟨18, _⟩ => (left1 V c t.val t.isLt).dbx
    | ⟨19, _⟩ => (left1 V c t.val t.isLt).dsp
    | ⟨20, _⟩ => (left1 V c t.val t.isLt).dcw
    | ⟨21, _⟩ => (left1 V c t.val t.isLt).dcb
    | ⟨_ + 22, h⟩ => absurd h (Nat.not_lt.2 (Nat.le_add_left _ _))
  Φ t := Phi1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem Phi1_castSucc (c : Dev nD) (t : Fin cfg1.N) : (dat1 V c).Φ t.castSucc = Phi1 V c t.val (Nat.le_of_lt t.isLt) := by
  dsimp only [dat1]; exact Pipeline.Dat.Φ_castSucc (Phi1 V c) t

/-! What the body leaves in each window's buffer, and what an input's buffer holds before it. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = (left1 V c t.val t.isLt).dp := by dsimp only [dat1]
theorem after1_15 (c : Dev nD) (t : Fin cfg1.N) : (dat1 V c).after 15 t = (left1 V c t.val t.isLt).dwa := by dsimp only [dat1]
theorem after1_16 (c : Dev nD) (t : Fin cfg1.N) : (dat1 V c).after 16 t = (left1 V c t.val t.isLt).dwx := by dsimp only [dat1]
theorem after1_17 (c : Dev nD) (t : Fin cfg1.N) : (dat1 V c).after 17 t = (left1 V c t.val t.isLt).dba := by dsimp only [dat1]
theorem after1_18 (c : Dev nD) (t : Fin cfg1.N) : (dat1 V c).after 18 t = (left1 V c t.val t.isLt).dbx := by dsimp only [dat1]
theorem after1_19 (c : Dev nD) (t : Fin cfg1.N) : (dat1 V c).after 19 t = (left1 V c t.val t.isLt).dsp := by dsimp only [dat1]
theorem after1_20 (c : Dev nD) (t : Fin cfg1.N) : (dat1 V c).after 20 t = (left1 V c t.val t.isLt).dcw := by dsimp only [dat1]
theorem after1_21 (c : Dev nD) (t : Fin cfg1.N) : (dat1 V c).after 21 t = (left1 V c t.val t.isLt).dcb := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A_eq1]; try rfl) t d).trans
    (by unfold Dat.fetched Dat.blockOf iblk1; rw [A_eq1]; try rfl)
theorem before1_15_B (c : Dev nD) (t : Fin cfg1.N) (h : ¬t.val = 0) (d) :
    (dat1 V c).before 15 t d = (left1 V c (t.val - 1) (Nat.lt_of_le_of_lt (Nat.sub_le _ _) t.isLt)).dwa := by
  have hN : t.val < 16 := lt_of_lt_of_eq t.isLt (show cfg1.N = 16 from N_1)
  rw [Dat.before_out_kept _ 15 rfl t (by omega) (Bool.eq_false_iff.mpr fun h => by have := (flush1_15 _).mp h; dsimp only at this; omega)
    (fun _ => rfl) (fun _ _ => rfl)]
  dsimp only [dat1]
theorem before1_16_B (c : Dev nD) (t : Fin cfg1.N) (h : ¬t.val = 0) (d) :
    (dat1 V c).before 16 t d = (left1 V c (t.val - 1) (Nat.lt_of_le_of_lt (Nat.sub_le _ _) t.isLt)).dwx := by
  have hN : t.val < 16 := lt_of_lt_of_eq t.isLt (show cfg1.N = 16 from N_1)
  rw [Dat.before_out_kept _ 16 rfl t (by omega) (Bool.eq_false_iff.mpr fun h => by have := (flush1_16 _).mp h; dsimp only at this; omega)
    (fun _ => rfl) (fun _ _ => rfl)]
  dsimp only [dat1]
theorem before1_17_B (c : Dev nD) (t : Fin cfg1.N) (h : ¬t.val = 0) (d) :
    (dat1 V c).before 17 t d = (left1 V c (t.val - 1) (Nat.lt_of_le_of_lt (Nat.sub_le _ _) t.isLt)).dba := by
  have hN : t.val < 16 := lt_of_lt_of_eq t.isLt (show cfg1.N = 16 from N_1)
  rw [Dat.before_out_kept _ 17 rfl t (by omega) (Bool.eq_false_iff.mpr fun h => by have := (flush1_17 _).mp h; dsimp only at this; omega)
    (fun _ => rfl) (fun _ _ => rfl)]
  dsimp only [dat1]
theorem before1_18_B (c : Dev nD) (t : Fin cfg1.N) (h : ¬t.val = 0) (d) :
    (dat1 V c).before 18 t d = (left1 V c (t.val - 1) (Nat.lt_of_le_of_lt (Nat.sub_le _ _) t.isLt)).dbx := by
  have hN : t.val < 16 := lt_of_lt_of_eq t.isLt (show cfg1.N = 16 from N_1)
  rw [Dat.before_out_kept _ 18 rfl t (by omega) (Bool.eq_false_iff.mpr fun h => by have := (flush1_18 _).mp h; dsimp only at this; omega)
    (fun _ => rfl) (fun _ _ => rfl)]
  dsimp only [dat1]
theorem before1_19_B (c : Dev nD) (t : Fin cfg1.N) (h : ¬t.val = 0) (d) :
    (dat1 V c).before 19 t d = (left1 V c (t.val - 1) (Nat.lt_of_le_of_lt (Nat.sub_le _ _) t.isLt)).dsp := by
  have hN : t.val < 16 := lt_of_lt_of_eq t.isLt (show cfg1.N = 16 from N_1)
  rw [Dat.before_out_kept _ 19 rfl t (by omega) (Bool.eq_false_iff.mpr fun h => by have := (flush1_19 _).mp h; dsimp only at this; omega)
    (fun _ => rfl) (fun _ _ => rfl)]
  dsimp only [dat1]
theorem before1_20_B (c : Dev nD) (t : Fin cfg1.N) (h : ¬t.val = 0) (d) :
    (dat1 V c).before 20 t d = (left1 V c (t.val - 1) (Nat.lt_of_le_of_lt (Nat.sub_le _ _) t.isLt)).dcw := by
  have hN : t.val < 16 := lt_of_lt_of_eq t.isLt (show cfg1.N = 16 from N_1)
  rw [Dat.before_out_kept _ 20 rfl t (by omega) (Bool.eq_false_iff.mpr fun h => by have := (flush1_20 _).mp h; dsimp only at this; omega)
    (fun _ => rfl) (fun _ _ => rfl)]
  dsimp only [dat1]
theorem before1_21_B (c : Dev nD) (t : Fin cfg1.N) (h : ¬t.val = 0) (d) :
    (dat1 V c).before 21 t d = (left1 V c (t.val - 1) (Nat.lt_of_le_of_lt (Nat.sub_le _ _) t.isLt)).dcb := by
  have hN : t.val < 16 := lt_of_lt_of_eq t.isLt (show cfg1.N = 16 from N_1)
  rw [Dat.before_out_kept _ 21 rfl t (by omega) (Bool.eq_false_iff.mpr fun h => by have := (flush1_21 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d))
    ∗ (∃ d, owns (c : Thread nD τ) (ms1_20 t) fullShare ((dat1 V c).before 20 t d))
    ∗ (∃ d, owns (c : Thread nD τ) (ms1_21 t) fullShare ((dat1 V c).before 21 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t)
    ∗ owns (c : Thread nD τ) (ms1_20 t) fullShare ((dat1 V c).after 20 t)
    ∗ owns (c : Thread nD τ) (ms1_21 t) fullShare ((dat1 V c).after 21 t))

set_option maxHeartbeats 4000000 in
/-- The body at any point: the run of the point's case, its pieces read back. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21,
    show (dat1 V c).Φ t.succ = Phi1 V c (t.val + 1) t.isLt from rfl, Phi1_castSucc]
  rw [Phi1_pos V c (t.val + 1) t.isLt (Nat.succ_ne_zero _)]
  simp only [Nat.add_sub_cancel]
  by_cases hz : t.val = 0
  · have hk : Phi1 V c t.val (Nat.le_of_lt t.isLt) = Pipeline.ΦA spec1 c := by
      obtain ⟨n, hn⟩ := t; dsimp only at hz; subst hz; rfl
    rw [hk, ΦA1_eq, left1_A V c t hz]
    unfold leftA1; dsimp only
    iintro ⟨⟨⟨⟨HS0, HS1, HS2, HS3, HS4, HS5⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((first1 V c t ((hcond1 t).mpr hz)).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%g0, HS0⟩, ⟨%g1, HS1⟩, ⟨%g2, HS2⟩, ⟨%g3, HS3⟩, ⟨%g4, HS4⟩, ⟨%g5, HS5⟩⟩
    isplitl [HS0 HS1 HS2 HS3 HS4 HS5 HR Hg]
    · isplitr [Hg]
      swap; · iexact Hg
      isplitr [HR]
      swap; · iexact HR
      isplitl [HS0]; · iexists _; iexact HS0
      isplitl [HS1]; · iexists _; iexact HS1
      isplitl [HS2]; · iexists _; iexact HS2
      isplitl [HS3]
      · unfold owns; iexists _; isplitr
        swap; · iexact HS3
        ipureintro; exact View.read_writes_of_cover _ _ _ _ _ (coverA1_dhc V c t _)
      isplitl [HS4]
      · unfold owns; iexists _; isplitr
        swap; · iexact HS4
        ipureintro; exact View.read_writes_of_cover _ _ _ _ _ (coverA1_afirst V c t _)
      unfold owns; iexists _; isplitr
      swap; · iexact HS5
      ipureintro; exact View.read_writes_of_cover _ _ _ _ _ (coverA1_dxc V c t _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (coverA1_dp V c t _)
    isplitl [H15]
    · unfold owns; iexists _; isplitr
      swap; · iexact H15
      ipureintro; exact View.read_writes_of_cover _ _ _ _ _ (coverA1_dwa V c t _)
    isplitl [H16]
    · unfold owns; iexists _; isplitr
      swap; · iexact H16
      ipureintro; exact View.read_writes_of_cover _ _ _ _ _ (coverA1_dwx V c t _)
    isplitl [H17]
    · unfold owns; iexists _; isplitr
      swap; · iexact H17
      ipureintro; exact View.read_writes_of_cover _ _ _ _ _ (coverA1_dba V c t _)
    isplitl [H18]
    · unfold owns; iexists _; isplitr
      swap; · iexact H18
      ipureintro; exact View.read_writes_of_cover _ _ _ _ _ (coverA1_dbx V c t _)
    isplitl [H19]
    · unfold owns; iexists _; isplitr
      swap; · iexact H19
      ipureintro; exact View.read_writes_of_cover _ _ _ _ _ (coverA1_dsp V c t _)
    isplitl [H20]
    · unfold owns; iexists _; isplitr
      swap; · iexact H20
      ipureintro; exact View.read_writes_of_cover _ _ _ _ _ (coverA1_dcw V c t _)
    unfold owns; iexists _; isplitr
    swap; · iexact H21
    ipureintro; exact View.read_writes_of_cover _ _ _ _ _ (coverA1_dcb V c t _)
  · rw [Phi1_pos V c _ _ hz, left1_B V c t hz]
    simp only [before1_15_B V c t hz, before1_16_B V c t hz, before1_17_B V c t hz, before1_18_B V c t hz, before1_19_B V c t hz, before1_20_B V c t hz, before1_21_B V c t hz]
    generalize left1 V c (t.val - 1) (Nat.lt_of_le_of_lt (Nat.sub_le _ _) t.isLt) = p
    unfold leftB1; dsimp only
    iintro ⟨⟨⟨⟨HS0, HS1, HS2, HS3, HS4, HS5⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((later1 V c t (fun g => hz ((hcond1 t).mp g)) p).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%g0, HS0⟩, ⟨%g1, HS1⟩, ⟨%g2, HS2⟩, ⟨%g3, HS3⟩, ⟨%g4, HS4⟩, ⟨%g5, HS5⟩⟩
    isplitl [HS0 HS1 HS2 HS3 HS4 HS5 HR Hg]
    · isplitr [Hg]
      swap; · iexact Hg
      isplitr [HR]
      swap; · iexact HR
      isplitl [HS0]; · iexists _; iexact HS0
      isplitl [HS1]; · iexists _; iexact HS1
      isplitl [HS2]; · iexists _; iexact HS2
      isplitl [HS3]
      · unfold owns; iexists _; isplitr
        swap; · iexact HS3
        ipureintro; exact View.read_writes_of_cover _ _ _ _ _ (coverB1_dhc V c t _ p)
      isplitl [HS4]
      · unfold owns; iexists _; isplitr
        swap; · iexact HS4
        ipureintro; exact View.read_writes_of_cover _ _ _ _ _ (coverB1_afirst V c t _ p)
      unfold owns; iexists _; isplitr
      swap; · iexact HS5
      ipureintro; exact View.read_writes_of_cover _ _ _ _ _ (coverB1_dxc V c t _ p)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (coverB1_dp V c t _ p)
    isplitl [H15]
    · unfold owns; iexists _; isplitr
      swap; · iexact H15
      ipureintro; exact View.read_writes_of_cover _ _ _ _ _ (coverB1_dwa V c t _ p)
    isplitl [H16]
    · unfold owns; iexists _; isplitr
      swap; · iexact H16
      ipureintro; exact View.read_writes_of_cover _ _ _ _ _ (coverB1_dwx V c t _ p)
    isplitl [H17]
    · unfold owns; iexists _; isplitr
      swap; · iexact H17
      ipureintro; exact View.read_writes_of_cover _ _ _ _ _ (coverB1_dba V c t _ p)
    isplitl [H18]
    · unfold owns; iexists _; isplitr
      swap; · iexact H18
      ipureintro; exact View.read_writes_of_cover _ _ _ _ _ (coverB1_dbx V c t _ p)
    isplitl [H19]
    · unfold owns; iexists _; isplitr
      swap; · iexact H19
      ipureintro; exact View.read_writes_of_cover _ _ _ _ _ (coverB1_dsp V c t _ p)
    isplitl [H20]
    · unfold owns; iexists _; isplitr
      swap; · iexact H20
      ipureintro; exact View.read_writes_of_cover _ _ _ _ _ (coverB1_dcw V c t _ p)
    unfold owns; iexists _; isplitr
    swap; · iexact H21
    ipureintro; exact View.read_writes_of_cover _ _ _ _ _ (coverB1_dcb V c t _ p)

theorem defs₀_row1 (t : Fin cfg1.N) : defs₀ (F := F) .tc cfg1.body (cfg1.bodyArgs t (cfg1.slots t)) = bodyAt1 t := by
  unfold defs₀; rw [Defs.onTc_tc]

/-- The body's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the region is entered with is the state before the first point, -/
theorem hin1 (c : Dev nD) : Pipeline.ΦA spec1 c ⊢ (dat1 V c).Φ 0 := .rfl

/-- and after the last point the scratch is given back. -/
theorem hout1 (c : Dev nD) : (dat1 V c).Φ (Fin.last cfg1.N) ⊢ Pipeline.ΦA spec1 c := by
  rw [show (dat1 V c).Φ (Fin.last cfg1.N) = Phi1 V c cfg1.N le_rfl from rfl,
    Phi1_pos V c _ _ (by rw [show cfg1.N = 16 from N_1]; decide), ΦA1_eq]
  iintro ⟨⟨⟨HS0, HS1, HS2, HS3, HS4, HS5⟩, HR⟩, Hg⟩
  isplitr [Hg]
  swap; · iexact Hg
  isplitr [HR]
  swap; · iexact HR
  isplitl [HS0]; · iexact HS0
  isplitl [HS1]; · iexact HS1
  isplitl [HS2]; · iexact HS2
  isplitl [HS3]; · iexists _; iexact HS3
  isplitl [HS4]; · iexists _; iexact HS4
  iexists _; iexact HS5

end Cert.Lru

end
-- ==== Proof.Lru.Frame.lean ====
module

public import proofs.«01_k».proof.Proof.Gen.LruKernelIdeal.Regions
public import proofs.«01_k».proof.Proof.Lru.Data0
public import proofs.«01_k».proof.Proof.Lru.Data1

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The run: host operations, the forward region, host operations, the backward region, host operations -/

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9]

/-! The buffer contents at the boundaries. -/

abbrev B0 : Dev nD → Valuation τ sig (Elt F) := fun c b => (s₀ m ρ).mem ((c : Dev nD), b)
/-- What the forward region is entered with, -/
abbrev B1 : Dev nD → Valuation τ sig (Elt F) := fun c => StableHlo.after hostOps0 (B0 m ρ c)
abbrev at1 : (c : Dev nD) → (b : Ref sig .tc) → Buf (Elt F) ((c : Thread nD τ).loc b) := fun c b => B1 m ρ c b
/-- and what it leaves: its arrays at what is written back, the rest as it was. -/
def B2 (c : Dev nD) : Valuation τ sig (Elt F) := Pipeline.withArrays spec0 c (B1 m ρ c) fun w => (dat0 (at1 m ρ) c).arrAt w cfg0.N
abbrev at2 : (c : Dev nD) → (b : Ref sig .tc) → Buf (Elt F) ((c : Thread nD τ).loc b) := fun c b => B2 m ρ c b
/-- What the backward region is entered with, -/
abbrev B3 : Dev nD → Valuation τ sig (Elt F) := fun c => StableHlo.after hostOps1 (B2 m ρ c)
abbrev at3 : (c : Dev nD) → (b : Ref sig .tc) → Buf (Elt F) ((c : Thread nD τ).loc b) := fun c b => B3 m ρ c b
/-- and what it leaves. -/
def B4 (c : Dev nD) : Valuation τ sig (Elt F) := Pipeline.withArrays spec1 c (B3 m ρ c) fun w => (dat1 (at3 m ρ) c).arrAt w cfg1.N
abbrev at4 : (c : Dev nD) → (b : Ref sig .tc) → Buf (Elt F) ((c : Thread nD τ).loc b) := fun c b => B4 m ρ c b
/-- At the end. -/
abbrev B5 : Dev nD → Valuation τ sig (Elt F) := fun c => StableHlo.after hostOps2 (B4 m ρ c)

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B3_of (c : Dev nD) (r : Ref sig .tc) (h : r ∉ hostOps1_W) : B3 m ρ c (Proc.devRef .tc r) = B2 m ρ c (Proc.devRef .tc r) :=
  StableHlo.after_of_writes_sub hostOps1 _ hostOps1_writes h
theorem B5_of (c : Dev nD) (r : Ref sig .tc) (h : r ∉ hostOps2_W) : B5 m ρ c (Proc.devRef .tc r) = B4 m ρ c (Proc.devRef .tc r) :=
  StableHlo.after_of_writes_sub hostOps2 _ hostOps2_writes h

theorem B2_arr (c : Dev nD) (w : Fin cfg0.W) :
    B2 m ρ c (Proc.devRef .tc (Pipeline.arrRef spec0 w)) = (dat0 (at1 m ρ) c).arrAt w cfg0.N := by
  unfold B2; exact (dat0 (at1 m ρ) c).withArrays_arrAt launch₀0.sharedIn _ (A_eq0 (at1 m ρ) c) w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- A reference that is no output of the region keeps its contents. -/
theorem B2_of (c : Dev nD) (r : Ref sig .tc) (h : ∀ w : Fin cfg0.W, Pipeline.arrRef spec0 w = r → (cfg0.win w).isOut = false) :
    B2 m ρ c (Proc.devRef .tc r) = B1 m ρ c (Proc.devRef .tc r) := by
  by_cases hw : ∃ w : Fin cfg0.W, Pipeline.arrRef spec0 w = r
  · obtain ⟨w, rfl⟩ := hw
    exact (B2_arr m ρ c w).trans (((dat0 (at1 m ρ) c).arrAt_in w (h w rfl) _).trans (A_eq0 (at1 m ρ) c w))
  · exact B2_of_ne m ρ c r fun w e => hw ⟨w, e⟩
theorem arrs0 (c : Dev nD) (w : Fin cfg0.W) : (dat0 (at1 m ρ) c).arrAt w cfg0.N = at2 m ρ c (Pipeline.arrRef spec0 w) :=
  (B2_arr m ρ c w).symm
theorem rest0 (c : Dev nD) : ∀ b, b ∉ Finset.univ.image (Pipeline.arrRef spec0) → at2 m ρ c b = at1 m ρ c b :=
  fun b hb => B2_of_ne m ρ c b fun w e => hb (Finset.mem_image.mpr ⟨w, Finset.mem_univ _, e⟩)

theorem B4_arr (c : Dev nD) (w : Fin cfg1.W) :
    B4 m ρ c (Proc.devRef .tc (Pipeline.arrRef spec1 w)) = (dat1 (at3 m ρ) c).arrAt w cfg1.N := by
  unfold B4; exact (dat1 (at3 m ρ) c).withArrays_arrAt launch₀1.sharedIn _ (A_eq1 (at3 m ρ) c) w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- A reference that is no output of the region keeps its contents. -/
theorem B4_of (c : Dev nD) (r : Ref sig .tc) (h : ∀ w : Fin cfg1.W, Pipeline.arrRef spec1 w = r → (cfg1.win w).isOut = false) :
    B4 m ρ c (Proc.devRef .tc r) = B3 m ρ c (Proc.devRef .tc r) := by
  by_cases hw : ∃ w : Fin cfg1.W, Pipeline.arrRef spec1 w = r
  · obtain ⟨w, rfl⟩ := hw
    exact (B4_arr m ρ c w).trans (((dat1 (at3 m ρ) c).arrAt_in w (h w rfl) _).trans (A_eq1 (at3 m ρ) c w))
  · exact B4_of_ne m ρ c r fun w e => hw ⟨w, e⟩
theorem arrs1 (c : Dev nD) (w : Fin cfg1.W) : (dat1 (at3 m ρ) c).arrAt w cfg1.N = at4 m ρ c (Pipeline.arrRef spec1 w) :=
  (B4_arr m ρ c w).symm
theorem rest1 (c : Dev nD) : ∀ b, b ∉ Finset.univ.image (Pipeline.arrRef spec1) → at4 m ρ c b = at3 m ρ c b :=
  fun b hb => B4_of_ne m ρ c b fun w e => hb (Finset.mem_image.mpr ⟨w, Finset.mem_univ _, e⟩)

/-- The arguments end as they were: no host operation and no region writes one. -/
theorem B5_args (c : Dev nD) : ∀ a ∈ argRefs, B5 m ρ c (Proc.devRef .tc a) = m ((c : Thread nD τ).loc a) := fun a ha => by
  rw [B5_of m ρ c a ((ListAll.forall_mem_of_all_decide (by decide +kernel) : ∀ a ∈ argRefs, a ∉ hostOps2_W) a ha),
    B4_of m ρ c a ((ListAll.forall_mem_of_all_decide (by decide +kernel) : ∀ a ∈ argRefs, ∀ w : Fin cfg1.W, Pipeline.arrRef spec1 w = a → (cfg1.win w).isOut = false) a ha),
    B3_of m ρ c a ((ListAll.forall_mem_of_all_decide (by decide +kernel) : ∀ a ∈ argRefs, a ∉ hostOps1_W) a ha),
    B2_of m ρ c a ((ListAll.forall_mem_of_all_decide (by decide +kernel) : ∀ a ∈ argRefs, ∀ w : Fin cfg0.W, Pipeline.arrRef spec0 w = a → (cfg0.win w).isOut = false) a ha),
    B1_of m ρ c a ((ListAll.forall_mem_of_all_decide (by decide +kernel) : ∀ a ∈ argRefs, a ∉ hostOps0_W) a ha)]

/-- Both pipelines' proof data, each at its region's entry contents. -/
def data : (p : Fin 2) → (c : Dev nD) → Dat τ (Elt F) Unit ℕ (UR sig nD τ) ℕ (Pipeline.pin (pcfgs (F := F)) adm p) c
  | ⟨0, _⟩ => fun c => dat0 (at1 m ρ) c
  | ⟨1, _⟩ => fun c => dat1 (at3 m ρ) c
abbrev none₀ : Variants := Variants.none
abbrev L₀ : GSem nD τ sig → Finset Unit := fun _ => ∅
abbrev lv₀ : GSem nD τ sig → Unit → ℕ := fun _ _ => 0
/-- What rides beside the buffers: the generator register and a core that owes nothing. -/
abbrev beside (c : Dev nD) : sProp 𝕄 := iprop((∃ r, prngReg c r) ∗ ∃ W, owes (c : Thread nD τ) (0 : CellTallies nD τ sig Unit) W)
abbrev host (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ none₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev last (c : Dev nD) : sProp 𝕄 := iprop(StableHlo.held (c : Thread nD τ) (Pipeline.ucRefs τ sig) (B5 m ρ c) ∗ ∃ r, prngReg c r)

set_option backward.isDefEq.respectTransparency.types false in
/-- The forward region: its arrays split out of the buffers and put back at what is written, the generator register lent to the
    body, nothing owed. -/
def region0 : Pipeline.RegionSeg (pcfgs (F := F)) adm (data m ρ) () defs₀ none₀ L₀ lv₀ 0 where
  win := launch₀0.win
  block_pos := launch₀0.block_pos
  stage_whole := launch₀0.stage_whole
  K := PEmpty
  osem k := k.elim
  ho := Pipeline.OwnSemFacts.none _
  hbody c := (body_obligation0 (at1 m ρ) c).loose
  hwaits := Pipeline.hwaits_of_owed_zero _ _ _ _ L₀ lv₀ 0 fun _ _ => rfl
  pre c := iprop(StableHlo.held (c : Thread nD τ) (Pipeline.ucRefs τ sig) (B1 m ρ c) ∗ beside c)
  post c := iprop(StableHlo.held (c : Thread nD τ) (Pipeline.ucRefs τ sig) (B2 m ρ c) ∗ beside c)
  X c := iprop(∃ r, prngReg c r)
  Y c := iprop(∃ r, prngReg c r)
  Z c := Pipeline.unscopedRest (Ix := Unit) (Name := ℕ) (U := UR sig nD τ) (Lvl := ℕ) spec0 c (at1 m ρ c)
  hentry c := by
    rw [Pipeline.ownSems0_none]
    have hsplit := Pipeline.arrays_of_unscopedBufs_shared (p := 0) (pcfgs (F := F)) adm (data m ρ) launch₀0.win launch₀0.sharedIn launch₀0.arr_whole c
      (fun _ _ => rfl) (at1 m ρ c) (A_eq0 (at1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (at1 m ρ) c)
    unfold Pipeline.ΦA
    iintro ⟨Hp, -, Hr⟩
    isplitl [Hr]; · iexact Hr
    iexact Hp
  hout c := by
    refine BIBase.Entails.trans (hout0 (at1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (data m ρ) (fun _ _ => rfl)
      (at1 m ρ c) (at2 m ρ c) ((data m ρ 0 c).arrAt · cfg0.N) (arrs0 m ρ c) (rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward region: its arrays split out of the buffers and put back at what is written, the generator register lent to the
    body, nothing owed. -/
def region1 : Pipeline.RegionSeg (pcfgs (F := F)) adm (data m ρ) () defs₀ none₀ L₀ lv₀ 1 where
  win := launch₀1.win
  block_pos := launch₀1.block_pos
  stage_whole := launch₀1.stage_whole
  K := PEmpty
  osem k := k.elim
  ho := Pipeline.OwnSemFacts.none _
  hbody c := (body_obligation1 (at3 m ρ) c).loose
  hwaits := Pipeline.hwaits_of_owed_zero _ _ _ _ L₀ lv₀ 1 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec1 c (at3 m ρ c)
  hentry c := by
    rw [Pipeline.ownSems0_none]
    have hsplit := Pipeline.arrays_of_unscopedBufs_shared (p := 1) (pcfgs (F := F)) adm (data m ρ) launch₀1.win launch₀1.sharedIn launch₀1.arr_whole c
      (fun _ _ => rfl) (at3 m ρ c) (A_eq1 (at3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (at3 m ρ) c)
    unfold Pipeline.ΦA
    iintro ⟨Hp, -, Hr⟩
    isplitl [Hr]; · iexact Hr
    iexact Hp
  hout c := by
    refine BIBase.Entails.trans (hout1 (at3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (data m ρ) (fun _ _ => rfl)
      (at3 m ρ c) (at4 m ρ c) ((data m ρ 1 c).arrAt · cfg1.N) (arrs1 m ρ c) (rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev items : List (Pipeline.Seg (pcfgs (F := F)) adm (data m ρ) () defs₀ none₀ L₀ lv₀) :=
  [ .host (host hostOps0 hostOps0_sub hostOps0_fresh (B0 m ρ)),
    .region (region0 m ρ),
    .host (host hostOps1 hostOps1_sub hostOps1_fresh (B2 m ρ)),
    .region (region1 m ρ),
    .host (host hostOps2 hostOps2_sub hostOps2_fresh (B4 m ρ)) ]

theorem main_items (c : Dev nD) : main (F := F) c = Pipeline.Seg.run (items m ρ) := (main_chain c).trans (by chain_rfl)

set_option backward.isDefEq.respectTransparency.types false in
/-- THE RUN: from any memory with zero counters every fair execution terminates, nothing faults, every unscoped buffer ends at
    `B5` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = B5 m ρ c b) ∧ r.2.sem = fun _ => 0) :=
  Pipeline.θ_run_regions_kit_sems (pcfgs (F := F)) adm (data m ρ) () cellOf_inj emb₁ defs₀ none₀ L₀ lv₀ m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := last m ρ)
    (hch := ⟨fun _ => .rfl, fun _ => .rfl, fun _ => .rfl, fun _ => .rfl, fun _ => .rfl, fun c => by
      dsimp only [Pipeline.Seg.post, host, Pipeline.HostSeg.ofOps]
      iintro ⟨Hh, Hp, HO⟩
      isplitl [Hh Hp]
      · isplitl [Hh]; · iexact Hh
        iexact Hp
      iexact HO⟩)
    (hinit := by
      refine Pipeline.initEach L₀ lv₀ fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h hz => ⟨h, funext fun g => hz g (.inr (regions_no_unscoped g.2))⟩)

/-- Each argument array and each result at the end, and the counters: what the claims read. -/
theorem run_main : θ_run defs (onTc (τ := τ) (main (F := F))) ⟨m, fun _ => 0, ρ⟩ (fun r =>
      (∀ c : Dev nD, (∀ a ∈ argRefs, r.2.mem ((c.tc : Thread nD τ).loc a) = m ((c.tc : Thread nD τ).loc a))
        ∧ ∀ b : Ref sig .tc, ¬ (Proc.devRef .tc b : DevRef τ sig).isScoped → r.2.mem ((c.tc : Thread nD τ).loc b) = B5 m ρ c (Proc.devRef .tc b))
      ∧ r.2.sem = fun _ => 0) :=
  (θ_run defs _ _).mono (fun _ h => ⟨fun c =>
    ⟨fun a ha => (h.1 c _ (mem_uc a ((ListAll.forall_mem_of_all_decide (by decide +kernel) :
        ∀ a ∈ argRefs, ¬ (Proc.devRef .tc a : DevRef τ sig).isScoped) a ha))).trans (B5_args m ρ c a ha),
     fun b hb => h.1 c _ (mem_uc b hb)⟩, h.2⟩) (run_all m ρ)

end Cert.Lru

end
-- ==== Proof.Lru.Frames.lean ====
module

public import proofs.«01_k».proof.Defs
public import proofs.«01_k».proof.Proof.Gen.LruKernel
public import proofs.«01_k».proof.Proof.Gen.LruKernelIdeal
public import proofs.«01_k».proof.Proof.Gen.Pre_lru_finite
public import proofs.«01_k».proof.Proof.Lru.Frame

@[expose] public section

noncomputable section

namespace Cert.Lru

open Idealize.ShloMosaic Idealize.ShloMosaic.TcCoe Idealize.ShloMosaic.Tactic Idealize.SL.Sem

attribute [local instance] Cert.LruKernel.Gen.facts Cert.LruKernelIdeal.Gen.facts Cert.Pre_lru_finite.Gen.facts

/-- The arguments one by one, out of the list. -/
theorem args_of {P : Ref LruKernelIdeal.sig .tc → Prop} (h : ∀ a ∈ argRefs, P a) :
    P LruKernelIdeal.main_arg0 ∧ P LruKernelIdeal.main_arg1 ∧ P LruKernelIdeal.main_arg2 ∧ P LruKernelIdeal.main_arg3 ∧ P LruKernelIdeal.main_arg4
      ∧ P LruKernelIdeal.main_arg5 ∧ P LruKernelIdeal.main_arg6 ∧ P LruKernelIdeal.main_arg7 ∧ P LruKernelIdeal.main_arg8 ∧ P LruKernelIdeal.main_arg9 :=
  ⟨h _ (by decide), h _ (by decide), h _ (by decide), h _ (by decide), h _ (by decide), h _ (by decide), h _ (by decide), h _ (by decide),
    h _ (by decide), h _ (by decide)⟩

theorem frame_kernel_ideal : Cert.quiescent_LruKernelIdeal := fun m ρ _ =>
  (θ_run (Cert.LruKernelIdeal.defs (F := Ideal)) _ _).mono (fun r h => ⟨fun c => args_of (P := fun a =>
    r.2.mem ((c.tc : Thread LruKernelIdeal.nD LruKernelIdeal.τ).loc a) = m ((c.tc : Thread LruKernelIdeal.nD LruKernelIdeal.τ).loc a)) (h.1 c).1, h.2⟩)
    (run_main (F := Ideal) m ρ)

theorem frame_kernel_ideal_pre : Cert.quiescent_LruKernelIdeal_pre_lru_finite := fun m ρ _ => frame_kernel_ideal m ρ trivial

/-- On bit patterns a named constant is the literal it names. -/
instance namedBits : Named Bits := ⟨fun _ _ _ b => b⟩

/-- The frame claim of the kernel as printed, spelt over the idealized program read at bit patterns. -/
def FrameBits : Prop :=
  ∀ (m : (ℓ : Loc LruKernelIdeal.nD LruKernelIdeal.τ LruKernelIdeal.sig) → Buf (Elt Bits) ℓ) (g : Dev LruKernelIdeal.nD → PrngReg), True →
    θ_run (Cert.LruKernelIdeal.defs (F := Bits)) (onTc (τ := LruKernelIdeal.τ) (Cert.LruKernelIdeal.main (F := Bits))) ⟨m, fun _ => 0, g⟩ (fun r =>
      (∀ c : Dev LruKernelIdeal.nD, (fun P : Ref LruKernelIdeal.sig .tc → Prop =>
        P LruKernelIdeal.main_arg0 ∧ P LruKernelIdeal.main_arg1 ∧ P LruKernelIdeal.main_arg2 ∧ P LruKernelIdeal.main_arg3 ∧ P LruKernelIdeal.main_arg4
          ∧ P LruKernelIdeal.main_arg5 ∧ P LruKernelIdeal.main_arg6 ∧ P LruKernelIdeal.main_arg7 ∧ P LruKernelIdeal.main_arg8 ∧ P LruKernelIdeal.main_arg9)
        fun a => r.2.mem ((c.tc : Thread LruKernelIdeal.nD LruKernelIdeal.τ).loc a) = m ((c.tc : Thread LruKernelIdeal.nD LruKernelIdeal.τ).loc a))
      ∧ r.2.sem = fun _ => 0)

theorem frame_bits : FrameBits := fun m ρ _ =>
  (θ_run (Cert.LruKernelIdeal.defs (F := Bits)) _ _).mono (fun r h => ⟨fun c => args_of (P := fun a =>
    r.2.mem ((c.tc : Thread LruKernelIdeal.nD LruKernelIdeal.τ).loc a) = m ((c.tc : Thread LruKernelIdeal.nD LruKernelIdeal.τ).loc a)) (h.1 c).1, h.2⟩)
    (run_main (F := Bits) m ρ)

/-- The two printed programs are one text once a named constant is its literal. -/
theorem same_text : FrameBits = Cert.quiescent_LruKernel := by sl_kernel_rfl

theorem frame_kernel : Cert.quiescent_LruKernel := same_text ▸ frame_bits

theorem preserves : Cert.preserves_LruKernel_LruKernelIdeal :=
  ⟨IdealRules.named_const.statement _ _ _ _ _ rfl, IdealRules.named_const.statement _ _ _ _ _ rfl⟩

end Cert.Lru

end
-- ==== Proof.Lru.Model.lean ====
/- The recurrence and its gradients over the reals, as formulas in the time `t` and the channel `c`. Channel `c` belongs to
   gate block `c / 256`. Nothing here depends on how either program computes them. -/
module

public import proofs.«01_k».proof.Proof.Common.Real

@[expose] public section

noncomputable section

namespace Cert.Lru

/-- The arguments: projections `p`, output weights `wo`, cotangent `ct`, convolution `cw`, `cb`, gates `wa`, `ba`, `wx`,
    `bx`, and the decay parameter `lam`. -/
structure Data where
  p : ℕ → ℕ → ℝ
  wo : ℕ → ℕ → ℝ
  cw : ℕ → ℕ → ℝ
  cb : ℕ → ℝ
  wa : ℕ → ℕ → ℕ → ℝ
  ba : ℕ → ℕ → ℝ
  wx : ℕ → ℕ → ℕ → ℝ
  bx : ℕ → ℕ → ℝ
  lam : ℕ → ℝ
  ct : ℕ → ℕ → ℝ

/-- The logistic function. -/
def sigm (x : ℝ) : ℝ := 1 / (1 + Real.exp (-x))

/-- A channel by its block and its place in it. -/
theorem blk_div (n : ℕ) (i : Fin 256) : (n * 256 + i.val) / 256 = n := by have := i.isLt; omega
theorem blk_mod (n : ℕ) (i : Fin 256) : (n * 256 + i.val) % 256 = i.val := by have := i.isLt; omega
theorem blk_eq (c : ℕ) : c / 256 * 256 + c % 256 = c := Nat.div_add_mod' c 256

/-- The programs' logistic, of a real. -/
theorem sigm_div (x : ℝ) : Idealize.ShloMosaic.Ideal.div 1 ((1 + Real.exp (-x) : ℝ) : EReal) = ((sigm x : ℝ) : EReal) := by
  have h : (1 + Real.exp (-x)) ≠ 0 := by positivity
  have e := Cert.Common.div_real 1 h
  rwa [EReal.coe_one] at e

namespace Data

variable (d : Data)

/-- softplus of `-lam`: the decay rate. -/
def sp (c : ℕ) : ℝ := max (-d.lam c) 0 + Real.log (1 + Real.exp (-|d.lam c|))
def x (t c : ℕ) : ℝ := d.p t c
def g (t c : ℕ) : ℝ := d.p t (1024 + c)
/-- The input under three rows of zeros. -/
def xp (m c : ℕ) : ℝ := if m < 3 then 0 else d.x (m - 3) c
/-- The convolution. -/
def xc (t c : ℕ) : ℝ := d.cb c + d.cw 0 c * d.xp t c + d.cw 1 c * d.xp (t + 1) c + d.cw 2 c * d.xp (t + 2) c + d.cw 3 c * d.xp (t + 3) c
/-- The two gates. -/
def zr (t c : ℕ) : ℝ := (∑ i : Fin 256, d.xc t (c / 256 * 256 + i) * d.wa (c / 256) i (c % 256)) + d.ba (c / 256) (c % 256)
def zi (t c : ℕ) : ℝ := (∑ i : Fin 256, d.xc t (c / 256 * 256 + i) * d.wx (c / 256) i (c % 256)) + d.bx (c / 256) (c % 256)
def r (t c : ℕ) : ℝ := sigm (d.zr t c)
def ig (t c : ℕ) : ℝ := sigm (d.zi t c)
/-- The decay, its complement's root, the gated input. -/
def la (t c : ℕ) : ℝ := -8 * d.r t c * d.sp c
def a (t c : ℕ) : ℝ := Real.exp (d.la t c)
def s (t c : ℕ) : ℝ := Real.sqrt (1 - d.a t c * d.a t c)
def gx (t c : ℕ) : ℝ := d.ig t c * d.xc t c
def u (t c : ℕ) : ℝ := d.s t c * d.gx t c
/-- The recurrence: `H t` is the state before time `t`. -/
def H : ℕ → ℕ → ℝ
  | 0, _ => 0
  | t + 1, c => d.a t c * H t c + d.u t c
def sg (t c : ℕ) : ℝ := sigm (d.g t c)
def y (t c : ℕ) : ℝ := d.H (t + 1) c * (d.g t c * d.sg t c)

/-- The cotangent of `y`, and what it puts on the state. -/
def dy (t c : ℕ) : ℝ := ∑ j : Fin 1024, d.ct t j * d.wo c j
def din (t c : ℕ) : ℝ := d.dy t c * (d.g t c * d.sg t c)
/-- The recurrence backwards: `E k` is what the last `k` times put on the state at time `8191 - k`. -/
def E : ℕ → ℕ → ℝ
  | 0, _ => 0
  | k + 1, c => d.a (8191 - k) c * (E k c + d.din (8191 - k) c)
def D (t c : ℕ) : ℝ := d.E (8191 - t) c + d.din t c

/-- The gradients. -/
def dlg (t c : ℕ) : ℝ := d.dy t c * d.H (t + 1) c * (d.sg t c * (1 + d.g t c * (1 - d.sg t c)))
def dla (t c : ℕ) : ℝ := d.D t c * d.H t c * d.a t c - d.D t c * d.gx t c * (d.a t c * d.a t c * (d.s t c)⁻¹)
def dsp (c : ℕ) : ℝ := ∑ t : Fin 8192, d.dla t c * d.r t c * -8
def dzr (t c : ℕ) : ℝ := d.dla t c * (-8 * d.sp c) * (d.r t c * (1 - d.r t c))
def dzi (t c : ℕ) : ℝ := d.D t c * (d.s t c * d.xc t c) * (d.ig t c * (1 - d.ig t c))
def dba (c : ℕ) : ℝ := ∑ t : Fin 8192, d.dzr t c
def dbx (c : ℕ) : ℝ := ∑ t : Fin 8192, d.dzi t c
def dwa (n i j : ℕ) : ℝ := ∑ t : Fin 8192, d.xc t (n * 256 + i) * d.dzr t (n * 256 + j)
def dwx (n i j : ℕ) : ℝ := ∑ t : Fin 8192, d.xc t (n * 256 + i) * d.dzi t (n * 256 + j)
def dxc (t c : ℕ) : ℝ := d.D t c * (d.s t c * d.ig t c) + ((∑ j : Fin 256, d.dzr t (c / 256 * 256 + j) * d.wa (c / 256) (c % 256) j)
  + ∑ j : Fin 256, d.dzi t (c / 256 * 256 + j) * d.wx (c / 256) (c % 256) j)
def dcb (c : ℕ) : ℝ := ∑ t : Fin 8192, d.dxc t c
def dcw (k c : ℕ) : ℝ := ∑ t : Fin 8192, d.dxc t c * d.xp (t + k) c
/-- The convolution's cotangent, zero after the last time. -/
def dxcz (t c : ℕ) : ℝ := if t < 8192 then d.dxc t c else 0
def dlx (t c : ℕ) : ℝ := d.cw 3 c * d.dxcz t c + d.cw 0 c * d.dxcz (t + 3) c + d.cw 1 c * d.dxcz (t + 2) c + d.cw 2 c * d.dxcz (t + 1) c

/-! ## Signs -/

theorem sigm_pos (x : ℝ) : 0 < sigm x := by unfold sigm; positivity
theorem sp_pos (c : ℕ) : 0 < d.sp c :=
  add_pos_of_nonneg_of_pos (le_max_right _ _) (Real.log_pos (lt_add_of_pos_right _ (Real.exp_pos _)))
theorem la_neg (t c : ℕ) : d.la t c < 0 := by
  have h := mul_pos (sigm_pos (d.zr t c)) (d.sp_pos c)
  show -8 * sigm (d.zr t c) * d.sp c < 0
  linarith
theorem a_pos (t c : ℕ) : 0 < d.a t c := Real.exp_pos _
theorem a_lt_one (t c : ℕ) : d.a t c < 1 := by
  have := Real.exp_lt_exp.mpr (d.la_neg t c)
  rwa [Real.exp_zero] at this
theorem om_pos (t c : ℕ) : 0 < 1 - d.a t c * d.a t c := by
  nlinarith [d.a_pos t c, d.a_lt_one t c]
theorem s_pos (t c : ℕ) : 0 < d.s t c := Real.sqrt_pos.mpr (d.om_pos t c)
theorem exp_two_la (t c : ℕ) : Real.exp (2 * d.la t c) = d.a t c * d.a t c := by
  rw [two_mul, Real.exp_add]; rfl

end Data

end Cert.Lru

end
-- ==== Proof.Lru.GateVal.lean ====
/- The gates of one tile, read at a row and a channel: the two bodies' operations up to the decay. -/
module

public import proofs.«01_k».proof.Proof.Common.Real
public import proofs.«01_k».proof.Proof.Lru.Model
public import proofs.«01_k».proof.Proof.Gen.LruKernelIdeal.Skeleton
public import Idealize.ShloMosaic.Lib.Pointwise
public import Idealize.ShloMosaic.Lib.WordCmp

@[expose] public section

set_option maxRecDepth 16384

noncomputable section

namespace Cert.Lru

open Cert.LruKernelIdeal Cert.LruKernelIdeal.Gen
open Idealize.ShloMosaic Idealize.ShloMosaic.TcCoe Idealize.ShloMosaic.Tactic
open Cert.Common

theorem sel_slt {α : Type} {i k : ℕ} (hi : i < 2 ^ 31) (hk : k < 2 ^ 31) (x y : α) :
    Scalar.select (IntOp.cmpi .slt (BitVec.ofNat 32 i) (BitVec.ofNat 32 k)) x y = if i < k then x else y := by
  rw [WordCmp.cmpi_slt_ofNat (w := 32) hi hk]
  by_cases h : i < k
  · rw [decide_eq_true h, if_pos h]; rfl
  · rw [decide_eq_false h, if_neg h]; rfl
theorem sel_sge {α : Type} {i k : ℕ} (hi : i < 2 ^ 31) (hk : k < 2 ^ 31) (x y : α) :
    Scalar.select (IntOp.cmpi .sge (BitVec.ofNat 32 i) (BitVec.ofNat 32 k)) x y = if k ≤ i then x else y := by
  rw [WordCmp.cmpi_sge_ofNat (w := 32) hi hk]
  by_cases h : k ≤ i
  · rw [decide_eq_true h, if_pos h]; rfl
  · rw [decide_eq_false h, if_neg h]; rfl
theorem sel_prop {α : Type} {b : BitVec 1} {p : Prop} [Decidable p] (hb : b = BitVec.ofBool (decide p)) (x y : α) :
    Scalar.select b x y = if p then x else y := by
  by_cases h : p
  · rw [hb, decide_eq_true h, if_pos h]; rfl
  · rw [hb, decide_eq_false h, if_neg h]; rfl

/-- The kernel's logistic. -/
theorem half_tanh (x : ℝ) : 1 / 2 * Real.tanh (1 / 2 * x) + 1 / 2 = sigm x := by
  have e : Real.exp (-(1 / 2 * x)) * Real.exp (1 / 2 * x) = 1 := by rw [← Real.exp_add]; simp
  have e2 : Real.exp (-x) = Real.exp (-(1 / 2 * x)) * Real.exp (-(1 / 2 * x)) := by rw [← Real.exp_add]; congr 1; ring
  rw [Real.tanh_eq_sinh_div_cosh, Real.sinh_eq, Real.cosh_eq, sigm, e2]
  have p1 := Real.exp_pos (1 / 2 * x)
  have p2 := Real.exp_pos (-(1 / 2 * x))
  generalize Real.exp (1 / 2 * x) = u at *
  generalize Real.exp (-(1 / 2 * x)) = v at *
  have h1 : u + v ≠ 0 := by positivity
  have h2 : 1 + v * v ≠ 0 := by positivity
  have h3 : (u - v) / 2 / ((u + v) / 2) = (u - v) / (u + v) := by field_simp
  rw [h3]
  field_simp
  linear_combination 2 * v * e

theorem half_tanh_real (x : ℝ) : Ideal.ofBits .f32 0x3F000000#32 * Ideal.tanh (Ideal.ofBits .f32 0x3F000000#32 * (x : EReal)) + Ideal.ofBits .f32 0x3F000000#32
    = ((sigm x : ℝ) : EReal) := by
  rw [ofBits_half, ← half_tanh]; norm_cast

theorem log_series : (Named.named (F := Ideal) κ "log_series" 0x3C23D70A#32 : Ideal .f32) = (⊥ : EReal) :=
  IdealRules.named_const.ideal_named_scalar _ _ _ _ rfl
theorem sq_series : (Named.named (F := Ideal) κ "sq_series" 0xBC23D70A#32 : Ideal .f32) = (⊤ : EReal) :=
  IdealRules.named_const.ideal_named_scalar _ _ _ _ rfl

/-! ## Reading a tile's input and the rows above it -/

theorem pay22_at {b : BitVec 1} {X Y : FVec Ideal S1x8x512 .f32} {f : ℕ → ℕ → ℝ} {p : Prop} [Decidable p] (hb : b = BitVec.ofBool (decide p))
    (hX : At3 1 8 512 X fun _ => f) (hY : At3 1 8 512 Y fun _ t c => f t (512 + c)) :
    At2 8 1024 (k1_pay22 (F := Ideal) b X Y) fun t c => if p then 0 else f t c := by
  intro i j
  pointwise [k1_pay22]
  simp only [sel_prop hb, hX _ _ _, hY _ _ _]
  by_cases hp : p
  · rw [if_pos hp, if_pos hp]; rfl
  · rw [if_neg hp, if_neg hp]
    by_cases h : j.val < 512
    · rw [dif_pos h]
    · rw [dif_neg h, Nat.add_sub_cancel' (not_lt.1 h)]

theorem pay23_at {X Y : FVec Ideal S1x512x512 .f32} {f : ℕ → ℕ → ℝ}
    (hX : At3 1 512 512 X fun _ => f) (hY : At3 1 512 512 Y fun _ t c => f t (512 + c)) :
    At2 512 1024 (k1_pay23 (F := Ideal) X Y) f := by
  intro i j
  pointwise [k1_pay23]
  simp only [hX _ _ _, hY _ _ _]
  by_cases h : j.val < 512
  · rw [dif_pos h]
  · rw [dif_neg h, Nat.add_sub_cancel' (not_lt.1 h)]

/-- Rows `t - k` of a tile under the last rows `8 - k …` of the one above. -/
def below (k : ℕ) (g f : ℕ → ℕ → ℝ) (t c : ℕ) : ℝ := if t < k then g (8 - k + t) c else f (t - k) c

theorem below_eq {k t c : ℕ} (hk : k < 8) (ht : t < 512) {p q : EReal} (g f : ℕ → ℕ → ℝ) (hp : ∀ _ : t < 8, p = if t < k then ((g ((t + 8 - k) % 8) c : ℝ) : EReal) else ((f ((t + 512 - k) % 512) c : ℝ) : EReal))
    (hq : ∀ _ : ¬ t < 8, q = ((f ((8 + (t - 8) + 512 - k) % 512) c : ℝ) : EReal)) : (if t < 8 then p else q) = ((below k g f t c : ℝ) : EReal) := by
  unfold below
  by_cases h : t < 8
  · rw [if_pos h, hp h]
    by_cases h' : t < k
    · rw [if_pos h', if_pos h', show (t + 8 - k) % 8 = 8 - k + t by omega]
    · rw [if_neg h', if_neg h', show (t + 512 - k) % 512 = t - k by omega]
  · rw [if_neg h, hq h, if_neg (by omega), show (8 + (t - 8) + 512 - k) % 512 = t - k by omega]

section Shift
variable {b : BitVec 1} {X Y : FVec Ideal S1x8x512 .f32} {U V : FVec Ideal S1x512x512 .f32} {f g : ℕ → ℕ → ℝ}
    {hX : At2 8 1024 (k1_pay22 (F := Ideal) b X Y) g} {hY : At2 512 1024 (k1_pay23 (F := Ideal) U V) f}
include hX hY

theorem pay26_at : At2 512 1024 (k1_pay26 (F := Ideal) b X Y U V) (below 3 g f) := by
  intro i j
  have hi := i.isLt
  pointwise [k1_pay26]
  simp only [hX _ _, hY _ _, sel_slt (lt_trans hi (by decide : 512 < 2 ^ 31)) (by decide : 3 < 2 ^ 31)]
  exact below_eq (by decide) hi g f (fun _ => rfl) fun _ => rfl

theorem pay27_at : At2 512 1024 (k1_pay27 (F := Ideal) b X Y U V) (below 2 g f) := by
  intro i j
  have hi := i.isLt
  pointwise [k1_pay27]
  simp only [hX _ _, hY _ _, sel_slt (lt_trans hi (by decide : 512 < 2 ^ 31)) (by decide : 2 < 2 ^ 31)]
  exact below_eq (by decide) hi g f (fun _ => rfl) fun _ => rfl
end Shift

theorem pay28_at {X : FVec Ideal S8x1024 .f32} {Y : FVec Ideal S512x1024 .f32} {f g : ℕ → ℕ → ℝ}
    (hX : At2 8 1024 X g) (hY : At2 512 1024 Y f) : At2 512 1024 (k1_pay28 X Y) (below 1 g f) := by
  intro i j
  have hi := i.isLt
  pointwise [k1_pay28]
  simp only [hX _ _, hY _ _, sel_slt (lt_trans hi (by decide : 512 < 2 ^ 31)) (by decide : 1 < 2 ^ 31)]
  exact below_eq (by decide) hi g f (fun _ => rfl) fun _ => rfl

/-- The rows above a tile and the tile, as the padded input. -/
theorem below_xp (d : Data) {k i t c : ℕ} (hk : k ≤ 3) (ht : t < 512) :
    below k (fun s c => if i = 0 then 0 else d.x (512 * i - 8 + s) c) (fun t c => d.x (512 * i + t) c) t c = d.xp (512 * i + t + (3 - k)) c := by
  unfold below Data.xp
  beta_reduce
  by_cases h : t < k
  · rw [if_pos h]
    by_cases h0 : i = 0
    · rw [if_pos h0, if_pos (by omega)]
    · rw [if_neg h0, if_neg (by omega), show 512 * i - 8 + (8 - k + t) = 512 * i + t + (3 - k) - 3 by omega]
  · rw [if_neg h, if_neg (by omega), show 512 * i + (t - k) = 512 * i + t + (3 - k) - 3 by omega]

theorem xp_three (d : Data) (t c : ℕ) : d.xp (t + 3) c = d.x t c := by
  rw [Data.xp, if_neg (by omega), Nat.add_sub_cancel]

/-- The convolution of a tile. -/
theorem pay29_at {d : Data} {i : ℕ} {v31 : FVec Ideal S4x1024 .f32} {v42 : FVec Ideal S8x1024 .f32} {v47 : FVec Ideal S512x1024 .f32}
    {v48 : FVec Ideal S1x1024 .f32} {v61 v70 : FVec Ideal S512x1024 .f32} (hw : At2 4 1024 v31 d.cw) (hb : At2 1 1024 v48 fun _ c => d.cb c)
    (hg : At2 8 1024 v42 fun s c => if i = 0 then 0 else d.x (512 * i - 8 + s) c) (hf : At2 512 1024 v47 fun t c => d.x (512 * i + t) c)
    (h3 : At2 512 1024 v61 fun t c => d.xp (512 * i + t) c) (h2 : At2 512 1024 v70 fun t c => d.xp (512 * i + t + 1) c) :
    At2 512 1024 (k1_pay29 v31 v42 v47 v48 v61 v70) fun t c => d.xc (512 * i + t) c := by
  intro t c
  have h1 : At2 512 1024 (k1_pay28 v42 v47) fun t c => d.xp (512 * i + t + 2) c := fun t c => by
    rw [pay28_at hg hf t c, below_xp d (by decide) t.isLt]
  pointwise [k1_pay29]
  simp only [hw _ _, hb _ _, h1 _ _, h2 _ _, h3 _ _, hf _ _]
  rw [Data.xc, xp_three]
  norm_cast

/-! ## The gates -/

/-- A gate's product: each block of 256 channels with its own matrix. -/
def gateSum (f : ℕ → ℕ → ℝ) (w : ℕ → ℕ → ℕ → ℝ) (t c : ℕ) : ℝ := ∑ k : Fin 256, f t (c / 256 * 256 + k) * w (c / 256) k (c % 256)

/-- Four blocks of a row side by side. -/
theorem cat4 {S : ℕ → ℝ} {c : ℕ} (h3 : ℝ) (hc : c < 1024) (h : ∀ _ : ¬ c < 768, h3 = S (3 * 256 + (c - 768))) :
    (if c < 256 then ((S (0 * 256 + c) : ℝ) : EReal) else if c - 256 < 256 then ((S (1 * 256 + (c - 256)) : ℝ) : EReal)
      else if c - 256 - 256 < 256 then ((S (2 * 256 + (c - 256 - 256)) : ℝ) : EReal) else (h3 : EReal)) = ((S c : ℝ) : EReal) := by
  by_cases h0 : c < 256
  · rw [if_pos h0, show 0 * 256 + c = c by omega]
  by_cases h1 : c - 256 < 256
  · rw [if_neg h0, if_pos h1, show 1 * 256 + (c - 256) = c by omega]
  by_cases h2 : c - 256 - 256 < 256
  · rw [if_neg h0, if_neg h1, if_pos h2, show 2 * 256 + (c - 256 - 256) = c by omega]
  · rw [if_neg h0, if_neg h1, if_neg h2, h (by omega), show 3 * 256 + (c - 768) = c by omega]

section Blocks
variable {v31 : FVec Ideal S4x1024 .f32} {v33 : FVec Ideal S4x256x256 .bf16} {v42 : FVec Ideal S8x1024 .f32} {v47 : FVec Ideal S512x1024 .f32}
   {v48 : FVec Ideal S1x1024 .f32} {v61 v70 : FVec Ideal S512x1024 .f32} {f : ℕ → ℕ → ℝ} {w : ℕ → ℕ → ℕ → ℝ}
   {hX : At2 512 1024 (k1_pay29 v31 v42 v47 v48 v61 v70) f}
include hX

theorem pay39_at : At2 512 256 (k1_pay39 v31 v42 v47 v48 v61 v70) fun t j => f t (3 * 256 + j) := by
  intro i j
  pointwise [k1_pay39]
  simp only [hX _ _]

variable {hw : At3 4 256 256 v33 w}
include hw

theorem pay31_at : At2 512 256 (k1_pay31 v31 v33 v42 v47 v48 v61 v70) fun t j => gateSum f w t (0 * 256 + j) := by
  intro i j
  beta_reduce
  rw [gateSum, blk_div, blk_mod]
  pointwise [k1_pay31, k1_pay30]
  simp only [hX _ _, hw _ _ _]
  norm_cast

theorem pay32_at : At2 512 256 (k1_pay32 v31 v33 v42 v47 v48 v61 v70) fun t j => gateSum f w t (0 * 256 + j) := pay31_at (hX := hX) (hw := hw)

theorem pay34_at : At2 512 256 (k1_pay34 v31 v33 v42 v47 v48 v61 v70) fun t j => gateSum f w t (1 * 256 + j) := by
  intro i j
  beta_reduce
  rw [gateSum, blk_div, blk_mod]
  pointwise [k1_pay34, k1_pay33]
  simp only [hX _ _, hw _ _ _]
  norm_cast

theorem pay35_at : At2 512 256 (k1_pay35 v31 v33 v42 v47 v48 v61 v70) fun t j => gateSum f w t (1 * 256 + j) := pay34_at (hX := hX) (hw := hw)

theorem pay37_at : At2 512 256 (k1_pay37 v31 v33 v42 v47 v48 v61 v70) fun t j => gateSum f w t (2 * 256 + j) := by
  intro i j
  beta_reduce
  rw [gateSum, blk_div, blk_mod]
  pointwise [k1_pay37, k1_pay36]
  simp only [hX _ _, hw _ _ _]
  norm_cast

theorem pay38_at : At2 512 256 (k1_pay38 v31 v33 v42 v47 v48 v61 v70) fun t j => gateSum f w t (2 * 256 + j) := pay37_at (hX := hX) (hw := hw)
end Blocks

theorem pay41_at {w : ℕ → ℕ → ℕ → ℝ} {f : ℕ → ℕ → ℝ} {b : ℕ → ℝ} {v33 : FVec Ideal S4x256x256 .bf16} {v50 : FVec Ideal S1x1024 .f32}
    {v101 v109 v117 v121 : FVec Ideal S512x256 .f32} (hw : At3 4 256 256 v33 w) (hb : At2 1 1024 v50 fun _ c => b c)
    (h0 : At2 512 256 v101 fun t j => gateSum f w t (0 * 256 + j)) (h1 : At2 512 256 v109 fun t j => gateSum f w t (1 * 256 + j))
    (h2 : At2 512 256 v117 fun t j => gateSum f w t (2 * 256 + j)) (h3 : At2 512 256 v121 fun t j => f t (3 * 256 + j)) :
    At2 512 1024 (k1_pay41 v33 v50 v101 v109 v117 v121) fun t c => sigm (gateSum f w t c + b c) := by
  intro i j
  have hj := j.isLt
  pointwise [k1_pay41, k1_pay40]
  simp only [h0 _ _, h1 _ _, h2 _ _, h3 _ _, hw _ _ _, hb _ _]
  refine Eq.trans ?_ (half_tanh_real (gateSum f w i j + b j))
  rw [EReal.coe_add, ← cat4 (S := gateSum f w i) (c := j) (∑ x : Fin 256, f i (3 * 256 + x) * w 3 x (j - 256 - 256 - 256)) hj]
  · simp only [coe_fin_sum, EReal.coe_mul]; rfl
  · intro h
    have e := blk_div 3 ⟨j - 768, by omega⟩
    have e' := blk_mod 3 ⟨j - 768, by omega⟩
    simp only at e e'
    rw [gateSum, e, e', show j.val - 256 - 256 - 256 = j.val - 768 by omega]

theorem pay42_at {w : ℕ → ℕ → ℕ → ℝ} {f : ℕ → ℕ → ℝ} {b : ℕ → ℝ} {v33 : FVec Ideal S4x256x256 .bf16} {v50 : FVec Ideal S1x1024 .f32}
    {v101 v109 v117 v121 : FVec Ideal S512x256 .f32} (hw : At3 4 256 256 v33 w) (hb : At2 1 1024 v50 fun _ c => b c)
    (h0 : At2 512 256 v101 fun t j => gateSum f w t (0 * 256 + j)) (h1 : At2 512 256 v109 fun t j => gateSum f w t (1 * 256 + j))
    (h2 : At2 512 256 v117 fun t j => gateSum f w t (2 * 256 + j)) (h3 : At2 512 256 v121 fun t j => f t (3 * 256 + j)) :
    At2 512 1024 (k1_pay42 v33 v50 v101 v109 v117 v121) fun t c => sigm (gateSum f w t c + b c) := pay41_at hw hb h0 h1 h2 h3

/-! ## The decay and its complement -/

theorem pay19_at {X : FVec Ideal S1x1024 .f32} {d : Data} (h : At2 1 1024 X fun _ c => d.lam c) :
    At2 1 1024 (k1_pay19 (F := Ideal) X) fun _ c => d.sp c := by
  intro i j
  pointwise [k1_pay19]
  rw [log_series, if_neg not_lt_bot]
  simp only [h _ _, Ideal.absf_def, zero_sub, ← EReal.coe_neg, neg_neg]
  rw [EReal.coe_neg, max_comm (-_ : EReal) (d.lam j), abs_real, ← EReal.coe_neg, ← EReal.coe_neg, ← coe_exp, ← EReal.coe_one,
    ← EReal.coe_add, log_real (by positivity), ← EReal.coe_zero, max_real, ← EReal.coe_add]
  rfl

section Decay
variable {d : Data} {i : ℕ} {v30 : FVec Ideal S1x1024 .f32} {v33 : FVec Ideal S4x256x256 .bf16} {v50 : FVec Ideal S1x1024 .f32}
   {v101 v109 v117 v121 : FVec Ideal S512x256 .f32} {hsp : At2 1 1024 v30 fun _ c => d.sp c}
   {hr : At2 512 1024 (k1_pay41 v33 v50 v101 v109 v117 v121) fun t c => d.r (512 * i + t) c}
include hsp hr

theorem pay43_at : At2 512 1024 (k1_pay43 v30 v33 v50 v101 v109 v117 v121) fun t c => d.la (512 * i + t) c := by
  intro t c
  pointwise [k1_pay43]
  simp only [hsp _ _, hr _ _, ofBits_neg_eight]
  rw [Data.la, mul_right_comm, EReal.coe_mul, EReal.coe_mul]

theorem pay44_at : At2 512 1024 (k1_pay44 v30 v33 v50 v101 v109 v117 v121) fun t c => d.a (512 * i + t) c := by
  intro t c
  pointwise [k1_pay44]
  rw [pay43_at (hsp := hsp) (hr := hr)]; rfl

theorem pay45_at : ∃ f, At2 512 1024 (k1_pay45 v30 v33 v50 v101 v109 v117 v121) f := by
  refine ⟨fun t c => 2 * d.la (512 * i + t) c, fun t c => ?_⟩
  pointwise [k1_pay45]
  rw [pay43_at (hsp := hsp) (hr := hr), ofBits_two, ← EReal.coe_mul]
end Decay

section Root
variable {d : Data} {i : ℕ} {v153 v155 v165 : FVec Ideal S512x1024 .f32}
   {ha : At2 512 1024 v153 fun t c => d.a (512 * i + t) c} {h2 : ∃ f, At2 512 1024 v155 f}
include ha h2

theorem pay48_at : At2 512 1024 (k1_pay48 v153 v155 v165 k1_pay47) fun t c => 1 - d.a (512 * i + t) c * d.a (512 * i + t) c := by
  obtain ⟨f, h2⟩ := h2
  intro t c
  pointwise [k1_pay48, k1_pay47]
  rw [sq_series, h2 t c, ha t c, if_neg not_top_lt]
  norm_cast

theorem pay49_at : At2 512 1024 (k1_pay49 v153 v155 v165 k1_pay47) fun t c => (d.s (512 * i + t) c)⁻¹ := by
  intro t c
  pointwise [k1_pay49]
  rw [pay48_at (ha := ha) (h2 := h2), rsqrt_real (d.om_pos _ _)]; rfl

theorem pay50_at : At2 512 1024 (k1_pay50 v153 v155 v165 k1_pay47) fun t c => d.s (512 * i + t) c := by
  intro t c
  pointwise [k1_pay50]
  rw [pay48_at (ha := ha) (h2 := h2), pay49_at (ha := ha) (h2 := h2), ← EReal.coe_mul]
  congr 1
  have h := d.s_pos (512 * i + t) c
  rw [mul_inv_eq_iff_eq_mul₀ h.ne']
  exact (Real.mul_self_sqrt (d.om_pos _ _).le).symm
end Root

/-! ## The output gate and its cotangents -/

theorem pay51_at {d : Data} {i : ℕ} {X : FVec Ideal S512x1024 .bf16} {Y : FVec Ideal S1024x1024 .bf16}
    (hX : At2 512 1024 X fun t c => d.ct (512 * i + t) c) (hY : At2 1024 1024 Y d.wo) :
    At2 512 1024 (k1_pay51 (F := Ideal) X Y) fun t c => d.dy (512 * i + t) c := by
  intro t c
  pointwise [k1_pay51]
  simp only [hX _ _, hY _ _, Data.dy]
  norm_cast

theorem pay52_at {X Y : FVec Ideal S1x512x512 .f32} {f : ℕ → ℕ → ℝ}
    (hX : At3 1 512 512 X fun _ => f) (hY : At3 1 512 512 Y fun _ t c => f t (512 + c)) :
    At2 512 1024 (k1_pay52 (F := Ideal) X Y) f := pay23_at hX hY

section Out
variable {d : Data} {i : ℕ} {X Y : FVec Ideal S1x512x512 .f32} {hg : At2 512 1024 (k1_pay52 (F := Ideal) X Y) fun t c => d.g (512 * i + t) c}
include hg

theorem pay53_at : At2 512 1024 (k1_pay53 (F := Ideal) X Y) fun t c => d.sg (512 * i + t) c := by
  intro t c
  pointwise [k1_pay53]
  rw [hg t c, half_tanh_real]; rfl

theorem pay55_at {U : FVec Ideal S512x1024 .bf16} {V : FVec Ideal S1024x1024 .bf16} {H : FVec Ideal S512x1024 .f32}
    (hy : At2 512 1024 (k1_pay51 (F := Ideal) U V) fun t c => d.dy (512 * i + t) c) (hH : At2 512 1024 H fun t c => d.H (512 * i + t + 1) c) :
    At2 512 1024 (k1_pay55 (F := Ideal) U V X Y H) fun t c => d.dlg (512 * i + t) c := by
  intro t c
  have hH' : At2 512 1024 (k1_pay54 (F := Ideal) H) fun t c => d.H (512 * i + t + 1) c := fun t c => by
    pointwise [k1_pay54]; exact hH t c
  pointwise [k1_pay55]
  rw [hy t c, hH' t c, hg t c, pay53_at (hg := hg), Data.dlg]
  norm_cast
end Out

theorem pay58_at {d : Data} {i : ℕ} {v178 v183 v190 : FVec Ideal S512x1024 .f32} (hy : At2 512 1024 v178 fun t c => d.dy (512 * i + t) c)
    (hg : At2 512 1024 v183 fun t c => d.g (512 * i + t) c) (hs : At2 512 1024 v190 fun t c => d.sg (512 * i + t) c) :
    At2 512 1024 (k1_pay58 v178 v183 v190) fun t c => d.din (512 * i + t) c := by
  intro t c
  pointwise [k1_pay58]
  rw [hy t c, hg t c, hs t c, Data.din]
  norm_cast

end Cert.Lru
end
-- ==== Proof.Lru.Scan.lean ====
/- The two kernels' scans of a tile: sixty-four groups of eight rows, each scanned in three doubling steps. At real numbers
   the tile's rows are the recurrence's. -/
module

public import proofs.«01_k».proof.Proof.Common.Real
public import proofs.«01_k».proof.Proof.Lru.GateVal
public import proofs.«01_k».proof.Proof.Lru.Loop0
public import proofs.«01_k».proof.Proof.Lru.Loop1
public import Idealize.ShloMosaic.Lib.Pointwise

@[expose] public section

set_option maxRecDepth 16384

noncomputable section

namespace Cert.Lru

open Cert.LruKernelIdeal Cert.LruKernelIdeal.Gen
open Idealize.ShloMosaic Idealize.ShloMosaic.TcCoe Idealize.ShloMosaic.Tactic
open Cert.Common

/-- The row numbers of a group. -/
abbrev rowNo : IVec S8x1024 32 := iota .tc S8x1024 32 [0] iota_S8x1024_d0_w32

/-! ## Forwards -/

section Forward
variable {a u : FVec Ideal S8x1024 .f32} {A U : ℕ → ℕ → ℝ} {ha : At2 8 1024 a A} {hu : At2 8 1024 u U}

def dec1 (A : ℕ → ℕ → ℝ) (s c : ℕ) : ℝ := A s c * if 1 ≤ s then A ((s + 8 - 1) % 8) c else 1
def dec2 (A : ℕ → ℕ → ℝ) (s c : ℕ) : ℝ := dec1 A s c * if 2 ≤ s then dec1 A ((s + 8 - 2) % 8) c else 1
def inp1 (A U : ℕ → ℕ → ℝ) (s c : ℕ) : ℝ := (A s c * if 1 ≤ s then U ((s + 8 - 1) % 8) c else 0) + U s c
def inp2 (A U : ℕ → ℕ → ℝ) (s c : ℕ) : ℝ := (dec1 A s c * if 2 ≤ s then inp1 A U ((s + 8 - 2) % 8) c else 0) + inp1 A U s c
def row3 (A U : ℕ → ℕ → ℝ) (h : ℝ) (s c : ℕ) : ℝ :=
  (dec2 A s c * if 4 ≤ s then dec2 A ((s + 8 - 4) % 8) c else 1) * h + ((dec2 A s c * if 4 ≤ s then inp2 A U ((s + 8 - 4) % 8) c else 0) + inp2 A U s c)

/-- Three doubling steps are eight steps of the recurrence. -/
theorem row3_eq {A U H : ℕ → ℕ → ℝ} {c : ℕ} (hH : ∀ s < 8, H (s + 1) c = A s c * H s c + U s c) (s : ℕ) (hs : s < 8) :
    row3 A U (H 0 c) s c = H (s + 1) c := by
  have h0 := hH 0 (by decide); have h1 := hH 1 (by decide); have h2 := hH 2 (by decide); have h3 := hH 3 (by decide)
  have h4 := hH 4 (by decide); have h5 := hH 5 (by decide); have h6 := hH 6 (by decide); have h7 := hH 7 (by decide)
  simp only [zero_add, Nat.reduceAdd] at h0 h1 h2 h3 h4 h5 h6 h7
  interval_cases s <;>
    simp only [row3, dec2, dec1, inp2, inp1, zero_add, Nat.reduceAdd, Nat.reduceSub, Nat.reduceMod, Nat.reduceLeDiff, if_true, if_false, h7, h6, h5, h4, h3, h2, h1, h0] <;> ring

include ha
theorem scan2_at : At2 8 1024 (k0_pay2 (F := Ideal) rowNo a) (dec1 A) := by
  intro i j
  have hi := i.isLt
  pointwise [k0_pay2, rowNo]
  simp only [ha _ _, sel_sge (lt_trans hi (by decide : 8 < 2 ^ 31)) (by decide : 1 < 2 ^ 31)]
  rw [dec1]; split <;> norm_cast <;> ring

theorem scan4_at : At2 8 1024 (k0_pay4 (F := Ideal) rowNo a) (dec2 A) := by
  intro i j
  have hi := i.isLt
  pointwise [k0_pay4, rowNo]
  simp only [scan2_at (ha := ha) _ _, sel_sge (lt_trans hi (by decide : 8 < 2 ^ 31)) (by decide : 2 < 2 ^ 31)]
  rw [dec2]; split <;> norm_cast <;> ring

include hu
theorem scan3_at : At2 8 1024 (k0_pay3 (F := Ideal) rowNo a u) (inp2 A U) := by
  intro i j
  have hi := i.isLt
  have hq : (i.val + 8 - 2) % 8 < 8 := Nat.mod_lt _ (by decide)
  pointwise [k0_pay3, rowNo]
  simp only [ha _ _, hu _ _, scan2_at (ha := ha) _ _, sel_sge (lt_trans hi (by decide : 8 < 2 ^ 31)) (by decide : 2 < 2 ^ 31),
    sel_sge (lt_trans hi (by decide : 8 < 2 ^ 31)) (by decide : 1 < 2 ^ 31), sel_sge (lt_trans hq (by decide : 8 < 2 ^ 31)) (by decide : 1 < 2 ^ 31)]
  rw [inp2, inp1, inp1]; split_ifs <;> norm_cast <;> ring

theorem group0_at {h : FVec Ideal S8x1024 .f32} {H : ℕ → ℕ → ℝ} (hh : At2 8 1024 h fun _ c => H 0 c)
    (hH : ∀ s < 8, ∀ c, H (s + 1) c = A s c * H s c + U s c) : At2 8 1024 (group0 (F := Ideal) rowNo a u h) fun s c => H (s + 1) c := by
  intro i j
  have hi := i.isLt
  beta_reduce
  rw [← row3_eq (fun s hs => hH s hs j) i hi]
  pointwise [group0, k0_pay39, k0_pay5, k0_pay6, rowNo]
  simp only [hh _ _, scan3_at (ha := ha) (hu := hu) _ _, scan4_at (ha := ha) _ _, sel_sge (lt_trans hi (by decide : 8 < 2 ^ 31)) (by decide : 4 < 2 ^ 31)]
  rw [row3]; split <;> norm_cast <;> ring

theorem next0_at {h : FVec Ideal S8x1024 .f32} {H : ℕ → ℕ → ℝ} (hh : At2 8 1024 h fun _ c => H 0 c)
    (hH : ∀ s < 8, ∀ c, H (s + 1) c = A s c * H s c + U s c) : At2 8 1024 (next0 (F := Ideal) rowNo a u h) fun _ c => H 8 c := by
  intro i j
  have e := group0_at (ha := ha) (hu := hu) hh hH 7 j
  unfold next0
  pointwise [k0_pay40]
  exact e
end Forward

/-- Eight rows of a tile read from row `o`. -/
theorem rows_at {X : FVec Ideal S512x1024 .f32} {f : ℕ → ℕ → ℝ} (h : At2 512 1024 X f) {off : Fin 2 → ℕ} (hoff) {o : ℕ} (ho : o + 8 ≤ 512) (e : off = ![o, 0]) :
    At2 8 1024 (fun y => X ((Rect.unit (s := S512x1024) off S8x1024.size hoff).toLoadRect.idx y)) fun s c => f (o + s) c := by
  subst e
  intro i j
  refine Eq.trans ?_ (h ⟨o + i, by have := i.isLt; omega⟩ j)
  beta_reduce
  congr 1
  funext k
  refine Fin.cases ?_ (fun k => Fin.cases ?_ (fun k => k.elim0) k) k
  · apply Fin.ext; show o + 1 * i.val = o + i.val; omega
  · apply Fin.ext; show 0 + 1 * j.val = j.val; omega

section ForwardTile
variable {A U : FVec Ideal S512x1024 .f32} {init : FVec Ideal S8x1024 .f32} {a u H : ℕ → ℕ → ℝ}
  {hA : At2 512 1024 A a} {hU : At2 512 1024 U u} {hi : At2 8 1024 init fun _ c => H 0 c}
  {hH : ∀ t < 512, ∀ c, H (t + 1) c = a t c * H t c + u t c}
include hA hU hi hH

theorem carry0_at (k : ℕ) (hk : k ≤ 64) : At2 8 1024 (carry0 (F := Ideal) rowNo A U init k) fun _ c => H (8 * k) c := by
  induction k with
  | zero => exact hi
  | succ k ih =>
    have hk' : k < k0_t1_loop.trips := hk
    have e := next0_at (ha := rows_at hA (k0_off1_inb ⟨k, hk'⟩) (by show 8 * k + 8 ≤ 512; omega) (k0_off1_eq ⟨k, hk'⟩)) (hu := rows_at hU (k0_off1_inb ⟨k, hk'⟩) (by show 8 * k + 8 ≤ 512; omega) (k0_off1_eq ⟨k, hk'⟩))
      (H := fun s c => H (8 * k + s) c) (ih (by omega)) fun s hs c => hH (8 * k + s) (by omega) c
    intro i j
    rw [carry0, dif_pos hk']
    exact e i j

theorem tile0_at : At2 512 1024 (tile0 (F := Ideal) rowNo A U init) fun t c => H (t + 1) c := by
  intro i j
  have hi' := i.isLt
  have hk' : i.val / 8 < k0_t1_loop.trips := by show i.val / 8 < 64; omega
  have e := group0_at (ha := rows_at hA (k0_off1_inb ⟨_, hk'⟩) (by show 8 * (i.val / 8) + 8 ≤ 512; omega) (k0_off1_eq ⟨_, hk'⟩)) (hu := rows_at hU (k0_off1_inb ⟨_, hk'⟩) (by show 8 * (i.val / 8) + 8 ≤ 512; omega) (k0_off1_eq ⟨_, hk'⟩))
      (H := fun s c => H (8 * (i.val / 8) + s) c) (carry0_at (hA := hA) (hU := hU) (hi := hi) (hH := hH) (i.val / 8) (by omega))
      (fun s hs c => hH (8 * (i.val / 8) + s) (by omega) c) ⟨i.val % 8, Nat.mod_lt _ (by decide)⟩ j
  have e' : 8 * (i.val / 8) + (i.val % 8 + 1) = i.val + 1 := by omega
  simp only [e'] at e
  exact (dif_pos hk').trans e
end ForwardTile

/-! ## Backwards -/

section Backward
variable {a u : FVec Ideal S8x1024 .f32} {A U : ℕ → ℕ → ℝ} {ha : At2 8 1024 a A} {hu : At2 8 1024 u U}

def bdec1 (A : ℕ → ℕ → ℝ) (s c : ℕ) : ℝ := A s c * if s < 7 then A ((s + 8 - 7) % 8) c else 1
def bdec2 (A : ℕ → ℕ → ℝ) (s c : ℕ) : ℝ := bdec1 A s c * if s < 6 then bdec1 A ((s + 8 - 6) % 8) c else 1
def binp1 (A U : ℕ → ℕ → ℝ) (s c : ℕ) : ℝ := (A s c * if s < 7 then U ((s + 8 - 7) % 8) c else 0) + U s c
def binp2 (A U : ℕ → ℕ → ℝ) (s c : ℕ) : ℝ := (bdec1 A s c * if s < 6 then binp1 A U ((s + 8 - 6) % 8) c else 0) + binp1 A U s c
def brow3 (A U : ℕ → ℕ → ℝ) (h : ℝ) (s c : ℕ) : ℝ :=
  (bdec2 A s c * if s < 4 then bdec2 A ((s + 8 - 4) % 8) c else 1) * h + ((bdec2 A s c * if s < 4 then binp2 A U ((s + 8 - 4) % 8) c else 0) + binp2 A U s c)

theorem brow3_eq {A U K : ℕ → ℕ → ℝ} {c : ℕ} (hK : ∀ s < 8, K s c = A s c * K (s + 1) c + U s c) (s : ℕ) (hs : s < 8) :
    brow3 A U (K 8 c) s c = K s c := by
  have h0 := hK 0 (by decide); have h1 := hK 1 (by decide); have h2 := hK 2 (by decide); have h3 := hK 3 (by decide)
  have h4 := hK 4 (by decide); have h5 := hK 5 (by decide); have h6 := hK 6 (by decide); have h7 := hK 7 (by decide)
  simp only [zero_add, Nat.reduceAdd] at h0 h1 h2 h3 h4 h5 h6 h7
  interval_cases s <;>
    simp only [brow3, bdec2, bdec1, binp2, binp1, zero_add, Nat.reduceAdd, Nat.reduceSub, Nat.reduceMod, Nat.reduceLT, Nat.reduceLeDiff, if_true, if_false, h7, h6, h5, h4, h3, h2, h1, h0] <;> ring

include ha
theorem bscan2_at : At2 8 1024 (k1_pay13 (F := Ideal) rowNo a) (bdec1 A) := by
  intro i j
  have hi := i.isLt
  pointwise [k1_pay13, rowNo]
  simp only [ha _ _, sel_slt (lt_trans hi (by decide : 8 < 2 ^ 31)) (by decide : 7 < 2 ^ 31)]
  rw [bdec1]; split <;> norm_cast <;> ring

theorem bscan4_at : At2 8 1024 (k1_pay15 (F := Ideal) rowNo a) (bdec2 A) := by
  intro i j
  have hi := i.isLt
  pointwise [k1_pay15, rowNo]
  simp only [bscan2_at (ha := ha) _ _, sel_slt (lt_trans hi (by decide : 8 < 2 ^ 31)) (by decide : 6 < 2 ^ 31)]
  rw [bdec2]; split <;> norm_cast <;> ring

include hu
theorem bscan3_at : At2 8 1024 (k1_pay14 (F := Ideal) rowNo a u) (binp2 A U) := by
  intro i j
  have hi := i.isLt
  have hq : (i.val + 8 - 6) % 8 < 8 := Nat.mod_lt _ (by decide)
  pointwise [k1_pay14, rowNo]
  simp only [ha _ _, hu _ _, bscan2_at (ha := ha) _ _, sel_slt (lt_trans hi (by decide : 8 < 2 ^ 31)) (by decide : 6 < 2 ^ 31),
    sel_slt (lt_trans hi (by decide : 8 < 2 ^ 31)) (by decide : 7 < 2 ^ 31), sel_slt (lt_trans hq (by decide : 8 < 2 ^ 31)) (by decide : 7 < 2 ^ 31)]
  rw [binp2, binp1, binp1]; split_ifs <;> norm_cast <;> ring

theorem group1_at {h : FVec Ideal S8x1024 .f32} {K : ℕ → ℕ → ℝ} (hh : At2 8 1024 h fun _ c => K 8 c)
    (hK : ∀ s < 8, ∀ c, K s c = A s c * K (s + 1) c + U s c) : At2 8 1024 (group1 (F := Ideal) rowNo a u h) K := by
  intro i j
  have hi := i.isLt
  rw [← brow3_eq (fun s hs => hK s hs j) i hi]
  pointwise [group1, k1_pay60, k1_pay59, k1_pay16, k1_pay17, rowNo]
  simp only [hh _ _, bscan3_at (ha := ha) (hu := hu) _ _, bscan4_at (ha := ha) _ _, sel_slt (lt_trans hi (by decide : 8 < 2 ^ 31)) (by decide : 4 < 2 ^ 31)]
  rw [brow3]; split <;> norm_cast <;> ring

theorem next1_at {h : FVec Ideal S8x1024 .f32} {K : ℕ → ℕ → ℝ} (hh : At2 8 1024 h fun _ c => K 8 c)
    (hK : ∀ s < 8, ∀ c, K s c = A s c * K (s + 1) c + U s c) : At2 8 1024 (next1 (F := Ideal) rowNo a u h) fun _ c => K 0 c := by
  intro i j
  have e := group1_at (ha := ha) (hu := hu) hh hK 0 j
  unfold group1 at e
  unfold next1
  pointwise [k1_pay61]
  pointwise [k1_pay60] at e
  exact e
end Backward

section BackwardTile
variable {A U : FVec Ideal S512x1024 .f32} {init : FVec Ideal S8x1024 .f32} {a u K : ℕ → ℕ → ℝ}
  {hA : At2 512 1024 A a} {hU : At2 512 1024 U u} {hi : At2 8 1024 init fun _ c => K 512 c}
  {hK : ∀ t < 512, ∀ c, K t c = a t c * K (t + 1) c + u t c}
include hA hU hi hK

theorem carry1_at (k : ℕ) (hk : k ≤ 64) : At2 8 1024 (carry1 (F := Ideal) rowNo A U init k) fun _ c => K (512 - 8 * k) c := by
  induction k with
  | zero => exact hi
  | succ k ih =>
    have hk' : k < k1_t1_loop.trips := hk
    have e := next1_at (ha := rows_at hA (k1_off1_inb ⟨k, hk'⟩) (by show 504 - 8 * k + 8 ≤ 512; omega) (k1_off1_eq ⟨k, hk'⟩)) (hu := rows_at hU (k1_off1_inb ⟨k, hk'⟩) (by show 504 - 8 * k + 8 ≤ 512; omega) (k1_off1_eq ⟨k, hk'⟩))
      (K := fun s c => K (504 - 8 * k + s) c) (h := carry1 (F := Ideal) rowNo A U init k)
      (by rw [show 504 - 8 * k + 8 = 512 - 8 * k by omega]; exact ih (by omega)) fun s hs c => hK (504 - 8 * k + s) (by omega) c
    intro i j
    rw [carry1, dif_pos hk', show 512 - 8 * (k + 1) = 504 - 8 * k + 0 by omega]
    exact e i j

theorem tile1_at : At2 512 1024 (tile1 (F := Ideal) rowNo A U init) K := by
  intro i j
  have hi' := i.isLt
  have hk' : 63 - i.val / 8 < k1_t1_loop.trips := by show 63 - i.val / 8 < 64; omega
  have e := group1_at (ha := rows_at hA (k1_off1_inb ⟨_, hk'⟩) (by show 504 - 8 * (63 - i.val / 8) + 8 ≤ 512; omega) (k1_off1_eq ⟨_, hk'⟩)) (hu := rows_at hU (k1_off1_inb ⟨_, hk'⟩) (by show 504 - 8 * (63 - i.val / 8) + 8 ≤ 512; omega) (k1_off1_eq ⟨_, hk'⟩))
      (K := fun s c => K (504 - 8 * (63 - i.val / 8) + s) c) (h := carry1 (F := Ideal) rowNo A U init (63 - i.val / 8))
      (by rw [show 504 - 8 * (63 - i.val / 8) + 8 = 512 - 8 * (63 - i.val / 8) by omega]
          exact carry1_at (hA := hA) (hU := hU) (hi := hi) (hK := hK) (63 - i.val / 8) (by omega))
      (fun s hs c => hK (504 - 8 * (63 - i.val / 8) + s) (by omega) c) ⟨i.val % 8, Nat.mod_lt _ (by decide)⟩ j
  have e' : 504 - 8 * (63 - i.val / 8) + i.val % 8 = i.val := by omega
  simp only [e'] at e
  exact (dif_pos hk').trans e
end BackwardTile

end Cert.Lru
end
-- ==== Proof.Lru.Tile.lean ====
/- The gates of one tile in terms of what the tile loads, and a load from a whole buffer read at its index. -/
module

public import proofs.«01_k».proof.Proof.Lru.GateVal
public import Idealize.ShloMosaic.Lib.WholeRead

@[expose] public section

set_option maxRecDepth 16384

noncomputable section

namespace Cert.Lru

open Cert.LruKernelIdeal Cert.LruKernelIdeal.Gen
open Idealize.ShloMosaic Idealize.ShloMosaic.TcCoe Idealize.ShloMosaic.Tactic
open Cert.Common

/-! ## Loads -/

theorem unit_idx2 {n m n' m' o p : ℕ} (h : ∀ a, ![o, p] a + ![n', m'] a ≤ (⟨2, ![n, m]⟩ : Shape).size a) (i : Fin n') (j : Fin m')
    (hi : o + i < n) (hj : p + j < m) :
    (Rect.unit (s := ⟨2, ![n, m]⟩) ![o, p] ![n', m'] h).toLoadRect.idx (ix2 i j) = ix2 ⟨o + i, hi⟩ ⟨p + j, hj⟩ := by
  funext k
  refine Fin.cases ?_ (fun k => Fin.cases ?_ (fun k => k.elim0) k) k
  · apply Fin.ext; show o + 1 * i.val = o + i.val; omega
  · apply Fin.ext; show p + 1 * j.val = p + j.val; omega

theorem unit_idx3 {n m l n' m' l' o p q : ℕ} (h : ∀ a, ![o, p, q] a + ![n', m', l'] a ≤ (⟨3, ![n, m, l]⟩ : Shape).size a) (i : Fin n') (j : Fin m') (k : Fin l')
    (hi : o + i < n) (hj : p + j < m) (hk : q + k < l) :
    (Rect.unit (s := ⟨3, ![n, m, l]⟩) ![o, p, q] ![n', m', l'] h).toLoadRect.idx (ix3 i j k) = ix3 ⟨o + i, hi⟩ ⟨p + j, hj⟩ ⟨q + k, hk⟩ := by
  funext a
  refine Fin.cases ?_ (fun a => Fin.cases ?_ (fun a => Fin.cases ?_ (fun a => a.elim0) a) a) a
  · apply Fin.ext; show o + 1 * i.val = o + i.val; omega
  · apply Fin.ext; show p + 1 * j.val = p + j.val; omega
  · apply Fin.ext; show q + 1 * k.val = q + k.val; omega

/-- A block of a matrix, and of a stack of matrices, at its own index. -/
theorem At2.block {n m n' m' o p : ℕ} {x : Shape.Idx ⟨2, ![n, m]⟩ → EReal} {f : ℕ → ℕ → ℝ} (hx : At2 n m x f)
    (h : ∀ a, ![o, p] a + ![n', m'] a ≤ (⟨2, ![n, m]⟩ : Shape).size a) :
    At2 n' m' (fun y => x ((Rect.unit (s := ⟨2, ![n, m]⟩) ![o, p] ![n', m'] h).toLoadRect.idx y)) fun i j => f (o + i) (p + j) := by
  intro i j
  have h0 : o + n' ≤ n := h 0
  have h1 : p + m' ≤ m := h 1
  have := i.isLt; have := j.isLt
  beta_reduce
  rw [unit_idx2 h i j (by omega) (by omega)]
  exact hx _ _

theorem At3.block {n m l n' m' l' o p q : ℕ} {x : Shape.Idx ⟨3, ![n, m, l]⟩ → EReal} {f : ℕ → ℕ → ℕ → ℝ} (hx : At3 n m l x f)
    (h : ∀ a, ![o, p, q] a + ![n', m', l'] a ≤ (⟨3, ![n, m, l]⟩ : Shape).size a) :
    At3 n' m' l' (fun y => x ((Rect.unit (s := ⟨3, ![n, m, l]⟩) ![o, p, q] ![n', m', l'] h).toLoadRect.idx y)) fun i j k => f (o + i) (p + j) (q + k) := by
  intro i j k
  have h0 : o + n' ≤ n := h 0
  have h1 : p + m' ≤ m := h 1
  have h2 : q + l' ≤ l := h 2
  have := i.isLt; have := j.isLt; have := k.isLt
  beta_reduce
  rw [unit_idx3 h i j k (by omega) (by omega) (by omega)]
  exact hx _ _ _

theorem At2.congr {n m : ℕ} {x : Shape.Idx ⟨2, ![n, m]⟩ → EReal} {f g : ℕ → ℕ → ℝ} (h : At2 n m x f) (e : ∀ (i : Fin n) (j : Fin m), f i j = g i j) : At2 n m x g :=
  fun i j => (h i j).trans (by rw [e i j])
theorem At3.congr {n m l : ℕ} {x : Shape.Idx ⟨3, ![n, m, l]⟩ → EReal} {f g : ℕ → ℕ → ℕ → ℝ} (h : At3 n m l x f) (e : ∀ (i : Fin n) (j : Fin m) (k : Fin l), f i j k = g i j k) : At3 n m l x g :=
  fun i j k => (h i j k).trans (by rw [e i j k])

section Load
variable {κ : Kind} {sp : Space} {n m l n' m' l' o p q : ℕ}

theorem load2_at {M : Memref sig κ sp ⟨2, ![n, m]⟩ .f32} (hM : M.IsWhole) {x : Vec Ideal ⟨2, ![n, m]⟩ .f32} {f : ℕ → ℕ → ℝ} (hx : At2 n m x f)
    (h : ∀ a, ![o, p] a + ![n', m'] a ≤ (⟨2, ![n, m]⟩ : Shape).size a) :
    At2 n' m' (View.readAt (Elt Ideal) M.view (Rect.unit (s := ⟨2, ![n, m]⟩) ![o, p] ![n', m'] h).toLoadRect (hM.unread x)) fun i j => f (o + i) (p + j) :=
  fun i j => (hM.readAt_unread x _ _).trans (At2.block hx h i j)

theorem load3_at {M : Memref sig κ sp ⟨3, ![n, m, l]⟩ .f32} (hM : M.IsWhole) {x : Vec Ideal ⟨3, ![n, m, l]⟩ .f32} {f : ℕ → ℕ → ℕ → ℝ} (hx : At3 n m l x f)
    (h : ∀ a, ![o, p, q] a + ![n', m', l'] a ≤ (⟨3, ![n, m, l]⟩ : Shape).size a) :
    At3 n' m' l' (View.readAt (Elt Ideal) M.view (Rect.unit (s := ⟨3, ![n, m, l]⟩) ![o, p, q] ![n', m', l'] h).toLoadRect (hM.unread x)) fun i j k => f (o + i) (p + j) (q + k) :=
  fun i j k => (hM.readAt_unread x _ _).trans (At3.block hx h i j k)

/-! The same of a whole buffer. -/
theorem whole2_at {M : Memref sig κ sp ⟨2, ![n, m]⟩ .f32} (hM : M.IsWhole) {x : Vec Ideal ⟨2, ![n, m]⟩ .f32} {f : ℕ → ℕ → ℝ} (hx : At2 n m x f)
    (h : ∀ a, ![0, 0] a + ![n, m] a ≤ (⟨2, ![n, m]⟩ : Shape).size a) :
    At2 n m (View.readAt (Elt Ideal) M.view (Rect.unit (s := ⟨2, ![n, m]⟩) ![0, 0] ![n, m] h).toLoadRect (hM.unread x)) f :=
  At2.congr (load2_at hM hx h) fun i j => by rw [zero_add, zero_add]

theorem whole2_bf16_at {M : Memref sig κ sp ⟨2, ![n, m]⟩ .bf16} (hM : M.IsWhole) {x : Vec Ideal ⟨2, ![n, m]⟩ .bf16} {f : ℕ → ℕ → ℝ} (hx : At2 n m x f)
    (h : ∀ a, ![0, 0] a + ![n, m] a ≤ (⟨2, ![n, m]⟩ : Shape).size a) :
    At2 n m (View.readAt (Elt Ideal) M.view (Rect.unit (s := ⟨2, ![n, m]⟩) ![0, 0] ![n, m] h).toLoadRect (hM.unread x)) f :=
  At2.congr (f := fun i j => f (0 + i) (0 + j)) (fun i j => (hM.readAt_unread x _ _).trans (At2.block hx h i j)) fun i j => by rw [zero_add, zero_add]

theorem whole3_bf16_at {M : Memref sig κ sp ⟨3, ![n, m, l]⟩ .bf16} (hM : M.IsWhole) {x : Vec Ideal ⟨3, ![n, m, l]⟩ .bf16} {f : ℕ → ℕ → ℕ → ℝ} (hx : At3 n m l x f)
    (h : ∀ a, ![0, 0, 0] a + ![n, m, l] a ≤ (⟨3, ![n, m, l]⟩ : Shape).size a) :
    At3 n m l (View.readAt (Elt Ideal) M.view (Rect.unit (s := ⟨3, ![n, m, l]⟩) ![0, 0, 0] ![n, m, l] h).toLoadRect (hM.unread x)) f :=
  At3.congr (f := fun i j k => f (0 + i) (0 + j) (0 + k)) (fun i j k => (hM.readAt_unread x _ _).trans (At3.block hx h i j k)) fun i j k => by rw [zero_add, zero_add, zero_add]
end Load

/-! ## The gates -/

/-- The value at any index. -/
theorem At2.eq {n m : ℕ} {X : Shape.Idx ⟨2, ![n, m]⟩ → EReal} {f : ℕ → ℕ → ℝ} (h : At2 n m X f) (j : Shape.Idx ⟨2, ![n, m]⟩) :
    X j = ((f (j 0).val (j 1).val : ℝ) : EReal) := (congrArg X (eq_ix2 j)).trans (h _ _)
theorem At3.eq {n m l : ℕ} {X : Shape.Idx ⟨3, ![n, m, l]⟩ → EReal} {f : ℕ → ℕ → ℕ → ℝ} (h : At3 n m l X f) (j : Shape.Idx ⟨3, ![n, m, l]⟩) :
    X j = ((f (j 0).val (j 1).val (j 2).val : ℝ) : EReal) := (congrArg X (eq_ix3 j)).trans (h _ _ _)

/-- What a tile loads for its gates: whether the rows above it are cleared, those rows, its own rows (each by column
    halves), the gates' weights and biases, the decay parameter, the convolution's taps and bias. -/
structure Tile where
  b : BitVec 1
  ha : FVec Ideal S1x8x512 .f32
  hb : FVec Ideal S1x8x512 .f32
  xa : FVec Ideal S1x512x512 .f32
  xb : FVec Ideal S1x512x512 .f32
  wa : FVec Ideal S4x256x256 .bf16
  wx : FVec Ideal S4x256x256 .bf16
  ba : FVec Ideal S1x1024 .f32
  bx : FVec Ideal S1x1024 .f32
  lam : FVec Ideal S1x1024 .f32
  cw : FVec Ideal S4x1024 .f32
  cb : FVec Ideal S1x1024 .f32

/-- The tile is tile `n` of the data. -/
structure Tile.Of (T : Tile) (d : Data) (n : ℕ) : Prop where
  b : T.b = BitVec.ofBool (decide (n = 0))
  ha : At3 1 8 512 T.ha fun _ s c => d.x (512 * n - 8 + s) c
  hb : At3 1 8 512 T.hb fun _ s c => d.x (512 * n - 8 + s) (512 + c)
  xa : At3 1 512 512 T.xa fun _ t c => d.x (512 * n + t) c
  xb : At3 1 512 512 T.xb fun _ t c => d.x (512 * n + t) (512 + c)
  wa : At3 4 256 256 T.wa d.wa
  wx : At3 4 256 256 T.wx d.wx
  ba : At2 1 1024 T.ba fun _ c => d.ba (c / 256) (c % 256)
  bx : At2 1 1024 T.bx fun _ c => d.bx (c / 256) (c % 256)
  lam : At2 1 1024 T.lam fun _ c => d.lam c
  cw : At2 4 1024 T.cw d.cw
  cb : At2 1 1024 T.cb fun _ c => d.cb c

theorem pay20_at {X : FVec Ideal S4x256x256 .bf16} {w : ℕ → ℕ → ℕ → ℝ} (h : At3 4 256 256 X w) : At3 4 256 256 (k1_pay20 (F := Ideal) X) w := by
  intro i j k
  pointwise [k1_pay20]
  exact h i j k
theorem pay24_at {X : FVec Ideal S1x1024 .f32} {w : ℕ → ℝ} (h : At2 1 1024 X fun _ c => w c) : At2 1 1024 (k1_pay24 (F := Ideal) X) fun _ c => w c := by
  intro i j
  pointwise [k1_pay24]
  exact h i j

namespace Tile
variable (T : Tile)

abbrev sp := k1_pay19 (F := Ideal) T.lam
abbrev wa' := k1_pay20 (F := Ideal) T.wa
abbrev wx' := k1_pay21 (F := Ideal) T.wx
abbrev ba' := k1_pay24 (F := Ideal) T.ba
abbrev bx' := k1_pay25 (F := Ideal) T.bx
abbrev halo := k1_pay22 (F := Ideal) T.b T.ha T.hb
abbrev x := k1_pay23 (F := Ideal) T.xa T.xb
abbrev x3 := k1_pay26 (F := Ideal) T.b T.ha T.hb T.xa T.xb
abbrev x2 := k1_pay27 (F := Ideal) T.b T.ha T.hb T.xa T.xb
abbrev xc := k1_pay29 (F := Ideal) T.cw T.halo T.x T.cb T.x3 T.x2
abbrev r := k1_pay41 T.wa' T.ba' (k1_pay31 T.cw T.wa' T.halo T.x T.cb T.x3 T.x2) (k1_pay34 T.cw T.wa' T.halo T.x T.cb T.x3 T.x2)
  (k1_pay37 T.cw T.wa' T.halo T.x T.cb T.x3 T.x2) (k1_pay39 T.cw T.halo T.x T.cb T.x3 T.x2)
abbrev ig := k1_pay42 T.wx' T.bx' (k1_pay32 T.cw T.wx' T.halo T.x T.cb T.x3 T.x2) (k1_pay35 T.cw T.wx' T.halo T.x T.cb T.x3 T.x2)
  (k1_pay38 T.cw T.wx' T.halo T.x T.cb T.x3 T.x2) (k1_pay39 T.cw T.halo T.x T.cb T.x3 T.x2)
abbrev a := k1_pay44 T.sp T.wa' T.ba' (k1_pay31 T.cw T.wa' T.halo T.x T.cb T.x3 T.x2) (k1_pay34 T.cw T.wa' T.halo T.x T.cb T.x3 T.x2)
  (k1_pay37 T.cw T.wa' T.halo T.x T.cb T.x3 T.x2) (k1_pay39 T.cw T.halo T.x T.cb T.x3 T.x2)
abbrev la2 := k1_pay45 T.sp T.wa' T.ba' (k1_pay31 T.cw T.wa' T.halo T.x T.cb T.x3 T.x2) (k1_pay34 T.cw T.wa' T.halo T.x T.cb T.x3 T.x2)
  (k1_pay37 T.cw T.wa' T.halo T.x T.cb T.x3 T.x2) (k1_pay39 T.cw T.halo T.x T.cb T.x3 T.x2)
abbrev ser := k1_pay46 T.sp T.wa' T.ba' (k1_pay31 T.cw T.wa' T.halo T.x T.cb T.x3 T.x2) (k1_pay34 T.cw T.wa' T.halo T.x T.cb T.x3 T.x2)
  (k1_pay37 T.cw T.wa' T.halo T.x T.cb T.x3 T.x2) (k1_pay39 T.cw T.halo T.x T.cb T.x3 T.x2)
abbrev rs := k1_pay49 T.a T.la2 T.ser k1_pay47
abbrev s := k1_pay50 T.a T.la2 T.ser k1_pay47

/-! The forward kernel's own operations compute the same. -/
def halo0 := k0_pay11 (F := Ideal) T.b (k0_pay9 T.ha T.hb) k0_pay10
def x0 := k0_pay12 (F := Ideal) T.xa T.xb
def x30 := k0_pay17 (F := Ideal) T.b (k0_pay9 T.ha T.hb) k0_pay10 T.xa T.xb
def x20 := k0_pay18 (F := Ideal) T.b (k0_pay9 T.ha T.hb) k0_pay10 T.xa T.xb
def xc0 := k0_pay19 (F := Ideal) T.halo0 T.x0 T.cw T.cb T.x30 T.x20
def ig0 := k0_pay31 (F := Ideal) (k0_pay14 T.wx) (k0_pay16 T.bx) (k0_pay22 T.halo0 T.x0 T.cw T.cb (k0_pay14 T.wx) T.x30 T.x20)
  (k0_pay25 T.halo0 T.x0 T.cw T.cb (k0_pay14 T.wx) T.x30 T.x20) (k0_pay28 T.halo0 T.x0 T.cw T.cb (k0_pay14 T.wx) T.x30 T.x20) (k0_pay29 T.halo0 T.x0 T.cw T.cb T.x30 T.x20)
def a0 := k0_pay33 (F := Ideal) (k0_pay8 T.lam) (k0_pay13 T.wa) (k0_pay15 T.ba) (k0_pay21 T.halo0 T.x0 T.cw T.cb (k0_pay13 T.wa) T.x30 T.x20)
  (k0_pay24 T.halo0 T.x0 T.cw T.cb (k0_pay13 T.wa) T.x30 T.x20) (k0_pay27 T.halo0 T.x0 T.cw T.cb (k0_pay13 T.wa) T.x30 T.x20) (k0_pay29 T.halo0 T.x0 T.cw T.cb T.x30 T.x20)
def la20 := k0_pay34 (F := Ideal) (k0_pay8 T.lam) (k0_pay13 T.wa) (k0_pay15 T.ba) (k0_pay21 T.halo0 T.x0 T.cw T.cb (k0_pay13 T.wa) T.x30 T.x20)
  (k0_pay24 T.halo0 T.x0 T.cw T.cb (k0_pay13 T.wa) T.x30 T.x20) (k0_pay27 T.halo0 T.x0 T.cw T.cb (k0_pay13 T.wa) T.x30 T.x20) (k0_pay29 T.halo0 T.x0 T.cw T.cb T.x30 T.x20)
def ser0 := k0_pay35 (F := Ideal) (k0_pay8 T.lam) (k0_pay13 T.wa) (k0_pay15 T.ba) (k0_pay21 T.halo0 T.x0 T.cw T.cb (k0_pay13 T.wa) T.x30 T.x20)
  (k0_pay24 T.halo0 T.x0 T.cw T.cb (k0_pay13 T.wa) T.x30 T.x20) (k0_pay27 T.halo0 T.x0 T.cw T.cb (k0_pay13 T.wa) T.x30 T.x20) (k0_pay29 T.halo0 T.x0 T.cw T.cb T.x30 T.x20)

theorem xc0_eq : T.xc0 = T.xc := rfl
theorem ig0_eq : T.ig0 = T.ig := rfl
theorem a0_eq : T.a0 = T.a := rfl
theorem la20_eq : T.la20 = T.la2 := rfl
theorem ser0_eq : T.ser0 = T.ser := rfl

variable {T} {d : Data} {n : ℕ} (h : T.Of d n)
include h

theorem sp_at : At2 1 1024 T.sp fun _ c => d.sp c := pay19_at h.lam
theorem wa_at : At3 4 256 256 T.wa' d.wa := pay20_at h.wa
theorem wx_at : At3 4 256 256 T.wx' d.wx := pay20_at h.wx
theorem ba_at : At2 1 1024 T.ba' fun _ c => d.ba (c / 256) (c % 256) := pay24_at (w := fun c => d.ba (c / 256) (c % 256)) h.ba
theorem bx_at : At2 1 1024 T.bx' fun _ c => d.bx (c / 256) (c % 256) := pay24_at (w := fun c => d.bx (c / 256) (c % 256)) h.bx
theorem halo_at : At2 8 1024 T.halo fun s c => if n = 0 then 0 else d.x (512 * n - 8 + s) c := pay22_at (f := fun s c => d.x (512 * n - 8 + s) c) h.b h.ha h.hb
theorem x_at : At2 512 1024 T.x fun t c => d.x (512 * n + t) c := pay23_at (f := fun t c => d.x (512 * n + t) c) h.xa h.xb
theorem xc_at : At2 512 1024 T.xc fun t c => d.xc (512 * n + t) c :=
  pay29_at h.cw h.cb (halo_at h) (x_at h)
    (At2.congr (pay26_at (hX := halo_at h) (hY := x_at h)) fun t c => below_xp d (by decide) t.isLt)
    (At2.congr (pay27_at (hX := halo_at h) (hY := x_at h)) fun t c => below_xp d (by decide) t.isLt)
theorem r_at : At2 512 1024 T.r fun t c => d.r (512 * n + t) c :=
  pay41_at (f := fun t c => d.xc (512 * n + t) c) (wa_at h) (ba_at h) (pay31_at (hX := xc_at h) (hw := wa_at h)) (pay34_at (hX := xc_at h) (hw := wa_at h))
    (pay37_at (hX := xc_at h) (hw := wa_at h)) (pay39_at (hX := xc_at h))
theorem ig_at : At2 512 1024 T.ig fun t c => d.ig (512 * n + t) c :=
  pay42_at (f := fun t c => d.xc (512 * n + t) c) (wx_at h) (bx_at h) (pay32_at (hX := xc_at h) (hw := wx_at h)) (pay35_at (hX := xc_at h) (hw := wx_at h))
    (pay38_at (hX := xc_at h) (hw := wx_at h)) (pay39_at (hX := xc_at h))
theorem a_at : At2 512 1024 T.a fun t c => d.a (512 * n + t) c := pay44_at (hsp := sp_at h) (hr := r_at h)
theorem la2_at : ∃ f, At2 512 1024 T.la2 f := pay45_at (hsp := sp_at h) (hr := r_at h)
theorem om_at : At2 512 1024 (k1_pay48 T.a T.la2 T.ser k1_pay47) fun t c => 1 - d.a (512 * n + t) c * d.a (512 * n + t) c := pay48_at (ha := a_at h) (h2 := la2_at h)
theorem rs_at : At2 512 1024 T.rs fun t c => (d.s (512 * n + t) c)⁻¹ := pay49_at (ha := a_at h) (h2 := la2_at h)
theorem s_at : At2 512 1024 T.s fun t c => d.s (512 * n + t) c := pay50_at (ha := a_at h) (h2 := la2_at h)
end Tile

end Cert.Lru

end
-- ==== Proof.Lru.Fwd.lean ====
/- What one point of the forward kernel leaves, at real numbers: the states of its tile, the gated output and the state it
   hands on. -/
module

public import proofs.«01_k».proof.Proof.Lru.Data0
public import proofs.«01_k».proof.Proof.Lru.Scan
public import proofs.«01_k».proof.Proof.Lru.Tile
public import Idealize.ShloMosaic.Lib.VecWindow

@[expose] public section

set_option maxRecDepth 16384

noncomputable section

namespace Cert.Lru

open Cert.LruKernelIdeal Cert.LruKernelIdeal.Gen
open Idealize.ShloMosaic Idealize.ShloMosaic.TcCoe Idealize.ShloMosaic.Tactic
open Cert.Common

/-! ## The mathematics of a tile -/

section Value
variable {T : Tile} {d : Data} {n : ℕ} (hT : T.Of d n)
include hT

theorem pay37_at0 : At2 512 1024 (k0_pay37 T.a0) fun t c => d.a (512 * n + t) c := by
  intro t c
  rw [T.a0_eq]
  pointwise [k0_pay37]
  exact Tile.a_at hT t c

theorem pay38_at0 : At2 512 1024 (k0_pay38 T.xc0 T.ig0 T.a0 T.la20 T.ser0 k0_pay36) fun t c => d.u (512 * n + t) c := by
  intro t c
  have e : k0_pay38 T.xc0 T.ig0 T.a0 T.la20 T.ser0 k0_pay36 (ix2 t c)
      = Ideal.sqrt (k1_pay48 T.a T.la2 T.ser k1_pay47 (ix2 t c)) * (T.ig (ix2 t c) * T.xc (ix2 t c)) := by
    rw [T.xc0_eq, T.ig0_eq, T.a0_eq, T.la20_eq, T.ser0_eq]
    pointwise [k0_pay38, k1_pay48, k0_pay36, k1_pay47]
  rw [e, Tile.om_at hT t c, Tile.ig_at hT t c, Tile.xc_at hT t c, sqrt_real (d.om_pos _ _).le, ← EReal.coe_mul, ← EReal.coe_mul]
  rfl

variable {init : FVec Ideal S8x1024 .f32} (hinit : At2 8 1024 init fun _ c => d.H (512 * n) c)
include hinit

theorem states_at : At2 512 1024 (tile0 (F := Ideal) rowNo (k0_pay37 T.a0) (k0_pay38 T.xc0 T.ig0 T.a0 T.la20 T.ser0 k0_pay36) init) fun t c => d.H (512 * n + t + 1) c :=
  tile0_at (hA := pay37_at0 hT) (hU := pay38_at0 hT) (hi := hinit) (H := fun t c => d.H (512 * n + t) c) (hH := fun t _ c => rfl)

theorem last_at : At2 8 1024 (k0_pay41 (carry0 (F := Ideal) rowNo (k0_pay37 T.a0) (k0_pay38 T.xc0 T.ig0 T.a0 T.la20 T.ser0 k0_pay36) init 64)) fun _ c => d.H (512 * (n + 1)) c := by
  intro s c
  have e := carry0_at (hA := pay37_at0 hT) (hU := pay38_at0 hT) (hi := hinit) (H := fun t c => d.H (512 * n + t) c) (hH := fun t _ c => rfl) 64 le_rfl s c
  pointwise [k0_pay41]
  exact e
end Value

theorem pay1_at0 {d : Data} {n : ℕ} {ga gb : FVec Ideal S1x512x512 .f32} {h : FVec Ideal S512x1024 .f32}
    (ha : At3 1 512 512 ga fun _ t c => d.g (512 * n + t) c) (hb : At3 1 512 512 gb fun _ t c => d.g (512 * n + t) (512 + c))
    (hh : At2 512 1024 h fun t c => d.H (512 * n + t + 1) c) :
    At3 1 512 1024 (k0_pay1 (F := Ideal) (k0_pay42 ga gb) (k0_pay43 h) (k0_pay44 ga gb) (FloatOps.ofBits FTy.f32 1056964608#32)) fun _ t c => d.y (512 * n + t) c := by
  intro z t c
  have hg : At2 512 1024 (k1_pay52 (F := Ideal) ga gb) fun t c => d.g (512 * n + t) c := pay52_at (f := fun t c => d.g (512 * n + t) c) ha hb
  have e : k0_pay1 (F := Ideal) (k0_pay42 ga gb) (k0_pay43 h) (k0_pay44 ga gb) (FloatOps.ofBits FTy.f32 1056964608#32) (ix3 z t c)
      = h (ix2 t c) * (k1_pay52 (F := Ideal) ga gb (ix2 t c) * k1_pay53 (F := Ideal) ga gb (ix2 t c)) := by
    pointwise [k0_pay1, k0_pay43, k0_pay44, k0_pay42, k1_pay53, k1_pay52]
  rw [e, hh t c, hg t c, pay53_at (hg := hg), ← EReal.coe_mul, ← EReal.coe_mul]
  rfl

/-! ## One point -/

/-- A point's input blocks are those of tile `n`. -/
structure In0 (d : Data) (n : ℕ) (x1 : Vec Ideal S2x512x512 .f32) (x2 : Vec Ideal S2x8x512 .f32) (x3 : Vec Ideal S2x512x512 .f32) (x4 : Vec Ideal S4x256x256 .bf16) (x5 : Vec Ideal S4x256x256 .bf16) (x6 : Vec Ideal S1x1024 .f32) (x7 : Vec Ideal S1x1024 .f32) (x8 : Vec Ideal S1x1024 .f32) (x9 : Vec Ideal S4x1024 .f32) (x10 : Vec Ideal S1x1024 .f32) : Prop where
  lx : At3 2 512 512 x1 fun k t c => d.x (512 * n + t) (512 * k + c)
  halo : At3 2 8 512 x2 fun k s c => d.x (512 * n - 8 + s) (512 * k + c)
  lg : At3 2 512 512 x3 fun k t c => d.g (512 * n + t) (512 * k + c)
  wa : At3 4 256 256 x4 d.wa
  wx : At3 4 256 256 x5 d.wx
  ba : At2 1 1024 x6 fun _ c => d.ba (c / 256) (c % 256)
  bx : At2 1 1024 x7 fun _ c => d.bx (c / 256) (c % 256)
  lam : At2 1 1024 x8 fun _ c => d.lam c
  cw : At2 4 1024 x9 d.cw
  cb : At2 1 1024 x10 fun _ c => d.cb c

/-- Whether the grid's index is the given one. -/
theorem eq_word {i k : ℕ} (hi : i < 2 ^ 31) (hk : k < 2 ^ 31) : Scalar.cmpi .eq (BitVec.ofNat 32 i) (BitVec.ofNat 32 k) = BitVec.ofBool (decide (i = k)) :=
  WordCmp.cmpi_eq_ofNat (w := 32) (by omega) (by omega)

section Point
variable {d : Data} {n : ℕ} (c : Dev nD) (i : grid0.Coords) {arg1 : Memref sig .tc .vmem S2x512x512 .f32} (harg1 : arg1.IsWhole) {arg2 : Memref sig .tc .vmem S2x8x512 .f32} (harg2 : arg2.IsWhole) {arg3 : Memref sig .tc .vmem S2x512x512 .f32} (harg3 : arg3.IsWhole) {arg4 : Memref sig .tc .vmem S4x256x256 .bf16} (harg4 : arg4.IsWhole) {arg5 : Memref sig .tc .vmem S4x256x256 .bf16} (harg5 : arg5.IsWhole) {arg6 : Memref sig .tc .vmem S1x1024 .f32} (harg6 : arg6.IsWhole) {arg7 : Memref sig .tc .vmem S1x1024 .f32} (harg7 : arg7.IsWhole) {arg8 : Memref sig .tc .vmem S1x1024 .f32} (harg8 : arg8.IsWhole) {arg9 : Memref sig .tc .vmem S4x1024 .f32} (harg9 : arg9.IsWhole) {arg10 : Memref sig .tc .vmem S1x1024 .f32} (harg10 : arg10.IsWhole) {arg11 : Memref sig .tc .vmem S512x1024 .f32} (harg11 : arg11.IsWhole) {arg12 : Memref sig .tc .vmem S1x512x1024 .bf16} (harg12 : arg12.IsWhole) {arg13 : Memref sig .tc .vmem S512x1024 .f32} (harg13 : arg13.IsWhole) {arg14 : Memref sig .tc .vmem S512x1024 .f32} (harg14 : arg14.IsWhole) {arg15 : Memref sig .tc .vmem S8x1024 .f32} (harg15 : arg15.IsWhole)
  {x1 : Vec Ideal S2x512x512 .f32} {x2 : Vec Ideal S2x8x512 .f32} {x3 : Vec Ideal S2x512x512 .f32} {x4 : Vec Ideal S4x256x256 .bf16} {x5 : Vec Ideal S4x256x256 .bf16} {x6 : Vec Ideal S1x1024 .f32} {x7 : Vec Ideal S1x1024 .f32} {x8 : Vec Ideal S1x1024 .f32} {x9 : Vec Ideal S4x1024 .f32} {x10 : Vec Ideal S1x1024 .f32}

/-- The tile a point loads. -/
def tileOf0 : Tile where
  b := Scalar.cmpi .eq (BitVec.ofNat 32 (i 0).val) 0#32
  ha := View.readAt (Elt Ideal) arg2.view (Rect.unit (s := S2x8x512) ![0, 0, 0] S1x8x512.size inb_S2x8x512_S1x8x512_0_0_0).toLoadRect (harg2.unread x2)
  hb := View.readAt (Elt Ideal) arg2.view (Rect.unit (s := S2x8x512) ![1, 0, 0] S1x8x512.size inb_S2x8x512_S1x8x512_1_0_0).toLoadRect (harg2.unread x2)
  xa := View.readAt (Elt Ideal) arg1.view (Rect.unit (s := S2x512x512) ![0, 0, 0] S1x512x512.size inb_S2x512x512_S1x512x512_0_0_0).toLoadRect (harg1.unread x1)
  xb := View.readAt (Elt Ideal) arg1.view (Rect.unit (s := S2x512x512) ![1, 0, 0] S1x512x512.size inb_S2x512x512_S1x512x512_1_0_0).toLoadRect (harg1.unread x1)
  wa := View.readAt (Elt Ideal) arg4.view (Rect.unit (s := S4x256x256) ![0, 0, 0] S4x256x256.size inb_S4x256x256_S4x256x256_0_0_0).toLoadRect (harg4.unread x4)
  wx := View.readAt (Elt Ideal) arg5.view (Rect.unit (s := S4x256x256) ![0, 0, 0] S4x256x256.size inb_S4x256x256_S4x256x256_0_0_0).toLoadRect (harg5.unread x5)
  ba := View.readAt (Elt Ideal) arg6.view (Rect.unit (s := S1x1024) ![0, 0] S1x1024.size inb_S1x1024_S1x1024_0_0).toLoadRect (harg6.unread x6)
  bx := View.readAt (Elt Ideal) arg7.view (Rect.unit (s := S1x1024) ![0, 0] S1x1024.size inb_S1x1024_S1x1024_0_0).toLoadRect (harg7.unread x7)
  lam := View.readAt (Elt Ideal) arg8.view (Rect.unit (s := S1x1024) ![0, 0] S1x1024.size inb_S1x1024_S1x1024_0_0).toLoadRect (harg8.unread x8)
  cw := View.readAt (Elt Ideal) arg9.view (Rect.unit (s := S4x1024) ![0, 0] S4x1024.size inb_S4x1024_S4x1024_0_0).toLoadRect (harg9.unread x9)
  cb := View.readAt (Elt Ideal) arg10.view (Rect.unit (s := S1x1024) ![0, 0] S1x1024.size inb_S1x1024_S1x1024_0_0).toLoadRect (harg10.unread x10)

variable (hin : In0 d n x1 x2 x3 x4 x5 x6 x7 x8 x9 x10) (hi : (i 0).val = n) (hn : n < 16)
include hin hi hn

theorem tileOf0_of : (tileOf0 i harg1 harg2 harg4 harg5 harg6 harg7 harg8 harg9 harg10 (x1 := x1) (x2 := x2) (x4 := x4) (x5 := x5) (x6 := x6) (x7 := x7) (x8 := x8) (x9 := x9) (x10 := x10)).Of d n where
  b := by subst hi; exact eq_word (by omega) (by decide)
  ha := At3.congr (load3_at harg2 hin.halo _) fun k s c => by have := k.isLt; simp only [zero_add, Nat.lt_one_iff.mp this, Nat.mul_zero]
  hb := At3.congr (load3_at harg2 hin.halo _) fun k s c => by have := k.isLt; simp only [zero_add, Nat.lt_one_iff.mp this, Nat.mul_one, Nat.add_zero]
  xa := At3.congr (load3_at harg1 hin.lx _) fun k s c => by have := k.isLt; simp only [zero_add, Nat.lt_one_iff.mp this, Nat.mul_zero]
  xb := At3.congr (load3_at harg1 hin.lx _) fun k s c => by have := k.isLt; simp only [zero_add, Nat.lt_one_iff.mp this, Nat.mul_one, Nat.add_zero]
  wa := whole3_bf16_at harg4 hin.wa _
  wx := whole3_bf16_at harg5 hin.wx _
  ba := whole2_at harg6 hin.ba _
  bx := whole2_at harg7 hin.bx _
  lam := whole2_at harg8 hin.lam _
  cw := whole2_at harg9 hin.cw _
  cb := whole2_at harg10 hin.cb _

theorem run0B_h (hc : ¬cond0 i) {y15 : Vec Ideal S8x1024 .f32} (hy : At2 8 1024 y15 fun _ c => d.H (512 * n) c) : At2 512 1024 (run0B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10 y15).1 fun t c => d.H (512 * n + t + 1) c := by
  have e : (run0B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10 y15).1 = tile0 (F := Ideal) rowNo (k0_pay37 (tileOf0 i harg1 harg2 harg4 harg5 harg6 harg7 harg8 harg9 harg10 (x1 := x1) (x2 := x2) (x4 := x4) (x5 := x5) (x6 := x6) (x7 := x7) (x8 := x8) (x9 := x9) (x10 := x10)).a0) (k0_pay38 (tileOf0 i harg1 harg2 harg4 harg5 harg6 harg7 harg8 harg9 harg10 (x1 := x1) (x2 := x2) (x4 := x4) (x5 := x5) (x6 := x6) (x7 := x7) (x8 := x8) (x9 := x9) (x10 := x10)).xc0 (tileOf0 i harg1 harg2 harg4 harg5 harg6 harg7 harg8 harg9 harg10 (x1 := x1) (x2 := x2) (x4 := x4) (x5 := x5) (x6 := x6) (x7 := x7) (x8 := x8) (x9 := x9) (x10 := x10)).ig0 (tileOf0 i harg1 harg2 harg4 harg5 harg6 harg7 harg8 harg9 harg10 (x1 := x1) (x2 := x2) (x4 := x4) (x5 := x5) (x6 := x6) (x7 := x7) (x8 := x8) (x9 := x9) (x10 := x10)).a0 (tileOf0 i harg1 harg2 harg4 harg5 harg6 harg7 harg8 harg9 harg10 (x1 := x1) (x2 := x2) (x4 := x4) (x5 := x5) (x6 := x6) (x7 := x7) (x8 := x8) (x9 := x9) (x10 := x10)).la20 (tileOf0 i harg1 harg2 harg4 harg5 harg6 harg7 harg8 harg9 harg10 (x1 := x1) (x2 := x2) (x4 := x4) (x5 := x5) (x6 := x6) (x7 := x7) (x8 := x8) (x9 := x9) (x10 := x10)).ser0 k0_pay36) (View.readAt (Elt Ideal) arg15.view (Rect.unit (s := S8x1024) ![0, 0] S8x1024.size inb_S8x1024_S8x1024_0_0).toLoadRect (harg15.unread y15)) := by
    refine Eq.trans (b := tile0 (F := Ideal) rowNo (View.read (Elt Ideal) arg13.view (arg13.view.writes (Elt Ideal) arg13.view.junk [⟨Rect.unit ![0, 0] S512x1024.size inb_S512x1024_S512x1024_0_0, k0_pay37 (tileOf0 i harg1 harg2 harg4 harg5 harg6 harg7 harg8 harg9 harg10 (x1 := x1) (x2 := x2) (x4 := x4) (x5 := x5) (x6 := x6) (x7 := x7) (x8 := x8) (x9 := x9) (x10 := x10)).a0⟩]))
      (View.read (Elt Ideal) arg14.view (arg14.view.writes (Elt Ideal) arg14.view.junk [⟨Rect.unit ![0, 0] S512x1024.size inb_S512x1024_S512x1024_0_0, k0_pay38 (tileOf0 i harg1 harg2 harg4 harg5 harg6 harg7 harg8 harg9 harg10 (x1 := x1) (x2 := x2) (x4 := x4) (x5 := x5) (x6 := x6) (x7 := x7) (x8 := x8) (x9 := x9) (x10 := x10)).xc0 (tileOf0 i harg1 harg2 harg4 harg5 harg6 harg7 harg8 harg9 harg10 (x1 := x1) (x2 := x2) (x4 := x4) (x5 := x5) (x6 := x6) (x7 := x7) (x8 := x8) (x9 := x9) (x10 := x10)).ig0 (tileOf0 i harg1 harg2 harg4 harg5 harg6 harg7 harg8 harg9 harg10 (x1 := x1) (x2 := x2) (x4 := x4) (x5 := x5) (x6 := x6) (x7 := x7) (x8 := x8) (x9 := x9) (x10 := x10)).a0 (tileOf0 i harg1 harg2 harg4 harg5 harg6 harg7 harg8 harg9 harg10 (x1 := x1) (x2 := x2) (x4 := x4) (x5 := x5) (x6 := x6) (x7 := x7) (x8 := x8) (x9 := x9) (x10 := x10)).la20 (tileOf0 i harg1 harg2 harg4 harg5 harg6 harg7 harg8 harg9 harg10 (x1 := x1) (x2 := x2) (x4 := x4) (x5 := x5) (x6 := x6) (x7 := x7) (x8 := x8) (x9 := x9) (x10 := x10)).ser0 k0_pay36⟩])) (View.readAt (Elt Ideal) arg15.view (Rect.unit (s := S8x1024) ![0, 0] S8x1024.size inb_S8x1024_S8x1024_0_0).toLoadRect (harg15.unread y15))) (by sl_kernel_rfl) ?_
    rw [View.read_writes_full, View.read_writes_full]
  rw [e]
  exact states_at (tileOf0_of i harg1 harg2 harg4 harg5 harg6 harg7 harg8 harg9 harg10 hin hi hn) (whole2_at harg15 (f := fun _ c => d.H (512 * n) c) hy _)

theorem run0B_y (hc : ¬cond0 i) {y15 : Vec Ideal S8x1024 .f32} (hy : At2 8 1024 y15 fun _ c => d.H (512 * n) c) (v : View sig .tc .vmem S1x512x1024 .bf16) :
    At3 1 512 1024 (v.read (Elt Ideal) (v.writes (Elt Ideal) v.junk (run0B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10 y15).2.1)) fun _ t c => d.y (512 * n + t) c := by
  have e : (run0B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10 y15).2.1 = [⟨Rect.unit ![0, 0, 0] S1x512x1024.size inb_S1x512x1024_S1x512x1024_0_0_0, k0_pay1 (F := Ideal) (k0_pay42 (View.readAt (Elt Ideal) arg3.view (Rect.unit (s := S2x512x512) ![0, 0, 0] S1x512x512.size inb_S2x512x512_S1x512x512_0_0_0).toLoadRect (harg3.unread x3)) (View.readAt (Elt Ideal) arg3.view (Rect.unit (s := S2x512x512) ![1, 0, 0] S1x512x512.size inb_S2x512x512_S1x512x512_1_0_0).toLoadRect (harg3.unread x3)))
      (k0_pay43 (View.readAt (Elt Ideal) arg11.view (Rect.unit (s := S512x1024) ![0, 0] S512x1024.size inb_S512x1024_S512x1024_0_0).toLoadRect (harg11.unread (run0B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10 y15).1)))
      (k0_pay44 (View.readAt (Elt Ideal) arg3.view (Rect.unit (s := S2x512x512) ![0, 0, 0] S1x512x512.size inb_S2x512x512_S1x512x512_0_0_0).toLoadRect (harg3.unread x3)) (View.readAt (Elt Ideal) arg3.view (Rect.unit (s := S2x512x512) ![1, 0, 0] S1x512x512.size inb_S2x512x512_S1x512x512_1_0_0).toLoadRect (harg3.unread x3))) (FloatOps.ofBits FTy.f32 1056964608#32)⟩] := by sl_kernel_rfl
  rw [e, View.read_writes_full]
  exact pay1_at0
    (At3.congr (load3_at harg3 hin.lg _) fun k s c => by have := k.isLt; simp only [zero_add, Nat.lt_one_iff.mp this, Nat.mul_zero])
    (At3.congr (load3_at harg3 hin.lg _) fun k s c => by have := k.isLt; simp only [zero_add, Nat.lt_one_iff.mp this, Nat.mul_one, Nat.add_zero])
    (whole2_at harg11 (f := fun t c => d.H (512 * n + t + 1) c) (run0B_h c i harg1 harg2 harg3 harg4 harg5 harg6 harg7 harg8 harg9 harg10 harg11 harg12 harg13 harg14 harg15 hin hi hn hc hy) _)

theorem run0B_carry (hc : ¬cond0 i) {y15 : Vec Ideal S8x1024 .f32} (hy : At2 8 1024 y15 fun _ c => d.H (512 * n) c) (v : View sig .tc .vmem S8x1024 .f32) :
    At2 8 1024 (v.read (Elt Ideal) (v.writes (Elt Ideal) v.junk (run0B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10 y15).2.2.1)) fun _ c => d.H (512 * (n + 1)) c := by
  have e : (run0B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10 y15).2.2.1 = [⟨Rect.unit ![0, 0] S8x1024.size inb_S8x1024_S8x1024_0_0, k0_pay41 (carry0 (F := Ideal) rowNo (View.read (Elt Ideal) arg13.view (arg13.view.writes (Elt Ideal) arg13.view.junk [⟨Rect.unit ![0, 0] S512x1024.size inb_S512x1024_S512x1024_0_0, k0_pay37 (tileOf0 i harg1 harg2 harg4 harg5 harg6 harg7 harg8 harg9 harg10 (x1 := x1) (x2 := x2) (x4 := x4) (x5 := x5) (x6 := x6) (x7 := x7) (x8 := x8) (x9 := x9) (x10 := x10)).a0⟩]))
      (View.read (Elt Ideal) arg14.view (arg14.view.writes (Elt Ideal) arg14.view.junk [⟨Rect.unit ![0, 0] S512x1024.size inb_S512x1024_S512x1024_0_0, k0_pay38 (tileOf0 i harg1 harg2 harg4 harg5 harg6 harg7 harg8 harg9 harg10 (x1 := x1) (x2 := x2) (x4 := x4) (x5 := x5) (x6 := x6) (x7 := x7) (x8 := x8) (x9 := x9) (x10 := x10)).xc0 (tileOf0 i harg1 harg2 harg4 harg5 harg6 harg7 harg8 harg9 harg10 (x1 := x1) (x2 := x2) (x4 := x4) (x5 := x5) (x6 := x6) (x7 := x7) (x8 := x8) (x9 := x9) (x10 := x10)).ig0 (tileOf0 i harg1 harg2 harg4 harg5 harg6 harg7 harg8 harg9 harg10 (x1 := x1) (x2 := x2) (x4 := x4) (x5 := x5) (x6 := x6) (x7 := x7) (x8 := x8) (x9 := x9) (x10 := x10)).a0 (tileOf0 i harg1 harg2 harg4 harg5 harg6 harg7 harg8 harg9 harg10 (x1 := x1) (x2 := x2) (x4 := x4) (x5 := x5) (x6 := x6) (x7 := x7) (x8 := x8) (x9 := x9) (x10 := x10)).la20 (tileOf0 i harg1 harg2 harg4 harg5 harg6 harg7 harg8 harg9 harg10 (x1 := x1) (x2 := x2) (x4 := x4) (x5 := x5) (x6 := x6) (x7 := x7) (x8 := x8) (x9 := x9) (x10 := x10)).ser0 k0_pay36⟩])) (View.readAt (Elt Ideal) arg15.view (Rect.unit (s := S8x1024) ![0, 0] S8x1024.size inb_S8x1024_S8x1024_0_0).toLoadRect (harg15.unread y15)) 64)⟩] := by sl_kernel_rfl
  rw [e, View.read_writes_full, View.read_writes_full, View.read_writes_full]
  exact last_at (tileOf0_of i harg1 harg2 harg4 harg5 harg6 harg7 harg8 harg9 harg10 hin hi hn) (whole2_at harg15 (f := fun _ c => d.H (512 * n) c) hy _)

omit hin hi hn

/-- The first point starts from the zero state. -/
theorem pay7_at0 (d : Data) : At2 8 1024 (k0_pay7 (F := Ideal)) fun _ c => d.H (512 * 0) c := by
  intro s c
  pointwise [k0_pay7]
  rfl

theorem run0A_h (hin : In0 d 0 x1 x2 x3 x4 x5 x6 x7 x8 x9 x10) (hi : (i 0).val = 0) (hc : cond0 i) : At2 512 1024 (run0A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10).1 fun t c => d.H (512 * 0 + t + 1) c := by
  have e : (run0A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10).1 = tile0 (F := Ideal) rowNo (k0_pay37 (tileOf0 i harg1 harg2 harg4 harg5 harg6 harg7 harg8 harg9 harg10 (x1 := x1) (x2 := x2) (x4 := x4) (x5 := x5) (x6 := x6) (x7 := x7) (x8 := x8) (x9 := x9) (x10 := x10)).a0) (k0_pay38 (tileOf0 i harg1 harg2 harg4 harg5 harg6 harg7 harg8 harg9 harg10 (x1 := x1) (x2 := x2) (x4 := x4) (x5 := x5) (x6 := x6) (x7 := x7) (x8 := x8) (x9 := x9) (x10 := x10)).xc0 (tileOf0 i harg1 harg2 harg4 harg5 harg6 harg7 harg8 harg9 harg10 (x1 := x1) (x2 := x2) (x4 := x4) (x5 := x5) (x6 := x6) (x7 := x7) (x8 := x8) (x9 := x9) (x10 := x10)).ig0 (tileOf0 i harg1 harg2 harg4 harg5 harg6 harg7 harg8 harg9 harg10 (x1 := x1) (x2 := x2) (x4 := x4) (x5 := x5) (x6 := x6) (x7 := x7) (x8 := x8) (x9 := x9) (x10 := x10)).a0 (tileOf0 i harg1 harg2 harg4 harg5 harg6 harg7 harg8 harg9 harg10 (x1 := x1) (x2 := x2) (x4 := x4) (x5 := x5) (x6 := x6) (x7 := x7) (x8 := x8) (x9 := x9) (x10 := x10)).la20 (tileOf0 i harg1 harg2 harg4 harg5 harg6 harg7 harg8 harg9 harg10 (x1 := x1) (x2 := x2) (x4 := x4) (x5 := x5) (x6 := x6) (x7 := x7) (x8 := x8) (x9 := x9) (x10 := x10)).ser0 k0_pay36) (k0_pay7 (F := Ideal)) := by
    refine Eq.trans (b := tile0 (F := Ideal) rowNo (View.read (Elt Ideal) arg13.view (arg13.view.writes (Elt Ideal) arg13.view.junk [⟨Rect.unit ![0, 0] S512x1024.size inb_S512x1024_S512x1024_0_0, k0_pay37 (tileOf0 i harg1 harg2 harg4 harg5 harg6 harg7 harg8 harg9 harg10 (x1 := x1) (x2 := x2) (x4 := x4) (x5 := x5) (x6 := x6) (x7 := x7) (x8 := x8) (x9 := x9) (x10 := x10)).a0⟩]))
      (View.read (Elt Ideal) arg14.view (arg14.view.writes (Elt Ideal) arg14.view.junk [⟨Rect.unit ![0, 0] S512x1024.size inb_S512x1024_S512x1024_0_0, k0_pay38 (tileOf0 i harg1 harg2 harg4 harg5 harg6 harg7 harg8 harg9 harg10 (x1 := x1) (x2 := x2) (x4 := x4) (x5 := x5) (x6 := x6) (x7 := x7) (x8 := x8) (x9 := x9) (x10 := x10)).xc0 (tileOf0 i harg1 harg2 harg4 harg5 harg6 harg7 harg8 harg9 harg10 (x1 := x1) (x2 := x2) (x4 := x4) (x5 := x5) (x6 := x6) (x7 := x7) (x8 := x8) (x9 := x9) (x10 := x10)).ig0 (tileOf0 i harg1 harg2 harg4 harg5 harg6 harg7 harg8 harg9 harg10 (x1 := x1) (x2 := x2) (x4 := x4) (x5 := x5) (x6 := x6) (x7 := x7) (x8 := x8) (x9 := x9) (x10 := x10)).a0 (tileOf0 i harg1 harg2 harg4 harg5 harg6 harg7 harg8 harg9 harg10 (x1 := x1) (x2 := x2) (x4 := x4) (x5 := x5) (x6 := x6) (x7 := x7) (x8 := x8) (x9 := x9) (x10 := x10)).la20 (tileOf0 i harg1 harg2 harg4 harg5 harg6 harg7 harg8 harg9 harg10 (x1 := x1) (x2 := x2) (x4 := x4) (x5 := x5) (x6 := x6) (x7 := x7) (x8 := x8) (x9 := x9) (x10 := x10)).ser0 k0_pay36⟩])) (arg15.view.readCov [⟨Rect.unit ![0, 0] S8x1024.size inb_S8x1024_S8x1024_0_0, k0_pay7 (F := Ideal)⟩] (Rect.unit (s := S8x1024) ![0, 0] S8x1024.size inb_S8x1024_S8x1024_0_0).toLoadRect)) (by sl_kernel_rfl) ?_
    rw [View.read_writes_full, View.read_writes_full]
    rw [View.readCov_full]
  rw [e]
  exact states_at (tileOf0_of i harg1 harg2 harg4 harg5 harg6 harg7 harg8 harg9 harg10 hin hi (by decide)) (pay7_at0 d)

theorem run0A_y (hin : In0 d 0 x1 x2 x3 x4 x5 x6 x7 x8 x9 x10) (hi : (i 0).val = 0) (hc : cond0 i) (v : View sig .tc .vmem S1x512x1024 .bf16) :
    At3 1 512 1024 (v.read (Elt Ideal) (v.writes (Elt Ideal) v.junk (run0A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10).2.1)) fun _ t c => d.y (512 * 0 + t) c := by
  have e : (run0A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10).2.1 = [⟨Rect.unit ![0, 0, 0] S1x512x1024.size inb_S1x512x1024_S1x512x1024_0_0_0, k0_pay1 (F := Ideal) (k0_pay42 (View.readAt (Elt Ideal) arg3.view (Rect.unit (s := S2x512x512) ![0, 0, 0] S1x512x512.size inb_S2x512x512_S1x512x512_0_0_0).toLoadRect (harg3.unread x3)) (View.readAt (Elt Ideal) arg3.view (Rect.unit (s := S2x512x512) ![1, 0, 0] S1x512x512.size inb_S2x512x512_S1x512x512_1_0_0).toLoadRect (harg3.unread x3)))
      (k0_pay43 (View.readAt (Elt Ideal) arg11.view (Rect.unit (s := S512x1024) ![0, 0] S512x1024.size inb_S512x1024_S512x1024_0_0).toLoadRect (harg11.unread (run0A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10).1)))
      (k0_pay44 (View.readAt (Elt Ideal) arg3.view (Rect.unit (s := S2x512x512) ![0, 0, 0] S1x512x512.size inb_S2x512x512_S1x512x512_0_0_0).toLoadRect (harg3.unread x3)) (View.readAt (Elt Ideal) arg3.view (Rect.unit (s := S2x512x512) ![1, 0, 0] S1x512x512.size inb_S2x512x512_S1x512x512_1_0_0).toLoadRect (harg3.unread x3))) (FloatOps.ofBits FTy.f32 1056964608#32)⟩] := by sl_kernel_rfl
  rw [e, View.read_writes_full]
  exact pay1_at0
    (At3.congr (load3_at harg3 hin.lg _) fun k s c => by have := k.isLt; simp only [zero_add, Nat.lt_one_iff.mp this, Nat.mul_zero])
    (At3.congr (load3_at harg3 hin.lg _) fun k s c => by have := k.isLt; simp only [zero_add, Nat.lt_one_iff.mp this, Nat.mul_one, Nat.add_zero])
    (whole2_at harg11 (f := fun t c => d.H (512 * 0 + t + 1) c) (run0A_h c i harg1 harg2 harg3 harg4 harg5 harg6 harg7 harg8 harg9 harg10 harg11 harg12 harg13 harg14 harg15 hin hi hc) _)

theorem run0A_carry (hin : In0 d 0 x1 x2 x3 x4 x5 x6 x7 x8 x9 x10) (hi : (i 0).val = 0) (hc : cond0 i) (v : View sig .tc .vmem S8x1024 .f32) :
    At2 8 1024 (v.read (Elt Ideal) (v.writes (Elt Ideal) v.junk (run0A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10).2.2.1)) fun _ c => d.H (512 * (0 + 1)) c := by
  have e : (run0A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc x1 x2 x3 x4 x5 x6 x7 x8 x9 x10).2.2.1 = [⟨Rect.unit ![0, 0] S8x1024.size inb_S8x1024_S8x1024_0_0, k0_pay41 (carry0 (F := Ideal) rowNo (View.read (Elt Ideal) arg13.view (arg13.view.writes (Elt Ideal) arg13.view.junk [⟨Rect.unit ![0, 0] S512x1024.size inb_S512x1024_S512x1024_0_0, k0_pay37 (tileOf0 i harg1 harg2 harg4 harg5 harg6 harg7 harg8 harg9 harg10 (x1 := x1) (x2 := x2) (x4 := x4) (x5 := x5) (x6 := x6) (x7 := x7) (x8 := x8) (x9 := x9) (x10 := x10)).a0⟩]))
      (View.read (Elt Ideal) arg14.view (arg14.view.writes (Elt Ideal) arg14.view.junk [⟨Rect.unit ![0, 0] S512x1024.size inb_S512x1024_S512x1024_0_0, k0_pay38 (tileOf0 i harg1 harg2 harg4 harg5 harg6 harg7 harg8 harg9 harg10 (x1 := x1) (x2 := x2) (x4 := x4) (x5 := x5) (x6 := x6) (x7 := x7) (x8 := x8) (x9 := x9) (x10 := x10)).xc0 (tileOf0 i harg1 harg2 harg4 harg5 harg6 harg7 harg8 harg9 harg10 (x1 := x1) (x2 := x2) (x4 := x4) (x5 := x5) (x6 := x6) (x7 := x7) (x8 := x8) (x9 := x9) (x10 := x10)).ig0 (tileOf0 i harg1 harg2 harg4 harg5 harg6 harg7 harg8 harg9 harg10 (x1 := x1) (x2 := x2) (x4 := x4) (x5 := x5) (x6 := x6) (x7 := x7) (x8 := x8) (x9 := x9) (x10 := x10)).a0 (tileOf0 i harg1 harg2 harg4 harg5 harg6 harg7 harg8 harg9 harg10 (x1 := x1) (x2 := x2) (x4 := x4) (x5 := x5) (x6 := x6) (x7 := x7) (x8 := x8) (x9 := x9) (x10 := x10)).la20 (tileOf0 i harg1 harg2 harg4 harg5 harg6 harg7 harg8 harg9 harg10 (x1 := x1) (x2 := x2) (x4 := x4) (x5 := x5) (x6 := x6) (x7 := x7) (x8 := x8) (x9 := x9) (x10 := x10)).ser0 k0_pay36⟩])) (arg15.view.readCov [⟨Rect.unit ![0, 0] S8x1024.size inb_S8x1024_S8x1024_0_0, k0_pay7 (F := Ideal)⟩] (Rect.unit (s := S8x1024) ![0, 0] S8x1024.size inb_S8x1024_S8x1024_0_0).toLoadRect) 64)⟩, ⟨Rect.unit ![0, 0] S8x1024.size inb_S8x1024_S8x1024_0_0, k0_pay7 (F := Ideal)⟩] := by sl_kernel_rfl
  rw [e, View.read_writes_full, View.read_writes_full, View.read_writes_full]
  rw [View.readCov_full]
  exact last_at (tileOf0_of i harg1 harg2 harg4 harg5 harg6 harg7 harg8 harg9 harg10 hin hi (by decide)) (pay7_at0 d)

end Point

end Cert.Lru

end
-- ==== Proof.Lru.FwdArr.lean ====
/- The forward region's points over the whole array: the states `main_v6_0` and the gated output's first half `main_v6_1`. -/
module

public import proofs.«01_k».proof.Proof.Lru.Fwd
public import Idealize.ShloMosaic.Lib.Pipeline.ValueKit

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.ShloMosaic.Pipeline (Dat Cfg Window BodyObligation cellOf)
open Cert.Common

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![0, 64 * t.val - 1, 0] ∧ win0_2.index t = ![1, t.val, 0]
    ∧ win0_3.index t = ![0, 0, 0] ∧ win0_4.index t = ![0, 0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![0, t.val, 0] ∧ t.val < 16 ∧ (grid0.coords t 0).val = t.val :=
  (by decide +kernel : ∀ t : Fin grid0.N, _)

theorem lt0 (t : Fin cfg0.N) : t.val < 16 := (idx0 t).2.2.2.2.2.2.2.2.2.2.2.2.1

/-- What the forward region finds in its input arrays. -/
structure Found0 (d : Data) : Prop where
  p : At3 12 8192 512 (V c main_v1) fun k t j => d.p t (512 * k + j)
  wa : At3 4 256 256 (V c main_v2) d.wa
  wx : At3 4 256 256 (V c main_v3) d.wx
  ba : At2 1 1024 (V c main_v4) fun _ c => d.ba (c / 256) (c % 256)
  bx : At2 1 1024 (V c main_v5) fun _ c => d.bx (c / 256) (c % 256)
  lam : At2 1 1024 (V c main_arg8) fun _ c => d.lam c
  cw : At2 4 1024 (V c main_arg2) d.cw
  cb : At2 1 1024 (V c main_arg3) fun _ c => d.cb c

theorem blk0_0 (t : Fin cfg0.N) (k : Fin 2) (s : Fin 512) (j : Fin 512) :
    iblk0 V c 0 t (ix3 k s j) = V c main_v1 (ix3 ⟨k, by omega⟩ ⟨512 * t.val + s, by have := lt0 t; omega⟩ j) := by
  blk_ext [iblk0, idx0 t]
theorem blk0_1 (t : Fin cfg0.N) (k : Fin 2) (s : Fin 8) (j : Fin 512) :
    iblk0 V c 1 t (ix3 k s j) = V c main_v1 (ix3 ⟨k, by omega⟩ ⟨512 * t.val - 8 + s, by have := lt0 t; omega⟩ j) := by
  blk_ext [iblk0, idx0 t]
theorem blk0_2 (t : Fin cfg0.N) (k : Fin 2) (s : Fin 512) (j : Fin 512) :
    iblk0 V c 2 t (ix3 k s j) = V c main_v1 (ix3 ⟨2 + k, by omega⟩ ⟨512 * t.val + s, by have := lt0 t; omega⟩ j) := by
  blk_ext [iblk0, idx0 t]
theorem blk0_3 (t : Fin cfg0.N) (k : Fin 4) (s j : Fin 256) : iblk0 V c 3 t (ix3 k s j) = V c main_v2 (ix3 k s j) := by
  blk_ext [iblk0, idx0 t]
theorem blk0_4 (t : Fin cfg0.N) (k : Fin 4) (s j : Fin 256) : iblk0 V c 4 t (ix3 k s j) = V c main_v3 (ix3 k s j) := by
  blk_ext [iblk0, idx0 t]
theorem blk0_5 (t : Fin cfg0.N) (k : Fin 1) (j : Fin 1024) : iblk0 V c 5 t (ix2 k j) = V c main_v4 (ix2 k j) := by
  blk_ext [iblk0, idx0 t]
theorem blk0_6 (t : Fin cfg0.N) (k : Fin 1) (j : Fin 1024) : iblk0 V c 6 t (ix2 k j) = V c main_v5 (ix2 k j) := by
  blk_ext [iblk0, idx0 t]
theorem blk0_7 (t : Fin cfg0.N) (k : Fin 1) (j : Fin 1024) : iblk0 V c 7 t (ix2 k j) = V c main_arg8 (ix2 k j) := by
  blk_ext [iblk0, idx0 t]
theorem blk0_8 (t : Fin cfg0.N) (k : Fin 4) (j : Fin 1024) : iblk0 V c 8 t (ix2 k j) = V c main_arg2 (ix2 k j) := by
  blk_ext [iblk0, idx0 t]
theorem blk0_9 (t : Fin cfg0.N) (k : Fin 1) (j : Fin 1024) : iblk0 V c 9 t (ix2 k j) = V c main_arg3 (ix2 k j) := by
  blk_ext [iblk0, idx0 t]

variable {V c} {d : Data} (hV : Found0 V c d)
include hV

theorem in0_of (t : Fin cfg0.N) : In0 d t.val (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) where
  lx k s j := (blk0_0 V c t k s j).trans (hV.p _ _ _)
  halo k s j := (blk0_1 V c t k s j).trans (hV.p _ _ _)
  lg k s j := (blk0_2 V c t k s j).trans ((hV.p _ _ _).trans (by
    show ((d.p _ (512 * (2 + k.val) + j.val) : ℝ) : EReal) = ((d.p _ (1024 + (512 * k.val + j.val)) : ℝ) : EReal)
    rw [show 512 * (2 + k.val) + j.val = 1024 + (512 * k.val + j.val) by omega]))
  wa k s j := (blk0_3 V c t k s j).trans (hV.wa _ _ _)
  wx k s j := (blk0_4 V c t k s j).trans (hV.wx _ _ _)
  ba k j := (blk0_5 V c t k j).trans (hV.ba _ _)
  bx k j := (blk0_6 V c t k j).trans (hV.bx _ _)
  lam k j := (blk0_7 V c t k j).trans (hV.lam _ _)
  cw k j := (blk0_8 V c t k j).trans (hV.cw _ _)
  cb k j := (blk0_9 V c t k j).trans (hV.cb _ _)

/-- What the points up to `n` leave. -/
structure Left0.Of (l : Left0 Ideal) (d : Data) (n : ℕ) : Prop where
  h : At2 512 1024 l.h fun t c => d.H (512 * n + t + 1) c
  y : At3 1 512 1024 l.y fun _ t c => d.y (512 * n + t) c
  carry : At2 8 1024 l.carry fun _ c => d.H (512 * (n + 1)) c

omit hV

section First
variable (t : Fin cfg0.N) (h : cond0 (grid0.coords t)) (hin : In0 d 0 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (hi : (grid0.coords t 0).val = 0)
include hin hi

theorem first0_h : At2 512 1024 (leftA0 V c t h).h fun t c => d.H (512 * 0 + t + 1) c := by
  refine (congrArg (At2 512 1024 · _) ?_).mpr (run0A_h c (grid0.coords t) (arg1 := ms0_0 t) (hstage0_0 ((cfg0.slots t 0).cast nbuf0_0)) (arg2 := ms0_1 t) (hstage0_1 ((cfg0.slots t 1).cast nbuf0_1)) (arg3 := ms0_2 t) (hstage0_2 ((cfg0.slots t 2).cast nbuf0_2)) (arg4 := ms0_3 t) (hstage0_3 ((cfg0.slots t 3).cast nbuf0_3)) (arg5 := ms0_4 t) (hstage0_4 ((cfg0.slots t 4).cast nbuf0_4)) (arg6 := ms0_5 t) (hstage0_5 ((cfg0.slots t 5).cast nbuf0_5)) (arg7 := ms0_6 t) (hstage0_6 ((cfg0.slots t 6).cast nbuf0_6)) (arg8 := ms0_7 t) (hstage0_7 ((cfg0.slots t 7).cast nbuf0_7)) (arg9 := ms0_8 t) (hstage0_8 ((cfg0.slots t 8).cast nbuf0_8)) (arg10 := ms0_9 t) (hstage0_9 ((cfg0.slots t 9).cast nbuf0_9)) (arg11 := ms0_10 t) (hstage0_10 ((cfg0.slots t 10).cast nbuf0_10)) (arg12 := ms0_11 t) (hstage0_11 ((cfg0.slots t 11).cast nbuf0_11)) (arg13 := sc0_0) (Memref.isWhole_whole _) (arg14 := sc0_1) (Memref.isWhole_whole _) (arg15 := sc0_2) (Memref.isWhole_whole _) hin hi h)
  sl_kernel_rfl

theorem first0_y : At3 1 512 1024 (leftA0 V c t h).y fun _ t c => d.y (512 * 0 + t) c := by
  refine (congrArg (At3 1 512 1024 · _) ?_).mpr (run0A_y c (grid0.coords t) (arg1 := ms0_0 t) (hstage0_0 ((cfg0.slots t 0).cast nbuf0_0)) (arg2 := ms0_1 t) (hstage0_1 ((cfg0.slots t 1).cast nbuf0_1)) (arg3 := ms0_2 t) (hstage0_2 ((cfg0.slots t 2).cast nbuf0_2)) (arg4 := ms0_3 t) (hstage0_3 ((cfg0.slots t 3).cast nbuf0_3)) (arg5 := ms0_4 t) (hstage0_4 ((cfg0.slots t 4).cast nbuf0_4)) (arg6 := ms0_5 t) (hstage0_5 ((cfg0.slots t 5).cast nbuf0_5)) (arg7 := ms0_6 t) (hstage0_6 ((cfg0.slots t 6).cast nbuf0_6)) (arg8 := ms0_7 t) (hstage0_7 ((cfg0.slots t 7).cast nbuf0_7)) (arg9 := ms0_8 t) (hstage0_8 ((cfg0.slots t 8).cast nbuf0_8)) (arg10 := ms0_9 t) (hstage0_9 ((cfg0.slots t 9).cast nbuf0_9)) (arg11 := ms0_10 t) (hstage0_10 ((cfg0.slots t 10).cast nbuf0_10)) (arg12 := ms0_11 t) (hstage0_11 ((cfg0.slots t 11).cast nbuf0_11)) (arg13 := sc0_0) (Memref.isWhole_whole _) (arg14 := sc0_1) (Memref.isWhole_whole _) (arg15 := sc0_2) (Memref.isWhole_whole _) hin hi h view0_y)
  sl_kernel_rfl

theorem first0_carry : At2 8 1024 (leftA0 V c t h).carry fun _ c => d.H (512 * (0 + 1)) c := by
  refine (congrArg (At2 8 1024 · _) ?_).mpr (run0A_carry c (grid0.coords t) (arg1 := ms0_0 t) (hstage0_0 ((cfg0.slots t 0).cast nbuf0_0)) (arg2 := ms0_1 t) (hstage0_1 ((cfg0.slots t 1).cast nbuf0_1)) (arg3 := ms0_2 t) (hstage0_2 ((cfg0.slots t 2).cast nbuf0_2)) (arg4 := ms0_3 t) (hstage0_3 ((cfg0.slots t 3).cast nbuf0_3)) (arg5 := ms0_4 t) (hstage0_4 ((cfg0.slots t 4).cast nbuf0_4)) (arg6 := ms0_5 t) (hstage0_5 ((cfg0.slots t 5).cast nbuf0_5)) (arg7 := ms0_6 t) (hstage0_6 ((cfg0.slots t 6).cast nbuf0_6)) (arg8 := ms0_7 t) (hstage0_7 ((cfg0.slots t 7).cast nbuf0_7)) (arg9 := ms0_8 t) (hstage0_8 ((cfg0.slots t 8).cast nbuf0_8)) (arg10 := ms0_9 t) (hstage0_9 ((cfg0.slots t 9).cast nbuf0_9)) (arg11 := ms0_10 t) (hstage0_10 ((cfg0.slots t 10).cast nbuf0_10)) (arg12 := ms0_11 t) (hstage0_11 ((cfg0.slots t 11).cast nbuf0_11)) (arg13 := sc0_0) (Memref.isWhole_whole _) (arg14 := sc0_1) (Memref.isWhole_whole _) (arg15 := sc0_2) (Memref.isWhole_whole _) hin hi h view0_carry)
  sl_kernel_rfl
end First

section Later
variable (t : Fin cfg0.N) (h : ¬cond0 (grid0.coords t)) (p : Left0 Ideal) (hp : At2 8 1024 p.carry fun _ c => d.H (512 * t.val) c)
  (hin : In0 d t.val (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)) (hi : (grid0.coords t 0).val = t.val) (hn : t.val < 16)
include hp hin hi hn

theorem later0_h : At2 512 1024 (leftB0 V c t h p).h fun r c => d.H (512 * t.val + r + 1) c := by
  refine (congrArg (At2 512 1024 · _) ?_).mpr (run0B_h c (grid0.coords t) (arg1 := ms0_0 t) (hstage0_0 ((cfg0.slots t 0).cast nbuf0_0)) (arg2 := ms0_1 t) (hstage0_1 ((cfg0.slots t 1).cast nbuf0_1)) (arg3 := ms0_2 t) (hstage0_2 ((cfg0.slots t 2).cast nbuf0_2)) (arg4 := ms0_3 t) (hstage0_3 ((cfg0.slots t 3).cast nbuf0_3)) (arg5 := ms0_4 t) (hstage0_4 ((cfg0.slots t 4).cast nbuf0_4)) (arg6 := ms0_5 t) (hstage0_5 ((cfg0.slots t 5).cast nbuf0_5)) (arg7 := ms0_6 t) (hstage0_6 ((cfg0.slots t 6).cast nbuf0_6)) (arg8 := ms0_7 t) (hstage0_7 ((cfg0.slots t 7).cast nbuf0_7)) (arg9 := ms0_8 t) (hstage0_8 ((cfg0.slots t 8).cast nbuf0_8)) (arg10 := ms0_9 t) (hstage0_9 ((cfg0.slots t 9).cast nbuf0_9)) (arg11 := ms0_10 t) (hstage0_10 ((cfg0.slots t 10).cast nbuf0_10)) (arg12 := ms0_11 t) (hstage0_11 ((cfg0.slots t 11).cast nbuf0_11)) (arg13 := sc0_0) (Memref.isWhole_whole _) (arg14 := sc0_1) (Memref.isWhole_whole _) (arg15 := sc0_2) (Memref.isWhole_whole _) hin hi hn h hp)
  sl_kernel_rfl

theorem later0_y : At3 1 512 1024 (leftB0 V c t h p).y fun _ r c => d.y (512 * t.val + r) c := by
  refine (congrArg (At3 1 512 1024 · _) ?_).mpr (run0B_y c (grid0.coords t) (arg1 := ms0_0 t) (hstage0_0 ((cfg0.slots t 0).cast nbuf0_0)) (arg2 := ms0_1 t) (hstage0_1 ((cfg0.slots t 1).cast nbuf0_1)) (arg3 := ms0_2 t) (hstage0_2 ((cfg0.slots t 2).cast nbuf0_2)) (arg4 := ms0_3 t) (hstage0_3 ((cfg0.slots t 3).cast nbuf0_3)) (arg5 := ms0_4 t) (hstage0_4 ((cfg0.slots t 4).cast nbuf0_4)) (arg6 := ms0_5 t) (hstage0_5 ((cfg0.slots t 5).cast nbuf0_5)) (arg7 := ms0_6 t) (hstage0_6 ((cfg0.slots t 6).cast nbuf0_6)) (arg8 := ms0_7 t) (hstage0_7 ((cfg0.slots t 7).cast nbuf0_7)) (arg9 := ms0_8 t) (hstage0_8 ((cfg0.slots t 8).cast nbuf0_8)) (arg10 := ms0_9 t) (hstage0_9 ((cfg0.slots t 9).cast nbuf0_9)) (arg11 := ms0_10 t) (hstage0_10 ((cfg0.slots t 10).cast nbuf0_10)) (arg12 := ms0_11 t) (hstage0_11 ((cfg0.slots t 11).cast nbuf0_11)) (arg13 := sc0_0) (Memref.isWhole_whole _) (arg14 := sc0_1) (Memref.isWhole_whole _) (arg15 := sc0_2) (Memref.isWhole_whole _) hin hi hn h hp view0_y)
  sl_kernel_rfl

theorem later0_carry : At2 8 1024 (leftB0 V c t h p).carry fun _ c => d.H (512 * (t.val + 1)) c := by
  refine (congrArg (At2 8 1024 · _) ?_).mpr (run0B_carry c (grid0.coords t) (arg1 := ms0_0 t) (hstage0_0 ((cfg0.slots t 0).cast nbuf0_0)) (arg2 := ms0_1 t) (hstage0_1 ((cfg0.slots t 1).cast nbuf0_1)) (arg3 := ms0_2 t) (hstage0_2 ((cfg0.slots t 2).cast nbuf0_2)) (arg4 := ms0_3 t) (hstage0_3 ((cfg0.slots t 3).cast nbuf0_3)) (arg5 := ms0_4 t) (hstage0_4 ((cfg0.slots t 4).cast nbuf0_4)) (arg6 := ms0_5 t) (hstage0_5 ((cfg0.slots t 5).cast nbuf0_5)) (arg7 := ms0_6 t) (hstage0_6 ((cfg0.slots t 6).cast nbuf0_6)) (arg8 := ms0_7 t) (hstage0_7 ((cfg0.slots t 7).cast nbuf0_7)) (arg9 := ms0_8 t) (hstage0_8 ((cfg0.slots t 8).cast nbuf0_8)) (arg10 := ms0_9 t) (hstage0_9 ((cfg0.slots t 9).cast nbuf0_9)) (arg11 := ms0_10 t) (hstage0_10 ((cfg0.slots t 10).cast nbuf0_10)) (arg12 := ms0_11 t) (hstage0_11 ((cfg0.slots t 11).cast nbuf0_11)) (arg13 := sc0_0) (Memref.isWhole_whole _) (arg14 := sc0_1) (Memref.isWhole_whole _) (arg15 := sc0_2) (Memref.isWhole_whole _) hin hi hn h hp view0_carry)
  sl_kernel_rfl
end Later

include hV in
theorem left0_of (n : ℕ) (hn : n < cfg0.N) : (left0 V c n hn).Of d n := by
  have hi (t : Fin cfg0.N) := (idx0 t).2.2.2.2.2.2.2.2.2.2.2.2.2
  induction n with
  | zero =>
    have hin := in0_of hV ⟨0, hn⟩
    have hi := hi ⟨0, hn⟩
    exact ⟨first0_h ⟨0, hn⟩ _ hin hi, first0_y ⟨0, hn⟩ _ hin hi, first0_carry ⟨0, hn⟩ _ hin hi⟩
  | succ n ih =>
    have hp := (ih (Nat.lt_of_succ_lt hn)).carry
    have hin := in0_of hV ⟨n + 1, hn⟩
    have hi := hi ⟨n + 1, hn⟩
    have hl := lt0 ⟨n + 1, hn⟩
    exact ⟨later0_h ⟨n + 1, hn⟩ _ _ hp hin hi hl, later0_y ⟨n + 1, hn⟩ _ _ hp hin hi hl, later0_carry ⟨n + 1, hn⟩ _ _ hp hin hi hl⟩

include hV in
/-- The states, as the forward region leaves them. -/
theorem states0 : At2 8192 1024 ((dat0 V c).arrAt 10 cfg0.N) fun t c => d.H (t + 1) c := by
  have e : (dat0 V c).arrAt 10 cfg0.N = fun j => ((d.H ((j 0).val + 1) (j 1).val : ℝ) : EReal) := by
    refine (dat0 V c).arrAt_eq_of_covers 10 _ (by decide +kernel) fun t _ y => ?_
    blk_simp
    rw [after0_10]
    refine (At2.eq (left0_of hV t.val t.isLt).h y).trans ?_
    simp [idx0 t, Nat.mul_comm]
  intro a b
  exact congrFun e _

include hV in
/-- The gated output, as the forward region leaves it: the first slab of its array. -/
theorem gated0 (t : Fin 8192) (j : Fin 1024) : (dat0 V c).arrAt 11 cfg0.N (ix3 0 t j) = ((d.y t j : ℝ) : EReal) := by
  have e := (dat0 V c).arrAt_eq_of_coversWhere 11 (fun j => ((d.y (j 1).val (j 2).val : ℝ) : EReal)) (P := fun i => (i 0 : ℕ) / 1 = 0) (fun β => β (0 : Fin _) = 0) (by decide +kernel)
    (fun t _ y => by
      blk_simp
      rw [after0_11]
      refine (At3.eq (left0_of hV t.val t.isLt).y y).trans ?_
      simp [idx0 t, Nat.mul_comm])
    (fun j => Iff.rfl)
  exact (congrFun e _).trans (if_pos (show 0 / 1 = 0 from rfl))

end Cert.Lru

end
-- ==== Proof.Lru.BwdVal.lean ====
/- What the backward kernel computes of a tile once the scan has run, at real numbers: the gradients of the gates, of the
   decay and of the convolution, and the sums it adds to. -/
module

public import proofs.«01_k».proof.Proof.Common.Real
public import proofs.«01_k».proof.Proof.Lru.GateVal
public import proofs.«01_k».proof.Proof.Lru.Scan
public import Idealize.ShloMosaic.Lib.Pointwise

@[expose] public section

set_option maxRecDepth 16384

noncomputable section

namespace Cert.Lru

open Cert.LruKernelIdeal Cert.LruKernelIdeal.Gen
open Idealize.ShloMosaic Idealize.ShloMosaic.TcCoe Idealize.ShloMosaic.Tactic
open Cert.Common

/-! ## The recurrence backwards, with nothing after the last time -/

namespace Data
variable (d : Data)
/-- The state's cotangent, zero after the last time. -/
def Dz (t c : ℕ) : ℝ := if t < 8192 then d.D t c else 0
/-- The next time's decay, zero after the last time. -/
def an (t c : ℕ) : ℝ := if t + 1 < 8192 then d.a (t + 1) c else 0

theorem Dz_eq (t c : ℕ) (ht : t < 8192) : d.Dz t c = d.an t c * d.Dz (t + 1) c + d.din t c := by
  rw [Dz, if_pos ht, D, an, Dz]
  by_cases h : t + 1 < 8192
  · rw [if_pos h, if_pos h, show 8191 - t = (8190 - t) + 1 by omega, E, show 8191 - (8190 - t) = t + 1 by omega, D, show 8191 - (t + 1) = 8190 - t by omega]
  · rw [if_neg h, show 8191 - t = 0 by omega, E, zero_mul]
theorem Dz_of_lt {t c : ℕ} (ht : t < 8192) : d.Dz t c = d.D t c := if_pos ht
end Data

/-- Rows `t + k` of a tile, with the first rows of the one below at its end. -/
def above (k : ℕ) (g f : ℕ → ℕ → ℝ) (t c : ℕ) : ℝ := if t + k < 512 then f (t + k) c else g (t + k - 512) c

theorem above_eq {k t c : ℕ} (hk : k ≤ 8) (ht : t < 512) {p q : EReal} (g f : ℕ → ℕ → ℝ) (hp : ∀ _ : t < 504, p = ((f ((t + 512 - (512 - k)) % 512) c : ℝ) : EReal))
    (hq : ∀ _ : ¬ t < 504, q = if 8 - k ≤ t - 504 then ((g ((t - 504 + 8 - (8 - k)) % 8) c : ℝ) : EReal) else ((f ((504 + (t - 504) + 512 - (512 - k)) % 512) c : ℝ) : EReal)) :
    (if t < 504 then p else q) = ((above k g f t c : ℝ) : EReal) := by
  unfold above
  by_cases h : t < 504
  · rw [if_pos h, hp h]
    by_cases h' : t + k < 512
    · rw [if_pos h', show (t + 512 - (512 - k)) % 512 = t + k by omega]
    · omega
  · rw [if_neg h, hq h]
    by_cases h' : t + k < 512
    · rw [if_pos h', if_neg (by omega), show (504 + (t - 504) + 512 - (512 - k)) % 512 = t + k by omega]
    · rw [if_neg h', if_pos (by omega), show (t - 504 + 8 - (8 - k)) % 8 = t + k - 512 by omega]

theorem pay57_at {v201 : FVec Ideal S8x1024 .f32} {v153 : FVec Ideal S512x1024 .f32} {f g : ℕ → ℕ → ℝ} (hg : At2 8 1024 v201 g) (hf : At2 512 1024 v153 f) :
    At2 512 1024 (k1_pay57 v201 (k1_pay56 v153) rowNo 7#32) (above 1 g f) := by
  intro i j
  have hi := i.isLt
  have hi' : i.val - 504 < 2 ^ 31 := by omega
  pointwise [k1_pay57, k1_pay56, rowNo]
  simp only [hg _ _, hf _ _, sel_sge hi' (by decide : 7 < 2 ^ 31)]
  exact above_eq (by decide) hi g f (fun _ => rfl) fun _ => rfl

/-! ## The gates' gradients -/

section Gates
variable {d : Data} {i : ℕ} {v30 : FVec Ideal S1x1024 .f32} {v96 v138 v148 v153 v172 v173 v192 v230 : FVec Ideal S512x1024 .f32} {v234 : FVec Ideal S8x1024 .f32}
  (hxc : At2 512 1024 v96 fun t c => d.xc (512 * i + t) c) (hig : At2 512 1024 v148 fun t c => d.ig (512 * i + t) c)
  (ha : At2 512 1024 v153 fun t c => d.a (512 * i + t) c) (hrs : At2 512 1024 v172 fun t c => (d.s (512 * i + t) c)⁻¹)
  (hD : At2 512 1024 v230 fun t c => d.D (512 * i + t) c) (hhh : At2 8 1024 v234 fun s c => if i = 0 then 0 else d.H (512 * i - 8 + s + 1) c)
  (hh : At2 512 1024 v192 fun t c => d.H (512 * i + t + 1) c)

theorem pay64_at {b : BitVec 1} {X : FVec Ideal S8x1024 .f32} {p : Prop} [Decidable p] (hb : b = BitVec.ofBool (decide p)) {f : ℕ → ℕ → ℝ} (hX : At2 8 1024 X f) :
    At2 8 1024 (k1_pay64 (F := Ideal) b X) fun s c => if p then 0 else f s c := by
  intro i j
  pointwise [k1_pay64]
  simp only [sel_prop hb, hX _ _]
  split <;> rfl

include hxc hig ha hrs hD hhh hh in
theorem pay68_at : At2 512 1024 (k1_pay68 v96 v148 v153 v172 v230 v234 (k1_pay65 v192) rowNo k1_pay66) fun t c => d.dla (512 * i + t) c := by
  intro t c
  have ht := t.isLt
  pointwise [k1_pay68, k1_pay65, k1_pay66, rowNo]
  simp only [hxc _ _, hig _ _, ha _ _, hrs _ _, hD _ _, hhh _ _, hh _ _, sel_slt (lt_trans ht (by decide : 512 < 2 ^ 31)) (by decide : 1 < 2 ^ 31)]
  have e := below_eq (k := 1) (c := c) (by decide) ht (fun s c => if i = 0 then 0 else d.H (512 * i - 8 + s + 1) c)
    (fun t c => d.H (512 * i + t + 1) c) (fun _ => rfl) fun _ => rfl
  have e' : below 1 (fun s c => if i = 0 then 0 else d.H (512 * i - 8 + s + 1) c) (fun t c => d.H (512 * i + t + 1) c) t c = d.H (512 * i + t) c := by
    unfold below
    beta_reduce
    by_cases h1 : t.val < 1
    · by_cases h0 : i = 0
      · rw [if_pos h1, if_pos h0, show 512 * i + t.val = 0 by omega, Data.H]
      · rw [if_pos h1, if_neg h0, show 512 * i - 8 + (8 - 1 + t.val) + 1 = 512 * i + t by omega]
    · rw [if_neg h1, show 512 * i + (t.val - 1) + 1 = 512 * i + t by omega]
  rw [e'] at e
  refine (congrArg (fun q : EReal => (↑(d.D (512 * i + t) c) * q) * ↑(d.a (512 * i + t) c) -
      ↑(d.D (512 * i + t) c) * (↑(d.ig (512 * i + t) c) * ↑(d.xc (512 * i + t) c)) *
        (↑(d.a (512 * i + t) c) * ↑(d.a (512 * i + t) c) * ↑(d.s (512 * i + t) c)⁻¹)) e).trans ?_
  rw [Data.dla, Data.gx]
  norm_cast

include hD in
theorem pay67_at (hs : At2 512 1024 v173 fun t c => d.s (512 * i + t) c) (hig : At2 512 1024 v148 fun t c => d.ig (512 * i + t) c) :
    At2 512 1024 (k1_pay67 v148 v173 v230) fun t c => d.D (512 * i + t) c * (d.s (512 * i + t) c * d.ig (512 * i + t) c) := by
  intro t c
  pointwise [k1_pay67]
  rw [hs t c, hig t c, hD t c]
  norm_cast

include hxc hig hD in
theorem pay71_at (hs : At2 512 1024 v173 fun t c => d.s (512 * i + t) c) :
    At2 512 1024 (k1_pay71 v96 v148 v173 v230) fun t c => d.dzi (512 * i + t) c := by
  intro t c
  pointwise [k1_pay71]
  rw [hs t c, hig t c, hD t c, hxc t c, Data.dzi]
  norm_cast

variable {v235 : FVec Ideal S512x1024 .f32} {v236 v237 : IVec S8x1024 32}
  (hdla : At2 512 1024 (k1_pay68 v96 v148 v153 v172 v230 v234 v235 v236 v237) fun t c => d.dla (512 * i + t) c)
  (hr : At2 512 1024 v138 fun t c => d.r (512 * i + t) c)
include hdla hr

theorem pay69_at {v256 : FVec Ideal S1x1024 .f32} {f : ℕ → ℝ} (hf : At2 1 1024 v256 fun _ c => f c) :
    At2 1 1024 (k1_pay69 v96 v138 v148 v153 v172 v230 v234 v235 v236 v237 v256)
      fun _ c => f c + ∑ t : Fin 512, d.dla (512 * i + t) c * d.r (512 * i + t) c * -8 := by
  intro z c
  pointwise [k1_pay69]
  simp only [hf _ _, hdla _ _, hr _ _, ofBits_neg_eight]
  rw [← Finset.sum_mul]
  generalize (-8 : ℝ) = q
  norm_cast

theorem pay70_at (hsp : At2 1 1024 v30 fun _ c => d.sp c) :
    At2 512 1024 (k1_pay70 v30 v96 v138 v148 v153 v172 v230 v234 v235 v236 v237) fun t c => d.dzr (512 * i + t) c := by
  intro t c
  pointwise [k1_pay70]
  rw [hdla t c, hr t c, hsp _ c, ofBits_neg_eight, Data.dzr, ← EReal.coe_mul]
  generalize (-8 : ℝ) * d.sp c = q
  norm_cast
end Gates

section Sums
variable {X Z : FVec Ideal S512x1024 .f32} {x z : ℕ → ℕ → ℝ} (hX : At2 512 1024 X x) (hZ : At2 512 1024 Z z)

theorem pay72_at {v30 : FVec Ideal S1x1024 .f32} {v96 v138 v148 v153 v172 v230 : FVec Ideal S512x1024 .f32} {v234 : FVec Ideal S8x1024 .f32} {v235 : FVec Ideal S512x1024 .f32} {v236 v237 : IVec S8x1024 32}
    (h : At2 512 1024 (k1_pay70 v30 v96 v138 v148 v153 v172 v230 v234 v235 v236 v237) z) {v277 : FVec Ideal S1x1024 .f32} {f : ℕ → ℝ} (hf : At2 1 1024 v277 fun _ c => f c) :
    At2 1 1024 (k1_pay72 v30 v96 v138 v148 v153 v172 v230 v234 v235 v236 v237 v277) fun _ c => f c + ∑ t : Fin 512, z t c := by
  intro _ c
  pointwise [k1_pay72]
  simp only [hf _ _, h _ _]
  norm_cast

include hX
theorem pay73_at {v : FVec Ideal S1x1024 .f32} {f : ℕ → ℝ} (hf : At2 1 1024 v fun _ c => f c) :
    At2 1 1024 (k1_pay73 X v) fun _ c => f c + ∑ t : Fin 512, x t c := by
  intro _ c
  pointwise [k1_pay73]
  simp only [hf _ _, hX _ _]
  norm_cast

include hZ
theorem pay77_at {v : FVec Ideal S1x256x256 .f32} {f : ℕ → ℕ → ℝ} (hf : At3 1 256 256 v fun _ => f) :
    At3 1 256 256 (k1_pay77 X Z v) fun _ a b => f a b + ∑ t : Fin 512, x t (0 * 256 + a) * z t (0 * 256 + b) := by
  intro _ a b
  pointwise [k1_pay77, k1_pay74, k1_pay75]
  simp only [hf _ _ _, hX _ _, hZ _ _]
  norm_cast

theorem pay78_at {v : FVec Ideal S1x256x256 .f32} {f : ℕ → ℕ → ℝ} (hf : At3 1 256 256 v fun _ => f) :
    At3 1 256 256 (k1_pay78 X Z v) fun _ a b => f a b + ∑ t : Fin 512, x t (0 * 256 + a) * z t (0 * 256 + b) := by
  intro _ a b
  pointwise [k1_pay78, k1_pay74, k1_pay76]
  simp only [hf _ _ _, hX _ _, hZ _ _]
  norm_cast

theorem pay84_at {v : FVec Ideal S1x256x256 .f32} {f : ℕ → ℕ → ℝ} (hf : At3 1 256 256 v fun _ => f) :
    At3 1 256 256 (k1_pay84 Z (k1_pay80 X) v) fun _ a b => f a b + ∑ t : Fin 512, x t (1 * 256 + a) * z t (1 * 256 + b) := by
  intro _ a b
  pointwise [k1_pay84, k1_pay81, k1_pay80, k1_pay82]
  simp only [hf _ _ _, hX _ _, hZ _ _]
  norm_cast

theorem pay85_at {v : FVec Ideal S1x256x256 .f32} {f : ℕ → ℕ → ℝ} (hf : At3 1 256 256 v fun _ => f) :
    At3 1 256 256 (k1_pay85 Z (k1_pay80 X) v) fun _ a b => f a b + ∑ t : Fin 512, x t (1 * 256 + a) * z t (1 * 256 + b) := by
  intro _ a b
  pointwise [k1_pay85, k1_pay81, k1_pay80, k1_pay83]
  simp only [hf _ _ _, hX _ _, hZ _ _]
  norm_cast

theorem pay91_at {v : FVec Ideal S1x256x256 .f32} {f : ℕ → ℕ → ℝ} (hf : At3 1 256 256 v fun _ => f) :
    At3 1 256 256 (k1_pay91 (k1_pay90 X Z v)) fun _ a b => f a b + ∑ t : Fin 512, x t (2 * 256 + a) * z t (2 * 256 + b) := by
  intro _ a b
  pointwise [k1_pay91, k1_pay90, k1_pay87, k1_pay88]
  simp only [hf _ _ _, hX _ _, hZ _ _]
  norm_cast

theorem pay92_at {v : FVec Ideal S1x256x256 .f32} {f : ℕ → ℕ → ℝ} (hf : At3 1 256 256 v fun _ => f) :
    At3 1 256 256 (k1_pay92 (k1_pay87 X) (k1_pay89 Z) v) fun _ a b => f a b + ∑ t : Fin 512, x t (2 * 256 + a) * z t (2 * 256 + b) := by
  intro _ a b
  pointwise [k1_pay92, k1_pay87, k1_pay89]
  simp only [hf _ _ _, hX _ _, hZ _ _]
  norm_cast

theorem pay97_at {v : FVec Ideal S1x256x256 .f32} {f : ℕ → ℕ → ℝ} (hf : At3 1 256 256 v fun _ => f) :
    At3 1 256 256 (k1_pay97 X Z v) fun _ a b => f a b + ∑ t : Fin 512, x t (3 * 256 + a) * z t (3 * 256 + b) := by
  intro _ a b
  pointwise [k1_pay97, k1_pay94, k1_pay95]
  simp only [hf _ _ _, hX _ _, hZ _ _]
  norm_cast

theorem pay99_at {v : FVec Ideal S1x256x256 .f32} {f : ℕ → ℕ → ℝ} (hf : At3 1 256 256 v fun _ => f) :
    At3 1 256 256 (k1_pay99 (k1_pay98 X Z v)) fun _ a b => f a b + ∑ t : Fin 512, x t (3 * 256 + a) * z t (3 * 256 + b) := by
  intro _ a b
  pointwise [k1_pay99, k1_pay98, k1_pay94, k1_pay96]
  simp only [hf _ _ _, hX _ _, hZ _ _]
  norm_cast

end Sums

/-- What the gates hand back to the convolution. -/
def backSum (zr zi : ℕ → ℕ → ℝ) (wa wx : ℕ → ℕ → ℕ → ℝ) (t c : ℕ) : ℝ :=
  (∑ j : Fin 256, zr t (c / 256 * 256 + j) * wa (c / 256) (c % 256) j) + ∑ j : Fin 256, zi t (c / 256 * 256 + j) * wx (c / 256) (c % 256) j

section Back
variable {v33 v35 : FVec Ideal S4x256x256 .bf16} {wa wx : ℕ → ℕ → ℕ → ℝ} (hwa : At3 4 256 256 v33 wa) (hwx : At3 4 256 256 v35 wx)
  {v272 v276 : FVec Ideal S512x1024 .f32} {zr zi : ℕ → ℕ → ℝ} (hzr : At2 512 1024 v272 zr) (hzi : At2 512 1024 v276 zi)
include hwa hwx hzr hzi

theorem pay79_at : At2 512 256 (k1_pay79 v33 v35 v272 v276) fun t j => backSum zr zi wa wx t (0 * 256 + j) := by
  intro i j
  beta_reduce
  rw [backSum, blk_div, blk_mod]
  pointwise [k1_pay79, k1_pay75, k1_pay76]
  simp only [hzr _ _, hzi _ _, hwa _ _ _, hwx _ _ _]
  norm_cast

theorem pay86_at : At2 512 256 (k1_pay86 v33 v35 v272 v276) fun t j => backSum zr zi wa wx t (1 * 256 + j) := by
  intro i j
  beta_reduce
  rw [backSum, blk_div, blk_mod]
  pointwise [k1_pay86, k1_pay82, k1_pay83]
  simp only [hzr _ _, hzi _ _, hwa _ _ _, hwx _ _ _]
  norm_cast

theorem pay93_at : At2 512 256 (k1_pay93 v33 v35 (k1_pay88 v272) (k1_pay89 v276)) fun t j => backSum zr zi wa wx t (2 * 256 + j) := by
  intro i j
  beta_reduce
  rw [backSum, blk_div, blk_mod]
  pointwise [k1_pay93, k1_pay88, k1_pay89]
  simp only [hzr _ _, hzi _ _, hwa _ _ _, hwx _ _ _]
  norm_cast

theorem pay100_at {v249 : FVec Ideal S512x1024 .f32} {g : ℕ → ℕ → ℝ} (hg : At2 512 1024 v249 g) :
    At2 512 1024 (k1_pay100 v33 v35 v249 (k1_pay79 v33 v35 v272 v276) (k1_pay86 v33 v35 v272 v276) (k1_pay93 v33 v35 (k1_pay88 v272) (k1_pay89 v276)) (k1_pay95 v272) (k1_pay96 v276))
      fun t c => g t c + backSum zr zi wa wx t c := by
  intro t c
  have hc := c.isLt
  pointwise [k1_pay100, k1_pay95, k1_pay96]
  simp only [hg _ _, pay79_at hwa hwx hzr hzi _ _, pay86_at hwa hwx hzr hzi _ _, pay93_at hwa hwx hzr hzi _ _, hzr _ _, hzi _ _, hwa _ _ _, hwx _ _ _]
  rw [EReal.coe_add, ← cat4 (S := backSum zr zi wa wx t) (c := c) ((∑ j : Fin 256, zr t (3 * 256 + j) * wa 3 (c - 256 - 256 - 256) j)
    + ∑ j : Fin 256, zi t (3 * 256 + j) * wx 3 (c - 256 - 256 - 256) j) hc]
  · simp only [coe_fin_sum, EReal.coe_mul, EReal.coe_add]; rfl
  · intro h
    have e := blk_div 3 ⟨c - 768, by omega⟩
    have e' := blk_mod 3 ⟨c - 768, by omega⟩
    simp only at e e'
    rw [backSum, e, e', show c.val - 256 - 256 - 256 = c.val - 768 by omega]
end Back

/-! ## The convolution's gradients -/

section Conv
variable {v33 v35 : FVec Ideal S4x256x256 .bf16} {v249 X : FVec Ideal S512x1024 .f32} {v315 v342 v369 : FVec Ideal S512x256 .f32} {v373 v375 : FVec Ideal S512x256 .bf16}
  {z x : ℕ → ℕ → ℝ} (hz : At2 512 1024 (k1_pay100 v33 v35 v249 v315 v342 v369 v373 v375) z) (hX : At2 512 1024 X x) {v : FVec Ideal S1x1024 .f32} {f : ℕ → ℝ} (hf : At2 1 1024 v fun _ c => f c)
include hz hf

theorem pay101_at : At2 1 1024 (k1_pay101 v33 v35 v249 v315 v342 v369 v373 v375 v) fun _ c => f c + ∑ t : Fin 512, z t c := by
  intro _ c
  pointwise [k1_pay101]
  simp only [hf _ _, hz _ _]
  norm_cast

include hX
theorem pay102_at : At2 1 1024 (k1_pay102 v33 v35 X v249 v315 v342 v369 v373 v375 v) fun _ c => f c + ∑ t : Fin 512, z t c * x t c := by
  intro _ c
  pointwise [k1_pay102]
  simp only [hf _ _, hz _ _, hX _ _]
  norm_cast

theorem pay103_at : At2 1 1024 (k1_pay103 v33 v35 X v249 v315 v342 v369 v373 v375 v) fun _ c => f c + ∑ t : Fin 512, z t c * x t c := by
  intro _ c
  pointwise [k1_pay103]
  simp only [hf _ _, hz _ _, hX _ _]
  norm_cast

theorem pay106_at : At2 1 1024 (k1_pay106 (k1_pay104 v) (k1_pay105 v33 v35 X v249 v315 v342 v369 v373 v375)) fun _ c => f c + ∑ t : Fin 512, z t c * x t c := by
  intro _ c
  pointwise [k1_pay106, k1_pay104, k1_pay105]
  simp only [hf _ _, hz _ _, hX _ _]
  norm_cast

theorem pay107_at : At2 1 1024 (k1_pay107 X (k1_pay100 v33 v35 v249 v315 v342 v369 v373 v375) v) fun _ c => f c + ∑ t : Fin 512, z t c * x t c := by
  intro _ c
  pointwise [k1_pay107]
  simp only [hf _ _, hz _ _, hX _ _]
  norm_cast

end Conv

section Input
variable {v31 : FVec Ideal S4x1024 .f32} {v398 : FVec Ideal S512x1024 .f32} {v433 : FVec Ideal S8x1024 .f32} {w f g : ℕ → ℕ → ℝ}
  (hw : At2 4 1024 v31 w) (hf : At2 512 1024 v398 f) (hg : At2 8 1024 v433 g)
include hw hf hg

theorem pay108_at : At2 512 1024 (k1_pay108 v31 v398 v433) fun t c => w 3 c * f t c + w 0 c * above 3 g f t c + w 1 c * above 2 g f t c := by
  intro t c
  have ht := t.isLt
  have ht' : t.val - 504 < 2 ^ 31 := by omega
  have e3 := above_eq (k := 3) (c := c) (by decide) ht g f (fun _ => rfl) fun _ => rfl
  have e2 := above_eq (k := 2) (c := c) (by decide) ht g f (fun _ => rfl) fun _ => rfl
  pointwise [k1_pay108]
  simp only [hw _ _, hf _ _, hg _ _, sel_sge ht' (by decide : 5 < 2 ^ 31), sel_sge ht' (by decide : 6 < 2 ^ 31)]
  refine (congrArg₂ (fun p q : EReal => ↑(w 3 c) * ↑(f t c) + ↑(w 0 c) * p + ↑(w 1 c) * q) e3 e2).trans ?_
  norm_cast

theorem pay2_at : At3 1 512 1024 (k1_pay2 v398 v433 (k1_pay108 v31 v398 v433) (k1_pay109 v31) 511#32)
    fun _ t c => w 3 c * f t c + w 0 c * above 3 g f t c + w 1 c * above 2 g f t c + w 2 c * above 1 g f t c := by
  intro _ t c
  have ht := t.isLt
  have ht' : t.val - 504 < 2 ^ 31 := by omega
  have e1 := above_eq (k := 1) (c := c) (by decide) ht g f (fun _ => rfl) fun _ => rfl
  pointwise [k1_pay2, k1_pay109]
  simp only [pay108_at hw hf hg _ _, hw _ _, hf _ _, hg _ _, sel_sge ht' (by decide : 7 < 2 ^ 31)]
  refine (congrArg (fun q : EReal => ((w 3 c * f t c + w 0 c * above 3 g f t c + w 1 c * above 2 g f t c : ℝ) : EReal) + ↑(w 2 c) * q) e1).trans ?_
  norm_cast
end Input

theorem pay1_at {X : FVec Ideal S512x1024 .f32} {f : ℕ → ℕ → ℝ} (h : At2 512 1024 X f) : At2 8 1024 (k1_pay1 X) f := by
  intro s c
  pointwise [k1_pay1]
  exact h _ _
theorem pay63_at {X : FVec Ideal S512x1024 .f32} {f : ℕ → ℕ → ℝ} (h : At2 512 1024 X f) : At2 8 1024 (k1_pay63 X) f := by
  intro s c
  pointwise [k1_pay63]
  exact h _ _
theorem pay62_at {X : FVec Ideal S8x1024 .f32} {f : ℕ → ℕ → ℝ} (h : At2 8 1024 X f) : At2 8 1024 (k1_pay62 (F := Ideal) X) f := by
  intro s c
  pointwise [k1_pay62]
  exact h _ _
theorem pay3_at {X : FVec Ideal S512x1024 .f32} {f : ℕ → ℕ → ℝ} (h : At2 512 1024 X f) : At3 1 512 1024 (k1_pay3 X) fun _ => f := by
  intro _ s c
  pointwise [k1_pay3]
  exact h _ _

end Cert.Lru
end
-- ==== Proof.Lru.BwdCore.lean ====
/- What one point of the backward kernel computes from what it loads, at real numbers: the gradients of its tile, the sums
   it adds to, and what it hands on to the point before. -/
module

public import proofs.«01_k».proof.Proof.Lru.Tile
public import proofs.«01_k».proof.Proof.Lru.BwdVal
public import Idealize.ShloMosaic.Lib.VecWindow
public import Idealize.ShloMosaic.Lib.Pipeline.ReadBack

@[expose] public section

set_option maxRecDepth 16384

noncomputable section

namespace Cert.Lru

open Cert.LruKernelIdeal Cert.LruKernelIdeal.Gen
open Idealize.ShloMosaic Idealize.ShloMosaic.TcCoe Idealize.ShloMosaic.Tactic
open Cert.Common

/-! ## Sums from a time on -/

/-- The sum over the times from `k` on. -/
def tail (F : ℕ → ℝ) (k : ℕ) : ℝ := ∑ t ∈ Finset.Ico k 8192, F t

theorem tail_step (F : ℕ → ℝ) {m : ℕ} (hm : m < 16) : tail F (512 * (m + 1)) + ∑ t : Fin 512, F (512 * m + t) = tail F (512 * m) := by
  unfold tail
  rw [add_comm, ← Finset.sum_Ico_consecutive F (show 512 * m ≤ 512 * (m + 1) by omega) (show 512 * (m + 1) ≤ 8192 by omega),
    Finset.sum_Ico_eq_sum_range F (512 * m), show 512 * (m + 1) - 512 * m = 512 by omega, Fin.sum_univ_eq_sum_range (fun t => F (512 * m + t))]

theorem tail_end (F : ℕ → ℝ) : tail F (512 * (15 + 1)) = 0 := by
  unfold tail
  rw [Finset.Ico_self, Finset.sum_empty]

theorem tail_all (F : ℕ → ℝ) : tail F (512 * 0) = ∑ t : Fin 8192, F t := by
  unfold tail
  rw [Nat.mul_zero, ← Finset.range_eq_Ico, Fin.sum_univ_eq_sum_range F]

namespace Data
variable (d : Data)
/-- The decay, zero after the last time. -/
def az (t c : ℕ) : ℝ := if t < 8192 then d.a t c else 0
end Data

/-! ## Writes by slabs -/

section Slabs
variable {sig' : RefSig} {κ : Kind} {sp : Space} {Val : EltTy → Type} {e : EltTy} {K n l : ℕ}

/-- After a write of slab `k`, that slab holds the payload and the others what they held. -/
theorem slab3_cons (v : View sig' κ sp ⟨3, ![K, n, l]⟩ e) (f : v.ty.Contents Val) {k : ℕ} (inb : ∀ a, ![k, 0, 0] a + ![1, n, l] a ≤ (⟨3, ![K, n, l]⟩ : Shape).size a)
    (w : Shape.Idx ⟨3, ![1, n, l]⟩ → Val e) (L : List (View.Piece Val ⟨3, ![K, n, l]⟩ e)) (i : Fin K) (j : Fin n) (q : Fin l) :
    v.read Val (v.writes Val f (⟨Rect.unit (s := ⟨3, ![K, n, l]⟩) ![k, 0, 0] ![1, n, l] inb, w⟩ :: L)) (ix3 i j q)
      = if i.val = k then w (ix3 0 j q) else v.read Val (v.writes Val f L) (ix3 i j q) := by
  split
  · next h =>
    refine View.read_writes_cons_hit_of_coords v f (Rect.unit (s := ⟨3, ![K, n, l]⟩) ![k, 0, 0] ![1, n, l] inb) w L (ix3 0 j q) (ix3 i j q) fun a => ?_
    refine Fin.cases ?_ (fun a => Fin.cases ?_ (fun a => Fin.cases ?_ (fun a => a.elim0) a) a) a
    · show i.val = k + 1 * 0; omega
    · show j.val = 0 + 1 * j.val; omega
    · show q.val = 0 + 1 * q.val; omega
  · next h =>
    exact View.read_writes_cons_miss_of_axis v f _ L (ix3 i j q) 0 k 1 rfl rfl rfl (by show i.val < k ∨ k + 1 ≤ i.val; omega)

theorem slab2_cons (v : View sig' κ sp ⟨2, ![K, n]⟩ e) (f : v.ty.Contents Val) {k : ℕ} (inb : ∀ a, ![k, 0] a + ![1, n] a ≤ (⟨2, ![K, n]⟩ : Shape).size a)
    (w : Shape.Idx ⟨2, ![1, n]⟩ → Val e) (L : List (View.Piece Val ⟨2, ![K, n]⟩ e)) (i : Fin K) (j : Fin n) :
    v.read Val (v.writes Val f (⟨Rect.unit (s := ⟨2, ![K, n]⟩) ![k, 0] ![1, n] inb, w⟩ :: L)) (ix2 i j)
      = if i.val = k then w (ix2 0 j) else v.read Val (v.writes Val f L) (ix2 i j) := by
  split
  · next h =>
    refine View.read_writes_cons_hit_of_coords v f (Rect.unit (s := ⟨2, ![K, n]⟩) ![k, 0] ![1, n] inb) w L (ix2 0 j) (ix2 i j) fun a => ?_
    refine Fin.cases ?_ (fun a => Fin.cases ?_ (fun a => a.elim0) a) a
    · show i.val = k + 1 * 0; omega
    · show j.val = 0 + 1 * j.val; omega
  · next h =>
    exact View.read_writes_cons_miss_of_axis v f _ L (ix2 i j) 0 k 1 rfl rfl rfl (by show i.val < k ∨ k + 1 ≤ i.val; omega)
end Slabs

/-! ## One point -/

/-- What a point loads: the tile the gates need, the cotangent's rows, the output weights, the gate's rows (by column
    halves), the states' rows, the eight states before them; and what it was handed: the decay's and the convolution's first
    rows of the tile after, and the state's cotangent there. -/
structure Seen where
  T : Tile
  xd : FVec Ideal S512x1024 .bf16
  wo : FVec Ideal S1024x1024 .bf16
  ga : FVec Ideal S1x512x512 .f32
  gb : FVec Ideal S1x512x512 .f32
  hb : FVec Ideal S512x1024 .f32
  hh : FVec Ideal S8x1024 .f32
  af : FVec Ideal S8x1024 .f32
  dh : FVec Ideal S8x1024 .f32
  nx : FVec Ideal S8x1024 .f32

/-- The point is that of tile `m`. -/
structure Seen.Of (P : Seen) (d : Data) (m : ℕ) : Prop where
  T : P.T.Of d m
  lt : m < 16
  xd : At2 512 1024 P.xd fun t c => d.ct (512 * m + t) c
  wo : At2 1024 1024 P.wo d.wo
  ga : At3 1 512 512 P.ga fun _ t c => d.g (512 * m + t) c
  gb : At3 1 512 512 P.gb fun _ t c => d.g (512 * m + t) (512 + c)
  hb : At2 512 1024 P.hb fun t c => d.H (512 * m + t + 1) c
  hh : At2 8 1024 P.hh fun s c => d.H (512 * m - 8 + s + 1) c
  af : At2 8 1024 P.af fun s c => d.az (512 * (m + 1) + s) c
  dh : At2 8 1024 P.dh fun _ c => d.Dz (512 * (m + 1)) c
  nx : At2 8 1024 P.nx fun s c => d.dxcz (512 * (m + 1) + s) c

namespace Seen
variable (P : Seen) (D : FVec Ideal S512x1024 .f32)

def xc := P.T.xc
def dy := k1_pay51 (F := Ideal) P.xd P.wo
/-- The recurrence's two sequences. -/
def decay := k1_pay57 (F := Ideal) P.af (k1_pay56 P.T.a) rowNo 7#32
def input := k1_pay58 (F := Ideal) P.dy (k1_pay52 P.ga P.gb) (k1_pay53 P.ga P.gb)
/-- The gate's gradient. -/
def dlg := k1_pay55 (F := Ideal) P.xd P.wo P.ga P.gb P.hb
def hal := k1_pay64 (F := Ideal) P.T.b P.hh
def prev := k1_pay65 (F := Ideal) (k1_pay54 P.hb)
/-- The gradients at the gates and at the convolution, from the state's cotangent `D`. -/
def dzr := k1_pay70 (F := Ideal) P.T.sp P.T.xc P.T.r P.T.ig P.T.a P.T.rs D P.hal P.prev rowNo k1_pay66
def dzi := k1_pay71 (F := Ideal) P.T.xc P.T.ig P.T.s D
def du := k1_pay67 (F := Ideal) P.T.ig P.T.s D
def b0 := k1_pay79 (F := Ideal) P.T.wa' P.T.wx' (P.dzr D) (P.dzi D)
def b1 := k1_pay86 (F := Ideal) P.T.wa' P.T.wx' (P.dzr D) (P.dzi D)
def b2 := k1_pay93 (F := Ideal) P.T.wa' P.T.wx' (k1_pay88 (P.dzr D)) (k1_pay89 (P.dzi D))
def dxc := k1_pay100 (F := Ideal) P.T.wa' P.T.wx' (P.du D) (P.b0 D) (P.b1 D) (P.b2 D) (k1_pay95 (P.dzr D)) (k1_pay96 (P.dzi D))
/-- What it writes. -/
def dlx := k1_pay2 (F := Ideal) (P.dxc D) P.nx (k1_pay108 P.T.cw (P.dxc D) P.nx) (k1_pay109 P.T.cw) 511#32
def dba (v : FVec Ideal S1x1024 .f32) := k1_pay72 (F := Ideal) P.T.sp P.T.xc P.T.r P.T.ig P.T.a P.T.rs D P.hal P.prev rowNo k1_pay66 v
def dsp (v : FVec Ideal S1x1024 .f32) := k1_pay69 (F := Ideal) P.T.xc P.T.r P.T.ig P.T.a P.T.rs D P.hal P.prev rowNo k1_pay66 v
def dbx (v : FVec Ideal S1x1024 .f32) := k1_pay73 (F := Ideal) (P.dzi D) v
def dcb (v : FVec Ideal S1x1024 .f32) := k1_pay101 (F := Ideal) P.T.wa' P.T.wx' (P.du D) (P.b0 D) (P.b1 D) (P.b2 D) (k1_pay95 (P.dzr D)) (k1_pay96 (P.dzi D)) v

/-- The pieces it writes of the blocked weights' gradients, the latest first. -/
def dwa1 (v : FVec Ideal S1x256x256 .f32) (L : List (View.Piece (Elt Ideal) S4x256x256 .f32)) : List (View.Piece (Elt Ideal) S4x256x256 .f32) :=
  ⟨Rect.unit ![0, 0, 0] S1x256x256.size inb_S4x256x256_S1x256x256_0_0_0, k1_pay77 (F := Ideal) P.xc (P.dzr D) v⟩ :: L
def dwa2 (v : FVec Ideal S1x256x256 .f32) (L : List (View.Piece (Elt Ideal) S4x256x256 .f32)) : List (View.Piece (Elt Ideal) S4x256x256 .f32) :=
  ⟨Rect.unit ![1, 0, 0] S1x256x256.size inb_S4x256x256_S1x256x256_1_0_0, k1_pay84 (F := Ideal) (P.dzr D) (k1_pay80 P.xc) v⟩ :: L
def dwa3 (v : FVec Ideal S1x256x256 .f32) (L : List (View.Piece (Elt Ideal) S4x256x256 .f32)) : List (View.Piece (Elt Ideal) S4x256x256 .f32) :=
  ⟨Rect.unit ![2, 0, 0] S1x256x256.size inb_S4x256x256_S1x256x256_2_0_0, k1_pay91 (F := Ideal) (k1_pay90 P.xc (P.dzr D) v)⟩ :: L
def dwa4 (v : FVec Ideal S1x256x256 .f32) (L : List (View.Piece (Elt Ideal) S4x256x256 .f32)) : List (View.Piece (Elt Ideal) S4x256x256 .f32) :=
  ⟨Rect.unit ![3, 0, 0] S1x256x256.size inb_S4x256x256_S1x256x256_3_0_0, k1_pay97 (F := Ideal) P.xc (P.dzr D) v⟩ :: L
def dwx1 (v : FVec Ideal S1x256x256 .f32) (L : List (View.Piece (Elt Ideal) S4x256x256 .f32)) : List (View.Piece (Elt Ideal) S4x256x256 .f32) :=
  ⟨Rect.unit ![0, 0, 0] S1x256x256.size inb_S4x256x256_S1x256x256_0_0_0, k1_pay78 (F := Ideal) P.xc (P.dzi D) v⟩ :: L
def dwx2 (v : FVec Ideal S1x256x256 .f32) (L : List (View.Piece (Elt Ideal) S4x256x256 .f32)) : List (View.Piece (Elt Ideal) S4x256x256 .f32) :=
  ⟨Rect.unit ![1, 0, 0] S1x256x256.size inb_S4x256x256_S1x256x256_1_0_0, k1_pay85 (F := Ideal) (P.dzi D) (k1_pay80 P.xc) v⟩ :: L
def dwx3 (v : FVec Ideal S1x256x256 .f32) (L : List (View.Piece (Elt Ideal) S4x256x256 .f32)) : List (View.Piece (Elt Ideal) S4x256x256 .f32) :=
  ⟨Rect.unit ![2, 0, 0] S1x256x256.size inb_S4x256x256_S1x256x256_2_0_0, k1_pay92 (F := Ideal) (k1_pay87 P.xc) (k1_pay89 (P.dzi D)) v⟩ :: L
def dwx4 (v : FVec Ideal S1x256x256 .f32) (L : List (View.Piece (Elt Ideal) S4x256x256 .f32)) : List (View.Piece (Elt Ideal) S4x256x256 .f32) :=
  ⟨Rect.unit ![3, 0, 0] S1x256x256.size inb_S4x256x256_S1x256x256_3_0_0, k1_pay99 (F := Ideal) (k1_pay98 P.xc (P.dzi D) v)⟩ :: L
/-- The same of the taps' gradient, by rows. -/
def dcw1 (v : FVec Ideal S1x1024 .f32) (L : List (View.Piece (Elt Ideal) S4x1024 .f32)) : List (View.Piece (Elt Ideal) S4x1024 .f32) :=
  ⟨Rect.unit ![0, 0] S1x1024.size inb_S4x1024_S1x1024_0_0, k1_pay102 (F := Ideal) P.T.wa' P.T.wx' P.T.x3 (P.du D) (P.b0 D) (P.b1 D) (P.b2 D) (k1_pay95 (P.dzr D)) (k1_pay96 (P.dzi D)) v⟩ :: L
def dcw2 (v : FVec Ideal S1x1024 .f32) (L : List (View.Piece (Elt Ideal) S4x1024 .f32)) : List (View.Piece (Elt Ideal) S4x1024 .f32) :=
  ⟨Rect.unit ![1, 0] S1x1024.size inb_S4x1024_S1x1024_1_0, k1_pay103 (F := Ideal) P.T.wa' P.T.wx' P.T.x2 (P.du D) (P.b0 D) (P.b1 D) (P.b2 D) (k1_pay95 (P.dzr D)) (k1_pay96 (P.dzi D)) v⟩ :: L
def dcw3 (v : FVec Ideal S1x1024 .f32) (L : List (View.Piece (Elt Ideal) S4x1024 .f32)) : List (View.Piece (Elt Ideal) S4x1024 .f32) :=
  ⟨Rect.unit ![2, 0] S1x1024.size inb_S4x1024_S1x1024_2_0, k1_pay106 (F := Ideal) (k1_pay104 v)
    (k1_pay105 P.T.wa' P.T.wx' (k1_pay28 P.T.halo P.T.x) (P.du D) (P.b0 D) (P.b1 D) (P.b2 D) (k1_pay95 (P.dzr D)) (k1_pay96 (P.dzi D)))⟩ :: L
def dcw4 (v : FVec Ideal S1x1024 .f32) (L : List (View.Piece (Elt Ideal) S4x1024 .f32)) : List (View.Piece (Elt Ideal) S4x1024 .f32) :=
  ⟨Rect.unit ![3, 0] S1x1024.size inb_S4x1024_S1x1024_3_0, k1_pay107 (F := Ideal) P.T.x (P.dxc D) v⟩ :: L

variable {P D} {d : Data} {m : ℕ} (h : P.Of d m)
include h

theorem decay_at : At2 512 1024 P.decay fun t c => d.an (512 * m + t) c :=
  At2.congr (pay57_at (g := fun s c => d.az (512 * (m + 1) + s) c) (f := fun t c => d.a (512 * m + t) c) h.af (Tile.a_at h.T)) fun t c => by
    have := h.lt
    have := t.isLt
    unfold above Data.an Data.az
    beta_reduce
    by_cases ht : t.val + 1 < 512
    · rw [if_pos ht, if_pos (by omega)]; rfl
    · rw [if_neg ht, show 512 * (m + 1) + (t.val + 1 - 512) = 512 * m + t.val + 1 by omega]
theorem dy_at : At2 512 1024 P.dy fun t c => d.dy (512 * m + t) c := pay51_at h.xd h.wo
theorem g_at : At2 512 1024 (k1_pay52 (F := Ideal) P.ga P.gb) fun t c => d.g (512 * m + t) c := pay52_at (f := fun t c => d.g (512 * m + t) c) h.ga h.gb
theorem input_at : At2 512 1024 P.input fun t c => d.din (512 * m + t) c := pay58_at (dy_at h) (g_at h) (pay53_at (hg := g_at h))
theorem dlg_at : At2 512 1024 P.dlg fun t c => d.dlg (512 * m + t) c := pay55_at (hg := g_at h) (dy_at h) h.hb
theorem dh_at : At2 8 1024 P.dh fun _ c => d.Dz (512 * m + 512) c := At2.congr h.dh fun _ _ => by rw [Nat.mul_succ]

/-- The recurrence over the tile, and the value it hands on. -/
theorem scan_at : At2 512 1024 (tile1 (F := Ideal) rowNo P.decay P.input P.dh) fun t c => d.Dz (512 * m + t) c :=
  tile1_at (hA := decay_at h) (hU := input_at h) (hi := dh_at h) (K := fun t c => d.Dz (512 * m + t) c)
    (hK := fun t ht c => d.Dz_eq _ _ (by have := h.lt; omega))
theorem hand_at : At2 8 1024 (k1_pay62 (F := Ideal) (carry1 (F := Ideal) rowNo P.decay P.input P.dh 64)) fun _ c => d.Dz (512 * m) c :=
  pay62_at (f := fun _ c => d.Dz (512 * m) c) (carry1_at (hA := decay_at h) (hU := input_at h) (hi := dh_at h) (K := fun t c => d.Dz (512 * m + t) c)
    (hK := fun t ht c => d.Dz_eq _ _ (by have := h.lt; omega)) 64 le_rfl)
theorem first_at : At2 8 1024 (k1_pay63 (F := Ideal) P.T.a) fun s c => d.az (512 * m + s) c :=
  At2.congr (pay63_at (f := fun t c => d.a (512 * m + t) c) (Tile.a_at h.T)) fun s c => by
    have := h.lt
    have := s.isLt
    rw [Data.az, if_pos (by omega)]

variable (hD : At2 512 1024 D fun t c => d.Dz (512 * m + t) c)
include hD

theorem D_at : At2 512 1024 D fun t c => d.D (512 * m + t) c := At2.congr hD fun t c => d.Dz_of_lt (by have := h.lt; have := t.isLt; omega)
theorem hal_at : At2 8 1024 P.hal fun s c => if m = 0 then 0 else d.H (512 * m - 8 + s + 1) c := pay64_at (f := fun s c => d.H (512 * m - 8 + s + 1) c) h.T.b h.hh
theorem dla_at : At2 512 1024 (k1_pay68 (F := Ideal) P.T.xc P.T.ig P.T.a P.T.rs D P.hal P.prev rowNo k1_pay66) fun t c => d.dla (512 * m + t) c :=
  pay68_at (Tile.xc_at h.T) (Tile.ig_at h.T) (Tile.a_at h.T) (Tile.rs_at h.T) (D_at h hD) (hal_at h hD) fun t c => by
    have e := h.hb t c
    pointwise [k1_pay54]
    exact e
theorem dzr_at : At2 512 1024 (P.dzr D) fun t c => d.dzr (512 * m + t) c := pay70_at (dla_at h hD) (Tile.r_at h.T) (Tile.sp_at h.T)
theorem dzi_at : At2 512 1024 (P.dzi D) fun t c => d.dzi (512 * m + t) c := pay71_at (Tile.xc_at h.T) (Tile.ig_at h.T) (D_at h hD) (Tile.s_at h.T)
theorem du_at : At2 512 1024 (P.du D) fun t c => d.D (512 * m + t) c * (d.s (512 * m + t) c * d.ig (512 * m + t) c) :=
  pay67_at (D_at h hD) (Tile.s_at h.T) (Tile.ig_at h.T)
theorem dxc_at : At2 512 1024 (P.dxc D) fun t c => d.dxc (512 * m + t) c :=
  pay100_at (Tile.wa_at h.T) (Tile.wx_at h.T) (dzr_at h hD) (dzi_at h hD) (du_at h hD)

theorem head_at : At2 8 1024 (k1_pay1 (F := Ideal) (P.dxc D)) fun s c => d.dxcz (512 * m + s) c :=
  At2.congr (pay1_at (f := fun t c => d.dxc (512 * m + t) c) (dxc_at h hD)) fun s c => by
    have := h.lt
    have := s.isLt
    rw [Data.dxcz, if_pos (by omega)]

theorem dlx_at : At3 1 512 1024 (P.dlx D) fun _ t c => d.dlx (512 * m + t) c :=
  At3.congr (pay2_at (f := fun t c => d.dxc (512 * m + t) c) (g := fun s c => d.dxcz (512 * (m + 1) + s) c) h.T.cw (dxc_at h hD) h.nx) fun _ t c => by
    have hm := h.lt
    have ht := t.isLt
    have ab : ∀ k ≤ 3, above k (fun s c => d.dxcz (512 * (m + 1) + s) c) (fun t c => d.dxc (512 * m + t) c) t c = d.dxcz (512 * m + t + k) c := by
      intro k hk
      unfold above
      beta_reduce
      by_cases h' : t.val + k < 512
      · rw [if_pos h', Data.dxcz, if_pos (by omega), Nat.add_assoc]
      · rw [if_neg h', show 512 * (m + 1) + (t.val + k - 512) = 512 * m + t.val + k by omega]
    rw [ab 3 (by decide), ab 2 (by decide), ab 1 (by decide), Data.dlx, show d.dxcz (512 * m + t) c = d.dxc (512 * m + t) c from if_pos (by omega)]

/-! ### The sums -/

section Rows
variable {v : FVec Ideal S1x1024 .f32}

theorem dba_at (hv : At2 1 1024 v fun _ c => tail (fun t => d.dzr t c) (512 * (m + 1))) : At2 1 1024 (P.dba D v) fun _ c => tail (fun t => d.dzr t c) (512 * m) :=
  At2.congr (pay72_at (z := fun t c => d.dzr (512 * m + t) c) (dzr_at h hD) (f := fun c => tail (fun t => d.dzr t c) (512 * (m + 1))) hv) fun _ c => tail_step (fun t => d.dzr t c) h.lt
theorem dbx_at (hv : At2 1 1024 v fun _ c => tail (fun t => d.dzi t c) (512 * (m + 1))) : At2 1 1024 (P.dbx D v) fun _ c => tail (fun t => d.dzi t c) (512 * m) :=
  At2.congr (pay73_at (x := fun t c => d.dzi (512 * m + t) c) (dzi_at h hD) (f := fun c => tail (fun t => d.dzi t c) (512 * (m + 1))) hv) fun _ c => tail_step (fun t => d.dzi t c) h.lt
theorem dsp_at (hv : At2 1 1024 v fun _ c => tail (fun t => d.dla t c * d.r t c * -8) (512 * (m + 1))) :
    At2 1 1024 (P.dsp D v) fun _ c => tail (fun t => d.dla t c * d.r t c * -8) (512 * m) :=
  At2.congr (pay69_at (dla_at h hD) (Tile.r_at h.T) (f := fun c => tail (fun t => d.dla t c * d.r t c * -8) (512 * (m + 1))) hv)
    fun _ c => tail_step (fun t => d.dla t c * d.r t c * -8) h.lt
theorem dcb_at (hv : At2 1 1024 v fun _ c => tail (fun t => d.dxc t c) (512 * (m + 1))) : At2 1 1024 (P.dcb D v) fun _ c => tail (fun t => d.dxc t c) (512 * m) :=
  At2.congr (pay101_at (z := fun t c => d.dxc (512 * m + t) c) (dxc_at h hD) (f := fun c => tail (fun t => d.dxc t c) (512 * (m + 1))) hv) fun _ c => tail_step (fun t => d.dxc t c) h.lt
end Rows

section Taps
variable {v0 v1 v2 v3 : FVec Ideal S1x1024 .f32} (L : List (View.Piece (Elt Ideal) S4x1024 .f32))
  (h0 : At2 1 1024 v0 fun _ c => tail (fun t => d.dxc t c * d.xp (t + 0) c) (512 * (m + 1)))
  (h1 : At2 1 1024 v1 fun _ c => tail (fun t => d.dxc t c * d.xp (t + 1) c) (512 * (m + 1)))
  (h2 : At2 1 1024 v2 fun _ c => tail (fun t => d.dxc t c * d.xp (t + 2) c) (512 * (m + 1)))
  (h3 : At2 1 1024 v3 fun _ c => tail (fun t => d.dxc t c * d.xp (t + 3) c) (512 * (m + 1)))
include h0 h1 h2 h3

theorem dcw_at (w : View sig .tc .vmem S4x1024 .f32) :
    At2 4 1024 (w.read (Elt Ideal) (w.writes (Elt Ideal) w.junk (P.dcw4 D v3 (P.dcw3 D v2 (P.dcw2 D v1 (P.dcw1 D v0 L))))))
      fun k c => tail (fun t => d.dxc t c * d.xp (t + k) c) (512 * m) := by
  have hz := dxc_at h hD
  have hx3 : At2 512 1024 P.T.x3 fun t c => d.xp (512 * m + t + 0) c :=
    At2.congr (pay26_at (hX := Tile.halo_at h.T) (hY := Tile.x_at h.T)) fun t c => below_xp d (by decide) t.isLt
  have hx2 : At2 512 1024 P.T.x2 fun t c => d.xp (512 * m + t + 1) c :=
    At2.congr (pay27_at (hX := Tile.halo_at h.T) (hY := Tile.x_at h.T)) fun t c => below_xp d (by decide) t.isLt
  have hx1 : At2 512 1024 (k1_pay28 (F := Ideal) P.T.halo P.T.x) fun t c => d.xp (512 * m + t + 2) c :=
    At2.congr (pay28_at (Tile.halo_at h.T) (Tile.x_at h.T)) fun t c => below_xp d (by decide) t.isLt
  have hx0 : At2 512 1024 P.T.x fun t c => d.xp (512 * m + t + 3) c := At2.congr (Tile.x_at h.T) fun t c => by rw [xp_three]
  have e0 := pay102_at hz hx3 (f := fun c => tail (fun t => d.dxc t c * d.xp (t + 0) c) (512 * (m + 1))) h0
  have e1 := pay103_at hz hx2 (f := fun c => tail (fun t => d.dxc t c * d.xp (t + 1) c) (512 * (m + 1))) h1
  have e2 := pay106_at hz hx1 (f := fun c => tail (fun t => d.dxc t c * d.xp (t + 2) c) (512 * (m + 1))) h2
  have e3 := pay107_at hz hx0 (f := fun c => tail (fun t => d.dxc t c * d.xp (t + 3) c) (512 * (m + 1))) h3
  intro k c
  have st := tail_step (fun t => d.dxc t c * d.xp (t + k) c) h.lt
  unfold dcw1 dcw2 dcw3 dcw4
  refine (slab2_cons _ _ _ _ _ _ _).trans ?_
  split
  · next hk => refine (e3 _ _).trans ?_; beta_reduce; rw [← st, hk]
  · next hk3 =>
  refine (slab2_cons _ _ _ _ _ _ _).trans ?_
  split
  · next hk => refine (e2 _ _).trans ?_; beta_reduce; rw [← st, hk]
  · next hk2 =>
  refine (slab2_cons _ _ _ _ _ _ _).trans ?_
  split
  · next hk => refine (e1 _ _).trans ?_; beta_reduce; rw [← st, hk]
  · next hk1 =>
  refine (slab2_cons _ _ _ _ _ _ _).trans ?_
  rw [if_pos (show k.val = 0 by have := k.isLt; omega)]
  refine (e0 _ _).trans ?_; beta_reduce; rw [← st, show k.val = 0 by have := k.isLt; omega]
end Taps

section Weights
variable {v0 v1 v2 v3 : FVec Ideal S1x256x256 .f32} (L : List (View.Piece (Elt Ideal) S4x256x256 .f32)) (w : View sig .tc .vmem S4x256x256 .f32)

theorem dwa_at
    (h0 : At3 1 256 256 v0 fun _ a b => tail (fun t => d.xc t (0 * 256 + a) * d.dzr t (0 * 256 + b)) (512 * (m + 1)))
    (h1 : At3 1 256 256 v1 fun _ a b => tail (fun t => d.xc t (1 * 256 + a) * d.dzr t (1 * 256 + b)) (512 * (m + 1)))
    (h2 : At3 1 256 256 v2 fun _ a b => tail (fun t => d.xc t (2 * 256 + a) * d.dzr t (2 * 256 + b)) (512 * (m + 1)))
    (h3 : At3 1 256 256 v3 fun _ a b => tail (fun t => d.xc t (3 * 256 + a) * d.dzr t (3 * 256 + b)) (512 * (m + 1))) :
    At3 4 256 256 (w.read (Elt Ideal) (w.writes (Elt Ideal) w.junk (P.dwa4 D v3 (P.dwa3 D v2 (P.dwa2 D v1 (P.dwa1 D v0 L))))))
      fun k a b => tail (fun t => d.xc t (k * 256 + a) * d.dzr t (k * 256 + b)) (512 * m) := by
  have hX := Tile.xc_at h.T
  have hZ := dzr_at h hD
  have e0 := pay77_at hX hZ (f := fun a b => tail (fun t => d.xc t (0 * 256 + a) * d.dzr t (0 * 256 + b)) (512 * (m + 1))) h0
  have e1 := pay84_at hX hZ (f := fun a b => tail (fun t => d.xc t (1 * 256 + a) * d.dzr t (1 * 256 + b)) (512 * (m + 1))) h1
  have e2 := pay91_at hX hZ (f := fun a b => tail (fun t => d.xc t (2 * 256 + a) * d.dzr t (2 * 256 + b)) (512 * (m + 1))) h2
  have e3 := pay97_at hX hZ (f := fun a b => tail (fun t => d.xc t (3 * 256 + a) * d.dzr t (3 * 256 + b)) (512 * (m + 1))) h3
  intro k a b
  have st := tail_step (fun t => d.xc t (k * 256 + a) * d.dzr t (k * 256 + b)) h.lt
  unfold dwa1 dwa2 dwa3 dwa4
  refine (slab3_cons _ _ _ _ _ _ _ _).trans ?_
  split
  · next hk => refine (e3 _ _ _).trans ?_; beta_reduce; rw [← st, hk]
  · next hk3 =>
  refine (slab3_cons _ _ _ _ _ _ _ _).trans ?_
  split
  · next hk => refine (e2 _ _ _).trans ?_; beta_reduce; rw [← st, hk]
  · next hk2 =>
  refine (slab3_cons _ _ _ _ _ _ _ _).trans ?_
  split
  · next hk => refine (e1 _ _ _).trans ?_; beta_reduce; rw [← st, hk]
  · next hk1 =>
  refine (slab3_cons _ _ _ _ _ _ _ _).trans ?_
  rw [if_pos (show k.val = 0 by have := k.isLt; omega)]
  refine (e0 _ _ _).trans ?_; beta_reduce; rw [← st, show k.val = 0 by have := k.isLt; omega]

theorem dwx_at
    (h0 : At3 1 256 256 v0 fun _ a b => tail (fun t => d.xc t (0 * 256 + a) * d.dzi t (0 * 256 + b)) (512 * (m + 1)))
    (h1 : At3 1 256 256 v1 fun _ a b => tail (fun t => d.xc t (1 * 256 + a) * d.dzi t (1 * 256 + b)) (512 * (m + 1)))
    (h2 : At3 1 256 256 v2 fun _ a b => tail (fun t => d.xc t (2 * 256 + a) * d.dzi t (2 * 256 + b)) (512 * (m + 1)))
    (h3 : At3 1 256 256 v3 fun _ a b => tail (fun t => d.xc t (3 * 256 + a) * d.dzi t (3 * 256 + b)) (512 * (m + 1))) :
    At3 4 256 256 (w.read (Elt Ideal) (w.writes (Elt Ideal) w.junk (P.dwx4 D v3 (P.dwx3 D v2 (P.dwx2 D v1 (P.dwx1 D v0 L))))))
      fun k a b => tail (fun t => d.xc t (k * 256 + a) * d.dzi t (k * 256 + b)) (512 * m) := by
  have hX := Tile.xc_at h.T
  have hZ := dzi_at h hD
  have e0 := pay78_at hX hZ (f := fun a b => tail (fun t => d.xc t (0 * 256 + a) * d.dzi t (0 * 256 + b)) (512 * (m + 1))) h0
  have e1 := pay85_at hX hZ (f := fun a b => tail (fun t => d.xc t (1 * 256 + a) * d.dzi t (1 * 256 + b)) (512 * (m + 1))) h1
  have e2 := pay92_at hX hZ (f := fun a b => tail (fun t => d.xc t (2 * 256 + a) * d.dzi t (2 * 256 + b)) (512 * (m + 1))) h2
  have e3 := pay99_at hX hZ (f := fun a b => tail (fun t => d.xc t (3 * 256 + a) * d.dzi t (3 * 256 + b)) (512 * (m + 1))) h3
  intro k a b
  have st := tail_step (fun t => d.xc t (k * 256 + a) * d.dzi t (k * 256 + b)) h.lt
  unfold dwx1 dwx2 dwx3 dwx4
  refine (slab3_cons _ _ _ _ _ _ _ _).trans ?_
  split
  · next hk => refine (e3 _ _ _).trans ?_; beta_reduce; rw [← st, hk]
  · next hk3 =>
  refine (slab3_cons _ _ _ _ _ _ _ _).trans ?_
  split
  · next hk => refine (e2 _ _ _).trans ?_; beta_reduce; rw [← st, hk]
  · next hk2 =>
  refine (slab3_cons _ _ _ _ _ _ _ _).trans ?_
  split
  · next hk => refine (e1 _ _ _).trans ?_; beta_reduce; rw [← st, hk]
  · next hk1 =>
  refine (slab3_cons _ _ _ _ _ _ _ _).trans ?_
  rw [if_pos (show k.val = 0 by have := k.isLt; omega)]
  refine (e0 _ _ _).trans ?_; beta_reduce; rw [← st, show k.val = 0 by have := k.isLt; omega]
end Weights

/-- The projections' gradient: the convolution's input in the first slab, the gate in the second. -/
theorem dp_at (w : View sig .tc .vmem S2x512x1024 .bf16) (L : List (View.Piece (Elt Ideal) S2x512x1024 .bf16)) :
    At3 2 512 1024 (w.read (Elt Ideal) (w.writes (Elt Ideal) w.junk
      (⟨Rect.unit ![1, 0, 0] ![1, 512, 1024] inb_S2x512x1024_S1x512x1024_1_0_0, k1_pay3 (F := Ideal) P.dlg⟩
        :: ⟨Rect.unit ![0, 0, 0] ![1, 512, 1024] inb_S2x512x1024_S1x512x1024_0_0_0, P.dlx D⟩ :: L)))
      fun k t c => if k = 0 then d.dlx (512 * m + t) c else d.dlg (512 * m + t) c := by
  intro k t c
  refine (slab3_cons _ _ _ _ _ _ _ _).trans ?_
  split
  · next hk => refine (pay3_at (f := fun t c => d.dlg (512 * m + t) c) (dlg_at h) _ _ _).trans ?_; beta_reduce; rw [if_neg (by omega)]
  · next hk =>
  refine (slab3_cons _ _ _ _ _ _ _ _).trans ?_
  have hk0 : k.val = 0 := by have := k.isLt; omega
  beta_reduce
  rw [if_pos hk0, if_pos hk0]
  exact dlx_at h hD _ _ _
end Seen

end Cert.Lru

end
-- ==== Proof.Lru.Bwd.lean ====
/- What one point of the backward kernel leaves, at real numbers. -/
module

public import proofs.«01_k».proof.Proof.Lru.Data1
public import proofs.«01_k».proof.Proof.Lru.Fwd
public import proofs.«01_k».proof.Proof.Lru.BwdCore

@[expose] public section

set_option maxRecDepth 16384

noncomputable section

namespace Cert.Lru

open Cert.LruKernelIdeal Cert.LruKernelIdeal.Gen
open Idealize.ShloMosaic Idealize.ShloMosaic.TcCoe Idealize.ShloMosaic.Tactic
open Cert.Common

theorem At2.of_eq {n m : ℕ} {x y : Shape.Idx ⟨2, ![n, m]⟩ → EReal} {f : ℕ → ℕ → ℝ} (e : x = y) (h : At2 n m y f) : At2 n m x f := e ▸ h
theorem At3.of_eq {n m l : ℕ} {x y : Shape.Idx ⟨3, ![n, m, l]⟩ → EReal} {f : ℕ → ℕ → ℕ → ℝ} (e : x = y) (h : At3 n m l y f) : At3 n m l x f := e ▸ h

/-- The buffers a point works on. -/
structure Refs where
  a1 : Memref sig .tc .vmem S512x1024 .bf16
  h1 : a1.IsWhole
  a2 : Memref sig .tc .vmem S1024x1024 .bf16
  h2 : a2.IsWhole
  a3 : Memref sig .tc .vmem S2x512x512 .f32
  h3 : a3.IsWhole
  a4 : Memref sig .tc .vmem S2x8x512 .f32
  h4 : a4.IsWhole
  a5 : Memref sig .tc .vmem S2x512x512 .f32
  h5 : a5.IsWhole
  a6 : Memref sig .tc .vmem S512x1024 .f32
  h6 : a6.IsWhole
  a7 : Memref sig .tc .vmem S8x1024 .f32
  h7 : a7.IsWhole
  a8 : Memref sig .tc .vmem S4x256x256 .bf16
  h8 : a8.IsWhole
  a9 : Memref sig .tc .vmem S4x256x256 .bf16
  h9 : a9.IsWhole
  a10 : Memref sig .tc .vmem S1x1024 .f32
  h10 : a10.IsWhole
  a11 : Memref sig .tc .vmem S1x1024 .f32
  h11 : a11.IsWhole
  a12 : Memref sig .tc .vmem S1x1024 .f32
  h12 : a12.IsWhole
  a13 : Memref sig .tc .vmem S4x1024 .f32
  h13 : a13.IsWhole
  a14 : Memref sig .tc .vmem S1x1024 .f32
  h14 : a14.IsWhole
  a15 : Memref sig .tc .vmem S2x512x1024 .bf16
  h15 : a15.IsWhole
  a16 : Memref sig .tc .vmem S4x256x256 .f32
  h16 : a16.IsWhole
  a17 : Memref sig .tc .vmem S4x256x256 .f32
  h17 : a17.IsWhole
  a18 : Memref sig .tc .vmem S1x1024 .f32
  h18 : a18.IsWhole
  a19 : Memref sig .tc .vmem S1x1024 .f32
  h19 : a19.IsWhole
  a20 : Memref sig .tc .vmem S1x1024 .f32
  h20 : a20.IsWhole
  a21 : Memref sig .tc .vmem S4x1024 .f32
  h21 : a21.IsWhole
  a22 : Memref sig .tc .vmem S1x1024 .f32
  h22 : a22.IsWhole
  a23 : Memref sig .tc .vmem S512x1024 .f32
  h23 : a23.IsWhole
  a24 : Memref sig .tc .vmem S512x1024 .f32
  h24 : a24.IsWhole
  a25 : Memref sig .tc .vmem S512x1024 .f32
  h25 : a25.IsWhole
  a26 : Memref sig .tc .vmem S8x1024 .f32
  h26 : a26.IsWhole
  a27 : Memref sig .tc .vmem S8x1024 .f32
  h27 : a27.IsWhole
  a28 : Memref sig .tc .vmem S8x1024 .f32
  h28 : a28.IsWhole

/-- The blocks it loads. -/
structure Ins where
  x1 : Vec Ideal S512x1024 .bf16
  x2 : Vec Ideal S1024x1024 .bf16
  x3 : Vec Ideal S2x512x512 .f32
  x4 : Vec Ideal S2x8x512 .f32
  x5 : Vec Ideal S2x512x512 .f32
  x6 : Vec Ideal S512x1024 .f32
  x7 : Vec Ideal S8x1024 .f32
  x8 : Vec Ideal S4x256x256 .bf16
  x9 : Vec Ideal S4x256x256 .bf16
  x10 : Vec Ideal S1x1024 .f32
  x11 : Vec Ideal S1x1024 .f32
  x12 : Vec Ideal S1x1024 .f32
  x13 : Vec Ideal S4x1024 .f32
  x14 : Vec Ideal S1x1024 .f32

/-- What it was handed: the sums so far, and the first rows of the tile after. -/
structure Olds where
  y16 : Vec Ideal S4x256x256 .f32
  y17 : Vec Ideal S4x256x256 .f32
  y18 : Vec Ideal S1x1024 .f32
  y19 : Vec Ideal S1x1024 .f32
  y20 : Vec Ideal S1x1024 .f32
  y21 : Vec Ideal S4x1024 .f32
  y22 : Vec Ideal S1x1024 .f32
  y26 : Vec Ideal S8x1024 .f32
  y27 : Vec Ideal S8x1024 .f32
  y28 : Vec Ideal S8x1024 .f32

/-- A point's input blocks are those of tile `m`. -/
structure In1 (d : Data) (m : ℕ) (x : Ins) : Prop where
  ct : At2 512 1024 x.x1 fun t c => d.ct (512 * m + t) c
  wo : At2 1024 1024 x.x2 d.wo
  lx : At3 2 512 512 x.x3 fun k t c => d.x (512 * m + t) (512 * k + c)
  halo : At3 2 8 512 x.x4 fun k s c => d.x (512 * m - 8 + s) (512 * k + c)
  lg : At3 2 512 512 x.x5 fun k t c => d.g (512 * m + t) (512 * k + c)
  h : At2 512 1024 x.x6 fun t c => d.H (512 * m + t + 1) c
  hh : At2 8 1024 x.x7 fun s c => d.H (512 * m - 8 + s + 1) c
  wa : At3 4 256 256 x.x8 d.wa
  wx : At3 4 256 256 x.x9 d.wx
  ba : At2 1 1024 x.x10 fun _ c => d.ba (c / 256) (c % 256)
  bx : At2 1 1024 x.x11 fun _ c => d.bx (c / 256) (c % 256)
  lam : At2 1 1024 x.x12 fun _ c => d.lam c
  cw : At2 4 1024 x.x13 d.cw
  cb : At2 1 1024 x.x14 fun _ c => d.cb c

/-- The sums of the times from `k` on, and what the times from `k` on hand to those before. -/
structure Held (d : Data) (k : ℕ) (y : Olds) : Prop where
  dwa : At3 4 256 256 y.y16 fun n a b => tail (fun t => d.xc t (n * 256 + a) * d.dzr t (n * 256 + b)) k
  dwx : At3 4 256 256 y.y17 fun n a b => tail (fun t => d.xc t (n * 256 + a) * d.dzi t (n * 256 + b)) k
  dba : At2 1 1024 y.y18 fun _ c => tail (fun t => d.dzr t c) k
  dbx : At2 1 1024 y.y19 fun _ c => tail (fun t => d.dzi t c) k
  dsp : At2 1 1024 y.y20 fun _ c => tail (fun t => d.dla t c * d.r t c * -8) k
  dcw : At2 4 1024 y.y21 fun n c => tail (fun t => d.dxc t c * d.xp (t + n) c) k
  dcb : At2 1 1024 y.y22 fun _ c => tail (fun t => d.dxc t c) k
  dh : At2 8 1024 y.y26 fun _ c => d.Dz k c
  af : At2 8 1024 y.y27 fun s c => d.az (k + s) c
  nx : At2 8 1024 y.y28 fun s c => d.dxcz (k + s) c

/-! ## What the first point starts from -/

section Fill
variable {sig' : RefSig} {κ : Kind} {sp : Space} {K n l k : ℕ}

/-- A slab of a filled array. -/
theorem fill3_at (v : View sig' κ sp ⟨3, ![K, n, l]⟩ .f32) {Z : Shape.Idx ⟨3, ![K, n, l]⟩ → EReal} (hZ : ∀ y, Z y = ((0 : ℝ) : EReal))
    (inb : ∀ a, ![0, 0, 0] a + (⟨3, ![K, n, l]⟩ : Shape).size a ≤ (⟨3, ![K, n, l]⟩ : Shape).size a) (h : ∀ a, ![k, 0, 0] a + ![1, n, l] a ≤ (⟨3, ![K, n, l]⟩ : Shape).size a) :
    At3 1 n l (v.readCov (Val := Elt Ideal) [⟨Rect.unit (s := ⟨3, ![K, n, l]⟩) ![0, 0, 0] (⟨3, ![K, n, l]⟩ : Shape).size inb, Z⟩]
      (Rect.unit (s := ⟨3, ![K, n, l]⟩) ![k, 0, 0] ![1, n, l] h).toLoadRect) fun _ _ _ => 0 := by
  have e := View.readCov_fill (Val := Elt Ideal) (e := .f32) v inb Z [] (Rect.unit (s := ⟨3, ![K, n, l]⟩) ![k, 0, 0] ![1, n, l] h) fun a => Fin.cases rfl (fun a => Fin.cases rfl (fun a => Fin.cases rfl (fun a => a.elim0) a) a) a
  exact At3.of_eq e fun _ _ _ => hZ _
theorem fill2_at (v : View sig' κ sp ⟨2, ![K, n]⟩ .f32) {Z : Shape.Idx ⟨2, ![K, n]⟩ → EReal} (hZ : ∀ y, Z y = ((0 : ℝ) : EReal))
    (inb : ∀ a, ![0, 0] a + (⟨2, ![K, n]⟩ : Shape).size a ≤ (⟨2, ![K, n]⟩ : Shape).size a) (h : ∀ a, ![k, 0] a + ![l, n] a ≤ (⟨2, ![K, n]⟩ : Shape).size a) :
    At2 l n (v.readCov (Val := Elt Ideal) [⟨Rect.unit (s := ⟨2, ![K, n]⟩) ![0, 0] (⟨2, ![K, n]⟩ : Shape).size inb, Z⟩]
      (Rect.unit (s := ⟨2, ![K, n]⟩) ![k, 0] ![l, n] h).toLoadRect) fun _ _ => 0 := by
  have e := View.readCov_fill (Val := Elt Ideal) (e := .f32) v inb Z [] (Rect.unit (s := ⟨2, ![K, n]⟩) ![k, 0] ![l, n] h) fun a => Fin.cases rfl (fun a => Fin.cases rfl (fun a => a.elim0) a) a
  exact At2.of_eq e fun _ _ => hZ _
end Fill

theorem az_end (d : Data) (s c : ℕ) : d.az (512 * (15 + 1) + s) c = 0 := if_neg (by omega)
theorem Dz_end (d : Data) (c : ℕ) : d.Dz (512 * (15 + 1)) c = 0 := if_neg (by decide)
theorem dxcz_end (d : Data) (s c : ℕ) : d.dxcz (512 * (15 + 1) + s) c = 0 := if_neg (by omega)

theorem zero4 (y) : k1_pay4 (F := Ideal) y = ((0 : ℝ) : EReal) := by
  pointwise [k1_pay4]
  rfl
theorem zero6 (y) : k1_pay6 (F := Ideal) y = ((0 : ℝ) : EReal) := by
  pointwise [k1_pay6]
  rfl
theorem zero9 (y) : k1_pay9 (F := Ideal) y = ((0 : ℝ) : EReal) := by
  pointwise [k1_pay9]
  rfl
theorem zero11 (y) : k1_pay11 (F := Ideal) y = ((0 : ℝ) : EReal) := by
  pointwise [k1_pay11]
  rfl
theorem zero18 (y) : k1_pay18 (F := Ideal) y = ((0 : ℝ) : EReal) := by
  pointwise [k1_pay18]
  rfl

/-! ## One point -/

section Point
variable {d : Data} {m : ℕ} (c : Dev nD) (i : grid1.Coords) (M : Refs) (x : Ins)

/-- The tile a point loads. -/
def tileOf1 : Tile where
  b := Scalar.cmpi .eq (BitVec.ofNat 32 (i 0).val) 15#32
  ha := View.readAt (Elt Ideal) M.a4.view (Rect.unit (s := S2x8x512) ![0, 0, 0] S1x8x512.size inb_S2x8x512_S1x8x512_0_0_0).toLoadRect (M.h4.unread x.x4)
  hb := View.readAt (Elt Ideal) M.a4.view (Rect.unit (s := S2x8x512) ![1, 0, 0] S1x8x512.size inb_S2x8x512_S1x8x512_1_0_0).toLoadRect (M.h4.unread x.x4)
  xa := View.readAt (Elt Ideal) M.a3.view (Rect.unit (s := S2x512x512) ![0, 0, 0] S1x512x512.size inb_S2x512x512_S1x512x512_0_0_0).toLoadRect (M.h3.unread x.x3)
  xb := View.readAt (Elt Ideal) M.a3.view (Rect.unit (s := S2x512x512) ![1, 0, 0] S1x512x512.size inb_S2x512x512_S1x512x512_1_0_0).toLoadRect (M.h3.unread x.x3)
  wa := View.readAt (Elt Ideal) M.a8.view (Rect.unit (s := S4x256x256) ![0, 0, 0] S4x256x256.size inb_S4x256x256_S4x256x256_0_0_0).toLoadRect (M.h8.unread x.x8)
  wx := View.readAt (Elt Ideal) M.a9.view (Rect.unit (s := S4x256x256) ![0, 0, 0] S4x256x256.size inb_S4x256x256_S4x256x256_0_0_0).toLoadRect (M.h9.unread x.x9)
  ba := View.readAt (Elt Ideal) M.a10.view (Rect.unit (s := S1x1024) ![0, 0] S1x1024.size inb_S1x1024_S1x1024_0_0).toLoadRect (M.h10.unread x.x10)
  bx := View.readAt (Elt Ideal) M.a11.view (Rect.unit (s := S1x1024) ![0, 0] S1x1024.size inb_S1x1024_S1x1024_0_0).toLoadRect (M.h11.unread x.x11)
  lam := View.readAt (Elt Ideal) M.a12.view (Rect.unit (s := S1x1024) ![0, 0] S1x1024.size inb_S1x1024_S1x1024_0_0).toLoadRect (M.h12.unread x.x12)
  cw := View.readAt (Elt Ideal) M.a13.view (Rect.unit (s := S4x1024) ![0, 0] S4x1024.size inb_S4x1024_S4x1024_0_0).toLoadRect (M.h13.unread x.x13)
  cb := View.readAt (Elt Ideal) M.a14.view (Rect.unit (s := S1x1024) ![0, 0] S1x1024.size inb_S1x1024_S1x1024_0_0).toLoadRect (M.h14.unread x.x14)

/-- What it sees, from what it was handed. -/
def seen1 (dh af nx : FVec Ideal S8x1024 .f32) : Seen where
  T := (tileOf1 i M x)
  xd := View.readAt (Elt Ideal) M.a1.view (Rect.unit (s := S512x1024) ![0, 0] S512x1024.size inb_S512x1024_S512x1024_0_0).toLoadRect (M.h1.unread x.x1)
  wo := View.readAt (Elt Ideal) M.a2.view (Rect.unit (s := S1024x1024) ![0, 0] S1024x1024.size inb_S1024x1024_S1024x1024_0_0).toLoadRect (M.h2.unread x.x2)
  ga := View.readAt (Elt Ideal) M.a5.view (Rect.unit (s := S2x512x512) ![0, 0, 0] S1x512x512.size inb_S2x512x512_S1x512x512_0_0_0).toLoadRect (M.h5.unread x.x5)
  gb := View.readAt (Elt Ideal) M.a5.view (Rect.unit (s := S2x512x512) ![1, 0, 0] S1x512x512.size inb_S2x512x512_S1x512x512_1_0_0).toLoadRect (M.h5.unread x.x5)
  hb := View.readAt (Elt Ideal) M.a6.view (Rect.unit (s := S512x1024) ![0, 0] S512x1024.size inb_S512x1024_S512x1024_0_0).toLoadRect (M.h6.unread x.x6)
  hh := View.readAt (Elt Ideal) M.a7.view (Rect.unit (s := S8x1024) ![0, 0] S8x1024.size inb_S8x1024_S8x1024_0_0).toLoadRect (M.h7.unread x.x7)
  af := af
  dh := dh
  nx := nx

/-- The first point starts from zeros; a later one from what it was handed. -/
def seenA : Seen := (seen1 i M x (M.a26.view.readCov (Val := Elt Ideal) [⟨Rect.unit ![0, 0] S8x1024.size inb_S8x1024_S8x1024_0_0, k1_pay11 (F := Ideal)⟩] (Rect.unit (s := S8x1024) ![0, 0] S8x1024.size inb_S8x1024_S8x1024_0_0).toLoadRect) (M.a27.view.readCov (Val := Elt Ideal) [⟨Rect.unit ![0, 0] S8x1024.size inb_S8x1024_S8x1024_0_0, k1_pay11 (F := Ideal)⟩] (Rect.unit (s := S8x1024) ![0, 0] S8x1024.size inb_S8x1024_S8x1024_0_0).toLoadRect) (M.a28.view.readCov (Val := Elt Ideal) [⟨Rect.unit ![0, 0] S8x1024.size inb_S8x1024_S8x1024_0_0, k1_pay18 (F := Ideal)⟩] (Rect.unit (s := S8x1024) ![0, 0] S8x1024.size inb_S8x1024_S8x1024_0_0).toLoadRect))
def seenB (y : Olds) : Seen := (seen1 i M x (View.readAt (Elt Ideal) M.a26.view (Rect.unit (s := S8x1024) ![0, 0] S8x1024.size inb_S8x1024_S8x1024_0_0).toLoadRect (M.h26.unread y.y26)) (View.readAt (Elt Ideal) M.a27.view (Rect.unit (s := S8x1024) ![0, 0] S8x1024.size inb_S8x1024_S8x1024_0_0).toLoadRect (M.h27.unread y.y27)) (View.readAt (Elt Ideal) M.a28.view (Rect.unit (s := S8x1024) ![0, 0] S8x1024.size inb_S8x1024_S8x1024_0_0).toLoadRect (M.h28.unread y.y28)))
def pointA (hc : cond1 i) := run1A (F := Ideal) c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 M.a28 M.h28 hc x.x1 x.x2 x.x3 x.x4 x.x5 x.x6 x.x7 x.x8 x.x9 x.x10 x.x11 x.x12 x.x13 x.x14
def pointB (y : Olds) (hc : ¬cond1 i) := run1B (F := Ideal) c i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 M.a23 M.h23 M.a24 M.h24 M.a25 M.h25 M.a26 M.h26 M.a27 M.h27 M.a28 M.h28 hc x.x1 x.x2 x.x3 x.x4 x.x5 x.x6 x.x7 x.x8 x.x9 x.x10 x.x11 x.x12 x.x13 x.x14 y.y16 y.y17 y.y18 y.y19 y.y20 y.y21 y.y22 y.y26 y.y27 y.y28

/-- The state's cotangent over its tile, as the scan leaves it. -/
def cot1 (P : Seen) : FVec Ideal S512x1024 .f32 :=
  View.readAt (Elt Ideal) M.a25.view (Rect.unit (s := S512x1024) ![0, 0] S512x1024.size inb_S512x1024_S512x1024_0_0).toLoadRect (M.h25.unread (tile1 (F := Ideal) rowNo
    (View.read (Elt Ideal) M.a23.view (M.a23.view.writes (Elt Ideal) M.a23.view.junk [⟨Rect.unit ![0, 0] S512x1024.size inb_S512x1024_S512x1024_0_0, P.decay⟩]))
    (View.read (Elt Ideal) M.a24.view (M.a24.view.writes (Elt Ideal) M.a24.view.junk [⟨Rect.unit ![0, 0] S512x1024.size inb_S512x1024_S512x1024_0_0, P.input⟩])) P.dh))

theorem cot1_at {P : Seen} (hP : P.Of d m) : At2 512 1024 (cot1 M P) fun t c => d.Dz (512 * m + t) c := by
  unfold cot1
  rw [View.read_writes_full, View.read_writes_full]
  exact whole2_at M.h25 (f := fun t c => d.Dz (512 * m + t) c) (Seen.scan_at hP) _

variable {x} (hin : In1 d m x) (hi : (i 0).val + m = 15)
include hin hi

theorem tileOf1_of : (tileOf1 i M x).Of d m where
  b := (eq_word (by omega) (by decide)).trans (congrArg _ (decide_eq_decide.mpr (by omega)))
  ha := At3.congr (load3_at M.h4 hin.halo _) fun k s c => by have := k.isLt; simp only [zero_add, Nat.lt_one_iff.mp this, Nat.mul_zero]
  hb := At3.congr (load3_at M.h4 hin.halo _) fun k s c => by have := k.isLt; simp only [zero_add, Nat.lt_one_iff.mp this, Nat.mul_one, Nat.add_zero]
  xa := At3.congr (load3_at M.h3 hin.lx _) fun k s c => by have := k.isLt; simp only [zero_add, Nat.lt_one_iff.mp this, Nat.mul_zero]
  xb := At3.congr (load3_at M.h3 hin.lx _) fun k s c => by have := k.isLt; simp only [zero_add, Nat.lt_one_iff.mp this, Nat.mul_one, Nat.add_zero]
  wa := whole3_bf16_at M.h8 hin.wa _
  wx := whole3_bf16_at M.h9 hin.wx _
  ba := whole2_at M.h10 hin.ba _
  bx := whole2_at M.h11 hin.bx _
  lam := whole2_at M.h12 hin.lam _
  cw := whole2_at M.h13 hin.cw _
  cb := whole2_at M.h14 hin.cb _

theorem seen1_of {dh af nx : FVec Ideal S8x1024 .f32} (hdh : At2 8 1024 dh fun _ c => d.Dz (512 * (m + 1)) c) (haf : At2 8 1024 af fun s c => d.az (512 * (m + 1) + s) c)
    (hnx : At2 8 1024 nx fun s c => d.dxcz (512 * (m + 1) + s) c) : (seen1 i M x (dh) (af) (nx)).Of d m where
  T := tileOf1_of i M hin hi
  lt := by omega
  xd := whole2_bf16_at M.h1 (f := fun t c => d.ct (512 * m + t) c) hin.ct _
  wo := whole2_bf16_at M.h2 (f := d.wo) hin.wo _
  ga := At3.congr (load3_at M.h5 hin.lg _) fun k s c => by have := k.isLt; simp only [zero_add, Nat.lt_one_iff.mp this, Nat.mul_zero]
  gb := At3.congr (load3_at M.h5 hin.lg _) fun k s c => by have := k.isLt; simp only [zero_add, Nat.lt_one_iff.mp this, Nat.mul_one, Nat.add_zero]
  hb := whole2_at M.h6 (f := fun t c => d.H (512 * m + t + 1) c) hin.h _
  hh := whole2_at M.h7 (f := fun s c => d.H (512 * m - 8 + s + 1) c) hin.hh _
  af := haf
  dh := hdh
  nx := hnx

theorem seenB_of {y : Olds} (hy : Held d (512 * (m + 1)) y) : (seenB i M x y).Of d m :=
  seen1_of i M hin hi (whole2_at M.h26 (f := fun _ c => d.Dz (512 * (m + 1)) c) hy.dh _) (whole2_at M.h27 (f := fun s c => d.az (512 * (m + 1) + s) c) hy.af _) (whole2_at M.h28 (f := fun s c => d.dxcz (512 * (m + 1) + s) c) hy.nx _)

theorem pointB_dp (hc : ¬cond1 i) {y : Olds} (hy : Held d (512 * (m + 1)) y) (v : View sig .tc .vmem S2x512x1024 .bf16) :
    At3 2 512 1024 (v.read (Elt Ideal) (v.writes (Elt Ideal) v.junk (pointB c i M x y hc).1)) fun k t c => if k = 0 then d.dlx (512 * m + t) c else d.dlg (512 * m + t) c := by
  have e : (pointB c i M x y hc).1 = ⟨Rect.unit ![1, 0, 0] ![1, 512, 1024] inb_S2x512x1024_S1x512x1024_1_0_0, k1_pay3 (F := Ideal) (seenB i M x y).dlg⟩ :: ⟨Rect.unit ![0, 0, 0] ![1, 512, 1024] inb_S2x512x1024_S1x512x1024_0_0_0, (seenB i M x y).dlx (cot1 M (seenB i M x y))⟩ :: [] := by sl_kernel_rfl
  have hP := seenB_of i M hin hi hy
  have hD := cot1_at M hP
  rw [e]
  exact Seen.dp_at hP hD v []

theorem pointB_dwa (hc : ¬cond1 i) {y : Olds} (hy : Held d (512 * (m + 1)) y) (v : View sig .tc .vmem S4x256x256 .f32) :
    At3 4 256 256 (v.read (Elt Ideal) (v.writes (Elt Ideal) v.junk (pointB c i M x y hc).2.1)) fun n a b => tail (fun t => d.xc t (n * 256 + a) * d.dzr t (n * 256 + b)) (512 * m) := by
  have e : (pointB c i M x y hc).2.1 = (seenB i M x y).dwa4 (cot1 M (seenB i M x y)) (View.readAt (Elt Ideal) M.a16.view (Rect.unit (s := S4x256x256) ![3, 0, 0] S1x256x256.size inb_S4x256x256_S1x256x256_3_0_0).toLoadRect (M.h16.unread y.y16)) ((seenB i M x y).dwa3 (cot1 M (seenB i M x y)) (View.readAt (Elt Ideal) M.a16.view (Rect.unit (s := S4x256x256) ![2, 0, 0] S1x256x256.size inb_S4x256x256_S1x256x256_2_0_0).toLoadRect (M.h16.unread y.y16)) ((seenB i M x y).dwa2 (cot1 M (seenB i M x y)) (View.readAt (Elt Ideal) M.a16.view (Rect.unit (s := S4x256x256) ![1, 0, 0] S1x256x256.size inb_S4x256x256_S1x256x256_1_0_0).toLoadRect (M.h16.unread y.y16)) ((seenB i M x y).dwa1 (cot1 M (seenB i M x y)) (View.readAt (Elt Ideal) M.a16.view (Rect.unit (s := S4x256x256) ![0, 0, 0] S1x256x256.size inb_S4x256x256_S1x256x256_0_0_0).toLoadRect (M.h16.unread y.y16)) ([])))) := by sl_kernel_rfl
  have hP := seenB_of i M hin hi hy
  have hD := cot1_at M hP
  rw [e]
  exact Seen.dwa_at hP hD [] v (At3.congr (load3_at M.h16 hy.dwa _) fun i j k => by have := i.isLt; simp only [zero_add, Nat.lt_one_iff.mp this, Nat.add_zero]) (At3.congr (load3_at M.h16 hy.dwa _) fun i j k => by have := i.isLt; simp only [zero_add, Nat.lt_one_iff.mp this, Nat.add_zero]) (At3.congr (load3_at M.h16 hy.dwa _) fun i j k => by have := i.isLt; simp only [zero_add, Nat.lt_one_iff.mp this, Nat.add_zero]) (At3.congr (load3_at M.h16 hy.dwa _) fun i j k => by have := i.isLt; simp only [zero_add, Nat.lt_one_iff.mp this, Nat.add_zero])

theorem pointB_dwx (hc : ¬cond1 i) {y : Olds} (hy : Held d (512 * (m + 1)) y) (v : View sig .tc .vmem S4x256x256 .f32) :
    At3 4 256 256 (v.read (Elt Ideal) (v.writes (Elt Ideal) v.junk (pointB c i M x y hc).2.2.1)) fun n a b => tail (fun t => d.xc t (n * 256 + a) * d.dzi t (n * 256 + b)) (512 * m) := by
  have e : (pointB c i M x y hc).2.2.1 = (seenB i M x y).dwx4 (cot1 M (seenB i M x y)) (View.readAt (Elt Ideal) M.a17.view (Rect.unit (s := S4x256x256) ![3, 0, 0] S1x256x256.size inb_S4x256x256_S1x256x256_3_0_0).toLoadRect (M.h17.unread y.y17)) ((seenB i M x y).dwx3 (cot1 M (seenB i M x y)) (View.readAt (Elt Ideal) M.a17.view (Rect.unit (s := S4x256x256) ![2, 0, 0] S1x256x256.size inb_S4x256x256_S1x256x256_2_0_0).toLoadRect (M.h17.unread y.y17)) ((seenB i M x y).dwx2 (cot1 M (seenB i M x y)) (View.readAt (Elt Ideal) M.a17.view (Rect.unit (s := S4x256x256) ![1, 0, 0] S1x256x256.size inb_S4x256x256_S1x256x256_1_0_0).toLoadRect (M.h17.unread y.y17)) ((seenB i M x y).dwx1 (cot1 M (seenB i M x y)) (View.readAt (Elt Ideal) M.a17.view (Rect.unit (s := S4x256x256) ![0, 0, 0] S1x256x256.size inb_S4x256x256_S1x256x256_0_0_0).toLoadRect (M.h17.unread y.y17)) ([])))) := by sl_kernel_rfl
  have hP := seenB_of i M hin hi hy
  have hD := cot1_at M hP
  rw [e]
  exact Seen.dwx_at hP hD [] v (At3.congr (load3_at M.h17 hy.dwx _) fun i j k => by have := i.isLt; simp only [zero_add, Nat.lt_one_iff.mp this, Nat.add_zero]) (At3.congr (load3_at M.h17 hy.dwx _) fun i j k => by have := i.isLt; simp only [zero_add, Nat.lt_one_iff.mp this, Nat.add_zero]) (At3.congr (load3_at M.h17 hy.dwx _) fun i j k => by have := i.isLt; simp only [zero_add, Nat.lt_one_iff.mp this, Nat.add_zero]) (At3.congr (load3_at M.h17 hy.dwx _) fun i j k => by have := i.isLt; simp only [zero_add, Nat.lt_one_iff.mp this, Nat.add_zero])

theorem pointB_dcw (hc : ¬cond1 i) {y : Olds} (hy : Held d (512 * (m + 1)) y) (v : View sig .tc .vmem S4x1024 .f32) :
    At2 4 1024 (v.read (Elt Ideal) (v.writes (Elt Ideal) v.junk (pointB c i M x y hc).2.2.2.2.2.2.1)) fun n c => tail (fun t => d.dxc t c * d.xp (t + n) c) (512 * m) := by
  have e : (pointB c i M x y hc).2.2.2.2.2.2.1 = (seenB i M x y).dcw4 (cot1 M (seenB i M x y)) (View.readAt (Elt Ideal) M.a21.view (Rect.unit (s := S4x1024) ![3, 0] S1x1024.size inb_S4x1024_S1x1024_3_0).toLoadRect (M.h21.unread y.y21)) ((seenB i M x y).dcw3 (cot1 M (seenB i M x y)) (View.readAt (Elt Ideal) M.a21.view (Rect.unit (s := S4x1024) ![2, 0] S1x1024.size inb_S4x1024_S1x1024_2_0).toLoadRect (M.h21.unread y.y21)) ((seenB i M x y).dcw2 (cot1 M (seenB i M x y)) (View.readAt (Elt Ideal) M.a21.view (Rect.unit (s := S4x1024) ![1, 0] S1x1024.size inb_S4x1024_S1x1024_1_0).toLoadRect (M.h21.unread y.y21)) ((seenB i M x y).dcw1 (cot1 M (seenB i M x y)) (View.readAt (Elt Ideal) M.a21.view (Rect.unit (s := S4x1024) ![0, 0] S1x1024.size inb_S4x1024_S1x1024_0_0).toLoadRect (M.h21.unread y.y21)) ([])))) := by sl_kernel_rfl
  have hP := seenB_of i M hin hi hy
  have hD := cot1_at M hP
  rw [e]
  exact Seen.dcw_at hP hD [] (At2.congr (load2_at M.h21 hy.dcw _) fun i j => by have := i.isLt; simp only [zero_add, Nat.lt_one_iff.mp this, Nat.add_zero]) (At2.congr (load2_at M.h21 hy.dcw _) fun i j => by have := i.isLt; simp only [zero_add, Nat.lt_one_iff.mp this, Nat.add_zero]) (At2.congr (load2_at M.h21 hy.dcw _) fun i j => by have := i.isLt; simp only [zero_add, Nat.lt_one_iff.mp this, Nat.add_zero]) (At2.congr (load2_at M.h21 hy.dcw _) fun i j => by have := i.isLt; simp only [zero_add, Nat.lt_one_iff.mp this, Nat.add_zero]) v

theorem pointB_dba (hc : ¬cond1 i) {y : Olds} (hy : Held d (512 * (m + 1)) y) (v : View sig .tc .vmem S1x1024 .f32) :
    At2 1 1024 (v.read (Elt Ideal) (v.writes (Elt Ideal) v.junk (pointB c i M x y hc).2.2.2.1)) fun _ c => tail (fun t => d.dzr t c) (512 * m) := by
  have e : (pointB c i M x y hc).2.2.2.1 = ⟨Rect.unit ![0, 0] S1x1024.size inb_S1x1024_S1x1024_0_0, (seenB i M x y).dba (cot1 M (seenB i M x y)) (View.readAt (Elt Ideal) M.a18.view (Rect.unit (s := S1x1024) ![0, 0] S1x1024.size inb_S1x1024_S1x1024_0_0).toLoadRect (M.h18.unread y.y18))⟩ :: [] := by sl_kernel_rfl
  have hP := seenB_of i M hin hi hy
  have hD := cot1_at M hP
  rw [e]
  rw [View.read_writes_full]
  exact Seen.dba_at hP hD (whole2_at M.h18 (f := fun _ c => tail (fun t => d.dzr t c) (512 * (m + 1))) hy.dba _)

theorem pointB_dbx (hc : ¬cond1 i) {y : Olds} (hy : Held d (512 * (m + 1)) y) (v : View sig .tc .vmem S1x1024 .f32) :
    At2 1 1024 (v.read (Elt Ideal) (v.writes (Elt Ideal) v.junk (pointB c i M x y hc).2.2.2.2.1)) fun _ c => tail (fun t => d.dzi t c) (512 * m) := by
  have e : (pointB c i M x y hc).2.2.2.2.1 = ⟨Rect.unit ![0, 0] S1x1024.size inb_S1x1024_S1x1024_0_0, (seenB i M x y).dbx (cot1 M (seenB i M x y)) (View.readAt (Elt Ideal) M.a19.view (Rect.unit (s := S1x1024) ![0, 0] S1x1024.size inb_S1x1024_S1x1024_0_0).toLoadRect (M.h19.unread y.y19))⟩ :: [] := by sl_kernel_rfl
  have hP := seenB_of i M hin hi hy
  have hD := cot1_at M hP
  rw [e]
  rw [View.read_writes_full]
  exact Seen.dbx_at hP hD (whole2_at M.h19 (f := fun _ c => tail (fun t => d.dzi t c) (512 * (m + 1))) hy.dbx _)

theorem pointB_dsp (hc : ¬cond1 i) {y : Olds} (hy : Held d (512 * (m + 1)) y) (v : View sig .tc .vmem S1x1024 .f32) :
    At2 1 1024 (v.read (Elt Ideal) (v.writes (Elt Ideal) v.junk (pointB c i M x y hc).2.2.2.2.2.1)) fun _ c => tail (fun t => d.dla t c * d.r t c * -8) (512 * m) := by
  have e : (pointB c i M x y hc).2.2.2.2.2.1 = ⟨Rect.unit ![0, 0] S1x1024.size inb_S1x1024_S1x1024_0_0, (seenB i M x y).dsp (cot1 M (seenB i M x y)) (View.readAt (Elt Ideal) M.a20.view (Rect.unit (s := S1x1024) ![0, 0] S1x1024.size inb_S1x1024_S1x1024_0_0).toLoadRect (M.h20.unread y.y20))⟩ :: [] := by sl_kernel_rfl
  have hP := seenB_of i M hin hi hy
  have hD := cot1_at M hP
  rw [e]
  rw [View.read_writes_full]
  exact Seen.dsp_at hP hD (whole2_at M.h20 (f := fun _ c => tail (fun t => d.dla t c * d.r t c * -8) (512 * (m + 1))) hy.dsp _)

theorem pointB_dcb (hc : ¬cond1 i) {y : Olds} (hy : Held d (512 * (m + 1)) y) (v : View sig .tc .vmem S1x1024 .f32) :
    At2 1 1024 (v.read (Elt Ideal) (v.writes (Elt Ideal) v.junk (pointB c i M x y hc).2.2.2.2.2.2.2.1)) fun _ c => tail (fun t => d.dxc t c) (512 * m) := by
  have e : (pointB c i M x y hc).2.2.2.2.2.2.2.1 = ⟨Rect.unit ![0, 0] S1x1024.size inb_S1x1024_S1x1024_0_0, (seenB i M x y).dcb (cot1 M (seenB i M x y)) (View.readAt (Elt Ideal) M.a22.view (Rect.unit (s := S1x1024) ![0, 0] S1x1024.size inb_S1x1024_S1x1024_0_0).toLoadRect (M.h22.unread y.y22))⟩ :: [] := by sl_kernel_rfl
  have hP := seenB_of i M hin hi hy
  have hD := cot1_at M hP
  rw [e]
  rw [View.read_writes_full]
  exact Seen.dcb_at hP hD (whole2_at M.h22 (f := fun _ c => tail (fun t => d.dxc t c) (512 * (m + 1))) hy.dcb _)

theorem pointB_dh (hc : ¬cond1 i) {y : Olds} (hy : Held d (512 * (m + 1)) y) (v : View sig .tc .vmem S8x1024 .f32) :
    At2 8 1024 (v.read (Elt Ideal) (v.writes (Elt Ideal) v.junk (pointB c i M x y hc).2.2.2.2.2.2.2.2.1)) fun _ c => d.Dz (512 * m) c := by
  have e : (pointB c i M x y hc).2.2.2.2.2.2.2.2.1 = ⟨Rect.unit ![0, 0] S8x1024.size inb_S8x1024_S8x1024_0_0, k1_pay62 (F := Ideal) (carry1 (F := Ideal) rowNo (View.read (Elt Ideal) M.a23.view (M.a23.view.writes (Elt Ideal) M.a23.view.junk [⟨Rect.unit ![0, 0] S512x1024.size inb_S512x1024_S512x1024_0_0, (seenB i M x y).decay⟩])) (View.read (Elt Ideal) M.a24.view (M.a24.view.writes (Elt Ideal) M.a24.view.junk [⟨Rect.unit ![0, 0] S512x1024.size inb_S512x1024_S512x1024_0_0, (seenB i M x y).input⟩])) (seenB i M x y).dh 64)⟩ :: [] := by sl_kernel_rfl
  have hP := seenB_of i M hin hi hy
  have hD := cot1_at M hP
  rw [e]
  rw [View.read_writes_full, View.read_writes_full, View.read_writes_full]
  exact Seen.hand_at hP

theorem pointB_af (hc : ¬cond1 i) {y : Olds} (hy : Held d (512 * (m + 1)) y) (v : View sig .tc .vmem S8x1024 .f32) :
    At2 8 1024 (v.read (Elt Ideal) (v.writes (Elt Ideal) v.junk (pointB c i M x y hc).2.2.2.2.2.2.2.2.2.1)) fun s c => d.az (512 * m + s) c := by
  have e : (pointB c i M x y hc).2.2.2.2.2.2.2.2.2.1 = ⟨Rect.unit ![0, 0] S8x1024.size inb_S8x1024_S8x1024_0_0, k1_pay63 (F := Ideal) (seenB i M x y).T.a⟩ :: [] := by sl_kernel_rfl
  have hP := seenB_of i M hin hi hy
  have hD := cot1_at M hP
  rw [e]
  rw [View.read_writes_full]
  exact Seen.first_at hP

theorem pointB_nx (hc : ¬cond1 i) {y : Olds} (hy : Held d (512 * (m + 1)) y) (v : View sig .tc .vmem S8x1024 .f32) :
    At2 8 1024 (v.read (Elt Ideal) (v.writes (Elt Ideal) v.junk (pointB c i M x y hc).2.2.2.2.2.2.2.2.2.2.1)) fun s c => d.dxcz (512 * m + s) c := by
  have e : (pointB c i M x y hc).2.2.2.2.2.2.2.2.2.2.1 = ⟨Rect.unit ![0, 0] ![8, 1024] inb_S8x1024_S8x1024_0_0, k1_pay1 (F := Ideal) ((seenB i M x y).dxc (cot1 M (seenB i M x y)))⟩ :: [] := by sl_kernel_rfl
  have hP := seenB_of i M hin hi hy
  have hD := cot1_at M hP
  rw [e]
  refine At2.of_eq (View.read_writes_full v _ inb_S8x1024_S8x1024_0_0 _ _) ?_
  exact Seen.head_at hP hD

omit hin hi

theorem seenA_of (hin : In1 d 15 x) (hi : (i 0).val = 0) : (seenA i M x).Of d 15 :=
  seen1_of i M hin (by omega) (At2.congr (fill2_at M.a26.view zero11 _ _) fun _ _ => (Dz_end _ _).symm) (At2.congr (fill2_at M.a27.view zero11 _ _) fun _ _ => (az_end _ _ _).symm) (At2.congr (fill2_at M.a28.view zero18 _ _) fun _ _ => (dxcz_end _ _ _).symm)

theorem pointA_dp (hin : In1 d 15 x) (hi : (i 0).val = 0) (hc : cond1 i) (v : View sig .tc .vmem S2x512x1024 .bf16) :
    At3 2 512 1024 (v.read (Elt Ideal) (v.writes (Elt Ideal) v.junk (pointA c i M x hc).1)) fun k t c => if k = 0 then d.dlx (512 * 15 + t) c else d.dlg (512 * 15 + t) c := by
  have e : (pointA c i M x hc).1 = ⟨Rect.unit ![1, 0, 0] ![1, 512, 1024] inb_S2x512x1024_S1x512x1024_1_0_0, k1_pay3 (F := Ideal) (seenA i M x).dlg⟩ :: ⟨Rect.unit ![0, 0, 0] ![1, 512, 1024] inb_S2x512x1024_S1x512x1024_0_0_0, (seenA i M x).dlx (cot1 M (seenA i M x))⟩ :: [] := by sl_kernel_rfl
  have hP := seenA_of i M hin hi
  have hD := cot1_at M hP
  rw [e]
  exact Seen.dp_at hP hD v []

theorem pointA_dwa (hin : In1 d 15 x) (hi : (i 0).val = 0) (hc : cond1 i) (v : View sig .tc .vmem S4x256x256 .f32) :
    At3 4 256 256 (v.read (Elt Ideal) (v.writes (Elt Ideal) v.junk (pointA c i M x hc).2.1)) fun n a b => tail (fun t => d.xc t (n * 256 + a) * d.dzr t (n * 256 + b)) (512 * 15) := by
  have e : (pointA c i M x hc).2.1 = (seenA i M x).dwa4 (cot1 M (seenA i M x)) (M.a16.view.readCov (Val := Elt Ideal) ((seenA i M x).dwa3 (cot1 M (seenA i M x)) (M.a16.view.readCov (Val := Elt Ideal) ((seenA i M x).dwa2 (cot1 M (seenA i M x)) (M.a16.view.readCov (Val := Elt Ideal) ((seenA i M x).dwa1 (cot1 M (seenA i M x)) (M.a16.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])) (Rect.unit (s := S4x256x256) ![1, 0, 0] S1x256x256.size inb_S4x256x256_S1x256x256_1_0_0).toLoadRect) ((seenA i M x).dwa1 (cot1 M (seenA i M x)) (M.a16.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩]))) (Rect.unit (s := S4x256x256) ![2, 0, 0] S1x256x256.size inb_S4x256x256_S1x256x256_2_0_0).toLoadRect) ((seenA i M x).dwa2 (cot1 M (seenA i M x)) (M.a16.view.readCov (Val := Elt Ideal) ((seenA i M x).dwa1 (cot1 M (seenA i M x)) (M.a16.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])) (Rect.unit (s := S4x256x256) ![1, 0, 0] S1x256x256.size inb_S4x256x256_S1x256x256_1_0_0).toLoadRect) ((seenA i M x).dwa1 (cot1 M (seenA i M x)) (M.a16.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])))) (Rect.unit (s := S4x256x256) ![3, 0, 0] S1x256x256.size inb_S4x256x256_S1x256x256_3_0_0).toLoadRect) ((seenA i M x).dwa3 (cot1 M (seenA i M x)) (M.a16.view.readCov (Val := Elt Ideal) ((seenA i M x).dwa2 (cot1 M (seenA i M x)) (M.a16.view.readCov (Val := Elt Ideal) ((seenA i M x).dwa1 (cot1 M (seenA i M x)) (M.a16.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])) (Rect.unit (s := S4x256x256) ![1, 0, 0] S1x256x256.size inb_S4x256x256_S1x256x256_1_0_0).toLoadRect) ((seenA i M x).dwa1 (cot1 M (seenA i M x)) (M.a16.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩]))) (Rect.unit (s := S4x256x256) ![2, 0, 0] S1x256x256.size inb_S4x256x256_S1x256x256_2_0_0).toLoadRect) ((seenA i M x).dwa2 (cot1 M (seenA i M x)) (M.a16.view.readCov (Val := Elt Ideal) ((seenA i M x).dwa1 (cot1 M (seenA i M x)) (M.a16.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])) (Rect.unit (s := S4x256x256) ![1, 0, 0] S1x256x256.size inb_S4x256x256_S1x256x256_1_0_0).toLoadRect) ((seenA i M x).dwa1 (cot1 M (seenA i M x)) (M.a16.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])))) := by sl_kernel_rfl
  have hP := seenA_of i M hin hi
  have hD := cot1_at M hP
  rw [e]
  exact Seen.dwa_at hP hD [⟨Rect.unit ![0, 0, 0] S4x256x256.size inb_S4x256x256_S4x256x256_0_0_0, k1_pay4 (F := Ideal)⟩] v (At3.congr (fill3_at M.a16.view zero4 _ _) fun _ _ _ => (tail_end _).symm) (At3.congr (At3.of_eq (View.readCov_skip _ _ _ _ _ (by decide)) (fill3_at M.a16.view zero4 _ _)) fun _ _ _ => (tail_end _).symm) (At3.congr (At3.of_eq (View.readCov_skip _ _ _ _ _ (by decide)) (At3.of_eq (View.readCov_skip _ _ _ _ _ (by decide)) (fill3_at M.a16.view zero4 _ _))) fun _ _ _ => (tail_end _).symm) (At3.congr (At3.of_eq (View.readCov_skip _ _ _ _ _ (by decide)) (At3.of_eq (View.readCov_skip _ _ _ _ _ (by decide)) (At3.of_eq (View.readCov_skip _ _ _ _ _ (by decide)) (fill3_at M.a16.view zero4 _ _)))) fun _ _ _ => (tail_end _).symm)

theorem pointA_dwx (hin : In1 d 15 x) (hi : (i 0).val = 0) (hc : cond1 i) (v : View sig .tc .vmem S4x256x256 .f32) :
    At3 4 256 256 (v.read (Elt Ideal) (v.writes (Elt Ideal) v.junk (pointA c i M x hc).2.2.1)) fun n a b => tail (fun t => d.xc t (n * 256 + a) * d.dzi t (n * 256 + b)) (512 * 15) := by
  have e : (pointA c i M x hc).2.2.1 = (seenA i M x).dwx4 (cot1 M (seenA i M x)) (M.a17.view.readCov (Val := Elt Ideal) ((seenA i M x).dwx3 (cot1 M (seenA i M x)) (M.a17.view.readCov (Val := Elt Ideal) ((seenA i M x).dwx2 (cot1 M (seenA i M x)) (M.a17.view.readCov (Val := Elt Ideal) ((seenA i M x).dwx1 (cot1 M (seenA i M x)) (M.a17.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])) (Rect.unit (s := S4x256x256) ![1, 0, 0] S1x256x256.size inb_S4x256x256_S1x256x256_1_0_0).toLoadRect) ((seenA i M x).dwx1 (cot1 M (seenA i M x)) (M.a17.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩]))) (Rect.unit (s := S4x256x256) ![2, 0, 0] S1x256x256.size inb_S4x256x256_S1x256x256_2_0_0).toLoadRect) ((seenA i M x).dwx2 (cot1 M (seenA i M x)) (M.a17.view.readCov (Val := Elt Ideal) ((seenA i M x).dwx1 (cot1 M (seenA i M x)) (M.a17.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])) (Rect.unit (s := S4x256x256) ![1, 0, 0] S1x256x256.size inb_S4x256x256_S1x256x256_1_0_0).toLoadRect) ((seenA i M x).dwx1 (cot1 M (seenA i M x)) (M.a17.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])))) (Rect.unit (s := S4x256x256) ![3, 0, 0] S1x256x256.size inb_S4x256x256_S1x256x256_3_0_0).toLoadRect) ((seenA i M x).dwx3 (cot1 M (seenA i M x)) (M.a17.view.readCov (Val := Elt Ideal) ((seenA i M x).dwx2 (cot1 M (seenA i M x)) (M.a17.view.readCov (Val := Elt Ideal) ((seenA i M x).dwx1 (cot1 M (seenA i M x)) (M.a17.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])) (Rect.unit (s := S4x256x256) ![1, 0, 0] S1x256x256.size inb_S4x256x256_S1x256x256_1_0_0).toLoadRect) ((seenA i M x).dwx1 (cot1 M (seenA i M x)) (M.a17.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩]))) (Rect.unit (s := S4x256x256) ![2, 0, 0] S1x256x256.size inb_S4x256x256_S1x256x256_2_0_0).toLoadRect) ((seenA i M x).dwx2 (cot1 M (seenA i M x)) (M.a17.view.readCov (Val := Elt Ideal) ((seenA i M x).dwx1 (cot1 M (seenA i M x)) (M.a17.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])) (Rect.unit (s := S4x256x256) ![1, 0, 0] S1x256x256.size inb_S4x256x256_S1x256x256_1_0_0).toLoadRect) ((seenA i M x).dwx1 (cot1 M (seenA i M x)) (M.a17.view.readCov (Val := Elt Ideal) ([⟨Rect.unit ![0, 0, 0] S4x256x256.size inb_S4x256x256_S4x256x256_0_0_0, k1_pay4 (F := Ideal)⟩]) (Rect.unit (s := S4x256x256) ![0, 0, 0] S1x256x256.size inb_S4x256x256_S1x256x256_0_0_0).toLoadRect) ([⟨Rect.unit ![0, 0, 0] S4x256x256.size inb_S4x256x256_S4x256x256_0_0_0, k1_pay4 (F := Ideal)⟩])))) := by sl_kernel_rfl
  have hP := seenA_of i M hin hi
  have hD := cot1_at M hP
  rw [e]
  exact Seen.dwx_at hP hD [⟨Rect.unit ![0, 0, 0] S4x256x256.size inb_S4x256x256_S4x256x256_0_0_0, k1_pay4 (F := Ideal)⟩] v (At3.congr (fill3_at M.a17.view zero4 _ _) fun _ _ _ => (tail_end _).symm) (At3.congr (At3.of_eq (View.readCov_skip _ _ _ _ _ (by decide)) (fill3_at M.a17.view zero4 _ _)) fun _ _ _ => (tail_end _).symm) (At3.congr (At3.of_eq (View.readCov_skip _ _ _ _ _ (by decide)) (At3.of_eq (View.readCov_skip _ _ _ _ _ (by decide)) (fill3_at M.a17.view zero4 _ _))) fun _ _ _ => (tail_end _).symm) (At3.congr (At3.of_eq (View.readCov_skip _ _ _ _ _ (by decide)) (At3.of_eq (View.readCov_skip _ _ _ _ _ (by decide)) (At3.of_eq (View.readCov_skip _ _ _ _ _ (by decide)) (fill3_at M.a17.view zero4 _ _)))) fun _ _ _ => (tail_end _).symm)

theorem pointA_dcw (hin : In1 d 15 x) (hi : (i 0).val = 0) (hc : cond1 i) (v : View sig .tc .vmem S4x1024 .f32) :
    At2 4 1024 (v.read (Elt Ideal) (v.writes (Elt Ideal) v.junk (pointA c i M x hc).2.2.2.2.2.2.1)) fun n c => tail (fun t => d.dxc t c * d.xp (t + n) c) (512 * 15) := by
  have e : (pointA c i M x hc).2.2.2.2.2.2.1 = (seenA i M x).dcw4 (cot1 M (seenA i M x)) (M.a21.view.readCov (Val := Elt Ideal) ((seenA i M x).dcw3 (cot1 M (seenA i M x)) (M.a21.view.readCov (Val := Elt Ideal) ((seenA i M x).dcw2 (cot1 M (seenA i M x)) (M.a21.view.readCov (Val := Elt Ideal) ((seenA i M x).dcw1 (cot1 M (seenA i M x)) (M.a21.view.readCov (Val := Elt Ideal) ([⟨Rect.unit ![0, 0] S4x1024.size inb_S4x1024_S4x1024_0_0, k1_pay9 (F := Ideal)⟩]) (Rect.unit (s := S4x1024) ![0, 0] S1x1024.size inb_S4x1024_S1x1024_0_0).toLoadRect) ([⟨Rect.unit ![0, 0] S4x1024.size inb_S4x1024_S4x1024_0_0, k1_pay9 (F := Ideal)⟩])) (Rect.unit (s := S4x1024) ![1, 0] S1x1024.size inb_S4x1024_S1x1024_1_0).toLoadRect) ((seenA i M x).dcw1 (cot1 M (seenA i M x)) (M.a21.view.readCov (Val := Elt Ideal) ([⟨Rect.unit ![0, 0] S4x1024.size inb_S4x1024_S4x1024_0_0, k1_pay9 (F := Ideal)⟩]) (Rect.unit (s := S4x1024) ![0, 0] S1x1024.size inb_S4x1024_S1x1024_0_0).toLoadRect) ([⟨Rect.unit ![0, 0] S4x1024.size inb_S4x1024_S4x1024_0_0, k1_pay9 (F := Ideal)⟩]))) (Rect.unit (s := S4x1024) ![2, 0] S1x1024.size inb_S4x1024_S1x1024_2_0).toLoadRect) ((seenA i M x).dcw2 (cot1 M (seenA i M x)) (M.a21.view.readCov (Val := Elt Ideal) ((seenA i M x).dcw1 (cot1 M (seenA i M x)) (M.a21.view.readCov (Val := Elt Ideal) ([⟨Rect.unit ![0, 0] S4x1024.size inb_S4x1024_S4x1024_0_0, k1_pay9 (F := Ideal)⟩]) (Rect.unit (s := S4x1024) ![0, 0] S1x1024.size inb_S4x1024_S1x1024_0_0).toLoadRect) ([⟨Rect.unit ![0, 0] S4x1024.size inb_S4x1024_S4x1024_0_0, k1_pay9 (F := Ideal)⟩])) (Rect.unit (s := S4x1024) ![1, 0] S1x1024.size inb_S4x1024_S1x1024_1_0).toLoadRect) ((seenA i M x).dcw1 (cot1 M (seenA i M x)) (M.a21.view.readCov (Val := Elt Ideal) ([⟨Rect.unit ![0, 0] S4x1024.size inb_S4x1024_S4x1024_0_0, k1_pay9 (F := Ideal)⟩]) (Rect.unit (s := S4x1024) ![0, 0] S1x1024.size inb_S4x1024_S1x1024_0_0).toLoadRect) ([⟨Rect.unit ![0, 0] S4x1024.size inb_S4x1024_S4x1024_0_0, k1_pay9 (F := Ideal)⟩])))) (Rect.unit (s := S4x1024) ![3, 0] S1x1024.size inb_S4x1024_S1x1024_3_0).toLoadRect) ((seenA i M x).dcw3 (cot1 M (seenA i M x)) (M.a21.view.readCov (Val := Elt Ideal) ((seenA i M x).dcw2 (cot1 M (seenA i M x)) (M.a21.view.readCov (Val := Elt Ideal) ((seenA i M x).dcw1 (cot1 M (seenA i M x)) (M.a21.view.readCov (Val := Elt Ideal) ([⟨Rect.unit ![0, 0] S4x1024.size inb_S4x1024_S4x1024_0_0, k1_pay9 (F := Ideal)⟩]) (Rect.unit (s := S4x1024) ![0, 0] S1x1024.size inb_S4x1024_S1x1024_0_0).toLoadRect) ([⟨Rect.unit ![0, 0] S4x1024.size inb_S4x1024_S4x1024_0_0, k1_pay9 (F := Ideal)⟩])) (Rect.unit (s := S4x1024) ![1, 0] S1x1024.size inb_S4x1024_S1x1024_1_0).toLoadRect) ((seenA i M x).dcw1 (cot1 M (seenA i M x)) (M.a21.view.readCov (Val := Elt Ideal) ([⟨Rect.unit ![0, 0] S4x1024.size inb_S4x1024_S4x1024_0_0, k1_pay9 (F := Ideal)⟩]) (Rect.unit (s := S4x1024) ![0, 0] S1x1024.size inb_S4x1024_S1x1024_0_0).toLoadRect) ([⟨Rect.unit ![0, 0] S4x1024.size inb_S4x1024_S4x1024_0_0, k1_pay9 (F := Ideal)⟩]))) (Rect.unit (s := S4x1024) ![2, 0] S1x1024.size inb_S4x1024_S1x1024_2_0).toLoadRect) ((seenA i M x).dcw2 (cot1 M (seenA i M x)) (M.a21.view.readCov (Val := Elt Ideal) ((seenA i M x).dcw1 (cot1 M (seenA i M x)) (M.a21.view.readCov (Val := Elt Ideal) ([⟨Rect.unit ![0, 0] S4x1024.size inb_S4x1024_S4x1024_0_0, k1_pay9 (F := Ideal)⟩]) (Rect.unit (s := S4x1024) ![0, 0] S1x1024.size inb_S4x1024_S1x1024_0_0).toLoadRect) ([⟨Rect.unit ![0, 0] S4x1024.size inb_S4x1024_S4x1024_0_0, k1_pay9 (F := Ideal)⟩])) (Rect.unit (s := S4x1024) ![1, 0] S1x1024.size inb_S4x1024_S1x1024_1_0).toLoadRect) ((seenA i M x).dcw1 (cot1 M (seenA i M x)) (M.a21.view.readCov (Val := Elt Ideal) ([⟨Rect.unit ![0, 0] S4x1024.size inb_S4x1024_S4x1024_0_0, k1_pay9 (F := Ideal)⟩]) (Rect.unit (s := S4x1024) ![0, 0] S1x1024.size inb_S4x1024_S1x1024_0_0).toLoadRect) ([⟨Rect.unit ![0, 0] S4x1024.size inb_S4x1024_S4x1024_0_0, k1_pay9 (F := Ideal)⟩])))) := by sl_kernel_rfl
  have hP := seenA_of i M hin hi
  have hD := cot1_at M hP
  rw [e]
  exact Seen.dcw_at hP hD [⟨Rect.unit ![0, 0] S4x1024.size inb_S4x1024_S4x1024_0_0, k1_pay9 (F := Ideal)⟩] (At2.congr (fill2_at M.a21.view zero9 _ _) fun _ _ => (tail_end _).symm) (At2.congr (At2.of_eq (View.readCov_skip _ _ _ _ _ (by decide)) (fill2_at M.a21.view zero9 _ _)) fun _ _ => (tail_end _).symm) (At2.congr (At2.of_eq (View.readCov_skip _ _ _ _ _ (by decide)) (At2.of_eq (View.readCov_skip _ _ _ _ _ (by decide)) (fill2_at M.a21.view zero9 _ _))) fun _ _ => (tail_end _).symm) (At2.congr (At2.of_eq (View.readCov_skip _ _ _ _ _ (by decide)) (At2.of_eq (View.readCov_skip _ _ _ _ _ (by decide)) (At2.of_eq (View.readCov_skip _ _ _ _ _ (by decide)) (fill2_at M.a21.view zero9 _ _)))) fun _ _ => (tail_end _).symm) v

theorem pointA_dba (hin : In1 d 15 x) (hi : (i 0).val = 0) (hc : cond1 i) (v : View sig .tc .vmem S1x1024 .f32) :
    At2 1 1024 (v.read (Elt Ideal) (v.writes (Elt Ideal) v.junk (pointA c i M x hc).2.2.2.1)) fun _ c => tail (fun t => d.dzr t c) (512 * 15) := by
  have e : (pointA c i M x hc).2.2.2.1 = ⟨Rect.unit ![0, 0] S1x1024.size inb_S1x1024_S1x1024_0_0, (seenA i M x).dba (cot1 M (seenA i M x)) (M.a18.view.readCov (Val := Elt Ideal) [⟨Rect.unit ![0, 0] S1x1024.size inb_S1x1024_S1x1024_0_0, k1_pay6 (F := Ideal)⟩] (Rect.unit (s := S1x1024) ![0, 0] S1x1024.size inb_S1x1024_S1x1024_0_0).toLoadRect)⟩ :: [⟨Rect.unit ![0, 0] S1x1024.size inb_S1x1024_S1x1024_0_0, k1_pay6 (F := Ideal)⟩] := by sl_kernel_rfl
  have hP := seenA_of i M hin hi
  have hD := cot1_at M hP
  rw [e]
  rw [View.read_writes_full]
  exact Seen.dba_at hP hD (At2.congr (fill2_at M.a18.view zero6 _ _) fun _ _ => (tail_end _).symm)

theorem pointA_dbx (hin : In1 d 15 x) (hi : (i 0).val = 0) (hc : cond1 i) (v : View sig .tc .vmem S1x1024 .f32) :
    At2 1 1024 (v.read (Elt Ideal) (v.writes (Elt Ideal) v.junk (pointA c i M x hc).2.2.2.2.1)) fun _ c => tail (fun t => d.dzi t c) (512 * 15) := by
  have e : (pointA c i M x hc).2.2.2.2.1 = ⟨Rect.unit ![0, 0] S1x1024.size inb_S1x1024_S1x1024_0_0, (seenA i M x).dbx (cot1 M (seenA i M x)) (M.a19.view.readCov (Val := Elt Ideal) [⟨Rect.unit ![0, 0] S1x1024.size inb_S1x1024_S1x1024_0_0, k1_pay6 (F := Ideal)⟩] (Rect.unit (s := S1x1024) ![0, 0] S1x1024.size inb_S1x1024_S1x1024_0_0).toLoadRect)⟩ :: [⟨Rect.unit ![0, 0] S1x1024.size inb_S1x1024_S1x1024_0_0, k1_pay6 (F := Ideal)⟩] := by sl_kernel_rfl
  have hP := seenA_of i M hin hi
  have hD := cot1_at M hP
  rw [e]
  rw [View.read_writes_full]
  exact Seen.dbx_at hP hD (At2.congr (fill2_at M.a19.view zero6 _ _) fun _ _ => (tail_end _).symm)

theorem pointA_dsp (hin : In1 d 15 x) (hi : (i 0).val = 0) (hc : cond1 i) (v : View sig .tc .vmem S1x1024 .f32) :
    At2 1 1024 (v.read (Elt Ideal) (v.writes (Elt Ideal) v.junk (pointA c i M x hc).2.2.2.2.2.1)) fun _ c => tail (fun t => d.dla t c * d.r t c * -8) (512 * 15) := by
  have e : (pointA c i M x hc).2.2.2.2.2.1 = ⟨Rect.unit ![0, 0] S1x1024.size inb_S1x1024_S1x1024_0_0, (seenA i M x).dsp (cot1 M (seenA i M x)) (M.a20.view.readCov (Val := Elt Ideal) [⟨Rect.unit ![0, 0] S1x1024.size inb_S1x1024_S1x1024_0_0, k1_pay6 (F := Ideal)⟩] (Rect.unit (s := S1x1024) ![0, 0] S1x1024.size inb_S1x1024_S1x1024_0_0).toLoadRect)⟩ :: [⟨Rect.unit ![0, 0] S1x1024.size inb_S1x1024_S1x1024_0_0, k1_pay6 (F := Ideal)⟩] := by sl_kernel_rfl
  have hP := seenA_of i M hin hi
  have hD := cot1_at M hP
  rw [e]
  rw [View.read_writes_full]
  exact Seen.dsp_at hP hD (At2.congr (fill2_at M.a20.view zero6 _ _) fun _ _ => (tail_end _).symm)

theorem pointA_dcb (hin : In1 d 15 x) (hi : (i 0).val = 0) (hc : cond1 i) (v : View sig .tc .vmem S1x1024 .f32) :
    At2 1 1024 (v.read (Elt Ideal) (v.writes (Elt Ideal) v.junk (pointA c i M x hc).2.2.2.2.2.2.2.1)) fun _ c => tail (fun t => d.dxc t c) (512 * 15) := by
  have e : (pointA c i M x hc).2.2.2.2.2.2.2.1 = ⟨Rect.unit ![0, 0] S1x1024.size inb_S1x1024_S1x1024_0_0, (seenA i M x).dcb (cot1 M (seenA i M x)) (M.a22.view.readCov (Val := Elt Ideal) [⟨Rect.unit ![0, 0] S1x1024.size inb_S1x1024_S1x1024_0_0, k1_pay6 (F := Ideal)⟩] (Rect.unit (s := S1x1024) ![0, 0] S1x1024.size inb_S1x1024_S1x1024_0_0).toLoadRect)⟩ :: [⟨Rect.unit ![0, 0] S1x1024.size inb_S1x1024_S1x1024_0_0, k1_pay6 (F := Ideal)⟩] := by sl_kernel_rfl
  have hP := seenA_of i M hin hi
  have hD := cot1_at M hP
  rw [e]
  rw [View.read_writes_full]
  exact Seen.dcb_at hP hD (At2.congr (fill2_at M.a22.view zero6 _ _) fun _ _ => (tail_end _).symm)

theorem pointA_dh (hin : In1 d 15 x) (hi : (i 0).val = 0) (hc : cond1 i) (v : View sig .tc .vmem S8x1024 .f32) :
    At2 8 1024 (v.read (Elt Ideal) (v.writes (Elt Ideal) v.junk (pointA c i M x hc).2.2.2.2.2.2.2.2.1)) fun _ c => d.Dz (512 * 15) c := by
  have e : (pointA c i M x hc).2.2.2.2.2.2.2.2.1 = ⟨Rect.unit ![0, 0] S8x1024.size inb_S8x1024_S8x1024_0_0, k1_pay62 (F := Ideal) (carry1 (F := Ideal) rowNo (View.read (Elt Ideal) M.a23.view (M.a23.view.writes (Elt Ideal) M.a23.view.junk [⟨Rect.unit ![0, 0] S512x1024.size inb_S512x1024_S512x1024_0_0, (seenA i M x).decay⟩])) (View.read (Elt Ideal) M.a24.view (M.a24.view.writes (Elt Ideal) M.a24.view.junk [⟨Rect.unit ![0, 0] S512x1024.size inb_S512x1024_S512x1024_0_0, (seenA i M x).input⟩])) (seenA i M x).dh 64)⟩ :: [⟨Rect.unit ![0, 0] S8x1024.size inb_S8x1024_S8x1024_0_0, k1_pay11 (F := Ideal)⟩] := by sl_kernel_rfl
  have hP := seenA_of i M hin hi
  have hD := cot1_at M hP
  rw [e]
  rw [View.read_writes_full, View.read_writes_full, View.read_writes_full]
  exact Seen.hand_at hP

theorem pointA_af (hin : In1 d 15 x) (hi : (i 0).val = 0) (hc : cond1 i) (v : View sig .tc .vmem S8x1024 .f32) :
    At2 8 1024 (v.read (Elt Ideal) (v.writes (Elt Ideal) v.junk (pointA c i M x hc).2.2.2.2.2.2.2.2.2.1)) fun s c => d.az (512 * 15 + s) c := by
  have e : (pointA c i M x hc).2.2.2.2.2.2.2.2.2.1 = ⟨Rect.unit ![0, 0] S8x1024.size inb_S8x1024_S8x1024_0_0, k1_pay63 (F := Ideal) (seenA i M x).T.a⟩ :: [⟨Rect.unit ![0, 0] S8x1024.size inb_S8x1024_S8x1024_0_0, k1_pay11 (F := Ideal)⟩] := by sl_kernel_rfl
  have hP := seenA_of i M hin hi
  have hD := cot1_at M hP
  rw [e]
  rw [View.read_writes_full]
  exact Seen.first_at hP

theorem pointA_nx (hin : In1 d 15 x) (hi : (i 0).val = 0) (hc : cond1 i) (v : View sig .tc .vmem S8x1024 .f32) :
    At2 8 1024 (v.read (Elt Ideal) (v.writes (Elt Ideal) v.junk (pointA c i M x hc).2.2.2.2.2.2.2.2.2.2.1)) fun s c => d.dxcz (512 * 15 + s) c := by
  have e : (pointA c i M x hc).2.2.2.2.2.2.2.2.2.2.1 = ⟨Rect.unit ![0, 0] ![8, 1024] inb_S8x1024_S8x1024_0_0, k1_pay1 (F := Ideal) ((seenA i M x).dxc (cot1 M (seenA i M x)))⟩ :: [⟨Rect.unit ![0, 0] S8x1024.size inb_S8x1024_S8x1024_0_0, k1_pay18 (F := Ideal)⟩] := by sl_kernel_rfl
  have hP := seenA_of i M hin hi
  have hD := cot1_at M hP
  rw [e]
  refine At2.of_eq (View.read_writes_full v _ inb_S8x1024_S8x1024_0_0 _ _) ?_
  exact Seen.head_at hP hD

end Point

end Cert.Lru

end
-- ==== Proof.Lru.BwdArr.lean ====
/- The backward region's points over the whole array: the cotangent of the projection's columns, and the gradients summed over all times. -/
module

public import proofs.«01_k».proof.Proof.Lru.Bwd
public import Idealize.ShloMosaic.Lib.Pipeline.ValueKit

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.ShloMosaic.Pipeline (Dat Cfg Window BodyObligation cellOf)
open Cert.Common

variable (V : (c : Dev nD) → (b : Ref sig .tc) → Buf (Elt Ideal) ((c : Thread nD τ).loc b)) (c : Dev nD)

/-- The tiles are taken from the last to the first. -/
theorem idx1 : ∀ t : Fin cfg1.N, win1_0.index t = ![15 - t.val, 0] ∧ win1_1.index t = ![0, 0] ∧ win1_2.index t = ![0, 15 - t.val, 0]
    ∧ win1_3.index t = ![0, 64 * (15 - t.val) - 1, 0] ∧ win1_4.index t = ![1, 15 - t.val, 0] ∧ win1_5.index t = ![15 - t.val, 0]
    ∧ win1_6.index t = ![64 * (15 - t.val) - 1, 0] ∧ win1_7.index t = ![0, 0, 0] ∧ win1_8.index t = ![0, 0, 0] ∧ win1_9.index t = ![0, 0]
    ∧ win1_10.index t = ![0, 0] ∧ win1_11.index t = ![0, 0] ∧ win1_12.index t = ![0, 0] ∧ win1_13.index t = ![0, 0]
    ∧ win1_14.index t = ![2, 15 - t.val, 0] ∧ win1_15.index t = ![0, 0, 0] ∧ win1_16.index t = ![0, 0, 0] ∧ win1_17.index t = ![0, 0]
    ∧ win1_18.index t = ![0, 0] ∧ win1_19.index t = ![0, 0] ∧ win1_20.index t = ![0, 0] ∧ win1_21.index t = ![0, 0] :=
  (by decide +kernel : ∀ t : Fin grid1.N, _)

theorem lt1 (t : Fin cfg1.N) : t.val < 16 := Nat.lt_of_lt_of_eq t.isLt N_1
theorem at1_sum : ∀ t : Fin cfg1.N, (grid1.coords t 0).val + (15 - t.val) = 15 := (by decide +kernel : ∀ t : Fin grid1.N, _)

/-- What the backward region finds in its input arrays. -/
structure Found1 (d : Data) : Prop where
  ct : At2 8192 1024 (V c main_v7) d.ct
  wo : At2 2048 1024 (V c main_v8) d.wo
  p : At3 12 8192 512 (V c main_v1) fun k t j => d.p t (512 * k + j)
  h : At2 8192 1024 (V c main_v6_0) fun t c => d.H (t + 1) c
  wa : At3 4 256 256 (V c main_v2) d.wa
  wx : At3 4 256 256 (V c main_v3) d.wx
  ba : At2 1 1024 (V c main_v4) fun _ c => d.ba (c / 256) (c % 256)
  bx : At2 1 1024 (V c main_v5) fun _ c => d.bx (c / 256) (c % 256)
  lam : At2 1 1024 (V c main_arg8) fun _ c => d.lam c
  cw : At2 4 1024 (V c main_arg2) d.cw
  cb : At2 1 1024 (V c main_arg3) fun _ c => d.cb c

theorem blk1_0 (t : Fin cfg1.N) (s : Fin 512) (j : Fin 1024) : iblk1 V c 0 t (ix2 s j) = V c main_v7 (ix2 ⟨512 * (15 - t.val) + s, by have := lt1 t; omega⟩ j) := by
  blk_ext [iblk1, idx1 t]
theorem blk1_1 (t : Fin cfg1.N) (s : Fin 1024) (j : Fin 1024) : iblk1 V c 1 t (ix2 s j) = V c main_v8 (ix2 ⟨s, by omega⟩ j) := by
  blk_ext [iblk1, idx1 t]
theorem blk1_2 (t : Fin cfg1.N) (k : Fin 2) (s : Fin 512) (j : Fin 512) : iblk1 V c 2 t (ix3 k s j) = V c main_v1 (ix3 ⟨k, by omega⟩ ⟨512 * (15 - t.val) + s, by have := lt1 t; omega⟩ j) := by
  blk_ext [iblk1, idx1 t]
theorem blk1_3 (t : Fin cfg1.N) (k : Fin 2) (s : Fin 8) (j : Fin 512) : iblk1 V c 3 t (ix3 k s j) = V c main_v1 (ix3 ⟨k, by omega⟩ ⟨512 * (15 - t.val) - 8 + s, by have := lt1 t; omega⟩ j) := by
  blk_ext [iblk1, idx1 t]
theorem blk1_4 (t : Fin cfg1.N) (k : Fin 2) (s : Fin 512) (j : Fin 512) : iblk1 V c 4 t (ix3 k s j) = V c main_v1 (ix3 ⟨2 + k, by omega⟩ ⟨512 * (15 - t.val) + s, by have := lt1 t; omega⟩ j) := by
  blk_ext [iblk1, idx1 t]
theorem blk1_5 (t : Fin cfg1.N) (s : Fin 512) (j : Fin 1024) : iblk1 V c 5 t (ix2 s j) = V c main_v6_0 (ix2 ⟨512 * (15 - t.val) + s, by have := lt1 t; omega⟩ j) := by
  blk_ext [iblk1, idx1 t]
theorem blk1_6 (t : Fin cfg1.N) (s : Fin 8) (j : Fin 1024) : iblk1 V c 6 t (ix2 s j) = V c main_v6_0 (ix2 ⟨512 * (15 - t.val) - 8 + s, by have := lt1 t; omega⟩ j) := by
  blk_ext [iblk1, idx1 t]
theorem blk1_7 (t : Fin cfg1.N) (k : Fin 4) (s : Fin 256) (j : Fin 256) : iblk1 V c 7 t (ix3 k s j) = V c main_v2 (ix3 k s j) := by
  blk_ext [iblk1, idx1 t]
theorem blk1_8 (t : Fin cfg1.N) (k : Fin 4) (s : Fin 256) (j : Fin 256) : iblk1 V c 8 t (ix3 k s j) = V c main_v3 (ix3 k s j) := by
  blk_ext [iblk1, idx1 t]
theorem blk1_9 (t : Fin cfg1.N) (s : Fin 1) (j : Fin 1024) : iblk1 V c 9 t (ix2 s j) = V c main_v4 (ix2 s j) := by
  blk_ext [iblk1, idx1 t]
theorem blk1_10 (t : Fin cfg1.N) (s : Fin 1) (j : Fin 1024) : iblk1 V c 10 t (ix2 s j) = V c main_v5 (ix2 s j) := by
  blk_ext [iblk1, idx1 t]
theorem blk1_11 (t : Fin cfg1.N) (s : Fin 1) (j : Fin 1024) : iblk1 V c 11 t (ix2 s j) = V c main_arg8 (ix2 s j) := by
  blk_ext [iblk1, idx1 t]
theorem blk1_12 (t : Fin cfg1.N) (s : Fin 4) (j : Fin 1024) : iblk1 V c 12 t (ix2 s j) = V c main_arg2 (ix2 s j) := by
  blk_ext [iblk1, idx1 t]
theorem blk1_13 (t : Fin cfg1.N) (s : Fin 1) (j : Fin 1024) : iblk1 V c 13 t (ix2 s j) = V c main_arg3 (ix2 s j) := by
  blk_ext [iblk1, idx1 t]

/-- The buffers of point `t`. -/
def refs1 (t : Fin cfg1.N) : Refs := ⟨ms1_0 t, hstage1_0 ((cfg1.slots t 0).cast nbuf1_0), ms1_1 t, hstage1_1 ((cfg1.slots t 1).cast nbuf1_1), ms1_2 t, hstage1_2 ((cfg1.slots t 2).cast nbuf1_2), ms1_3 t, hstage1_3 ((cfg1.slots t 3).cast nbuf1_3), ms1_4 t, hstage1_4 ((cfg1.slots t 4).cast nbuf1_4), ms1_5 t, hstage1_5 ((cfg1.slots t 5).cast nbuf1_5), ms1_6 t, hstage1_6 ((cfg1.slots t 6).cast nbuf1_6), ms1_7 t, hstage1_7 ((cfg1.slots t 7).cast nbuf1_7), ms1_8 t, hstage1_8 ((cfg1.slots t 8).cast nbuf1_8), ms1_9 t, hstage1_9 ((cfg1.slots t 9).cast nbuf1_9), ms1_10 t, hstage1_10 ((cfg1.slots t 10).cast nbuf1_10), ms1_11 t, hstage1_11 ((cfg1.slots t 11).cast nbuf1_11), ms1_12 t, hstage1_12 ((cfg1.slots t 12).cast nbuf1_12), ms1_13 t, hstage1_13 ((cfg1.slots t 13).cast nbuf1_13), ms1_14 t, hstage1_14 ((cfg1.slots t 14).cast nbuf1_14), ms1_15 t, hstage1_15 ((cfg1.slots t 15).cast nbuf1_15), ms1_16 t, hstage1_16 ((cfg1.slots t 16).cast nbuf1_16), ms1_17 t, hstage1_17 ((cfg1.slots t 17).cast nbuf1_17), ms1_18 t, hstage1_18 ((cfg1.slots t 18).cast nbuf1_18), ms1_19 t, hstage1_19 ((cfg1.slots t 19).cast nbuf1_19), ms1_20 t, hstage1_20 ((cfg1.slots t 20).cast nbuf1_20), ms1_21 t, hstage1_21 ((cfg1.slots t 21).cast nbuf1_21), sc1_0, Memref.isWhole_whole _, sc1_1, Memref.isWhole_whole _, sc1_2, Memref.isWhole_whole _, sc1_3, Memref.isWhole_whole _, sc1_4, Memref.isWhole_whole _, sc1_5, Memref.isWhole_whole _⟩
/-- The blocks it loads. -/
def ins1 (t : Fin cfg1.N) : Ins := ⟨iblk1 V c 0 t, iblk1 V c 1 t, iblk1 V c 2 t, iblk1 V c 3 t, iblk1 V c 4 t, iblk1 V c 5 t, iblk1 V c 6 t, iblk1 V c 7 t, iblk1 V c 8 t, iblk1 V c 9 t, iblk1 V c 10 t, iblk1 V c 11 t, iblk1 V c 12 t, iblk1 V c 13 t⟩
/-- What the point before left. -/
def Left1.olds (p : Left1 Ideal) : Olds := ⟨p.dwa, p.dwx, p.dba, p.dbx, p.dsp, p.dcw, p.dcb, p.dhc, p.afirst, p.dxc⟩

theorem olds_dwa (p : Left1 Ideal) : p.dwa = p.olds.y16 := rfl
theorem olds_dwx (p : Left1 Ideal) : p.dwx = p.olds.y17 := rfl
theorem olds_dba (p : Left1 Ideal) : p.dba = p.olds.y18 := rfl
theorem olds_dbx (p : Left1 Ideal) : p.dbx = p.olds.y19 := rfl
theorem olds_dsp (p : Left1 Ideal) : p.dsp = p.olds.y20 := rfl
theorem olds_dcw (p : Left1 Ideal) : p.dcw = p.olds.y21 := rfl
theorem olds_dcb (p : Left1 Ideal) : p.dcb = p.olds.y22 := rfl

/-- What the points down to tile `m` leave. -/
structure Left1.Of (l : Left1 Ideal) (d : Data) (m : ℕ) : Prop where
  dp : At3 2 512 1024 l.dp fun k t c => if k = 0 then d.dlx (512 * m + t) c else d.dlg (512 * m + t) c
  held : Held d (512 * m) l.olds

variable {V c} {d : Data}

theorem in1_of (hV : Found1 V c d) (t : Fin cfg1.N) : In1 d (15 - t.val) (ins1 V c t) where
  ct s j := (blk1_0 V c t s j).trans (hV.ct _ _)
  wo s j := (blk1_1 V c t s j).trans (hV.wo _ _)
  lx k s j := (blk1_2 V c t k s j).trans (hV.p _ _ _)
  halo k s j := (blk1_3 V c t k s j).trans (hV.p _ _ _)
  lg k s j := (blk1_4 V c t k s j).trans ((hV.p _ _ _).trans (by
    show ((d.p _ (512 * (2 + k.val) + j.val) : ℝ) : EReal) = ((d.p _ (1024 + (512 * k.val + j.val)) : ℝ) : EReal)
    rw [show 512 * (2 + k.val) + j.val = 1024 + (512 * k.val + j.val) by omega]))
  h s j := (blk1_5 V c t s j).trans (hV.h _ _)
  hh s j := (blk1_6 V c t s j).trans (hV.h _ _)
  wa k s j := (blk1_7 V c t k s j).trans (hV.wa _ _ _)
  wx k s j := (blk1_8 V c t k s j).trans (hV.wx _ _ _)
  ba k j := (blk1_9 V c t k j).trans (hV.ba _ _)
  bx k j := (blk1_10 V c t k j).trans (hV.bx _ _)
  lam k j := (blk1_11 V c t k j).trans (hV.lam _ _)
  cw k j := (blk1_12 V c t k j).trans (hV.cw _ _)
  cb k j := (blk1_13 V c t k j).trans (hV.cb _ _)

theorem first1_of (t : Fin cfg1.N) (h : cond1 (grid1.coords t)) (hin : In1 d 15 (ins1 V c t)) (hi : (grid1.coords t 0).val = 0) : (leftA1 V c t h).Of d 15 :=
  ⟨by
    refine (congrArg (At3 2 512 1024 · _) ?_).mpr (pointA_dp c (grid1.coords t) (refs1 t) hin hi h view1_dp)
    sl_kernel_rfl,
   ⟨by
    refine (congrArg (At3 4 256 256 · _) ?_).mpr (pointA_dwa c (grid1.coords t) (refs1 t) hin hi h view1_dwa)
    sl_kernel_rfl,
    by
    refine (congrArg (At3 4 256 256 · _) ?_).mpr (pointA_dwx c (grid1.coords t) (refs1 t) hin hi h view1_dwx)
    sl_kernel_rfl,
    by
    refine (congrArg (At2 1 1024 · _) ?_).mpr (pointA_dba c (grid1.coords t) (refs1 t) hin hi h view1_dba)
    sl_kernel_rfl,
    by
    refine (congrArg (At2 1 1024 · _) ?_).mpr (pointA_dbx c (grid1.coords t) (refs1 t) hin hi h view1_dbx)
    sl_kernel_rfl,
    by
    refine (congrArg (At2 1 1024 · _) ?_).mpr (pointA_dsp c (grid1.coords t) (refs1 t) hin hi h view1_dsp)
    sl_kernel_rfl,
    by
    refine (congrArg (At2 4 1024 · _) ?_).mpr (pointA_dcw c (grid1.coords t) (refs1 t) hin hi h view1_dcw)
    sl_kernel_rfl,
    by
    refine (congrArg (At2 1 1024 · _) ?_).mpr (pointA_dcb c (grid1.coords t) (refs1 t) hin hi h view1_dcb)
    sl_kernel_rfl,
    by
    refine (congrArg (At2 8 1024 · _) ?_).mpr (pointA_dh c (grid1.coords t) (refs1 t) hin hi h view1_dhc)
    sl_kernel_rfl,
    by
    refine (congrArg (At2 8 1024 · _) ?_).mpr (pointA_af c (grid1.coords t) (refs1 t) hin hi h view1_afirst)
    sl_kernel_rfl,
    by
    refine (congrArg (At2 8 1024 · _) ?_).mpr (pointA_nx c (grid1.coords t) (refs1 t) hin hi h view1_dxc)
    sl_kernel_rfl⟩⟩

theorem later1_of (t : Fin cfg1.N) (h : ¬cond1 (grid1.coords t)) (p : Left1 Ideal) {m : ℕ} (hy : Held d (512 * (m + 1)) p.olds) (hin : In1 d m (ins1 V c t))
    (hi : (grid1.coords t 0).val + m = 15) : (leftB1 V c t h p).Of d m :=
  ⟨by
    refine (congrArg (At3 2 512 1024 · _) ?_).mpr (pointB_dp c (grid1.coords t) (refs1 t) hin hi h hy view1_dp)
    sl_kernel_rfl,
   ⟨by
    refine (congrArg (At3 4 256 256 · _) ?_).mpr (pointB_dwa c (grid1.coords t) (refs1 t) hin hi h hy view1_dwa)
    sl_kernel_rfl,
    by
    refine (congrArg (At3 4 256 256 · _) ?_).mpr (pointB_dwx c (grid1.coords t) (refs1 t) hin hi h hy view1_dwx)
    sl_kernel_rfl,
    by
    refine (congrArg (At2 1 1024 · _) ?_).mpr (pointB_dba c (grid1.coords t) (refs1 t) hin hi h hy view1_dba)
    sl_kernel_rfl,
    by
    refine (congrArg (At2 1 1024 · _) ?_).mpr (pointB_dbx c (grid1.coords t) (refs1 t) hin hi h hy view1_dbx)
    sl_kernel_rfl,
    by
    refine (congrArg (At2 1 1024 · _) ?_).mpr (pointB_dsp c (grid1.coords t) (refs1 t) hin hi h hy view1_dsp)
    sl_kernel_rfl,
    by
    refine (congrArg (At2 4 1024 · _) ?_).mpr (pointB_dcw c (grid1.coords t) (refs1 t) hin hi h hy view1_dcw)
    sl_kernel_rfl,
    by
    refine (congrArg (At2 1 1024 · _) ?_).mpr (pointB_dcb c (grid1.coords t) (refs1 t) hin hi h hy view1_dcb)
    sl_kernel_rfl,
    by
    refine (congrArg (At2 8 1024 · _) ?_).mpr (pointB_dh c (grid1.coords t) (refs1 t) hin hi h hy view1_dhc)
    sl_kernel_rfl,
    by
    refine (congrArg (At2 8 1024 · _) ?_).mpr (pointB_af c (grid1.coords t) (refs1 t) hin hi h hy view1_afirst)
    sl_kernel_rfl,
    by
    refine (congrArg (At2 8 1024 · _) ?_).mpr (pointB_nx c (grid1.coords t) (refs1 t) hin hi h hy view1_dxc)
    sl_kernel_rfl⟩⟩

theorem left1_of (hV : Found1 V c d) (n : ℕ) (hn : n < cfg1.N) : (left1 V c n hn).Of d (15 - n) := by
  induction n with
  | zero =>
    have hin := in1_of hV ⟨0, hn⟩
    have hi := at1_sum ⟨0, hn⟩
    exact first1_of ⟨0, hn⟩ _ hin (Nat.add_right_cancel (m := 15) (hi.trans (Nat.zero_add 15).symm))
  | succ n ih =>
    have hl := lt1 ⟨n + 1, hn⟩
    dsimp only at hl
    have hp := (ih (Nat.lt_of_succ_lt hn)).held
    rw [show 15 - n = 15 - (n + 1) + 1 by omega] at hp
    exact later1_of ⟨n + 1, hn⟩ _ _ hp (in1_of hV ⟨n + 1, hn⟩) (at1_sum ⟨n + 1, hn⟩)

def last1 : Fin cfg1.N := ⟨15, by decide⟩

section Arrays
variable (hV : Found1 V c d)
include hV

/-- The last point leaves the sums over all times. -/
theorem held_all : Held d (512 * 0) (left1 V c last1.val last1.isLt).olds :=
  (congrArg (fun k => Held d (512 * k) (left1 V c last1.val last1.isLt).olds) (show 15 - last1.val = 0 from rfl)).mp (left1_of hV last1.val last1.isLt).held

/-- The cotangent of the branch's columns of the projection: slabs 4 and 5 of its array. -/
theorem cols1 (k : Fin 2) (t : Fin 8192) (j : Fin 1024) :
    (dat1 V c).arrAt 14 cfg1.N (ix3 ⟨4 + k, by omega⟩ t j) = (((if k.val = 0 then d.dlx t j else d.dlg t j : ℝ)) : EReal) := by
  have e := (dat1 V c).arrAt_eq_of_coversWhere 14 (fun j => (((if (j 0).val = 4 then d.dlx (j 1).val (j 2).val else d.dlg (j 1).val (j 2).val : ℝ)) : EReal))
    (P := fun i => (i 0 : ℕ) / 2 = 2) (fun β => β (0 : Fin _) = 2) (by decide +kernel)
    (fun t _ y => by
      blk_simp
      rw [after1_14]
      refine (At3.eq (left1_of hV t.val t.isLt).dp y).trans ?_
      have h0 : (y 0).val < 2 := (y 0).isLt
      have e0 : (2 * 2 + (y 0).val = 4) = ((y 0).val = 0) := by rw [eq_iff_iff]; omega
      simp [idx1 t, Nat.mul_comm, e0])
    (fun j => Iff.rfl)
  refine (congrFun e _).trans ((if_pos (show (4 + k.val) / 2 = 2 by omega)).trans ?_)
  have e0 : (4 + k.val = 4) = (k.val = 0) := by rw [eq_iff_iff]; omega
  simp only [ix3, ← e0]
  rfl

theorem dwa1 : At3 4 256 256 ((dat1 V c).arrAt 15 cfg1.N) (fun n a b => d.dwa n a b) := by
  have e : (dat1 V c).arrAt 15 cfg1.N = (left1 V c last1.val last1.isLt).dwa := by
    refine (dat1 V c).arrAt_eq_of_after_last 15 last1 (by decide +kernel) _ fun j => ?_
    blk_simp
    rw [after1_15]
  exact At3.of_eq (e.trans (olds_dwa _)) (At3.congr (held_all hV).dwa fun _ _ _ => tail_all _)

theorem dwx1 : At3 4 256 256 ((dat1 V c).arrAt 16 cfg1.N) (fun n a b => d.dwx n a b) := by
  have e : (dat1 V c).arrAt 16 cfg1.N = (left1 V c last1.val last1.isLt).dwx := by
    refine (dat1 V c).arrAt_eq_of_after_last 16 last1 (by decide +kernel) _ fun j => ?_
    blk_simp
    rw [after1_16]
  exact At3.of_eq (e.trans (olds_dwx _)) (At3.congr (held_all hV).dwx fun _ _ _ => tail_all _)

theorem dba1 : At2 1 1024 ((dat1 V c).arrAt 17 cfg1.N) (fun _ c => d.dba c) := by
  have e : (dat1 V c).arrAt 17 cfg1.N = (left1 V c last1.val last1.isLt).dba := by
    refine (dat1 V c).arrAt_eq_of_after_last 17 last1 (by decide +kernel) _ fun j => ?_
    blk_simp
    rw [after1_17]
  exact At2.of_eq (e.trans (olds_dba _)) (At2.congr (held_all hV).dba fun _ _ => tail_all _)

theorem dbx1 : At2 1 1024 ((dat1 V c).arrAt 18 cfg1.N) (fun _ c => d.dbx c) := by
  have e : (dat1 V c).arrAt 18 cfg1.N = (left1 V c last1.val last1.isLt).dbx := by
    refine (dat1 V c).arrAt_eq_of_after_last 18 last1 (by decide +kernel) _ fun j => ?_
    blk_simp
    rw [after1_18]
  exact At2.of_eq (e.trans (olds_dbx _)) (At2.congr (held_all hV).dbx fun _ _ => tail_all _)

theorem dsp1 : At2 1 1024 ((dat1 V c).arrAt 19 cfg1.N) (fun _ c => d.dsp c) := by
  have e : (dat1 V c).arrAt 19 cfg1.N = (left1 V c last1.val last1.isLt).dsp := by
    refine (dat1 V c).arrAt_eq_of_after_last 19 last1 (by decide +kernel) _ fun j => ?_
    blk_simp
    rw [after1_19]
  exact At2.of_eq (e.trans (olds_dsp _)) (At2.congr (held_all hV).dsp fun _ _ => tail_all _)

theorem dcw1 : At2 4 1024 ((dat1 V c).arrAt 20 cfg1.N) (fun n c => d.dcw n c) := by
  have e : (dat1 V c).arrAt 20 cfg1.N = (left1 V c last1.val last1.isLt).dcw := by
    refine (dat1 V c).arrAt_eq_of_after_last 20 last1 (by decide +kernel) _ fun j => ?_
    blk_simp
    rw [after1_20]
  exact At2.of_eq (e.trans (olds_dcw _)) (At2.congr (held_all hV).dcw fun _ _ => tail_all _)

theorem dcb1 : At2 1 1024 ((dat1 V c).arrAt 21 cfg1.N) (fun _ c => d.dcb c) := by
  have e : (dat1 V c).arrAt 21 cfg1.N = (left1 V c last1.val last1.isLt).dcb := by
    refine (dat1 V c).arrAt_eq_of_after_last 21 last1 (by decide +kernel) _ fun j => ?_
    blk_simp
    rw [after1_21]
  exact At2.of_eq (e.trans (olds_dcb _)) (At2.congr (held_all hV).dcb fun _ _ => tail_all _)

end Arrays

end Cert.Lru

end
-- ==== Proof.Lru.HostVal.lean ====
/- The kernel's host operations at real numbers, and with them its nine results. -/
module

public import proofs.«01_k».proof.Proof.Lru.Frame
public import proofs.«01_k».proof.Proof.Lru.FwdArr
public import proofs.«01_k».proof.Proof.Lru.BwdArr
public import Idealize.ShloMosaic.Lib.StableHlo.ReadAt
public import Idealize.ShloMosaic.Lib.Pointwise

@[expose] public section

set_option maxRecDepth 16384

noncomputable section

namespace Cert.Lru

open Cert.LruKernelIdeal Cert.LruKernelIdeal.Gen
open Idealize.ShloMosaic Idealize.ShloMosaic.TcCoe Idealize.ShloMosaic.Tactic
open Idealize.ShloMosaic.StableHlo Cert.Common

/-- The arguments, at the real numbers of `d`. -/
structure Given (V : Valuation τ sig (Elt Ideal)) (d : Data) : Prop where
  p : At2 8192 6144 (V (Proc.devRef .tc main_arg0)) d.p
  wo : At2 2048 1024 (V (Proc.devRef .tc main_arg1)) d.wo
  cw : At2 4 1024 (V (Proc.devRef .tc main_arg2)) d.cw
  cb : At2 1 1024 (V (Proc.devRef .tc main_arg3)) fun _ c => d.cb c
  wa : At3 4 256 256 (V (Proc.devRef .tc main_arg4)) d.wa
  ba : At2 4 256 (V (Proc.devRef .tc main_arg5)) d.ba
  wx : At3 4 256 256 (V (Proc.devRef .tc main_arg6)) d.wx
  bx : At2 4 256 (V (Proc.devRef .tc main_arg7)) d.bx
  lam : At2 1 1024 (V (Proc.devRef .tc main_arg8)) fun _ c => d.lam c
  ct : At2 8192 1024 (V (Proc.devRef .tc main_arg9)) d.ct

section Ops
variable (V : Valuation τ sig (Elt Ideal)) (d : Data)

/-- The projection's columns in slabs of 512. -/
theorem slabs (h : At2 8192 6144 (V (Proc.devRef .tc main_arg0)) d.p) :
    At3 12 8192 512 (after (hostOps0 (F := Ideal)) V (Proc.devRef .tc main_v1)) fun k t j => d.p t (512 * k + j) := by
  intro k t j
  after_reads_at
  simp only [h]
  rw [Nat.mul_comm]
theorem host_wa (h : At3 4 256 256 (V (Proc.devRef .tc main_arg4)) d.wa) : At3 4 256 256 (after (hostOps0 (F := Ideal)) V (Proc.devRef .tc main_v2)) d.wa := by
  intro k t j
  after_reads_at
  simp only [h]
theorem host_wx (h : At3 4 256 256 (V (Proc.devRef .tc main_arg6)) d.wx) : At3 4 256 256 (after (hostOps0 (F := Ideal)) V (Proc.devRef .tc main_v3)) d.wx := by
  intro k t j
  after_reads_at
  simp only [h]
theorem host_ba (h : At2 4 256 (V (Proc.devRef .tc main_arg5)) d.ba) :
    At2 1 1024 (after (hostOps0 (F := Ideal)) V (Proc.devRef .tc main_v4)) fun _ c => d.ba (c / 256) (c % 256) := by
  intro k j
  after_reads_at
  simp only [h]
theorem host_bx (h : At2 4 256 (V (Proc.devRef .tc main_arg7)) d.bx) :
    At2 1 1024 (after (hostOps0 (F := Ideal)) V (Proc.devRef .tc main_v5)) fun _ c => d.bx (c / 256) (c % 256) := by
  intro k j
  after_reads_at
  simp only [h]
theorem host_ct (h : At2 8192 1024 (V (Proc.devRef .tc main_arg9)) d.ct) : At2 8192 1024 (after (hostOps1 (F := Ideal)) V (Proc.devRef .tc main_v7)) d.ct := by
  intro k j
  after_reads_at
  simp only [h]
theorem host_wo (h : At2 2048 1024 (V (Proc.devRef .tc main_arg1)) d.wo) : At2 2048 1024 (after (hostOps1 (F := Ideal)) V (Proc.devRef .tc main_v8)) d.wo := by
  intro k j
  after_reads_at
  simp only [h]
/-- The gated output is the first half of its array, -/
theorem host_y {f : ℕ → ℕ → ℝ} (h : ∀ (t : Fin 8192) (j : Fin 1024), (V (Proc.devRef .tc main_v6_1) : Shape.Idx S2x8192x1024 → EReal) (ix3 0 t j) = ((f t j : ℝ) : EReal)) :
    At2 8192 1024 (after (hostOps2 (F := Ideal)) V (Proc.devRef .tc main_v11)) f := by
  intro t j
  after_reads_at
  exact h t j
/-- and the columns' cotangent the last two slabs of its array. -/
theorem host_dp {f : ℕ → ℕ → ℕ → ℝ} (h : ∀ (k : Fin 2) (t : Fin 8192) (j : Fin 1024),
    (V (Proc.devRef .tc main_v9_0) : Shape.Idx S6x8192x1024 → EReal) (ix3 ⟨4 + k, by omega⟩ t j) = ((f k t j : ℝ) : EReal)) :
    At3 2 8192 1024 (after (hostOps2 (F := Ideal)) V (Proc.devRef .tc main_v12)) f := by
  intro k t j
  after_reads_at
  exact h k t j
end Ops

variable (m : (ℓ : Loc nD τ sig) → Buf (Elt Ideal) ℓ) (ρ : Dev nD → PrngReg) (c : Dev nD) {d : Data} (h : Given (B0 m ρ c) d)
include h

theorem found0 : Found0 (at1 m ρ) c d where
  p := slabs _ _ h.p
  wa := host_wa _ _ h.wa
  wx := host_wx _ _ h.wx
  ba := host_ba _ _ h.ba
  bx := host_bx _ _ h.bx
  lam := At2.of_eq (B1_of m ρ c main_arg8 (by decide +kernel)) h.lam
  cw := At2.of_eq (B1_of m ρ c main_arg2 (by decide +kernel)) h.cw
  cb := At2.of_eq (B1_of m ρ c main_arg3 (by decide +kernel)) h.cb

omit h in
/-- What neither the forward region nor the operations after it write. -/
theorem B3_keep (r : Ref sig .tc) (h1 : r ∉ hostOps1_W) (h2 : ∀ w : Fin cfg0.W, Pipeline.arrRef spec0 w = r → (cfg0.win w).isOut = false) :
    B3 m ρ c (Proc.devRef .tc r) = B1 m ρ c (Proc.devRef .tc r) := (B3_of m ρ c r h1).trans (B2_of m ρ c r h2)
omit h in
theorem B2_keep (r : Ref sig .tc) (h1 : r ∉ hostOps0_W) (h2 : ∀ w : Fin cfg0.W, Pipeline.arrRef spec0 w = r → (cfg0.win w).isOut = false) :
    B2 m ρ c (Proc.devRef .tc r) = B0 m ρ c (Proc.devRef .tc r) := (B2_of m ρ c r h2).trans (B1_of m ρ c r h1)

theorem found1 : Found1 (at3 m ρ) c d where
  ct := host_ct _ _ (At2.of_eq (B2_keep m ρ c main_arg9 (by decide +kernel) (by decide +kernel)) h.ct)
  wo := host_wo _ _ (At2.of_eq (B2_keep m ρ c main_arg1 (by decide +kernel) (by decide +kernel)) h.wo)
  p := At3.of_eq (B3_keep m ρ c main_v1 (by decide +kernel) (by decide +kernel)) (found0 m ρ c h).p
  h := At2.of_eq ((B3_of m ρ c main_v6_0 (by decide +kernel)).trans (B2_arr m ρ c 10)) (states0 (found0 m ρ c h))
  wa := At3.of_eq (B3_keep m ρ c main_v2 (by decide +kernel) (by decide +kernel)) (found0 m ρ c h).wa
  wx := At3.of_eq (B3_keep m ρ c main_v3 (by decide +kernel) (by decide +kernel)) (found0 m ρ c h).wx
  ba := At2.of_eq (B3_keep m ρ c main_v4 (by decide +kernel) (by decide +kernel)) (found0 m ρ c h).ba
  bx := At2.of_eq (B3_keep m ρ c main_v5 (by decide +kernel) (by decide +kernel)) (found0 m ρ c h).bx
  lam := At2.of_eq (B3_keep m ρ c main_arg8 (by decide +kernel) (by decide +kernel)) (found0 m ρ c h).lam
  cw := At2.of_eq (B3_keep m ρ c main_arg2 (by decide +kernel) (by decide +kernel)) (found0 m ρ c h).cw
  cb := At2.of_eq (B3_keep m ρ c main_arg3 (by decide +kernel) (by decide +kernel)) (found0 m ρ c h).cb

omit h in
/-- An output of the backward region, at the end. -/
theorem B5_out (w : Fin cfg1.W) (hw : Pipeline.arrRef spec1 w ∉ hostOps2_W) :
    B5 m ρ c (Proc.devRef .tc (Pipeline.arrRef spec1 w)) = (dat1 (at3 m ρ) c).arrAt w cfg1.N := (B5_of m ρ c _ hw).trans (B4_arr m ρ c w)

/-! The nine results. -/

theorem end_y : At2 8192 1024 (B5 m ρ c (Proc.devRef .tc main_v11)) d.y :=
  host_y _ fun t j => (congrFun ((B4_of m ρ c main_v6_1 (by decide +kernel)).trans ((B3_of m ρ c main_v6_1 (by decide +kernel)).trans (B2_arr m ρ c 11))) _).trans
    (gated0 (found0 m ρ c h) t j)
theorem end_dp : At3 2 8192 1024 (B5 m ρ c (Proc.devRef .tc main_v12)) fun k t c => if k = 0 then d.dlx t c else d.dlg t c :=
  host_dp _ fun k t j => (congrFun (B4_arr m ρ c 14) _).trans (cols1 (found1 m ρ c h) k t j)
theorem end_dwa : At3 4 256 256 (B5 m ρ c (Proc.devRef .tc main_v9_1)) d.dwa := At3.of_eq (B5_out m ρ c 15 (by decide +kernel)) (dwa1 (found1 m ρ c h))
theorem end_dwx : At3 4 256 256 (B5 m ρ c (Proc.devRef .tc main_v9_2)) d.dwx := At3.of_eq (B5_out m ρ c 16 (by decide +kernel)) (dwx1 (found1 m ρ c h))
theorem end_dba : At2 1 1024 (B5 m ρ c (Proc.devRef .tc main_v9_3)) fun _ c => d.dba c := At2.of_eq (B5_out m ρ c 17 (by decide +kernel)) (dba1 (found1 m ρ c h))
theorem end_dbx : At2 1 1024 (B5 m ρ c (Proc.devRef .tc main_v9_4)) fun _ c => d.dbx c := At2.of_eq (B5_out m ρ c 18 (by decide +kernel)) (dbx1 (found1 m ρ c h))
theorem end_dsp : At2 1 1024 (B5 m ρ c (Proc.devRef .tc main_v9_5)) fun _ c => d.dsp c := At2.of_eq (B5_out m ρ c 19 (by decide +kernel)) (dsp1 (found1 m ρ c h))
theorem end_dcw : At2 4 1024 (B5 m ρ c (Proc.devRef .tc main_v9_6)) d.dcw := At2.of_eq (B5_out m ρ c 20 (by decide +kernel)) (dcw1 (found1 m ρ c h))
theorem end_dcb : At2 1 1024 (B5 m ρ c (Proc.devRef .tc main_v9_7)) fun _ c => d.dcb c := At2.of_eq (B5_out m ρ c 21 (by decide +kernel)) (dcb1 (found1 m ρ c h))

end Cert.Lru

end
-- ==== Proof.Lru.RefOps.lean ====
/- The reference program's operations in order: the stretches between its two loops, the loops' conditions and bodies, what
   each stretch writes, and the program as the chain of them. -/
module

public import proofs.«01_k».proof.Proof.Gen.LruReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

namespace Cert.Lru.Ref

open Cert.LruReferenceIdeal Cert.LruReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.StableHlo

variable {F : FTy → Type} [FloatOps F]

abbrev Ops (F : FTy → Type) [FloatOps F] := List (HloOp τ sig (Elt F))
abbrev Code (F : FTy → Type) [FloatOps F] := Prog (TpuEff nD τ sig (Elt F) (HostLoop.Sig (Pipeline.Sig Λ₀ (Fin 0) fun p => (pcfgs (F := F) p).Adm) 2) .tc) PUnit

/-- Three rows above the array. -/
def padRows (a : (⟨S3x1024, .f32⟩ : BufTy).Contents (Elt F)) (b : (⟨S8192x1024, .f32⟩ : BufTy).Contents (Elt F)) :
    (⟨S8195x1024, .f32⟩ : BufTy).Contents (Elt F) :=
  concatenate S8195x1024 0 [⟨S3x1024, a⟩, ⟨S8192x1024, b⟩] concatenates_S3x1024_S8192x1024_S8195x1024_d0

/-- Softplus of the negated decay parameter. -/
abbrev s0 : Ops F :=
  [ StableHlo.unary main_arg8 main_v0 (Host.negf : (⟨S1x1024, .f32⟩ : BufTy).Contents (Elt F) → (⟨S1x1024, .f32⟩ : BufTy).Contents (Elt F)),
    StableHlo.nullary main_call0_cst (constant S_ .f32 0x00000000#32),
    StableHlo.unary main_call0_cst main_call0_v0 (broadcastInDim S1x1024 ![] bcast_S_S1x1024),
    StableHlo.binary main_v0 main_call0_v0 main_call0_v1 maximumf,
    StableHlo.unary main_call0_cst main_call0_v2 (broadcastInDim S1x1024 ![] bcast_S_S1x1024),
    StableHlo.binary main_v0 main_call0_v2 main_call0_v3 subf,
    StableHlo.binary main_call0_v3 main_call0_v3 main_call0_v4 (cmpf .une),
    StableHlo.unary main_call0_cst main_call0_v5 (broadcastInDim S1x1024 ![] bcast_S_S1x1024),
    StableHlo.binary main_v0 main_call0_v5 main_call0_v6 addf,
    StableHlo.unary main_call0_v3 main_call0_v7 Host.absf,
    StableHlo.unary main_call0_v7 main_call0_v8 Host.negf,
    StableHlo.unary main_call0_v8 main_call0_v9 Host.exp,
    StableHlo.unary main_call0_v9 main_call0_v10 Host.log1p,
    StableHlo.binary main_call0_v1 main_call0_v10 main_call0_v11 addf,
    StableHlo.ternary main_call0_v4 main_call0_v6 main_call0_v11 main_v1 select ]
theorem s0_sub : (s0 : Ops F).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩
theorem s0_fresh : (s0 : Ops F).Forall fun op => op.fresh = ∅ := StableHlo.forall_fresh_of_map rfl
abbrev s0_W : List (Ref sig .tc) := [main_v0, main_call0_cst, main_call0_v0, main_call0_v1, main_call0_v2, main_call0_v3, main_call0_v4, main_call0_v5, main_call0_v6, main_call0_v7, main_call0_v8, main_call0_v9, main_call0_v10, main_call0_v11, main_v1]
theorem s0_writes : (s0 : Ops F).Forall fun op => op.writes ⊆ (s0_W.map (Proc.devRef (τ := τ) .tc)).toFinset :=
  StableHlo.forall_writes_sub_of_map rfl

/-- The three column slices of the projection, the scan input padded by three rows of zeros. -/
abbrev s1 : Ops F :=
  [ StableHlo.unary main_arg0 main_v2 ((extractStridedSlice S8192x1024 ![0, 0] · slices_S8192x6144_S8192x1024_0_0) : (⟨S8192x6144, .f32⟩ : BufTy).Contents (Elt F) → (⟨S8192x1024, .f32⟩ : BufTy).Contents (Elt F)),
    StableHlo.unary main_arg0 main_v3 ((extractStridedSlice S8192x1024 ![0, 1024] · slices_S8192x6144_S8192x1024_0_1024) : (⟨S8192x6144, .f32⟩ : BufTy).Contents (Elt F) → (⟨S8192x1024, .f32⟩ : BufTy).Contents (Elt F)),
    StableHlo.unary main_arg0 main_v4 ((extractStridedSlice S8192x4096 ![0, 2048] · slices_S8192x6144_S8192x4096_0_2048) : (⟨S8192x6144, .f32⟩ : BufTy).Contents (Elt F) → (⟨S8192x4096, .f32⟩ : BufTy).Contents (Elt F)),
    StableHlo.nullary main_cst (constant S_ .f32 0x00000000#32),
    StableHlo.unary main_cst main_v5 (broadcastInDim S3x1024 ![] bcast_S_S3x1024 : (⟨S_, .f32⟩ : BufTy).Contents (Elt F) → (⟨S3x1024, .f32⟩ : BufTy).Contents (Elt F)),
    StableHlo.binary main_v5 main_v2 main_v6 padRows,
    StableHlo.nullary main_cst_0 (constant S_ .f32 0x00000000#32),
    StableHlo.unary main_cst_0 main_v7 (broadcastInDim S3x1024 ![] bcast_S_S3x1024 : (⟨S_, .f32⟩ : BufTy).Contents (Elt F) → (⟨S3x1024, .f32⟩ : BufTy).Contents (Elt F)) ]
theorem s1_sub : (s1 : Ops F).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub ..⟩
theorem s1_fresh : (s1 : Ops F).Forall fun op => op.fresh = ∅ := StableHlo.forall_fresh_of_map rfl
abbrev s1_W : List (Ref sig .tc) := [main_v2, main_v3, main_v4, main_cst, main_v5, main_v6, main_cst_0, main_v7]
theorem s1_writes : (s1 : Ops F).Forall fun op => op.writes ⊆ (s1_W.map (Proc.devRef (τ := τ) .tc)).toFinset :=
  StableHlo.forall_writes_sub_of_map rfl

/-- The convolution. -/
abbrev s2 : Ops F :=
  [ StableHlo.unary main_arg2 main_v8 ((extractStridedSlice S1x1024 ![0, 0] · slices_S4x1024_S1x1024_0_0) : (⟨S4x1024, .f32⟩ : BufTy).Contents (Elt F) → (⟨S1x1024, .f32⟩ : BufTy).Contents (Elt F)),
    StableHlo.reshape main_v8 main_v9 (rfl : (.f32 : EltTy) = .f32) shapeCasts_S1x1024_S1024,
    StableHlo.unary main_v6 main_v10 ((extractStridedSlice S8192x1024 ![0, 0] · slices_S8195x1024_S8192x1024_0_0) : (⟨S8195x1024, .f32⟩ : BufTy).Contents (Elt F) → (⟨S8192x1024, .f32⟩ : BufTy).Contents (Elt F)),
    StableHlo.unary main_v9 main_v11 (broadcastInDim S1x1024 ![1] bcast_S1024_S1x1024_1 : (⟨S1024, .f32⟩ : BufTy).Contents (Elt F) → (⟨S1x1024, .f32⟩ : BufTy).Contents (Elt F)),
    StableHlo.unary main_v11 main_v12 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v12 main_v10 main_v13 (mulf : (⟨S8192x1024, .f32⟩ : BufTy).Contents (Elt F) → (⟨S8192x1024, .f32⟩ : BufTy).Contents (Elt F) → (⟨S8192x1024, .f32⟩ : BufTy).Contents (Elt F)),
    StableHlo.unary main_arg3 main_v14 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v14 main_v13 main_v15 (addf : (⟨S8192x1024, .f32⟩ : BufTy).Contents (Elt F) → (⟨S8192x1024, .f32⟩ : BufTy).Contents (Elt F) → (⟨S8192x1024, .f32⟩ : BufTy).Contents (Elt F)),
    StableHlo.unary main_arg2 main_v16 ((extractStridedSlice S1x1024 ![1, 0] · slices_S4x1024_S1x1024_1_0) : (⟨S4x1024, .f32⟩ : BufTy).Contents (Elt F) → (⟨S1x1024, .f32⟩ : BufTy).Contents (Elt F)),
    StableHlo.reshape main_v16 main_v17 (rfl : (.f32 : EltTy) = .f32) shapeCasts_S1x1024_S1024,
    StableHlo.unary main_v6 main_v18 ((extractStridedSlice S8192x1024 ![1, 0] · slices_S8195x1024_S8192x1024_1_0) : (⟨S8195x1024, .f32⟩ : BufTy).Contents (Elt F) → (⟨S8192x1024, .f32⟩ : BufTy).Contents (Elt F)),
    StableHlo.unary main_v17 main_v19 (broadcastInDim S1x1024 ![1] bcast_S1024_S1x1024_1 : (⟨S1024, .f32⟩ : BufTy).Contents (Elt F) → (⟨S1x1024, .f32⟩ : BufTy).Contents (Elt F)),
    StableHlo.unary main_v19 main_v20 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v20 main_v18 main_v21 (mulf : (⟨S8192x1024, .f32⟩ : BufTy).Contents (Elt F) → (⟨S8192x1024, .f32⟩ : BufTy).Contents (Elt F) → (⟨S8192x1024, .f32⟩ : BufTy).Contents (Elt F)),
    StableHlo.binary main_v15 main_v21 main_v22 (addf : (⟨S8192x1024, .f32⟩ : BufTy).Contents (Elt F) → (⟨S8192x1024, .f32⟩ : BufTy).Contents (Elt F) → (⟨S8192x1024, .f32⟩ : BufTy).Contents (Elt F)),
    StableHlo.unary main_arg2 main_v23 ((extractStridedSlice S1x1024 ![2, 0] · slices_S4x1024_S1x1024_2_0) : (⟨S4x1024, .f32⟩ : BufTy).Contents (Elt F) → (⟨S1x1024, .f32⟩ : BufTy).Contents (Elt F)),
    StableHlo.reshape main_v23 main_v24 (rfl : (.f32 : EltTy) = .f32) shapeCasts_S1x1024_S1024,
    StableHlo.unary main_v6 main_v25 ((extractStridedSlice S8192x1024 ![2, 0] · slices_S8195x1024_S8192x1024_2_0) : (⟨S8195x1024, .f32⟩ : BufTy).Contents (Elt F) → (⟨S8192x1024, .f32⟩ : BufTy).Contents (Elt F)),
    StableHlo.unary main_v24 main_v26 (broadcastInDim S1x1024 ![1] bcast_S1024_S1x1024_1 : (⟨S1024, .f32⟩ : BufTy).Contents (Elt F) → (⟨S1x1024, .f32⟩ : BufTy).Contents (Elt F)),
    StableHlo.unary main_v26 main_v27 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v27 main_v25 main_v28 (mulf : (⟨S8192x1024, .f32⟩ : BufTy).Contents (Elt F) → (⟨S8192x1024, .f32⟩ : BufTy).Contents (Elt F) → (⟨S8192x1024, .f32⟩ : BufTy).Contents (Elt F)),
    StableHlo.binary main_v22 main_v28 main_v29 (addf : (⟨S8192x1024, .f32⟩ : BufTy).Contents (Elt F) → (⟨S8192x1024, .f32⟩ : BufTy).Contents (Elt F) → (⟨S8192x1024, .f32⟩ : BufTy).Contents (Elt F)),
    StableHlo.unary main_arg2 main_v30 ((extractStridedSlice S1x1024 ![3, 0] · slices_S4x1024_S1x1024_3_0) : (⟨S4x1024, .f32⟩ : BufTy).Contents (Elt F) → (⟨S1x1024, .f32⟩ : BufTy).Contents (Elt F)),
    StableHlo.reshape main_v30 main_v31 (rfl : (.f32 : EltTy) = .f32) shapeCasts_S1x1024_S1024,
    StableHlo.unary main_v6 main_v32 ((extractStridedSlice S8192x1024 ![3, 0] · slices_S8195x1024_S8192x1024_3_0) : (⟨S8195x1024, .f32⟩ : BufTy).Contents (Elt F) → (⟨S8192x1024, .f32⟩ : BufTy).Contents (Elt F)),
    StableHlo.unary main_v31 main_v33 (broadcastInDim S1x1024 ![1] bcast_S1024_S1x1024_1 : (⟨S1024, .f32⟩ : BufTy).Contents (Elt F) → (⟨S1x1024, .f32⟩ : BufTy).Contents (Elt F)),
    StableHlo.unary main_v33 main_v34 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v34 main_v32 main_v35 (mulf : (⟨S8192x1024, .f32⟩ : BufTy).Contents (Elt F) → (⟨S8192x1024, .f32⟩ : BufTy).Contents (Elt F) → (⟨S8192x1024, .f32⟩ : BufTy).Contents (Elt F)),
    StableHlo.binary main_v29 main_v35 main_v36 (addf : (⟨S8192x1024, .f32⟩ : BufTy).Contents (Elt F) → (⟨S8192x1024, .f32⟩ : BufTy).Contents (Elt F) → (⟨S8192x1024, .f32⟩ : BufTy).Contents (Elt F)) ]
theorem s2_sub : (s2 : Ops F).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.binary_bufs_sub ..⟩
theorem s2_fresh : (s2 : Ops F).Forall fun op => op.fresh = ∅ := StableHlo.forall_fresh_of_map rfl
abbrev s2_W : List (Ref sig .tc) := [main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36]
theorem s2_writes : (s2 : Ops F).Forall fun op => op.writes ⊆ (s2_W.map (Proc.devRef (τ := τ) .tc)).toFinset :=
  StableHlo.forall_writes_sub_of_map rfl

/-- The recurrence gate. -/
abbrev s3 : Ops F :=
  [ StableHlo.reshape main_v36 main_v37 (rfl : (.f32 : EltTy) = .f32) shapeCasts_S8192x1024_S8192x4x256,
    StableHlo.binary main_arg4 main_v37 main_v38 ((fun l r => Host.dotGeneral dot_S4x256x256_S8192x4x256_S4x256x8192_1_2_2_0_0_1 none l r) : (⟨S4x256x256, .f32⟩ : BufTy).Contents (Elt F) → (⟨S8192x4x256, .f32⟩ : BufTy).Contents (Elt F) → (⟨S4x256x8192, .f32⟩ : BufTy).Contents (Elt F)),
    StableHlo.unary main_v38 main_v39 ((transpose S8192x4x256 [2, 0, 1] · transposes_S4x256x8192_S8192x4x256_2_0_1) : (⟨S4x256x8192, .f32⟩ : BufTy).Contents (Elt F) → (⟨S8192x4x256, .f32⟩ : BufTy).Contents (Elt F)),
    StableHlo.unary main_arg5 main_v40 (broadcastInDim S1x4x256 ![1, 2] bcast_S4x256_S1x4x256_1_2 : (⟨S4x256, .f32⟩ : BufTy).Contents (Elt F) → (⟨S1x4x256, .f32⟩ : BufTy).Contents (Elt F)),
    StableHlo.unary main_v40 main_v41 (broadcastInDim S8192x4x256 ![0, 1, 2] bcast_S1x4x256_S8192x4x256_0_1_2 : (⟨S1x4x256, .f32⟩ : BufTy).Contents (Elt F) → (⟨S8192x4x256, .f32⟩ : BufTy).Contents (Elt F)),
    StableHlo.binary main_v39 main_v41 main_v42 (addf : (⟨S8192x4x256, .f32⟩ : BufTy).Contents (Elt F) → (⟨S8192x4x256, .f32⟩ : BufTy).Contents (Elt F) → (⟨S8192x4x256, .f32⟩ : BufTy).Contents (Elt F)),
    StableHlo.unary main_v42 main_v43 (Host.negf : (⟨S8192x4x256, .f32⟩ : BufTy).Contents (Elt F) → (⟨S8192x4x256, .f32⟩ : BufTy).Contents (Elt F)),
    StableHlo.unary main_v43 main_v44 (Host.exp : (⟨S8192x4x256, .f32⟩ : BufTy).Contents (Elt F) → (⟨S8192x4x256, .f32⟩ : BufTy).Contents (Elt F)),
    StableHlo.nullary main_cst_1 (constant S_ .f32 0x3F800000#32),
    StableHlo.unary main_cst_1 main_v45 (broadcastInDim S8192x4x256 ![] bcast_S_S8192x4x256 : (⟨S_, .f32⟩ : BufTy).Contents (Elt F) → (⟨S8192x4x256, .f32⟩ : BufTy).Contents (Elt F)),
    StableHlo.binary main_v45 main_v44 main_v46 (addf : (⟨S8192x4x256, .f32⟩ : BufTy).Contents (Elt F) → (⟨S8192x4x256, .f32⟩ : BufTy).Contents (Elt F) → (⟨S8192x4x256, .f32⟩ : BufTy).Contents (Elt F)),
    StableHlo.nullary main_cst_2 (constant S_ .f32 0x3F800000#32),
    StableHlo.unary main_cst_2 main_v47 (broadcastInDim S8192x4x256 ![] bcast_S_S8192x4x256 : (⟨S_, .f32⟩ : BufTy).Contents (Elt F) → (⟨S8192x4x256, .f32⟩ : BufTy).Contents (Elt F)),
    StableHlo.binary main_v47 main_v46 main_v48 (Host.divf : (⟨S8192x4x256, .f32⟩ : BufTy).Contents (Elt F) → (⟨S8192x4x256, .f32⟩ : BufTy).Contents (Elt F) → (⟨S8192x4x256, .f32⟩ : BufTy).Contents (Elt F)),
    StableHlo.nullary main_cst_3 (constant S_ .f32 0x3F800000#32),
    StableHlo.unary main_cst_3 main_v49 (broadcastInDim S8192x4x256 ![] bcast_S_S8192x4x256 : (⟨S_, .f32⟩ : BufTy).Contents (Elt F) → (⟨S8192x4x256, .f32⟩ : BufTy).Contents (Elt F)),
    StableHlo.binary main_v49 main_v48 main_v50 (subf : (⟨S8192x4x256, .f32⟩ : BufTy).Contents (Elt F) → (⟨S8192x4x256, .f32⟩ : BufTy).Contents (Elt F) → (⟨S8192x4x256, .f32⟩ : BufTy).Contents (Elt F)),
    StableHlo.binary main_v48 main_v50 main_v51 (mulf : (⟨S8192x4x256, .f32⟩ : BufTy).Contents (Elt F) → (⟨S8192x4x256, .f32⟩ : BufTy).Contents (Elt F) → (⟨S8192x4x256, .f32⟩ : BufTy).Contents (Elt F)),
    StableHlo.reshape main_v48 main_v52 (rfl : (.f32 : EltTy) = .f32) shapeCasts_S8192x4x256_S8192x1024 ]
theorem s3_sub : (s3 : Ops F).Forall fun op => op.bufs ⊆ StableHlo.tcRefs τ sig :=
  ⟨StableHlo.reshape_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.reshape_bufs_sub ..⟩
theorem s3_fresh : (s3 : Ops F).Forall fun op => op.fresh = ∅ := StableHlo.forall_fresh_of_map rfl
abbrev s3_W : List (Ref sig .tc) := [main_v37, main_v38, main_v39, main_v40, main_v41, main_v42, main_v43, main_v44, main_cst_1, main_v45, main_v46, main_cst_2, main_v47, main_v48, main_cst_3, main_v49, main_v50, main_v51, main_v52]
theorem s3_writes : (s3 : Ops F).Forall fun op => op.writes ⊆ (s3_W.map (Proc.devRef (τ := τ) .tc)).toFinset :=
  StableHlo.forall_writes_sub_of_map rfl

/-- The input gate: its products. -/
abbrev s4 : Ops F :=
  [ StableHlo.binary main_arg6 main_v37 main_v53 ((fun l r => Host.dotGeneral dot_S4x256x256_S8192x4x256_S4x256x8192_1_2_2_0_0_1 none l r) : (⟨S4x256x256, .f32⟩ : BufTy).Contents (Elt F) → (⟨S8192x4x256, .f32⟩ : BufTy).Contents (Elt F) → (⟨S4x256x8192, .f32⟩ : BufTy).Contents (Elt F)),
    StableHlo.unary main_v53 main_v54 ((transpose S8192x4x256 [2, 0, 1] · transposes_S4x256x8192_S8192x4x256_2_0_1) : (⟨S4x256x8192, .f32⟩ : BufTy).Contents (Elt F) → (⟨S8192x4x256, .f32⟩ : BufTy).Contents (Elt F)) ]
theorem s4_sub : (s4 : Ops F).Forall fun op => op.bufs ⊆ StableHlo.tcRefs τ sig :=
  ⟨StableHlo.binary_bufs_sub .., StableHlo.unary_bufs_sub ..⟩
theorem s4_fresh : (s4 : Ops F).Forall fun op => op.fresh = ∅ := StableHlo.forall_fresh_of_map rfl
abbrev s4_W : List (Ref sig .tc) := [main_v53, main_v54]
theorem s4_writes : (s4 : Ops F).Forall fun op => op.writes ⊆ (s4_W.map (Proc.devRef (τ := τ) .tc)).toFinset :=
  StableHlo.forall_writes_sub_of_map rfl

/-- The input gate. -/
abbrev s5 : Ops F :=
  [ StableHlo.unary main_arg7 main_v55 (broadcastInDim S1x4x256 ![1, 2] bcast_S4x256_S1x4x256_1_2 : (⟨S4x256, .f32⟩ : BufTy).Contents (Elt F) → (⟨S1x4x256, .f32⟩ : BufTy).Contents (Elt F)),
    StableHlo.unary main_v55 main_v56 (broadcastInDim S8192x4x256 ![0, 1, 2] bcast_S1x4x256_S8192x4x256_0_1_2 : (⟨S1x4x256, .f32⟩ : BufTy).Contents (Elt F) → (⟨S8192x4x256, .f32⟩ : BufTy).Contents (Elt F)),
    StableHlo.binary main_v54 main_v56 main_v57 (addf : (⟨S8192x4x256, .f32⟩ : BufTy).Contents (Elt F) → (⟨S8192x4x256, .f32⟩ : BufTy).Contents (Elt F) → (⟨S8192x4x256, .f32⟩ : BufTy).Contents (Elt F)),
    StableHlo.unary main_v57 main_v58 (Host.negf : (⟨S8192x4x256, .f32⟩ : BufTy).Contents (Elt F) → (⟨S8192x4x256, .f32⟩ : BufTy).Contents (Elt F)),
    StableHlo.unary main_v58 main_v59 (Host.exp : (⟨S8192x4x256, .f32⟩ : BufTy).Contents (Elt F) → (⟨S8192x4x256, .f32⟩ : BufTy).Contents (Elt F)),
    StableHlo.nullary main_cst_4 (constant S_ .f32 0x3F800000#32),
    StableHlo.unary main_cst_4 main_v60 (broadcastInDim S8192x4x256 ![] bcast_S_S8192x4x256 : (⟨S_, .f32⟩ : BufTy).Contents (Elt F) → (⟨S8192x4x256, .f32⟩ : BufTy).Contents (Elt F)),
    StableHlo.binary main_v60 main_v59 main_v61 (addf : (⟨S8192x4x256, .f32⟩ : BufTy).Contents (Elt F) → (⟨S8192x4x256, .f32⟩ : BufTy).Contents (Elt F) → (⟨S8192x4x256, .f32⟩ : BufTy).Contents (Elt F)),
    StableHlo.nullary main_cst_5 (constant S_ .f32 0x3F800000#32),
    StableHlo.unary main_cst_5 main_v62 (broadcastInDim S8192x4x256 ![] bcast_S_S8192x4x256 : (⟨S_, .f32⟩ : BufTy).Contents (Elt F) → (⟨S8192x4x256, .f32⟩ : BufTy).Contents (Elt F)),
    StableHlo.binary main_v62 main_v61 main_v63 (Host.divf : (⟨S8192x4x256, .f32⟩ : BufTy).Contents (Elt F) → (⟨S8192x4x256, .f32⟩ : BufTy).Contents (Elt F) → (⟨S8192x4x256, .f32⟩ : BufTy).Contents (Elt F)),
    StableHlo.nullary main_cst_6 (constant S_ .f32 0x3F800000#32),
    StableHlo.unary main_cst_6 main_v64 (broadcastInDim S8192x4x256 ![] bcast_S_S8192x4x256 : (⟨S_, .f32⟩ : BufTy).Contents (Elt F) → (⟨S8192x4x256, .f32⟩ : BufTy).Contents (Elt F)),
    StableHlo.binary main_v64 main_v63 main_v65 (subf : (⟨S8192x4x256, .f32⟩ : BufTy).Contents (Elt F) → (⟨S8192x4x256, .f32⟩ : BufTy).Contents (Elt F) → (⟨S8192x4x256, .f32⟩ : BufTy).Contents (Elt F)),
    StableHlo.binary main_v63 main_v65 main_v66 (mulf : (⟨S8192x4x256, .f32⟩ : BufTy).Contents (Elt F) → (⟨S8192x4x256, .f32⟩ : BufTy).Contents (Elt F) → (⟨S8192x4x256, .f32⟩ : BufTy).Contents (Elt F)),
    StableHlo.reshape main_v63 main_v67 (rfl : (.f32 : EltTy) = .f32) shapeCasts_S8192x4x256_S8192x1024 ]
theorem s5_sub : (s5 : Ops F).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.reshape_bufs_sub ..⟩
theorem s5_fresh : (s5 : Ops F).Forall fun op => op.fresh = ∅ := StableHlo.forall_fresh_of_map rfl
abbrev s5_W : List (Ref sig .tc) := [main_v55, main_v56, main_v57, main_v58, main_v59, main_cst_4, main_v60, main_v61, main_cst_5, main_v62, main_v63, main_cst_6, main_v64, main_v65, main_v66, main_v67]
theorem s5_writes : (s5 : Ops F).Forall fun op => op.writes ⊆ (s5_W.map (Proc.devRef (τ := τ) .tc)).toFinset :=
  StableHlo.forall_writes_sub_of_map rfl

/-- The decay, its factor of the input, the scan input. -/
abbrev s6 : Ops F :=
  [ StableHlo.nullary main_cst_7 (constant S_ .f32 0xC1000000#32),
    StableHlo.unary main_cst_7 main_v68 (broadcastInDim S8192x1024 ![] bcast_S_S8192x1024 : (⟨S_, .f32⟩ : BufTy).Contents (Elt F) → (⟨S8192x1024, .f32⟩ : BufTy).Contents (Elt F)),
    StableHlo.binary main_v68 main_v52 main_v69 (mulf : (⟨S8192x1024, .f32⟩ : BufTy).Contents (Elt F) → (⟨S8192x1024, .f32⟩ : BufTy).Contents (Elt F) → (⟨S8192x1024, .f32⟩ : BufTy).Contents (Elt F)),
    StableHlo.unary main_v1 main_v70 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v69 main_v70 main_v71 (mulf : (⟨S8192x1024, .f32⟩ : BufTy).Contents (Elt F) → (⟨S8192x1024, .f32⟩ : BufTy).Contents (Elt F) → (⟨S8192x1024, .f32⟩ : BufTy).Contents (Elt F)),
    StableHlo.unary main_v71 main_v72 (Host.exp : (⟨S8192x1024, .f32⟩ : BufTy).Contents (Elt F) → (⟨S8192x1024, .f32⟩ : BufTy).Contents (Elt F)),
    StableHlo.nullary main_cst_8 (constant S_ .f32 0x40000000#32),
    StableHlo.unary main_cst_8 main_v73 (broadcastInDim S8192x1024 ![] bcast_S_S8192x1024 : (⟨S_, .f32⟩ : BufTy).Contents (Elt F) → (⟨S8192x1024, .f32⟩ : BufTy).Contents (Elt F)),
    StableHlo.binary main_v73 main_v71 main_v74 (mulf : (⟨S8192x1024, .f32⟩ : BufTy).Contents (Elt F) → (⟨S8192x1024, .f32⟩ : BufTy).Contents (Elt F) → (⟨S8192x1024, .f32⟩ : BufTy).Contents (Elt F)),
    StableHlo.unary main_v74 main_v75 (Host.expm1 : (⟨S8192x1024, .f32⟩ : BufTy).Contents (Elt F) → (⟨S8192x1024, .f32⟩ : BufTy).Contents (Elt F)),
    StableHlo.unary main_v74 main_v76 (Host.exp : (⟨S8192x1024, .f32⟩ : BufTy).Contents (Elt F) → (⟨S8192x1024, .f32⟩ : BufTy).Contents (Elt F)),
    StableHlo.unary main_v75 main_v77 (Host.negf : (⟨S8192x1024, .f32⟩ : BufTy).Contents (Elt F) → (⟨S8192x1024, .f32⟩ : BufTy).Contents (Elt F)),
    StableHlo.unary main_v77 main_v78 (Host.sqrt : (⟨S8192x1024, .f32⟩ : BufTy).Contents (Elt F) → (⟨S8192x1024, .f32⟩ : BufTy).Contents (Elt F)),
    StableHlo.nullary main_cst_9 (constant S_ .f32 0x3F000000#32),
    StableHlo.unary main_cst_9 main_v79 (broadcastInDim S8192x1024 ![] bcast_S_S8192x1024 : (⟨S_, .f32⟩ : BufTy).Contents (Elt F) → (⟨S8192x1024, .f32⟩ : BufTy).Contents (Elt F)),
    StableHlo.binary main_v79 main_v78 main_v80 (Host.divf : (⟨S8192x1024, .f32⟩ : BufTy).Contents (Elt F) → (⟨S8192x1024, .f32⟩ : BufTy).Contents (Elt F) → (⟨S8192x1024, .f32⟩ : BufTy).Contents (Elt F)),
    StableHlo.binary main_v67 main_v36 main_v81 (mulf : (⟨S8192x1024, .f32⟩ : BufTy).Contents (Elt F) → (⟨S8192x1024, .f32⟩ : BufTy).Contents (Elt F) → (⟨S8192x1024, .f32⟩ : BufTy).Contents (Elt F)),
    StableHlo.binary main_v78 main_v81 main_v82 (mulf : (⟨S8192x1024, .f32⟩ : BufTy).Contents (Elt F) → (⟨S8192x1024, .f32⟩ : BufTy).Contents (Elt F) → (⟨S8192x1024, .f32⟩ : BufTy).Contents (Elt F)) ]
theorem s6_sub : (s6 : Ops F).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.binary_bufs_sub ..⟩
theorem s6_fresh : (s6 : Ops F).Forall fun op => op.fresh = ∅ := StableHlo.forall_fresh_of_map rfl
abbrev s6_W : List (Ref sig .tc) := [main_cst_7, main_v68, main_v69, main_v70, main_v71, main_v72, main_cst_8, main_v73, main_v74, main_v75, main_v76, main_v77, main_v78, main_cst_9, main_v79, main_v80, main_v81, main_v82]
theorem s6_writes : (s6 : Ops F).Forall fun op => op.writes ⊆ (s6_W.map (Proc.devRef (τ := τ) .tc)).toFinset :=
  StableHlo.forall_writes_sub_of_map rfl

/-- The first loop's carried values. -/
abbrev s7 : Ops F :=
  [ StableHlo.nullary main_cst_10 (constant S_ .f32 0x00000000#32),
    StableHlo.unary main_cst_10 main_v83 (broadcastInDim S1024 ![] bcast_S_S1024 : (⟨S_, .f32⟩ : BufTy).Contents (Elt F) → (⟨S1024, .f32⟩ : BufTy).Contents (Elt F)),
    StableHlo.nullary main_cst_11 (constant S_ .f32 0x00000000#32),
    StableHlo.unary main_cst_11 main_v84 (broadcastInDim S8192x1024 ![] bcast_S_S8192x1024 : (⟨S_, .f32⟩ : BufTy).Contents (Elt F) → (⟨S8192x1024, .f32⟩ : BufTy).Contents (Elt F)),
    StableHlo.nullary main_cst_12 (constant S_ .f32 0x00000000#32),
    StableHlo.unary main_cst_12 main_v85 (broadcastInDim S8192x1024 ![] bcast_S_S8192x1024 : (⟨S_, .f32⟩ : BufTy).Contents (Elt F) → (⟨S8192x1024, .f32⟩ : BufTy).Contents (Elt F)),
    StableHlo.nullary main_c (constantI S_ 32 0#32),
    StableHlo.unary main_v72 main_v86_0 id,
    StableHlo.unary main_v82 main_v86_1 id,
    StableHlo.unary main_c main_v86_2 id,
    StableHlo.unary main_v83 main_v86_3 id,
    StableHlo.unary main_v84 main_v86_4 id,
    StableHlo.unary main_v85 main_v86_5 id ]
theorem s7_sub : (s7 : Ops F).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem s7_fresh : (s7 : Ops F).Forall fun op => op.fresh = ∅ := StableHlo.forall_fresh_of_map rfl
abbrev s7_W : List (Ref sig .tc) := [main_cst_10, main_v83, main_cst_11, main_v84, main_cst_12, main_v85, main_c, main_v86_0, main_v86_1, main_v86_2, main_v86_3, main_v86_4, main_v86_5]
theorem s7_writes : (s7 : Ops F).Forall fun op => op.writes ⊆ (s7_W.map (Proc.devRef (τ := τ) .tc)).toFinset :=
  StableHlo.forall_writes_sub_of_map rfl

/-- The first loop's condition. -/
abbrev cond0 : Ops F :=
  [ StableHlo.nullary main_while0c_c_48 (constantI S_ 32 8192#32),
    StableHlo.binary main_v86_2 main_while0c_c_48 main_while0c_v198 (cmpi .slt : (⟨S_, .i32⟩ : BufTy).Contents (Elt F) → (⟨S_, .i32⟩ : BufTy).Contents (Elt F) → (⟨S_, .i1⟩ : BufTy).Contents (Elt F)) ]
theorem cond0_sub : (cond0 : Ops F).Forall fun op => op.bufs ⊆ StableHlo.tcRefs τ sig :=
  ⟨StableHlo.nullary_bufs_sub .., StableHlo.binary_bufs_sub ..⟩
theorem cond0_fresh : (cond0 : Ops F).Forall fun op => op.fresh = ∅ := StableHlo.forall_fresh_of_map rfl
abbrev cond0_W : List (Ref sig .tc) := [main_while0c_c_48, main_while0c_v198]
theorem cond0_writes : (cond0 : Ops F).Forall fun op => op.writes ⊆ (cond0_W.map (Proc.devRef (τ := τ) .tc)).toFinset :=
  StableHlo.forall_writes_sub_of_map rfl

/-- The first loop's body. -/
abbrev body0 : Ops F :=
  [ StableHlo.nullary main_while0b_call1_c (constantI S_ 32 0#32),
    StableHlo.TRef.unaryIndexed (.of main_v86_0 : StableHlo.TRef sig ⟨S8192x1024, .f32⟩) ![(.of main_v86_2 : StableHlo.TRef sig ⟨S_, .i32⟩), (.of main_while0b_call1_c : StableHlo.TRef sig ⟨S_, .i32⟩)] (.of main_while0b_call1_v0 : StableHlo.TRef sig ⟨S1x1024, .f32⟩) (fun x i => Host.dynamicSlice S1x1024 x (fun k => (i k (Shape.Idx.first h_S_)).toInt) sliceFits_S8192x1024_S1x1024),
    StableHlo.reshape main_while0b_call1_v0 main_while0b_v198 (rfl : (.f32 : EltTy) = .f32) shapeCasts_S1x1024_S1024,
    StableHlo.nullary main_while0b_call2_c (constantI S_ 32 0#32),
    StableHlo.TRef.unaryIndexed (.of main_v86_1 : StableHlo.TRef sig ⟨S8192x1024, .f32⟩) ![(.of main_v86_2 : StableHlo.TRef sig ⟨S_, .i32⟩), (.of main_while0b_call2_c : StableHlo.TRef sig ⟨S_, .i32⟩)] (.of main_while0b_call2_v0 : StableHlo.TRef sig ⟨S1x1024, .f32⟩) (fun x i => Host.dynamicSlice S1x1024 x (fun k => (i k (Shape.Idx.first h_S_)).toInt) sliceFits_S8192x1024_S1x1024),
    StableHlo.reshape main_while0b_call2_v0 main_while0b_v199 (rfl : (.f32 : EltTy) = .f32) shapeCasts_S1x1024_S1024,
    StableHlo.binary main_while0b_v198 main_v86_3 main_while0b_v200 (mulf : (⟨S1024, .f32⟩ : BufTy).Contents (Elt F) → (⟨S1024, .f32⟩ : BufTy).Contents (Elt F) → (⟨S1024, .f32⟩ : BufTy).Contents (Elt F)),
    StableHlo.binary main_while0b_v200 main_while0b_v199 main_while0b_v201 (addf : (⟨S1024, .f32⟩ : BufTy).Contents (Elt F) → (⟨S1024, .f32⟩ : BufTy).Contents (Elt F) → (⟨S1024, .f32⟩ : BufTy).Contents (Elt F)),
    StableHlo.unary main_while0b_v201 main_while0b_call3_v0 (broadcastInDim S1x1024 ![1] bcast_S1024_S1x1024_1),
    StableHlo.nullary main_while0b_call3_c (constantI S_ 32 0#32),
    StableHlo.TRef.binaryIndexed (.of main_v86_4 : StableHlo.TRef sig ⟨S8192x1024, .f32⟩) (.of main_while0b_call3_v0 : StableHlo.TRef sig ⟨S1x1024, .f32⟩) ![(.of main_v86_2 : StableHlo.TRef sig ⟨S_, .i32⟩), (.of main_while0b_call3_c : StableHlo.TRef sig ⟨S_, .i32⟩)] (.of main_while0b_v202 : StableHlo.TRef sig ⟨S8192x1024, .f32⟩) (fun x u i => Host.dynamicUpdateSlice x u (fun k => (i k (Shape.Idx.first h_S_)).toInt) updateFits_S8192x1024_S1x1024),
    StableHlo.unary main_v86_3 main_while0b_call4_v0 (broadcastInDim S1x1024 ![1] bcast_S1024_S1x1024_1),
    StableHlo.nullary main_while0b_call4_c (constantI S_ 32 0#32),
    StableHlo.TRef.binaryIndexed (.of main_v86_5 : StableHlo.TRef sig ⟨S8192x1024, .f32⟩) (.of main_while0b_call4_v0 : StableHlo.TRef sig ⟨S1x1024, .f32⟩) ![(.of main_v86_2 : StableHlo.TRef sig ⟨S_, .i32⟩), (.of main_while0b_call4_c : StableHlo.TRef sig ⟨S_, .i32⟩)] (.of main_while0b_v203 : StableHlo.TRef sig ⟨S8192x1024, .f32⟩) (fun x u i => Host.dynamicUpdateSlice x u (fun k => (i k (Shape.Idx.first h_S_)).toInt) updateFits_S8192x1024_S1x1024),
    StableHlo.nullary main_while0b_c_48 (constantI S_ 32 1#32),
    StableHlo.binary main_v86_2 main_while0b_c_48 main_while0b_v204 (addi : (⟨S_, .i32⟩ : BufTy).Contents (Elt F) → (⟨S_, .i32⟩ : BufTy).Contents (Elt F) → (⟨S_, .i32⟩ : BufTy).Contents (Elt F)),
    StableHlo.unary main_while0b_v204 main_v86_2 id,
    StableHlo.unary main_while0b_v201 main_v86_3 id,
    StableHlo.unary main_while0b_v202 main_v86_4 id,
    StableHlo.unary main_while0b_v203 main_v86_5 id ]
theorem body0_sub : (body0 : Ops F).Forall fun op => op.bufs ⊆ StableHlo.tcRefs τ sig :=
  ⟨StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem body0_fresh : (body0 : Ops F).Forall fun op => op.fresh = ∅ := StableHlo.forall_fresh_of_map rfl
abbrev body0_W : List (Ref sig .tc) := [main_while0b_call1_c, main_while0b_call1_v0, main_while0b_v198, main_while0b_call2_c, main_while0b_call2_v0, main_while0b_v199, main_while0b_v200, main_while0b_v201, main_while0b_call3_v0, main_while0b_call3_c, main_while0b_v202, main_while0b_call4_v0, main_while0b_call4_c, main_while0b_v203, main_while0b_c_48, main_while0b_v204, main_v86_2, main_v86_3, main_v86_4, main_v86_5]
theorem body0_writes : (body0 : Ops F).Forall fun op => op.writes ⊆ (body0_W.map (Proc.devRef (τ := τ) .tc)).toFinset :=
  StableHlo.forall_writes_sub_of_map rfl

/-- The gate of the output and the output. -/
abbrev s9 : Ops F :=
  [ StableHlo.unary main_v3 main_call5_v0 Host.negf,
    StableHlo.unary main_call5_v0 main_call5_v1 Host.exp,
    StableHlo.nullary main_call5_cst (constant S_ .f32 0x3F800000#32),
    StableHlo.unary main_call5_cst main_call5_v2 (broadcastInDim S8192x1024 ![] bcast_S_S8192x1024),
    StableHlo.binary main_call5_v2 main_call5_v1 main_call5_v3 addf,
    StableHlo.nullary main_call5_cst_0 (constant S_ .f32 0x3F800000#32),
    StableHlo.unary main_call5_cst_0 main_call5_v4 (broadcastInDim S8192x1024 ![] bcast_S_S8192x1024),
    StableHlo.binary main_call5_v4 main_call5_v3 main_v87_2 Host.divf,
    StableHlo.nullary main_call5_cst_1 (constant S_ .f32 0x3F800000#32),
    StableHlo.unary main_call5_cst_1 main_call5_v6 (broadcastInDim S8192x1024 ![] bcast_S_S8192x1024),
    StableHlo.binary main_call5_v6 main_v87_2 main_call5_v7 subf,
    StableHlo.binary main_v87_2 main_call5_v7 main_v87_1 mulf,
    StableHlo.binary main_v3 main_v87_2 main_v87_0 mulf,
    StableHlo.binary main_v86_4 main_v87_0 main_v88 (mulf : (⟨S8192x1024, .f32⟩ : BufTy).Contents (Elt F) → (⟨S8192x1024, .f32⟩ : BufTy).Contents (Elt F) → (⟨S8192x1024, .f32⟩ : BufTy).Contents (Elt F)) ]
theorem s9_sub : (s9 : Ops F).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub ..⟩
theorem s9_fresh : (s9 : Ops F).Forall fun op => op.fresh = ∅ := StableHlo.forall_fresh_of_map rfl
abbrev s9_W : List (Ref sig .tc) := [main_call5_v0, main_call5_v1, main_call5_cst, main_call5_v2, main_call5_v3, main_call5_cst_0, main_call5_v4, main_v87_2, main_call5_cst_1, main_call5_v6, main_call5_v7, main_v87_1, main_v87_0, main_v88]
theorem s9_writes : (s9 : Ops F).Forall fun op => op.writes ⊆ (s9_W.map (Proc.devRef (τ := τ) .tc)).toFinset :=
  StableHlo.forall_writes_sub_of_map rfl

/-- The cotangent of the state and of the output gate. -/
abbrev s10 : Ops F :=
  [ StableHlo.unary main_arg1 main_v89 ((extractStridedSlice S1024x1024 ![0, 0] · slices_S2048x1024_S1024x1024_0_0) : (⟨S2048x1024, .f32⟩ : BufTy).Contents (Elt F) → (⟨S1024x1024, .f32⟩ : BufTy).Contents (Elt F)),
    StableHlo.binary main_v88 main_v89 main_v90 ((fun l r => Host.dotGeneral dot_S8192x1024_S1024x1024_S8192x1024_1_0_0_1_n_n none l r) : (⟨S8192x1024, .f32⟩ : BufTy).Contents (Elt F) → (⟨S1024x1024, .f32⟩ : BufTy).Contents (Elt F) → (⟨S8192x1024, .f32⟩ : BufTy).Contents (Elt F)),
    StableHlo.nullary main_cst_13 (constant S_ .f32 0x00000000#32),
    StableHlo.unary main_cst_13 main_v91 (broadcastInDim S1024 ![] bcast_S_S1024 : (⟨S_, .f32⟩ : BufTy).Contents (Elt F) → (⟨S1024, .f32⟩ : BufTy).Contents (Elt F)),
    StableHlo.binary main_arg9 main_v89 main_v92 ((fun l r => Host.dotGeneral dot_S8192x1024_S1024x1024_S8192x1024_1_1_0_0_n_n none l r) : (⟨S8192x1024, .f32⟩ : BufTy).Contents (Elt F) → (⟨S1024x1024, .f32⟩ : BufTy).Contents (Elt F) → (⟨S8192x1024, .f32⟩ : BufTy).Contents (Elt F)),
    StableHlo.binary main_v86_4 main_v92 main_v93 (mulf : (⟨S8192x1024, .f32⟩ : BufTy).Contents (Elt F) → (⟨S8192x1024, .f32⟩ : BufTy).Contents (Elt F) → (⟨S8192x1024, .f32⟩ : BufTy).Contents (Elt F)),
    StableHlo.binary main_v92 main_v87_0 main_v94 (mulf : (⟨S8192x1024, .f32⟩ : BufTy).Contents (Elt F) → (⟨S8192x1024, .f32⟩ : BufTy).Contents (Elt F) → (⟨S8192x1024, .f32⟩ : BufTy).Contents (Elt F)),
    StableHlo.binary main_v3 main_v93 main_call6_v0 mulf,
    StableHlo.binary main_v93 main_v87_2 main_call6_v1 mulf,
    StableHlo.binary main_call6_v0 main_v87_1 main_call6_v2 mulf,
    StableHlo.binary main_call6_v1 main_call6_v2 main_v95 addf ]
theorem s10_sub : (s10 : Ops F).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub ..⟩
theorem s10_fresh : (s10 : Ops F).Forall fun op => op.fresh = ∅ := StableHlo.forall_fresh_of_map rfl
abbrev s10_W : List (Ref sig .tc) := [main_v89, main_v90, main_cst_13, main_v91, main_v92, main_v93, main_v94, main_call6_v0, main_call6_v1, main_call6_v2, main_v95]
theorem s10_writes : (s10 : Ops F).Forall fun op => op.writes ⊆ (s10_W.map (Proc.devRef (τ := τ) .tc)).toFinset :=
  StableHlo.forall_writes_sub_of_map rfl

/-- The row of zeros the second loop starts from. -/
abbrev s11 : Ops F :=
  [ StableHlo.nullary main_cst_14 (constant S_ .f32 0x00000000#32),
    StableHlo.unary main_cst_14 main_v96 (broadcastInDim S1024 ![] bcast_S_S1024 : (⟨S_, .f32⟩ : BufTy).Contents (Elt F) → (⟨S1024, .f32⟩ : BufTy).Contents (Elt F)) ]
theorem s11_sub : (s11 : Ops F).Forall fun op => op.bufs ⊆ StableHlo.tcRefs τ sig :=
  ⟨StableHlo.nullary_bufs_sub .., StableHlo.unary_bufs_sub ..⟩
theorem s11_fresh : (s11 : Ops F).Forall fun op => op.fresh = ∅ := StableHlo.forall_fresh_of_map rfl
abbrev s11_W : List (Ref sig .tc) := [main_cst_14, main_v96]
theorem s11_writes : (s11 : Ops F).Forall fun op => op.writes ⊆ (s11_W.map (Proc.devRef (τ := τ) .tc)).toFinset :=
  StableHlo.forall_writes_sub_of_map rfl

/-- The second loop's carried values. -/
abbrev s12 : Ops F :=
  [ StableHlo.nullary main_cst_15 (constant S_ .f32 0x00000000#32),
    StableHlo.unary main_cst_15 main_v97 (broadcastInDim S8192x1024 ![] bcast_S_S8192x1024 : (⟨S_, .f32⟩ : BufTy).Contents (Elt F) → (⟨S8192x1024, .f32⟩ : BufTy).Contents (Elt F)),
    StableHlo.nullary main_cst_16 (constant S_ .f32 0x00000000#32),
    StableHlo.unary main_cst_16 main_v98 (broadcastInDim S8192x1024 ![] bcast_S_S8192x1024 : (⟨S_, .f32⟩ : BufTy).Contents (Elt F) → (⟨S8192x1024, .f32⟩ : BufTy).Contents (Elt F)),
    StableHlo.nullary main_c_17 (constantI S_ 32 0#32),
    StableHlo.unary main_v94 main_v99_0 id,
    StableHlo.unary main_v86_5 main_v99_1 id,
    StableHlo.unary main_v72 main_v99_2 id,
    StableHlo.unary main_c_17 main_v99_3 id,
    StableHlo.unary main_v96 main_v99_4 id,
    StableHlo.unary main_v97 main_v99_5 id,
    StableHlo.unary main_v98 main_v99_6 id ]
theorem s12_sub : (s12 : Ops F).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem s12_fresh : (s12 : Ops F).Forall fun op => op.fresh = ∅ := StableHlo.forall_fresh_of_map rfl
abbrev s12_W : List (Ref sig .tc) := [main_cst_15, main_v97, main_cst_16, main_v98, main_c_17, main_v99_0, main_v99_1, main_v99_2, main_v99_3, main_v99_4, main_v99_5, main_v99_6]
theorem s12_writes : (s12 : Ops F).Forall fun op => op.writes ⊆ (s12_W.map (Proc.devRef (τ := τ) .tc)).toFinset :=
  StableHlo.forall_writes_sub_of_map rfl

/-- The second loop's condition. -/
abbrev cond1 : Ops F :=
  [ StableHlo.nullary main_while1c_c_49 (constantI S_ 32 8192#32),
    StableHlo.binary main_v99_3 main_while1c_c_49 main_while1c_v198 (cmpi .slt : (⟨S_, .i32⟩ : BufTy).Contents (Elt F) → (⟨S_, .i32⟩ : BufTy).Contents (Elt F) → (⟨S_, .i1⟩ : BufTy).Contents (Elt F)) ]
theorem cond1_sub : (cond1 : Ops F).Forall fun op => op.bufs ⊆ StableHlo.tcRefs τ sig :=
  ⟨StableHlo.nullary_bufs_sub .., StableHlo.binary_bufs_sub ..⟩
theorem cond1_fresh : (cond1 : Ops F).Forall fun op => op.fresh = ∅ := StableHlo.forall_fresh_of_map rfl
abbrev cond1_W : List (Ref sig .tc) := [main_while1c_c_49, main_while1c_v198]
theorem cond1_writes : (cond1 : Ops F).Forall fun op => op.writes ⊆ (cond1_W.map (Proc.devRef (τ := τ) .tc)).toFinset :=
  StableHlo.forall_writes_sub_of_map rfl

/-- The second loop's body. -/
abbrev body1 : Ops F :=
  [ StableHlo.nullary main_while1b_c_49 (constantI S_ 32 8192#32),
    StableHlo.binary main_while1b_c_49 main_v99_3 main_while1b_v198 (subi : (⟨S_, .i32⟩ : BufTy).Contents (Elt F) → (⟨S_, .i32⟩ : BufTy).Contents (Elt F) → (⟨S_, .i32⟩ : BufTy).Contents (Elt F)),
    StableHlo.nullary main_while1b_c_50 (constantI S_ 32 1#32),
    StableHlo.binary main_while1b_v198 main_while1b_c_50 main_while1b_v199 (subi : (⟨S_, .i32⟩ : BufTy).Contents (Elt F) → (⟨S_, .i32⟩ : BufTy).Contents (Elt F) → (⟨S_, .i32⟩ : BufTy).Contents (Elt F)),
    StableHlo.nullary main_while1b_call7_c (constantI S_ 32 0#32),
    StableHlo.TRef.unaryIndexed (.of main_v99_0 : StableHlo.TRef sig ⟨S8192x1024, .f32⟩) ![(.of main_while1b_v199 : StableHlo.TRef sig ⟨S_, .i32⟩), (.of main_while1b_call7_c : StableHlo.TRef sig ⟨S_, .i32⟩)] (.of main_while1b_call7_v0 : StableHlo.TRef sig ⟨S1x1024, .f32⟩) (fun x i => Host.dynamicSlice S1x1024 x (fun k => (i k (Shape.Idx.first h_S_)).toInt) sliceFits_S8192x1024_S1x1024),
    StableHlo.reshape main_while1b_call7_v0 main_while1b_v200 (rfl : (.f32 : EltTy) = .f32) shapeCasts_S1x1024_S1024,
    StableHlo.nullary main_while1b_call8_c (constantI S_ 32 0#32),
    StableHlo.TRef.unaryIndexed (.of main_v99_1 : StableHlo.TRef sig ⟨S8192x1024, .f32⟩) ![(.of main_while1b_v199 : StableHlo.TRef sig ⟨S_, .i32⟩), (.of main_while1b_call8_c : StableHlo.TRef sig ⟨S_, .i32⟩)] (.of main_while1b_call8_v0 : StableHlo.TRef sig ⟨S1x1024, .f32⟩) (fun x i => Host.dynamicSlice S1x1024 x (fun k => (i k (Shape.Idx.first h_S_)).toInt) sliceFits_S8192x1024_S1x1024),
    StableHlo.reshape main_while1b_call8_v0 main_while1b_v201 (rfl : (.f32 : EltTy) = .f32) shapeCasts_S1x1024_S1024,
    StableHlo.nullary main_while1b_call9_c (constantI S_ 32 0#32),
    StableHlo.TRef.unaryIndexed (.of main_v99_2 : StableHlo.TRef sig ⟨S8192x1024, .f32⟩) ![(.of main_while1b_v199 : StableHlo.TRef sig ⟨S_, .i32⟩), (.of main_while1b_call9_c : StableHlo.TRef sig ⟨S_, .i32⟩)] (.of main_while1b_call9_v0 : StableHlo.TRef sig ⟨S1x1024, .f32⟩) (fun x i => Host.dynamicSlice S1x1024 x (fun k => (i k (Shape.Idx.first h_S_)).toInt) sliceFits_S8192x1024_S1x1024),
    StableHlo.reshape main_while1b_call9_v0 main_while1b_v202 (rfl : (.f32 : EltTy) = .f32) shapeCasts_S1x1024_S1024,
    StableHlo.binary main_v99_4 main_while1b_v200 main_while1b_v203 (addf : (⟨S1024, .f32⟩ : BufTy).Contents (Elt F) → (⟨S1024, .f32⟩ : BufTy).Contents (Elt F) → (⟨S1024, .f32⟩ : BufTy).Contents (Elt F)),
    StableHlo.binary main_while1b_v202 main_while1b_v203 main_while1b_v204 (mulf : (⟨S1024, .f32⟩ : BufTy).Contents (Elt F) → (⟨S1024, .f32⟩ : BufTy).Contents (Elt F) → (⟨S1024, .f32⟩ : BufTy).Contents (Elt F)),
    StableHlo.binary main_while1b_v203 main_while1b_v201 main_while1b_v205 (mulf : (⟨S1024, .f32⟩ : BufTy).Contents (Elt F) → (⟨S1024, .f32⟩ : BufTy).Contents (Elt F) → (⟨S1024, .f32⟩ : BufTy).Contents (Elt F)),
    StableHlo.unary main_while1b_v205 main_while1b_call10_v0 (broadcastInDim S1x1024 ![1] bcast_S1024_S1x1024_1),
    StableHlo.nullary main_while1b_call10_c (constantI S_ 32 0#32),
    StableHlo.TRef.binaryIndexed (.of main_v99_5 : StableHlo.TRef sig ⟨S8192x1024, .f32⟩) (.of main_while1b_call10_v0 : StableHlo.TRef sig ⟨S1x1024, .f32⟩) ![(.of main_while1b_v199 : StableHlo.TRef sig ⟨S_, .i32⟩), (.of main_while1b_call10_c : StableHlo.TRef sig ⟨S_, .i32⟩)] (.of main_while1b_v206 : StableHlo.TRef sig ⟨S8192x1024, .f32⟩) (fun x u i => Host.dynamicUpdateSlice x u (fun k => (i k (Shape.Idx.first h_S_)).toInt) updateFits_S8192x1024_S1x1024),
    StableHlo.unary main_while1b_v203 main_while1b_call11_v0 (broadcastInDim S1x1024 ![1] bcast_S1024_S1x1024_1),
    StableHlo.nullary main_while1b_call11_c (constantI S_ 32 0#32),
    StableHlo.TRef.binaryIndexed (.of main_v99_6 : StableHlo.TRef sig ⟨S8192x1024, .f32⟩) (.of main_while1b_call11_v0 : StableHlo.TRef sig ⟨S1x1024, .f32⟩) ![(.of main_while1b_v199 : StableHlo.TRef sig ⟨S_, .i32⟩), (.of main_while1b_call11_c : StableHlo.TRef sig ⟨S_, .i32⟩)] (.of main_while1b_v207 : StableHlo.TRef sig ⟨S8192x1024, .f32⟩) (fun x u i => Host.dynamicUpdateSlice x u (fun k => (i k (Shape.Idx.first h_S_)).toInt) updateFits_S8192x1024_S1x1024),
    StableHlo.nullary main_while1b_c_51 (constantI S_ 32 1#32),
    StableHlo.binary main_v99_3 main_while1b_c_51 main_while1b_v208 (addi : (⟨S_, .i32⟩ : BufTy).Contents (Elt F) → (⟨S_, .i32⟩ : BufTy).Contents (Elt F) → (⟨S_, .i32⟩ : BufTy).Contents (Elt F)),
    StableHlo.unary main_while1b_v208 main_v99_3 id,
    StableHlo.unary main_while1b_v204 main_v99_4 id,
    StableHlo.unary main_while1b_v206 main_v99_5 id,
    StableHlo.unary main_while1b_v207 main_v99_6 id ]
theorem body1_sub : (body1 : Ops F).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem body1_fresh : (body1 : Ops F).Forall fun op => op.fresh = ∅ := StableHlo.forall_fresh_of_map rfl
abbrev body1_W : List (Ref sig .tc) := [main_while1b_c_49, main_while1b_v198, main_while1b_c_50, main_while1b_v199, main_while1b_call7_c, main_while1b_call7_v0, main_while1b_v200, main_while1b_call8_c, main_while1b_call8_v0, main_while1b_v201, main_while1b_call9_c, main_while1b_call9_v0, main_while1b_v202, main_while1b_v203, main_while1b_v204, main_while1b_v205, main_while1b_call10_v0, main_while1b_call10_c, main_while1b_v206, main_while1b_call11_v0, main_while1b_call11_c, main_while1b_v207, main_while1b_c_51, main_while1b_v208, main_v99_3, main_v99_4, main_v99_5, main_v99_6]
theorem body1_writes : (body1 : Ops F).Forall fun op => op.writes ⊆ (body1_W.map (Proc.devRef (τ := τ) .tc)).toFinset :=
  StableHlo.forall_writes_sub_of_map rfl

/-- The cotangent of the logarithm of the decay. -/
abbrev s14 : Ops F :=
  [ StableHlo.binary main_v78 main_v99_6 main_v100 (mulf : (⟨S8192x1024, .f32⟩ : BufTy).Contents (Elt F) → (⟨S8192x1024, .f32⟩ : BufTy).Contents (Elt F) → (⟨S8192x1024, .f32⟩ : BufTy).Contents (Elt F)),
    StableHlo.binary main_v99_6 main_v81 main_v101 (mulf : (⟨S8192x1024, .f32⟩ : BufTy).Contents (Elt F) → (⟨S8192x1024, .f32⟩ : BufTy).Contents (Elt F) → (⟨S8192x1024, .f32⟩ : BufTy).Contents (Elt F)),
    StableHlo.binary main_v67 main_v100 main_v102 (mulf : (⟨S8192x1024, .f32⟩ : BufTy).Contents (Elt F) → (⟨S8192x1024, .f32⟩ : BufTy).Contents (Elt F) → (⟨S8192x1024, .f32⟩ : BufTy).Contents (Elt F)),
    StableHlo.binary main_v100 main_v36 main_v103 (mulf : (⟨S8192x1024, .f32⟩ : BufTy).Contents (Elt F) → (⟨S8192x1024, .f32⟩ : BufTy).Contents (Elt F) → (⟨S8192x1024, .f32⟩ : BufTy).Contents (Elt F)),
    StableHlo.binary main_v101 main_v80 main_v104 (mulf : (⟨S8192x1024, .f32⟩ : BufTy).Contents (Elt F) → (⟨S8192x1024, .f32⟩ : BufTy).Contents (Elt F) → (⟨S8192x1024, .f32⟩ : BufTy).Contents (Elt F)),
    StableHlo.unary main_v104 main_v105 (Host.negf : (⟨S8192x1024, .f32⟩ : BufTy).Contents (Elt F) → (⟨S8192x1024, .f32⟩ : BufTy).Contents (Elt F)),
    StableHlo.binary main_v105 main_v76 main_v106 (mulf : (⟨S8192x1024, .f32⟩ : BufTy).Contents (Elt F) → (⟨S8192x1024, .f32⟩ : BufTy).Contents (Elt F) → (⟨S8192x1024, .f32⟩ : BufTy).Contents (Elt F)),
    StableHlo.nullary main_cst_18 (constant S_ .f32 0x40000000#32),
    StableHlo.unary main_cst_18 main_v107 (broadcastInDim S8192x1024 ![] bcast_S_S8192x1024 : (⟨S_, .f32⟩ : BufTy).Contents (Elt F) → (⟨S8192x1024, .f32⟩ : BufTy).Contents (Elt F)),
    StableHlo.binary main_v107 main_v106 main_v108 (mulf : (⟨S8192x1024, .f32⟩ : BufTy).Contents (Elt F) → (⟨S8192x1024, .f32⟩ : BufTy).Contents (Elt F) → (⟨S8192x1024, .f32⟩ : BufTy).Contents (Elt F)),
    StableHlo.binary main_v99_5 main_v72 main_v109 (mulf : (⟨S8192x1024, .f32⟩ : BufTy).Contents (Elt F) → (⟨S8192x1024, .f32⟩ : BufTy).Contents (Elt F) → (⟨S8192x1024, .f32⟩ : BufTy).Contents (Elt F)),
    StableHlo.binary main_v108 main_v109 main_v110 (addf : (⟨S8192x1024, .f32⟩ : BufTy).Contents (Elt F) → (⟨S8192x1024, .f32⟩ : BufTy).Contents (Elt F) → (⟨S8192x1024, .f32⟩ : BufTy).Contents (Elt F)),
    StableHlo.binary main_v69 main_v110 main_v111 (mulf : (⟨S8192x1024, .f32⟩ : BufTy).Contents (Elt F) → (⟨S8192x1024, .f32⟩ : BufTy).Contents (Elt F) → (⟨S8192x1024, .f32⟩ : BufTy).Contents (Elt F)),
    StableHlo.nullary main_cst_19 (constant S_ .f32 0x00000000#32),
    StableHlo.binary main_v111 main_cst_19 main_v112 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.reshape main_v112 main_v113 (rfl : (.f32 : EltTy) = .f32) shapeCasts_S1024_S1x1024 ]
theorem s14_sub : (s14 : Ops F).Forall fun op => op.bufs ⊆ StableHlo.tcRefs τ sig :=
  ⟨StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub ..⟩
theorem s14_fresh : (s14 : Ops F).Forall fun op => op.fresh = ∅ := StableHlo.forall_fresh_of_map rfl
abbrev s14_W : List (Ref sig .tc) := [main_v100, main_v101, main_v102, main_v103, main_v104, main_v105, main_v106, main_cst_18, main_v107, main_v108, main_v109, main_v110, main_v111, main_cst_19, main_v112, main_v113]
theorem s14_writes : (s14 : Ops F).Forall fun op => op.writes ⊆ (s14_W.map (Proc.devRef (τ := τ) .tc)).toFinset :=
  StableHlo.forall_writes_sub_of_map rfl

/-- The cotangent of the input gate. -/
abbrev s15 : Ops F :=
  [ StableHlo.unary main_v1 main_v114 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v110 main_v114 main_v115 (mulf : (⟨S8192x1024, .f32⟩ : BufTy).Contents (Elt F) → (⟨S8192x1024, .f32⟩ : BufTy).Contents (Elt F) → (⟨S8192x1024, .f32⟩ : BufTy).Contents (Elt F)),
    StableHlo.nullary main_cst_20 (constant S_ .f32 0xC1000000#32),
    StableHlo.unary main_cst_20 main_v116 (broadcastInDim S8192x1024 ![] bcast_S_S8192x1024 : (⟨S_, .f32⟩ : BufTy).Contents (Elt F) → (⟨S8192x1024, .f32⟩ : BufTy).Contents (Elt F)),
    StableHlo.binary main_v116 main_v115 main_v117 (mulf : (⟨S8192x1024, .f32⟩ : BufTy).Contents (Elt F) → (⟨S8192x1024, .f32⟩ : BufTy).Contents (Elt F) → (⟨S8192x1024, .f32⟩ : BufTy).Contents (Elt F)),
    StableHlo.reshape main_v103 main_v118 (rfl : (.f32 : EltTy) = .f32) shapeCasts_S8192x1024_S8192x4x256,
    StableHlo.binary main_v118 main_v66 main_v119 (mulf : (⟨S8192x4x256, .f32⟩ : BufTy).Contents (Elt F) → (⟨S8192x4x256, .f32⟩ : BufTy).Contents (Elt F) → (⟨S8192x4x256, .f32⟩ : BufTy).Contents (Elt F)),
    StableHlo.nullary main_cst_21 (constant S_ .f32 0x00000000#32),
    StableHlo.binary main_v119 main_cst_21 main_v120 ((fun x v => Host.reduceAdd x v reducesTo_S8192x4x256_S4x256_d0 h_S_) : (⟨S8192x4x256, .f32⟩ : BufTy).Contents (Elt F) → (⟨S_, .f32⟩ : BufTy).Contents (Elt F) → (⟨S4x256, .f32⟩ : BufTy).Contents (Elt F)),
    StableHlo.reshape main_v120 main_v121 (rfl : (.f32 : EltTy) = .f32) shapeCasts_S4x256_S1x4x256,
    StableHlo.nullary main_cst_22 (constant S_ .f32 0x00000000#32),
    StableHlo.binary main_v121 main_cst_22 main_v122 ((fun x v => Host.reduceAdd x v reducesTo_S1x4x256_S4x256_d0 h_S_) : (⟨S1x4x256, .f32⟩ : BufTy).Contents (Elt F) → (⟨S_, .f32⟩ : BufTy).Contents (Elt F) → (⟨S4x256, .f32⟩ : BufTy).Contents (Elt F)) ]
theorem s15_sub : (s15 : Ops F).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.reshape_bufs_sub .., StableHlo.binary_bufs_sub .., StableHlo.nullary_bufs_sub .., StableHlo.binary_bufs_sub .., StableHlo.reshape_bufs_sub .., StableHlo.nullary_bufs_sub .., StableHlo.binary_bufs_sub ..⟩
theorem s15_fresh : (s15 : Ops F).Forall fun op => op.fresh = ∅ := StableHlo.forall_fresh_of_map rfl
abbrev s15_W : List (Ref sig .tc) := [main_v114, main_v115, main_cst_20, main_v116, main_v117, main_v118, main_v119, main_cst_21, main_v120, main_v121, main_cst_22, main_v122]
theorem s15_writes : (s15 : Ops F).Forall fun op => op.writes ⊆ (s15_W.map (Proc.devRef (τ := τ) .tc)).toFinset :=
  StableHlo.forall_writes_sub_of_map rfl

/-- The products of the input gate and the cotangent of the recurrence gate. -/
abbrev s16 : Ops F :=
  [ StableHlo.unary main_v119 main_v123 ((transpose S4x256x8192 [1, 2, 0] · transposes_S8192x4x256_S4x256x8192_1_2_0) : (⟨S8192x4x256, .f32⟩ : BufTy).Contents (Elt F) → (⟨S4x256x8192, .f32⟩ : BufTy).Contents (Elt F)),
    StableHlo.binary main_v123 main_arg6 main_v124 ((fun l r => Host.dotGeneral dot_S4x256x8192_S4x256x256_S4x8192x256_1_2_2_1_0_0 none l r) : (⟨S4x256x8192, .f32⟩ : BufTy).Contents (Elt F) → (⟨S4x256x256, .f32⟩ : BufTy).Contents (Elt F) → (⟨S4x8192x256, .f32⟩ : BufTy).Contents (Elt F)),
    StableHlo.unary main_v124 main_v125 ((transpose S8192x4x256 [1, 0, 2] · transposes_S4x8192x256_S8192x4x256_1_0_2) : (⟨S4x8192x256, .f32⟩ : BufTy).Contents (Elt F) → (⟨S8192x4x256, .f32⟩ : BufTy).Contents (Elt F)),
    StableHlo.binary main_v123 main_v37 main_v126 ((fun l r => Host.dotGeneral dot_S4x256x8192_S8192x4x256_S4x256x256_2_0_1_2_0_1 none l r) : (⟨S4x256x8192, .f32⟩ : BufTy).Contents (Elt F) → (⟨S8192x4x256, .f32⟩ : BufTy).Contents (Elt F) → (⟨S4x256x256, .f32⟩ : BufTy).Contents (Elt F)),
    StableHlo.unary main_v126 main_v127 ((transpose S4x256x256 [0, 2, 1] · transposes_S4x256x256_S4x256x256_0_2_1) : (⟨S4x256x256, .f32⟩ : BufTy).Contents (Elt F) → (⟨S4x256x256, .f32⟩ : BufTy).Contents (Elt F)),
    StableHlo.reshape main_v117 main_v128 (rfl : (.f32 : EltTy) = .f32) shapeCasts_S8192x1024_S8192x4x256,
    StableHlo.binary main_v128 main_v51 main_v129 (mulf : (⟨S8192x4x256, .f32⟩ : BufTy).Contents (Elt F) → (⟨S8192x4x256, .f32⟩ : BufTy).Contents (Elt F) → (⟨S8192x4x256, .f32⟩ : BufTy).Contents (Elt F)),
    StableHlo.nullary main_cst_23 (constant S_ .f32 0x00000000#32),
    StableHlo.binary main_v129 main_cst_23 main_v130 ((fun x v => Host.reduceAdd x v reducesTo_S8192x4x256_S4x256_d0 h_S_) : (⟨S8192x4x256, .f32⟩ : BufTy).Contents (Elt F) → (⟨S_, .f32⟩ : BufTy).Contents (Elt F) → (⟨S4x256, .f32⟩ : BufTy).Contents (Elt F)),
    StableHlo.reshape main_v130 main_v131 (rfl : (.f32 : EltTy) = .f32) shapeCasts_S4x256_S1x4x256,
    StableHlo.nullary main_cst_24 (constant S_ .f32 0x00000000#32),
    StableHlo.binary main_v131 main_cst_24 main_v132 ((fun x v => Host.reduceAdd x v reducesTo_S1x4x256_S4x256_d0 h_S_) : (⟨S1x4x256, .f32⟩ : BufTy).Contents (Elt F) → (⟨S_, .f32⟩ : BufTy).Contents (Elt F) → (⟨S4x256, .f32⟩ : BufTy).Contents (Elt F)) ]
theorem s16_sub : (s16 : Ops F).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.reshape_bufs_sub .., StableHlo.binary_bufs_sub .., StableHlo.nullary_bufs_sub .., StableHlo.binary_bufs_sub .., StableHlo.reshape_bufs_sub .., StableHlo.nullary_bufs_sub .., StableHlo.binary_bufs_sub ..⟩
theorem s16_fresh : (s16 : Ops F).Forall fun op => op.fresh = ∅ := StableHlo.forall_fresh_of_map rfl
abbrev s16_W : List (Ref sig .tc) := [main_v123, main_v124, main_v125, main_v126, main_v127, main_v128, main_v129, main_cst_23, main_v130, main_v131, main_cst_24, main_v132]
theorem s16_writes : (s16 : Ops F).Forall fun op => op.writes ⊆ (s16_W.map (Proc.devRef (τ := τ) .tc)).toFinset :=
  StableHlo.forall_writes_sub_of_map rfl

/-- The products of the recurrence gate. -/
abbrev s17 : Ops F :=
  [ StableHlo.unary main_v129 main_v133 ((transpose S4x256x8192 [1, 2, 0] · transposes_S8192x4x256_S4x256x8192_1_2_0) : (⟨S8192x4x256, .f32⟩ : BufTy).Contents (Elt F) → (⟨S4x256x8192, .f32⟩ : BufTy).Contents (Elt F)),
    StableHlo.binary main_v133 main_arg4 main_v134 ((fun l r => Host.dotGeneral dot_S4x256x8192_S4x256x256_S4x8192x256_1_2_2_1_0_0 none l r) : (⟨S4x256x8192, .f32⟩ : BufTy).Contents (Elt F) → (⟨S4x256x256, .f32⟩ : BufTy).Contents (Elt F) → (⟨S4x8192x256, .f32⟩ : BufTy).Contents (Elt F)),
    StableHlo.unary main_v134 main_v135 ((transpose S8192x4x256 [1, 0, 2] · transposes_S4x8192x256_S8192x4x256_1_0_2) : (⟨S4x8192x256, .f32⟩ : BufTy).Contents (Elt F) → (⟨S8192x4x256, .f32⟩ : BufTy).Contents (Elt F)),
    StableHlo.binary main_v125 main_v135 main_v136 (addf : (⟨S8192x4x256, .f32⟩ : BufTy).Contents (Elt F) → (⟨S8192x4x256, .f32⟩ : BufTy).Contents (Elt F) → (⟨S8192x4x256, .f32⟩ : BufTy).Contents (Elt F)),
    StableHlo.binary main_v133 main_v37 main_v137 ((fun l r => Host.dotGeneral dot_S4x256x8192_S8192x4x256_S4x256x256_2_0_1_2_0_1 none l r) : (⟨S4x256x8192, .f32⟩ : BufTy).Contents (Elt F) → (⟨S8192x4x256, .f32⟩ : BufTy).Contents (Elt F) → (⟨S4x256x256, .f32⟩ : BufTy).Contents (Elt F)),
    StableHlo.unary main_v137 main_v138 ((transpose S4x256x256 [0, 2, 1] · transposes_S4x256x256_S4x256x256_0_2_1) : (⟨S4x256x256, .f32⟩ : BufTy).Contents (Elt F) → (⟨S4x256x256, .f32⟩ : BufTy).Contents (Elt F)),
    StableHlo.reshape main_v136 main_v139 (rfl : (.f32 : EltTy) = .f32) shapeCasts_S8192x4x256_S8192x1024 ]
theorem s17_sub : (s17 : Ops F).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.reshape_bufs_sub ..⟩
theorem s17_fresh : (s17 : Ops F).Forall fun op => op.fresh = ∅ := StableHlo.forall_fresh_of_map rfl
abbrev s17_W : List (Ref sig .tc) := [main_v133, main_v134, main_v135, main_v136, main_v137, main_v138, main_v139]
theorem s17_writes : (s17 : Ops F).Forall fun op => op.writes ⊆ (s17_W.map (Proc.devRef (τ := τ) .tc)).toFinset :=
  StableHlo.forall_writes_sub_of_map rfl

/-- The convolution's gradients: the two latest taps. -/
abbrev s18 : Ops F :=
  [ StableHlo.binary main_v102 main_v139 main_v140 (addf : (⟨S8192x1024, .f32⟩ : BufTy).Contents (Elt F) → (⟨S8192x1024, .f32⟩ : BufTy).Contents (Elt F) → (⟨S8192x1024, .f32⟩ : BufTy).Contents (Elt F)),
    StableHlo.unary main_v33 main_v141 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v141 main_v140 main_v142 (mulf : (⟨S8192x1024, .f32⟩ : BufTy).Contents (Elt F) → (⟨S8192x1024, .f32⟩ : BufTy).Contents (Elt F) → (⟨S8192x1024, .f32⟩ : BufTy).Contents (Elt F)),
    StableHlo.binary main_v140 main_v32 main_v143 (mulf : (⟨S8192x1024, .f32⟩ : BufTy).Contents (Elt F) → (⟨S8192x1024, .f32⟩ : BufTy).Contents (Elt F) → (⟨S8192x1024, .f32⟩ : BufTy).Contents (Elt F)),
    StableHlo.nullary main_cst_25 (constant S_ .f32 0x00000000#32),
    StableHlo.binary main_v143 main_cst_25 main_v144 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.reshape main_v144 main_v145 (rfl : (.f32 : EltTy) = .f32) shapeCasts_S1024_S1x1024,
    StableHlo.nullary main_cst_26 (constant S_ .f32 0x00000000#32),
    StableHlo.binary main_v145 main_cst_26 main_v146 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    StableHlo.nullary main_cst_27 (constant S_ .f32 0x00000000#32),
    StableHlo.binary main_v142 main_cst_27 main_v147 ((fun x v => pad S8195x1024 ![3, 0] ![0, 0] ![0, 0] x v pads_S8192x1024_S8195x1024_300_000 h_S_) : (⟨S8192x1024, .f32⟩ : BufTy).Contents (Elt F) → (⟨S_, .f32⟩ : BufTy).Contents (Elt F) → (⟨S8195x1024, .f32⟩ : BufTy).Contents (Elt F)),
    StableHlo.unary main_v146 main_v148 (broadcastInDim S1x1024 ![1] bcast_S1024_S1x1024_1 : (⟨S1024, .f32⟩ : BufTy).Contents (Elt F) → (⟨S1x1024, .f32⟩ : BufTy).Contents (Elt F)),
    StableHlo.nullary main_cst_28 (constant S_ .f32 0x00000000#32),
    StableHlo.binary main_v148 main_cst_28 main_v149 ((fun x v => pad S4x1024 ![3, 0] ![0, 0] ![0, 0] x v pads_S1x1024_S4x1024_300_000 h_S_) : (⟨S1x1024, .f32⟩ : BufTy).Contents (Elt F) → (⟨S_, .f32⟩ : BufTy).Contents (Elt F) → (⟨S4x1024, .f32⟩ : BufTy).Contents (Elt F)),
    StableHlo.unary main_v26 main_v150 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v150 main_v140 main_v151 (mulf : (⟨S8192x1024, .f32⟩ : BufTy).Contents (Elt F) → (⟨S8192x1024, .f32⟩ : BufTy).Contents (Elt F) → (⟨S8192x1024, .f32⟩ : BufTy).Contents (Elt F)),
    StableHlo.binary main_v140 main_v25 main_v152 (mulf : (⟨S8192x1024, .f32⟩ : BufTy).Contents (Elt F) → (⟨S8192x1024, .f32⟩ : BufTy).Contents (Elt F) → (⟨S8192x1024, .f32⟩ : BufTy).Contents (Elt F)),
    StableHlo.nullary main_cst_29 (constant S_ .f32 0x00000000#32),
    StableHlo.binary main_v152 main_cst_29 main_v153 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.reshape main_v153 main_v154 (rfl : (.f32 : EltTy) = .f32) shapeCasts_S1024_S1x1024,
    StableHlo.nullary main_cst_30 (constant S_ .f32 0x00000000#32),
    StableHlo.binary main_v154 main_cst_30 main_v155 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    StableHlo.nullary main_cst_31 (constant S_ .f32 0x00000000#32),
    StableHlo.binary main_v151 main_cst_31 main_v156 ((fun x v => pad S8195x1024 ![2, 0] ![1, 0] ![0, 0] x v pads_S8192x1024_S8195x1024_210_000 h_S_) : (⟨S8192x1024, .f32⟩ : BufTy).Contents (Elt F) → (⟨S_, .f32⟩ : BufTy).Contents (Elt F) → (⟨S8195x1024, .f32⟩ : BufTy).Contents (Elt F)),
    StableHlo.binary main_v147 main_v156 main_v157 (addf : (⟨S8195x1024, .f32⟩ : BufTy).Contents (Elt F) → (⟨S8195x1024, .f32⟩ : BufTy).Contents (Elt F) → (⟨S8195x1024, .f32⟩ : BufTy).Contents (Elt F)) ]
theorem s18_sub : (s18 : Ops F).Forall fun op => op.bufs ⊆ StableHlo.tcRefs τ sig :=
  ⟨StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.unary_bufs_sub .., StableHlo.nullary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.binary_bufs_sub ..⟩
theorem s18_fresh : (s18 : Ops F).Forall fun op => op.fresh = ∅ := StableHlo.forall_fresh_of_map rfl
abbrev s18_W : List (Ref sig .tc) := [main_v140, main_v141, main_v142, main_v143, main_cst_25, main_v144, main_v145, main_cst_26, main_v146, main_cst_27, main_v147, main_v148, main_cst_28, main_v149, main_v150, main_v151, main_v152, main_cst_29, main_v153, main_v154, main_cst_30, main_v155, main_cst_31, main_v156, main_v157]
theorem s18_writes : (s18 : Ops F).Forall fun op => op.writes ⊆ (s18_W.map (Proc.devRef (τ := τ) .tc)).toFinset :=
  StableHlo.forall_writes_sub_of_map rfl

/-- The convolution's gradients: the third tap. -/
abbrev s19 : Ops F :=
  [ StableHlo.unary main_v155 main_v158 (broadcastInDim S1x1024 ![1] bcast_S1024_S1x1024_1 : (⟨S1024, .f32⟩ : BufTy).Contents (Elt F) → (⟨S1x1024, .f32⟩ : BufTy).Contents (Elt F)),
    StableHlo.nullary main_cst_32 (constant S_ .f32 0x00000000#32),
    StableHlo.binary main_v158 main_cst_32 main_v159 ((fun x v => pad S4x1024 ![2, 0] ![1, 0] ![0, 0] x v pads_S1x1024_S4x1024_210_000 h_S_) : (⟨S1x1024, .f32⟩ : BufTy).Contents (Elt F) → (⟨S_, .f32⟩ : BufTy).Contents (Elt F) → (⟨S4x1024, .f32⟩ : BufTy).Contents (Elt F)),
    StableHlo.binary main_v149 main_v159 main_v160 (addf : (⟨S4x1024, .f32⟩ : BufTy).Contents (Elt F) → (⟨S4x1024, .f32⟩ : BufTy).Contents (Elt F) → (⟨S4x1024, .f32⟩ : BufTy).Contents (Elt F)),
    StableHlo.unary main_v19 main_v161 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v161 main_v140 main_v162 (mulf : (⟨S8192x1024, .f32⟩ : BufTy).Contents (Elt F) → (⟨S8192x1024, .f32⟩ : BufTy).Contents (Elt F) → (⟨S8192x1024, .f32⟩ : BufTy).Contents (Elt F)),
    StableHlo.binary main_v140 main_v18 main_v163 (mulf : (⟨S8192x1024, .f32⟩ : BufTy).Contents (Elt F) → (⟨S8192x1024, .f32⟩ : BufTy).Contents (Elt F) → (⟨S8192x1024, .f32⟩ : BufTy).Contents (Elt F)),
    StableHlo.nullary main_cst_33 (constant S_ .f32 0x00000000#32),
    StableHlo.binary main_v163 main_cst_33 main_v164 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.reshape main_v164 main_v165 (rfl : (.f32 : EltTy) = .f32) shapeCasts_S1024_S1x1024,
    StableHlo.nullary main_cst_34 (constant S_ .f32 0x00000000#32),
    StableHlo.binary main_v165 main_cst_34 main_v166 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    StableHlo.nullary main_cst_35 (constant S_ .f32 0x00000000#32),
    StableHlo.binary main_v162 main_cst_35 main_v167 ((fun x v => pad S8195x1024 ![1, 0] ![2, 0] ![0, 0] x v pads_S8192x1024_S8195x1024_120_000 h_S_) : (⟨S8192x1024, .f32⟩ : BufTy).Contents (Elt F) → (⟨S_, .f32⟩ : BufTy).Contents (Elt F) → (⟨S8195x1024, .f32⟩ : BufTy).Contents (Elt F)),
    StableHlo.binary main_v157 main_v167 main_v168 (addf : (⟨S8195x1024, .f32⟩ : BufTy).Contents (Elt F) → (⟨S8195x1024, .f32⟩ : BufTy).Contents (Elt F) → (⟨S8195x1024, .f32⟩ : BufTy).Contents (Elt F)) ]
theorem s19_sub : (s19 : Ops F).Forall fun op => op.bufs ⊆ StableHlo.tcRefs τ sig :=
  ⟨StableHlo.unary_bufs_sub .., StableHlo.nullary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.binary_bufs_sub ..⟩
theorem s19_fresh : (s19 : Ops F).Forall fun op => op.fresh = ∅ := StableHlo.forall_fresh_of_map rfl
abbrev s19_W : List (Ref sig .tc) := [main_v158, main_cst_32, main_v159, main_v160, main_v161, main_v162, main_v163, main_cst_33, main_v164, main_v165, main_cst_34, main_v166, main_cst_35, main_v167, main_v168]
theorem s19_writes : (s19 : Ops F).Forall fun op => op.writes ⊆ (s19_W.map (Proc.devRef (τ := τ) .tc)).toFinset :=
  StableHlo.forall_writes_sub_of_map rfl

/-- The convolution's gradients: the first tap and the offset. -/
abbrev s20 : Ops F :=
  [ StableHlo.unary main_v166 main_v169 (broadcastInDim S1x1024 ![1] bcast_S1024_S1x1024_1 : (⟨S1024, .f32⟩ : BufTy).Contents (Elt F) → (⟨S1x1024, .f32⟩ : BufTy).Contents (Elt F)),
    StableHlo.nullary main_cst_36 (constant S_ .f32 0x00000000#32),
    StableHlo.binary main_v169 main_cst_36 main_v170 ((fun x v => pad S4x1024 ![1, 0] ![2, 0] ![0, 0] x v pads_S1x1024_S4x1024_120_000 h_S_) : (⟨S1x1024, .f32⟩ : BufTy).Contents (Elt F) → (⟨S_, .f32⟩ : BufTy).Contents (Elt F) → (⟨S4x1024, .f32⟩ : BufTy).Contents (Elt F)),
    StableHlo.binary main_v160 main_v170 main_v171 (addf : (⟨S4x1024, .f32⟩ : BufTy).Contents (Elt F) → (⟨S4x1024, .f32⟩ : BufTy).Contents (Elt F) → (⟨S4x1024, .f32⟩ : BufTy).Contents (Elt F)),
    StableHlo.nullary main_cst_37 (constant S_ .f32 0x00000000#32),
    StableHlo.binary main_v140 main_cst_37 main_v172 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.reshape main_v172 main_v173 (rfl : (.f32 : EltTy) = .f32) shapeCasts_S1024_S1x1024,
    StableHlo.unary main_v11 main_v174 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v174 main_v140 main_v175 (mulf : (⟨S8192x1024, .f32⟩ : BufTy).Contents (Elt F) → (⟨S8192x1024, .f32⟩ : BufTy).Contents (Elt F) → (⟨S8192x1024, .f32⟩ : BufTy).Contents (Elt F)),
    StableHlo.binary main_v140 main_v10 main_v176 (mulf : (⟨S8192x1024, .f32⟩ : BufTy).Contents (Elt F) → (⟨S8192x1024, .f32⟩ : BufTy).Contents (Elt F) → (⟨S8192x1024, .f32⟩ : BufTy).Contents (Elt F)),
    StableHlo.nullary main_cst_38 (constant S_ .f32 0x00000000#32),
    StableHlo.binary main_v176 main_cst_38 main_v177 ((fun x v => Host.reduceAdd x v reducesTo_S8192x1024_S1024_d0 h_S_) : (⟨S8192x1024, .f32⟩ : BufTy).Contents (Elt F) → (⟨S_, .f32⟩ : BufTy).Contents (Elt F) → (⟨S1024, .f32⟩ : BufTy).Contents (Elt F)),
    StableHlo.reshape main_v177 main_v178 (rfl : (.f32 : EltTy) = .f32) shapeCasts_S1024_S1x1024,
    StableHlo.nullary main_cst_39 (constant S_ .f32 0x00000000#32),
    StableHlo.binary main_v178 main_cst_39 main_v179 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    StableHlo.nullary main_cst_40 (constant S_ .f32 0x00000000#32),
    StableHlo.binary main_v175 main_cst_40 main_v180 ((fun x v => pad S8195x1024 ![0, 0] ![3, 0] ![0, 0] x v pads_S8192x1024_S8195x1024_030_000 h_S_) : (⟨S8192x1024, .f32⟩ : BufTy).Contents (Elt F) → (⟨S_, .f32⟩ : BufTy).Contents (Elt F) → (⟨S8195x1024, .f32⟩ : BufTy).Contents (Elt F)),
    StableHlo.binary main_v168 main_v180 main_v181 (addf : (⟨S8195x1024, .f32⟩ : BufTy).Contents (Elt F) → (⟨S8195x1024, .f32⟩ : BufTy).Contents (Elt F) → (⟨S8195x1024, .f32⟩ : BufTy).Contents (Elt F)),
    StableHlo.unary main_v179 main_v182 (broadcastInDim S1x1024 ![1] bcast_S1024_S1x1024_1 : (⟨S1024, .f32⟩ : BufTy).Contents (Elt F) → (⟨S1x1024, .f32⟩ : BufTy).Contents (Elt F)),
    StableHlo.nullary main_cst_41 (constant S_ .f32 0x00000000#32) ]
theorem s20_sub : (s20 : Ops F).Forall fun op => op.bufs ⊆ StableHlo.tcRefs τ sig :=
  ⟨StableHlo.unary_bufs_sub .., StableHlo.nullary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.nullary_bufs_sub .., StableHlo.binary_bufs_sub .., StableHlo.binary_bufs_sub .., StableHlo.unary_bufs_sub .., StableHlo.nullary_bufs_sub ..⟩
theorem s20_fresh : (s20 : Ops F).Forall fun op => op.fresh = ∅ := StableHlo.forall_fresh_of_map rfl
abbrev s20_W : List (Ref sig .tc) := [main_v169, main_cst_36, main_v170, main_v171, main_cst_37, main_v172, main_v173, main_v174, main_v175, main_v176, main_cst_38, main_v177, main_v178, main_cst_39, main_v179, main_cst_40, main_v180, main_v181, main_v182, main_cst_41]
theorem s20_writes : (s20 : Ops F).Forall fun op => op.writes ⊆ (s20_W.map (Proc.devRef (τ := τ) .tc)).toFinset :=
  StableHlo.forall_writes_sub_of_map rfl

/-- The taps' gradients together. -/
abbrev s21 : Ops F :=
  [ StableHlo.binary main_v182 main_cst_41 main_v183 ((fun x v => pad S4x1024 ![0, 0] ![3, 0] ![0, 0] x v pads_S1x1024_S4x1024_030_000 h_S_) : (⟨S1x1024, .f32⟩ : BufTy).Contents (Elt F) → (⟨S_, .f32⟩ : BufTy).Contents (Elt F) → (⟨S4x1024, .f32⟩ : BufTy).Contents (Elt F)),
    StableHlo.binary main_v171 main_v183 main_v184 (addf : (⟨S4x1024, .f32⟩ : BufTy).Contents (Elt F) → (⟨S4x1024, .f32⟩ : BufTy).Contents (Elt F) → (⟨S4x1024, .f32⟩ : BufTy).Contents (Elt F)) ]
theorem s21_sub : (s21 : Ops F).Forall fun op => op.bufs ⊆ StableHlo.tcRefs τ sig :=
  ⟨StableHlo.binary_bufs_sub .., StableHlo.binary_bufs_sub ..⟩
theorem s21_fresh : (s21 : Ops F).Forall fun op => op.fresh = ∅ := StableHlo.forall_fresh_of_map rfl
abbrev s21_W : List (Ref sig .tc) := [main_v183, main_v184]
theorem s21_writes : (s21 : Ops F).Forall fun op => op.writes ⊆ (s21_W.map (Proc.devRef (τ := τ) .tc)).toFinset :=
  StableHlo.forall_writes_sub_of_map rfl

/-- The results. -/
abbrev s22 : Ops F :=
  [ StableHlo.unary main_v181 main_v185 ((extractStridedSlice S3x1024 ![0, 0] · slices_S8195x1024_S3x1024_0_0) : (⟨S8195x1024, .f32⟩ : BufTy).Contents (Elt F) → (⟨S3x1024, .f32⟩ : BufTy).Contents (Elt F)),
    StableHlo.unary main_v181 main_v186 ((extractStridedSlice S8192x1024 ![3, 0] · slices_S8195x1024_S8192x1024_3_0) : (⟨S8195x1024, .f32⟩ : BufTy).Contents (Elt F) → (⟨S8192x1024, .f32⟩ : BufTy).Contents (Elt F)),
    StableHlo.nullary main_cst_42 (constant S_ .f32 0x00000000#32),
    StableHlo.unary main_cst_42 main_v187 (broadcastInDim S8192x4096 ![] bcast_S_S8192x4096 : (⟨S_, .f32⟩ : BufTy).Contents (Elt F) → (⟨S8192x4096, .f32⟩ : BufTy).Contents (Elt F)),
    StableHlo.nary ![main_v186, main_v95, main_v187] main_v188 (fun u => (concatenate S8192x6144 1 [⟨S8192x1024, (u 0 : (⟨S8192x1024, .f32⟩ : BufTy).Contents (Elt F))⟩, ⟨S8192x1024, (u 1 : (⟨S8192x1024, .f32⟩ : BufTy).Contents (Elt F))⟩, ⟨S8192x4096, (u 2 : (⟨S8192x4096, .f32⟩ : BufTy).Contents (Elt F))⟩] concatenates_S8192x1024_S8192x1024_S8192x4096_S8192x6144_d1 : (⟨S8192x6144, .f32⟩ : BufTy).Contents (Elt F))),
    StableHlo.unary main_v188 main_v189 ((extractStridedSlice S8192x1024 ![0, 0] · slices_S8192x6144_S8192x1024_0_0) : (⟨S8192x6144, .f32⟩ : BufTy).Contents (Elt F) → (⟨S8192x1024, .f32⟩ : BufTy).Contents (Elt F)),
    StableHlo.unary main_v188 main_v190 ((extractStridedSlice S8192x1024 ![0, 1024] · slices_S8192x6144_S8192x1024_0_1024) : (⟨S8192x6144, .f32⟩ : BufTy).Contents (Elt F) → (⟨S8192x1024, .f32⟩ : BufTy).Contents (Elt F)),
    StableHlo.unary main_v88 main_v191 ((truncf .bf16 · bitsLt_bf16_f32) : (⟨S8192x1024, .f32⟩ : BufTy).Contents (Elt F) → (⟨S8192x1024, .bf16⟩ : BufTy).Contents (Elt F)),
    StableHlo.unary main_v189 main_v192 (broadcastInDim S1x8192x1024 ![1, 2] bcast_S8192x1024_S1x8192x1024_1_2 : (⟨S8192x1024, .f32⟩ : BufTy).Contents (Elt F) → (⟨S1x8192x1024, .f32⟩ : BufTy).Contents (Elt F)),
    StableHlo.unary main_v190 main_v193 (broadcastInDim S1x8192x1024 ![1, 2] bcast_S8192x1024_S1x8192x1024_1_2 : (⟨S8192x1024, .f32⟩ : BufTy).Contents (Elt F) → (⟨S1x8192x1024, .f32⟩ : BufTy).Contents (Elt F)),
    StableHlo.binary main_v192 main_v193 main_v194 ((fun a b => concatenate S2x8192x1024 0 [⟨S1x8192x1024, a⟩, ⟨S1x8192x1024, b⟩] concatenates_S1x8192x1024_S1x8192x1024_S2x8192x1024_d0) : (⟨S1x8192x1024, .f32⟩ : BufTy).Contents (Elt F) → (⟨S1x8192x1024, .f32⟩ : BufTy).Contents (Elt F) → (⟨S2x8192x1024, .f32⟩ : BufTy).Contents (Elt F)),
    StableHlo.unary main_v194 main_v195 ((truncf .bf16 · bitsLt_bf16_f32) : (⟨S2x8192x1024, .f32⟩ : BufTy).Contents (Elt F) → (⟨S2x8192x1024, .bf16⟩ : BufTy).Contents (Elt F)),
    StableHlo.reshape main_v132 main_v196 (rfl : (.f32 : EltTy) = .f32) shapeCasts_S4x256_S1x1024,
    StableHlo.reshape main_v122 main_v197 (rfl : (.f32 : EltTy) = .f32) shapeCasts_S4x256_S1x1024 ]
theorem s22_sub : (s22 : Ops F).Forall fun op => op.bufs ⊆ StableHlo.tcRefs τ sig :=
  ⟨StableHlo.unary_bufs_sub .., StableHlo.unary_bufs_sub .., StableHlo.nullary_bufs_sub .., StableHlo.unary_bufs_sub .., StableHlo.nary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.reshape_bufs_sub .., StableHlo.reshape_bufs_sub ..⟩
theorem s22_fresh : (s22 : Ops F).Forall fun op => op.fresh = ∅ := StableHlo.forall_fresh_of_map rfl
abbrev s22_W : List (Ref sig .tc) := [main_v185, main_v186, main_cst_42, main_v187, main_v188, main_v189, main_v190, main_v191, main_v192, main_v193, main_v194, main_v195, main_v196, main_v197]
theorem s22_writes : (s22 : Ops F).Forall fun op => op.writes ⊆ (s22_W.map (Proc.devRef (τ := τ) .tc)).toFinset :=
  StableHlo.forall_writes_sub_of_map rfl

/-! The stretches between the loops, cut where the printed program is. -/

abbrev p0_0 : Ops F := s0 ++ s1 ++ s2 ++ s3 ++ s4

theorem part0_chain (c : Dev nD) : main_part0 (F := F) c = (Pipeline.chainK [] (StableHlo.seq p0_0) : Code F) := by
  chain_rfl

abbrev p1_0 : Ops F := s5 ++ s6 ++ s7
abbrev p1_2 : Ops F := s9 ++ s10 ++ s11

theorem part1_chain (c : Dev nD) : main_part1 (F := F) c = (Pipeline.chainK [StableHlo.seq p1_0, HostLoop.enter 0] (StableHlo.seq p1_2) : Code F) := by
  chain_rfl

abbrev p2_0 : Ops F := s12
abbrev p2_2 : Ops F := s14 ++ s15 ++ s16 ++ s17

theorem part2_chain (c : Dev nD) : main_part2 (F := F) c = (Pipeline.chainK [StableHlo.seq p2_0, HostLoop.enter 1] (StableHlo.seq p2_2) : Code F) := by
  chain_rfl

abbrev p3_0 : Ops F := s18 ++ s19 ++ s20

theorem part3_chain (c : Dev nD) : main_part3 (F := F) c = (Pipeline.chainK [] (StableHlo.seq p3_0) : Code F) := by
  chain_rfl

abbrev p4_0 : Ops F := s21 ++ s22

theorem part4_chain (c : Dev nD) : main_part4 (F := F) c = (Pipeline.chain [StableHlo.seq p4_0] : Code F) := by
  chain_rfl

/-- The program is the chain of its stretches and loops. -/
theorem main_chain (c : Dev nD) : main (F := F) c = (Pipeline.chain
  [StableHlo.seq p0_0, StableHlo.seq p1_0, HostLoop.enter 0, StableHlo.seq p1_2, StableHlo.seq p2_0, HostLoop.enter 1, StableHlo.seq p2_2, StableHlo.seq p3_0, StableHlo.seq p4_0] : Code F) := by
  show (main_part0 (F := F) c >>= fun _ => main_part1 (F := F) c >>= fun _ => main_part2 (F := F) c >>= fun _ => main_part3 (F := F) c >>= fun _ => main_part4 (F := F) c) = _
  rewrite [part4_chain, part3_chain, part2_chain, part1_chain, part0_chain, Pipeline.chainK_bind_chain, Pipeline.chainK_bind_chain, Pipeline.chainK_bind_chain, Pipeline.chainK_bind_chain]
  chain_rfl

theorem body0_chain : main_while0_body (F := F) = (Pipeline.chain [StableHlo.seq body0] : Code F) := by
  chain_rfl

theorem body1_chain : main_while1_body (F := F) = (Pipeline.chain [StableHlo.seq body1] : Code F) := by
  chain_rfl

end Cert.Lru.Ref

end
-- ==== Proof.Lru.RefRun.lean ====
/- The reference program's run: two counted loops of 8192 trips between stretches of operations. Every execution ends with
   each buffer at the contents the stretches and trips leave one after the other. -/
module

public import proofs.«01_k».proof.Proof.Lru.RefOps

@[expose] public section

set_option maxRecDepth 16384

noncomputable section

namespace Cert.Lru.Ref

open Cert.LruReferenceIdeal Cert.LruReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## The stretches -/

abbrev preI : List (Ops F) := [p0_0, p1_0]
abbrev midI : List (Ops F) := [p1_2, p2_0]
abbrev postI : List (Ops F) := [p2_2, p3_0, p4_0]

theorem forall_append {α : Type} {p : α → Prop} {l l' : List α} (h : l.Forall p) (h' : l'.Forall p) : (l ++ l').Forall p := by
  rw [List.forall_iff_forall_mem] at *
  intro x hx
  rcases List.mem_append.mp hx with hx | hx
  · exact h x hx
  · exact h' x hx

/-- A stretch touches the program's own buffers and allocates none. -/
def Good (ops : Ops F) : Prop := (ops.Forall fun op => op.bufs ⊆ StableHlo.tcRefs τ sig) ∧ ops.Forall fun op => op.fresh = ∅

theorem Good.append {a b : Ops F} (ha : Good a) (hb : Good b) : Good (a ++ b) :=
  ⟨forall_append ha.1 hb.1, forall_append ha.2 hb.2⟩

theorem plain_of {l : List (Ops F)} (h : ∀ ops ∈ l, Good ops) : Plain l := fun ops ho =>
  ⟨List.forall_iff_forall_mem.mp (h ops ho).1, List.forall_iff_forall_mem.mp (h ops ho).2⟩

theorem good_p0_0 : Good (p0_0 : Ops F) :=
  (((Good.append ⟨s0_sub, s0_fresh⟩ ⟨s1_sub, s1_fresh⟩).append ⟨s2_sub, s2_fresh⟩).append ⟨s3_sub, s3_fresh⟩).append ⟨s4_sub, s4_fresh⟩
theorem good_p1_0 : Good (p1_0 : Ops F) := (Good.append ⟨s5_sub, s5_fresh⟩ ⟨s6_sub, s6_fresh⟩).append ⟨s7_sub, s7_fresh⟩
theorem good_p1_2 : Good (p1_2 : Ops F) := (Good.append ⟨s9_sub, s9_fresh⟩ ⟨s10_sub, s10_fresh⟩).append ⟨s11_sub, s11_fresh⟩
theorem good_p2_2 : Good (p2_2 : Ops F) :=
  ((Good.append ⟨s14_sub, s14_fresh⟩ ⟨s15_sub, s15_fresh⟩).append ⟨s16_sub, s16_fresh⟩).append ⟨s17_sub, s17_fresh⟩
theorem good_p3_0 : Good (p3_0 : Ops F) := (Good.append ⟨s18_sub, s18_fresh⟩ ⟨s19_sub, s19_fresh⟩).append ⟨s20_sub, s20_fresh⟩
theorem good_p4_0 : Good (p4_0 : Ops F) := Good.append ⟨s21_sub, s21_fresh⟩ ⟨s22_sub, s22_fresh⟩

theorem hpre : Plain (preI (F := F)) := plain_of (by
  simp only [preI, List.mem_cons, List.not_mem_nil, or_false, forall_eq_or_imp, forall_eq]; exact ⟨good_p0_0, good_p1_0⟩)
theorem hmid : Plain (midI (F := F)) := plain_of (by
  simp only [midI, List.mem_cons, List.not_mem_nil, or_false, forall_eq_or_imp, forall_eq]; exact ⟨good_p1_2, ⟨s12_sub, s12_fresh⟩⟩)
theorem hpost : Plain (postI (F := F)) := plain_of (by
  simp only [postI, List.mem_cons, List.not_mem_nil, or_false, forall_eq_or_imp, forall_eq]; exact ⟨good_p2_2, good_p3_0, good_p4_0⟩)
theorem hbody0 : Plain ([body0] : List (Ops F)) := plain_of (by
  simp only [List.mem_cons, List.not_mem_nil, or_false, forall_eq]; exact ⟨body0_sub, body0_fresh⟩)
theorem hbody1 : Plain ([body1] : List (Ops F)) := plain_of (by
  simp only [List.mem_cons, List.not_mem_nil, or_false, forall_eq]; exact ⟨body1_sub, body1_fresh⟩)

/-! ## The contents after each -/

variable (m : (ℓ : Loc nD τ sig) → Buf (Elt F) ℓ)

/-- Before the first loop, inside it, after it; before the second loop, inside it, after it; at the end. -/
def E0 (c : Dev nD) : Valuation τ sig (Elt F) := afterL preI (launchContents m c)
def T0 (k : ℕ) (c : Dev nD) : Valuation τ sig (Elt F) := atTrip cond0 [body0] (E0 m) k c
def E1 (c : Dev nD) : Valuation τ sig (Elt F) := after cond0 (T0 m 8192 c)
def E2 (c : Dev nD) : Valuation τ sig (Elt F) := afterL midI (E1 m c)
def T1 (k : ℕ) (c : Dev nD) : Valuation τ sig (Elt F) := atTrip cond1 [body1] (E2 m) k c
def E3 (c : Dev nD) : Valuation τ sig (Elt F) := after cond1 (T1 m 8192 c)
def E4 (c : Dev nD) : Valuation τ sig (Elt F) := afterL postI (E3 m c)

/-- The contents before the loops' last stretches. -/
def B7 (c : Dev nD) : Valuation τ sig (Elt F) := after s6 (after s5 (after p0_0 (launchContents m c)))
theorem E0_eq (c : Dev nD) : E0 m c = after s7 (B7 m c) := by
  simp only [E0, B7, afterL_cons, afterL_nil, after_append]
theorem E2_eq (c : Dev nD) : E2 m c = after s12 (after p1_2 (E1 m c)) := by
  simp only [E2, afterL_cons, afterL_nil]
theorem T0_succ (k : ℕ) (c : Dev nD) : T0 m (k + 1) c = after body0 (after cond0 (T0 m k c)) := by
  simp only [T0, atTrip_succ, afterL_cons, afterL_nil]
theorem T1_succ (k : ℕ) (c : Dev nD) : T1 m (k + 1) c = after body1 (after cond1 (T1 m k c)) := by
  simp only [T1, atTrip_succ, afterL_cons, afterL_nil]

/-! ## The counters -/

theorem ctr0_step (X : Valuation τ sig (Elt F)) :
    after body0 X (Proc.devRef .tc main_v86_2) = addi (X (Proc.devRef .tc main_v86_2)) (constantI S_ 32 1#32) := by
  after_results; rfl
theorem ctr1_step (X : Valuation τ sig (Elt F)) :
    after body1 X (Proc.devRef .tc main_v99_3) = addi (X (Proc.devRef .tc main_v99_3)) (constantI S_ 32 1#32) := by
  after_results; rfl
theorem ctr0_entry (c : Dev nD) : E0 m c (Proc.devRef .tc main_v86_2) = fun _ => (0#32 : BitVec 32) := by
  rw [E0_eq]; after_results; rfl
theorem ctr1_entry (c : Dev nD) : E2 m c (Proc.devRef .tc main_v99_3) = fun _ => (0#32 : BitVec 32) := by
  rw [E2_eq]; after_results; rfl

theorem ctr0 (c : Dev nD) : ∀ k, T0 m k c (Proc.devRef .tc main_v86_2) = fun _ => Scf.iv 0#32 1#32 k
  | 0 => by rw [show T0 m 0 c = E0 m c from rfl, ctr0_entry, Scf.iv_zero]
  | k + 1 => by
    rw [T0_succ, ctr0_step, after_of_writes_sub cond0 _ cond0_writes (by decide +kernel), ctr0 c k, Scf.iv_succ]; rfl
theorem ctr1 (c : Dev nD) : ∀ k, T1 m k c (Proc.devRef .tc main_v99_3) = fun _ => Scf.iv 0#32 1#32 k
  | 0 => by rw [show T1 m 0 c = E2 m c from rfl, ctr1_entry, Scf.iv_zero]
  | k + 1 => by
    rw [T1_succ, ctr1_step, after_of_writes_sub cond1 _ cond1_writes (by decide +kernel), ctr1 c k, Scf.iv_succ]; rfl

/-! ## The conditions -/

/-- Carried beside the buffers: the core's tallies. -/
abbrev Rw (c : Dev nD) : sProp 𝕄 := iprop(∃ W, owes (c : Thread nD τ) (0 : CellTallies nD τ sig Unit) W)

set_option backward.isDefEq.respectTransparency.types false in
theorem cond0_spec : LoopCond (pcfgs (F := F)) defs₀ Variants.none loops Rw (main_while0_cond (F := F)) cond0 [body0] (E0 m) 8192 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v86_2 HostLoop.idx0)
        (HloOp.result _ (T0 m k c) main_while0c_c_48 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

set_option backward.isDefEq.respectTransparency.types false in
theorem cond1_spec : LoopCond (pcfgs (F := F)) defs₀ Variants.none loops Rw (main_while1_cond (F := F)) cond1 [body1] (E2 m) 8192 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v99_3 HostLoop.idx0)
        (HloOp.result _ (T1 m k c) main_while1c_c_49 HostLoop.idx0) = 1#1) (k < 8192)
    rw [nullary_result_ne _ _ _ _ (by decide), nullary_result, hctr]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

/-! ## The run -/

abbrev adm : (p : Fin 0) → ((pcfgs (F := F)) p).Adm := fun p => p.elim0
abbrev tk : Fin 0 → Ticket (Ix := Unit) (Name := ℕ) (U := Option PUnit) (Lvl := ℕ) (nD := nD) (τ := τ) (pcfgs (F := F)) adm := fun j => j.elim0
abbrev Lz : GSem nD τ sig → Finset Unit := fun _ => ∅
abbrev lvz : GSem nD τ sig → Unit → ℕ := fun _ _ => 0

/-- The program's segments. -/
def segs : List (CSeg (pcfgs (F := F)) adm defs₀ Variants.none Lz lvz loops tk) :=
  segsOf _ _ _ _ _ _ _ _ Rw preI hpre (launchContents m)
    ++ loopSeg _ _ _ _ _ _ _ _ 0 main_while0_cond main_while0_body rfl cond0 [body0] hbody0 body0_chain 8192 (E0 m) Rw (cond0_spec m)
      :: (segsOf _ _ _ _ _ _ _ _ Rw midI hmid (E1 m)
        ++ loopSeg _ _ _ _ _ _ _ _ 1 main_while1_cond main_while1_body rfl cond1 [body1] hbody1 body1_chain 8192 (E2 m) Rw (cond1_spec m)
          :: segsOf _ _ _ _ _ _ _ _ Rw postI hpost (E3 m))

theorem segs_prog (c : Dev nD) : main (F := F) c = Pipeline.chain ((segs m).map CSeg.prog) := by
  unfold segs
  rw [main_chain, List.map_append, List.map_cons, List.map_append, List.map_cons, segsOf_prog, segsOf_prog, segsOf_prog]
  rfl

theorem segs_chains :
    CSeg.Chains (fun c => iprop(held (c : Thread nD τ) (ucRefs τ sig) (launchContents m c) ∗ Rw c)) (segs m)
      (fun c => iprop(iprop(held (c : Thread nD τ) (ucRefs τ sig) (E4 m c)) ∗ ∃ W, owes (c : Thread nD τ) (0 : CellTallies nD τ sig Unit) W)) := by
  unfold segs
  exact CSeg.Chains.append (segsOf_chains _ _ _ _ _ _ _ _ Rw preI hpre _)
    ⟨fun _ => .rfl, CSeg.Chains.append (segsOf_chains _ _ _ _ _ _ _ _ Rw midI hmid _)
      ⟨fun _ => .rfl, segsOf_chains _ _ _ _ _ _ _ _ Rw postI hpost _⟩⟩

/-- Every execution terminates with each buffer at `E4`. -/
theorem run (ρ : Dev nD → PrngReg) : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = E4 m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none Lz lvz loops tk m ρ main (segs m)
    (fun c Q => by rw [segs_prog m c]; exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (E4 m c)))
    (hch := segs_chains m)
    (hinit := by
      refine Pipeline.initEach Lz lvz fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = E4 m c b)
    (hfin := fun c s' => by
      unfold held
      iintro ⟨Hh, HSI⟩
      ihave Hr := (pointsTo_read_all (ucRefs τ sig) (fun b => ((c : Dev nD), b)) (fun b => E4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## What is left alone -/

/-- A stretch writes at most the references of a list. -/
def Writes (ops : Ops F) (W : List (Ref sig .tc)) : Prop := ∀ op ∈ ops, op.writes ⊆ (W.map (Proc.devRef (τ := τ) .tc)).toFinset

theorem Writes.of {ops : Ops F} {W : List (Ref sig .tc)} (h : ops.Forall fun op => op.writes ⊆ (W.map (Proc.devRef (τ := τ) .tc)).toFinset) :
    Writes ops W := List.forall_iff_forall_mem.mp h

theorem Writes.append {a b : Ops F} {A B : List (Ref sig .tc)} (ha : Writes a A) (hb : Writes b B) : Writes (a ++ b) (A ++ B) := fun op h => by
  rw [List.map_append, List.toFinset_append]
  rcases List.mem_append.mp h with h | h
  · exact (ha op h).trans Finset.subset_union_left
  · exact (hb op h).trans Finset.subset_union_right

theorem Writes.keep {ops : Ops F} {W : List (Ref sig .tc)} (h : Writes ops W) {b : Ref sig .tc} (hb : b ∉ W) (V : Valuation τ sig (Elt F)) :
    after ops V (Proc.devRef .tc b) = V (Proc.devRef .tc b) :=
  after_of_writes_sub ops V (List.forall_iff_forall_mem.mpr h) hb

/-- The references the stretches and loops write. -/
abbrev pre_W : List (Ref sig .tc) := (s0_W ++ s1_W ++ s2_W ++ s3_W ++ s4_W) ++ (s5_W ++ s6_W ++ s7_W)
abbrev loop0_W : List (Ref sig .tc) := cond0_W ++ body0_W
abbrev mid_W : List (Ref sig .tc) := (s9_W ++ s10_W ++ s11_W) ++ s12_W
abbrev loop1_W : List (Ref sig .tc) := cond1_W ++ body1_W
abbrev post_W : List (Ref sig .tc) := (s14_W ++ s15_W ++ s16_W ++ s17_W) ++ (s18_W ++ s19_W ++ s20_W) ++ (s21_W ++ s22_W)

theorem writes_pre : Writes (p0_0 ++ p1_0 : Ops F) pre_W :=
  (((((Writes.of s0_writes).append (.of s1_writes)).append (.of s2_writes)).append (.of s3_writes)).append (.of s4_writes)).append
    (((Writes.of s5_writes).append (.of s6_writes)).append (.of s7_writes))
theorem writes_loop0 : Writes (cond0 ++ body0 : Ops F) loop0_W := (Writes.of cond0_writes).append (.of body0_writes)
theorem writes_mid : Writes (p1_2 ++ p2_0 : Ops F) mid_W :=
  (((Writes.of s9_writes).append (.of s10_writes)).append (.of s11_writes)).append (.of s12_writes)
theorem writes_loop1 : Writes (cond1 ++ body1 : Ops F) loop1_W := (Writes.of cond1_writes).append (.of body1_writes)
theorem writes_post : Writes (p2_2 ++ p3_0 ++ p4_0 : Ops F) post_W :=
  (((((Writes.of s14_writes).append (.of s15_writes)).append (.of s16_writes)).append (.of s17_writes)).append
    (((Writes.of s18_writes).append (.of s19_writes)).append (.of s20_writes))).append ((Writes.of s21_writes).append (.of s22_writes))

theorem E0_pre (c : Dev nD) : E0 m c = after (p0_0 ++ p1_0) (launchContents m c) := (after_append _ _ _).symm
theorem E2_mid (c : Dev nD) : E2 m c = after (p1_2 ++ p2_0) (E1 m c) := (after_append _ _ _).symm
theorem E4_post (c : Dev nD) : E4 m c = after (p2_2 ++ p3_0 ++ p4_0) (E3 m c) := by
  rw [after_append (p2_2 ++ p3_0), after_append p2_2]; rfl

theorem keep_pre {b : Ref sig .tc} (hb : b ∉ pre_W) (c : Dev nD) : E0 m c (Proc.devRef .tc b) = m ((c.tc : Thread nD τ).loc b) := by
  rw [E0_pre]; exact writes_pre.keep hb _
theorem keep_T0 {b : Ref sig .tc} (hb : b ∉ loop0_W) (c : Dev nD) (k : ℕ) : T0 m k c (Proc.devRef .tc b) = E0 m c (Proc.devRef .tc b) := by
  induction k with
  | zero => rfl
  | succ k ih => rw [T0_succ, ← after_append, writes_loop0.keep hb, ih]
theorem keep_E1 {b : Ref sig .tc} (hb : b ∉ loop0_W) (c : Dev nD) : E1 m c (Proc.devRef .tc b) = E0 m c (Proc.devRef .tc b) := by
  rw [E1, (Writes.of cond0_writes).keep (fun h => hb (List.mem_append_left _ h)), keep_T0 m hb]
theorem keep_mid {b : Ref sig .tc} (hb : b ∉ mid_W) (c : Dev nD) : E2 m c (Proc.devRef .tc b) = E1 m c (Proc.devRef .tc b) := by
  rw [E2_mid]; exact writes_mid.keep hb _
theorem keep_T1 {b : Ref sig .tc} (hb : b ∉ loop1_W) (c : Dev nD) (k : ℕ) : T1 m k c (Proc.devRef .tc b) = E2 m c (Proc.devRef .tc b) := by
  induction k with
  | zero => rfl
  | succ k ih => rw [T1_succ, ← after_append, writes_loop1.keep hb, ih]
theorem keep_E3 {b : Ref sig .tc} (hb : b ∉ loop1_W) (c : Dev nD) : E3 m c (Proc.devRef .tc b) = E2 m c (Proc.devRef .tc b) := by
  rw [E3, (Writes.of cond1_writes).keep (fun h => hb (List.mem_append_left _ h)), keep_T1 m hb]
theorem keep_post {b : Ref sig .tc} (hb : b ∉ post_W) (c : Dev nD) : E4 m c (Proc.devRef .tc b) = E3 m c (Proc.devRef .tc b) := by
  rw [E4_post]; exact writes_post.keep hb _

/-- A buffer no operation writes ends as it was. -/
theorem keep {b : Ref sig .tc} (h0 : b ∉ pre_W) (h1 : b ∉ loop0_W) (h2 : b ∉ mid_W) (h3 : b ∉ loop1_W) (h4 : b ∉ post_W) (c : Dev nD) :
    E4 m c (Proc.devRef .tc b) = m ((c.tc : Thread nD τ).loc b) := by
  rw [keep_post m h4, keep_E3 m h3, keep_mid m h2, keep_E1 m h1, keep_pre m h0]

end Cert.Lru.Ref

end
-- ==== Proof.Lru.RefVal0.lean ====
/- The reference's values up to its first loop: each stretch of operations, read at an index. -/
module

public import proofs.«01_k».proof.Proof.Common.Real
public import proofs.«01_k».proof.Proof.Lru.Model
public import proofs.«01_k».proof.Proof.Lru.RefRun
public import Idealize.ShloMosaic.Lib.StableHlo.ReadAt
public import Idealize.ShloMosaic.Lib.Pointwise

@[expose] public section

set_option maxRecDepth 16384

noncomputable section

namespace Cert.Lru.Ref

open Cert.LruReferenceIdeal Cert.LruReferenceIdeal.Gen
open Idealize.ShloMosaic Idealize.ShloMosaic.TcCoe Idealize.ShloMosaic.Tactic
open Idealize.ShloMosaic.StableHlo Cert.Common

variable (V : Valuation τ sig (Elt Ideal)) (d : Data)

/-- The decay rate. -/
theorem val_sp (h : At2 1 1024 (V (Proc.devRef .tc main_arg8)) fun _ b => d.lam b) :
    At2 1 1024 (after (s0 (F := Ideal)) V (Proc.devRef .tc main_v1)) fun _ b => d.sp b := by
  intro a b
  after_reads_at
  simp only [h, ne_eq, not_true, if_false, Ideal.absf_def, Ideal.log1p]
  rw [← EReal.coe_neg, ← EReal.coe_zero, max_real]
  erw [abs_real]
  rw [abs_neg]
  norm_cast
  rw [log_real (by positivity)]
  norm_cast

/-- The input under three rows of zeros. -/
theorem val_xp (h : At2 8192 6144 (V (Proc.devRef .tc main_arg0)) d.p) :
    At2 8195 1024 (after (s1 (F := Ideal)) V (Proc.devRef .tc main_v6)) d.xp := by
  intro a b
  after_reads_at
  pointwise [padRows]
  simp only [h, Data.xp, Data.x]
  by_cases ha : a.val < 3
  · rw [if_pos ha, dif_pos ha, EReal.coe_zero]
  · rw [if_neg ha, dif_neg ha]
theorem val_g (h : At2 8192 6144 (V (Proc.devRef .tc main_arg0)) d.p) :
    At2 8192 1024 (after (s1 (F := Ideal)) V (Proc.devRef .tc main_v3)) d.g := by
  intro a b
  after_reads_at
  simp only [h]
  rfl

/-- The convolution, and what its gradients keep of it. -/
theorem val_xc (hx : At2 8195 1024 (V (Proc.devRef .tc main_v6)) d.xp) (hw : At2 4 1024 (V (Proc.devRef .tc main_arg2)) d.cw)
    (hb : At2 1 1024 (V (Proc.devRef .tc main_arg3)) fun _ b => d.cb b) :
    At2 8192 1024 (after (s2 (F := Ideal)) V (Proc.devRef .tc main_v36)) d.xc := by
  intro a b
  after_reads_at
  simp only [hx, hw, hb]
  norm_cast
  rw [Data.xc, add_comm a.val 1, add_comm a.val 2, add_comm a.val 3]
  rfl
theorem val_cw0 (hw : At2 4 1024 (V (Proc.devRef .tc main_arg2)) d.cw) :
    At2 1 1024 (after (s2 (F := Ideal)) V (Proc.devRef .tc main_v11)) fun _ b => d.cw 0 b := by
  intro a b
  after_reads_at
  rw [hw]; rfl
theorem val_xs0 (hx : At2 8195 1024 (V (Proc.devRef .tc main_v6)) d.xp) :
    At2 8192 1024 (after (s2 (F := Ideal)) V (Proc.devRef .tc main_v10)) fun t b => d.xp (t + 0) b := by
  intro a b
  after_reads_at
  rw [hx]
theorem val_cw1 (hw : At2 4 1024 (V (Proc.devRef .tc main_arg2)) d.cw) :
    At2 1 1024 (after (s2 (F := Ideal)) V (Proc.devRef .tc main_v19)) fun _ b => d.cw 1 b := by
  intro a b
  after_reads_at
  rw [hw]; rfl
theorem val_xs1 (hx : At2 8195 1024 (V (Proc.devRef .tc main_v6)) d.xp) :
    At2 8192 1024 (after (s2 (F := Ideal)) V (Proc.devRef .tc main_v18)) fun t b => d.xp (t + 1) b := by
  intro a b
  after_reads_at
  rw [hx, add_comm a.val 1]
theorem val_cw2 (hw : At2 4 1024 (V (Proc.devRef .tc main_arg2)) d.cw) :
    At2 1 1024 (after (s2 (F := Ideal)) V (Proc.devRef .tc main_v26)) fun _ b => d.cw 2 b := by
  intro a b
  after_reads_at
  rw [hw]; rfl
theorem val_xs2 (hx : At2 8195 1024 (V (Proc.devRef .tc main_v6)) d.xp) :
    At2 8192 1024 (after (s2 (F := Ideal)) V (Proc.devRef .tc main_v25)) fun t b => d.xp (t + 2) b := by
  intro a b
  after_reads_at
  rw [hx, add_comm a.val 2]
theorem val_cw3 (hw : At2 4 1024 (V (Proc.devRef .tc main_arg2)) d.cw) :
    At2 1 1024 (after (s2 (F := Ideal)) V (Proc.devRef .tc main_v33)) fun _ b => d.cw 3 b := by
  intro a b
  after_reads_at
  rw [hw]; rfl
theorem val_xs3 (hx : At2 8195 1024 (V (Proc.devRef .tc main_v6)) d.xp) :
    At2 8192 1024 (after (s2 (F := Ideal)) V (Proc.devRef .tc main_v32)) fun t b => d.xp (t + 3) b := by
  intro a b
  after_reads_at
  rw [hx, add_comm a.val 3]

/-- The gates. -/
theorem val_r (hx : At2 8192 1024 (V (Proc.devRef .tc main_v36)) d.xc) (hw : At3 4 256 256 (V (Proc.devRef .tc main_arg4)) d.wa)
    (hb : At2 4 256 (V (Proc.devRef .tc main_arg5)) d.ba) :
    At2 8192 1024 (after (s3 (F := Ideal)) V (Proc.devRef .tc main_v52)) d.r := by
  intro a b
  after_reads_at
  simp only [hx, hw, hb]
  norm_cast
  rw [sigm_div, Data.r, Data.zr]
  simp only [mul_comm]
theorem val_rr (hx : At2 8192 1024 (V (Proc.devRef .tc main_v36)) d.xc) (hw : At3 4 256 256 (V (Proc.devRef .tc main_arg4)) d.wa)
    (hb : At2 4 256 (V (Proc.devRef .tc main_arg5)) d.ba) :
    At3 8192 4 256 (after (s3 (F := Ideal)) V (Proc.devRef .tc main_v51)) fun t n i => d.r t (n * 256 + i) * (1 - d.r t (n * 256 + i)) := by
  intro a b c
  after_reads_at
  simp only [hx, hw, hb]
  norm_cast
  rw [sigm_div, Data.r, Data.zr, blk_div, blk_mod]
  simp only [mul_comm]
  norm_cast
theorem val_xc3 (hx : At2 8192 1024 (V (Proc.devRef .tc main_v36)) d.xc) :
    At3 8192 4 256 (after (s3 (F := Ideal)) V (Proc.devRef .tc main_v37)) fun t n i => d.xc t (n * 256 + i) := by
  intro a b c
  after_reads_at
  simp only [hx]
theorem val_v54 (hx : At3 8192 4 256 (V (Proc.devRef .tc main_v37)) fun t n i => d.xc t (n * 256 + i))
    (hw : At3 4 256 256 (V (Proc.devRef .tc main_arg6)) d.wx) :
    At3 8192 4 256 (after (s4 (F := Ideal)) V (Proc.devRef .tc main_v54)) fun t n i => ∑ k : Fin 256, d.xc t (n * 256 + k) * d.wx n k i := by
  intro a b c
  after_reads_at
  simp only [hx, hw]
  norm_cast
  simp only [mul_comm]
theorem val_ig (hx : At3 8192 4 256 (V (Proc.devRef .tc main_v54)) fun t n i => ∑ k : Fin 256, d.xc t (n * 256 + k) * d.wx n k i)
    (hb : At2 4 256 (V (Proc.devRef .tc main_arg7)) d.bx) :
    At2 8192 1024 (after (s5 (F := Ideal)) V (Proc.devRef .tc main_v67)) d.ig := by
  intro a b
  after_reads_at
  simp only [hx, hb]
  norm_cast
  rw [sigm_div, Data.ig, Data.zi]
theorem val_igg (hx : At3 8192 4 256 (V (Proc.devRef .tc main_v54)) fun t n i => ∑ k : Fin 256, d.xc t (n * 256 + k) * d.wx n k i)
    (hb : At2 4 256 (V (Proc.devRef .tc main_arg7)) d.bx) :
    At3 8192 4 256 (after (s5 (F := Ideal)) V (Proc.devRef .tc main_v66)) fun t n i => d.ig t (n * 256 + i) * (1 - d.ig t (n * 256 + i)) := by
  intro a b c
  after_reads_at
  simp only [hx, hb]
  norm_cast
  rw [sigm_div, Data.ig, Data.zi, blk_div, blk_mod]
  norm_cast

/-- The decay, its complement, the gated input. -/
theorem val_v69 (hr : At2 8192 1024 (V (Proc.devRef .tc main_v52)) d.r) :
    At2 8192 1024 (after (s6 (F := Ideal)) V (Proc.devRef .tc main_v69)) fun t c => -8 * d.r t c := by
  intro a b
  after_reads_at
  rw [hr, ofBits_neg_eight, ← EReal.coe_mul]
theorem val_a (hr : At2 8192 1024 (V (Proc.devRef .tc main_v52)) d.r) (hs : At2 1 1024 (V (Proc.devRef .tc main_v1)) fun _ b => d.sp b) :
    At2 8192 1024 (after (s6 (F := Ideal)) V (Proc.devRef .tc main_v72)) d.a := by
  intro a b
  after_reads_at
  rw [hr, hs, ofBits_neg_eight, ← EReal.coe_mul, ← EReal.coe_mul]
  rfl
theorem val_aa (hr : At2 8192 1024 (V (Proc.devRef .tc main_v52)) d.r) (hs : At2 1 1024 (V (Proc.devRef .tc main_v1)) fun _ b => d.sp b) :
    At2 8192 1024 (after (s6 (F := Ideal)) V (Proc.devRef .tc main_v76)) fun t c => d.a t c * d.a t c := by
  intro a b
  after_reads_at
  rw [hr, hs, ofBits_neg_eight, ofBits_two, ← EReal.coe_mul, ← EReal.coe_mul, ← EReal.coe_mul, ← Data.exp_two_la]
  rfl
theorem root_read (t c : ℕ) : Ideal.sqrt (-(((d.a t c * d.a t c : ℝ) : EReal) - 1)) = ((d.s t c : ℝ) : EReal) := by
  rw [← EReal.coe_one, ← EReal.coe_sub, ← EReal.coe_neg, neg_sub, sqrt_real (d.om_pos t c).le, Data.s]
theorem val_s (hr : At2 8192 1024 (V (Proc.devRef .tc main_v52)) d.r) (hs : At2 1 1024 (V (Proc.devRef .tc main_v1)) fun _ b => d.sp b) :
    At2 8192 1024 (after (s6 (F := Ideal)) V (Proc.devRef .tc main_v78)) d.s := by
  intro a b
  have e := val_aa V d hr hs a b
  revert e
  after_reads_at
  intro e
  rw [e, root_read]
theorem val_hs (hr : At2 8192 1024 (V (Proc.devRef .tc main_v52)) d.r) (hs : At2 1 1024 (V (Proc.devRef .tc main_v1)) fun _ b => d.sp b) :
    At2 8192 1024 (after (s6 (F := Ideal)) V (Proc.devRef .tc main_v80)) fun t c => 1 / 2 / d.s t c := by
  intro a b
  have e := val_s V d hr hs a b
  revert e
  after_reads_at
  intro e
  rw [e, ofBits_half, div_real _ (d.s_pos _ _).ne']
theorem val_gx (hi : At2 8192 1024 (V (Proc.devRef .tc main_v67)) d.ig) (hx : At2 8192 1024 (V (Proc.devRef .tc main_v36)) d.xc) :
    At2 8192 1024 (after (s6 (F := Ideal)) V (Proc.devRef .tc main_v81)) d.gx := by
  intro a b
  after_reads_at
  rw [hi, hx, ← EReal.coe_mul]
  rfl
theorem val_u (hr : At2 8192 1024 (V (Proc.devRef .tc main_v52)) d.r) (hs : At2 1 1024 (V (Proc.devRef .tc main_v1)) fun _ b => d.sp b)
    (hi : At2 8192 1024 (V (Proc.devRef .tc main_v67)) d.ig) (hx : At2 8192 1024 (V (Proc.devRef .tc main_v36)) d.xc) :
    At2 8192 1024 (after (s6 (F := Ideal)) V (Proc.devRef .tc main_v82)) d.u := by
  intro a b
  have e := val_s V d hr hs a b
  revert e
  after_reads_at
  intro e
  rw [e, hi, hx, ← EReal.coe_mul, ← EReal.coe_mul]
  rfl

/-- What the first loop starts from. -/
theorem val_l0 (h : At2 8192 1024 (V (Proc.devRef .tc main_v72)) d.a) :
    At2 8192 1024 (after (s7 (F := Ideal)) V (Proc.devRef .tc main_v86_0)) d.a := by
  intro a b
  after_reads_at
  exact h a b
theorem val_l1 (h : At2 8192 1024 (V (Proc.devRef .tc main_v82)) d.u) :
    At2 8192 1024 (after (s7 (F := Ideal)) V (Proc.devRef .tc main_v86_1)) d.u := by
  intro a b
  after_reads_at
  exact h a b
theorem val_l3 : At1 1024 (after (s7 (F := Ideal)) V (Proc.devRef .tc main_v86_3)) fun _ => 0 := by
  intro a
  after_reads_at
  simp only [id_eq]
  pointwise
  exact EReal.coe_zero.symm

/-- The gate on the output. -/
theorem val_sg (h : At2 8192 1024 (V (Proc.devRef .tc main_v3)) d.g) :
    At2 8192 1024 (after (s9 (F := Ideal)) V (Proc.devRef .tc main_v87_2)) d.sg := by
  intro a b
  after_reads_at
  rw [h]
  norm_cast
  rw [sigm_div]
  rfl
theorem val_sgg (h : At2 8192 1024 (V (Proc.devRef .tc main_v3)) d.g) :
    At2 8192 1024 (after (s9 (F := Ideal)) V (Proc.devRef .tc main_v87_1)) fun t c => d.sg t c * (1 - d.sg t c) := by
  intro a b
  after_reads_at
  rw [h]
  norm_cast
  rw [sigm_div]
  norm_cast
theorem val_silu (h : At2 8192 1024 (V (Proc.devRef .tc main_v3)) d.g) :
    At2 8192 1024 (after (s9 (F := Ideal)) V (Proc.devRef .tc main_v87_0)) fun t c => d.g t c * d.sg t c := by
  intro a b
  after_reads_at
  rw [h]
  norm_cast
  rw [sigm_div]
  norm_cast
theorem val_y (h : At2 8192 1024 (V (Proc.devRef .tc main_v3)) d.g) (hh : At2 8192 1024 (V (Proc.devRef .tc main_v86_4)) fun t c => d.H (t + 1) c) :
    At2 8192 1024 (after (s9 (F := Ideal)) V (Proc.devRef .tc main_v88)) d.y := by
  intro a b
  after_reads_at
  rw [h, hh]
  norm_cast
  rw [sigm_div]
  norm_cast

/-- The cotangents of the state and of the gate. -/
theorem val_din (hc : At2 8192 1024 (V (Proc.devRef .tc main_arg9)) d.ct) (hw : At2 2048 1024 (V (Proc.devRef .tc main_arg1)) d.wo)
    (hs : At2 8192 1024 (V (Proc.devRef .tc main_v87_0)) fun t c => d.g t c * d.sg t c) :
    At2 8192 1024 (after (s10 (F := Ideal)) V (Proc.devRef .tc main_v94)) fun t c => (∑ j : Fin 1024, d.ct t j * d.wo c j) * (d.g t c * d.sg t c) := by
  intro a b
  after_reads_at
  simp only [hc, hw, hs]
  norm_cast
theorem val_dlg (hc : At2 8192 1024 (V (Proc.devRef .tc main_arg9)) d.ct) (hw : At2 2048 1024 (V (Proc.devRef .tc main_arg1)) d.wo)
    (hs : At2 8192 1024 (V (Proc.devRef .tc main_v87_2)) d.sg) (hss : At2 8192 1024 (V (Proc.devRef .tc main_v87_1)) fun t c => d.sg t c * (1 - d.sg t c))
    (h : At2 8192 1024 (V (Proc.devRef .tc main_v3)) d.g) (hh : At2 8192 1024 (V (Proc.devRef .tc main_v86_4)) fun t c => d.H (t + 1) c) :
    At2 8192 1024 (after (s10 (F := Ideal)) V (Proc.devRef .tc main_v95)) d.dlg := by
  intro a b
  after_reads_at
  simp only [hc, hw, hs, hss, h, hh]
  norm_cast
  rw [Data.dlg, Data.dy]
  ring

/-- What the second loop starts from. -/
theorem val_m0 (h : At2 8192 1024 (V (Proc.devRef .tc main_v94)) d.din) :
    At2 8192 1024 (after (s12 (F := Ideal)) V (Proc.devRef .tc main_v99_0)) d.din := by
  intro a b
  after_reads_at
  exact h a b
theorem val_m1 (h : At2 8192 1024 (V (Proc.devRef .tc main_v86_5)) d.H) :
    At2 8192 1024 (after (s12 (F := Ideal)) V (Proc.devRef .tc main_v99_1)) d.H := by
  intro a b
  after_reads_at
  exact h a b
theorem val_m2 (h : At2 8192 1024 (V (Proc.devRef .tc main_v72)) d.a) :
    At2 8192 1024 (after (s12 (F := Ideal)) V (Proc.devRef .tc main_v99_2)) d.a := by
  intro a b
  after_reads_at
  exact h a b
theorem val_z : At1 1024 (after (s11 (F := Ideal)) V (Proc.devRef .tc main_v96)) fun _ => 0 := by
  intro a
  after_reads_at
  exact EReal.coe_zero.symm
theorem val_m4 (h : At1 1024 (V (Proc.devRef .tc main_v96)) fun _ => 0) :
    At1 1024 (after (s12 (F := Ideal)) V (Proc.devRef .tc main_v99_4)) fun _ => 0 := by
  intro a
  after_reads_at
  exact h a

end Cert.Lru.Ref

end
-- ==== Proof.Lru.RefVal1.lean ====
/- The reference's values after its second loop: each stretch of operations, read at an index. -/
module

public import proofs.«01_k».proof.Proof.Common.Real
public import proofs.«01_k».proof.Proof.Lru.Model
public import proofs.«01_k».proof.Proof.Lru.RefRun
public import Idealize.ShloMosaic.Lib.StableHlo.ReadAt
public import Idealize.ShloMosaic.Lib.Pointwise

@[expose] public section

set_option maxRecDepth 16384

noncomputable section

namespace Cert.Lru.Ref

open Cert.LruReferenceIdeal Cert.LruReferenceIdeal.Gen
open Idealize.ShloMosaic Idealize.ShloMosaic.TcCoe Idealize.ShloMosaic.Tactic
open Idealize.ShloMosaic.StableHlo Cert.Common

variable (V : Valuation τ sig (Elt Ideal)) (d : Data)

/-- The decay's gradient. -/
theorem dla_eq (t c : ℕ) : 2 * (-(d.D t c * d.gx t c * (1 / 2 / d.s t c)) * (d.a t c * d.a t c)) + d.D t c * d.H t c * d.a t c = d.dla t c := by
  rw [Data.dla, div_eq_mul_inv]; ring

/-- What the stretch reads. -/
structure After (V : Valuation τ sig (Elt Ideal)) (d : Data) : Prop where
  dh : At2 8192 1024 (V (Proc.devRef .tc main_v99_6)) d.D
  da : At2 8192 1024 (V (Proc.devRef .tc main_v99_5)) fun t c => d.D t c * d.H t c
  a : At2 8192 1024 (V (Proc.devRef .tc main_v72)) d.a
  aa : At2 8192 1024 (V (Proc.devRef .tc main_v76)) fun t c => d.a t c * d.a t c
  s : At2 8192 1024 (V (Proc.devRef .tc main_v78)) d.s
  hs : At2 8192 1024 (V (Proc.devRef .tc main_v80)) fun t c => 1 / 2 / d.s t c
  gx : At2 8192 1024 (V (Proc.devRef .tc main_v81)) d.gx
  r8 : At2 8192 1024 (V (Proc.devRef .tc main_v69)) fun t c => -8 * d.r t c
  sp : At2 1 1024 (V (Proc.devRef .tc main_v1)) fun _ c => d.sp c
  xc : At2 8192 1024 (V (Proc.devRef .tc main_v36)) d.xc
  ig : At2 8192 1024 (V (Proc.devRef .tc main_v67)) d.ig

variable {V d}

theorem val_dmi (h : After V d) : At2 8192 1024 (after (s14 (F := Ideal)) V (Proc.devRef .tc main_v102)) fun t c => d.D t c * (d.s t c * d.ig t c) := by
  intro a b
  after_reads_at
  rw [h.ig, h.s, h.dh]
  norm_cast
  ring
theorem val_dmx (h : After V d) : At2 8192 1024 (after (s14 (F := Ideal)) V (Proc.devRef .tc main_v103)) fun t c => d.D t c * (d.s t c * d.xc t c) := by
  intro a b
  after_reads_at
  rw [h.xc, h.s, h.dh]
  norm_cast
  ring
theorem val_dla (h : After V d) : At2 8192 1024 (after (s14 (F := Ideal)) V (Proc.devRef .tc main_v110)) d.dla := by
  intro a b
  after_reads_at
  rw [h.dh, h.gx, h.hs, h.aa, h.da, h.a, ofBits_two]
  norm_cast
  exact dla_eq d a b
theorem val_dsp (h : After V d) : At2 1 1024 (after (s14 (F := Ideal)) V (Proc.devRef .tc main_v113)) fun _ c => d.dsp c := by
  intro a b
  after_reads_at
  simp only [h.dh _ _, h.gx _ _, h.hs _ _, h.aa _ _, h.da _ _, h.a _ _, h.r8 _ _, ofBits_two]
  norm_cast
  simp only [dla_eq, Data.dsp]
  exact Finset.sum_congr rfl fun t _ => by push_cast; ring

/-- The gates' gradients. -/
theorem val_v117 (h : At2 8192 1024 (V (Proc.devRef .tc main_v110)) d.dla) (hs : At2 1 1024 (V (Proc.devRef .tc main_v1)) fun _ c => d.sp c) :
    At2 8192 1024 (after (s15 (F := Ideal)) V (Proc.devRef .tc main_v117)) fun t c => d.dla t c * (-8 * d.sp c) := by
  intro a b
  after_reads_at
  rw [h, hs, ofBits_neg_eight]
  norm_cast
  ring
theorem val_dzi (h : At2 8192 1024 (V (Proc.devRef .tc main_v103)) fun t c => d.D t c * (d.s t c * d.xc t c))
    (hg : At3 8192 4 256 (V (Proc.devRef .tc main_v66)) fun t n i => d.ig t (n * 256 + i) * (1 - d.ig t (n * 256 + i))) :
    At3 8192 4 256 (after (s15 (F := Ideal)) V (Proc.devRef .tc main_v119)) fun t n i => d.dzi t (n * 256 + i) := by
  intro a b c
  after_reads_at
  rw [h, hg]
  norm_cast
theorem val_dbx (h : At2 8192 1024 (V (Proc.devRef .tc main_v103)) fun t c => d.D t c * (d.s t c * d.xc t c))
    (hg : At3 8192 4 256 (V (Proc.devRef .tc main_v66)) fun t n i => d.ig t (n * 256 + i) * (1 - d.ig t (n * 256 + i))) :
    At2 4 256 (after (s15 (F := Ideal)) V (Proc.devRef .tc main_v122)) fun n i => d.dbx (n * 256 + i) := by
  intro a b
  after_reads_at
  simp only [h _ _, hg _ _ _, ← EReal.coe_mul]
  rw [Finset.univ_unique, Finset.sum_singleton]
  exact (coe_fin_sum fun t : Fin 8192 => d.dzi t (a.val * 256 + b.val)).symm
theorem val_v125 (h : At3 8192 4 256 (V (Proc.devRef .tc main_v119)) fun t n i => d.dzi t (n * 256 + i)) (hw : At3 4 256 256 (V (Proc.devRef .tc main_arg6)) d.wx) :
    At3 8192 4 256 (after (s16 (F := Ideal)) V (Proc.devRef .tc main_v125)) fun t n i => ∑ j : Fin 256, d.dzi t (n * 256 + j) * d.wx n i j := by
  intro a b c
  after_reads_at
  simp only [h _ _ _, hw _ _ _]
  norm_cast
theorem val_dwx (h : At3 8192 4 256 (V (Proc.devRef .tc main_v119)) fun t n i => d.dzi t (n * 256 + i)) (hx : At3 8192 4 256 (V (Proc.devRef .tc main_v37)) fun t n i => d.xc t (n * 256 + i)) :
    At3 4 256 256 (after (s16 (F := Ideal)) V (Proc.devRef .tc main_v127)) d.dwx := by
  intro a b c
  after_reads_at
  simp only [h _ _ _, hx _ _ _, Data.dwx]
  norm_cast
  simp only [mul_comm]
theorem val_dzr (h : At2 8192 1024 (V (Proc.devRef .tc main_v117)) fun t c => d.dla t c * (-8 * d.sp c))
    (hg : At3 8192 4 256 (V (Proc.devRef .tc main_v51)) fun t n i => d.r t (n * 256 + i) * (1 - d.r t (n * 256 + i))) :
    At3 8192 4 256 (after (s16 (F := Ideal)) V (Proc.devRef .tc main_v129)) fun t n i => d.dzr t (n * 256 + i) := by
  intro a b c
  after_reads_at
  rw [h, hg]
  rw [← EReal.coe_mul]
  rfl
theorem val_dba (h : At2 8192 1024 (V (Proc.devRef .tc main_v117)) fun t c => d.dla t c * (-8 * d.sp c))
    (hg : At3 8192 4 256 (V (Proc.devRef .tc main_v51)) fun t n i => d.r t (n * 256 + i) * (1 - d.r t (n * 256 + i))) :
    At2 4 256 (after (s16 (F := Ideal)) V (Proc.devRef .tc main_v132)) fun n i => d.dba (n * 256 + i) := by
  intro a b
  after_reads_at
  simp only [h _ _, hg _ _ _, ← EReal.coe_mul]
  rw [Finset.univ_unique, Finset.sum_singleton]
  exact (coe_fin_sum fun t : Fin 8192 => d.dzr t (a.val * 256 + b.val)).symm
theorem val_v139 (h5 : At3 8192 4 256 (V (Proc.devRef .tc main_v125)) fun t n i => ∑ j : Fin 256, d.dzi t (n * 256 + j) * d.wx n i j)
    (h : At3 8192 4 256 (V (Proc.devRef .tc main_v129)) fun t n i => d.dzr t (n * 256 + i)) (hw : At3 4 256 256 (V (Proc.devRef .tc main_arg4)) d.wa) :
    At2 8192 1024 (after (s17 (F := Ideal)) V (Proc.devRef .tc main_v139)) fun t c =>
      (∑ j : Fin 256, d.dzr t (c / 256 * 256 + j) * d.wa (c / 256) (c % 256) j) + ∑ j : Fin 256, d.dzi t (c / 256 * 256 + j) * d.wx (c / 256) (c % 256) j := by
  intro a b
  after_reads_at
  simp only [h5 _ _ _, h _ _ _, hw _ _ _]
  norm_cast
  rw [add_comm]
theorem val_dwa (h : At3 8192 4 256 (V (Proc.devRef .tc main_v129)) fun t n i => d.dzr t (n * 256 + i)) (hx : At3 8192 4 256 (V (Proc.devRef .tc main_v37)) fun t n i => d.xc t (n * 256 + i)) :
    At3 4 256 256 (after (s17 (F := Ideal)) V (Proc.devRef .tc main_v138)) d.dwa := by
  intro a b c
  after_reads_at
  simp only [h _ _ _, hx _ _ _, Data.dwa]
  norm_cast
  simp only [mul_comm]

/-- The convolution's gradients. -/
structure Conv (V : Valuation τ sig (Elt Ideal)) (d : Data) : Prop where
  dmi : At2 8192 1024 (V (Proc.devRef .tc main_v102)) fun t c => d.D t c * (d.s t c * d.ig t c)
  dg : At2 8192 1024 (V (Proc.devRef .tc main_v139)) fun t c =>
      (∑ j : Fin 256, d.dzr t (c / 256 * 256 + j) * d.wa (c / 256) (c % 256) j) + ∑ j : Fin 256, d.dzi t (c / 256 * 256 + j) * d.wx (c / 256) (c % 256) j
  w0 : At2 1 1024 (V (Proc.devRef .tc main_v11)) fun _ c => d.cw 0 c
  w1 : At2 1 1024 (V (Proc.devRef .tc main_v19)) fun _ c => d.cw 1 c
  w2 : At2 1 1024 (V (Proc.devRef .tc main_v26)) fun _ c => d.cw 2 c
  w3 : At2 1 1024 (V (Proc.devRef .tc main_v33)) fun _ c => d.cw 3 c
  x0 : At2 8192 1024 (V (Proc.devRef .tc main_v10)) fun t c => d.xp (t + 0) c
  x1 : At2 8192 1024 (V (Proc.devRef .tc main_v18)) fun t c => d.xp (t + 1) c
  x2 : At2 8192 1024 (V (Proc.devRef .tc main_v25)) fun t c => d.xp (t + 2) c
  x3 : At2 8192 1024 (V (Proc.devRef .tc main_v32)) fun t c => d.xp (t + 3) c

theorem val_dxc (h : Conv V d) : At2 8192 1024 (after (s18 (F := Ideal)) V (Proc.devRef .tc main_v140)) d.dxc := by
  intro a b
  after_reads_at
  rw [h.dmi, h.dg]
  norm_cast

/-- A product with a row, moved down by `k` rows. -/
def moved (d : Data) (k : ℕ) (j : ℕ) (m c : ℕ) : ℝ := if k ≤ m ∧ m - k < 8192 then d.cw j c * d.dxc (m - k) c else 0

theorem moved_read {k j m c : ℕ} {x : k ≤ m ∧ m - k < 8192 → EReal} (h : ∀ e, x e = ((d.cw j c * d.dxc (m - k) c : ℝ) : EReal)) :
    (if e : k ≤ m ∧ m - k < 8192 then x e else 0) = ((moved d k j m c : ℝ) : EReal) := by
  unfold moved
  by_cases e : k ≤ m ∧ m - k < 8192
  · rw [dif_pos e, if_pos e, h]
  · rw [dif_neg e, if_neg e, EReal.coe_zero]

theorem moved_read0 {m c : ℕ} {x : m < 8192 → EReal} (h : ∀ e, x e = ((d.cw 0 c * d.dxc m c : ℝ) : EReal)) :
    (if e : m < 8192 then x e else 0) = ((moved d 0 0 m c : ℝ) : EReal) := by
  unfold moved
  by_cases e : m < 8192
  · rw [dif_pos e, if_pos ⟨Nat.zero_le _, e⟩, h]; rfl
  · rw [dif_neg e, if_neg fun h => e h.2, EReal.coe_zero]

theorem val_v157 (h : Conv V d) : At2 8195 1024 (after (s18 (F := Ideal)) V (Proc.devRef .tc main_v157)) fun m c => moved d 3 3 m c + moved d 2 2 m c := by
  intro a b
  after_reads_at
  rw [moved_read (d := d) (k := 3) (j := 3) (c := b.val), moved_read (d := d) (k := 2) (j := 2) (c := b.val), ← EReal.coe_add]
  · intro e; rw [h.w2, h.dmi, h.dg]; norm_cast
  · intro e; rw [h.w3, h.dmi, h.dg]; norm_cast
theorem val_v168 (h : Conv V d) (h' : At2 8195 1024 (V (Proc.devRef .tc main_v157)) fun m c => moved d 3 3 m c + moved d 2 2 m c)
    (hx : At2 8192 1024 (V (Proc.devRef .tc main_v140)) d.dxc) :
    At2 8195 1024 (after (s19 (F := Ideal)) V (Proc.devRef .tc main_v168)) fun m c => moved d 3 3 m c + moved d 2 2 m c + moved d 1 1 m c := by
  intro a b
  after_reads_at
  rw [h', moved_read (d := d) (k := 1) (j := 1) (c := b.val), ← EReal.coe_add]
  intro e; rw [h.w1, hx]; norm_cast
theorem val_v181 (h : Conv V d) (h' : At2 8195 1024 (V (Proc.devRef .tc main_v168)) fun m c => moved d 3 3 m c + moved d 2 2 m c + moved d 1 1 m c)
    (hx : At2 8192 1024 (V (Proc.devRef .tc main_v140)) d.dxc) :
    At2 8195 1024 (after (s20 (F := Ideal)) V (Proc.devRef .tc main_v181)) fun m c => moved d 3 3 m c + moved d 2 2 m c + moved d 1 1 m c + moved d 0 0 m c := by
  intro a b
  after_reads_at
  rw [h', moved_read0 (d := d) (c := b.val), ← EReal.coe_add]
  intro e; rw [h.w0, hx]; norm_cast
theorem val_dcb (hx : At2 8192 1024 (V (Proc.devRef .tc main_v140)) d.dxc) :
    At2 1 1024 (after (s20 (F := Ideal)) V (Proc.devRef .tc main_v173)) fun _ c => d.dcb c := by
  intro a b
  after_reads_at
  simp only [hx _ _]
  norm_cast

/-- The convolution weights' gradient, row by row. -/
theorem sum_one (f : Fin 8192 → ℝ) : (∑ _x : Fin 1, ∑ x, ((f x : ℝ) : EReal)) = ((∑ x, f x : ℝ) : EReal) := by
  rw [Finset.univ_unique, Finset.sum_singleton, coe_fin_sum]

theorem val_v149 (h : Conv V d) : At2 4 1024 (after (s18 (F := Ideal)) V (Proc.devRef .tc main_v149)) fun k c => if k = 3 then d.dcw 3 c else 0 := by
  intro a b
  after_reads_at
  simp only [h.dmi _ _, h.dg _ _, h.x3 _ _, ← EReal.coe_mul, ← EReal.coe_add, sum_one]
  fin_cases a
  · exact EReal.coe_zero.symm
  · exact EReal.coe_zero.symm
  · exact EReal.coe_zero.symm
  · rfl
theorem val_v155 (h : Conv V d) : At1 1024 (after (s18 (F := Ideal)) V (Proc.devRef .tc main_v155)) fun c => d.dcw 2 c := by
  intro a
  after_reads_at
  simp only [h.dmi _ _, h.dg _ _, h.x2 _ _, ← EReal.coe_mul, ← EReal.coe_add, sum_one]
  rfl
theorem val_v160 (h9 : At2 4 1024 (V (Proc.devRef .tc main_v149)) fun k c => if k = 3 then d.dcw 3 c else 0)
    (h5 : At1 1024 (V (Proc.devRef .tc main_v155)) fun c => d.dcw 2 c) :
    At2 4 1024 (after (s19 (F := Ideal)) V (Proc.devRef .tc main_v160)) fun k c => if k = 3 then d.dcw 3 c else if k = 2 then d.dcw 2 c else 0 := by
  intro a b
  after_reads_at
  rw [h9, h5]
  fin_cases a
  · exact add_zero _
  · exact add_zero _
  · exact zero_add _
  · exact add_zero _
theorem val_v166 (h : Conv V d) (hx : At2 8192 1024 (V (Proc.devRef .tc main_v140)) d.dxc) :
    At1 1024 (after (s19 (F := Ideal)) V (Proc.devRef .tc main_v166)) fun c => d.dcw 1 c := by
  intro a
  after_reads_at
  simp only [hx _ _, h.x1 _ _, ← EReal.coe_mul, sum_one]
  rfl
theorem val_v171 (h9 : At2 4 1024 (V (Proc.devRef .tc main_v160)) fun k c => if k = 3 then d.dcw 3 c else if k = 2 then d.dcw 2 c else 0)
    (h5 : At1 1024 (V (Proc.devRef .tc main_v166)) fun c => d.dcw 1 c) :
    At2 4 1024 (after (s20 (F := Ideal)) V (Proc.devRef .tc main_v171)) fun k c => if k = 0 then 0 else d.dcw k c := by
  intro a b
  after_reads_at
  rw [h9, h5]
  fin_cases a
  · exact add_zero _
  · exact zero_add _
  · exact add_zero _
  · exact add_zero _
theorem val_v182 (h : Conv V d) (hx : At2 8192 1024 (V (Proc.devRef .tc main_v140)) d.dxc) :
    At2 1 1024 (after (s20 (F := Ideal)) V (Proc.devRef .tc main_v182)) fun _ c => d.dcw 0 c := by
  intro a b
  after_reads_at
  simp only [hx _ _, h.x0 _ _, ← EReal.coe_mul, sum_one]
  rfl
theorem val_z41 : (after (s20 (F := Ideal)) V (Proc.devRef .tc main_cst_41)) (Shape.Idx.first h_S_) = (0 : EReal) := by
  after_reads_at
theorem val_dcw (h1 : At2 4 1024 (V (Proc.devRef .tc main_v171)) fun k c => if k = 0 then 0 else d.dcw k c)
    (h2 : At2 1 1024 (V (Proc.devRef .tc main_v182)) fun _ c => d.dcw 0 c) (hz : V (Proc.devRef .tc main_cst_41) (Shape.Idx.first h_S_) = (0 : EReal)) :
    At2 4 1024 (after (s21 (F := Ideal)) V (Proc.devRef .tc main_v184)) d.dcw := by
  intro a b
  after_reads_at
  rw [h1, hz]
  simp only [h2 _ _]
  fin_cases a
  · exact zero_add _
  · exact add_zero _
  · exact add_zero _
  · exact add_zero _

/-- The results. -/
theorem val_ry (h : At2 8192 1024 (V (Proc.devRef .tc main_v88)) d.y) :
    At2 8192 1024 (after (s22 (F := Ideal)) V (Proc.devRef .tc main_v191)) d.y := by
  intro a b
  after_reads_at
  exact h a b
theorem dlx_eq (t c : ℕ) (ht : t < 8192) :
    moved d 3 3 (3 + t) c + moved d 2 2 (3 + t) c + moved d 1 1 (3 + t) c + moved d 0 0 (3 + t) c = d.dlx t c := by
  have e (k : ℕ) (hk : k ≤ 3) : moved d k k (3 + t) c = d.cw k c * d.dxcz (t + (3 - k)) c := by
    unfold moved Data.dxcz
    rw [show 3 + t - k = t + (3 - k) by omega]
    by_cases q : t + (3 - k) < 8192
    · rw [if_pos ⟨by omega, q⟩, if_pos q]
    · rw [if_neg fun h => q h.2, if_neg q, mul_zero]
  rw [e 3 (by omega), e 2 (by omega), e 1 (by omega), e 0 (by omega), Data.dlx]
  show d.cw 3 c * d.dxcz t c + d.cw 2 c * d.dxcz (t + 1) c + d.cw 1 c * d.dxcz (t + 2) c + d.cw 0 c * d.dxcz (t + 3) c = _
  ring
theorem val_rdp (h1 : At2 8195 1024 (V (Proc.devRef .tc main_v181)) fun m c => moved d 3 3 m c + moved d 2 2 m c + moved d 1 1 m c + moved d 0 0 m c)
    (h2 : At2 8192 1024 (V (Proc.devRef .tc main_v95)) d.dlg) :
    At3 2 8192 1024 (after (s22 (F := Ideal)) V (Proc.devRef .tc main_v195)) fun k t c => if k = 0 then d.dlx t c else d.dlg t c := by
  intro a b c
  after_reads_at
  after_reads_at
  fin_cases a
  · refine (dif_pos (by decide)).trans ?_
    after_reads_at
    exact (h1 _ _).trans (congrArg _ (dlx_eq _ _ b.isLt))
  · refine (dif_neg (by decide)).trans ?_
    after_reads_at
    exact h2 _ _
theorem val_rba (h : At2 4 256 (V (Proc.devRef .tc main_v132)) fun n i => d.dba (n * 256 + i)) :
    At2 1 1024 (after (s22 (F := Ideal)) V (Proc.devRef .tc main_v196)) fun _ c => d.dba c := by
  intro a b
  after_reads_at
  rw [h]
  exact congrArg (fun c => ((d.dba c : ℝ) : EReal)) (blk_eq b)
theorem val_rbx (h : At2 4 256 (V (Proc.devRef .tc main_v122)) fun n i => d.dbx (n * 256 + i)) :
    At2 1 1024 (after (s22 (F := Ideal)) V (Proc.devRef .tc main_v197)) fun _ c => d.dbx c := by
  intro a b
  after_reads_at
  rw [h]
  exact congrArg (fun c => ((d.dbx c : ℝ) : EReal)) (blk_eq b)

end Cert.Lru.Ref

end
-- ==== Proof.Lru.RefLoop.lean ====
/- The reference's two loops: after `k` trips the carried arrays hold the recurrence's first `k` times, forwards in the first
   loop and backwards in the second. -/
module

public import proofs.«01_k».proof.Proof.Common.Real
public import proofs.«01_k».proof.Proof.Lru.Model
public import proofs.«01_k».proof.Proof.Lru.RefRun
public import Idealize.ShloMosaic.Lib.StableHlo.ReadAt
public import Idealize.ShloMosaic.Lib.StableHlo.RunClose
public import Idealize.ShloMosaic.Lib.Pointwise

@[expose] public section

set_option maxRecDepth 16384

noncomputable section

namespace Cert.Lru.Ref

open Cert.LruReferenceIdeal Cert.LruReferenceIdeal.Gen
open Idealize.ShloMosaic Idealize.ShloMosaic.TcCoe Idealize.ShloMosaic.Tactic
open Idealize.ShloMosaic.StableHlo Cert.Common

/-- One row at a start. -/
abbrev rowAt (u : FVec Ideal S8192x1024 .f32) (st : Fin 2 → Int) : FVec Ideal S1024 .f32 :=
  shapeCast S1024 (Host.dynamicSlice S1x1024 u st sliceFits_S8192x1024_S1x1024) shapeCasts_S1x1024_S1024

/-- One row read at a start inside the array. -/
theorem row_read (u : FVec Ideal S8192x1024 .f32) (st : Fin 2 → Int) (k : ℕ) (hk : k < 8192) (h0 : st 0 = k) (h1 : st 1 = 0) (b : Fin 1024) :
    rowAt u st (ix1 b) = u (ix2 ⟨k, hk⟩ b) := by
  unfold rowAt
  pointwise
  refine congrArg u (congrArg₂ ix2 (Fin.ext ?_) (Fin.ext ?_))
  · exact Host.clampedStart_of_le (s := S8192x1024) (t := S1x1024) rfl _ _ k h0 (show k + 1 ≤ 8192 from hk)
  · show Host.clampedStart S8192x1024 S1x1024 _ st 1 + b.val = b.val
    rw [Host.clampedStart_of_le (s := S8192x1024) (t := S1x1024) rfl _ _ 0 h1 (by decide), zero_add]

/-- One row written at a start inside the array. -/
theorem row_write (u : FVec Ideal S8192x1024 .f32) (v : FVec Ideal S1024 .f32) (st : Fin 2 → Int) (k : ℕ) (hk : k < 8192) (h0 : st 0 = k) (h1 : st 1 = 0)
    (a : Fin 8192) (b : Fin 1024) :
    Host.dynamicUpdateSlice u (broadcastInDim S1x1024 ![1] bcast_S1024_S1x1024_1 v) st updateFits_S8192x1024_S1x1024 (ix2 a b)
      = if a.val = k then v (ix1 b) else u (ix2 a b) := by
  have e0 : Host.clampedStart S8192x1024 S1x1024 rfl st 0 = k := Host.clampedStart_of_le _ _ _ k h0 (show k + 1 ≤ 8192 from hk)
  have e1 : Host.clampedStart S8192x1024 S1x1024 rfl st 1 = 0 := Host.clampedStart_of_le _ _ _ 0 h1 (by decide)
  have hb := b.isLt
  pointwise
  by_cases e : a.val = k
  · rw [if_pos e, dif_pos (by rw [e0, e1]; omega)]
    exact congrArg v (congrArg ix1 (Fin.ext (by show b.val - Host.clampedStart S8192x1024 S1x1024 _ st 1 = b.val; rw [e1, Nat.sub_zero])))
  · rw [if_neg e, dif_neg (by rw [e0, e1]; omega)]

/-- The two loops' row numbers. -/
theorem iv_toInt (k : ℕ) (hk : k < 8192) : (Scf.iv 0#32 1#32 k : BitVec 32).toInt = k := by
  rw [Scf.iv_eq_ofInt]
  rw [BitVec.toInt_ofInt, Int.bmod_eq_of_le] <;> simp <;> omega
theorem rev_toInt (k : ℕ) (hk : k < 8192) : (8192#32 - Scf.iv 0#32 1#32 k - 1#32 : BitVec 32).toInt = (8191 - k : ℕ) := by
  rw [BitVec.toInt_sub, BitVec.toInt_sub, iv_toInt k hk]
  show (((8192 - (k : Int)).bmod (2 ^ 32)) - 1).bmod (2 ^ 32) = _
  rw [Int.bmod_eq_of_le (n := 8192 - (k : Int)) (by omega) (by omega), Int.bmod_eq_of_le (by omega) (by omega)]
  omega

/-- The starts the loops' rows are read and written at. -/
abbrev st0 (V : Valuation τ sig (Elt Ideal)) : Fin 2 → Int := fun k =>
  BitVec.toInt ((![V (Proc.devRef .tc main_v86_2), constantI S_ 32 0#32] : Fin 2 → S_.Idx → BitVec 32) k (Shape.Idx.first h_S_))
abbrev st1 (V : Valuation τ sig (Elt Ideal)) : Fin 2 → Int := fun k =>
  BitVec.toInt ((![subi (subi (constantI S_ 32 8192#32) (V (Proc.devRef .tc main_v99_3))) (constantI S_ 32 1#32), constantI S_ 32 0#32] : Fin 2 → S_.Idx → BitVec 32)
    k (Shape.Idx.first h_S_))
theorem st0_row {V : Valuation τ sig (Elt Ideal)} {k : ℕ} (hk : k < 8192) (hc : V (Proc.devRef .tc main_v86_2) = fun _ => Scf.iv 0#32 1#32 k) : st0 V 0 = k := by
  show BitVec.toInt (V (Proc.devRef .tc main_v86_2) (Shape.Idx.first h_S_)) = _
  rw [hc]; exact iv_toInt k hk
theorem st1_row {V : Valuation τ sig (Elt Ideal)} {k : ℕ} (hk : k < 8192) (hc : V (Proc.devRef .tc main_v99_3) = fun _ => Scf.iv 0#32 1#32 k) : st1 V 0 = (8191 - k : ℕ) := by
  show BitVec.toInt (8192#32 - V (Proc.devRef .tc main_v99_3) (Shape.Idx.first h_S_) - 1#32) = _
  rw [hc]; exact rev_toInt k hk

/-- The arrays after `k` times forwards. -/
structure Fwd (V : Valuation τ sig (Elt Ideal)) (d : Data) (k : ℕ) : Prop where
  a : At2 8192 1024 (V (Proc.devRef .tc main_v86_0)) d.a
  u : At2 8192 1024 (V (Proc.devRef .tc main_v86_1)) d.u
  c : At1 1024 (V (Proc.devRef .tc main_v86_3)) fun c => d.H k c
  h : ∀ (a : Fin 8192) (b : Fin 1024), a.val < k → V (Proc.devRef .tc main_v86_4) (ix2 a b) = ((d.H (a + 1) b : ℝ) : EReal)
  p : ∀ (a : Fin 8192) (b : Fin 1024), a.val < k → V (Proc.devRef .tc main_v86_5) (ix2 a b) = ((d.H a b : ℝ) : EReal)

/-- One time forwards. -/
theorem Fwd.step {V : Valuation τ sig (Elt Ideal)} {d : Data} {k : ℕ} (hk : k < 8192) (hc : V (Proc.devRef .tc main_v86_2) = fun _ => Scf.iv 0#32 1#32 k)
    (h : Fwd V d k) : Fwd (after (body0 (F := Ideal)) V) d (k + 1) := by
  have h0 := st0_row hk hc
  have hrow (b : Fin 1024) : addf (mulf (rowAt (V (Proc.devRef .tc main_v86_0)) (st0 V)) (V (Proc.devRef .tc main_v86_3)))
      (rowAt (V (Proc.devRef .tc main_v86_1)) (st0 V)) (ix1 b) = ((d.H (k + 1) b : ℝ) : EReal) := by
    show (rowAt (V (Proc.devRef .tc main_v86_0)) (st0 V) (ix1 b) * V (Proc.devRef .tc main_v86_3) (ix1 b) + rowAt (V (Proc.devRef .tc main_v86_1)) (st0 V) (ix1 b) : EReal) = _
    rw [row_read _ _ k hk h0 rfl, row_read _ _ k hk h0 rfl, h.a, h.u, h.c]
    norm_cast
  refine ⟨?_, ?_, ?_, ?_, ?_⟩
  · rw [(Writes.of body0_writes).keep (by decide +kernel)]; exact h.a
  · rw [(Writes.of body0_writes).keep (by decide +kernel)]; exact h.u
  · intro b
    after_results_simp_entrywise
    all_goals try simp -implicitDefEqProofs only [StableHlo.TRef.toBuf, StableHlo.TRef.ofBuf, cast_cast, cast_eq]
    all_goals clean_types
    exact hrow b
  · intro a b hab
    after_results_simp_entrywise
    all_goals try simp -implicitDefEqProofs only [StableHlo.TRef.toBuf, StableHlo.TRef.ofBuf, cast_cast, cast_eq]
    all_goals clean_types
    refine (row_write (V (Proc.devRef .tc main_v86_4)) _ (st0 V) k hk h0 rfl a b).trans ?_
    by_cases e : a.val = k
    · rw [if_pos e, e]; exact hrow b
    · rw [if_neg e]; exact h.h a b (by omega)
  · intro a b hab
    after_results_simp_entrywise
    all_goals try simp -implicitDefEqProofs only [StableHlo.TRef.toBuf, StableHlo.TRef.ofBuf, cast_cast, cast_eq]
    all_goals clean_types
    refine (row_write (V (Proc.devRef .tc main_v86_5)) (V (Proc.devRef .tc main_v86_3)) (st0 V) k hk h0 rfl a b).trans ?_
    by_cases e : a.val = k
    · rw [if_pos e]; exact (h.c b).trans (by rw [e])
    · rw [if_neg e]; exact h.p a b (by omega)

/-- The arrays after `k` times backwards. -/
structure Bwd (V : Valuation τ sig (Elt Ideal)) (d : Data) (k : ℕ) : Prop where
  i : At2 8192 1024 (V (Proc.devRef .tc main_v99_0)) d.din
  p : At2 8192 1024 (V (Proc.devRef .tc main_v99_1)) d.H
  a : At2 8192 1024 (V (Proc.devRef .tc main_v99_2)) d.a
  c : At1 1024 (V (Proc.devRef .tc main_v99_4)) fun c => d.E k c
  da : ∀ (a : Fin 8192) (b : Fin 1024), 8192 ≤ a.val + k → V (Proc.devRef .tc main_v99_5) (ix2 a b) = ((d.D a b * d.H a b : ℝ) : EReal)
  dh : ∀ (a : Fin 8192) (b : Fin 1024), 8192 ≤ a.val + k → V (Proc.devRef .tc main_v99_6) (ix2 a b) = ((d.D a b : ℝ) : EReal)

set_option maxHeartbeats 2000000 in
/-- One time backwards. -/
theorem Bwd.step {V : Valuation τ sig (Elt Ideal)} {d : Data} {k : ℕ} (hk : k < 8192) (hc : V (Proc.devRef .tc main_v99_3) = fun _ => Scf.iv 0#32 1#32 k)
    (h : Bwd V d k) : Bwd (after (body1 (F := Ideal)) V) d (k + 1) := by
  have ht : 8191 - k < 8192 := by omega
  have h0 := st1_row hk hc
  have hD (c : ℕ) : d.E k c + d.din (8191 - k) c = d.D (8191 - k) c := by rw [Data.D, Nat.sub_sub_self (by omega)]
  have hrow (b : Fin 1024) : addf (V (Proc.devRef .tc main_v99_4)) (rowAt (V (Proc.devRef .tc main_v99_0)) (st1 V)) (ix1 b) = ((d.D (8191 - k) b : ℝ) : EReal) := by
    refine (congrArg₂ (fun x y : EReal => x + y) (h.c b) ((row_read (V (Proc.devRef .tc main_v99_0)) (st1 V) (8191 - k) ht h0 rfl b).trans (h.i _ b))).trans ?_
    exact (EReal.coe_add _ _).symm.trans (congrArg _ (hD b))
  refine ⟨?_, ?_, ?_, ?_, ?_, ?_⟩
  · rw [(Writes.of body1_writes).keep (by decide +kernel)]; exact h.i
  · rw [(Writes.of body1_writes).keep (by decide +kernel)]; exact h.p
  · rw [(Writes.of body1_writes).keep (by decide +kernel)]; exact h.a
  · intro b
    after_results_simp_entrywise
    all_goals try simp -implicitDefEqProofs only [StableHlo.TRef.toBuf, StableHlo.TRef.ofBuf, cast_cast, cast_eq]
    all_goals clean_types
    show (rowAt (V (Proc.devRef .tc main_v99_2)) (st1 V) (ix1 b) * addf (V (Proc.devRef .tc main_v99_4)) (rowAt (V (Proc.devRef .tc main_v99_0)) (st1 V)) (ix1 b) : EReal) = _
    rw [row_read _ _ (8191 - k) ht h0 rfl, hrow, h.a, ← EReal.coe_mul, ← hD]
    rfl
  · intro a b hab
    after_results_simp_entrywise
    all_goals try simp -implicitDefEqProofs only [StableHlo.TRef.toBuf, StableHlo.TRef.ofBuf, cast_cast, cast_eq]
    all_goals clean_types
    rw [id_eq]
    refine (row_write _ _ (st1 V) (8191 - k) ht h0 rfl a b).trans ?_
    by_cases q : a.val = 8191 - k
    · rw [if_pos q]
      refine (congrArg₂ (fun x y : EReal => x * y) (hrow b) ((row_read (V (Proc.devRef .tc main_v99_1)) (st1 V) (8191 - k) ht h0 rfl b).trans (h.p _ b))).trans ?_
      rw [← EReal.coe_mul, q]
    · rw [if_neg q]; exact h.da a b (by omega)
  · intro a b hab
    after_results_simp_entrywise
    all_goals try simp -implicitDefEqProofs only [StableHlo.TRef.toBuf, StableHlo.TRef.ofBuf, cast_cast, cast_eq]
    all_goals clean_types
    rw [id_eq]
    refine (row_write _ _ (st1 V) (8191 - k) ht h0 rfl a b).trans ?_
    by_cases q : a.val = 8191 - k
    · rw [if_pos q, q]; exact hrow b
    · rw [if_neg q]; exact h.dh a b (by omega)

end Cert.Lru.Ref

end
-- ==== Proof.Lru.RefAll.lean ====
/- The reference's results: the stretches and loops one after the other. -/
module

public import proofs.«01_k».proof.Proof.Lru.RefVal0
public import proofs.«01_k».proof.Proof.Lru.RefVal1
public import proofs.«01_k».proof.Proof.Lru.RefLoop

@[expose] public section

set_option maxRecDepth 16384

noncomputable section

namespace Cert.Lru.Ref

open Cert.LruReferenceIdeal Cert.LruReferenceIdeal.Gen
open Idealize.ShloMosaic Idealize.ShloMosaic.TcCoe Idealize.ShloMosaic.Tactic
open Idealize.ShloMosaic.StableHlo Cert.Common

/-- The arguments, as arrays of reals. -/
structure Inputs (V : Valuation τ sig (Elt Ideal)) (d : Data) : Prop where
  p : At2 8192 6144 (V (Proc.devRef .tc main_arg0)) d.p
  wo : At2 2048 1024 (V (Proc.devRef .tc main_arg1)) d.wo
  cw : At2 4 1024 (V (Proc.devRef .tc main_arg2)) d.cw
  cb : At2 1 1024 (V (Proc.devRef .tc main_arg3)) fun _ c => d.cb c
  wa : At3 4 256 256 (V (Proc.devRef .tc main_arg4)) d.wa
  ba : At2 4 256 (V (Proc.devRef .tc main_arg5)) d.ba
  wx : At3 4 256 256 (V (Proc.devRef .tc main_arg6)) d.wx
  bx : At2 4 256 (V (Proc.devRef .tc main_arg7)) d.bx
  lam : At2 1 1024 (V (Proc.devRef .tc main_arg8)) fun _ c => d.lam c
  ct : At2 8192 1024 (V (Proc.devRef .tc main_arg9)) d.ct

/-! What a stretch does not write. -/
theorem k0 {b : Ref sig .tc} (hb : b ∉ s0_W) (V : Valuation τ sig (Elt Ideal)) : after s0 V (Proc.devRef .tc b) = V (Proc.devRef .tc b) := (Writes.of s0_writes).keep hb V
theorem k1 {b : Ref sig .tc} (hb : b ∉ s1_W) (V : Valuation τ sig (Elt Ideal)) : after s1 V (Proc.devRef .tc b) = V (Proc.devRef .tc b) := (Writes.of s1_writes).keep hb V
theorem k2 {b : Ref sig .tc} (hb : b ∉ s2_W) (V : Valuation τ sig (Elt Ideal)) : after s2 V (Proc.devRef .tc b) = V (Proc.devRef .tc b) := (Writes.of s2_writes).keep hb V
theorem k3 {b : Ref sig .tc} (hb : b ∉ s3_W) (V : Valuation τ sig (Elt Ideal)) : after s3 V (Proc.devRef .tc b) = V (Proc.devRef .tc b) := (Writes.of s3_writes).keep hb V
theorem k4 {b : Ref sig .tc} (hb : b ∉ s4_W) (V : Valuation τ sig (Elt Ideal)) : after s4 V (Proc.devRef .tc b) = V (Proc.devRef .tc b) := (Writes.of s4_writes).keep hb V
theorem k5 {b : Ref sig .tc} (hb : b ∉ s5_W) (V : Valuation τ sig (Elt Ideal)) : after s5 V (Proc.devRef .tc b) = V (Proc.devRef .tc b) := (Writes.of s5_writes).keep hb V
theorem k6 {b : Ref sig .tc} (hb : b ∉ s6_W) (V : Valuation τ sig (Elt Ideal)) : after s6 V (Proc.devRef .tc b) = V (Proc.devRef .tc b) := (Writes.of s6_writes).keep hb V
theorem k7 {b : Ref sig .tc} (hb : b ∉ s7_W) (V : Valuation τ sig (Elt Ideal)) : after s7 V (Proc.devRef .tc b) = V (Proc.devRef .tc b) := (Writes.of s7_writes).keep hb V
theorem k9 {b : Ref sig .tc} (hb : b ∉ s9_W) (V : Valuation τ sig (Elt Ideal)) : after s9 V (Proc.devRef .tc b) = V (Proc.devRef .tc b) := (Writes.of s9_writes).keep hb V
theorem k10 {b : Ref sig .tc} (hb : b ∉ s10_W) (V : Valuation τ sig (Elt Ideal)) : after s10 V (Proc.devRef .tc b) = V (Proc.devRef .tc b) := (Writes.of s10_writes).keep hb V
theorem k11 {b : Ref sig .tc} (hb : b ∉ s11_W) (V : Valuation τ sig (Elt Ideal)) : after s11 V (Proc.devRef .tc b) = V (Proc.devRef .tc b) := (Writes.of s11_writes).keep hb V
theorem k12 {b : Ref sig .tc} (hb : b ∉ s12_W) (V : Valuation τ sig (Elt Ideal)) : after s12 V (Proc.devRef .tc b) = V (Proc.devRef .tc b) := (Writes.of s12_writes).keep hb V
theorem k14 {b : Ref sig .tc} (hb : b ∉ s14_W) (V : Valuation τ sig (Elt Ideal)) : after s14 V (Proc.devRef .tc b) = V (Proc.devRef .tc b) := (Writes.of s14_writes).keep hb V
theorem k15 {b : Ref sig .tc} (hb : b ∉ s15_W) (V : Valuation τ sig (Elt Ideal)) : after s15 V (Proc.devRef .tc b) = V (Proc.devRef .tc b) := (Writes.of s15_writes).keep hb V
theorem k16 {b : Ref sig .tc} (hb : b ∉ s16_W) (V : Valuation τ sig (Elt Ideal)) : after s16 V (Proc.devRef .tc b) = V (Proc.devRef .tc b) := (Writes.of s16_writes).keep hb V
theorem k17 {b : Ref sig .tc} (hb : b ∉ s17_W) (V : Valuation τ sig (Elt Ideal)) : after s17 V (Proc.devRef .tc b) = V (Proc.devRef .tc b) := (Writes.of s17_writes).keep hb V
theorem k18 {b : Ref sig .tc} (hb : b ∉ s18_W) (V : Valuation τ sig (Elt Ideal)) : after s18 V (Proc.devRef .tc b) = V (Proc.devRef .tc b) := (Writes.of s18_writes).keep hb V
theorem k19 {b : Ref sig .tc} (hb : b ∉ s19_W) (V : Valuation τ sig (Elt Ideal)) : after s19 V (Proc.devRef .tc b) = V (Proc.devRef .tc b) := (Writes.of s19_writes).keep hb V
theorem k20 {b : Ref sig .tc} (hb : b ∉ s20_W) (V : Valuation τ sig (Elt Ideal)) : after s20 V (Proc.devRef .tc b) = V (Proc.devRef .tc b) := (Writes.of s20_writes).keep hb V
theorem k21 {b : Ref sig .tc} (hb : b ∉ s21_W) (V : Valuation τ sig (Elt Ideal)) : after s21 V (Proc.devRef .tc b) = V (Proc.devRef .tc b) := (Writes.of s21_writes).keep hb V
theorem k22 {b : Ref sig .tc} (hb : b ∉ s22_W) (V : Valuation τ sig (Elt Ideal)) : after s22 V (Proc.devRef .tc b) = V (Proc.devRef .tc b) := (Writes.of s22_writes).keep hb V

variable {V : Valuation τ sig (Elt Ideal)} {d : Data}

/-! ## Up to the first loop -/

abbrev X0 (V : Valuation τ sig (Elt Ideal)) := after s0 V
abbrev X1 (V : Valuation τ sig (Elt Ideal)) := after s1 (X0 V)
abbrev X2 (V : Valuation τ sig (Elt Ideal)) := after s2 (X1 V)
abbrev X3 (V : Valuation τ sig (Elt Ideal)) := after s3 (X2 V)
abbrev X4 (V : Valuation τ sig (Elt Ideal)) := after s4 (X3 V)
abbrev X5 (V : Valuation τ sig (Elt Ideal)) := after s5 (X4 V)
abbrev X6 (V : Valuation τ sig (Elt Ideal)) := after s6 (X5 V)
abbrev X7 (V : Valuation τ sig (Elt Ideal)) := after s7 (X6 V)

theorem x0_sp (h : Inputs V d) : At2 1 1024 (X0 V (Proc.devRef .tc main_v1)) fun _ c => d.sp c := val_sp V d h.lam
theorem x1_xp (h : Inputs V d) : At2 8195 1024 (X1 V (Proc.devRef .tc main_v6)) d.xp := val_xp _ d (by simp (disch := decide +kernel) only [X0, X1, X2, X3, X4, X5, X6, X7, k0, k1, k2, k3, k4, k5, k6, k7]; exact h.p)
theorem x1_g (h : Inputs V d) : At2 8192 1024 (X1 V (Proc.devRef .tc main_v3)) d.g := val_g _ d (by simp (disch := decide +kernel) only [X0, X1, X2, X3, X4, X5, X6, X7, k0, k1, k2, k3, k4, k5, k6, k7]; exact h.p)
theorem x2_xc (h : Inputs V d) : At2 8192 1024 (X2 V (Proc.devRef .tc main_v36)) d.xc :=
  val_xc _ d (x1_xp h) (by simp (disch := decide +kernel) only [X0, X1, X2, X3, X4, X5, X6, X7, k0, k1, k2, k3, k4, k5, k6, k7]; exact h.cw) (by simp (disch := decide +kernel) only [X0, X1, X2, X3, X4, X5, X6, X7, k0, k1, k2, k3, k4, k5, k6, k7]; exact h.cb)
theorem x3_r (h : Inputs V d) : At2 8192 1024 (X3 V (Proc.devRef .tc main_v52)) d.r :=
  val_r _ d (x2_xc h) (by simp (disch := decide +kernel) only [X0, X1, X2, X3, X4, X5, X6, X7, k0, k1, k2, k3, k4, k5, k6, k7]; exact h.wa) (by simp (disch := decide +kernel) only [X0, X1, X2, X3, X4, X5, X6, X7, k0, k1, k2, k3, k4, k5, k6, k7]; exact h.ba)
theorem x3_rr (h : Inputs V d) : At3 8192 4 256 (X3 V (Proc.devRef .tc main_v51)) fun t n i => d.r t (n * 256 + i) * (1 - d.r t (n * 256 + i)) :=
  val_rr _ d (x2_xc h) (by simp (disch := decide +kernel) only [X0, X1, X2, X3, X4, X5, X6, X7, k0, k1, k2, k3, k4, k5, k6, k7]; exact h.wa) (by simp (disch := decide +kernel) only [X0, X1, X2, X3, X4, X5, X6, X7, k0, k1, k2, k3, k4, k5, k6, k7]; exact h.ba)
theorem x3_xc3 (h : Inputs V d) : At3 8192 4 256 (X3 V (Proc.devRef .tc main_v37)) fun t n i => d.xc t (n * 256 + i) := val_xc3 _ d (x2_xc h)
theorem x4_v54 (h : Inputs V d) : At3 8192 4 256 (X4 V (Proc.devRef .tc main_v54)) fun t n i => ∑ k : Fin 256, d.xc t (n * 256 + k) * d.wx n k i :=
  val_v54 _ d (x3_xc3 h) (by simp (disch := decide +kernel) only [X0, X1, X2, X3, X4, X5, X6, X7, k0, k1, k2, k3, k4, k5, k6, k7]; exact h.wx)
theorem x5_ig (h : Inputs V d) : At2 8192 1024 (X5 V (Proc.devRef .tc main_v67)) d.ig := val_ig _ d (x4_v54 h) (by simp (disch := decide +kernel) only [X0, X1, X2, X3, X4, X5, X6, X7, k0, k1, k2, k3, k4, k5, k6, k7]; exact h.bx)
theorem x5_igg (h : Inputs V d) : At3 8192 4 256 (X5 V (Proc.devRef .tc main_v66)) fun t n i => d.ig t (n * 256 + i) * (1 - d.ig t (n * 256 + i)) :=
  val_igg _ d (x4_v54 h) (by simp (disch := decide +kernel) only [X0, X1, X2, X3, X4, X5, X6, X7, k0, k1, k2, k3, k4, k5, k6, k7]; exact h.bx)
theorem x5_r (h : Inputs V d) : At2 8192 1024 (X5 V (Proc.devRef .tc main_v52)) d.r := (by simp (disch := decide +kernel) only [X0, X1, X2, X3, X4, X5, X6, X7, k0, k1, k2, k3, k4, k5, k6, k7]; exact x3_r h)
theorem x5_sp (h : Inputs V d) : At2 1 1024 (X5 V (Proc.devRef .tc main_v1)) fun _ c => d.sp c := (by simp (disch := decide +kernel) only [X0, X1, X2, X3, X4, X5, X6, X7, k0, k1, k2, k3, k4, k5, k6, k7]; exact x0_sp h)
theorem x5_xc (h : Inputs V d) : At2 8192 1024 (X5 V (Proc.devRef .tc main_v36)) d.xc := (by simp (disch := decide +kernel) only [X0, X1, X2, X3, X4, X5, X6, X7, k0, k1, k2, k3, k4, k5, k6, k7]; exact x2_xc h)

/-- The contents the loops and the gradients read, before the first loop. -/
structure Pre (V : Valuation τ sig (Elt Ideal)) (d : Data) : Prop where
  sp : At2 1 1024 (V (Proc.devRef .tc main_v1)) fun _ c => d.sp c
  g : At2 8192 1024 (V (Proc.devRef .tc main_v3)) d.g
  xc : At2 8192 1024 (V (Proc.devRef .tc main_v36)) d.xc
  w0 : At2 1 1024 (V (Proc.devRef .tc main_v11)) fun _ c => d.cw 0 c
  w1 : At2 1 1024 (V (Proc.devRef .tc main_v19)) fun _ c => d.cw 1 c
  w2 : At2 1 1024 (V (Proc.devRef .tc main_v26)) fun _ c => d.cw 2 c
  w3 : At2 1 1024 (V (Proc.devRef .tc main_v33)) fun _ c => d.cw 3 c
  x0 : At2 8192 1024 (V (Proc.devRef .tc main_v10)) fun t c => d.xp (t + 0) c
  x1 : At2 8192 1024 (V (Proc.devRef .tc main_v18)) fun t c => d.xp (t + 1) c
  x2 : At2 8192 1024 (V (Proc.devRef .tc main_v25)) fun t c => d.xp (t + 2) c
  x3 : At2 8192 1024 (V (Proc.devRef .tc main_v32)) fun t c => d.xp (t + 3) c
  rr : At3 8192 4 256 (V (Proc.devRef .tc main_v51)) fun t n i => d.r t (n * 256 + i) * (1 - d.r t (n * 256 + i))
  xc3 : At3 8192 4 256 (V (Proc.devRef .tc main_v37)) fun t n i => d.xc t (n * 256 + i)
  ig : At2 8192 1024 (V (Proc.devRef .tc main_v67)) d.ig
  igg : At3 8192 4 256 (V (Proc.devRef .tc main_v66)) fun t n i => d.ig t (n * 256 + i) * (1 - d.ig t (n * 256 + i))
  r8 : At2 8192 1024 (V (Proc.devRef .tc main_v69)) fun t c => -8 * d.r t c
  a : At2 8192 1024 (V (Proc.devRef .tc main_v72)) d.a
  aa : At2 8192 1024 (V (Proc.devRef .tc main_v76)) fun t c => d.a t c * d.a t c
  s : At2 8192 1024 (V (Proc.devRef .tc main_v78)) d.s
  hs : At2 8192 1024 (V (Proc.devRef .tc main_v80)) fun t c => 1 / 2 / d.s t c
  gx : At2 8192 1024 (V (Proc.devRef .tc main_v81)) d.gx
  inp : Inputs V d

theorem pre_at (h : Inputs V d) : Pre (X7 V) d where
  sp := (by simp (disch := decide +kernel) only [X0, X1, X2, X3, X4, X5, X6, X7, k0, k1, k2, k3, k4, k5, k6, k7]; exact x0_sp h)
  g := (by simp (disch := decide +kernel) only [X0, X1, X2, X3, X4, X5, X6, X7, k0, k1, k2, k3, k4, k5, k6, k7]; exact x1_g h)
  xc := (by simp (disch := decide +kernel) only [X0, X1, X2, X3, X4, X5, X6, X7, k0, k1, k2, k3, k4, k5, k6, k7]; exact x2_xc h)
  w0 := (by simp (disch := decide +kernel) only [X0, X1, X2, X3, X4, X5, X6, X7, k0, k1, k2, k3, k4, k5, k6, k7]; exact val_cw0 (X1 V) d (by simp (disch := decide +kernel) only [X0, X1, X2, X3, X4, X5, X6, X7, k0, k1, k2, k3, k4, k5, k6, k7]; exact h.cw))
  w1 := (by simp (disch := decide +kernel) only [X0, X1, X2, X3, X4, X5, X6, X7, k0, k1, k2, k3, k4, k5, k6, k7]; exact val_cw1 (X1 V) d (by simp (disch := decide +kernel) only [X0, X1, X2, X3, X4, X5, X6, X7, k0, k1, k2, k3, k4, k5, k6, k7]; exact h.cw))
  w2 := (by simp (disch := decide +kernel) only [X0, X1, X2, X3, X4, X5, X6, X7, k0, k1, k2, k3, k4, k5, k6, k7]; exact val_cw2 (X1 V) d (by simp (disch := decide +kernel) only [X0, X1, X2, X3, X4, X5, X6, X7, k0, k1, k2, k3, k4, k5, k6, k7]; exact h.cw))
  w3 := (by simp (disch := decide +kernel) only [X0, X1, X2, X3, X4, X5, X6, X7, k0, k1, k2, k3, k4, k5, k6, k7]; exact val_cw3 (X1 V) d (by simp (disch := decide +kernel) only [X0, X1, X2, X3, X4, X5, X6, X7, k0, k1, k2, k3, k4, k5, k6, k7]; exact h.cw))
  x0 := (by simp (disch := decide +kernel) only [X0, X1, X2, X3, X4, X5, X6, X7, k0, k1, k2, k3, k4, k5, k6, k7]; exact val_xs0 (X1 V) d (x1_xp h))
  x1 := (by simp (disch := decide +kernel) only [X0, X1, X2, X3, X4, X5, X6, X7, k0, k1, k2, k3, k4, k5, k6, k7]; exact val_xs1 (X1 V) d (x1_xp h))
  x2 := (by simp (disch := decide +kernel) only [X0, X1, X2, X3, X4, X5, X6, X7, k0, k1, k2, k3, k4, k5, k6, k7]; exact val_xs2 (X1 V) d (x1_xp h))
  x3 := (by simp (disch := decide +kernel) only [X0, X1, X2, X3, X4, X5, X6, X7, k0, k1, k2, k3, k4, k5, k6, k7]; exact val_xs3 (X1 V) d (x1_xp h))
  rr := (by simp (disch := decide +kernel) only [X0, X1, X2, X3, X4, X5, X6, X7, k0, k1, k2, k3, k4, k5, k6, k7]; exact x3_rr h)
  xc3 := (by simp (disch := decide +kernel) only [X0, X1, X2, X3, X4, X5, X6, X7, k0, k1, k2, k3, k4, k5, k6, k7]; exact x3_xc3 h)
  ig := (by simp (disch := decide +kernel) only [X0, X1, X2, X3, X4, X5, X6, X7, k0, k1, k2, k3, k4, k5, k6, k7]; exact x5_ig h)
  igg := (by simp (disch := decide +kernel) only [X0, X1, X2, X3, X4, X5, X6, X7, k0, k1, k2, k3, k4, k5, k6, k7]; exact x5_igg h)
  r8 := (by simp (disch := decide +kernel) only [X0, X1, X2, X3, X4, X5, X6, X7, k0, k1, k2, k3, k4, k5, k6, k7]; exact val_v69 (X5 V) d (x5_r h))
  a := (by simp (disch := decide +kernel) only [X0, X1, X2, X3, X4, X5, X6, X7, k0, k1, k2, k3, k4, k5, k6, k7]; exact val_a (X5 V) d (x5_r h) (x5_sp h))
  aa := (by simp (disch := decide +kernel) only [X0, X1, X2, X3, X4, X5, X6, X7, k0, k1, k2, k3, k4, k5, k6, k7]; exact val_aa (X5 V) d (x5_r h) (x5_sp h))
  s := (by simp (disch := decide +kernel) only [X0, X1, X2, X3, X4, X5, X6, X7, k0, k1, k2, k3, k4, k5, k6, k7]; exact val_s (X5 V) d (x5_r h) (x5_sp h))
  hs := (by simp (disch := decide +kernel) only [X0, X1, X2, X3, X4, X5, X6, X7, k0, k1, k2, k3, k4, k5, k6, k7]; exact val_hs (X5 V) d (x5_r h) (x5_sp h))
  gx := (by simp (disch := decide +kernel) only [X0, X1, X2, X3, X4, X5, X6, X7, k0, k1, k2, k3, k4, k5, k6, k7]; exact val_gx (X5 V) d (x5_ig h) (x5_xc h))
  inp := ⟨(by simp (disch := decide +kernel) only [X0, X1, X2, X3, X4, X5, X6, X7, k0, k1, k2, k3, k4, k5, k6, k7]; exact h.p), (by simp (disch := decide +kernel) only [X0, X1, X2, X3, X4, X5, X6, X7, k0, k1, k2, k3, k4, k5, k6, k7]; exact h.wo), (by simp (disch := decide +kernel) only [X0, X1, X2, X3, X4, X5, X6, X7, k0, k1, k2, k3, k4, k5, k6, k7]; exact h.cw), (by simp (disch := decide +kernel) only [X0, X1, X2, X3, X4, X5, X6, X7, k0, k1, k2, k3, k4, k5, k6, k7]; exact h.cb), (by simp (disch := decide +kernel) only [X0, X1, X2, X3, X4, X5, X6, X7, k0, k1, k2, k3, k4, k5, k6, k7]; exact h.wa), (by simp (disch := decide +kernel) only [X0, X1, X2, X3, X4, X5, X6, X7, k0, k1, k2, k3, k4, k5, k6, k7]; exact h.ba), (by simp (disch := decide +kernel) only [X0, X1, X2, X3, X4, X5, X6, X7, k0, k1, k2, k3, k4, k5, k6, k7]; exact h.wx), (by simp (disch := decide +kernel) only [X0, X1, X2, X3, X4, X5, X6, X7, k0, k1, k2, k3, k4, k5, k6, k7]; exact h.bx), (by simp (disch := decide +kernel) only [X0, X1, X2, X3, X4, X5, X6, X7, k0, k1, k2, k3, k4, k5, k6, k7]; exact h.lam), (by simp (disch := decide +kernel) only [X0, X1, X2, X3, X4, X5, X6, X7, k0, k1, k2, k3, k4, k5, k6, k7]; exact h.ct)⟩
theorem fwd_start (h : Inputs V d) : Fwd (X7 V) d 0 where
  a := val_l0 _ d (val_a (X5 V) d (x5_r h) (x5_sp h))
  u := val_l1 _ d (val_u (X5 V) d (x5_r h) (x5_sp h) (x5_ig h) (x5_xc h))
  c := val_l3 _
  h := fun a b hab => absurd hab (Nat.not_lt_zero _)
  p := fun a b hab => absurd hab (Nat.not_lt_zero _)

/-! ## The first loop -/

variable (m : (ℓ : Loc nD τ sig) → Buf (Elt Ideal) ℓ) (c : Dev nD)

theorem E0_X7 : E0 m c = X7 (launchContents m c) := by rw [E0_eq, B7, p0_0]; simp only [after_append]

theorem Fwd.of_eq {V W : Valuation τ sig (Elt Ideal)} {k : ℕ} (h : Fwd V d k)
    (e : ∀ b ∈ ([main_v86_0, main_v86_1, main_v86_3, main_v86_4, main_v86_5] : List (Ref sig .tc)), W (Proc.devRef .tc b) = V (Proc.devRef .tc b)) : Fwd W d k where
  a := by rw [e _ (by decide)]; exact h.a
  u := by rw [e _ (by decide)]; exact h.u
  c := by rw [e _ (by decide)]; exact h.c
  h := by rw [e _ (by decide)]; exact h.h
  p := by rw [e _ (by decide)]; exact h.p

theorem fwd_at (h : Inputs (launchContents m c) d) : ∀ k, k ≤ 8192 → Fwd (T0 m k c) d k
  | 0, _ => by rw [show T0 m 0 c = E0 m c from rfl, E0_X7]; exact fwd_start h
  | k + 1, hk => by
    rw [T0_succ]
    refine Fwd.step hk ?_ ((fwd_at h k (by omega)).of_eq fun b hb => ?_)
    · rw [(Writes.of cond0_writes).keep (by decide +kernel)]; exact ctr0 m c k
    · exact (Writes.of cond0_writes).keep (ListAll.forall_mem_of_all_decide (p := fun b => b ∉ cond0_W) (by decide +kernel) b hb) _
theorem fwd_end (h : Inputs (launchContents m c) d) : Fwd (E1 m c) d 8192 :=
  (fwd_at m c h 8192 le_rfl).of_eq fun b hb =>
    (Writes.of cond0_writes).keep (ListAll.forall_mem_of_all_decide (p := fun b => b ∉ cond0_W) (by decide +kernel) b hb) _

/-- What is read again after the loops. -/
abbrev later : List (Ref sig .tc) := [main_v1, main_v3, main_v36, main_v11, main_v19, main_v26, main_v33, main_v10, main_v18, main_v25, main_v32, main_v51, main_v37, main_v67, main_v66, main_v69, main_v72, main_v76, main_v78, main_v80, main_v81, main_arg0, main_arg1, main_arg2, main_arg3, main_arg4, main_arg5, main_arg6, main_arg7, main_arg8, main_arg9]

theorem Pre.of_eq {V W : Valuation τ sig (Elt Ideal)} (h : Pre V d) (e : ∀ b ∈ later, W (Proc.devRef .tc b) = V (Proc.devRef .tc b)) : Pre W d where
  sp := by rw [e _ (by decide)]; exact h.sp
  g := by rw [e _ (by decide)]; exact h.g
  xc := by rw [e _ (by decide)]; exact h.xc
  w0 := by rw [e _ (by decide)]; exact h.w0
  w1 := by rw [e _ (by decide)]; exact h.w1
  w2 := by rw [e _ (by decide)]; exact h.w2
  w3 := by rw [e _ (by decide)]; exact h.w3
  x0 := by rw [e _ (by decide)]; exact h.x0
  x1 := by rw [e _ (by decide)]; exact h.x1
  x2 := by rw [e _ (by decide)]; exact h.x2
  x3 := by rw [e _ (by decide)]; exact h.x3
  rr := by rw [e _ (by decide)]; exact h.rr
  xc3 := by rw [e _ (by decide)]; exact h.xc3
  ig := by rw [e _ (by decide)]; exact h.ig
  igg := by rw [e _ (by decide)]; exact h.igg
  r8 := by rw [e _ (by decide)]; exact h.r8
  a := by rw [e _ (by decide)]; exact h.a
  aa := by rw [e _ (by decide)]; exact h.aa
  s := by rw [e _ (by decide)]; exact h.s
  hs := by rw [e _ (by decide)]; exact h.hs
  gx := by rw [e _ (by decide)]; exact h.gx
  inp := ⟨by rw [e _ (by decide)]; exact h.inp.p, by rw [e _ (by decide)]; exact h.inp.wo, by rw [e _ (by decide)]; exact h.inp.cw, by rw [e _ (by decide)]; exact h.inp.cb, by rw [e _ (by decide)]; exact h.inp.wa, by rw [e _ (by decide)]; exact h.inp.ba, by rw [e _ (by decide)]; exact h.inp.wx, by rw [e _ (by decide)]; exact h.inp.bx, by rw [e _ (by decide)]; exact h.inp.lam, by rw [e _ (by decide)]; exact h.inp.ct⟩

theorem pre_E1 (h : Inputs (launchContents m c) d) : Pre (E1 m c) d :=
  (E0_X7 m c ▸ pre_at h : Pre (E0 m c) d).of_eq fun b hb => keep_E1 m (ListAll.forall_mem_of_all_decide (p := fun b => b ∉ loop0_W) (by decide +kernel) b hb) c
theorem pre_E2 (h : Inputs (launchContents m c) d) : Pre (E2 m c) d :=
  (pre_E1 m c h).of_eq fun b hb => keep_mid m (ListAll.forall_mem_of_all_decide (p := fun b => b ∉ mid_W) (by decide +kernel) b hb) c
theorem pre_E3 (h : Inputs (launchContents m c) d) : Pre (E3 m c) d :=
  (pre_E2 m c h).of_eq fun b hb => keep_E3 m (ListAll.forall_mem_of_all_decide (p := fun b => b ∉ loop1_W) (by decide +kernel) b hb) c

/-! ## Between the loops -/

abbrev X9 (V : Valuation τ sig (Elt Ideal)) := after s9 V
abbrev X10 (V : Valuation τ sig (Elt Ideal)) := after s10 (X9 V)
abbrev X11 (V : Valuation τ sig (Elt Ideal)) := after s11 (X10 V)
abbrev X12 (V : Valuation τ sig (Elt Ideal)) := after s12 (X11 V)

theorem E2_X12 : E2 m c = X12 (E1 m c) := by rw [E2_eq, p1_2]; simp only [after_append]

theorem Fwd.h_all (h : Fwd V d 8192) : At2 8192 1024 (V (Proc.devRef .tc main_v86_4)) fun t c => d.H (t + 1) c := fun a b => h.h a b a.isLt
theorem Fwd.p_all (h : Fwd V d 8192) : At2 8192 1024 (V (Proc.devRef .tc main_v86_5)) d.H := fun a b => h.p a b a.isLt

theorem x12_y (h : Pre V d) (f : Fwd V d 8192) : At2 8192 1024 (X12 V (Proc.devRef .tc main_v88)) d.y := (by simp (disch := decide +kernel) only [X9, X10, X11, X12, k9, k10, k11, k12]; exact val_y V d h.g f.h_all)
theorem x10_din (h : Pre V d) : At2 8192 1024 (X10 V (Proc.devRef .tc main_v94)) d.din :=
  val_din (X9 V) d (by simp (disch := decide +kernel) only [X9, X10, X11, X12, k9, k10, k11, k12]; exact h.inp.ct) (by simp (disch := decide +kernel) only [X9, X10, X11, X12, k9, k10, k11, k12]; exact h.inp.wo) (val_silu V d h.g)
theorem x12_dlg (h : Pre V d) (f : Fwd V d 8192) : At2 8192 1024 (X12 V (Proc.devRef .tc main_v95)) d.dlg :=
  (by simp (disch := decide +kernel) only [X9, X10, X11, X12, k9, k10, k11, k12]; exact val_dlg (X9 V) d (by simp (disch := decide +kernel) only [X9, X10, X11, X12, k9, k10, k11, k12]; exact h.inp.ct) (by simp (disch := decide +kernel) only [X9, X10, X11, X12, k9, k10, k11, k12]; exact h.inp.wo) (val_sg V d h.g) (val_sgg V d h.g) (by simp (disch := decide +kernel) only [X9, X10, X11, X12, k9, k10, k11, k12]; exact h.g) (by simp (disch := decide +kernel) only [X9, X10, X11, X12, k9, k10, k11, k12]; exact f.h_all))
theorem bwd_start (h : Pre V d) (f : Fwd V d 8192) : Bwd (X12 V) d 0 where
  i := val_m0 _ d (by simp (disch := decide +kernel) only [X9, X10, X11, X12, k9, k10, k11, k12]; exact x10_din h)
  p := val_m1 _ d (by simp (disch := decide +kernel) only [X9, X10, X11, X12, k9, k10, k11, k12]; exact f.p_all)
  a := val_m2 _ d (by simp (disch := decide +kernel) only [X9, X10, X11, X12, k9, k10, k11, k12]; exact h.a)
  c := val_m4 _ (val_z _)
  da := fun a b hab => absurd a.isLt (by omega)
  dh := fun a b hab => absurd a.isLt (by omega)

/-! ## The second loop -/

theorem Bwd.of_eq {V W : Valuation τ sig (Elt Ideal)} {k : ℕ} (h : Bwd V d k)
    (e : ∀ b ∈ ([main_v99_0, main_v99_1, main_v99_2, main_v99_4, main_v99_5, main_v99_6] : List (Ref sig .tc)), W (Proc.devRef .tc b) = V (Proc.devRef .tc b)) : Bwd W d k where
  i := by rw [e _ (by decide)]; exact h.i
  p := by rw [e _ (by decide)]; exact h.p
  a := by rw [e _ (by decide)]; exact h.a
  c := by rw [e _ (by decide)]; exact h.c
  da := by rw [e _ (by decide)]; exact h.da
  dh := by rw [e _ (by decide)]; exact h.dh

theorem bwd_at (h : Inputs (launchContents m c) d) : ∀ k, k ≤ 8192 → Bwd (T1 m k c) d k
  | 0, _ => by rw [show T1 m 0 c = E2 m c from rfl, E2_X12]; exact bwd_start (pre_E1 m c h) (fwd_end m c h)
  | k + 1, hk => by
    rw [T1_succ]
    refine Bwd.step hk ?_ ((bwd_at h k (by omega)).of_eq fun b hb => ?_)
    · rw [(Writes.of cond1_writes).keep (by decide +kernel)]; exact ctr1 m c k
    · exact (Writes.of cond1_writes).keep (ListAll.forall_mem_of_all_decide (p := fun b => b ∉ cond1_W) (by decide +kernel) b hb) _
theorem bwd_end (h : Inputs (launchContents m c) d) : Bwd (E3 m c) d 8192 :=
  (bwd_at m c h 8192 le_rfl).of_eq fun b hb =>
    (Writes.of cond1_writes).keep (ListAll.forall_mem_of_all_decide (p := fun b => b ∉ cond1_W) (by decide +kernel) b hb) _

/-! ## After the loops -/

abbrev X14 (V : Valuation τ sig (Elt Ideal)) := after s14 V
abbrev X15 (V : Valuation τ sig (Elt Ideal)) := after s15 (X14 V)
abbrev X16 (V : Valuation τ sig (Elt Ideal)) := after s16 (X15 V)
abbrev X17 (V : Valuation τ sig (Elt Ideal)) := after s17 (X16 V)
abbrev X18 (V : Valuation τ sig (Elt Ideal)) := after s18 (X17 V)
abbrev X19 (V : Valuation τ sig (Elt Ideal)) := after s19 (X18 V)
abbrev X20 (V : Valuation τ sig (Elt Ideal)) := after s20 (X19 V)
abbrev X21 (V : Valuation τ sig (Elt Ideal)) := after s21 (X20 V)
abbrev X22 (V : Valuation τ sig (Elt Ideal)) := after s22 (X21 V)

theorem E4_X22 : E4 m c = X22 (E3 m c) := by
  rw [E4_post, p2_2, p3_0, p4_0]; simp only [after_append]

theorem after_of (h : Pre V d) (b : Bwd V d 8192) : After V d :=
  ⟨fun t c => b.dh t c (by omega), fun t c => b.da t c (by omega), h.a, h.aa, h.s, h.hs, h.gx, h.r8, h.sp, h.xc, h.ig⟩

section
variable (h : Pre V d) (b : Bwd V d 8192)
include h b

theorem x15_v117 : At2 8192 1024 (X15 V (Proc.devRef .tc main_v117)) fun t c => d.dla t c * (-8 * d.sp c) :=
  val_v117 (V := X14 V) (val_dla (after_of h b)) (by simp (disch := decide +kernel) only [X14, X15, X16, X17, X18, X19, X20, X21, X22, k14, k15, k16, k17, k18, k19, k20, k21, k22]; exact h.sp)
theorem x15_dzi : At3 8192 4 256 (X15 V (Proc.devRef .tc main_v119)) fun t n i => d.dzi t (n * 256 + i) :=
  val_dzi (V := X14 V) (val_dmx (after_of h b)) (by simp (disch := decide +kernel) only [X14, X15, X16, X17, X18, X19, X20, X21, X22, k14, k15, k16, k17, k18, k19, k20, k21, k22]; exact h.igg)
theorem x15_dbx : At2 4 256 (X15 V (Proc.devRef .tc main_v122)) fun n i => d.dbx (n * 256 + i) :=
  val_dbx (V := X14 V) (val_dmx (after_of h b)) (by simp (disch := decide +kernel) only [X14, X15, X16, X17, X18, X19, X20, X21, X22, k14, k15, k16, k17, k18, k19, k20, k21, k22]; exact h.igg)
theorem x16_v125 : At3 8192 4 256 (X16 V (Proc.devRef .tc main_v125)) fun t n i => ∑ j : Fin 256, d.dzi t (n * 256 + j) * d.wx n i j :=
  val_v125 (V := X15 V) (x15_dzi h b) (by simp (disch := decide +kernel) only [X14, X15, X16, X17, X18, X19, X20, X21, X22, k14, k15, k16, k17, k18, k19, k20, k21, k22]; exact h.inp.wx)
theorem x16_dwx : At3 4 256 256 (X16 V (Proc.devRef .tc main_v127)) d.dwx :=
  val_dwx (V := X15 V) (x15_dzi h b) (by simp (disch := decide +kernel) only [X14, X15, X16, X17, X18, X19, X20, X21, X22, k14, k15, k16, k17, k18, k19, k20, k21, k22]; exact h.xc3)
theorem x16_dzr : At3 8192 4 256 (X16 V (Proc.devRef .tc main_v129)) fun t n i => d.dzr t (n * 256 + i) :=
  val_dzr (V := X15 V) (x15_v117 h b) (by simp (disch := decide +kernel) only [X14, X15, X16, X17, X18, X19, X20, X21, X22, k14, k15, k16, k17, k18, k19, k20, k21, k22]; exact h.rr)
theorem x16_dba : At2 4 256 (X16 V (Proc.devRef .tc main_v132)) fun n i => d.dba (n * 256 + i) :=
  val_dba (V := X15 V) (x15_v117 h b) (by simp (disch := decide +kernel) only [X14, X15, X16, X17, X18, X19, X20, X21, X22, k14, k15, k16, k17, k18, k19, k20, k21, k22]; exact h.rr)
theorem x17_dwa : At3 4 256 256 (X17 V (Proc.devRef .tc main_v138)) d.dwa :=
  val_dwa (V := X16 V) (x16_dzr h b) (by simp (disch := decide +kernel) only [X14, X15, X16, X17, X18, X19, X20, X21, X22, k14, k15, k16, k17, k18, k19, k20, k21, k22]; exact h.xc3)
theorem x17_conv : Conv (X17 V) d where
  dmi := (by simp (disch := decide +kernel) only [X14, X15, X16, X17, X18, X19, X20, X21, X22, k14, k15, k16, k17, k18, k19, k20, k21, k22]; exact val_dmi (after_of h b))
  dg := val_v139 (V := X16 V) (x16_v125 h b) (x16_dzr h b) (by simp (disch := decide +kernel) only [X14, X15, X16, X17, X18, X19, X20, X21, X22, k14, k15, k16, k17, k18, k19, k20, k21, k22]; exact h.inp.wa)
  w0 := (by simp (disch := decide +kernel) only [X14, X15, X16, X17, X18, X19, X20, X21, X22, k14, k15, k16, k17, k18, k19, k20, k21, k22]; exact h.w0)
  w1 := (by simp (disch := decide +kernel) only [X14, X15, X16, X17, X18, X19, X20, X21, X22, k14, k15, k16, k17, k18, k19, k20, k21, k22]; exact h.w1)
  w2 := (by simp (disch := decide +kernel) only [X14, X15, X16, X17, X18, X19, X20, X21, X22, k14, k15, k16, k17, k18, k19, k20, k21, k22]; exact h.w2)
  w3 := (by simp (disch := decide +kernel) only [X14, X15, X16, X17, X18, X19, X20, X21, X22, k14, k15, k16, k17, k18, k19, k20, k21, k22]; exact h.w3)
  x0 := (by simp (disch := decide +kernel) only [X14, X15, X16, X17, X18, X19, X20, X21, X22, k14, k15, k16, k17, k18, k19, k20, k21, k22]; exact h.x0)
  x1 := (by simp (disch := decide +kernel) only [X14, X15, X16, X17, X18, X19, X20, X21, X22, k14, k15, k16, k17, k18, k19, k20, k21, k22]; exact h.x1)
  x2 := (by simp (disch := decide +kernel) only [X14, X15, X16, X17, X18, X19, X20, X21, X22, k14, k15, k16, k17, k18, k19, k20, k21, k22]; exact h.x2)
  x3 := (by simp (disch := decide +kernel) only [X14, X15, X16, X17, X18, X19, X20, X21, X22, k14, k15, k16, k17, k18, k19, k20, k21, k22]; exact h.x3)
theorem x18_conv : Conv (X18 V) d where
  dmi := by simp (disch := decide +kernel) only [X18, k18]; exact (x17_conv h b).dmi
  dg := by simp (disch := decide +kernel) only [X18, k18]; exact (x17_conv h b).dg
  w0 := by simp (disch := decide +kernel) only [X18, k18]; exact (x17_conv h b).w0
  w1 := by simp (disch := decide +kernel) only [X18, k18]; exact (x17_conv h b).w1
  w2 := by simp (disch := decide +kernel) only [X18, k18]; exact (x17_conv h b).w2
  w3 := by simp (disch := decide +kernel) only [X18, k18]; exact (x17_conv h b).w3
  x0 := by simp (disch := decide +kernel) only [X18, k18]; exact (x17_conv h b).x0
  x1 := by simp (disch := decide +kernel) only [X18, k18]; exact (x17_conv h b).x1
  x2 := by simp (disch := decide +kernel) only [X18, k18]; exact (x17_conv h b).x2
  x3 := by simp (disch := decide +kernel) only [X18, k18]; exact (x17_conv h b).x3
theorem x19_conv : Conv (X19 V) d where
  dmi := by simp (disch := decide +kernel) only [X19, k19]; exact (x18_conv h b).dmi
  dg := by simp (disch := decide +kernel) only [X19, k19]; exact (x18_conv h b).dg
  w0 := by simp (disch := decide +kernel) only [X19, k19]; exact (x18_conv h b).w0
  w1 := by simp (disch := decide +kernel) only [X19, k19]; exact (x18_conv h b).w1
  w2 := by simp (disch := decide +kernel) only [X19, k19]; exact (x18_conv h b).w2
  w3 := by simp (disch := decide +kernel) only [X19, k19]; exact (x18_conv h b).w3
  x0 := by simp (disch := decide +kernel) only [X19, k19]; exact (x18_conv h b).x0
  x1 := by simp (disch := decide +kernel) only [X19, k19]; exact (x18_conv h b).x1
  x2 := by simp (disch := decide +kernel) only [X19, k19]; exact (x18_conv h b).x2
  x3 := by simp (disch := decide +kernel) only [X19, k19]; exact (x18_conv h b).x3
theorem x18_dxc : At2 8192 1024 (X18 V (Proc.devRef .tc main_v140)) d.dxc := val_dxc (x17_conv h b)
theorem x19_dxc : At2 8192 1024 (X19 V (Proc.devRef .tc main_v140)) d.dxc := by simp (disch := decide +kernel) only [X19, k19]; exact x18_dxc h b
theorem x20_v171 : At2 4 1024 (X20 V (Proc.devRef .tc main_v171)) fun k c => if k = 0 then 0 else d.dcw k c :=
  val_v171 (V := X19 V) (val_v160 (V := X18 V) (val_v149 (x17_conv h b)) (val_v155 (x17_conv h b))) (val_v166 (x18_conv h b) (x18_dxc h b))
theorem x21_dcw : At2 4 1024 (X21 V (Proc.devRef .tc main_v184)) d.dcw :=
  val_dcw (V := X20 V) (x20_v171 h b) (val_v182 (x19_conv h b) (x19_dxc h b)) val_z41
theorem x20_v181 : At2 8195 1024 (X20 V (Proc.devRef .tc main_v181)) fun m c => moved d 3 3 m c + moved d 2 2 m c + moved d 1 1 m c + moved d 0 0 m c :=
  val_v181 (x19_conv h b) (val_v168 (x18_conv h b) (val_v157 (x17_conv h b)) (x18_dxc h b)) (x19_dxc h b)

end

/-- The results, as arrays of reals. -/
structure Results (V : Valuation τ sig (Elt Ideal)) (d : Data) : Prop where
  y : At2 8192 1024 (V (Proc.devRef .tc main_v191)) d.y
  dp : At3 2 8192 1024 (V (Proc.devRef .tc main_v195)) fun k t c => if k = 0 then d.dlx t c else d.dlg t c
  dwa : At3 4 256 256 (V (Proc.devRef .tc main_v138)) d.dwa
  dwx : At3 4 256 256 (V (Proc.devRef .tc main_v127)) d.dwx
  dba : At2 1 1024 (V (Proc.devRef .tc main_v196)) fun _ c => d.dba c
  dbx : At2 1 1024 (V (Proc.devRef .tc main_v197)) fun _ c => d.dbx c
  dsp : At2 1 1024 (V (Proc.devRef .tc main_v113)) fun _ c => d.dsp c
  dcw : At2 4 1024 (V (Proc.devRef .tc main_v184)) d.dcw
  dcb : At2 1 1024 (V (Proc.devRef .tc main_v173)) fun _ c => d.dcb c

theorem results_of (h : Pre V d) (b : Bwd V d 8192) (hy : At2 8192 1024 (V (Proc.devRef .tc main_v88)) d.y)
    (hg : At2 8192 1024 (V (Proc.devRef .tc main_v95)) d.dlg) : Results (X22 V) d where
  y := val_ry (V := X21 V) (by simp (disch := decide +kernel) only [X14, X15, X16, X17, X18, X19, X20, X21, X22, k14, k15, k16, k17, k18, k19, k20, k21, k22]; exact hy)
  dp := val_rdp (V := X21 V) (by simp (disch := decide +kernel) only [X14, X15, X16, X17, X18, X19, X20, X21, X22, k14, k15, k16, k17, k18, k19, k20, k21, k22]; exact x20_v181 h b) (by simp (disch := decide +kernel) only [X14, X15, X16, X17, X18, X19, X20, X21, X22, k14, k15, k16, k17, k18, k19, k20, k21, k22]; exact hg)
  dwa := (by simp (disch := decide +kernel) only [X14, X15, X16, X17, X18, X19, X20, X21, X22, k14, k15, k16, k17, k18, k19, k20, k21, k22]; exact x17_dwa h b)
  dwx := (by simp (disch := decide +kernel) only [X14, X15, X16, X17, X18, X19, X20, X21, X22, k14, k15, k16, k17, k18, k19, k20, k21, k22]; exact x16_dwx h b)
  dba := val_rba (V := X21 V) (by simp (disch := decide +kernel) only [X14, X15, X16, X17, X18, X19, X20, X21, X22, k14, k15, k16, k17, k18, k19, k20, k21, k22]; exact x16_dba h b)
  dbx := val_rbx (V := X21 V) (by simp (disch := decide +kernel) only [X14, X15, X16, X17, X18, X19, X20, X21, X22, k14, k15, k16, k17, k18, k19, k20, k21, k22]; exact x15_dbx h b)
  dsp := (by simp (disch := decide +kernel) only [X14, X15, X16, X17, X18, X19, X20, X21, X22, k14, k15, k16, k17, k18, k19, k20, k21, k22]; exact val_dsp (after_of h b))
  dcw := (by simp (disch := decide +kernel) only [X14, X15, X16, X17, X18, X19, X20, X21, X22, k14, k15, k16, k17, k18, k19, k20, k21, k22]; exact x21_dcw h b)
  dcb := (by simp (disch := decide +kernel) only [X14, X15, X16, X17, X18, X19, X20, X21, X22, k14, k15, k16, k17, k18, k19, k20, k21, k22]; exact val_dcb (V := X19 V) (x19_dxc h b))

/-- The reference's results. -/
theorem results (h : Inputs (launchContents m c) d) : Results (E4 m c) d := by
  rw [E4_X22]
  refine results_of (pre_E3 m c h) (bwd_end m c h) ?_ ?_
  · rw [keep_E3 m (by decide +kernel), E2_X12]; exact x12_y (pre_E1 m c h) (fwd_end m c h)
  · rw [keep_E3 m (by decide +kernel), E2_X12]; exact x12_dlg (pre_E1 m c h) (fwd_end m c h)

end Cert.Lru.Ref

end
-- ==== Proof.Lru.RefFrame.lean ====
/- The reference's frame: its run ends with the arguments as they were and every counter at zero. -/
module

public import proofs.«01_k».proof.Defs
public import proofs.«01_k».proof.Proof.Gen.Pre_lru_finite
public import proofs.«01_k».proof.Proof.Lru.RefRun

@[expose] public section

set_option maxRecDepth 16384

noncomputable section

namespace Cert.Lru.Ref

open Cert.LruReferenceIdeal Cert.LruReferenceIdeal.Gen
open Idealize.ShloMosaic Idealize.ShloMosaic.TcCoe Idealize.ShloMosaic.Tactic Idealize.SL.Sem

attribute [local instance] Cert.LruReferenceIdeal.Gen.facts Cert.Pre_lru_finite.Gen.facts

variable (m : (ℓ : Loc nD τ sig) → Buf (Elt Ideal) ℓ) (ρ : Dev nD → PrngReg)

theorem kept (c : Dev nD) : ∀ a ∈ ([main_arg0, main_arg1, main_arg2, main_arg3, main_arg4, main_arg5, main_arg6, main_arg7, main_arg8, main_arg9] : List (Ref sig .tc)),
    E4 m c (Proc.devRef .tc a) = m ((c.tc : Thread nD τ).loc a) ∧ (Proc.devRef .tc a : DevRef τ sig).isScoped = false := by
  intro a ha
  fin_cases ha <;>
    exact ⟨keep m (by decide +kernel) (by decide +kernel) (by decide +kernel) (by decide +kernel) (by decide +kernel) c, rfl⟩

/-- The run: every buffer at `E4`, the arguments as they were, every counter at zero. -/
theorem run_main : θ_run (defs (F := Ideal)) (onTc (τ := τ) (main (F := Ideal))) ⟨m, fun _ => 0, ρ⟩ (fun r =>
    (∀ (c : Dev nD) (b : Ref sig .tc), (Proc.devRef .tc b : DevRef τ sig).isScoped = false →
      r.2.mem ((c.tc : Thread nD τ).loc b) = E4 m c (Proc.devRef .tc b))
    ∧ (∀ (c : Dev nD), ∀ a ∈ ([main_arg0, main_arg1, main_arg2, main_arg3, main_arg4, main_arg5, main_arg6, main_arg7, main_arg8, main_arg9] : List (Ref sig .tc)),
      r.2.mem ((c.tc : Thread nD τ).loc a) = m ((c.tc : Thread nD τ).loc a))
    ∧ r.2.sem = fun _ => 0) :=
  (θ_run _ _ _).mono (fun r h => ⟨h, fun c a ha => (h c a (kept m c a ha).2).trans (kept m c a ha).1, sem_eq_zero_of_no_sems (by decide) r.2⟩)
    (run m ρ)

theorem frame_reference : Cert.quiescent_LruReferenceIdeal := fun m ρ _ =>
  (θ_run _ _ _).mono (fun r h => ⟨fun c => ⟨h.2.1 c _ (by decide), h.2.1 c _ (by decide), h.2.1 c _ (by decide), h.2.1 c _ (by decide),
    h.2.1 c _ (by decide), h.2.1 c _ (by decide), h.2.1 c _ (by decide), h.2.1 c _ (by decide), h.2.1 c _ (by decide), h.2.1 c _ (by decide)⟩, h.2.2⟩)
    (run_main m ρ)

theorem frame_reference_pre : Cert.quiescent_LruReferenceIdeal_pre_lru_finite := fun m ρ _ => frame_reference m ρ trivial

end Cert.Lru.Ref

end
-- ==== Proof.Lru.Claims.lean ====
/- The claims about the gated linear recurrence: its output and its gradients, against the reference's. -/
module

public import proofs.«01_k».proof.Defs
public import proofs.«01_k».proof.Proof.Gen.LruKernelIdeal
public import proofs.«01_k».proof.Proof.Gen.LruReferenceIdeal
public import proofs.«01_k».proof.Proof.Gen.Pre_lru_finite
public import proofs.«01_k».proof.Proof.Lru.HostVal
public import proofs.«01_k».proof.Proof.Lru.RefAll
public import proofs.«01_k».proof.Proof.Lru.RefFrame
public import proofs.«01_k».proof.Proof.Lru.Frames

@[expose] public section

set_option maxRecDepth 16384

noncomputable section

namespace Cert.Lru

open Idealize.ShloMosaic Idealize.ShloMosaic.TcCoe Idealize.ShloMosaic.Tactic Idealize.SL.Sem
open Cert.Common

attribute [local instance] Cert.LruKernelIdeal.Gen.facts Cert.LruReferenceIdeal.Gen.facts Cert.Pre_lru_finite.Gen.facts

/-! An array of reals as a function of its coordinates, zero outside. -/
section Ext
variable {n m l : ℕ}
def ext2 (r : Shape.Idx ⟨2, ![n, m]⟩ → ℝ) : ℕ → ℕ → ℝ := fun a b => if h : a < n ∧ b < m then r (ix2 ⟨a, h.1⟩ ⟨b, h.2⟩) else 0
def ext3 (r : Shape.Idx ⟨3, ![n, m, l]⟩ → ℝ) : ℕ → ℕ → ℕ → ℝ := fun a b c => if h : a < n ∧ b < m ∧ c < l then r (ix3 ⟨a, h.1⟩ ⟨b, h.2.1⟩ ⟨c, h.2.2⟩) else 0
theorem ext2_at {X : Shape.Idx ⟨2, ![n, m]⟩ → EReal} {r : Shape.Idx ⟨2, ![n, m]⟩ → ℝ} (e : X = fun i => ((r i : ℝ) : EReal)) : At2 n m X (ext2 r) := fun a b => by
  rw [e, ext2, dif_pos ⟨a.isLt, b.isLt⟩]
theorem ext3_at {X : Shape.Idx ⟨3, ![n, m, l]⟩ → EReal} {r : Shape.Idx ⟨3, ![n, m, l]⟩ → ℝ} (e : X = fun i => ((r i : ℝ) : EReal)) : At3 n m l X (ext3 r) := fun a b c => by
  rw [e, ext3, dif_pos ⟨a.isLt, b.isLt, c.isLt⟩]
/-- A single row as a function of its column. -/
theorem row_at {X : Shape.Idx ⟨2, ![1, m]⟩ → EReal} {r : Shape.Idx ⟨2, ![1, m]⟩ → ℝ} (e : X = fun i => ((r i : ℝ) : EReal)) : At2 1 m X fun _ c => ext2 r 0 c :=
  At2.congr (ext2_at e) fun a b => by rw [Nat.lt_one_iff.mp a.isLt]
/-- Arrays of the same reals are the same. -/
theorem At2.same {X Y : Shape.Idx ⟨2, ![n, m]⟩ → EReal} {f : ℕ → ℕ → ℝ} (h : At2 n m X f) (h' : At2 n m Y f) : X = Y :=
  funext fun j => (At2.eq h j).trans (At2.eq h' j).symm
theorem At3.same {X Y : Shape.Idx ⟨3, ![n, m, l]⟩ → EReal} {f : ℕ → ℕ → ℕ → ℝ} (h : At3 n m l X f) (h' : At3 n m l Y f) : X = Y :=
  funext fun j => (At3.eq h j).trans (At3.eq h' j).symm
end Ext

/-- The precondition says that the arguments' entries are real numbers. -/
theorem reals (m : (ℓ : Loc LruKernelIdeal.nD LruKernelIdeal.τ LruKernelIdeal.sig) → Buf (Elt Ideal) ℓ) (ρ : Dev LruKernelIdeal.nD → PrngReg)
    (h : Cert.Pre_LruKernelIdeal_lru_finite m) (c : Dev LruKernelIdeal.nD) : ∃ d : Data, Given (B0 m ρ c) d := by
  have h := congrFun (h c) (fun i => i.elim0)
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  obtain ⟨r0, e0⟩ := real_of_all _ _ _ _ _ h0
  obtain ⟨r1, e1⟩ := real_of_all _ _ _ _ _ h1
  obtain ⟨r2, e2⟩ := real_of_all _ _ _ _ _ h2
  obtain ⟨r3, e3⟩ := real_of_all _ _ _ _ _ h3
  obtain ⟨r4, e4⟩ := real_of_all _ _ _ _ _ h4
  obtain ⟨r5, e5⟩ := real_of_all _ _ _ _ _ h5
  obtain ⟨r6, e6⟩ := real_of_all _ _ _ _ _ h6
  obtain ⟨r7, e7⟩ := real_of_all _ _ _ _ _ h7
  obtain ⟨r8, e8⟩ := real_of_all _ _ _ _ _ h8
  obtain ⟨r9, e9⟩ := real_of_all _ _ _ _ _ h9
  exact ⟨⟨ext2 r0, ext2 r1, ext2 r2, ext2 r3 0, ext3 r4, ext2 r5, ext3 r6, ext2 r7, ext2 r8 0, ext2 r9⟩,
    ⟨ext2_at e0, ext2_at e1, ext2_at e2, row_at e3, ext3_at e4, ext2_at e5, ext3_at e6, ext2_at e7, row_at e8, ext2_at e9⟩⟩

/-- The reference starts from the same arguments. -/
theorem inputs (m : (ℓ : Loc LruKernelIdeal.nD LruKernelIdeal.τ LruKernelIdeal.sig) → Buf (Elt Ideal) ℓ) (ρ : Dev LruKernelIdeal.nD → PrngReg)
    (m' : (ℓ : Loc LruReferenceIdeal.nD LruReferenceIdeal.τ LruReferenceIdeal.sig) → Buf (Elt Ideal) ℓ) (c : Dev LruKernelIdeal.nD) {d : Data}
    (e0 : m' ((c.tc : Thread LruReferenceIdeal.nD LruReferenceIdeal.τ).loc LruReferenceIdeal.main_arg0) = m ((c.tc : Thread LruKernelIdeal.nD LruKernelIdeal.τ).loc LruKernelIdeal.main_arg0))
    (e1 : m' ((c.tc : Thread LruReferenceIdeal.nD LruReferenceIdeal.τ).loc LruReferenceIdeal.main_arg1) = m ((c.tc : Thread LruKernelIdeal.nD LruKernelIdeal.τ).loc LruKernelIdeal.main_arg1))
    (e2 : m' ((c.tc : Thread LruReferenceIdeal.nD LruReferenceIdeal.τ).loc LruReferenceIdeal.main_arg2) = m ((c.tc : Thread LruKernelIdeal.nD LruKernelIdeal.τ).loc LruKernelIdeal.main_arg2))
    (e3 : m' ((c.tc : Thread LruReferenceIdeal.nD LruReferenceIdeal.τ).loc LruReferenceIdeal.main_arg3) = m ((c.tc : Thread LruKernelIdeal.nD LruKernelIdeal.τ).loc LruKernelIdeal.main_arg3))
    (e4 : m' ((c.tc : Thread LruReferenceIdeal.nD LruReferenceIdeal.τ).loc LruReferenceIdeal.main_arg4) = m ((c.tc : Thread LruKernelIdeal.nD LruKernelIdeal.τ).loc LruKernelIdeal.main_arg4))
    (e5 : m' ((c.tc : Thread LruReferenceIdeal.nD LruReferenceIdeal.τ).loc LruReferenceIdeal.main_arg5) = m ((c.tc : Thread LruKernelIdeal.nD LruKernelIdeal.τ).loc LruKernelIdeal.main_arg5))
    (e6 : m' ((c.tc : Thread LruReferenceIdeal.nD LruReferenceIdeal.τ).loc LruReferenceIdeal.main_arg6) = m ((c.tc : Thread LruKernelIdeal.nD LruKernelIdeal.τ).loc LruKernelIdeal.main_arg6))
    (e7 : m' ((c.tc : Thread LruReferenceIdeal.nD LruReferenceIdeal.τ).loc LruReferenceIdeal.main_arg7) = m ((c.tc : Thread LruKernelIdeal.nD LruKernelIdeal.τ).loc LruKernelIdeal.main_arg7))
    (e8 : m' ((c.tc : Thread LruReferenceIdeal.nD LruReferenceIdeal.τ).loc LruReferenceIdeal.main_arg8) = m ((c.tc : Thread LruKernelIdeal.nD LruKernelIdeal.τ).loc LruKernelIdeal.main_arg8))
    (e9 : m' ((c.tc : Thread LruReferenceIdeal.nD LruReferenceIdeal.τ).loc LruReferenceIdeal.main_arg9) = m ((c.tc : Thread LruKernelIdeal.nD LruKernelIdeal.τ).loc LruKernelIdeal.main_arg9))
    (h : Given (B0 m ρ c) d) : Ref.Inputs (StableHlo.launchContents m' c) d where
  p := At2.of_eq e0 h.p
  wo := At2.of_eq e1 h.wo
  cw := At2.of_eq e2 h.cw
  cb := At2.of_eq e3 h.cb
  wa := At3.of_eq e4 h.wa
  ba := At2.of_eq e5 h.ba
  wx := At3.of_eq e6 h.wx
  bx := At2.of_eq e7 h.bx
  lam := At2.of_eq e8 h.lam
  ct := At2.of_eq e9 h.ct

/-- Of real arguments, the recurrence's output and its eight gradients are the reference's. -/
theorem algebraic : Cert.algebraic_LruKernelIdeal_LruReferenceIdeal_pre_lru_finite := by
  intro m g m' g' hpre ha
  refine ⟨fun c => B5 m g c (Proc.devRef .tc LruKernelIdeal.main_v11), fun c => B5 m g c (Proc.devRef .tc LruKernelIdeal.main_v12), fun c => B5 m g c (Proc.devRef .tc LruKernelIdeal.main_v9_1), fun c => B5 m g c (Proc.devRef .tc LruKernelIdeal.main_v9_2), fun c => B5 m g c (Proc.devRef .tc LruKernelIdeal.main_v9_3), fun c => B5 m g c (Proc.devRef .tc LruKernelIdeal.main_v9_4), fun c => B5 m g c (Proc.devRef .tc LruKernelIdeal.main_v9_5), fun c => B5 m g c (Proc.devRef .tc LruKernelIdeal.main_v9_6), fun c => B5 m g c (Proc.devRef .tc LruKernelIdeal.main_v9_7), ?_, ?_⟩
  · exact (θ_run (Cert.LruKernelIdeal.defs (F := Ideal)) _ _).mono (fun r h c => ⟨(h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide), (h.1 c).2 _ (by decide),
      args_of (P := fun a => r.2.mem ((c.tc : Thread LruKernelIdeal.nD LruKernelIdeal.τ).loc a) = m ((c.tc : Thread LruKernelIdeal.nD LruKernelIdeal.τ).loc a)) (h.1 c).1⟩) (run_main (F := Ideal) m g)
  · refine (θ_run (Cert.LruReferenceIdeal.defs (F := Ideal)) _ _).mono (fun r h c => ?_) (Ref.run_main m' g')
    obtain ⟨a0, a1, a2, a3, a4, a5, a6, a7, a8, a9⟩ := ha c
    obtain ⟨d, hd⟩ := reals m g hpre c
    have hr := Ref.results m' c (inputs m g m' c a0 a1 a2 a3 a4 a5 a6 a7 a8 a9 hd)
    exact ⟨(h.1 c _ rfl).trans (At2.same hr.y (end_y m g c hd)),
      (h.1 c _ rfl).trans (At3.same hr.dp (end_dp m g c hd)),
      (h.1 c _ rfl).trans (At3.same hr.dwa (end_dwa m g c hd)),
      (h.1 c _ rfl).trans (At3.same hr.dwx (end_dwx m g c hd)),
      (h.1 c _ rfl).trans (At2.same hr.dba (end_dba m g c hd)),
      (h.1 c _ rfl).trans (At2.same hr.dbx (end_dbx m g c hd)),
      (h.1 c _ rfl).trans (At2.same hr.dsp (end_dsp m g c hd)),
      (h.1 c _ rfl).trans (At2.same hr.dcw (end_dcw m g c hd)),
      (h.1 c _ rfl).trans (At2.same hr.dcb (end_dcb m g c hd)),
      h.2.1 c _ (by decide), h.2.1 c _ (by decide), h.2.1 c _ (by decide), h.2.1 c _ (by decide), h.2.1 c _ (by decide), h.2.1 c _ (by decide), h.2.1 c _ (by decide), h.2.1 c _ (by decide), h.2.1 c _ (by decide), h.2.1 c _ (by decide)⟩

end Cert.Lru

end
-- ==== Proof.Dx.Rows.lean ====
/- The pre-norm's gradient at coordinates: the gradient at the normalised row, the row's scale, and the two arrays the call
   returns, as functions of the argument arrays. -/
module

public import proofs.«01_k».proof.Proof.Gen.DxKernelIdeal.Skeleton
public import Idealize.ShloMosaic.Lib.Pipeline.ValueKit

@[expose] public section

set_option maxRecDepth 16384

noncomputable section

namespace Cert.DxKernelIdeal.Value

open Idealize.ShloMosaic Idealize.SL.Sem
open Cert.DxKernelIdeal

/-- The width of a row, as the programs write it. -/
abbrev width : EReal := Ideal.ofBits .f32 0x44800000#32
/-- The mean square's offset. -/
abbrev offset : EReal := Ideal.ofBits .f32 0x358637BD#32

variable (x : FVec Ideal S8192x1024 .f32) (g : FVec Ideal S1x1024 .f32) (w : FVec Ideal S1024x6144 .f32)
  (p : FVec Ideal S8192x6144 .f32) (o : FVec Ideal S8192x1024 .f32)

/-- The gradient at the input of the projection. -/
def du (i : Fin 8192) (d : Fin 1024) : EReal := ∑ e : Fin 6144, p (ix2 i e) * w (ix2 d e)

/-- One unit of 512 columns of that sum. -/
def unit (u : Fin 12) (i : Fin 8192) (d : Fin 1024) : EReal :=
  ∑ k : Fin 512, p (ix2 i ⟨u.val * 512 + k.val, by omega⟩) * w (ix2 d ⟨u.val * 512 + k.val, by omega⟩)

/-- The reciprocal root of the row's mean square. -/
def scale (i : Fin 8192) : EReal := Ideal.rsqrt (Ideal.div (∑ d : Fin 1024, x (ix2 i d) * x (ix2 i d)) width + offset)

/-- The normalised row. -/
def normed (i : Fin 8192) (d : Fin 1024) : EReal := x (ix2 i d) * scale x i

/-- The gradient at the normalised row. -/
def dNormed (i : Fin 8192) (d : Fin 1024) : EReal := du w p i d * g (ix2 0 d)

/-- The gradient at the layer's input. -/
def dx (i : Fin 8192) (d : Fin 1024) : EReal :=
  o (ix2 i d) + scale x i * (dNormed g w p i d
    - normed x i d * Ideal.div (∑ l : Fin 1024, dNormed g w p i l * normed x i l) width)

/-- The gradient of the norm's weights. -/
def dGain (d : Fin 1024) : EReal := ∑ i : Fin 8192, du w p i d * normed x i d

/-- The units' sums, in the kernel's order, are the whole sum. -/
theorem units (i : Fin 8192) (d : Fin 1024) :
    unit w p 4 i d + unit w p 5 i d + unit w p 6 i d + unit w p 7 i d + unit w p 8 i d + unit w p 9 i d + unit w p 10 i d
      + unit w p 11 i d + unit w p 0 i d + unit w p 1 i d + unit w p 2 i d + unit w p 3 i d = du w p i d := by
  have h : du w p i d = ∑ u : Fin 12, unit w p u i d :=
    Fin.sum_univ_tiles 12 512 rfl fun e => p (ix2 i e) * w (ix2 d e)
  rw [h]
  simp only [Fin.sum_univ_succ, Fin.sum_univ_zero, add_zero]
  simp only [Fin.succ_zero_eq_one, Fin.reduceSucc]
  abel

end Cert.DxKernelIdeal.Value
-- ==== Proof.Dx.Blocks.lean ====
/- The pre-norm's gradient: the two result arrays after the run. -/
module

public import proofs.«01_k».proof.Proof.Gen.DxKernelIdeal.Value
public import proofs.«01_k».proof.Proof.Dx.Rows
public import Idealize.ShloMosaic.Lib.Pipeline.ValueKit
public import Idealize.ShloMosaic.Lib.StableHlo.ReadAt

@[expose] public section

set_option maxRecDepth 16384

noncomputable section

namespace Cert.DxKernelIdeal.Value

open Idealize.ShloMosaic Idealize.ShloMosaic.TcCoe Idealize.SL.Sem
open Idealize.ShloMosaic.Pipeline (Dat)
open Cert.DxKernelIdeal Cert.DxKernelIdeal.Gen

variable (m : (ℓ : Loc nD τ sig) → Buf (Elt Ideal) ℓ)

theorem idx : ∀ t : Fin cfg0.N, win0_0.index t = ![0, t.val, 0] ∧ win0_1.index t = ![0, 0, 0] ∧ win0_2.index t = ![t.val, 0]
    ∧ win0_3.index t = ![t.val, 0] ∧ win0_4.index t = ![0, 0] ∧ win0_5.index t = ![t.val, 0] ∧ win0_6.index t = ![0, 0]
    ∧ t.val < 16 :=
  (by decide +kernel : ∀ t : Fin grid0.N, _)

abbrev A0 (c : Dev nD) : FVec Ideal S8192x1024 .f32 := m ((c.tc : Thread nD τ).loc main_arg0)
abbrev A1 (c : Dev nD) : FVec Ideal S1x1024 .f32 := m ((c.tc : Thread nD τ).loc main_arg1)
abbrev A2 (c : Dev nD) : FVec Ideal S1024x6144 .f32 := m ((c.tc : Thread nD τ).loc main_arg2)
abbrev A3 (c : Dev nD) : FVec Ideal S8192x6144 .f32 := m ((c.tc : Thread nD τ).loc main_arg3)
abbrev A4 (c : Dev nD) : FVec Ideal S8192x1024 .f32 := m ((c.tc : Thread nD τ).loc main_arg4)

/-- The array's row that a point's block holds at `p`. -/
abbrev row (t : Fin cfg0.N) (p : Fin 512) : Fin 8192 :=
  ⟨t.val * 512 + p.val, by have := (idx t).2.2.2.2.2.2.2; omega⟩

/-- The slabs of the projection's gradient the kernel reads: slab `s` is segment `s + 2`, the last two come round. -/
theorem slab_lo (c : Dev nD) (s : Fin 4) (i : Fin 8192) (q : Fin 1024) :
    V m c main_v5 (ix3 ⟨s.val, by omega⟩ i q) = A3 m c (ix2 i ⟨(s.val + 2) * 1024 + q.val, by omega⟩) := by
  entry_read
  pointwise
  exact congrArg (A3 m c) (congrArg (ix2 i) (Fin.ext (by simp only; omega)))

theorem slab_hi (c : Dev nD) (s : Fin 2) (i : Fin 8192) (q : Fin 1024) :
    V m c main_v5 (ix3 ⟨4 + s.val, by omega⟩ i q) = A3 m c (ix2 i ⟨s.val * 1024 + q.val, by omega⟩) := by
  entry_read
  pointwise

/-- The units of the projection's weights. -/
theorem units_at (c : Dev nD) (u : Fin 12) (d : Fin 1024) (k : Fin 512) :
    V m c main_v8 (ix3 u d k) = A2 m c (ix2 d ⟨u.val * 512 + k.val, by omega⟩) := by
  entry_read; pointwise

/-- The twelve partial products of a point. -/
theorem pays_at (x0 x1 x2 x3 x4 x5 x6 x7 x8 x9 x10 x11 : Vec Ideal S1x512x512 .bf16) (y0 y1 y2 y3 y4 y5 y6 y7 y8 y9 y10 y11 : Vec Ideal S1x1024x512 .bf16) (j : S512x1024.Idx) :
    k0_pay8 (k0_pay5 (k0_pay4 x0 y0 x1 y1 x2 y2 x3 y3) x4 y4 x5 y5 x6 y6 x7 y7)
      (k0_pay6 x8) (k0_pay7 y8) x9 y9 x10 y10 x11 y11 j
    = (∑ k : Fin 512, x0 (ix3 0 (j 0) k) * y0 (ix3 0 (j 1) k)) + (∑ k : Fin 512, x1 (ix3 0 (j 0) k) * y1 (ix3 0 (j 1) k)) + (∑ k : Fin 512, x2 (ix3 0 (j 0) k) * y2 (ix3 0 (j 1) k)) + (∑ k : Fin 512, x3 (ix3 0 (j 0) k) * y3 (ix3 0 (j 1) k)) + (∑ k : Fin 512, x4 (ix3 0 (j 0) k) * y4 (ix3 0 (j 1) k)) + (∑ k : Fin 512, x5 (ix3 0 (j 0) k) * y5 (ix3 0 (j 1) k)) + (∑ k : Fin 512, x6 (ix3 0 (j 0) k) * y6 (ix3 0 (j 1) k)) + (∑ k : Fin 512, x7 (ix3 0 (j 0) k) * y7 (ix3 0 (j 1) k)) + (∑ k : Fin 512, x8 (ix3 0 (j 0) k) * y8 (ix3 0 (j 1) k)) + (∑ k : Fin 512, x9 (ix3 0 (j 0) k) * y9 (ix3 0 (j 1) k)) + (∑ k : Fin 512, x10 (ix3 0 (j 0) k) * y10 (ix3 0 (j 1) k)) + (∑ k : Fin 512, x11 (ix3 0 (j 0) k) * y11 (ix3 0 (j 1) k)) := by
  pointwise [k0_pay8, k0_pay7, k0_pay6, k0_pay5, k0_pay4]

theorem slab_block (c : Dev nD) (t : Fin cfg0.N) (s : Fin 6) (p : Fin 512) (q : Fin 1024) :
    iblk m c 0 t (ix3 s p q) = V m c main_v5 (ix3 s (row t p) q) := by
  blk_point [iblk, idx t]

theorem unit_block (c : Dev nD) (t : Fin cfg0.N) (u : Fin 12) (d : Fin 1024) (k : Fin 512) :
    iblk m c 1 t (ix3 u d k) = V m c main_v8 (ix3 u d k) := by
  blk_point [iblk, idx t]

/-- A partial product over one of the first four slabs is a unit of the sum, -/
theorem part_lo (c : Dev nD) (t : Fin cfg0.N) (x : Vec Ideal S6x512x1024 .bf16) (y : Vec Ideal S12x1024x512 .bf16)
    (hx : x = iblk m c 0 t) (hy : y = iblk m c 1 t) (p : Fin 512) (d : Fin 1024) (s : Fin 6) (u : Fin 12) (q : Fin 512 → Fin 1024)
    (hs : s.val < 4) (hq : ∀ k, (s.val + 2) * 1024 + (q k).val = u.val * 512 + k.val) :
    unit (A2 m c) (A3 m c) u (row t p) d = ∑ k : Fin 512, x (ix3 s p (q k)) * y (ix3 u d k) :=
  Finset.sum_congr rfl fun k _ => by
    have h := slab_lo m c ⟨s.val, hs⟩ (row t p) (q k)
    rw [hx, hy, slab_block, unit_block, units_at, h]
    exact congrArg (· * _) (congrArg (A3 m c) (congrArg (ix2 _) (Fin.ext (hq k).symm)))

/-- and so is one over the last two. -/
theorem part_hi (c : Dev nD) (t : Fin cfg0.N) (x : Vec Ideal S6x512x1024 .bf16) (y : Vec Ideal S12x1024x512 .bf16)
    (hx : x = iblk m c 0 t) (hy : y = iblk m c 1 t) (p : Fin 512) (d : Fin 1024) (s : Fin 6) (u : Fin 12) (q : Fin 512 → Fin 1024)
    (hs : 4 ≤ s.val) (hq : ∀ k, (s.val - 4) * 1024 + (q k).val = u.val * 512 + k.val) :
    unit (A2 m c) (A3 m c) u (row t p) d = ∑ k : Fin 512, x (ix3 s p (q k)) * y (ix3 u d k) :=
  Finset.sum_congr rfl fun k _ => by
    have h := slab_hi m c ⟨s.val - 4, by omega⟩ (row t p) (q k)
    have e : (⟨4 + (s.val - 4), by omega⟩ : Fin 6) = s := Fin.ext (by simp only; omega)
    rw [e] at h
    rw [hx, hy, slab_block, unit_block, units_at, h]
    exact congrArg (· * _) (congrArg (A3 m c) (congrArg (ix2 _) (Fin.ext (hq k).symm)))

set_option maxHeartbeats 1600000 in
/-- The partial products of a point's blocks add up to the gradient at the projection's input. -/
theorem products (c : Dev nD) (t : Fin cfg0.N) (x : Vec Ideal S6x512x1024 .bf16) (y : Vec Ideal S12x1024x512 .bf16)
    (hx : x = iblk m c 0 t) (hy : y = iblk m c 1 t) (p : Fin 512) (d : Fin 1024) :
    (∑ k : Fin 512, x (ix3 0 p ⟨k.val, by omega⟩) * y (ix3 4 d k)) + (∑ k : Fin 512, x (ix3 0 p ⟨512 + k.val, by omega⟩) * y (ix3 5 d k)) + (∑ k : Fin 512, x (ix3 1 p ⟨k.val, by omega⟩) * y (ix3 6 d k)) + (∑ k : Fin 512, x (ix3 1 p ⟨512 + k.val, by omega⟩) * y (ix3 7 d k)) + (∑ k : Fin 512, x (ix3 2 p ⟨k.val, by omega⟩) * y (ix3 8 d k)) + (∑ k : Fin 512, x (ix3 2 p ⟨512 + k.val, by omega⟩) * y (ix3 9 d k)) + (∑ k : Fin 512, x (ix3 3 p ⟨k.val, by omega⟩) * y (ix3 10 d k)) + (∑ k : Fin 512, x (ix3 3 p ⟨512 + k.val, by omega⟩) * y (ix3 11 d k)) + (∑ k : Fin 512, x (ix3 4 p ⟨k.val, by omega⟩) * y (ix3 0 d k)) + (∑ k : Fin 512, x (ix3 4 p ⟨512 + k.val, by omega⟩) * y (ix3 1 d k)) + (∑ k : Fin 512, x (ix3 5 p ⟨k.val, by omega⟩) * y (ix3 2 d k)) + (∑ k : Fin 512, x (ix3 5 p ⟨512 + k.val, by omega⟩) * y (ix3 3 d k))
    = du (A2 m c) (A3 m c) (row t p) d := by
  have lo := part_lo m c t x y hx hy p d
  have hi := part_hi m c t x y hx hy p d
  rw [← units, lo 0 4 (fun k => ⟨k.val, by omega⟩) (by decide) (fun k => by simp <;> omega), lo 0 5 (fun k => ⟨512 + k.val, by omega⟩) (by decide) (fun k => by simp <;> omega), lo 1 6 (fun k => ⟨k.val, by omega⟩) (by decide) (fun k => by simp <;> omega), lo 1 7 (fun k => ⟨512 + k.val, by omega⟩) (by decide) (fun k => by simp <;> omega), lo 2 8 (fun k => ⟨k.val, by omega⟩) (by decide) (fun k => by simp <;> omega), lo 2 9 (fun k => ⟨512 + k.val, by omega⟩) (by decide) (fun k => by simp <;> omega), lo 3 10 (fun k => ⟨k.val, by omega⟩) (by decide) (fun k => by simp <;> omega), lo 3 11 (fun k => ⟨512 + k.val, by omega⟩) (by decide) (fun k => by simp <;> omega), hi 4 0 (fun k => ⟨k.val, by omega⟩) (by decide) (fun k => by simp <;> omega), hi 4 1 (fun k => ⟨512 + k.val, by omega⟩) (by decide) (fun k => by simp <;> omega), hi 5 2 (fun k => ⟨k.val, by omega⟩) (by decide) (fun k => by simp <;> omega), hi 5 3 (fun k => ⟨512 + k.val, by omega⟩) (by decide) (fun k => by simp <;> omega)]

end Cert.DxKernelIdeal.Value
-- ==== Proof.Dx.Input.lean ====
/- The gradient at the layer's input, as the run leaves it. -/
module

public import proofs.«01_k».proof.Proof.Dx.Blocks

@[expose] public section

set_option maxRecDepth 16384

noncomputable section

namespace Cert.DxKernelIdeal.Value

open Idealize.ShloMosaic Idealize.ShloMosaic.TcCoe Idealize.SL.Sem
open Idealize.ShloMosaic.Pipeline (Dat)
open Cert.DxKernelIdeal Cert.DxKernelIdeal.Gen

variable (m : (ℓ : Loc nD τ sig) → Buf (Elt Ideal) ℓ)

set_option maxHeartbeats 1600000 in
/-- The gradient at the layer's input. -/
theorem final5 (c : Dev nD) : (dats m 0 c).arrAt 5 (cfgs 0).N
    = fun j => dx (A0 m c) (A1 m c) (A2 m c) (A3 m c) (A4 m c) (j 0) (j 1) := by
  refine (dats m 0 c).arrAt_eq_of_covers 5 _ (by decide +kernel) fun t _ y => ?_
  blk_simp
  rw [after0_5]
  by_cases h : t.val % 16 = 0
  · rw [outsAt0_A m c t h]
    frame_out
    pointwise [k0_pay2, k0_pay9, k0_pay10, pays_at, dx, dNormed, normed, scale, products m c t (iblk m c 0 t) (iblk m c 1 t) rfl rfl]
    blk_point [iblk, V, idx t]
  · rw [outsAt0_B m c t h]
    frame_out
    pointwise [k0_pay2, k0_pay9, k0_pay10, pays_at, dx, dNormed, normed, scale, products m c t (iblk m c 0 t) (iblk m c 1 t) rfl rfl]
    blk_point [iblk, V, idx t]

end Cert.DxKernelIdeal.Value
-- ==== Proof.Dx.Gain.lean ====
/- The gradient of the norm's weights, as the run leaves it. -/
module

public import proofs.«01_k».proof.Proof.Dx.Blocks

@[expose] public section

set_option maxRecDepth 16384

noncomputable section

namespace Cert.DxKernelIdeal.Value

open Idealize.ShloMosaic Idealize.ShloMosaic.TcCoe Idealize.SL.Sem
open Idealize.ShloMosaic.Pipeline (Dat)
open Cert.DxKernelIdeal Cert.DxKernelIdeal.Gen

variable (m : (ℓ : Loc nD τ sig) → Buf (Elt Ideal) ℓ)

/-- The accumulating payload: what was there and the block's column sums. -/
theorem pay1_at (n e : FVec Ideal S512x1024 .f32) (s : FVec Ideal S1x1024 .f32) (j : S1x1024.Idx) :
    k0_pay1 n e s j = s j + ∑ p : Fin 512, n (ix2 p (j 1)) * e (ix2 p (j 1)) := by
  pointwise [k0_pay1]

/-- A sum over a point's rows, over the points, is the sum over the array's rows. -/
theorem sum_rows (f : Fin 8192 → EReal) : ∑ t : Fin cfg0.N, ∑ p : Fin 512, f (row t p) = ∑ i : Fin 8192, f i :=
  (Fin.sum_univ_tiles 16 512 rfl f).symm

set_option maxHeartbeats 1600000 in
/-- The gradient of the norm's weights. -/
theorem final6 (c : Dev nD) : (dats m 0 c).arrAt 6 (cfgs 0).N
    = fun j => dGain (A0 m c) (A2 m c) (A3 m c) (j 1) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun t j => ∑ p : Fin 512, du (A2 m c) (A3 m c) (row t p) (j 1) * normed (A0 m c) (row t p) (j 1))
    (fun t h j => by
      rw [outsAt0_A m c t h]; frame_out; rw [pay1_at]
      pointwise [k0_pay3, k0_pay9, k0_pay10, pays_at, normed, scale, products m c t (iblk m c 0 t) (iblk m c 1 t) rfl rfl]
      blk_point [iblk, V, idx t])
    (fun t h j => by
      rw [outsAt0_B m c t h]; frame_out; rw [pay1_at]
      pointwise [k0_pay9, k0_pay10, pays_at, normed, scale, products m c t (iblk m c 0 t) (iblk m c 1 t) rfl rfl]
      blk_point [iblk, V, idx t])
    (le_of_eq N_0) t0_15 rfl j, zero_add]
  exact sum_rows fun i => du (A2 m c) (A3 m c) i (j 1) * normed (A0 m c) i (j 1)

end Cert.DxKernelIdeal.Value
-- ==== Proof.Dx.Reference.lean ====
/- The pre-norm gradient's reference read at coordinates: its two results are the functions of `Rows`. -/
module

public import proofs.«01_k».proof.Proof.Gen.DxReferenceIdeal.Read
public import proofs.«01_k».proof.Proof.Gen.DxReferenceIdeal.Run
public import proofs.«01_k».proof.Proof.Dx.Rows
public import proofs.«01_k».proof.Proof.Common.Norm
public import proofs.«01_k».proof.Proof.Common.Real

@[expose] public section

set_option maxRecDepth 16384

noncomputable section

namespace Cert.DxReferenceIdeal.Meaning

open Idealize.ShloMosaic Idealize.SL.Sem
open Cert.DxReferenceIdeal Cert.DxReferenceIdeal.Read
open Cert.DxKernelIdeal.Value (du scale normed dNormed dx dGain width offset)
open Cert.Common

variable (x : FVec Ideal S8192x1024 .f32) (g : FVec Ideal S1x1024 .f32) (w : FVec Ideal S1024x6144 .f32)
  (p : FVec Ideal S8192x6144 .f32) (o : FVec Ideal S8192x1024 .f32)

theorem du_eq (i : Fin 8192) (d : Fin 1024) : val_main_v16 (F := Ideal) w p (ix2 i d) = du w p i d := by
  pointwise [val_main_v16, du]

theorem scale_eq (i : Fin 8192) (u : Fin 1) : val_main_v7 (F := Ideal) x (ix2 i u) = scale x i := by
  pointwise [val_main_v7, val_main_v6, val_main_v5, val_main_cst_1, val_main_v4, val_main_v3, val_main_cst_0, val_main_v2, val_main_v1, val_main_cst, val_main_v0, scale]

theorem normed_eq (i : Fin 8192) (d : Fin 1024) : val_main_v12 (F := Ideal) x (ix2 i d) = normed x i d := by
  pointwise [val_main_v12, val_main_v11, scale_eq, normed]

theorem dNormed_eq (i : Fin 8192) (d : Fin 1024) : val_main_v21 (F := Ideal) g w p (ix2 i d) = dNormed g w p i d := by
  pointwise [val_main_v21, val_main_v20, du_eq, dNormed]

theorem dGain_eq (u : Fin 1) (d : Fin 1024) : val_main_v19 (F := Ideal) x w p (ix2 u d) = dGain x w p d := by
  pointwise [val_main_v19, val_main_v18, val_main_cst_3, val_main_v17, normed_eq, du_eq, dGain]
  exact Finset.sum_congr rfl fun i _ => mul_comm _ _

/-- The gradient at the layer's input, where the row and the gradient at its normalisation are real. -/
theorem dx_eq (i : Fin 8192) (d : Fin 1024) (hy : ∃ y : Fin 1024 → ℝ, ∀ d, x (ix2 i d) = (y d : EReal))
    (hn : ∃ n : Fin 1024 → ℝ, ∀ d, dNormed g w p i d = (n d : EReal)) :
    val_main_v36 (F := Ideal) x g w p o (ix2 i d) = dx x g w p o i d := by
  obtain ⟨y, hy⟩ := hy
  obtain ⟨n, hn⟩ := hn
  obtain ⟨e, he, hoff⟩ := ofBits_eps
  have hs : 0 ≤ ∑ l, y l * y l := Finset.sum_nonneg fun l _ => mul_self_nonneg _
  have hA : 0 < (∑ l, y l * y l) / 1024 + e := by positivity
  pointwise [val_main_v36, val_main_v35, val_main_v34, val_main_v33, val_main_v32, val_main_v31, val_main_cst_6, val_main_v30, val_main_v29,
    val_main_cst_5, val_main_v28, val_main_v27, val_main_v26, val_main_v25, val_main_v24, val_main_v23, val_main_cst_4, val_main_v22,
    val_main_v10, val_main_v9, val_main_cst_2, val_main_v8, val_main_v6, val_main_v5, val_main_cst_1, val_main_v4, val_main_v3,
    val_main_cst_0, val_main_v2, val_main_v1, val_main_cst, val_main_v0, scale_eq, dNormed_eq, dx, normed]
  simp only [scale, width, offset, hy, hn, hoff, ofBits_1024, ofBits_neg_half, ← EReal.coe_mul, coe_sum, Finset.univ_unique, Finset.sum_singleton,
    div_real _ (show (1024 : ℝ) ≠ 0 by norm_num), ← EReal.coe_add, rsqrt_real hA, div_real _ hA.ne', ← EReal.coe_sub, add_assoc]
  refine congrArg (o (ix2 i d) + ·) (congrArg _ ?_)
  rw [← add_assoc]
  exact norm_row y n he d

/-- Of real arguments the gradient at the normalised row is real. -/
theorem dNormed_real (hg : ∃ r : S1x1024.Idx → ℝ, g = fun i => ((r i : ℝ) : EReal)) (hw : ∃ r : S1024x6144.Idx → ℝ, w = fun i => ((r i : ℝ) : EReal))
    (hp : ∃ r : S8192x6144.Idx → ℝ, p = fun i => ((r i : ℝ) : EReal)) (i : Fin 8192) :
    ∃ n : Fin 1024 → ℝ, ∀ d, dNormed g w p i d = (n d : EReal) := by
  obtain ⟨rg, rfl⟩ := hg
  obtain ⟨rw', rfl⟩ := hw
  obtain ⟨rp, rfl⟩ := hp
  have h : ∀ d, ∃ r : ℝ, dNormed (fun i => ((rg i : ℝ) : EReal)) (fun i => ((rw' i : ℝ) : EReal)) (fun i => ((rp i : ℝ) : EReal)) i d = r := fun d => by
    simp only [dNormed, du, ← EReal.coe_mul, coe_sum]
    exact ⟨_, rfl⟩
  choose n hn using h
  exact ⟨n, hn⟩

/-- The reference's run, its results by their stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v19) = val_main_v19 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v36_eq ..), (h c).2.1.trans (val_main_v19_eq ..), (h c).2.2⟩)
    (Cert.DxReferenceIdeal.Value.run m ρ)

end Cert.DxReferenceIdeal.Meaning
-- ==== Proof.Dx.Claims.lean ====
/- The claims about the pre-norm gradient: the frames, and the two results against the reference's. -/
module

public import proofs.«01_k».proof.Defs
public import proofs.«01_k».proof.Proof.Gen.DxKernel.Frame
public import proofs.«01_k».proof.Proof.Gen.DxKernelIdeal.Frame
public import proofs.«01_k».proof.Proof.Gen.DxReferenceIdeal.Run
public import proofs.«01_k».proof.Proof.Gen.Pre_dx_finite
public import proofs.«01_k».proof.Proof.Dx.Input
public import proofs.«01_k».proof.Proof.Dx.Gain
public import proofs.«01_k».proof.Proof.Dx.Reference
public import Idealize.ShloMosaic.Lib.Claim

@[expose] public section

set_option maxRecDepth 16384

noncomputable section

namespace Cert.Proof.Dx

open Idealize.ShloMosaic Idealize.SL.Sem
open Cert.DxKernelIdeal.Value Cert.Common

local instance : Cert.DxKernel.Facts := Cert.DxKernel.Gen.facts
local instance : Cert.DxKernelIdeal.Facts := Cert.DxKernelIdeal.Gen.facts
local instance : Cert.DxReferenceIdeal.Facts := Cert.DxReferenceIdeal.Gen.facts
local instance : Cert.Pre_dx_finite.Facts := Cert.Pre_dx_finite.Gen.facts

theorem frame_kernel : Cert.quiescent_DxKernel := fun m ρ _ => Cert.DxKernel.Gen.frame m ρ
theorem frame_kernel_ideal : Cert.quiescent_DxKernelIdeal := fun m ρ _ => Cert.DxKernelIdeal.Gen.frame m ρ
theorem frame_kernel_ideal_pre : Cert.quiescent_DxKernelIdeal_pre_dx_finite := fun m ρ _ => frame_kernel_ideal m ρ trivial
theorem frame_reference : Cert.quiescent_DxReferenceIdeal := by
  intro m g _
  exact (θ_run Cert.DxReferenceIdeal.defs _ _).mono (fun r h => ⟨fun c => (h c).2.2, sem_eq_zero_of_no_sems (by decide) r.2⟩)
    (Cert.DxReferenceIdeal.Meaning.run m g)
theorem frame_reference_pre : Cert.quiescent_DxReferenceIdeal_pre_dx_finite := fun m ρ _ => frame_reference m ρ trivial

/-- The precondition says that the entries of every argument but the residual path's gradient are real. -/
theorem reals (m : (ℓ : Loc Cert.DxKernelIdeal.nD Cert.DxKernelIdeal.τ Cert.DxKernelIdeal.sig) → Buf (Elt Ideal) ℓ)
    (h : Cert.Pre_DxKernelIdeal_dx_finite m) (c : Dev Cert.DxKernelIdeal.nD) :
    (∃ r : _ → ℝ, A0 m c = fun i => ((r i : ℝ) : EReal)) ∧ (∃ r : _ → ℝ, A1 m c = fun i => ((r i : ℝ) : EReal))
    ∧ (∃ r : _ → ℝ, A2 m c = fun i => ((r i : ℝ) : EReal)) ∧ (∃ r : _ → ℝ, A3 m c = fun i => ((r i : ℝ) : EReal)) := by
  have h := congrFun (h c) (fun i => i.elim0)
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ h0, real_of_all _ _ _ _ _ h1, real_of_all _ _ _ _ _ h2, real_of_all _ _ _ _ _ h3⟩

open Cert.DxReferenceIdeal.Meaning in
/-- The two results of the pre-norm's gradient are the reference's, of real arguments. -/
theorem algebraic : Cert.algebraic_DxKernelIdeal_DxReferenceIdeal_pre_dx_finite := by
  pair_intro
  · run_from Cert.DxKernelIdeal.Gen.run_main m g
  · run_from Cert.DxReferenceIdeal.Meaning.run m' g'
    · obtain ⟨h0, h1, h2, h3⟩ := reals m hpre c
      obtain ⟨x, hx⟩ := h0
      rw [final5 m c]; funext j; rw [eq_ix2 j]
      exact dx_eq _ _ _ _ _ _ _ ⟨fun d => x (ix2 (j 0) d), fun d => congrFun hx _⟩ (dNormed_real _ _ _ h1 h2 h3 _)
    · rw [final6 m c]; funext j; rw [eq_ix2 j]; exact dGain_eq ..

end Cert.Proof.Dx
-- ==== Proof.Fin.Rows.lean ====
/- The small gradients' last step as functions of the coordinates. -/
module

public import proofs.«01_k».proof.Proof.Gen.FinKernelIdeal.Skeleton
public import Idealize.ShloMosaic.Lib.Pipeline.ValueKit

@[expose] public section

noncomputable section

namespace Cert.FinKernelIdeal.Value

open Idealize.ShloMosaic Idealize.SL.Sem
open Cert.FinKernelIdeal

variable (a : FVec Ideal S16x1024 .f32) (b : FVec Ideal S7x16x1024 .f32) (l : FVec Ideal S1x1024 .f32) (q : FVec Ideal S2x1024 .f32)

/-- The sum of the eight devices' parts. -/
def total (i : Fin 16) (d : Fin 1024) : EReal := a (ix2 i d) + ∑ k : Fin 7, b (ix3 k i d)

/-- The derivative of the decay's softplus. -/
def slope (d : Fin 1024) : EReal :=
  0 - (Ideal.ofBits .f32 0x3F000000#32 * Ideal.tanh (Ideal.ofBits .f32 0x3F000000#32 * (0 - l (ix2 0 d))) + Ideal.ofBits .f32 0x3F000000#32)

/-- The lower bound: the first of the two logits' weights. -/
def bound (d : Fin 1024) : EReal := Ideal.div 1 (1 + Ideal.exp (q (ix2 1 d) - q (ix2 0 d)))

/-- The gradient of the first logit. -/
def dLogit (d : Fin 1024) : EReal := total a b 9 d * (bound q d * (1 - bound q d))

/-- The sixteen rows of small gradients. -/
def rows (i : Fin 16) (d : Fin 1024) : EReal :=
  if i = 10 then 0 - dLogit a b q d else if i = 9 then dLogit a b q d else if i = 8 then total a b 8 d * slope l d else total a b i d

end Cert.FinKernelIdeal.Value
-- ==== Proof.Fin.Blocks.lean ====
/- The small gradients' last step: the result array after the run. -/
module

public import proofs.«01_k».proof.Proof.Gen.FinKernelIdeal.Value
public import proofs.«01_k».proof.Proof.Fin.Rows
public import Idealize.ShloMosaic.Lib.Pipeline.ValueKit
public import Idealize.ShloMosaic.Lib.StableHlo.ReadAt

@[expose] public section

set_option maxRecDepth 16384

noncomputable section

namespace Cert.FinKernelIdeal.Value

open Idealize.ShloMosaic Idealize.ShloMosaic.TcCoe Idealize.SL.Sem
open Idealize.ShloMosaic.Pipeline (Dat)
open Cert.FinKernelIdeal Cert.FinKernelIdeal.Gen

variable (m : (ℓ : Loc nD τ sig) → Buf (Elt Ideal) ℓ)

theorem idx : ∀ t : Fin cfg0.N, win0_0.index t = ![0, 0] ∧ win0_1.index t = ![0, 0, 0] ∧ win0_2.index t = ![0, 0]
    ∧ win0_3.index t = ![0, 0] ∧ win0_4.index t = ![0, 0] :=
  (by decide +kernel : ∀ t : Fin grid0.N, _)

abbrev A0 (c : Dev nD) : FVec Ideal S16x1024 .f32 := m ((c.tc : Thread nD τ).loc main_arg0)
abbrev A1 (c : Dev nD) : FVec Ideal S7x16x1024 .f32 := m ((c.tc : Thread nD τ).loc main_arg1)
abbrev A2 (c : Dev nD) : FVec Ideal S1x1024 .f32 := m ((c.tc : Thread nD τ).loc main_arg2)
abbrev A3 (c : Dev nD) : FVec Ideal S2x1024 .f32 := m ((c.tc : Thread nD τ).loc main_arg3)

/-- The sum of the eight parts, in the kernel's order. -/
theorem pay4_at (x : Vec Ideal S16x1024 .f32) (y0 y1 y2 y3 y4 y5 y6 : Vec Ideal S1x16x1024 .f32) (j : S16x1024.Idx) :
    k0_pay4 x y0 y1 y2 y3 y4 y5 y6 j = ((x (ix2 (j 0) (j 1)) + y0 (ix3 0 (j 0) (j 1))) + (y1 (ix3 0 (j 0) (j 1)) + y2 (ix3 0 (j 0) (j 1))))
      + ((y3 (ix3 0 (j 0) (j 1)) + y4 (ix3 0 (j 0) (j 1))) + (y5 (ix3 0 (j 0) (j 1)) + y6 (ix3 0 (j 0) (j 1)))) := by
  conv_lhs => rw [eq_ix2 j]
  pointwise [k0_pay4]

/-- The three rows, told by number or by place. -/
theorem ifs (k : Fin 16) (A B C D : EReal) :
    (if k.val = 10 then A else if k.val = 9 then B else if k.val = 8 then C else D)
      = if k = 10 then A else if k = 9 then B else if k = 8 then C else D := by
  simp only [Fin.ext_iff]
  rfl

/-- One row written over an array of sixteen. -/
theorem canon_row (k : ℕ) (inb : ∀ x, (![k, 0] : Fin 2 → ℕ) x + (![1, 1024] : Fin 2 → ℕ) x ≤ S16x1024.size x)
    (w : Vec Ideal S1x1024 .f32) (L : List (View.Piece (Elt Ideal) S16x1024 .f32)) (y : S16x1024.Idx) :
    View.canon ((⟨Rect.unit ![k, 0] ![1, 1024] inb, w⟩ : View.Piece (Elt Ideal) S16x1024 .f32) :: L) y
      = if (y 0).val = k then w (ix2 0 (y 1)) else View.canon L y := by
  by_cases h : (y 0).val = k
  · rw [if_pos h]
    have he : (Rect.unit (s := S16x1024) ![k, 0] ![1, 1024] inb).emb (ix2 (0 : Fin 1) (y 1)) = y := by
      funext x; apply Fin.ext
      fin_cases x
      · show k + 1 * 0 = (y 0).val; omega
      · show 0 + 1 * (y 1).val = (y 1).val; omega
    conv_lhs => rw [← he]
    exact View.canon_cons_emb (Rect.unit (s := S16x1024) ![k, 0] ![1, 1024] inb) w L (ix2 (0 : Fin 1) (y 1))
  · rw [if_neg h]
    refine View.canon_cons_of_not_mem _ L fun hm => h ?_
    obtain ⟨i, hi, he⟩ := (LoadRect.mem_set _).mp hm (0 : Fin 2)
    have hi1 : i < 1 := hi
    have he' : (y 0).val = k + 1 * i := he
    omega

/-- Each window is its whole array. -/
theorem blk0 (c : Dev nD) (t : Fin cfg0.N) : (iblk m c 0 t : Vec Ideal S16x1024 .f32) = A0 m c := by
  funext j
  blk_point [iblk, V, idx t]
theorem blk1 (c : Dev nD) (t : Fin cfg0.N) : (iblk m c 1 t : Vec Ideal S7x16x1024 .f32) = A1 m c := by
  funext j
  blk_point [iblk, V, idx t]
theorem blk2 (c : Dev nD) (t : Fin cfg0.N) : (iblk m c 2 t : Vec Ideal S1x1024 .f32) = A2 m c := by
  funext j
  blk_point [iblk, V, idx t]
theorem blk3 (c : Dev nD) (t : Fin cfg0.N) : (iblk m c 3 t : Vec Ideal S2x1024 .f32) = A3 m c := by
  funext j
  blk_point [iblk, V, idx t]

/-- The rows of small gradients. -/
theorem final4 (c : Dev nD) : (dats m 0 c).arrAt 4 (cfgs 0).N
    = fun j => rows (A0 m c) (A1 m c) (A2 m c) (A3 m c) (j 0) (j 1) := by
  refine (dats m 0 c).arrAt_eq_of_covers 4 _ (by decide +kernel) fun t _ y => ?_
  blk_simp
  rw [after0_4]
  simp only [outsAt0]
  frame_out
  rw [canon_row, canon_row, canon_row, blk0 m c t, blk1 m c t, blk2 m c t, blk3 m c t,
    View.canon_cons_unit_lit (S := S16x1024) _ _ _ (by decide)]
  generalize A0 m c = a
  generalize A1 m c = b
  generalize A2 m c = l
  generalize A3 m c = q
  pointwise [pay4_at, k0_pay1, k0_pay2, k0_pay3, k0_pay5, k0_pay6]
  have e : ∀ X : S16x1024.Idx → EReal, X (((View.whole main_v0).slice (win0_4.rect t)).emb y) = X y := fun X => by blk_point [idx t]
  have r0 : ∀ h : (Memref.whole cc0_stg0_0).IsWhole, View.read (Elt Ideal) (View.whole cc0_stg0_0) (h.unread a) = a := fun h => h.read_unread (Val := Elt Ideal) a
  have r1 : ∀ h : (Memref.whole cc0_stg1_0).IsWhole, View.read (Elt Ideal) (View.whole cc0_stg1_0) (h.unread b) = b := fun h => h.read_unread (Val := Elt Ideal) b
  have r2 : ∀ h : (Memref.whole cc0_stg2_0).IsWhole, View.read (Elt Ideal) (View.whole cc0_stg2_0) (h.unread l) = l := fun h => h.read_unread (Val := Elt Ideal) l
  have r3 : ∀ h : (Memref.whole cc0_stg3_0).IsWhole, View.read (Elt Ideal) (View.whole cc0_stg3_0) (h.unread q) = q := fun h => h.read_unread (Val := Elt Ideal) q
  refine Eq.trans ?_ (e fun j => rows a b l q (j 0) (j 1)).symm
  simp only [r0, r1, r2, r3]
  simp only [rows, total, dLogit, bound, slope, Fin.sum_univ_seven, add_assoc]
  have ha : a y = a (ix2 (y 0) (y 1)) := congrArg a (eq_ix2 (y : S16x1024.Idx))
  rw [ha]
  exact ifs (y 0) _ _ _ _

end Cert.FinKernelIdeal.Value
-- ==== Proof.Fin.Reference.lean ====
/- The last step's reference read at coordinates: its result is the function of `Rows`. -/
module

public import proofs.«01_k».proof.Proof.Gen.FinReferenceIdeal.Read
public import proofs.«01_k».proof.Proof.Gen.FinReferenceIdeal.Run
public import proofs.«01_k».proof.Proof.Fin.Rows
public import Idealize.ShloMosaic.Lib.KernelVsHost
public import proofs.«01_k».proof.Proof.Common.Real

@[expose] public section

set_option maxRecDepth 16384

noncomputable section

namespace Cert.FinReferenceIdeal.Meaning

open Idealize.ShloMosaic Idealize.SL.Sem
open Cert.FinReferenceIdeal Cert.FinReferenceIdeal.Read
open Cert.FinKernelIdeal.Value (total slope bound dLogit rows)
open Cert.Common

variable (a : FVec Ideal S16x1024 .f32) (b : FVec Ideal S7x16x1024 .f32) (l : FVec Ideal S1x1024 .f32) (q : FVec Ideal S2x1024 .f32)

theorem total_eq (i : Fin 16) (d : Fin 1024) : val_main_v1 (F := Ideal) a b (ix2 i d) = total a b i d := by
  pointwise [val_main_v1, val_main_v0, val_main_cst, total]

/-- The greatest of reals, from minus infinity, is real. -/
theorem max_of_reals {ι : Type*} (f : ι → ℝ) : ∀ (s : List ι) (x : EReal), (s ≠ [] ∨ ∃ r : ℝ, x = r) → x ≠ ⊤ →
    ∃ r : ℝ, s.foldl (fun r n => max r ((f n : ℝ) : EReal)) x = r
  | [], x, h, hx => by simpa using h
  | n :: s, x, _, hx => by
    refine max_of_reals f s _ (Or.inr ?_) (max_lt (lt_top_iff_ne_top.2 hx) (EReal.coe_lt_top _)).ne
    induction x with
    | bot => exact ⟨f n, max_eq_right bot_le⟩
    | coe r => exact ⟨max r (f n), max_real _ _⟩
    | top => exact absurd rfl hx

/-- The two logits' maximum is real. -/
theorem max_eq (r : S2x1024.Idx → ℝ) (d : Fin 1024) : ∃ M : ℝ, val_main_v7 (F := Ideal) (fun i => ((r i : ℝ) : EReal)) (ix1 d) = M := by
  unfold val_main_v7 Host.reduce
  refine max_of_reals (fun n => r (S2x1024.rowMajor.symm n)) _ _ (Or.inl ?_) ?_
  · refine List.ne_nil_of_mem (a := S2x1024.rowMajor (ix2 0 d)) (List.mem_filter.2 ⟨List.mem_finRange _, ?_⟩)
    simp only [Equiv.symm_apply_apply, decide_eq_true_eq]
    funext k
    fin_cases k
    rfl
  · pointwise [val_main_cst_0]
    simp [Ideal.ofBits, Ideal.ieee]

theorem pad_eq (j : S2x1024.Idx) : val_main_v38 (F := Ideal) a b j = if (j 0).val = 0 then total a b 9 (j 1) else 0 := by
  rw [eq_ix2 j]
  pointwise [val_main_v38, val_main_v37, val_main_cst_10, total_eq]
  by_cases h : (j 0).val = 0
  · rw [if_pos h]
    refine (dif_pos (by omega)).trans (congrArg (total a b · (j 1)) (Fin.ext ?_))
    show 9 + (j 0).val = 9
    omega
  · rw [if_neg h]
    exact dif_neg (by omega)

/-- A row in front of nothing, padded below and summed from each row down. -/
theorem tail_eq (i : Fin 2) (d : Fin 1024) : val_main_v39 (F := Ideal) a b (ix2 i d) = if i = 0 then total a b 9 d else 0 := by
  unfold val_main_v39 Host.reduceWindowAdd
  simp only [Ideal.hostReduceWindowAdd_def, Ideal.hostReduceWindowAdd, Host.reduceWindow]
  have hl : List.finRange (Shape.numel ⟨2, ![2, 1]⟩) = [⟨0, by decide⟩, ⟨1, by decide⟩] := by decide
  have h0 : ∀ a, ((⟨2, ![2, 1]⟩ : Shape).rowMajor.symm ⟨0, by decide⟩ a).val = 0 := by decide
  have h1 : ((⟨2, ![2, 1]⟩ : Shape).rowMajor.symm ⟨1, by decide⟩ 0).val = 1 := by decide
  have h1' : ((⟨2, ![2, 1]⟩ : Shape).rowMajor.symm ⟨1, by decide⟩ 1).val = 0 := by decide
  have hz : val_main_call3_call0_v0 (F := Ideal) (Shape.Idx.first Gen.h_S_) = 0 := by
    pointwise [val_main_call3_call0_v0, val_main_call3_call0_cst]
  have hd := d.isLt
  rw [hl]
  simp only [List.foldl, pad_eq, h0, hz]
  fin_cases i
  · simp [Fin.forall_fin_two, ix2, hd]
    erw [h1]
    simp
  · simp [Fin.forall_fin_two, ix2, hd]

theorem half_tanh (x : ℝ) : 1 / 2 * Real.tanh (1 / 2 * x) + 1 / 2 = 1 / (1 + Real.exp (-x)) := by
  have h : Real.exp (-x) = Real.exp (-(1 / 2 * x)) * Real.exp (-(1 / 2 * x)) := by rw [← Real.exp_add]; congr 1; ring
  rw [Real.tanh_eq_sinh_div_cosh, Real.sinh_eq, Real.cosh_eq, h, Real.exp_neg]
  have hu := Real.exp_pos (1 / 2 * x)
  generalize Real.exp (1 / 2 * x) = u at hu
  field_simp
  ring

/-- The derivative of the softplus. -/
theorem exp_sub_softplus (x : ℝ) : Real.exp (x - (max x 0 + Real.log (1 + Real.exp (-|x|)))) = 1 / (1 + Real.exp (-x)) := by
  have hp : 0 < 1 + Real.exp (-|x|) := by positivity
  rw [← sub_sub, Real.exp_sub, Real.exp_log hp]
  rcases le_total 0 x with h | h
  · rw [max_eq_left h, abs_of_nonneg h, sub_self, Real.exp_zero]
  · rw [max_eq_right h, abs_of_nonpos h, sub_zero, neg_neg, Real.exp_neg]
    have := Real.exp_pos x
    field_simp
    ring

theorem slope_eq (r : S1x1024.Idx → ℝ) (d : Fin 1024) :
    val_main_v3_1 (F := Ideal) (fun i => ((r i : ℝ) : EReal)) (ix2 0 d) = ((1 / (1 + Real.exp (r (ix2 0 d))) : ℝ) : EReal) := by
  pointwise [val_main_v3_1, val_main_call0_v21, val_main_call0_v20, val_main_call0_v19, val_main_call0_cst_3, val_main_call0_v18, val_main_call0_v17,
    val_main_call0_cst_2, val_main_call0_v16, val_main_call0_v15, val_main_call0_cst_1, val_main_call0_v14, val_main_call0_v13, val_main_call0_cst_0,
    val_main_v3_0, val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_call0_cst, val_main_v2]
  simp only [ofBits_inf, ← EReal.coe_neg, ne_eq, not_true, if_false, EReal.coe_ne_top, Ideal.absf_def, Ideal.log1p]
  rw [← EReal.coe_zero, max_real]
  erw [abs_real]
  norm_cast
  rw [log_real (by positivity)]
  norm_cast
  rw [if_neg (EReal.coe_ne_top _)]
  norm_cast
  rw [exp_sub_softplus, neg_neg]

/-- The gradient of the lower bound's logits. -/
theorem logit_real (D l0 l1 M : ℝ) :
    (D / (Real.exp (l0 - M) + Real.exp (l1 - M)) + -(D * (1 / ((Real.exp (l0 - M) + Real.exp (l1 - M)) * (Real.exp (l0 - M) + Real.exp (l1 - M)))) * Real.exp (l0 - M)))
      * Real.exp (l0 - M) = D * (1 / (1 + Real.exp (l1 - l0)) * (1 - 1 / (1 + Real.exp (l1 - l0)))) := by
  have h : Real.exp (l1 - l0) = Real.exp (l1 - M) / Real.exp (l0 - M) := by rw [← Real.exp_sub]; congr 1; ring
  rw [h]
  have h0 := Real.exp_pos (l0 - M)
  have h1 := Real.exp_pos (l1 - M)
  generalize Real.exp (l0 - M) = u at h0
  generalize Real.exp (l1 - M) = v at h1
  have : u + v ≠ 0 := by positivity
  field_simp
  ring

theorem logit_real' (D l0 l1 M : ℝ) :
    -(D * (1 / ((Real.exp (l0 - M) + Real.exp (l1 - M)) * (Real.exp (l0 - M) + Real.exp (l1 - M)))) * Real.exp (l0 - M))
      * Real.exp (l1 - M) = - (D * (1 / (1 + Real.exp (l1 - l0)) * (1 - 1 / (1 + Real.exp (l1 - l0))))) := by
  have h : Real.exp (l1 - l0) = Real.exp (l1 - M) / Real.exp (l0 - M) := by rw [← Real.exp_sub]; congr 1; ring
  rw [h]
  have h0 := Real.exp_pos (l0 - M)
  have h1 := Real.exp_pos (l1 - M)
  generalize Real.exp (l0 - M) = u at h0
  generalize Real.exp (l1 - M) = v at h1
  have : u + v ≠ 0 := by positivity
  field_simp
  ring

theorem ofBits_neg_inf : Ideal.ofBits .f32 4286578688#32 = ⊥ := by simp [Ideal.ofBits, Ideal.ieee]

theorem logit_eq (r : S2x1024.Idx → ℝ) (d : Fin 1024) (D : ℝ) (hD : total a b 9 d = D) :
    val_main_v51 (F := Ideal) a b (fun i => ((r i : ℝ) : EReal)) (ix2 0 d) = dLogit a b (fun i => ((r i : ℝ) : EReal)) d
    ∧ val_main_v51 (F := Ideal) a b (fun i => ((r i : ℝ) : EReal)) (ix2 1 d) = 0 - dLogit a b (fun i => ((r i : ℝ) : EReal)) d := by
  obtain ⟨M, hM⟩ := max_eq r d
  have hs : Real.exp (r (ix2 0 d) - M) + Real.exp (r (ix2 1 d) - M) ≠ 0 := by positivity
  have hb : 1 + Real.exp (r (ix2 1 d) - r (ix2 0 d)) ≠ 0 := by positivity
  have hbound : bound (fun i => ((r i : ℝ) : EReal)) d = ((1 / (1 + Real.exp (r (ix2 1 d) - r (ix2 0 d))) : ℝ) : EReal) := by
    simp only [bound, ← EReal.coe_sub, ← coe_exp]
    rw [← EReal.coe_one, ← EReal.coe_add, div_real _ hb]
  have hss := mul_ne_zero hs hs
  have z : (0 : EReal) = ((0 : ℝ) : EReal) := rfl
  have o : (1 : EReal) = ((1 : ℝ) : EReal) := rfl
  refine ⟨?_, ?_⟩
  · pointwise [val_main_v51, val_main_v50, val_main_v49, val_main_v48, val_main_cst_12, val_main_v47, val_main_v46, val_main_v45, val_main_v44, val_main_v43,
      val_main_cst_11, val_main_v42, val_main_v41, val_main_v40, val_main_v34, val_main_v33, val_main_cst_9, val_main_v32, val_main_v29, val_main_v28, val_main_cst_8,
      val_main_v27, val_main_v26, val_main_v25, val_main_v24, val_main_v14, val_main_v13, val_main_cst_2, tail_eq]
    simp only [dLogit, hbound, hD, ← EReal.coe_one, ← EReal.coe_zero, Fin.sum_univ_two, Finset.univ_unique, Finset.sum_singleton, hM, ofBits_neg_inf, bot_le, max_eq_right, ← EReal.coe_sub, ← coe_exp,
      ← EReal.coe_add, ← EReal.coe_mul, div_real _ hs, div_real _ hss, ← EReal.coe_neg, EReal.coe_one, EReal.coe_zero, one_ne_zero, if_true, if_false, zero_mul, add_zero]
    rw [o]
    simp only [div_real _ hss, ← EReal.coe_mul, ← EReal.coe_neg, ← EReal.coe_add, ← EReal.coe_sub]
    rw [logit_real]
  · pointwise [val_main_v51, val_main_v50, val_main_v49, val_main_v48, val_main_cst_12, val_main_v47, val_main_v46, val_main_v45, val_main_v44, val_main_v43,
      val_main_cst_11, val_main_v42, val_main_v41, val_main_v40, val_main_v34, val_main_v33, val_main_cst_9, val_main_v32, val_main_v29, val_main_v28, val_main_cst_8,
      val_main_v27, val_main_v26, val_main_v25, val_main_v24, val_main_v14, val_main_v13, val_main_cst_2, tail_eq]
    simp only [dLogit, hbound, hD, ← EReal.coe_one, ← EReal.coe_zero, Fin.sum_univ_two, Finset.univ_unique, Finset.sum_singleton, hM, ofBits_neg_inf, bot_le, max_eq_right, ← EReal.coe_sub, ← coe_exp,
      ← EReal.coe_add, ← EReal.coe_mul, div_real _ hs, div_real _ hss, ← EReal.coe_neg, EReal.coe_one, EReal.coe_zero, one_ne_zero, if_true, if_false, zero_mul, add_zero]
    rw [z, o]
    simp only [div_real _ hs, div_real _ hss, ← EReal.coe_mul, ← EReal.coe_neg, ← EReal.coe_add, ← EReal.coe_sub]
    rw [zero_div, zero_add, zero_sub, logit_real']

theorem rows_eq (r : S1x1024.Idx → ℝ) (s : S2x1024.Idx → ℝ) (i : Fin 16) (d : Fin 1024) (D : ℝ) (hD : total a b 9 d = D) :
    val_main_v54 (F := Ideal) a b (fun i => ((r i : ℝ) : EReal)) (fun i => ((s i : ℝ) : EReal)) (ix2 i d)
      = rows a b (fun i => ((r i : ℝ) : EReal)) (fun i => ((s i : ℝ) : EReal)) i d := by
  have hl := logit_eq a b s d D hD
  have hs : slope (fun i => ((r i : ℝ) : EReal)) d = -((1 / (1 + Real.exp (r (ix2 0 d))) : ℝ) : EReal) := by
    rw [FinKernelIdeal.Value.slope, ofBits_half, ← EReal.coe_zero]
    norm_cast
    rw [half_tanh]
    norm_num
  pointwise [val_main_v54, val_main_v53, val_main_v52, val_main_v6, val_main_v5, val_main_v4, total_eq]
  by_cases h : i.val < 8
  · have h8 : i ≠ 8 := fun e => by subst e; exact absurd h (by decide)
    have h9 : i ≠ 9 := fun e => by subst e; exact absurd h (by decide)
    have h10 : i ≠ 10 := fun e => by subst e; exact absurd h (by decide)
    refine (dif_pos h).trans ?_
    rw [rows, if_neg h10, if_neg h9, if_neg h8]
  refine (dif_neg h).trans ?_
  by_cases h8 : i = 8
  · subst h8
    refine (dif_pos (by decide)).trans (Eq.trans (congrArg (fun x => -(total a b 8 d * x)) (slope_eq r d)) ?_)
    rw [rows, if_neg (by decide), if_neg (by decide), if_pos rfl, hs]
    exact (mul_neg _ _).symm
  by_cases h9 : i = 9
  · subst h9
    refine (dif_neg (by decide)).trans ((dif_pos (by decide)).trans (hl.1.trans ?_))
    rw [rows, if_neg (by decide), if_pos rfl]
  by_cases h10 : i = 10
  · subst h10
    refine (dif_neg (by decide)).trans ((dif_pos (by decide)).trans (hl.2.trans ?_))
    rw [rows, if_pos rfl]
  have h11 : 11 ≤ i.val := by
    have := Fin.val_ne_iff.2 h8
    have := Fin.val_ne_iff.2 h9
    have := Fin.val_ne_iff.2 h10
    simp at *
    omega
  refine (dif_neg (by omega)).trans ((dif_neg (by omega)).trans (Eq.trans (congrArg (total a b · d) (Fin.ext (b := i) (by show 11 + (i.val - 8 - 1 - 2) = i.val; omega))) ?_))
  rw [rows, if_neg h10, if_neg h9, if_neg h8]

/-- The reference's run, its result by its stages. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54) = val_main_v54 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v54_eq ..), (h c).2⟩)
    (Cert.FinReferenceIdeal.Value.run m ρ)

end Cert.FinReferenceIdeal.Meaning
-- ==== Proof.Fin.Claims.lean ====
/- The claims about the last step of the small gradients: the frames, and the result against the reference's. -/
module

public import proofs.«01_k».proof.Defs
public import proofs.«01_k».proof.Proof.Gen.FinKernel.Frame
public import proofs.«01_k».proof.Proof.Gen.FinKernelIdeal.Frame
public import proofs.«01_k».proof.Proof.Gen.FinReferenceIdeal.Run
public import proofs.«01_k».proof.Proof.Gen.Pre_fin_finite
public import proofs.«01_k».proof.Proof.Fin.Blocks
public import proofs.«01_k».proof.Proof.Fin.Reference
public import Idealize.ShloMosaic.Lib.Claim

@[expose] public section

set_option maxRecDepth 16384

noncomputable section

namespace Cert.Proof.Fin

open Idealize.ShloMosaic Idealize.SL.Sem
open Cert.FinKernelIdeal.Value Cert.Common

local instance : Cert.FinKernel.Facts := Cert.FinKernel.Gen.facts
local instance : Cert.FinKernelIdeal.Facts := Cert.FinKernelIdeal.Gen.facts
local instance : Cert.FinReferenceIdeal.Facts := Cert.FinReferenceIdeal.Gen.facts
local instance : Cert.Pre_fin_finite.Facts := Cert.Pre_fin_finite.Gen.facts

theorem frame_kernel : Cert.quiescent_FinKernel := fun m ρ _ => Cert.FinKernel.Gen.frame m ρ
theorem frame_kernel_ideal : Cert.quiescent_FinKernelIdeal := fun m ρ _ => Cert.FinKernelIdeal.Gen.frame m ρ
theorem frame_kernel_ideal_pre : Cert.quiescent_FinKernelIdeal_pre_fin_finite := fun m ρ _ => frame_kernel_ideal m ρ trivial
theorem frame_reference : Cert.quiescent_FinReferenceIdeal := by
  intro m g _
  exact (θ_run Cert.FinReferenceIdeal.defs _ _).mono (fun r h => ⟨fun c => (h c).2, sem_eq_zero_of_no_sems (by decide) r.2⟩)
    (Cert.FinReferenceIdeal.Meaning.run m g)
theorem frame_reference_pre : Cert.quiescent_FinReferenceIdeal_pre_fin_finite := fun m ρ _ => frame_reference m ρ trivial

/-- The precondition says that the entries of every argument are real. -/
theorem reals (m : (ℓ : Loc Cert.FinKernelIdeal.nD Cert.FinKernelIdeal.τ Cert.FinKernelIdeal.sig) → Buf (Elt Ideal) ℓ)
    (h : Cert.Pre_FinKernelIdeal_fin_finite m) (c : Dev Cert.FinKernelIdeal.nD) :
    (∃ r : _ → ℝ, A0 m c = fun i => ((r i : ℝ) : EReal)) ∧ (∃ r : _ → ℝ, A1 m c = fun i => ((r i : ℝ) : EReal))
    ∧ (∃ r : _ → ℝ, A2 m c = fun i => ((r i : ℝ) : EReal)) ∧ (∃ r : _ → ℝ, A3 m c = fun i => ((r i : ℝ) : EReal)) := by
  have h := congrFun (h c) (fun i => i.elim0)
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ h0, real_of_all _ _ _ _ _ h1, real_of_all _ _ _ _ _ h2, real_of_all _ _ _ _ _ h3⟩

open Cert.FinReferenceIdeal.Meaning in
/-- The rows of small gradients are the reference's, of real arguments. -/
theorem algebraic : Cert.algebraic_FinKernelIdeal_FinReferenceIdeal_pre_fin_finite := by
  pair_intro
  · run_from Cert.FinKernelIdeal.Gen.run_main m g
  · run_from Cert.FinReferenceIdeal.Meaning.run m' g'
    obtain ⟨⟨a, ha⟩, ⟨b, hb⟩, ⟨l, hl⟩, ⟨q, hq⟩⟩ := reals m hpre c
    have hD : ∀ d, total (A0 m c) (A1 m c) 9 d = ((a (ix2 9 d) + ∑ k : Fin 7, b (ix3 k 9 d) : ℝ) : EReal) := fun d => by
      rw [ha, hb]; simp only [total, coe_sum, ← EReal.coe_add]
    rw [final4 m c]; funext j; rw [eq_ix2 j]
    have h := rows_eq (A0 m c) (A1 m c) l q (j 0) (j 1) _ (hD (j 1))
    rw [← hl, ← hq] at h
    exact h

end Cert.Proof.Fin
-- ==== Proof.Dwo.Blocks.lean ====
/- The gradient of the output projection's weights: the result array after the run. -/
module

public import proofs.«01_k».proof.Proof.Gen.DwoKernelIdeal.Value
public import Idealize.ShloMosaic.Lib.Pipeline.ValueKit
public import Idealize.ShloMosaic.Lib.StableHlo.ReadAt

@[expose] public section

set_option maxRecDepth 16384

noncomputable section

namespace Cert.DwoKernelIdeal.Value

open Idealize.ShloMosaic Idealize.ShloMosaic.TcCoe Idealize.SL.Sem
open Idealize.ShloMosaic.Pipeline (Dat)
open Cert.DwoKernelIdeal Cert.DwoKernelIdeal.Gen

variable (m : (ℓ : Loc nD τ sig) → Buf (Elt Ideal) ℓ)

theorem idx : ∀ t : Fin cfg0.N, win0_0.index t = ![t.val / 4, t.val % 2, t.val / 2 % 2] ∧ win0_1.index t = ![t.val % 2, 0]
    ∧ win0_2.index t = ![0, t.val / 2, 0, 0] ∧ t.val < 8 :=
  (by decide +kernel : ∀ t : Fin grid0.N, _)

abbrev A0 (c : Dev nD) : FVec Ideal S8192x2048 .f32 := m ((c.tc : Thread nD τ).loc main_arg0)
abbrev A2 (c : Dev nD) : FVec Ideal S8192x1024 .f32 := m ((c.tc : Thread nD τ).loc main_arg2)

/-- The two arrays the region reads are the arguments, the first cut into its halves of columns. -/
theorem left_at (c : Dev nD) (h : Fin 2) (i : Fin 8192) (q : Fin 1024) :
    V m c main_v2 (ix3 h i q) = A0 m c (ix2 i ⟨h.val * 1024 + q.val, by omega⟩) := by
  entry_read; pointwise
theorem right_at (c : Dev nD) (i : Fin 8192) (d : Fin 1024) : V m c main_v3 (ix2 i d) = A2 m c (ix2 i d) := by
  entry_read; pointwise

/-- A point's product, at a row and a column. -/
theorem pay2_at (x : Vec Ideal S1x4096x512 .bf16) (y : Vec Ideal S4096x1024 .bf16) (r : Fin 512) (d : Fin 1024) :
    k0_pay2 x y (ix2 r d) = ∑ k : Fin 4096, x (ix3 0 k r) * y (ix2 k d) := by
  pointwise [k0_pay2]

theorem pay3_at (x : Vec Ideal S1x4096x512 .bf16) (y : Vec Ideal S4096x1024 .bf16) (a : Vec Ideal S1x1x256x1024 .f32) (r : Fin 256) (d : Fin 1024) :
    k0_pay3 x y a (ix4 0 0 r d) = a (ix4 0 0 r d) + ∑ k : Fin 4096, x (ix3 0 k ⟨r.val, by omega⟩) * y (ix2 k d) := by
  pointwise [k0_pay3, pay2_at]

theorem pay4_at (x : Vec Ideal S1x4096x512 .bf16) (y : Vec Ideal S4096x1024 .bf16) (a : Vec Ideal S1x1x256x1024 .f32) (r : Fin 256) (d : Fin 1024) :
    k0_pay4 x y a (ix4 0 0 r d) = a (ix4 0 0 r d) + ∑ k : Fin 4096, x (ix3 0 k ⟨256 + r.val, by omega⟩) * y (ix2 k d) := by
  pointwise [k0_pay4, pay2_at]

/-- One half of the rows written over both. -/
theorem canon_half (k : ℕ) (inb : ∀ x, (![k, 0, 0, 0] : Fin 4 → ℕ) x + (![1, 1, 256, 1024] : Fin 4 → ℕ) x ≤ S2x1x256x1024.size x)
    (w : Vec Ideal S1x1x256x1024 .f32) (L : List (View.Piece (Elt Ideal) S2x1x256x1024 .f32)) (h : Fin 2) (r : Fin 256) (d : Fin 1024) :
    View.canon ((⟨Rect.unit ![k, 0, 0, 0] ![1, 1, 256, 1024] inb, w⟩ : View.Piece (Elt Ideal) S2x1x256x1024 .f32) :: L) (ix4 h 0 r d)
      = if h.val = k then w (ix4 0 0 r d) else View.canon L (ix4 h 0 r d) := by
  by_cases hk : h.val = k
  · rw [if_pos hk]
    have he : (Rect.unit (s := S2x1x256x1024) ![k, 0, 0, 0] ![1, 1, 256, 1024] inb).emb (ix4 (0 : Fin 1) (0 : Fin 1) r d) = ix4 h 0 r d := by
      funext x; apply Fin.ext
      fin_cases x
      · show k + 1 * 0 = h.val; omega
      · show 0 + 1 * 0 = 0; omega
      · show 0 + 1 * r.val = r.val; omega
      · show 0 + 1 * d.val = d.val; omega
    conv_lhs => rw [← he]
    exact View.canon_cons_emb (Rect.unit (s := S2x1x256x1024) ![k, 0, 0, 0] ![1, 1, 256, 1024] inb) w L (ix4 (0 : Fin 1) (0 : Fin 1) r d)
  · rw [if_neg hk]
    refine View.canon_cons_of_not_mem _ L fun hm => hk ?_
    obtain ⟨i, hi, he⟩ := (LoadRect.mem_set _).mp hm (0 : Fin 4)
    have hi1 : i < 1 := hi
    have he' : h.val = k + 1 * i := he
    omega

/-- The place a load of one half reads. -/
theorem half_emb (k : ℕ) (inb : ∀ x, (![k, 0, 0, 0] : Fin 4 → ℕ) x + (![1, 1, 256, 1024] : Fin 4 → ℕ) x ≤ S2x1x256x1024.size x)
    (h : Fin 2) (r : Fin 256) (d : Fin 1024) (hk : h.val = k) :
    (Rect.unit (s := S2x1x256x1024) ![k, 0, 0, 0] ![1, 1, 256, 1024] inb).emb (ix4 0 0 r d) = ix4 h 0 r d := by
  funext x; apply Fin.ext
  fin_cases x
  · show k + 1 * 0 = h.val; omega
  · show 0 + 1 * 0 = 0; omega
  · show 0 + 1 * r.val = r.val; omega
  · show 0 + 1 * d.val = d.val; omega

/-- A load from stores that cover everything: what they left, at the load's place. -/
theorem load_half (v : View sig .tc .vmem S2x1x256x1024 .f32) (k : ℕ)
    (inb : ∀ x, (![k, 0, 0, 0] : Fin 4 → ℕ) x + (![1, 1, 256, 1024] : Fin 4 → ℕ) x ≤ S2x1x256x1024.size x)
    (L : List (View.Piece (Elt Ideal) S2x1x256x1024 .f32))
    (hL : ∀ y : S2x1x256x1024.Idx, ∃ p ∈ L, y ∈ p.1.set) (h : Fin 2) (r : Fin 256) (d : Fin 1024) (hk : h.val = k) :
    v.readCov L (Rect.unit (s := S2x1x256x1024) ![k, 0, 0, 0] ![1, 1, 256, 1024] inb).toLoadRect (ix4 0 0 r d)
      = View.canon L (ix4 h 0 r d) := by
  rw [View.readCov_eq_canon_ld _ _ _ hL]
  exact congrArg (View.canon L) (half_emb k inb h r d hk)

theorem ld_half (xo : Vec Ideal S2x1x256x1024 .f32) (k : ℕ)
    (inb : ∀ x, (![k, 0, 0, 0] : Fin 4 → ℕ) x + (![1, 1, 256, 1024] : Fin 4 → ℕ) x ≤ S2x1x256x1024.size x)
    (h : Fin 2) (r : Fin 256) (d : Fin 1024) (hk : h.val = k) :
    View.ld xo (Rect.unit (s := S2x1x256x1024) ![k, 0, 0, 0] ![1, 1, 256, 1024] inb) (ix4 0 0 r d) = xo (ix4 h 0 r d) :=
  congrArg xo (half_emb k inb h r d hk)

theorem whole_mem (y : S2x1x256x1024.Idx) : y ∈ (Rect.unit (s := S2x1x256x1024) ![0, 0, 0, 0] ![2, 1, 256, 1024] inb_S2x1x256x1024_S2x1x256x1024_0_0_0_0).set := by
  rw [Rect.mem_set_unit]
  intro a
  have h := (y a).isLt
  fin_cases a <;> exact ⟨Nat.zero_le _, by simpa using h⟩

/-- The store over everything, and what a load of one half finds behind it. -/
abbrev over (w : Vec Ideal S2x1x256x1024 .f32) : View.Piece (Elt Ideal) S2x1x256x1024 .f32 :=
  ⟨Rect.unit (s := S2x1x256x1024) ![0, 0, 0, 0] ![2, 1, 256, 1024] inb_S2x1x256x1024_S2x1x256x1024_0_0_0_0, w⟩

theorem load_over (v : View sig .tc .vmem S2x1x256x1024 .f32) (k : ℕ)
    (inb : ∀ x, (![k, 0, 0, 0] : Fin 4 → ℕ) x + (![1, 1, 256, 1024] : Fin 4 → ℕ) x ≤ S2x1x256x1024.size x)
    (w : Vec Ideal S2x1x256x1024 .f32) (h : Fin 2) (r : Fin 256) (d : Fin 1024) (hk : h.val = k) :
    v.readCov [over w] (Rect.unit (s := S2x1x256x1024) ![k, 0, 0, 0] ![1, 1, 256, 1024] inb).toLoadRect (ix4 0 0 r d) = w (ix4 h 0 r d) := by
  rw [load_half v k inb [over w] (fun y => ⟨_, List.mem_cons_self, whole_mem y⟩) h r d hk, View.canon_cons_unit_lit (S := S2x1x256x1024) _ _ _ (by decide)]

theorem load_behind (v : View sig .tc .vmem S2x1x256x1024 .f32) (k k' : ℕ)
    (inb : ∀ x, (![k, 0, 0, 0] : Fin 4 → ℕ) x + (![1, 1, 256, 1024] : Fin 4 → ℕ) x ≤ S2x1x256x1024.size x)
    (inb' : ∀ x, (![k', 0, 0, 0] : Fin 4 → ℕ) x + (![1, 1, 256, 1024] : Fin 4 → ℕ) x ≤ S2x1x256x1024.size x)
    (w : Vec Ideal S2x1x256x1024 .f32) (w' : Vec Ideal S1x1x256x1024 .f32) (h : Fin 2) (r : Fin 256) (d : Fin 1024) (hk : h.val = k) (hk' : k ≠ k') :
    v.readCov [(⟨Rect.unit ![k', 0, 0, 0] ![1, 1, 256, 1024] inb', w'⟩ : View.Piece (Elt Ideal) S2x1x256x1024 .f32), over w]
      (Rect.unit (s := S2x1x256x1024) ![k, 0, 0, 0] ![1, 1, 256, 1024] inb).toLoadRect (ix4 0 0 r d) = w (ix4 h 0 r d) := by
  rw [load_half v k inb _ (fun y => ⟨over w, List.mem_cons_of_mem _ List.mem_cons_self, whole_mem y⟩) h r d hk, canon_half, if_neg (by omega),
    View.canon_cons_unit_lit (S := S2x1x256x1024) _ _ _ (by decide)]

/-- What a point adds at a half, a row and a column. -/
def term (x : Vec Ideal S1x4096x512 .bf16) (y : Vec Ideal S4096x1024 .bf16) (h : Fin 2) (r : Fin 256) (d : Fin 1024) : EReal :=
  ∑ k : Fin 4096, x (ix3 0 k ⟨h.val * 256 + r.val, by omega⟩) * y (ix2 k d)

theorem stepA (c : Dev nD) (t : Fin cfg0.N) (ht : t.val % 2 = 0) (h : Fin 2) (r : Fin 256) (d : Fin 1024) :
    outsAt0 m c t.val t.isLt (ix4 h 0 r d) = term (iblk m c 0 t) (iblk m c 1 t) h r d := by
  rw [outsAt0_A m c t ht]
  generalize (iblk m c 0 t : Vec Ideal S1x4096x512 .bf16) = x0
  generalize (iblk m c 1 t : Vec Ideal S4096x1024 .bf16) = x1
  have z : ∀ j, (k0_pay1 : FVec Ideal S2x1x256x1024 .f32) j = 0 := fun j => by
    conv_lhs => rw [eq_ix4 j]
    pointwise [k0_pay1]
  frame_out
  rw [canon_half, canon_half]
  rcases (by omega : h.val = 0 ∨ h.val = 1) with hh | hh
  · rw [if_neg (by omega), if_pos hh, pay3_at, load_over _ _ _ _ h _ _ hh, z, zero_add]
    exact Finset.sum_congr rfl fun k _ => congrArg (· * _) (congrArg x0 (congrArg (ix3 0 k) (Fin.ext (by simp only; omega))))
  · rw [if_pos hh, pay4_at, load_behind _ _ _ _ _ _ _ h _ _ hh (by decide), z, zero_add]
    exact Finset.sum_congr rfl fun k _ => congrArg (· * _) (congrArg x0 (congrArg (ix3 0 k) (Fin.ext (by simp only; omega))))

theorem stepB (c : Dev nD) (t : Fin cfg0.N) (ht : ¬ t.val % 2 = 0) (h : Fin 2) (r : Fin 256) (d : Fin 1024) :
    outsAt0 m c t.val t.isLt (ix4 h 0 r d)
      = outsAt0 m c (t.val - 1) (Nat.lt_of_le_of_lt (Nat.sub_le _ _) t.isLt) (ix4 h 0 r d) + term (iblk m c 0 t) (iblk m c 1 t) h r d := by
  rw [outsAt0_B m c t ht]
  generalize (iblk m c 0 t : Vec Ideal S1x4096x512 .bf16) = x0
  generalize (iblk m c 1 t : Vec Ideal S4096x1024 .bf16) = x1
  generalize outsAt0 m c (t.val - 1) _ = xo
  frame_out
  rw [canon_half, canon_half]
  rcases (by omega : h.val = 0 ∨ h.val = 1) with hh | hh
  · rw [if_neg (by omega), if_pos hh, pay3_at, ld_half _ _ _ h _ _ hh]
    exact congrArg (_ + ·) (Finset.sum_congr rfl fun k _ => congrArg (· * _) (congrArg x0 (congrArg (ix3 0 k) (Fin.ext (by simp only; omega)))))
  · rw [if_pos hh, pay4_at, ld_half _ _ _ h _ _ hh]
    exact congrArg (_ + ·) (Finset.sum_congr rfl fun k _ => congrArg (· * _) (congrArg x0 (congrArg (ix3 0 k) (Fin.ext (by simp only; omega)))))

/-- The gradient of the weights: row `p * 512 + h * 256 + r` of the product of the two arrays over the activations. -/
def dW (a : FVec Ideal S8192x2048 .f32) (b : FVec Ideal S8192x1024 .f32) (h : Fin 2) (p : Fin 4) (r : Fin 256) (d : Fin 1024) : EReal :=
  ∑ i : Fin 8192, a (ix2 i ⟨p.val * 512 + h.val * 256 + r.val, by omega⟩) * b (ix2 i d)

/-- A point's term, read off the arguments. -/
theorem term_eq (c : Dev nD) (t : Fin cfg0.N) (h : Fin 2) (r : Fin 256) (d : Fin 1024) :
    term (iblk m c 0 t) (iblk m c 1 t) h r d
      = ∑ k : Fin 4096, A0 m c (ix2 ⟨t.val % 2 * 4096 + k.val, by omega⟩ ⟨t.val / 2 * 512 + h.val * 256 + r.val, by have := (idx t).2.2.2; omega⟩)
          * A2 m c (ix2 ⟨t.val % 2 * 4096 + k.val, by omega⟩ d) := by
  have ht := (idx t).2.2.2
  have e0 : ∀ (k : Fin 4096) (q : Fin 512), (iblk m c 0 t : Vec Ideal S1x4096x512 .bf16) (ix3 0 k q)
      = V m c main_v2 (ix3 (⟨t.val / 4, by omega⟩ : Fin 2) ⟨t.val % 2 * 4096 + k.val, by omega⟩ ⟨t.val / 2 % 2 * 512 + q.val, by omega⟩) := by
    intro k q; blk_point [iblk, idx t]
  have e1 : ∀ (k : Fin 4096) (d : Fin 1024), (iblk m c 1 t : Vec Ideal S4096x1024 .bf16) (ix2 k d)
      = V m c main_v3 (ix2 (⟨t.val % 2 * 4096 + k.val, by omega⟩ : Fin 8192) d) := by
    intro k q; blk_point [iblk, idx t]
  refine Finset.sum_congr rfl fun k _ => ?_
  rw [e0, e1, left_at, right_at]
  exact congrArg (· * _) (congrArg (A0 m c) (congrArg (ix2 _) (Fin.ext (by simp only; omega))))

/-- The result array after the run. -/
theorem final2 (c : Dev nD) : (dats m 0 c).arrAt 2 (cfgs 0).N = fun j => dW (A0 m c) (A2 m c) (j 0) (j 1) (j 2) (j 3) := by
  refine (dats m 0 c).arrAt_eq_of_covers 2 _ (by decide +kernel) fun t hf y => ?_
  have h1 : t.val % 2 = 1 := (flush0_2 t).mp hf
  have ht := (idx t).2.2.2
  have key : ∀ (h : Fin 2) (r : Fin 256) (d : Fin 1024),
      outsAt0 m c t.val t.isLt (ix4 h 0 r d) = dW (A0 m c) (A2 m c) h ⟨t.val / 2, by omega⟩ r d := by
    intro h r d
    have hA := stepA m c ⟨t.val - 1, Nat.lt_of_le_of_lt (Nat.sub_le _ _) t.isLt⟩ (by simp only; omega) h r d
    rw [stepB m c t (by omega), hA, term_eq, term_eq]
    simp only [dW]
    rw [Fin.sum_univ_tiles 2 4096 rfl, Fin.sum_univ_two]
    have e1 : t.val % 2 = 1 := h1
    have e0 : (t.val - 1) % 2 = 0 := by omega
    have ed : (t.val - 1) / 2 = t.val / 2 := by omega
    simp only [e1, e0, ed]
    rfl
  have hy : y = (ix4 (y 0) 0 (y 2) (y 3) : S2x1x256x1024.Idx) := by
    have y1 : (y 1).val < 1 := (y 1).isLt
    funext x; apply Fin.ext
    fin_cases x
    · rfl
    · show (y 1).val = 0; omega
    · rfl
    · rfl
  blk_simp
  rw [after0_2]
  have e : ∀ X : S2x4x256x1024.Idx → EReal, X ((win0_2.blk t).view.emb y) = X (ix4 (y 0) ⟨t.val / 2, by omega⟩ (y 2) (y 3)) := fun X => by
    blk_point [idx t]
  exact (congrArg (outsAt0 m c t.val t.isLt) hy).trans ((key _ _ _).trans (e fun j => dW (A0 m c) (A2 m c) (j 0) (j 1) (j 2) (j 3)).symm)

end Cert.DwoKernelIdeal.Value
-- ==== Proof.Dwo.Reference.lean ====
/- The reference of the output projection's weight gradient, read at coordinates. -/
module

public import proofs.«01_k».proof.Proof.Gen.DwoReferenceIdeal.Read
public import proofs.«01_k».proof.Proof.Gen.DwoReferenceIdeal.Run
public import proofs.«01_k».proof.Proof.Dwo.Blocks

@[expose] public section

set_option maxRecDepth 16384

noncomputable section

namespace Cert.DwoReferenceIdeal.Meaning

open Idealize.ShloMosaic Idealize.SL.Sem
open Cert.DwoReferenceIdeal Cert.DwoReferenceIdeal.Read
open Cert.DwoKernelIdeal.Value (dW)

theorem dW_eq (a : FVec Ideal S8192x2048 .f32) (b : FVec Ideal S8192x1024 .f32) (h : Fin 2) (p : Fin 4) (r : Fin 256) (d : Fin 1024) :
    val_main_v4 (F := Ideal) a b (ix4 h p r d) = dW a b h p r d := by
  have e : val_main_v4 (F := Ideal) a b (ix4 h p r d)
      = val_main_v1 (F := Ideal) a b (ix2 d ⟨p.val * 512 + h.val * 256 + r.val, by omega⟩) := by
    rw [val_main_v4_apply, val_main_v3_apply, val_main_v2_apply]
    refine congrArg (val_main_v1 (F := Ideal) a b) (funext fun x => Fin.ext ?_)
    have hh := h.isLt; have hp := p.isLt; have hr := r.isLt; have hd := d.isLt
    fin_cases x
    · show (((p.val * 2 + h.val) * 256 + r.val) * 1024 + d.val) % 1024 = d.val; omega
    · show (((p.val * 2 + h.val) * 256 + r.val) * 1024 + d.val) / 1024 = p.val * 512 + h.val * 256 + r.val; omega
  rw [e]
  pointwise [val_main_v1, dW]
  exact Finset.sum_congr rfl fun i _ => mul_comm _ _

/-- The reference's run, its result by its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v4_eq ..), (h c).2⟩) (Cert.DwoReferenceIdeal.Value.run m ρ)

end Cert.DwoReferenceIdeal.Meaning
-- ==== Proof.Dwo.Claims.lean ====
/- The claims about the output projection's weight gradient: the frames, and the result against the reference's. -/
module

public import proofs.«01_k».proof.Defs
public import proofs.«01_k».proof.Proof.Gen.DwoKernel.Frame
public import proofs.«01_k».proof.Proof.Gen.DwoKernelIdeal.Frame
public import proofs.«01_k».proof.Proof.Dwo.Reference
public import Idealize.ShloMosaic.Lib.Claim

@[expose] public section

set_option maxRecDepth 16384

noncomputable section

namespace Cert.Proof.Dwo

open Idealize.ShloMosaic Idealize.SL.Sem
open Cert.DwoKernelIdeal.Value

theorem frame_kernel : Cert.quiescent_DwoKernel := fun m ρ _ => Cert.DwoKernel.Gen.frame m ρ
theorem frame_kernel_ideal : Cert.quiescent_DwoKernelIdeal := fun m ρ _ => Cert.DwoKernelIdeal.Gen.frame m ρ
theorem frame_reference : Cert.quiescent_DwoReferenceIdeal := by
  intro m g _
  exact (θ_run Cert.DwoReferenceIdeal.defs _ _).mono (fun r h => ⟨fun c => (h c).2, sem_eq_zero_of_no_sems (by decide) r.2⟩)
    (Cert.DwoReferenceIdeal.Meaning.run m g)

/-- The weight gradient is the reference's. -/
theorem algebraic : Cert.algebraic_DwoKernelIdeal_DwoReferenceIdeal := by
  pair_intro
  · run_from Cert.DwoKernelIdeal.Gen.run_main m g
  · run_from Cert.DwoReferenceIdeal.Meaning.run m' g'
    rw [final2 m c]; funext j; rw [eq_ix4 j]
    exact Cert.DwoReferenceIdeal.Meaning.dW_eq ..

end Cert.Proof.Dwo
-- ==== Proof.Dwi.Blocks.lean ====
/- The gradient of the input projection's weights: the result array after the run. -/
module

public import proofs.«01_k».proof.Proof.Gen.DwiKernelIdeal.Value
public import Idealize.ShloMosaic.Lib.Pipeline.ValueKit
public import Idealize.ShloMosaic.Lib.StableHlo.ReadAt

@[expose] public section

set_option maxRecDepth 16384

noncomputable section

namespace Cert.DwiKernelIdeal.Value

open Idealize.ShloMosaic Idealize.ShloMosaic.TcCoe Idealize.SL.Sem
open Idealize.ShloMosaic.Pipeline (Dat)
open Cert.DwiKernelIdeal Cert.DwiKernelIdeal.Gen

variable (m : (ℓ : Loc nD τ sig) → Buf (Elt Ideal) ℓ)

theorem idx : ∀ t : Fin cfg0.N, win0_0.index t = ![0, t.val % 2] ∧ win0_1.index t = ![t.val / 2, t.val % 2, 0]
    ∧ win0_2.index t = ![0, (t.val / 2 + 2) % 6, 0, 0] ∧ t.val < 12 :=
  (by decide +kernel : ∀ t : Fin grid0.N, _)

abbrev A0 (c : Dev nD) : FVec Ideal S8192x1024 .f32 := m ((c.tc : Thread nD τ).loc main_arg0)
abbrev A1 (c : Dev nD) : FVec Ideal S1x1024 .f32 := m ((c.tc : Thread nD τ).loc main_arg1)
abbrev A3 (c : Dev nD) : FVec Ideal S8192x6144 .f32 := m ((c.tc : Thread nD τ).loc main_arg3)

/-- The normalised and weighted row the projection reads. -/
def u (x : FVec Ideal S8192x1024 .f32) (g : FVec Ideal S1x1024 .f32) (i : Fin 8192) (d : Fin 1024) : EReal :=
  x (ix2 i d) * Ideal.rsqrt (Ideal.div (∑ l : Fin 1024, x (ix2 i l) * x (ix2 i l)) (Ideal.ofBits .f32 0x44800000#32)
    + Ideal.ofBits .f32 0x358637BD#32) * g (ix2 0 d)

/-- The first array the region reads is that row's transpose. -/
theorem left_at (c : Dev nD) (d : Fin 1024) (i : Fin 8192) :
    V m c main_v13 (ix2 d i) = u (A0 m c) (A1 m c) i d := by
  entry_read; pointwise [u]

/-- The second holds the slabs of the projection's gradient: slab `s` is segment `s + 2`, the last two come round. -/
theorem slab_lo (c : Dev nD) (s : Fin 4) (i : Fin 8192) (q : Fin 1024) :
    V m c main_v19 (ix3 ⟨s.val, by omega⟩ i q) = A3 m c (ix2 i ⟨(s.val + 2) * 1024 + q.val, by omega⟩) := by
  entry_read
  pointwise
  exact congrArg (A3 m c) (congrArg (ix2 i) (Fin.ext (by simp only; omega)))

theorem slab_hi (c : Dev nD) (s : Fin 2) (i : Fin 8192) (q : Fin 1024) :
    V m c main_v19 (ix3 ⟨4 + s.val, by omega⟩ i q) = A3 m c (ix2 i ⟨s.val * 1024 + q.val, by omega⟩) := by
  entry_read
  pointwise

theorem right_at (c : Dev nD) (s : Fin 6) (i : Fin 8192) (q : Fin 1024) :
    V m c main_v19 (ix3 s i q) = A3 m c (ix2 i ⟨(s.val + 2) % 6 * 1024 + q.val, by omega⟩) := by
  by_cases h : s.val < 4
  · refine (slab_lo m c ⟨s.val, h⟩ i q).trans (congrArg (A3 m c) (congrArg (ix2 i) (Fin.ext (by simp only; omega))))
  · have e : (⟨4 + (s.val - 4), by omega⟩ : Fin 6) = s := Fin.ext (by simp only; omega)
    have k := slab_hi m c ⟨s.val - 4, by omega⟩ i q
    rw [e] at k
    exact k.trans (congrArg (A3 m c) (congrArg (ix2 i) (Fin.ext (by simp only; omega))))

/-- A point's product, at a row and a column. -/
theorem pay4_at (x : Vec Ideal S1024x4096 .bf16) (y : Vec Ideal S1x4096x1024 .bf16) (r : Fin 1024) (d : Fin 1024) :
    k0_pay4 x y (ix2 r d) = ∑ k : Fin 4096, x (ix2 r k) * y (ix3 0 k d) := by
  pointwise [k0_pay4]

/-- What a point adds at a half of the rows, a unit of the columns, a row and a column of theirs. -/
def term (x : Vec Ideal S1024x4096 .bf16) (y : Vec Ideal S1x4096x1024 .bf16) (h v : Fin 2) (r d : Fin 512) : EReal :=
  ∑ k : Fin 4096, x (ix2 ⟨h.val * 512 + r.val, by omega⟩ k) * y (ix3 0 k ⟨v.val * 512 + d.val, by omega⟩)

theorem term_congr (x : Vec Ideal S1024x4096 .bf16) (y : Vec Ideal S1x4096x1024 .bf16) (h v : Fin 2) (r d : Fin 512) (r' d' : Fin 1024)
    (hr : r'.val = h.val * 512 + r.val) (hd : d'.val = v.val * 512 + d.val) :
    ∑ k : Fin 4096, x (ix2 r' k) * y (ix3 0 k d') = term x y h v r d := by
  have er : r' = ⟨h.val * 512 + r.val, by omega⟩ := Fin.ext hr
  have ed : d' = ⟨v.val * 512 + d.val, by omega⟩ := Fin.ext hd
  rw [er, ed]; rfl

/-- What a point stores at each quarter: what was there, and the term. -/
theorem pay00 (x : Vec Ideal S1024x4096 .bf16) (y : Vec Ideal S1x4096x1024 .bf16) (a : Vec Ideal S1x1x512x512 .f32) (r d : Fin 512)
    (h v : Fin 2) (hh : h.val = 0) (hv : v.val = 0) :
    k0_pay5 x y a (ix4 0 0 r d) = a (ix4 0 0 r d) + term x y h v r d := by
  have e : k0_pay5 x y a (ix4 0 0 r d) = a (ix4 0 0 r d) + k0_pay4 x y (ix2 ⟨r.val, by omega⟩ ⟨d.val, by omega⟩) := by
    pointwise [k0_pay5]
  rw [e, pay4_at, term_congr x y h v r d _ _ (by simp only; omega) (by simp only; omega)]

theorem pay01 (x : Vec Ideal S1024x4096 .bf16) (y : Vec Ideal S1x4096x1024 .bf16) (a : Vec Ideal S1x1x512x512 .f32) (r d : Fin 512)
    (h v : Fin 2) (hh : h.val = 0) (hv : v.val = 1) :
    k0_pay6 x y a (ix4 0 0 r d) = a (ix4 0 0 r d) + term x y h v r d := by
  have e : k0_pay6 x y a (ix4 0 0 r d) = a (ix4 0 0 r d) + k0_pay4 x y (ix2 ⟨r.val, by omega⟩ ⟨512 + d.val, by omega⟩) := by
    pointwise [k0_pay6]
  rw [e, pay4_at, term_congr x y h v r d _ _ (by simp only; omega) (by simp only; omega)]

theorem pay10 (x : Vec Ideal S1024x4096 .bf16) (y : Vec Ideal S1x4096x1024 .bf16) (a : Vec Ideal S1x1x512x512 .f32) (r d : Fin 512)
    (h v : Fin 2) (hh : h.val = 1) (hv : v.val = 0) :
    k0_pay1 (k0_pay7 x y a) (ix4 0 0 r d) = a (ix4 0 0 r d) + term x y h v r d := by
  have e : k0_pay1 (k0_pay7 x y a) (ix4 0 0 r d) = a (ix4 0 0 r d) + k0_pay4 x y (ix2 ⟨512 + r.val, by omega⟩ ⟨d.val, by omega⟩) := by
    pointwise [k0_pay1, k0_pay7]
  rw [e, pay4_at, term_congr x y h v r d _ _ (by simp only; omega) (by simp only; omega)]

theorem pay11 (x : Vec Ideal S1024x4096 .bf16) (y : Vec Ideal S1x4096x1024 .bf16) (a : Vec Ideal S1x1x512x512 .f32) (r d : Fin 512)
    (h v : Fin 2) (hh : h.val = 1) (hv : v.val = 1) :
    k0_pay2 (k0_pay4 x y) a (ix4 0 0 r d) = a (ix4 0 0 r d) + term x y h v r d := by
  have e : k0_pay2 (k0_pay4 x y) a (ix4 0 0 r d) = a (ix4 0 0 r d) + k0_pay4 x y (ix2 ⟨512 + r.val, by omega⟩ ⟨512 + d.val, by omega⟩) := by
    pointwise [k0_pay2]
  rw [e, pay4_at, term_congr x y h v r d _ _ (by simp only; omega) (by simp only; omega)]

/-- One quarter of the block, as a store writes it. -/
abbrev quarter (a b : ℕ) (inb : ∀ x, (![a, b, 0, 0] : Fin 4 → ℕ) x + (![1, 1, 512, 512] : Fin 4 → ℕ) x ≤ S2x2x512x512.size x)
    (w : Vec Ideal S1x1x512x512 .f32) : View.Piece (Elt Ideal) S2x2x512x512 .f32 :=
  ⟨Rect.unit ![a, b, 0, 0] ![1, 1, 512, 512] inb, w⟩

theorem quarter_emb (a b : ℕ) (inb : ∀ x, (![a, b, 0, 0] : Fin 4 → ℕ) x + (![1, 1, 512, 512] : Fin 4 → ℕ) x ≤ S2x2x512x512.size x)
    (h v : Fin 2) (r d : Fin 512) (hh : h.val = a) (hv : v.val = b) :
    (Rect.unit (s := S2x2x512x512) ![a, b, 0, 0] ![1, 1, 512, 512] inb).emb (ix4 (0 : Fin 1) (0 : Fin 1) r d) = ix4 h v r d := by
  funext x; apply Fin.ext
  fin_cases x
  · show a + 1 * 0 = h.val; omega
  · show b + 1 * 0 = v.val; omega
  · show 0 + 1 * r.val = r.val; omega
  · show 0 + 1 * d.val = d.val; omega

/-- A quarter written over what was there. -/
theorem canon_quarter (a b : ℕ) (inb : ∀ x, (![a, b, 0, 0] : Fin 4 → ℕ) x + (![1, 1, 512, 512] : Fin 4 → ℕ) x ≤ S2x2x512x512.size x)
    (w : Vec Ideal S1x1x512x512 .f32) (L : List (View.Piece (Elt Ideal) S2x2x512x512 .f32)) (h v : Fin 2) (r d : Fin 512) :
    View.canon ((⟨Rect.unit ![a, b, 0, 0] ![1, 1, 512, 512] inb, w⟩ : View.Piece (Elt Ideal) S2x2x512x512 .f32) :: L) (ix4 h v r d)
      = if h.val = a ∧ v.val = b then w (ix4 0 0 r d) else View.canon L (ix4 h v r d) := by
  by_cases hk : h.val = a ∧ v.val = b
  · rw [if_pos hk]
    conv_lhs => rw [← quarter_emb a b inb h v r d hk.1 hk.2]
    exact View.canon_cons_emb (Rect.unit (s := S2x2x512x512) ![a, b, 0, 0] ![1, 1, 512, 512] inb) w L (ix4 (0 : Fin 1) (0 : Fin 1) r d)
  · rw [if_neg hk]
    refine View.canon_cons_of_not_mem _ L fun hm => hk ⟨?_, ?_⟩
    · obtain ⟨i, hi, he⟩ := (LoadRect.mem_set _).mp hm (0 : Fin 4)
      have hi1 : i < 1 := hi
      have he' : h.val = a + 1 * i := he
      omega
    · obtain ⟨i, hi, he⟩ := (LoadRect.mem_set _).mp hm (1 : Fin 4)
      have hi1 : i < 1 := hi
      have he' : v.val = b + 1 * i := he
      omega

/-- A load of a quarter from stores that cover everything: what they left, at the load's place. -/
theorem load_quarter (w : View sig .tc .vmem S2x2x512x512 .f32) (a b : ℕ)
    (inb : ∀ x, (![a, b, 0, 0] : Fin 4 → ℕ) x + (![1, 1, 512, 512] : Fin 4 → ℕ) x ≤ S2x2x512x512.size x)
    (L : List (View.Piece (Elt Ideal) S2x2x512x512 .f32))
    (hL : ∀ y : S2x2x512x512.Idx, ∃ p ∈ L, y ∈ p.1.set) (h v : Fin 2) (r d : Fin 512) (hh : h.val = a) (hv : v.val = b) :
    w.readCov L (Rect.unit (s := S2x2x512x512) ![a, b, 0, 0] ![1, 1, 512, 512] inb).toLoadRect (ix4 0 0 r d)
      = View.canon L (ix4 h v r d) := by
  rw [View.readCov_eq_canon_ld _ _ _ hL]
  exact congrArg (View.canon L) (quarter_emb a b inb h v r d hh hv)

theorem ld_quarter (xo : Vec Ideal S2x2x512x512 .f32) (a b : ℕ)
    (inb : ∀ x, (![a, b, 0, 0] : Fin 4 → ℕ) x + (![1, 1, 512, 512] : Fin 4 → ℕ) x ≤ S2x2x512x512.size x)
    (h v : Fin 2) (r d : Fin 512) (hh : h.val = a) (hv : v.val = b) :
    View.ld xo (Rect.unit (s := S2x2x512x512) ![a, b, 0, 0] ![1, 1, 512, 512] inb) (ix4 0 0 r d) = xo (ix4 h v r d) :=
  congrArg xo (quarter_emb a b inb h v r d hh hv)

theorem whole_mem (y : S2x2x512x512.Idx) : y ∈ (Rect.unit (s := S2x2x512x512) ![0, 0, 0, 0] ![2, 2, 512, 512] inb_S2x2x512x512_S2x2x512x512_0_0_0_0).set := by
  rw [Rect.mem_set_unit]
  intro a
  have h := (y a).isLt
  fin_cases a <;> exact ⟨Nat.zero_le _, by simpa using h⟩

/-- The store over everything, and what a load of a quarter finds behind it and behind stores of other quarters. -/
abbrev over (w : Vec Ideal S2x2x512x512 .f32) : View.Piece (Elt Ideal) S2x2x512x512 .f32 :=
  ⟨Rect.unit (s := S2x2x512x512) ![0, 0, 0, 0] ![2, 2, 512, 512] inb_S2x2x512x512_S2x2x512x512_0_0_0_0, w⟩

theorem canon_over (w : Vec Ideal S2x2x512x512 .f32) : View.canon [over w] = w :=
  View.canon_cons_unit_lit (S := S2x2x512x512) _ _ _ (by decide)

section
variable (w : View sig .tc .vmem S2x2x512x512 .f32) (a b : ℕ)
    (inb : ∀ x, (![a, b, 0, 0] : Fin 4 → ℕ) x + (![1, 1, 512, 512] : Fin 4 → ℕ) x ≤ S2x2x512x512.size x) (z : Vec Ideal S2x2x512x512 .f32)
    (a1 b1 : ℕ) (inb1 : ∀ x, (![a1, b1, 0, 0] : Fin 4 → ℕ) x + (![1, 1, 512, 512] : Fin 4 → ℕ) x ≤ S2x2x512x512.size x) (w1 : Vec Ideal S1x1x512x512 .f32)
    (a2 b2 : ℕ) (inb2 : ∀ x, (![a2, b2, 0, 0] : Fin 4 → ℕ) x + (![1, 1, 512, 512] : Fin 4 → ℕ) x ≤ S2x2x512x512.size x) (w2 : Vec Ideal S1x1x512x512 .f32)
    (a3 b3 : ℕ) (inb3 : ∀ x, (![a3, b3, 0, 0] : Fin 4 → ℕ) x + (![1, 1, 512, 512] : Fin 4 → ℕ) x ≤ S2x2x512x512.size x) (w3 : Vec Ideal S1x1x512x512 .f32)
    (h v : Fin 2) (r d : Fin 512) (hh : h.val = a) (hv : v.val = b)
include hh hv

theorem load_over :
    w.readCov [over z] (Rect.unit (s := S2x2x512x512) ![a, b, 0, 0] ![1, 1, 512, 512] inb).toLoadRect (ix4 0 0 r d) = z (ix4 h v r d) := by
  rw [load_quarter w a b inb [over z] (fun y => ⟨over z, by simp, whole_mem y⟩) h v r d hh hv, canon_over]

theorem load_behind (h1 : ¬(a = a1 ∧ b = b1)) :
    w.readCov [quarter a1 b1 inb1 w1, over z] (Rect.unit (s := S2x2x512x512) ![a, b, 0, 0] ![1, 1, 512, 512] inb).toLoadRect (ix4 0 0 r d) = z (ix4 h v r d) := by
  rw [load_quarter w a b inb _ (fun y => ⟨over z, by simp, whole_mem y⟩) h v r d hh hv, canon_quarter, if_neg (by omega), canon_over]

theorem load_behind2 (h1 : ¬(a = a1 ∧ b = b1)) (h2 : ¬(a = a2 ∧ b = b2)) :
    w.readCov [quarter a1 b1 inb1 w1, quarter a2 b2 inb2 w2, over z] (Rect.unit (s := S2x2x512x512) ![a, b, 0, 0] ![1, 1, 512, 512] inb).toLoadRect (ix4 0 0 r d)
      = z (ix4 h v r d) := by
  rw [load_quarter w a b inb _ (fun y => ⟨over z, by simp, whole_mem y⟩) h v r d hh hv, canon_quarter, if_neg (by omega), canon_quarter, if_neg (by omega), canon_over]

theorem load_behind3 (h1 : ¬(a = a1 ∧ b = b1)) (h2 : ¬(a = a2 ∧ b = b2)) (h3 : ¬(a = a3 ∧ b = b3)) :
    w.readCov [quarter a1 b1 inb1 w1, quarter a2 b2 inb2 w2, quarter a3 b3 inb3 w3, over z]
      (Rect.unit (s := S2x2x512x512) ![a, b, 0, 0] ![1, 1, 512, 512] inb).toLoadRect (ix4 0 0 r d) = z (ix4 h v r d) := by
  rw [load_quarter w a b inb _ (fun y => ⟨over z, by simp, whole_mem y⟩) h v r d hh hv, canon_quarter, if_neg (by omega), canon_quarter, if_neg (by omega),
    canon_quarter, if_neg (by omega), canon_over]
end

theorem stepA (c : Dev nD) (t : Fin cfg0.N) (ht : t.val % 2 = 0) (h v : Fin 2) (r d : Fin 512) :
    outsAt0 m c t.val t.isLt (ix4 h v r d) = term (iblk m c 0 t) (iblk m c 1 t) h v r d := by
  rw [outsAt0_A m c t ht]
  generalize (iblk m c 0 t : Vec Ideal S1024x4096 .bf16) = x0
  generalize (iblk m c 1 t : Vec Ideal S1x4096x1024 .bf16) = x1
  have z : ∀ j, (k0_pay3 : FVec Ideal S2x2x512x512 .f32) j = 0 := fun j => by
    conv_lhs => rw [eq_ix4 j]
    pointwise [k0_pay3]
  frame_out
  rw [canon_quarter, canon_quarter, canon_quarter, canon_quarter]
  rcases (by omega : h.val = 0 ∨ h.val = 1) with hh | hh <;> rcases (by omega : v.val = 0 ∨ v.val = 1) with hv | hv
  · rw [if_neg (by omega), if_neg (by omega), if_neg (by omega), if_pos ⟨hh, hv⟩, pay00 _ _ _ _ _ h v hh hv,
      load_over _ _ _ _ _ h v r d hh hv, z, zero_add]
  · rw [if_neg (by omega), if_neg (by omega), if_pos ⟨hh, hv⟩, pay01 _ _ _ _ _ h v hh hv,
      load_behind _ _ _ _ _ _ _ _ _ h v r d hh hv (by decide), z, zero_add]
  · rw [if_neg (by omega), if_pos ⟨hh, hv⟩, pay10 _ _ _ _ _ h v hh hv,
      load_behind2 _ _ _ _ _ _ _ _ _ _ _ _ _ h v r d hh hv (by decide) (by decide), z, zero_add]
  · rw [if_pos ⟨hh, hv⟩, pay11 _ _ _ _ _ h v hh hv,
      load_behind3 _ _ _ _ _ _ _ _ _ _ _ _ _ _ _ _ _ h v r d hh hv (by decide) (by decide) (by decide), z, zero_add]

theorem stepB (c : Dev nD) (t : Fin cfg0.N) (ht : ¬ t.val % 2 = 0) (h v : Fin 2) (r d : Fin 512) :
    outsAt0 m c t.val t.isLt (ix4 h v r d)
      = outsAt0 m c (t.val - 1) (Nat.lt_of_le_of_lt (Nat.sub_le _ _) t.isLt) (ix4 h v r d) + term (iblk m c 0 t) (iblk m c 1 t) h v r d := by
  rw [outsAt0_B m c t ht]
  generalize (iblk m c 0 t : Vec Ideal S1024x4096 .bf16) = x0
  generalize (iblk m c 1 t : Vec Ideal S1x4096x1024 .bf16) = x1
  generalize outsAt0 m c (t.val - 1) _ = xo
  frame_out
  rw [canon_quarter, canon_quarter, canon_quarter, canon_quarter]
  rcases (by omega : h.val = 0 ∨ h.val = 1) with hh | hh <;> rcases (by omega : v.val = 0 ∨ v.val = 1) with hv | hv
  · rw [if_neg (by omega), if_neg (by omega), if_neg (by omega), if_pos ⟨hh, hv⟩, pay00 _ _ _ _ _ h v hh hv, ld_quarter _ _ _ _ h v r d hh hv]
  · rw [if_neg (by omega), if_neg (by omega), if_pos ⟨hh, hv⟩, pay01 _ _ _ _ _ h v hh hv, ld_quarter _ _ _ _ h v r d hh hv]
  · rw [if_neg (by omega), if_pos ⟨hh, hv⟩, pay10 _ _ _ _ _ h v hh hv, ld_quarter _ _ _ _ h v r d hh hv]
  · rw [if_pos ⟨hh, hv⟩, pay11 _ _ _ _ _ h v hh hv, ld_quarter _ _ _ _ h v r d hh hv]

/-- The gradient of the weights: row `h * 512 + r`, column `e * 512 + d` of the product over the activations. -/
def dW (x : FVec Ideal S8192x1024 .f32) (g : FVec Ideal S1x1024 .f32) (p : FVec Ideal S8192x6144 .f32) (h : Fin 2) (e : Fin 12) (r d : Fin 512) : EReal :=
  ∑ i : Fin 8192, u x g i ⟨h.val * 512 + r.val, by omega⟩ * p (ix2 i ⟨e.val * 512 + d.val, by omega⟩)

/-- The unit of the columns a point's block holds. -/
abbrev unit (t : Fin cfg0.N) (v : Fin 2) : Fin 12 := ⟨(t.val / 2 + 2) % 6 * 2 + v.val, by omega⟩

/-- A point's term, read off the arguments. -/
theorem term_eq (c : Dev nD) (t : Fin cfg0.N) (h v : Fin 2) (r d : Fin 512) :
    term (iblk m c 0 t) (iblk m c 1 t) h v r d
      = ∑ k : Fin 4096, u (A0 m c) (A1 m c) ⟨t.val % 2 * 4096 + k.val, by omega⟩ ⟨h.val * 512 + r.val, by omega⟩
          * A3 m c (ix2 ⟨t.val % 2 * 4096 + k.val, by omega⟩ ⟨(unit t v).val * 512 + d.val, by omega⟩) := by
  have ht := (idx t).2.2.2
  have e0 : ∀ (k : Fin 4096) (q : Fin 1024), (iblk m c 0 t : Vec Ideal S1024x4096 .bf16) (ix2 q k)
      = V m c main_v13 (ix2 q (⟨t.val % 2 * 4096 + k.val, by omega⟩ : Fin 8192)) := by
    intro k q; blk_point [iblk, idx t]
  have e1 : ∀ (k : Fin 4096) (q : Fin 1024), (iblk m c 1 t : Vec Ideal S1x4096x1024 .bf16) (ix3 0 k q)
      = V m c main_v19 (ix3 (⟨t.val / 2, by omega⟩ : Fin 6) (⟨t.val % 2 * 4096 + k.val, by omega⟩ : Fin 8192) q) := by
    intro k q; blk_point [iblk, idx t]
  refine Finset.sum_congr rfl fun k _ => ?_
  rw [e0, e1, left_at, right_at]
  exact congrArg (_ * ·) (congrArg (A3 m c) (congrArg (ix2 _) (Fin.ext (by simp only; omega))))

/-- The result array after the run. -/
theorem final2 (c : Dev nD) : (dats m 0 c).arrAt 2 (cfgs 0).N = fun j => dW (A0 m c) (A1 m c) (A3 m c) (j 0) (j 1) (j 2) (j 3) := by
  refine (dats m 0 c).arrAt_eq_of_covers 2 _ (by decide +kernel) fun t hf y => ?_
  have h1 : t.val % 2 = 1 := (flush0_2 t).mp hf
  have ht := (idx t).2.2.2
  have key : ∀ (h v : Fin 2) (r d : Fin 512),
      outsAt0 m c t.val t.isLt (ix4 h v r d) = dW (A0 m c) (A1 m c) (A3 m c) h (unit t v) r d := by
    intro h v r d
    have hA := stepA m c ⟨t.val - 1, Nat.lt_of_le_of_lt (Nat.sub_le _ _) t.isLt⟩ (by simp only; omega) h v r d
    rw [stepB m c t (by omega), hA, term_eq, term_eq]
    simp only [dW]
    rw [Fin.sum_univ_tiles 2 4096 rfl, Fin.sum_univ_two]
    have e1 : t.val % 2 = 1 := h1
    have e0 : (t.val - 1) % 2 = 0 := by omega
    have ed : (t.val - 1) / 2 = t.val / 2 := by omega
    simp only [e1, e0, ed, unit]
    rfl
  have hy : y = (ix4 (y 0) (y 1) (y 2) (y 3) : S2x2x512x512.Idx) := by
    funext x; apply Fin.ext
    fin_cases x <;> rfl
  blk_simp
  rw [after0_2]
  have e : ∀ X : S2x12x512x512.Idx → EReal, X ((win0_2.blk t).view.emb y) = X (ix4 (y 0) (unit t (y 1)) (y 2) (y 3)) := fun X => by
    blk_point [idx t]
  exact (congrArg (outsAt0 m c t.val t.isLt) hy).trans ((key _ _ _ _).trans (e fun j => dW (A0 m c) (A1 m c) (A3 m c) (j 0) (j 1) (j 2) (j 3)).symm)

end Cert.DwiKernelIdeal.Value
-- ==== Proof.Dwi.Reference.lean ====
/- The reference of the input projection's weight gradient, read at coordinates. -/
module

public import proofs.«01_k».proof.Proof.Gen.DwiReferenceIdeal.Read
public import proofs.«01_k».proof.Proof.Gen.DwiReferenceIdeal.Run
public import proofs.«01_k».proof.Proof.Dwi.Blocks

@[expose] public section

set_option maxRecDepth 16384

noncomputable section

namespace Cert.DwiReferenceIdeal.Meaning

open Idealize.ShloMosaic Idealize.SL.Sem
open Cert.DwiReferenceIdeal Cert.DwiReferenceIdeal.Read
open Cert.DwiKernelIdeal.Value (u dW)

theorem u_eq (x : FVec Ideal S8192x1024 .f32) (g : FVec Ideal S1x1024 .f32) (i : Fin 8192) (d : Fin 1024) :
    val_main_v11 (F := Ideal) x g (ix2 i d) = u x g i d := by
  pointwise [u, val_main_v11, val_main_v10, val_main_v9, val_main_v8, val_main_v7, val_main_v6, val_main_v5, val_main_cst_1, val_main_v4, val_main_v3,
    val_main_cst_0, val_main_v2, val_main_v1, val_main_cst, val_main_v0]

theorem dW_eq (x : FVec Ideal S8192x1024 .f32) (g : FVec Ideal S1x1024 .f32) (p : FVec Ideal S8192x6144 .f32) (h : Fin 2) (e : Fin 12) (r d : Fin 512) :
    val_main_v16 (F := Ideal) x g p (ix4 h e r d) = dW x g p h e r d := by
  have e1 : val_main_v16 (F := Ideal) x g p (ix4 h e r d)
      = val_main_v13 (F := Ideal) x g p (ix2 ⟨e.val * 512 + d.val, by omega⟩ ⟨h.val * 512 + r.val, by omega⟩) := by
    rw [val_main_v16_apply, val_main_v15_apply, val_main_v14_apply]
    refine congrArg (val_main_v13 (F := Ideal) x g p) (funext fun a => Fin.ext ?_)
    have hh := h.isLt; have he := e.isLt; have hr := r.isLt; have hd := d.isLt
    fin_cases a
    · show (((h.val * 512 + r.val) * 12 + e.val) * 512 + d.val) % 6144 = e.val * 512 + d.val; omega
    · show (((h.val * 512 + r.val) * 12 + e.val) * 512 + d.val) / 6144 = h.val * 512 + r.val; omega
  rw [e1, val_main_v13_apply]
  refine Finset.sum_congr rfl fun i _ => ?_
  have e2 := u_eq x g i ⟨h.val * 512 + r.val, by omega⟩
  rw [← e2, mul_comm]
  congr 1
  · exact congrArg (val_main_v11 (F := Ideal) x g) (funext fun a => Fin.ext (by fin_cases a <;> rfl))
  · exact congrArg p (funext fun a => Fin.ext (by fin_cases a <;> rfl))

/-- The reference's run, its result by its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = val_main_v16 (F := Ideal) (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v16_eq ..), (h c).2⟩) (Cert.DwiReferenceIdeal.Value.run m ρ)

end Cert.DwiReferenceIdeal.Meaning
-- ==== Proof.Dwi.Claims.lean ====
/- The claims about the input projection's weight gradient: the frames, and the result against the reference's. -/
module

public import proofs.«01_k».proof.Defs
public import proofs.«01_k».proof.Proof.Gen.DwiKernel.Frame
public import proofs.«01_k».proof.Proof.Gen.DwiKernelIdeal.Frame
public import proofs.«01_k».proof.Proof.Dwi.Reference
public import Idealize.ShloMosaic.Lib.Claim

@[expose] public section

set_option maxRecDepth 16384

noncomputable section

namespace Cert.Proof.Dwi

open Idealize.ShloMosaic Idealize.SL.Sem
open Cert.DwiKernelIdeal.Value

theorem frame_kernel : Cert.quiescent_DwiKernel := fun m ρ _ => Cert.DwiKernel.Gen.frame m ρ
theorem frame_kernel_ideal : Cert.quiescent_DwiKernelIdeal := fun m ρ _ => Cert.DwiKernelIdeal.Gen.frame m ρ
theorem frame_reference : Cert.quiescent_DwiReferenceIdeal := by
  intro m g _
  exact (θ_run Cert.DwiReferenceIdeal.defs _ _).mono (fun r h => ⟨fun c => (h c).2, sem_eq_zero_of_no_sems (by decide) r.2⟩)
    (Cert.DwiReferenceIdeal.Meaning.run m g)

/-- The weight gradient is the reference's. -/
theorem algebraic : Cert.algebraic_DwiKernelIdeal_DwiReferenceIdeal := by
  pair_intro
  · run_from Cert.DwiKernelIdeal.Gen.run_main m g
  · run_from Cert.DwiReferenceIdeal.Meaning.run m' g'
    rw [final2 m c]; funext j; rw [eq_ix4 j]
    exact Cert.DwiReferenceIdeal.Meaning.dW_eq ..

end Cert.Proof.Dwi
-- ==== Proof.Soh.Blocks.lean ====
/- The sum of a core's half of a gradient with the other core's: the result array after the run. -/
module

public import proofs.«01_k».proof.Proof.Gen.SohKernel
public import proofs.«01_k».proof.Proof.Gen.SohKernelIdeal.Frame
public import Idealize.ShloMosaic.Lib.Pipeline.ValueKit
public import Idealize.ShloMosaic.Lib.StableHlo.ReadAt

@[expose] public section

set_option maxRecDepth 16384

noncomputable section

namespace Cert.SohKernelIdeal.Value

open Idealize.ShloMosaic Idealize.ShloMosaic.TcCoe Idealize.SL.Sem
open Idealize.ShloMosaic.Pipeline (Dat)
open Cert.SohKernelIdeal Cert.SohKernelIdeal.Gen

variable {F : FTy → Type} [FloatOps F]

/-- The word the host prefetches: the first half, or the first chip, of the two. -/
def zeros : pre0.Contents (Elt F) := fun
  | 0 => fun _ => (0#32 : BitVec 32)
  | ⟨_ + 1, h⟩ => absurd h (Nat.not_lt.2 (Nat.le_add_left _ _))

theorem tbl_eq (m : (ℓ : Loc nD τ sig) → Buf (Elt F) ℓ) : tbl m = zeros := by
  funext j
  match j with
  | ⟨0, _⟩ =>
    funext i
    unfold tbl
    show V m (0 : Dev nD) main_v0 i = _
    entry_read; rfl

theorem ok_zeros : ok0 (F := F) zeros := of_decide_eq_true (by sl_kernel_rfl)

/-- Every block the index maps place at it is inside its array. -/
theorem ok (m : (ℓ : Loc nD τ sig) → Buf (Elt F) ℓ) : Ok m := by
  unfold Ok; rw [tbl_eq]; exact ok_zeros

variable (m : (ℓ : Loc nD τ sig) → Buf (Elt F) ℓ)

theorem idx0 : ∀ t : Fin grid0.N, cc0_transform_0 (F := F) inb_S1_S1_0 numel1_S1 zeros (grid0.coords t) = ![0, t.val, 0] := of_decide_eq_true (by sl_kernel_rfl)

theorem idx (hO : Ok m) (t : Fin (cfgM m hO).N) : ((cfgM m hO).win 0).index t = ![0, t.val, 0] ∧ ((cfgM m hO).win 1).index t = ![t.val, 0]
    ∧ ((cfgM m hO).win 2).index t = ![t.val, 0] ∧ t.val < 3 := by
  refine ⟨?_, (by decide +kernel : ∀ t : Fin grid0.N, cc0_transform_1 (grid0.coords t) = ![t.val, 0]) t,
    (by decide +kernel : ∀ t : Fin grid0.N, cc0_transform_2 (grid0.coords t) = ![t.val, 0]) t, t.isLt⟩
  show cc0_transform_0 (F := F) inb_S1_S1_0 numel1_S1 (tbl m) (grid0.coords t) = _
  rw [tbl_eq]; exact idx0 t

theorem covers (hO : Ok m) : ((cfgM m hO).win 2).Covers := by
  have e : ((cfg0 (F := F) ⟨zeros, ok_zeros⟩).win 2).Covers := of_decide_eq_true (by sl_kernel_rfl)
  exact e

abbrev A0 (c : Dev nD) : FVec F S2x6144x512 .f32 := m ((c.tc : Thread nD τ).loc main_arg0)
abbrev A1 (c : Dev nD) : FVec F S6144x512 .f32 := m ((c.tc : Thread nD τ).loc main_arg1)

/-- One element of the result: the sum, rounded to the exchanges' type. -/
def add (a b : F .f32) : F .bf16 := FloatOps.truncf .bf16 bitsLt_bf16_f32 (FloatOps.addf a b)

/-- The result: the first half and what was received, added. -/
def total (a : FVec F S2x6144x512 .f32) (b : FVec F S6144x512 .f32) : FVec F S6144x512 .bf16 :=
  fun j => add (a (ix3 0 (j 0) (j 1))) (b (ix2 (j 0) (j 1)))

theorem own_at (hO : Ok m) (c : Dev nD) (t : Fin (cfgM m hO).N) (p : Fin 2048) (q : Fin 512) :
    (iblk m hO c 0 t : Vec F S1x2048x512 .f32) (ix3 0 p q) = A0 m c (ix3 0 ⟨t.val * 2048 + p.val, by have := (idx m hO t).2.2.2; omega⟩ q) := by
  blk_point [iblk, V, idx m hO t]

theorem other_at (hO : Ok m) (c : Dev nD) (t : Fin (cfgM m hO).N) (p : Fin 2048) (q : Fin 512) :
    (iblk m hO c 1 t : Vec F S2048x512 .f32) (ix2 p q) = A1 m c (ix2 ⟨t.val * 2048 + p.val, by have := (idx m hO t).2.2.2; omega⟩ q) := by
  blk_point [iblk, V, idx m hO t]

/-- What a point leaves: its two blocks added. -/
theorem out_at (c : Dev nD) (i : grid0.Coords) (arg2 : Memref sig .tc .vmem S1x2048x512 .f32) (harg2 : arg2.IsWhole)
    (arg3 : Memref sig .tc .vmem S2048x512 .f32) (harg3 : arg3.IsWhole) (arg4 : Memref sig .tc .vmem S2048x512 .bf16) (harg4 : arg4.IsWhole)
    (x0 : Vec F S1x2048x512 .f32) (x1 : Vec F S2048x512 .f32) (xt0 : TbBuf0 (F := F) c tbM0_0) (p : Fin 2048) (q : Fin 512) :
    out0_A_2 c i arg2 harg2 arg3 harg3 arg4 harg4 x0 x1 xt0 (ix2 p q) = add (x0 (ix3 0 p q)) (x1 (ix2 p q)) := by
  frame_out
  pointwise [k0_pay1]
  rfl

/-- The result array after the run. -/
theorem final2 (hO : Ok m) (c : Dev nD) : (dats m hO 0 c).arrAt 2 (cfgM m hO).N = total (A0 m c) (A1 m c) := by
  refine (dats m hO 0 c).arrAt_eq_of_covers 2 _ (covers m hO) fun t hf y => ?_
  have key : ∀ (p : Fin 2048) (q : Fin 512), outsAt0 m hO c t (ix2 p q)
      = total (A0 m c) (A1 m c) (ix2 ⟨t.val * 2048 + p.val, by have := (idx m hO t).2.2.2; omega⟩ q) := by
    intro p q
    have h0 := own_at m hO c t p q
    have h1 := other_at m hO c t p q
    exact (out_at c _ _ _ _ _ _ _ _ _ _ p q).trans (congrArg₂ add h0 h1)
  obtain ⟨z, hz⟩ : ∃ z : S2048x512.Idx, z = y := ⟨y, rfl⟩
  have e : ∀ X : S6144x512.Idx → F .bf16, X ((((cfgM m hO).win 2).blk t).view.emb y)
      = X (ix2 ⟨t.val * 2048 + (z 0).val, by have := (idx m hO t).2.2.2; have : (z 0).val < 2048 := (z 0).isLt; omega⟩ (z 1)) := fun X => by
    subst hz
    blk_point [idx m hO t]
  have hy : outsAt0 m hO c t z = _ := (congrArg (outsAt0 m hO c t) (eq_ix2 z)).trans (key (z 0) (z 1))
  blk_simp
  rw [after0_2]
  subst hz
  exact hy.trans (e (total (A0 m c) (A1 m c))).symm

/-- The run: its result, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v1) = total (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final2 m (ok m) c), h.2 c⟩)
    (θ_run_and (run_main m ρ (ok m)) (unchanged m ρ (ok m)))

end Cert.SohKernelIdeal.Value

namespace Cert.SohKernelIdeal.Value

open Idealize.ShloMosaic Idealize.ShloMosaic.TcCoe Idealize.SL.Sem
open Cert.SohKernelIdeal

/-- The run on bit patterns: its result, the arguments unchanged, the counters zero. -/
def BitsRun : Prop := ∀ (m : (ℓ : Loc nD τ sig) → Buf (Elt Bits) ℓ) (ρ : Dev nD → PrngReg),
  θ_run (defs (F := Bits)) (onTc (τ := τ) (main (F := Bits))) ⟨m, fun _ => 0, ρ⟩ fun r =>
    (∀ c : Dev nD, r.2.mem ((c.tc : Thread nD τ).loc main_v1)
        = total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

theorem bits_run : BitsRun := fun m ρ =>
  (θ_run defs _ _).mono (fun r h => ⟨h.1, h.2.2⟩) (θ_run_and (run m ρ) (Gen.frame m ρ (ok m)))

end Cert.SohKernelIdeal.Value

namespace Cert.SohKernel.Value

open Idealize.ShloMosaic Idealize.ShloMosaic.TcCoe Idealize.SL.Sem
open Cert.SohKernel

/-- The same of the kernel in floats. -/
def BitsRun : Prop := ∀ (m : (ℓ : Loc nD τ sig) → Buf (Elt Bits) ℓ) (ρ : Dev nD → PrngReg),
  θ_run (defs (F := Bits)) (onTc (τ := τ) (main (F := Bits))) ⟨m, fun _ => 0, ρ⟩ fun r =>
    (∀ c : Dev nD, r.2.mem ((c.tc : Thread nD τ).loc main_v1)
        = Cert.SohKernelIdeal.Value.total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

/-- The two printed programs are one text. -/
theorem same_text : Cert.SohKernelIdeal.Value.BitsRun = BitsRun := by sl_kernel_rfl

theorem bits_run : BitsRun := same_text ▸ Cert.SohKernelIdeal.Value.bits_run

variable (m : (ℓ : Loc nD τ sig) → Buf (Elt Bits) ℓ) (ρ : Dev nD → PrngReg)

theorem run : θ_run (defs (F := Bits)) (onTc (τ := τ) (main (F := Bits))) ⟨m, fun _ => 0, ρ⟩ fun r => ∀ c : Dev nD,
      r.2.mem ((c.tc : Thread nD τ).loc main_v1)
        = Cert.SohKernelIdeal.Value.total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h => h.1) (bits_run m ρ)

end Cert.SohKernel.Value
-- ==== Proof.Soh.Reference.lean ====
/- The reference of a half's sum, read at coordinates. -/
module

public import proofs.«01_k».proof.Proof.Gen.SohReferenceIdeal.Read
public import proofs.«01_k».proof.Proof.Gen.SohReferenceIdeal.Run
public import proofs.«01_k».proof.Proof.Soh.Blocks

@[expose] public section

set_option maxRecDepth 16384

noncomputable section

namespace Cert.SohReferenceIdeal.Meaning

open Idealize.ShloMosaic Idealize.SL.Sem
open Cert.SohReferenceIdeal Cert.SohReferenceIdeal.Read

/-- The reference's result is the first half and what was received, added. -/
theorem total_eq {F : FTy → Type} [FloatOps F] (a : FVec F S2x6144x512 .f32) (b : FVec F S6144x512 .f32) :
    val_main_v3 (F := F) a b = Cert.SohKernelIdeal.Value.total a b := by
  funext j; rw [eq_ix2 j]
  have e : val_main_v1 (F := F) a (ix2 (j 0) (j 1)) = a (ix3 0 (j 0) (j 1)) := by
    rw [val_main_v1_apply, val_main_v0_apply]
    refine congrArg a (funext fun x => Fin.ext ?_)
    have h0 : (j 0).val < 6144 := (j 0).isLt; have h1 : (j 1).val < 512 := (j 1).isLt
    fin_cases x
    · rfl
    · show ((j 0).val * 512 + (j 1).val) / 512 % 6144 = (j 0).val; omega
    · show ((j 0).val * 512 + (j 1).val) % 512 = (j 1).val; omega
  rw [val_main_v3_apply, val_main_v2_apply, e]; rfl

end Cert.SohReferenceIdeal.Meaning
-- ==== Proof.Soh.Claims.lean ====
/- The claims about the sum of a core's half with the other core's: the frames, and the result against the reference's. -/
module

public import proofs.«01_k».proof.Defs
public import proofs.«01_k».proof.Proof.Soh.Reference
public import proofs.«01_k».proof.Proof.Gen.SohKernel
public import proofs.«01_k».proof.Proof.Gen.SohReference
public import Idealize.ShloMosaic.Lib.Claim

@[expose] public section

set_option maxRecDepth 16384

noncomputable section

namespace Cert.Proof.Soh

open Idealize.ShloMosaic Idealize.SL.Sem

theorem frame_kernel : Cert.quiescent_SohKernel := fun m ρ _ =>
  (θ_run (Cert.SohKernel.defs (F := Bits)) _ _).mono (fun r h => ⟨fun c => (h.1 c).2, h.2⟩) (Cert.SohKernel.Value.bits_run m ρ)
theorem frame_kernel_ideal : Cert.quiescent_SohKernelIdeal := fun m ρ _ => Cert.SohKernelIdeal.Gen.frame m ρ (Cert.SohKernelIdeal.Value.ok m)
theorem frame_reference : Cert.quiescent_SohReferenceIdeal := by
  intro m g _
  exact (θ_run Cert.SohReferenceIdeal.defs _ _).mono (fun r h => ⟨fun c => (h c).2, sem_eq_zero_of_no_sems (by decide) r.2⟩)
    (Cert.SohReferenceIdeal.Value.run m g)

/-- The reference's run on bit patterns, of its idealized text. -/
def RefBits : Prop := ∀ (m : (ℓ : Loc Cert.SohReferenceIdeal.nD Cert.SohReferenceIdeal.τ Cert.SohReferenceIdeal.sig) → Buf (Elt Bits) ℓ)
    (g : Dev Cert.SohReferenceIdeal.nD → PrngReg),
    θ_run (Cert.SohReferenceIdeal.defs (F := Bits)) (onTc (τ := Cert.SohReferenceIdeal.τ) (Cert.SohReferenceIdeal.main (F := Bits))) ⟨m, fun _ => 0, g⟩ fun r =>
      ∀ c : Dev Cert.SohReferenceIdeal.nD,
        r.2.mem ((c.tc : Thread Cert.SohReferenceIdeal.nD Cert.SohReferenceIdeal.τ).loc Cert.SohReferenceIdeal.main_v3)
          = Cert.SohReferenceIdeal.Read.val_main_v3 (F := Bits)
            (m ((c.tc : Thread Cert.SohReferenceIdeal.nD Cert.SohReferenceIdeal.τ).loc Cert.SohReferenceIdeal.main_arg0))
            (m ((c.tc : Thread Cert.SohReferenceIdeal.nD Cert.SohReferenceIdeal.τ).loc Cert.SohReferenceIdeal.main_arg1))
        ∧ r.2.mem ((c.tc : Thread Cert.SohReferenceIdeal.nD Cert.SohReferenceIdeal.τ).loc Cert.SohReferenceIdeal.main_arg0)
          = m ((c.tc : Thread Cert.SohReferenceIdeal.nD Cert.SohReferenceIdeal.τ).loc Cert.SohReferenceIdeal.main_arg0)
        ∧ r.2.mem ((c.tc : Thread Cert.SohReferenceIdeal.nD Cert.SohReferenceIdeal.τ).loc Cert.SohReferenceIdeal.main_arg1)
          = m ((c.tc : Thread Cert.SohReferenceIdeal.nD Cert.SohReferenceIdeal.τ).loc Cert.SohReferenceIdeal.main_arg1)

/-- The same of the reference's own text. -/
def RefRun : Prop := ∀ (m : (ℓ : Loc Cert.SohReference.nD Cert.SohReference.τ Cert.SohReference.sig) → Buf (Elt Bits) ℓ)
    (g : Dev Cert.SohReference.nD → PrngReg),
    θ_run (Cert.SohReference.defs (F := Bits)) (onTc (τ := Cert.SohReference.τ) (Cert.SohReference.main (F := Bits))) ⟨m, fun _ => 0, g⟩ fun r =>
      ∀ c : Dev Cert.SohReference.nD,
        r.2.mem ((c.tc : Thread Cert.SohReference.nD Cert.SohReference.τ).loc Cert.SohReference.main_v3)
          = Cert.SohReferenceIdeal.Read.val_main_v3 (F := Bits) (m ((c.tc : Thread Cert.SohReference.nD Cert.SohReference.τ).loc Cert.SohReference.main_arg0))
            (m ((c.tc : Thread Cert.SohReference.nD Cert.SohReference.τ).loc Cert.SohReference.main_arg1))
        ∧ r.2.mem ((c.tc : Thread Cert.SohReference.nD Cert.SohReference.τ).loc Cert.SohReference.main_arg0)
          = m ((c.tc : Thread Cert.SohReference.nD Cert.SohReference.τ).loc Cert.SohReference.main_arg0)
        ∧ r.2.mem ((c.tc : Thread Cert.SohReference.nD Cert.SohReference.τ).loc Cert.SohReference.main_arg1)
          = m ((c.tc : Thread Cert.SohReference.nD Cert.SohReference.τ).loc Cert.SohReference.main_arg1)

/-- The two printed references are one text. -/
theorem same_text : RefBits = RefRun := by sl_kernel_rfl

theorem ref_bits : RefBits := fun m g => Cert.SohReferenceIdeal.Value.run (F := Bits) m g

theorem run_reference_bits : RefRun := same_text ▸ ref_bits

theorem frame_reference_bits : Cert.quiescent_SohReference := by
  intro m g _
  exact (θ_run Cert.SohReference.defs _ _).mono (fun r h => ⟨fun c => (h c).2, sem_eq_zero_of_no_sems (by decide) r.2⟩) (run_reference_bits m g)

/-- In floats too the sum is the reference's, bit for bit. -/
theorem bitexact : Cert.bitexact_SohKernel_SohReference := by
  pair_intro
  · run_from Cert.SohKernel.Value.run m g
  · run_from run_reference_bits m' g'
    exact Cert.SohReferenceIdeal.Meaning.total_eq ..

/-- The sum is the reference's. -/
theorem algebraic : Cert.algebraic_SohKernelIdeal_SohReferenceIdeal := by
  pair_intro
  · run_from Cert.SohKernelIdeal.Value.run m g
  · run_from Cert.SohReferenceIdeal.Value.run m' g'
    exact (Cert.SohReferenceIdeal.Read.val_main_v3_eq ..).trans (Cert.SohReferenceIdeal.Meaning.total_eq ..)

end Cert.Proof.Soh
-- ==== Proof.Sch.Blocks.lean ====
/- The sum of a chip's part of a gradient with the three received: the result array after the run. -/
module

public import proofs.«01_k».proof.Proof.Gen.SchKernel.Frame
public import proofs.«01_k».proof.Proof.Gen.SchKernelIdeal.Frame
public import Idealize.ShloMosaic.Lib.Pipeline.ValueKit
public import Idealize.ShloMosaic.Lib.StableHlo.ReadAt

@[expose] public section

set_option maxRecDepth 16384

noncomputable section

namespace Cert.SchKernel.Value

open Idealize.ShloMosaic Idealize.ShloMosaic.TcCoe Idealize.SL.Sem
open Cert.SchKernel Cert.SchKernel.Gen

/-- The word the host prefetches: the first half, or the first chip, of the two. -/
def zeros : pre0.Contents (Elt Bits) := fun
  | 0 => fun _ => (0#32 : BitVec 32)
  | ⟨_ + 1, h⟩ => absurd h (Nat.not_lt.2 (Nat.le_add_left _ _))

theorem tbl_eq (m : (ℓ : Loc nD τ sig) → Buf (Elt Bits) ℓ) : tbl m = zeros := by
  funext j
  match j with
  | ⟨0, _⟩ =>
    funext i
    unfold tbl
    show V m (0 : Dev nD) main_v0 i = _
    entry_read; rfl

theorem ok_zeros : ok0 (F := Bits) zeros := by decide +kernel

/-- Every block the index maps place at it is inside its array. -/
theorem ok (m : (ℓ : Loc nD τ sig) → Buf (Elt Bits) ℓ) : Ok m := by
  unfold Ok; rw [tbl_eq]; exact ok_zeros

end Cert.SchKernel.Value

namespace Cert.SchKernelIdeal.Value

open Idealize.ShloMosaic Idealize.ShloMosaic.TcCoe Idealize.SL.Sem
open Idealize.ShloMosaic.Pipeline (Dat)
open Cert.SchKernelIdeal Cert.SchKernelIdeal.Gen

/-- The word the host prefetches: the first half, or the first chip, of the two. -/
def zeros : pre0.Contents (Elt Ideal) := fun
  | 0 => fun _ => (0#32 : BitVec 32)
  | ⟨_ + 1, h⟩ => absurd h (Nat.not_lt.2 (Nat.le_add_left _ _))

theorem tbl_eq (m : (ℓ : Loc nD τ sig) → Buf (Elt Ideal) ℓ) : tbl m = zeros := by
  funext j
  match j with
  | ⟨0, _⟩ =>
    funext i
    unfold tbl
    show V m (0 : Dev nD) main_v0 i = _
    entry_read; rfl

theorem ok_zeros : ok0 (F := Ideal) zeros := by decide +kernel

/-- Every block the index maps place at it is inside its array. -/
theorem ok (m : (ℓ : Loc nD τ sig) → Buf (Elt Ideal) ℓ) : Ok m := by
  unfold Ok; rw [tbl_eq]; exact ok_zeros

variable (m : (ℓ : Loc nD τ sig) → Buf (Elt Ideal) ℓ)

theorem idx0 : ∀ t : Fin grid0.N, cc0_transform_0 (F := Ideal) inb_S1_S1_0 numel1_S1 zeros (grid0.coords t) = ![0, t.val, 0] := by
  decide +kernel

theorem idx (hO : Ok m) (t : Fin (cfgM m hO).N) : ((cfgM m hO).win 0).index t = ![0, t.val, 0] ∧ ((cfgM m hO).win 1).index t = ![0, t.val, 0]
    ∧ ((cfgM m hO).win 2).index t = ![t.val, 0] ∧ t.val < 1 := by
  refine ⟨?_, (by decide +kernel : ∀ t : Fin grid0.N, cc0_transform_1 (grid0.coords t) = ![0, t.val, 0]) t,
    (by decide +kernel : ∀ t : Fin grid0.N, cc0_transform_2 (grid0.coords t) = ![t.val, 0]) t, t.isLt⟩
  show cc0_transform_0 (F := Ideal) inb_S1_S1_0 numel1_S1 (tbl m) (grid0.coords t) = _
  rw [tbl_eq]; exact idx0 t

theorem covers (hO : Ok m) : ((cfgM m hO).win 2).Covers := by
  have e : ((cfg0 (F := Ideal) ⟨zeros, ok_zeros⟩).win 2).Covers := by decide +kernel
  exact e

abbrev A0 (c : Dev nD) : FVec Ideal S4x1536x512 .bf16 := m ((c.tc : Thread nD τ).loc main_arg0)
abbrev A1 (c : Dev nD) : FVec Ideal S3x1536x512 .bf16 := m ((c.tc : Thread nD τ).loc main_arg1)

/-- The result: the chip's own part and the three it received, added in pairs. -/
def total (a : FVec Ideal S4x1536x512 .bf16) (b : FVec Ideal S3x1536x512 .bf16) : FVec Ideal S1536x512 .f32 :=
  fun j => (a (ix3 0 (j 0) (j 1)) + b (ix3 0 (j 0) (j 1))) + (b (ix3 1 (j 0) (j 1)) + b (ix3 2 (j 0) (j 1)))

theorem own_at (hO : Ok m) (c : Dev nD) (t : Fin (cfgM m hO).N) (p : Fin 1536) (q : Fin 512) :
    (iblk m hO c 0 t : Vec Ideal S1x1536x512 .bf16) (ix3 0 p q) = A0 m c (ix3 0 p q) := by
  have := (idx m hO t).2.2.2
  blk_point [iblk, V, idx m hO t]

theorem other_at (hO : Ok m) (c : Dev nD) (t : Fin (cfgM m hO).N) (k : Fin 3) (p : Fin 1536) (q : Fin 512) :
    (iblk m hO c 1 t : Vec Ideal S3x1536x512 .bf16) (ix3 k p q) = A1 m c (ix3 k p q) := by
  have := (idx m hO t).2.2.2
  blk_point [iblk, V, idx m hO t]

/-- What a point leaves: its own block and the three received, added in pairs. -/
theorem out_at (c : Dev nD) (i : grid0.Coords) (arg2 : Memref sig .tc .vmem S1x1536x512 .bf16) (harg2 : arg2.IsWhole)
    (arg3 : Memref sig .tc .vmem S3x1536x512 .bf16) (harg3 : arg3.IsWhole) (arg4 : Memref sig .tc .vmem S1536x512 .f32) (harg4 : arg4.IsWhole)
    (x0 : Vec Ideal S1x1536x512 .bf16) (x1 : Vec Ideal S3x1536x512 .bf16) (xt0 : TbBuf0 (F := Ideal) c tbM0_0) (p : Fin 1536) (q : Fin 512) :
    out0_A_2 c i arg2 harg2 arg3 harg3 arg4 harg4 x0 x1 xt0 (ix2 p q)
      = (x0 (ix3 0 p q) + x1 (ix3 0 p q)) + (x1 (ix3 1 p q) + x1 (ix3 2 p q)) := by
  frame_out
  pointwise [k0_pay1]

/-- The result array after the run. -/
theorem final2 (hO : Ok m) (c : Dev nD) : (dats m hO 0 c).arrAt 2 (cfgM m hO).N = total (A0 m c) (A1 m c) := by
  refine (dats m hO 0 c).arrAt_eq_of_covers 2 _ (covers m hO) fun t hf y => ?_
  have key : ∀ (p : Fin 1536) (q : Fin 512), outsAt0 m hO c t (ix2 p q) = total (A0 m c) (A1 m c) (ix2 p q) := by
    intro p q
    have h0 := own_at m hO c t p q
    exact (out_at c _ _ _ _ _ _ _ _ _ _ p q).trans (congrArg₂ (· + ·) (congrArg₂ (· + ·) h0 (other_at m hO c t 0 p q))
      (congrArg₂ (· + ·) (other_at m hO c t 1 p q) (other_at m hO c t 2 p q)))
  obtain ⟨z, hz⟩ : ∃ z : S1536x512.Idx, z = y := ⟨y, rfl⟩
  have e : ∀ X : S1536x512.Idx → EReal, X ((((cfgM m hO).win 2).blk t).view.emb y) = X (ix2 (z 0) (z 1)) := fun X => by
    have := (idx m hO t).2.2.2
    subst hz
    blk_point [idx m hO t]
  have hy : outsAt0 m hO c t z = _ := (congrArg (outsAt0 m hO c t) (eq_ix2 z)).trans (key (z 0) (z 1))
  blk_simp
  rw [after0_2]
  subst hz
  exact hy.trans (e (total (A0 m c) (A1 m c))).symm

/-- The run: its result, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1) = total (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final2 m (ok m) c), h.2 c⟩)
    (θ_run_and (run_main m ρ (ok m)) (unchanged m ρ (ok m)))

end Cert.SchKernelIdeal.Value
-- ==== Proof.Sch.Reference.lean ====
/- The reference of the sum over chips, read at coordinates. -/
module

public import proofs.«01_k».proof.Proof.Gen.SchReferenceIdeal.Read
public import proofs.«01_k».proof.Proof.Gen.SchReferenceIdeal.Run
public import proofs.«01_k».proof.Proof.Sch.Blocks

@[expose] public section

set_option maxRecDepth 16384

noncomputable section

namespace Cert.SchReferenceIdeal.Meaning

open Idealize.ShloMosaic Idealize.SL.Sem
open Cert.SchReferenceIdeal Cert.SchReferenceIdeal.Read

/-- The reference's result is the chip's own part and the three received, added. -/
theorem total_eq (a : FVec Ideal S4x1536x512 .bf16) (b : FVec Ideal S3x1536x512 .bf16) :
    val_main_v5 (F := Ideal) a b = Cert.SchKernelIdeal.Value.total a b := by
  funext j; rw [eq_ix2 j]
  have e : val_main_v1 (F := Ideal) a (ix2 (j 0) (j 1)) = a (ix3 0 (j 0) (j 1)) := by
    rw [val_main_v1_apply, val_main_v0_apply]
    refine congrArg a (funext fun x => Fin.ext ?_)
    have h0 : (j 0).val < 1536 := (j 0).isLt; have h1 : (j 1).val < 512 := (j 1).isLt
    fin_cases x
    · rfl
    · show ((j 0).val * 512 + (j 1).val) / 512 % 1536 = (j 0).val; omega
    · show ((j 0).val * 512 + (j 1).val) % 512 = (j 1).val; omega
  have z : ∀ i, (val_main_cst (F := Ideal)) i = 0 := fun i => by pointwise [val_main_cst]
  have s : ∀ k : Fin 3, val_main_v3 (F := Ideal) b (idx_main_v4 (ix2 (j 0) (j 1)) k) = b (ix3 k (j 0) (j 1)) := fun k => by
    rw [val_main_v3_apply]
    refine congrArg b (funext fun x => Fin.ext ?_)
    fin_cases x <;> rfl
  have e2 : val_main_v2 (F := Ideal) a (ix2 (j 0) (j 1)) = a (ix3 0 (j 0) (j 1)) := e
  have e4 : val_main_v4 (F := Ideal) b (ix2 (j 0) (j 1)) = b (ix3 0 (j 0) (j 1)) + (b (ix3 1 (j 0) (j 1)) + b (ix3 2 (j 0) (j 1))) := by
    rw [val_main_v4_apply, z, zero_add, Fin.sum_univ_three, s, s, s, add_assoc]
  rw [val_main_v5_apply, e2, e4]
  exact (add_assoc (G := EReal) _ _ _).symm

end Cert.SchReferenceIdeal.Meaning
-- ==== Proof.Sch.Claims.lean ====
/- The claims about the sum over chips: the frames, and the result against the reference's. -/
module

public import proofs.«01_k».proof.Defs
public import proofs.«01_k».proof.Proof.Sch.Reference
public import Idealize.ShloMosaic.Lib.Claim

@[expose] public section

set_option maxRecDepth 16384

noncomputable section

namespace Cert.Proof.Sch

open Idealize.ShloMosaic Idealize.SL.Sem

theorem frame_kernel : Cert.quiescent_SchKernel := fun m ρ _ => Cert.SchKernel.Gen.frame m ρ (Cert.SchKernel.Value.ok m)
theorem frame_kernel_ideal : Cert.quiescent_SchKernelIdeal := fun m ρ _ => Cert.SchKernelIdeal.Gen.frame m ρ (Cert.SchKernelIdeal.Value.ok m)
theorem frame_reference : Cert.quiescent_SchReferenceIdeal := by
  intro m g _
  exact (θ_run Cert.SchReferenceIdeal.defs _ _).mono (fun r h => ⟨fun c => (h c).2, sem_eq_zero_of_no_sems (by decide) r.2⟩)
    (Cert.SchReferenceIdeal.Value.run m g)

/-- The sum is the reference's. -/
theorem algebraic : Cert.algebraic_SchKernelIdeal_SchReferenceIdeal := by
  pair_intro
  · run_from Cert.SchKernelIdeal.Value.run m g
  · run_from Cert.SchReferenceIdeal.Value.run m' g'
    exact (Cert.SchReferenceIdeal.Read.val_main_v5_eq ..).trans (Cert.SchReferenceIdeal.Meaning.total_eq ..)

end Cert.Proof.Sch
-- ==== Proof.Adb.Blocks.lean ====
/- The optimiser's step of the input projection: its four result arrays after the run. -/
module

public import proofs.«01_k».proof.Proof.Gen.AdbKernel.Frame
public import proofs.«01_k».proof.Proof.Gen.AdbKernelIdeal.Frame
public import Idealize.ShloMosaic.Lib.Pipeline.ValueKit
public import Idealize.ShloMosaic.Lib.StableHlo.ReadAt
public import Mathlib.Tactic.IntervalCases

@[expose] public section

set_option maxRecDepth 16384

noncomputable section

namespace Cert.AdbKernel.Value

open Idealize.ShloMosaic Idealize.ShloMosaic.TcCoe Idealize.SL.Sem
open Cert.AdbKernel Cert.AdbKernel.Gen

/-- The word the host prefetches: the first half, or the first chip, of the two. -/
def zeros : pre0.Contents (Elt Bits) := fun
  | 0 => fun _ => (0#32 : BitVec 32)
  | ⟨_ + 1, h⟩ => absurd h (Nat.not_lt.2 (Nat.le_add_left _ _))

theorem tbl_eq (m : (ℓ : Loc nD τ sig) → Buf (Elt Bits) ℓ) : tbl m = zeros := by
  funext j
  match j with
  | ⟨0, _⟩ =>
    funext i
    unfold tbl
    show V m (0 : Dev nD) main_v0 i = _
    entry_read; rfl

theorem ok_zeros : ok0 (F := Bits) zeros := by trivial

/-- Every block the index maps place at it is inside its array. -/
theorem ok (m : (ℓ : Loc nD τ sig) → Buf (Elt Bits) ℓ) : Ok m := by
  unfold Ok; rw [tbl_eq]; exact ok_zeros

end Cert.AdbKernel.Value

namespace Cert.AdbKernelIdeal.Value

open Idealize.ShloMosaic Idealize.ShloMosaic.TcCoe Idealize.SL.Sem
open Idealize.ShloMosaic.Pipeline (Dat)
open Cert.AdbKernelIdeal Cert.AdbKernelIdeal.Gen

/-- The word the host prefetches: the first half, or the first chip, of the two. -/
def zeros : pre0.Contents (Elt Ideal) := fun
  | 0 => fun _ => (0#32 : BitVec 32)
  | ⟨_ + 1, h⟩ => absurd h (Nat.not_lt.2 (Nat.le_add_left _ _))

theorem tbl_eq (m : (ℓ : Loc nD τ sig) → Buf (Elt Ideal) ℓ) : tbl m = zeros := by
  funext j
  match j with
  | ⟨0, _⟩ =>
    funext i
    unfold tbl
    show V m (0 : Dev nD) main_v0 i = _
    entry_read; rfl

theorem ok_zeros : ok0 (F := Ideal) zeros := by trivial

/-- Every block the index maps place at it is inside its array. -/
theorem ok (m : (ℓ : Loc nD τ sig) → Buf (Elt Ideal) ℓ) : Ok m := by
  unfold Ok; rw [tbl_eq]; exact ok_zeros

variable (m : (ℓ : Loc nD τ sig) → Buf (Elt Ideal) ℓ)

theorem idx (hO : Ok m) (t : Fin (cfgM m hO).N) : ((cfgM m hO).win 0).index t = ![t.val / 2, 0, 0] ∧ ((cfgM m hO).win 1).index t = ![t.val / 2, 0, 0]
    ∧ ((cfgM m hO).win 2).index t = ![t.val % 2, t.val / 2]
    ∧ ((cfgM m hO).win 3).index t = ![t.val % 2, t.val / 2]
    ∧ ((cfgM m hO).win 4).index t = ![t.val % 2, t.val / 2]
    ∧ ((cfgM m hO).win 5).index t = ![t.val % 2, t.val / 2]
    ∧ ((cfgM m hO).win 6).index t = ![t.val % 2, t.val / 2]
    ∧ ((cfgM m hO).win 7).index t = ![t.val % 2, t.val / 2]
    ∧ ((cfgM m hO).win 8).index t = ![t.val % 2, t.val / 2]
    ∧ (grid0.coords t 1).val = t.val % 2 ∧ t.val < 6 :=
  ⟨(by decide +kernel : ∀ t : Fin grid0.N, cc0_transform_0 (grid0.coords t) = ![t.val / 2, 0, 0]) t,
    (by decide +kernel : ∀ t : Fin grid0.N, cc0_transform_1 (grid0.coords t) = ![t.val / 2, 0, 0]) t,
    (by decide +kernel : ∀ t : Fin grid0.N, cc0_transform_2 (grid0.coords t) = ![t.val % 2, t.val / 2]) t,
    (by decide +kernel : ∀ t : Fin grid0.N, cc0_transform_3 (grid0.coords t) = ![t.val % 2, t.val / 2]) t,
    (by decide +kernel : ∀ t : Fin grid0.N, cc0_transform_4 (grid0.coords t) = ![t.val % 2, t.val / 2]) t,
    (by decide +kernel : ∀ t : Fin grid0.N, cc0_transform_5 (grid0.coords t) = ![t.val % 2, t.val / 2]) t,
    (by decide +kernel : ∀ t : Fin grid0.N, cc0_transform_6 (grid0.coords t) = ![t.val % 2, t.val / 2]) t,
    (by decide +kernel : ∀ t : Fin grid0.N, cc0_transform_7 (grid0.coords t) = ![t.val % 2, t.val / 2]) t,
    (by decide +kernel : ∀ t : Fin grid0.N, cc0_transform_8 (grid0.coords t) = ![t.val % 2, t.val / 2]) t,
    (by decide +kernel : ∀ t : Fin grid0.N, (grid0.coords t 1).val = t.val % 2) t, t.isLt⟩

theorem lt (hO : Ok m) (t : Fin (cfgM m hO).N) : t.val < 6 := t.isLt

/-- A number the optimiser multiplies or divides by. -/
abbrev lit (b : BitVec 32) : EReal := FloatOps.ofBits (F := Ideal) .f32 b

/-- The first moment after the step. -/
def mean (g a : EReal) : EReal := lit 0x3F666666#32 * a + lit 0x3DCCCCCD#32 * g
/-- The second moment after the step. -/
def var (g b : EReal) : EReal := lit 0x3F7FBE77#32 * b + lit 0x3A83126F#32 * (g * g)
/-- The change of the weight. -/
def delta (g w a b : EReal) : EReal :=
  lit 0xBA83126F#32 * (Ideal.div (Ideal.div (mean g a) (lit 0x3F26BD02#32)) (Ideal.sqrt (Ideal.div (var g b) (lit 0x3C231ACC#32)) + lit 0x322BCC77#32)
    + lit 0x3C23D70A#32 * w)

section

variable (c : Dev nD) (i : grid0.Coords) (arg3 : Memref sig .tc .vmem S1x512x512 .f32) (harg3 : arg3.IsWhole) (arg4 : Memref sig .tc .vmem S1x512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole)
  (x0 x1 : Vec Ideal S1x512x512 .f32) (x2 x3 x4 : Vec Ideal S512x512 .f32) (xt0 : TbBuf0 (F := Ideal) c tbM0_0)

theorem out5_at (hx : xt0 = fun _ => (0#32 : BitVec 32)) (p q : Fin 512) : out0_A_5 c i arg3 harg3 arg4 harg4 arg5 harg5 arg6 harg6 arg7 harg7 arg8 harg8 arg9 harg9 arg10 harg10 arg11 harg11 x0 x1 x2 x3 x4 xt0 (ix2 p q)
    = if (i 1).val = 0 then x0 (ix3 0 p q) else x1 (ix3 0 p q) := by
  frame_out
  pointwise [k0_pay2]
  subst hx
  have h : (i 1).val < 2 := (i 1).isLt
  show Scalar.select (Scalar.cmpi .eq (BitVec.ofNat 32 (i 1).val) (0#32 : BitVec 32)) _ _ = _
  generalize (i 1).val = k at h ⊢
  interval_cases k <;> rfl

theorem out7_at (p q : Fin 512) : out0_A_7 c i arg3 harg3 arg4 harg4 arg5 harg5 arg6 harg6 arg7 harg7 arg8 harg8 arg9 harg9 arg10 harg10 arg11 harg11 x0 x1 x2 x3 x4 xt0 (ix2 p q)
    = mean (out0_A_5 c i arg3 harg3 arg4 harg4 arg5 harg5 arg6 harg6 arg7 harg7 arg8 harg8 arg9 harg9 arg10 harg10 arg11 harg11 x0 x1 x2 x3 x4 xt0 (ix2 p q)) (x3 (ix2 p q)) := by
  frame_out
  pointwise [k0_pay3]
  rfl

theorem out8_at (p q : Fin 512) : out0_A_8 c i arg3 harg3 arg4 harg4 arg5 harg5 arg6 harg6 arg7 harg7 arg8 harg8 arg9 harg9 arg10 harg10 arg11 harg11 x0 x1 x2 x3 x4 xt0 (ix2 p q)
    = var (out0_A_5 c i arg3 harg3 arg4 harg4 arg5 harg5 arg6 harg6 arg7 harg7 arg8 harg8 arg9 harg9 arg10 harg10 arg11 harg11 x0 x1 x2 x3 x4 xt0 (ix2 p q)) (x4 (ix2 p q)) := by
  frame_out
  pointwise [k0_pay4]
  rfl

theorem out6_at (p q : Fin 512) : out0_A_6 c i arg3 harg3 arg4 harg4 arg5 harg5 arg6 harg6 arg7 harg7 arg8 harg8 arg9 harg9 arg10 harg10 arg11 harg11 x0 x1 x2 x3 x4 xt0 (ix2 p q)
    = delta (out0_A_5 c i arg3 harg3 arg4 harg4 arg5 harg5 arg6 harg6 arg7 harg7 arg8 harg8 arg9 harg9 arg10 harg10 arg11 harg11 x0 x1 x2 x3 x4 xt0 (ix2 p q)) (x2 (ix2 p q)) (x3 (ix2 p q)) (x4 (ix2 p q)) := by
  frame_out
  pointwise [k0_pay5, k0_pay4, k0_pay3, k0_pay1]
  rfl

end

abbrev A0 (c : Dev nD) : FVec Ideal S3x512x512 .f32 := m ((c.tc : Thread nD τ).loc main_arg0)
abbrev A1 (c : Dev nD) : FVec Ideal S3x512x512 .f32 := m ((c.tc : Thread nD τ).loc main_arg1)
abbrev A2 (c : Dev nD) : FVec Ideal S1024x1536 .f32 := m ((c.tc : Thread nD τ).loc main_arg2)
abbrev A3 (c : Dev nD) : FVec Ideal S1024x1536 .f32 := m ((c.tc : Thread nD τ).loc main_arg3)
abbrev A4 (c : Dev nD) : FVec Ideal S1024x1536 .f32 := m ((c.tc : Thread nD τ).loc main_arg4)

/-- The gradient: the upper 512 rows from the one half, the others from the other, three units of 512 columns side by side. -/
def grad (a b : FVec Ideal S3x512x512 .f32) : FVec Ideal S1024x1536 .f32 := fun j =>
  have h1 : (j 1).val < 1536 := (j 1).isLt
  if (j 0).val < 512 then a (ix3 ⟨(j 1).val / 512, by omega⟩ ⟨(j 0).val % 512, by omega⟩ ⟨(j 1).val % 512, by omega⟩)
  else b (ix3 ⟨(j 1).val / 512, by omega⟩ ⟨(j 0).val % 512, by omega⟩ ⟨(j 1).val % 512, by omega⟩)

/-- Where element `(p, q)` of a point's block stands in an array of 1024 by 1536. -/
abbrev spot (hO : Ok m) (t : Fin (cfgM m hO).N) (p q : Fin 512) : S1024x1536.Idx :=
  ix2 ⟨t.val % 2 * 512 + p.val, by omega⟩ ⟨t.val / 2 * 512 + q.val, by have := lt m hO t; omega⟩

theorem own_at (hO : Ok m) (c : Dev nD) (t : Fin (cfgM m hO).N) (p q : Fin 512) :
    (iblk m hO c 0 t : Vec Ideal S1x512x512 .f32) (ix3 0 p q) = A0 m c (ix3 ⟨t.val / 2, by have := lt m hO t; omega⟩ p q) := by
  blk_point [iblk, V, idx m hO t]

theorem other_at (hO : Ok m) (c : Dev nD) (t : Fin (cfgM m hO).N) (p q : Fin 512) :
    (iblk m hO c 1 t : Vec Ideal S1x512x512 .f32) (ix3 0 p q) = A1 m c (ix3 ⟨t.val / 2, by have := lt m hO t; omega⟩ p q) := by
  blk_point [iblk, V, idx m hO t]

theorem weight_at (hO : Ok m) (c : Dev nD) (t : Fin (cfgM m hO).N) (p q : Fin 512) :
    (iblk m hO c 2 t : Vec Ideal S512x512 .f32) (ix2 p q) = A2 m c (spot m hO t p q) := by
  blk_point [iblk, V, idx m hO t] <;> rfl

theorem mean_at (hO : Ok m) (c : Dev nD) (t : Fin (cfgM m hO).N) (p q : Fin 512) :
    (iblk m hO c 3 t : Vec Ideal S512x512 .f32) (ix2 p q) = A3 m c (spot m hO t p q) := by
  blk_point [iblk, V, idx m hO t] <;> rfl

theorem var_at (hO : Ok m) (c : Dev nD) (t : Fin (cfgM m hO).N) (p q : Fin 512) :
    (iblk m hO c 4 t : Vec Ideal S512x512 .f32) (ix2 p q) = A4 m c (spot m hO t p q) := by
  blk_point [iblk, V, idx m hO t] <;> rfl

theorem word_zero : (tbl m 0 : TbBuf0 (F := Ideal) (0 : Dev nD) tbM0_0) = fun _ => (0#32 : BitVec 32) := by
  rw [tbl_eq]; rfl

/-- The four blocks a point writes. -/
theorem outs (hO : Ok m) (c : Dev nD) (t : Fin (cfgM m hO).N) : outsAt0 m hO c t
    = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)) := rfl

theorem fst_of {α β : Type} {x : α × β} {a : α} {b : β} (h : x = (a, b)) : x.1 = a := by rw [h]
theorem snd_of {α β : Type} {x : α × β} {a : α} {b : β} (h : x = (a, b)) : x.2 = b := by rw [h]

/-- What a point writes of the gradient. -/
theorem grad_at (hO : Ok m) (c : Dev nD) (t : Fin (cfgM m hO).N) (p q : Fin 512) :
    (outsAt0 m hO c t).1 (ix2 p q) = grad (A0 m c) (A1 m c) (spot m hO t p q) := by
  have ht := lt m hO t
  have hp := p.isLt; have hq := q.isLt
  have h0 := own_at m hO c t p q
  have h1 := other_at m hO c t p q
  have hc : (grid0.coords t 1).val = t.val % 2 := (idx m hO t).2.2.2.2.2.2.2.2.2.1
  refine (congrFun (fst_of (outs m hO c t)) (ix2 p q)).trans ?_
  refine (out5_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (word_zero m) p q).trans ?_
  have f : ∀ X : FVec Ideal S3x512x512 .f32, X (ix3 ⟨t.val / 2, by omega⟩ p q)
      = X (ix3 ⟨(t.val / 2 * 512 + q.val) / 512, by omega⟩ ⟨(t.val % 2 * 512 + p.val) % 512, by omega⟩ ⟨(t.val / 2 * 512 + q.val) % 512, by omega⟩) := fun X =>
    congrArg X (by
      funext x; apply Fin.ext
      fin_cases x
      · show t.val / 2 = (t.val / 2 * 512 + q.val) / 512; omega
      · show p.val = (t.val % 2 * 512 + p.val) % 512; omega
      · show q.val = (t.val / 2 * 512 + q.val) % 512; omega)
  show _ = if t.val % 2 * 512 + p.val < 512 then _ else _
  by_cases hk : t.val % 2 = 0
  · exact (if_pos (hc.trans hk)).trans ((h0.trans (f _)).trans (if_pos (show t.val % 2 * 512 + p.val < 512 by omega)).symm)
  · exact (if_neg (fun e => hk (hc.symm.trans e))).trans ((h1.trans (f _)).trans (if_neg (show ¬ t.val % 2 * 512 + p.val < 512 by omega)).symm)

/-- What a point writes of the first moment, the second and the weight's change. -/
theorem others_at (hO : Ok m) (c : Dev nD) (t : Fin (cfgM m hO).N) (p q : Fin 512) :
    (outsAt0 m hO c t).2.1 (ix2 p q) = delta (grad (A0 m c) (A1 m c) (spot m hO t p q)) (A2 m c (spot m hO t p q)) (A3 m c (spot m hO t p q)) (A4 m c (spot m hO t p q))
    ∧ (outsAt0 m hO c t).2.2.1 (ix2 p q) = mean (grad (A0 m c) (A1 m c) (spot m hO t p q)) (A3 m c (spot m hO t p q))
    ∧ (outsAt0 m hO c t).2.2.2 (ix2 p q) = var (grad (A0 m c) (A1 m c) (spot m hO t p q)) (A4 m c (spot m hO t p q)) := by
  have hg := grad_at m hO c t p q
  replace hg := (congrFun (fst_of (outs m hO c t)) (ix2 p q)).symm.trans hg
  have h2 := weight_at m hO c t p q
  have h3 := mean_at m hO c t p q
  have h4 := var_at m hO c t p q
  have d : ∀ {g g' w w' a a' b b' : EReal}, g = g' → w = w' → a = a' → b = b' → delta g w a b = delta g' w' a' b' := by
    rintro _ _ _ _ _ _ _ _ rfl rfl rfl rfl; rfl
  exact ⟨(congrFun (fst_of (snd_of (outs m hO c t))) (ix2 p q)).trans <| (out6_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (d hg h2 h3 h4),
    (congrFun (fst_of (snd_of (snd_of (outs m hO c t)))) (ix2 p q)).trans <| (out7_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (congrArg₂ mean hg h3),
    (congrFun (snd_of (snd_of (snd_of (outs m hO c t)))) (ix2 p q)).trans <| (out8_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (congrArg₂ var hg h4)⟩

/-- The gradient after the run. -/
theorem final5 (hO : Ok m) (c : Dev nD) : (dats m hO 0 c).arrAt 5 (cfgM m hO).N = (grad (A0 m c) (A1 m c) : FVec Ideal S1024x1536 .f32) := by
  have cov : ((cfgM m hO).win 5).Covers := by
    have e : ((cfg0 (F := Ideal) ⟨zeros, ok_zeros⟩).win 5).Covers := by decide +kernel
    exact e
  refine (dats m hO 0 c).arrAt_eq_of_covers 5 _ cov fun t hf y => ?_
  obtain ⟨z, hz⟩ : ∃ z : S512x512.Idx, z = y := ⟨y, rfl⟩
  have e : ∀ X : S1024x1536.Idx → EReal, X ((((cfgM m hO).win 5).blk t).view.emb y) = X (spot m hO t (z 0) (z 1)) := fun X => by
    subst hz
    blk_point [idx m hO t] <;> rfl
  have hy : (outsAt0 m hO c t).1 z = _ := (congrArg (outsAt0 m hO c t).1 (eq_ix2 z)).trans (grad_at m hO c t (z 0) (z 1))
  blk_simp
  rw [after0_5]
  subst hz
  exact hy.trans (e (grad (A0 m c) (A1 m c))).symm

/-- The weight's change after the run. -/
theorem final6 (hO : Ok m) (c : Dev nD) : (dats m hO 0 c).arrAt 6 (cfgM m hO).N = (fun j => delta (grad (A0 m c) (A1 m c) j) (A2 m c j) (A3 m c j) (A4 m c j) : FVec Ideal S1024x1536 .f32) := by
  have cov : ((cfgM m hO).win 6).Covers := by
    have e : ((cfg0 (F := Ideal) ⟨zeros, ok_zeros⟩).win 6).Covers := by decide +kernel
    exact e
  refine (dats m hO 0 c).arrAt_eq_of_covers 6 _ cov fun t hf y => ?_
  obtain ⟨z, hz⟩ : ∃ z : S512x512.Idx, z = y := ⟨y, rfl⟩
  have e : ∀ X : S1024x1536.Idx → EReal, X ((((cfgM m hO).win 6).blk t).view.emb y) = X (spot m hO t (z 0) (z 1)) := fun X => by
    subst hz
    blk_point [idx m hO t] <;> rfl
  have hy : (outsAt0 m hO c t).2.1 z = _ := (congrArg (outsAt0 m hO c t).2.1 (eq_ix2 z)).trans ((others_at m hO c t (z 0) (z 1)).1)
  blk_simp
  rw [after0_6]
  subst hz
  exact hy.trans (e (fun j => delta (grad (A0 m c) (A1 m c) j) (A2 m c j) (A3 m c j) (A4 m c j))).symm

/-- The first moment after the run. -/
theorem final7 (hO : Ok m) (c : Dev nD) : (dats m hO 0 c).arrAt 7 (cfgM m hO).N = (fun j => mean (grad (A0 m c) (A1 m c) j) (A3 m c j) : FVec Ideal S1024x1536 .f32) := by
  have cov : ((cfgM m hO).win 7).Covers := by
    have e : ((cfg0 (F := Ideal) ⟨zeros, ok_zeros⟩).win 7).Covers := by decide +kernel
    exact e
  refine (dats m hO 0 c).arrAt_eq_of_covers 7 _ cov fun t hf y => ?_
  obtain ⟨z, hz⟩ : ∃ z : S512x512.Idx, z = y := ⟨y, rfl⟩
  have e : ∀ X : S1024x1536.Idx → EReal, X ((((cfgM m hO).win 7).blk t).view.emb y) = X (spot m hO t (z 0) (z 1)) := fun X => by
    subst hz
    blk_point [idx m hO t] <;> rfl
  have hy : (outsAt0 m hO c t).2.2.1 z = _ := (congrArg (outsAt0 m hO c t).2.2.1 (eq_ix2 z)).trans ((others_at m hO c t (z 0) (z 1)).2.1)
  blk_simp
  rw [after0_7]
  subst hz
  exact hy.trans (e (fun j => mean (grad (A0 m c) (A1 m c) j) (A3 m c j))).symm

/-- The second moment after the run. -/
theorem final8 (hO : Ok m) (c : Dev nD) : (dats m hO 0 c).arrAt 8 (cfgM m hO).N = (fun j => var (grad (A0 m c) (A1 m c) j) (A4 m c j) : FVec Ideal S1024x1536 .f32) := by
  have cov : ((cfgM m hO).win 8).Covers := by
    have e : ((cfg0 (F := Ideal) ⟨zeros, ok_zeros⟩).win 8).Covers := by decide +kernel
    exact e
  refine (dats m hO 0 c).arrAt_eq_of_covers 8 _ cov fun t hf y => ?_
  obtain ⟨z, hz⟩ : ∃ z : S512x512.Idx, z = y := ⟨y, rfl⟩
  have e : ∀ X : S1024x1536.Idx → EReal, X ((((cfgM m hO).win 8).blk t).view.emb y) = X (spot m hO t (z 0) (z 1)) := fun X => by
    subst hz
    blk_point [idx m hO t] <;> rfl
  have hy : (outsAt0 m hO c t).2.2.2 z = _ := (congrArg (outsAt0 m hO c t).2.2.2 (eq_ix2 z)).trans ((others_at m hO c t (z 0) (z 1)).2.2)
  blk_simp
  rw [after0_8]
  subst hz
  exact hy.trans (e (fun j => var (grad (A0 m c) (A1 m c) j) (A4 m c j))).symm

/-- The run: its results, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1_0) = grad (A0 m c) (A1 m c)
      ∧ r.2.mem ((c.tc : Thread nD τ).loc main_v1_1) = (fun j => delta (grad (A0 m c) (A1 m c) j) (A2 m c j) (A3 m c j) (A4 m c j) : FVec Ideal S1024x1536 .f32)
      ∧ r.2.mem ((c.tc : Thread nD τ).loc main_v1_2) = (fun j => mean (grad (A0 m c) (A1 m c) j) (A3 m c j) : FVec Ideal S1024x1536 .f32)
      ∧ r.2.mem ((c.tc : Thread nD τ).loc main_v1_3) = (fun j => var (grad (A0 m c) (A1 m c) j) (A4 m c j) : FVec Ideal S1024x1536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (final5 m (ok m) c), ((h.1 c).1 6).trans (final6 m (ok m) c),
      ((h.1 c).1 7).trans (final7 m (ok m) c), ((h.1 c).1 8).trans (final8 m (ok m) c), h.2 c⟩)
    (θ_run_and (run_main m ρ (ok m)) (unchanged m ρ (ok m)))

end Cert.AdbKernelIdeal.Value
-- ==== Proof.Adb.Reference.lean ====
/- The reference of the optimiser's step of the input projection, read at coordinates. -/
module

public import proofs.«01_k».proof.Proof.Gen.AdbReferenceIdeal.Read
public import proofs.«01_k».proof.Proof.Gen.AdbReferenceIdeal.Run
public import proofs.«01_k».proof.Proof.Adb.Blocks

@[expose] public section

set_option maxRecDepth 16384

noncomputable section

namespace Cert.AdbReferenceIdeal.Meaning

open Idealize.ShloMosaic Idealize.SL.Sem
open Cert.AdbReferenceIdeal Cert.AdbReferenceIdeal.Read

open Cert.AdbKernelIdeal.Value (grad delta mean var)

/-- The reference's gradient is the two halves below each other, the units side by side. -/
theorem grad_eq (a b : FVec Ideal S3x512x512 .f32) : val_main_v2 (F := Ideal) a b = grad a b := by
  funext j; rw [eq_ix2 j]
  have h0 : (j 0).val < 1024 := (j 0).isLt
  have h1 : (j 1).val < 1536 := (j 1).isLt
  rw [val_main_v2_apply, val_main_v1_apply]
  have e : idx_main_v1 (idx_main_v2 (ix2 (j 0) (j 1))) = ix3 ⟨(j 1).val / 512, by omega⟩ (j 0) ⟨(j 1).val % 512, by omega⟩ := by
    funext x; apply Fin.ext
    fin_cases x
    · show ((j 0).val * 1536 + (j 1).val) / 512 % 3 = (j 1).val / 512; omega
    · show ((j 0).val * 1536 + (j 1).val) / 1536 = (j 0).val; omega
    · show ((j 0).val * 1536 + (j 1).val) % 512 = (j 1).val % 512; omega
  rw [e]
  have f : ∀ (X : FVec Ideal S3x512x512 .f32) (k : ℕ) (hk : k < 512), k = (j 0).val % 512 →
      X (ix3 ⟨(j 1).val / 512, by omega⟩ ⟨k, hk⟩ ⟨(j 1).val % 512, by omega⟩)
        = X (ix3 ⟨(j 1).val / 512, by omega⟩ ⟨(j 0).val % 512, by omega⟩ ⟨(j 1).val % 512, by omega⟩) := by
    rintro X k hk rfl; rfl
  by_cases h : (j 0).val < 512
  · refine Eq.trans ?_ ((f a (j 0).val h (by omega)).trans (if_pos (show (j 0).val < 512 from h)).symm)
    unfold val_main_v0
    refine concatenate_pair_apply_left (t := S3x1024x512) (s₁ := S3x512x512) (s₂ := S3x512x512) 1 a b _ _ rfl _ fun x => ?_
    fin_cases x <;> rfl
  · refine Eq.trans ?_ ((f b ((j 0).val - 512) (by omega) (by omega)).trans (if_neg (show ¬ (j 0).val < 512 from h)).symm)
    unfold val_main_v0
    refine concatenate_pair_apply_right (t := S3x1024x512) (s₁ := S3x512x512) (s₂ := S3x512x512) 1 a b _ _ rfl rfl _ (fun x hx => ?_) ?_
    · fin_cases x
      · rfl
      · exact absurd rfl hx
      · rfl
    · show (j 0).val - 512 + 512 = (j 0).val; omega

theorem mean_eq (a b : FVec Ideal S3x512x512 .f32) (m : FVec Ideal S1024x1536 .f32) : val_main_v7 (F := Ideal) a b m = fun j => mean (grad a b j) (m j) := by
  funext j
  rw [val_main_v7_apply, val_main_v4_apply, val_main_v6_apply, grad_eq]
  pointwise [val_main_v3, val_main_v5, val_main_cst, val_main_cst_0]
  rfl

theorem var_eq (a b : FVec Ideal S3x512x512 .f32) (v : FVec Ideal S1024x1536 .f32) : val_main_v13 (F := Ideal) a b v = fun j => var (grad a b j) (v j) := by
  funext j
  rw [val_main_v13_apply, val_main_v9_apply, val_main_v12_apply, val_main_v10_apply, grad_eq]
  pointwise [val_main_v8, val_main_v11, val_main_cst_1, val_main_cst_2]
  rfl

theorem delta_eq (a b : FVec Ideal S3x512x512 .f32) (w m v : FVec Ideal S1024x1536 .f32) :
    val_main_v26 (F := Ideal) a b w m v = fun j => delta (grad a b j) (w j) (m j) (v j) := by
  funext j
  rw [val_main_v26_apply, val_main_v24_apply, val_main_v21_apply, val_main_v20_apply, val_main_v18_apply, val_main_v17_apply, val_main_v15_apply,
    val_main_v23_apply, mean_eq, var_eq]
  pointwise [val_main_v14, val_main_v16, val_main_v19, val_main_v22, val_main_v25, val_main_cst_3, val_main_cst_4, val_main_cst_5, val_main_cst_6, val_main_cst_7]
  rfl

end Cert.AdbReferenceIdeal.Meaning
-- ==== Proof.Adb.Claims.lean ====
/- The claims about the optimiser's step of the input projection: the frames, and the four results against the reference's. -/
module

public import proofs.«01_k».proof.Defs
public import proofs.«01_k».proof.Proof.Adb.Reference
public import Idealize.ShloMosaic.Lib.Claim

@[expose] public section

set_option maxRecDepth 16384

noncomputable section

namespace Cert.Proof.Adb

open Idealize.ShloMosaic Idealize.SL.Sem

theorem frame_kernel : Cert.quiescent_AdbKernel := fun m ρ _ => Cert.AdbKernel.Gen.frame m ρ (Cert.AdbKernel.Value.ok m)
theorem frame_kernel_ideal : Cert.quiescent_AdbKernelIdeal := fun m ρ _ => Cert.AdbKernelIdeal.Gen.frame m ρ (Cert.AdbKernelIdeal.Value.ok m)
theorem frame_reference : Cert.quiescent_AdbReferenceIdeal := by
  intro m g _
  exact (θ_run Cert.AdbReferenceIdeal.defs _ _).mono (fun r h => ⟨fun c => (h c).2.2.2.2, sem_eq_zero_of_no_sems (by decide) r.2⟩)
    (Cert.AdbReferenceIdeal.Value.run m g)

/-- The gradient, the weight's change and the two moments are the reference's. -/
theorem algebraic : Cert.algebraic_AdbKernelIdeal_AdbReferenceIdeal := by
  pair_intro
  · run_from Cert.AdbKernelIdeal.Value.run m g
  · run_from Cert.AdbReferenceIdeal.Value.run m' g'
    · exact (Cert.AdbReferenceIdeal.Read.val_main_v2_eq ..).trans (Cert.AdbReferenceIdeal.Meaning.grad_eq ..)
    · exact (Cert.AdbReferenceIdeal.Read.val_main_v26_eq ..).trans (Cert.AdbReferenceIdeal.Meaning.delta_eq ..)
    · exact (Cert.AdbReferenceIdeal.Read.val_main_v7_eq ..).trans (Cert.AdbReferenceIdeal.Meaning.mean_eq ..)
    · exact (Cert.AdbReferenceIdeal.Read.val_main_v13_eq ..).trans (Cert.AdbReferenceIdeal.Meaning.var_eq ..)

end Cert.Proof.Adb
-- ==== Proof.Soo.Blocks.lean ====
/- The sum of a core's half of a gradient with the other core's: the result array after the run. -/
module

public import proofs.«01_k».proof.Proof.Gen.SooKernel
public import proofs.«01_k».proof.Proof.Gen.SooKernelIdeal.Frame
public import Idealize.ShloMosaic.Lib.Pipeline.ValueKit
public import Idealize.ShloMosaic.Lib.StableHlo.ReadAt

@[expose] public section

set_option maxRecDepth 16384

noncomputable section

namespace Cert.SooKernelIdeal.Value

open Idealize.ShloMosaic Idealize.ShloMosaic.TcCoe Idealize.SL.Sem
open Idealize.ShloMosaic.Pipeline (Dat)
open Cert.SooKernelIdeal Cert.SooKernelIdeal.Gen

variable {F : FTy → Type} [FloatOps F]

/-- The word the host prefetches: the first half, or the first chip, of the two. -/
def zeros : pre0.Contents (Elt F) := fun
  | 0 => fun _ => (0#32 : BitVec 32)
  | ⟨_ + 1, h⟩ => absurd h (Nat.not_lt.2 (Nat.le_add_left _ _))

theorem tbl_eq (m : (ℓ : Loc nD τ sig) → Buf (Elt F) ℓ) : tbl m = zeros := by
  funext j
  match j with
  | ⟨0, _⟩ =>
    funext i
    unfold tbl
    show V m (0 : Dev nD) main_v0 i = _
    entry_read; rfl

theorem ok_zeros : ok0 (F := F) zeros := of_decide_eq_true (by sl_kernel_rfl)

/-- Every block the index maps place at it is inside its array. -/
theorem ok (m : (ℓ : Loc nD τ sig) → Buf (Elt F) ℓ) : Ok m := by
  unfold Ok; rw [tbl_eq]; exact ok_zeros

variable (m : (ℓ : Loc nD τ sig) → Buf (Elt F) ℓ)

theorem idx0 : ∀ t : Fin grid0.N, cc0_transform_0 (F := F) inb_S1_S1_0 numel1_S1 zeros (grid0.coords t) = ![0, t.val, 0] := of_decide_eq_true (by sl_kernel_rfl)

theorem idx (hO : Ok m) (t : Fin (cfgM m hO).N) : ((cfgM m hO).win 0).index t = ![0, t.val, 0] ∧ ((cfgM m hO).win 1).index t = ![t.val, 0]
    ∧ ((cfgM m hO).win 2).index t = ![t.val, 0] ∧ t.val < 1 := by
  refine ⟨?_, (by decide +kernel : ∀ t : Fin grid0.N, cc0_transform_1 (grid0.coords t) = ![t.val, 0]) t,
    (by decide +kernel : ∀ t : Fin grid0.N, cc0_transform_2 (grid0.coords t) = ![t.val, 0]) t, t.isLt⟩
  show cc0_transform_0 (F := F) inb_S1_S1_0 numel1_S1 (tbl m) (grid0.coords t) = _
  rw [tbl_eq]; exact idx0 t

theorem covers (hO : Ok m) : ((cfgM m hO).win 2).Covers := by
  have e : ((cfg0 (F := F) ⟨zeros, ok_zeros⟩).win 2).Covers := of_decide_eq_true (by sl_kernel_rfl)
  exact e

abbrev A0 (c : Dev nD) : FVec F S2x1024x1024 .f32 := m ((c.tc : Thread nD τ).loc main_arg0)
abbrev A1 (c : Dev nD) : FVec F S1024x1024 .f32 := m ((c.tc : Thread nD τ).loc main_arg1)

/-- One element of the result: the sum, rounded to the exchanges' type. -/
def add (a b : F .f32) : F .bf16 := FloatOps.truncf .bf16 bitsLt_bf16_f32 (FloatOps.addf a b)

/-- The result: the first half and what was received, added. -/
def total (a : FVec F S2x1024x1024 .f32) (b : FVec F S1024x1024 .f32) : FVec F S1024x1024 .bf16 :=
  fun j => add (a (ix3 0 (j 0) (j 1))) (b (ix2 (j 0) (j 1)))

theorem own_at (hO : Ok m) (c : Dev nD) (t : Fin (cfgM m hO).N) (p : Fin 1024) (q : Fin 1024) :
    (iblk m hO c 0 t : Vec F S1x1024x1024 .f32) (ix3 0 p q) = A0 m c (ix3 0 p q) := by
  have := (idx m hO t).2.2.2
  blk_point [iblk, V, idx m hO t]

theorem other_at (hO : Ok m) (c : Dev nD) (t : Fin (cfgM m hO).N) (p : Fin 1024) (q : Fin 1024) :
    (iblk m hO c 1 t : Vec F S1024x1024 .f32) (ix2 p q) = A1 m c (ix2 p q) := by
  have := (idx m hO t).2.2.2
  blk_point [iblk, V, idx m hO t]

/-- What a point leaves: its two blocks added. -/
theorem out_at (c : Dev nD) (i : grid0.Coords) (arg2 : Memref sig .tc .vmem S1x1024x1024 .f32) (harg2 : arg2.IsWhole)
    (arg3 : Memref sig .tc .vmem S1024x1024 .f32) (harg3 : arg3.IsWhole) (arg4 : Memref sig .tc .vmem S1024x1024 .bf16) (harg4 : arg4.IsWhole)
    (x0 : Vec F S1x1024x1024 .f32) (x1 : Vec F S1024x1024 .f32) (xt0 : TbBuf0 (F := F) c tbM0_0) (p : Fin 1024) (q : Fin 1024) :
    out0_A_2 c i arg2 harg2 arg3 harg3 arg4 harg4 x0 x1 xt0 (ix2 p q) = add (x0 (ix3 0 p q)) (x1 (ix2 p q)) := by
  frame_out
  pointwise [k0_pay1]
  rfl

/-- The result array after the run. -/
theorem final2 (hO : Ok m) (c : Dev nD) : (dats m hO 0 c).arrAt 2 (cfgM m hO).N = total (A0 m c) (A1 m c) := by
  refine (dats m hO 0 c).arrAt_eq_of_covers 2 _ (covers m hO) fun t hf y => ?_
  have key : ∀ (p : Fin 1024) (q : Fin 1024), outsAt0 m hO c t (ix2 p q)
      = total (A0 m c) (A1 m c) (ix2 p q) := by
    intro p q
    have h0 := own_at m hO c t p q
    have h1 := other_at m hO c t p q
    exact (out_at c _ _ _ _ _ _ _ _ _ _ p q).trans (congrArg₂ add h0 h1)
  obtain ⟨z, hz⟩ : ∃ z : S1024x1024.Idx, z = y := ⟨y, rfl⟩
  have e : ∀ X : S1024x1024.Idx → F .bf16, X ((((cfgM m hO).win 2).blk t).view.emb y)
      = X (ix2 (z 0) (z 1)) := fun X => by
    have := (idx m hO t).2.2.2
    subst hz
    blk_point [idx m hO t]
  have hy : outsAt0 m hO c t z = _ := (congrArg (outsAt0 m hO c t) (eq_ix2 z)).trans (key (z 0) (z 1))
  blk_simp
  rw [after0_2]
  subst hz
  exact hy.trans (e (total (A0 m c) (A1 m c))).symm

/-- The run: its result, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v1) = total (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final2 m (ok m) c), h.2 c⟩)
    (θ_run_and (run_main m ρ (ok m)) (unchanged m ρ (ok m)))

end Cert.SooKernelIdeal.Value

namespace Cert.SooKernelIdeal.Value

open Idealize.ShloMosaic Idealize.ShloMosaic.TcCoe Idealize.SL.Sem
open Cert.SooKernelIdeal

/-- The run on bit patterns: its result, the arguments unchanged, the counters zero. -/
def BitsRun : Prop := ∀ (m : (ℓ : Loc nD τ sig) → Buf (Elt Bits) ℓ) (ρ : Dev nD → PrngReg),
  θ_run (defs (F := Bits)) (onTc (τ := τ) (main (F := Bits))) ⟨m, fun _ => 0, ρ⟩ fun r =>
    (∀ c : Dev nD, r.2.mem ((c.tc : Thread nD τ).loc main_v1)
        = total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

theorem bits_run : BitsRun := fun m ρ =>
  (θ_run defs _ _).mono (fun r h => ⟨h.1, h.2.2⟩) (θ_run_and (run m ρ) (Gen.frame m ρ (ok m)))

end Cert.SooKernelIdeal.Value

namespace Cert.SooKernel.Value

open Idealize.ShloMosaic Idealize.ShloMosaic.TcCoe Idealize.SL.Sem
open Cert.SooKernel

/-- The same of the kernel in floats. -/
def BitsRun : Prop := ∀ (m : (ℓ : Loc nD τ sig) → Buf (Elt Bits) ℓ) (ρ : Dev nD → PrngReg),
  θ_run (defs (F := Bits)) (onTc (τ := τ) (main (F := Bits))) ⟨m, fun _ => 0, ρ⟩ fun r =>
    (∀ c : Dev nD, r.2.mem ((c.tc : Thread nD τ).loc main_v1)
        = Cert.SooKernelIdeal.Value.total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

/-- The two printed programs are one text. -/
theorem same_text : Cert.SooKernelIdeal.Value.BitsRun = BitsRun := by sl_kernel_rfl

theorem bits_run : BitsRun := same_text ▸ Cert.SooKernelIdeal.Value.bits_run

variable (m : (ℓ : Loc nD τ sig) → Buf (Elt Bits) ℓ) (ρ : Dev nD → PrngReg)

theorem run : θ_run (defs (F := Bits)) (onTc (τ := τ) (main (F := Bits))) ⟨m, fun _ => 0, ρ⟩ fun r => ∀ c : Dev nD,
      r.2.mem ((c.tc : Thread nD τ).loc main_v1)
        = Cert.SooKernelIdeal.Value.total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h => h.1) (bits_run m ρ)

end Cert.SooKernel.Value
-- ==== Proof.Soo.Reference.lean ====
/- The reference of a half's sum, read at coordinates. -/
module

public import proofs.«01_k».proof.Proof.Gen.SooReferenceIdeal.Read
public import proofs.«01_k».proof.Proof.Gen.SooReferenceIdeal.Run
public import proofs.«01_k».proof.Proof.Soo.Blocks

@[expose] public section

set_option maxRecDepth 16384

noncomputable section

namespace Cert.SooReferenceIdeal.Meaning

open Idealize.ShloMosaic Idealize.SL.Sem
open Cert.SooReferenceIdeal Cert.SooReferenceIdeal.Read

/-- The reference's result is the first half and what was received, added. -/
theorem total_eq {F : FTy → Type} [FloatOps F] (a : FVec F S2x1024x1024 .f32) (b : FVec F S1024x1024 .f32) :
    val_main_v3 (F := F) a b = Cert.SooKernelIdeal.Value.total a b := by
  funext j; rw [eq_ix2 j]
  have e : val_main_v1 (F := F) a (ix2 (j 0) (j 1)) = a (ix3 0 (j 0) (j 1)) := by
    rw [val_main_v1_apply, val_main_v0_apply]
    refine congrArg a (funext fun x => Fin.ext ?_)
    have h0 : (j 0).val < 1024 := (j 0).isLt; have h1 : (j 1).val < 1024 := (j 1).isLt
    fin_cases x
    · rfl
    · show ((j 0).val * 1024 + (j 1).val) / 1024 % 1024 = (j 0).val; omega
    · show ((j 0).val * 1024 + (j 1).val) % 1024 = (j 1).val; omega
  rw [val_main_v3_apply, val_main_v2_apply, e]; rfl

end Cert.SooReferenceIdeal.Meaning
-- ==== Proof.Soo.Claims.lean ====
/- The claims about the sum of a core's half with the other core's: the frames, and the result against the reference's. -/
module

public import proofs.«01_k».proof.Defs
public import proofs.«01_k».proof.Proof.Soo.Reference
public import proofs.«01_k».proof.Proof.Gen.SooKernel
public import proofs.«01_k».proof.Proof.Gen.SooReference
public import Idealize.ShloMosaic.Lib.Claim

@[expose] public section

set_option maxRecDepth 16384

noncomputable section

namespace Cert.Proof.Soo

open Idealize.ShloMosaic Idealize.SL.Sem

theorem frame_kernel : Cert.quiescent_SooKernel := fun m ρ _ =>
  (θ_run (Cert.SooKernel.defs (F := Bits)) _ _).mono (fun r h => ⟨fun c => (h.1 c).2, h.2⟩) (Cert.SooKernel.Value.bits_run m ρ)
theorem frame_kernel_ideal : Cert.quiescent_SooKernelIdeal := fun m ρ _ => Cert.SooKernelIdeal.Gen.frame m ρ (Cert.SooKernelIdeal.Value.ok m)
theorem frame_reference : Cert.quiescent_SooReferenceIdeal := by
  intro m g _
  exact (θ_run Cert.SooReferenceIdeal.defs _ _).mono (fun r h => ⟨fun c => (h c).2, sem_eq_zero_of_no_sems (by decide) r.2⟩)
    (Cert.SooReferenceIdeal.Value.run m g)

/-- The reference's run on bit patterns, of its idealized text. -/
def RefBits : Prop := ∀ (m : (ℓ : Loc Cert.SooReferenceIdeal.nD Cert.SooReferenceIdeal.τ Cert.SooReferenceIdeal.sig) → Buf (Elt Bits) ℓ)
    (g : Dev Cert.SooReferenceIdeal.nD → PrngReg),
    θ_run (Cert.SooReferenceIdeal.defs (F := Bits)) (onTc (τ := Cert.SooReferenceIdeal.τ) (Cert.SooReferenceIdeal.main (F := Bits))) ⟨m, fun _ => 0, g⟩ fun r =>
      ∀ c : Dev Cert.SooReferenceIdeal.nD,
        r.2.mem ((c.tc : Thread Cert.SooReferenceIdeal.nD Cert.SooReferenceIdeal.τ).loc Cert.SooReferenceIdeal.main_v3)
          = Cert.SooReferenceIdeal.Read.val_main_v3 (F := Bits)
            (m ((c.tc : Thread Cert.SooReferenceIdeal.nD Cert.SooReferenceIdeal.τ).loc Cert.SooReferenceIdeal.main_arg0))
            (m ((c.tc : Thread Cert.SooReferenceIdeal.nD Cert.SooReferenceIdeal.τ).loc Cert.SooReferenceIdeal.main_arg1))
        ∧ r.2.mem ((c.tc : Thread Cert.SooReferenceIdeal.nD Cert.SooReferenceIdeal.τ).loc Cert.SooReferenceIdeal.main_arg0)
          = m ((c.tc : Thread Cert.SooReferenceIdeal.nD Cert.SooReferenceIdeal.τ).loc Cert.SooReferenceIdeal.main_arg0)
        ∧ r.2.mem ((c.tc : Thread Cert.SooReferenceIdeal.nD Cert.SooReferenceIdeal.τ).loc Cert.SooReferenceIdeal.main_arg1)
          = m ((c.tc : Thread Cert.SooReferenceIdeal.nD Cert.SooReferenceIdeal.τ).loc Cert.SooReferenceIdeal.main_arg1)

/-- The same of the reference's own text. -/
def RefRun : Prop := ∀ (m : (ℓ : Loc Cert.SooReference.nD Cert.SooReference.τ Cert.SooReference.sig) → Buf (Elt Bits) ℓ)
    (g : Dev Cert.SooReference.nD → PrngReg),
    θ_run (Cert.SooReference.defs (F := Bits)) (onTc (τ := Cert.SooReference.τ) (Cert.SooReference.main (F := Bits))) ⟨m, fun _ => 0, g⟩ fun r =>
      ∀ c : Dev Cert.SooReference.nD,
        r.2.mem ((c.tc : Thread Cert.SooReference.nD Cert.SooReference.τ).loc Cert.SooReference.main_v3)
          = Cert.SooReferenceIdeal.Read.val_main_v3 (F := Bits) (m ((c.tc : Thread Cert.SooReference.nD Cert.SooReference.τ).loc Cert.SooReference.main_arg0))
            (m ((c.tc : Thread Cert.SooReference.nD Cert.SooReference.τ).loc Cert.SooReference.main_arg1))
        ∧ r.2.mem ((c.tc : Thread Cert.SooReference.nD Cert.SooReference.τ).loc Cert.SooReference.main_arg0)
          = m ((c.tc : Thread Cert.SooReference.nD Cert.SooReference.τ).loc Cert.SooReference.main_arg0)
        ∧ r.2.mem ((c.tc : Thread Cert.SooReference.nD Cert.SooReference.τ).loc Cert.SooReference.main_arg1)
          = m ((c.tc : Thread Cert.SooReference.nD Cert.SooReference.τ).loc Cert.SooReference.main_arg1)

/-- The two printed references are one text. -/
theorem same_text : RefBits = RefRun := by sl_kernel_rfl

theorem ref_bits : RefBits := fun m g => Cert.SooReferenceIdeal.Value.run (F := Bits) m g

theorem run_reference_bits : RefRun := same_text ▸ ref_bits

theorem frame_reference_bits : Cert.quiescent_SooReference := by
  intro m g _
  exact (θ_run Cert.SooReference.defs _ _).mono (fun r h => ⟨fun c => (h c).2, sem_eq_zero_of_no_sems (by decide) r.2⟩) (run_reference_bits m g)

/-- In floats too the sum is the reference's, bit for bit. -/
theorem bitexact : Cert.bitexact_SooKernel_SooReference := by
  pair_intro
  · run_from Cert.SooKernel.Value.run m g
  · run_from run_reference_bits m' g'
    exact Cert.SooReferenceIdeal.Meaning.total_eq ..

/-- The sum is the reference's. -/
theorem algebraic : Cert.algebraic_SooKernelIdeal_SooReferenceIdeal := by
  pair_intro
  · run_from Cert.SooKernelIdeal.Value.run m g
  · run_from Cert.SooReferenceIdeal.Value.run m' g'
    exact (Cert.SooReferenceIdeal.Read.val_main_v3_eq ..).trans (Cert.SooReferenceIdeal.Meaning.total_eq ..)

end Cert.Proof.Soo
-- ==== Proof.Sog.Blocks.lean ====
/- The sum of a core's half of a gradient with the other core's: the result array after the run. -/
module

public import proofs.«01_k».proof.Proof.Gen.SogKernel
public import proofs.«01_k».proof.Proof.Gen.SogKernelIdeal.Frame
public import Idealize.ShloMosaic.Lib.Pipeline.ValueKit
public import Idealize.ShloMosaic.Lib.StableHlo.ReadAt

@[expose] public section

set_option maxRecDepth 16384

noncomputable section

namespace Cert.SogKernelIdeal.Value

open Idealize.ShloMosaic Idealize.ShloMosaic.TcCoe Idealize.SL.Sem
open Idealize.ShloMosaic.Pipeline (Dat)
open Cert.SogKernelIdeal Cert.SogKernelIdeal.Gen

variable {F : FTy → Type} [FloatOps F]

/-- The word the host prefetches: the first half, or the first chip, of the two. -/
def zeros : pre0.Contents (Elt F) := fun
  | 0 => fun _ => (0#32 : BitVec 32)
  | ⟨_ + 1, h⟩ => absurd h (Nat.not_lt.2 (Nat.le_add_left _ _))

theorem tbl_eq (m : (ℓ : Loc nD τ sig) → Buf (Elt F) ℓ) : tbl m = zeros := by
  funext j
  match j with
  | ⟨0, _⟩ =>
    funext i
    unfold tbl
    show V m (0 : Dev nD) main_v0 i = _
    entry_read; rfl

theorem ok_zeros : ok0 (F := F) zeros := of_decide_eq_true (by sl_kernel_rfl)

/-- Every block the index maps place at it is inside its array. -/
theorem ok (m : (ℓ : Loc nD τ sig) → Buf (Elt F) ℓ) : Ok m := by
  unfold Ok; rw [tbl_eq]; exact ok_zeros

variable (m : (ℓ : Loc nD τ sig) → Buf (Elt F) ℓ)

theorem idx0 : ∀ t : Fin grid0.N, cc0_transform_0 (F := F) inb_S1_S1_0 numel1_S1 zeros (grid0.coords t) = ![0, t.val, 0] := of_decide_eq_true (by sl_kernel_rfl)

theorem idx (hO : Ok m) (t : Fin (cfgM m hO).N) : ((cfgM m hO).win 0).index t = ![0, t.val, 0] ∧ ((cfgM m hO).win 1).index t = ![t.val, 0]
    ∧ ((cfgM m hO).win 2).index t = ![t.val, 0] ∧ t.val < 1 := by
  refine ⟨?_, (by decide +kernel : ∀ t : Fin grid0.N, cc0_transform_1 (grid0.coords t) = ![t.val, 0]) t,
    (by decide +kernel : ∀ t : Fin grid0.N, cc0_transform_2 (grid0.coords t) = ![t.val, 0]) t, t.isLt⟩
  show cc0_transform_0 (F := F) inb_S1_S1_0 numel1_S1 (tbl m) (grid0.coords t) = _
  rw [tbl_eq]; exact idx0 t

theorem covers (hO : Ok m) : ((cfgM m hO).win 2).Covers := by
  have e : ((cfg0 (F := F) ⟨zeros, ok_zeros⟩).win 2).Covers := of_decide_eq_true (by sl_kernel_rfl)
  exact e

abbrev A0 (c : Dev nD) : FVec F S2x512x256 .f32 := m ((c.tc : Thread nD τ).loc main_arg0)
abbrev A1 (c : Dev nD) : FVec F S512x256 .f32 := m ((c.tc : Thread nD τ).loc main_arg1)

/-- One element of the result: the sum, rounded to the exchanges' type. -/
def add (a b : F .f32) : F .bf16 := FloatOps.truncf .bf16 bitsLt_bf16_f32 (FloatOps.addf a b)

/-- The result: the first half and what was received, added. -/
def total (a : FVec F S2x512x256 .f32) (b : FVec F S512x256 .f32) : FVec F S512x256 .bf16 :=
  fun j => add (a (ix3 0 (j 0) (j 1))) (b (ix2 (j 0) (j 1)))

theorem own_at (hO : Ok m) (c : Dev nD) (t : Fin (cfgM m hO).N) (p : Fin 512) (q : Fin 256) :
    (iblk m hO c 0 t : Vec F S1x512x256 .f32) (ix3 0 p q) = A0 m c (ix3 0 p q) := by
  have := (idx m hO t).2.2.2
  blk_point [iblk, V, idx m hO t]

theorem other_at (hO : Ok m) (c : Dev nD) (t : Fin (cfgM m hO).N) (p : Fin 512) (q : Fin 256) :
    (iblk m hO c 1 t : Vec F S512x256 .f32) (ix2 p q) = A1 m c (ix2 p q) := by
  have := (idx m hO t).2.2.2
  blk_point [iblk, V, idx m hO t]

/-- What a point leaves: its two blocks added. -/
theorem out_at (c : Dev nD) (i : grid0.Coords) (arg2 : Memref sig .tc .vmem S1x512x256 .f32) (harg2 : arg2.IsWhole)
    (arg3 : Memref sig .tc .vmem S512x256 .f32) (harg3 : arg3.IsWhole) (arg4 : Memref sig .tc .vmem S512x256 .bf16) (harg4 : arg4.IsWhole)
    (x0 : Vec F S1x512x256 .f32) (x1 : Vec F S512x256 .f32) (xt0 : TbBuf0 (F := F) c tbM0_0) (p : Fin 512) (q : Fin 256) :
    out0_A_2 c i arg2 harg2 arg3 harg3 arg4 harg4 x0 x1 xt0 (ix2 p q) = add (x0 (ix3 0 p q)) (x1 (ix2 p q)) := by
  frame_out
  pointwise [k0_pay1]
  rfl

/-- The result array after the run. -/
theorem final2 (hO : Ok m) (c : Dev nD) : (dats m hO 0 c).arrAt 2 (cfgM m hO).N = total (A0 m c) (A1 m c) := by
  refine (dats m hO 0 c).arrAt_eq_of_covers 2 _ (covers m hO) fun t hf y => ?_
  have key : ∀ (p : Fin 512) (q : Fin 256), outsAt0 m hO c t (ix2 p q)
      = total (A0 m c) (A1 m c) (ix2 p q) := by
    intro p q
    have h0 := own_at m hO c t p q
    have h1 := other_at m hO c t p q
    exact (out_at c _ _ _ _ _ _ _ _ _ _ p q).trans (congrArg₂ add h0 h1)
  obtain ⟨z, hz⟩ : ∃ z : S512x256.Idx, z = y := ⟨y, rfl⟩
  have e : ∀ X : S512x256.Idx → F .bf16, X ((((cfgM m hO).win 2).blk t).view.emb y)
      = X (ix2 (z 0) (z 1)) := fun X => by
    have := (idx m hO t).2.2.2
    subst hz
    blk_point [idx m hO t]
  have hy : outsAt0 m hO c t z = _ := (congrArg (outsAt0 m hO c t) (eq_ix2 z)).trans (key (z 0) (z 1))
  blk_simp
  rw [after0_2]
  subst hz
  exact hy.trans (e (total (A0 m c) (A1 m c))).symm

/-- The run: its result, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v1) = total (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final2 m (ok m) c), h.2 c⟩)
    (θ_run_and (run_main m ρ (ok m)) (unchanged m ρ (ok m)))

end Cert.SogKernelIdeal.Value

namespace Cert.SogKernelIdeal.Value

open Idealize.ShloMosaic Idealize.ShloMosaic.TcCoe Idealize.SL.Sem
open Cert.SogKernelIdeal

/-- The run on bit patterns: its result, the arguments unchanged, the counters zero. -/
def BitsRun : Prop := ∀ (m : (ℓ : Loc nD τ sig) → Buf (Elt Bits) ℓ) (ρ : Dev nD → PrngReg),
  θ_run (defs (F := Bits)) (onTc (τ := τ) (main (F := Bits))) ⟨m, fun _ => 0, ρ⟩ fun r =>
    (∀ c : Dev nD, r.2.mem ((c.tc : Thread nD τ).loc main_v1)
        = total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

theorem bits_run : BitsRun := fun m ρ =>
  (θ_run defs _ _).mono (fun r h => ⟨h.1, h.2.2⟩) (θ_run_and (run m ρ) (Gen.frame m ρ (ok m)))

end Cert.SogKernelIdeal.Value

namespace Cert.SogKernel.Value

open Idealize.ShloMosaic Idealize.ShloMosaic.TcCoe Idealize.SL.Sem
open Cert.SogKernel

/-- The same of the kernel in floats. -/
def BitsRun : Prop := ∀ (m : (ℓ : Loc nD τ sig) → Buf (Elt Bits) ℓ) (ρ : Dev nD → PrngReg),
  θ_run (defs (F := Bits)) (onTc (τ := τ) (main (F := Bits))) ⟨m, fun _ => 0, ρ⟩ fun r =>
    (∀ c : Dev nD, r.2.mem ((c.tc : Thread nD τ).loc main_v1)
        = Cert.SogKernelIdeal.Value.total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

/-- The two printed programs are one text. -/
theorem same_text : Cert.SogKernelIdeal.Value.BitsRun = BitsRun := by sl_kernel_rfl

theorem bits_run : BitsRun := same_text ▸ Cert.SogKernelIdeal.Value.bits_run

variable (m : (ℓ : Loc nD τ sig) → Buf (Elt Bits) ℓ) (ρ : Dev nD → PrngReg)

theorem run : θ_run (defs (F := Bits)) (onTc (τ := τ) (main (F := Bits))) ⟨m, fun _ => 0, ρ⟩ fun r => ∀ c : Dev nD,
      r.2.mem ((c.tc : Thread nD τ).loc main_v1)
        = Cert.SogKernelIdeal.Value.total (F := Bits) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h => h.1) (bits_run m ρ)

end Cert.SogKernel.Value
-- ==== Proof.Sog.Reference.lean ====
/- The reference of a half's sum, read at coordinates. -/
module

public import proofs.«01_k».proof.Proof.Gen.SogReferenceIdeal.Read
public import proofs.«01_k».proof.Proof.Gen.SogReferenceIdeal.Run
public import proofs.«01_k».proof.Proof.Sog.Blocks

@[expose] public section

set_option maxRecDepth 16384

noncomputable section

namespace Cert.SogReferenceIdeal.Meaning

open Idealize.ShloMosaic Idealize.SL.Sem
open Cert.SogReferenceIdeal Cert.SogReferenceIdeal.Read

/-- The reference's result is the first half and what was received, added. -/
theorem total_eq {F : FTy → Type} [FloatOps F] (a : FVec F S2x512x256 .f32) (b : FVec F S512x256 .f32) :
    val_main_v3 (F := F) a b = Cert.SogKernelIdeal.Value.total a b := by
  funext j; rw [eq_ix2 j]
  have e : val_main_v1 (F := F) a (ix2 (j 0) (j 1)) = a (ix3 0 (j 0) (j 1)) := by
    rw [val_main_v1_apply, val_main_v0_apply]
    refine congrArg a (funext fun x => Fin.ext ?_)
    have h0 : (j 0).val < 512 := (j 0).isLt; have h1 : (j 1).val < 256 := (j 1).isLt
    fin_cases x
    · rfl
    · show ((j 0).val * 256 + (j 1).val) / 256 % 512 = (j 0).val; omega
    · show ((j 0).val * 256 + (j 1).val) % 256 = (j 1).val; omega
  rw [val_main_v3_apply, val_main_v2_apply, e]; rfl

end Cert.SogReferenceIdeal.Meaning
-- ==== Proof.Sog.Claims.lean ====
/- The claims about the sum of a core's half with the other core's: the frames, and the result against the reference's. -/
module

public import proofs.«01_k».proof.Defs
public import proofs.«01_k».proof.Proof.Sog.Reference
public import proofs.«01_k».proof.Proof.Gen.SogKernel
public import proofs.«01_k».proof.Proof.Gen.SogReference
public import Idealize.ShloMosaic.Lib.Claim

@[expose] public section

set_option maxRecDepth 16384

noncomputable section

namespace Cert.Proof.Sog

open Idealize.ShloMosaic Idealize.SL.Sem

theorem frame_kernel : Cert.quiescent_SogKernel := fun m ρ _ =>
  (θ_run (Cert.SogKernel.defs (F := Bits)) _ _).mono (fun r h => ⟨fun c => (h.1 c).2, h.2⟩) (Cert.SogKernel.Value.bits_run m ρ)
theorem frame_kernel_ideal : Cert.quiescent_SogKernelIdeal := fun m ρ _ => Cert.SogKernelIdeal.Gen.frame m ρ (Cert.SogKernelIdeal.Value.ok m)
theorem frame_reference : Cert.quiescent_SogReferenceIdeal := by
  intro m g _
  exact (θ_run Cert.SogReferenceIdeal.defs _ _).mono (fun r h => ⟨fun c => (h c).2, sem_eq_zero_of_no_sems (by decide) r.2⟩)
    (Cert.SogReferenceIdeal.Value.run m g)

/-- The reference's run on bit patterns, of its idealized text. -/
def RefBits : Prop := ∀ (m : (ℓ : Loc Cert.SogReferenceIdeal.nD Cert.SogReferenceIdeal.τ Cert.SogReferenceIdeal.sig) → Buf (Elt Bits) ℓ)
    (g : Dev Cert.SogReferenceIdeal.nD → PrngReg),
    θ_run (Cert.SogReferenceIdeal.defs (F := Bits)) (onTc (τ := Cert.SogReferenceIdeal.τ) (Cert.SogReferenceIdeal.main (F := Bits))) ⟨m, fun _ => 0, g⟩ fun r =>
      ∀ c : Dev Cert.SogReferenceIdeal.nD,
        r.2.mem ((c.tc : Thread Cert.SogReferenceIdeal.nD Cert.SogReferenceIdeal.τ).loc Cert.SogReferenceIdeal.main_v3)
          = Cert.SogReferenceIdeal.Read.val_main_v3 (F := Bits)
            (m ((c.tc : Thread Cert.SogReferenceIdeal.nD Cert.SogReferenceIdeal.τ).loc Cert.SogReferenceIdeal.main_arg0))
            (m ((c.tc : Thread Cert.SogReferenceIdeal.nD Cert.SogReferenceIdeal.τ).loc Cert.SogReferenceIdeal.main_arg1))
        ∧ r.2.mem ((c.tc : Thread Cert.SogReferenceIdeal.nD Cert.SogReferenceIdeal.τ).loc Cert.SogReferenceIdeal.main_arg0)
          = m ((c.tc : Thread Cert.SogReferenceIdeal.nD Cert.SogReferenceIdeal.τ).loc Cert.SogReferenceIdeal.main_arg0)
        ∧ r.2.mem ((c.tc : Thread Cert.SogReferenceIdeal.nD Cert.SogReferenceIdeal.τ).loc Cert.SogReferenceIdeal.main_arg1)
          = m ((c.tc : Thread Cert.SogReferenceIdeal.nD Cert.SogReferenceIdeal.τ).loc Cert.SogReferenceIdeal.main_arg1)

/-- The same of the reference's own text. -/
def RefRun : Prop := ∀ (m : (ℓ : Loc Cert.SogReference.nD Cert.SogReference.τ Cert.SogReference.sig) → Buf (Elt Bits) ℓ)
    (g : Dev Cert.SogReference.nD → PrngReg),
    θ_run (Cert.SogReference.defs (F := Bits)) (onTc (τ := Cert.SogReference.τ) (Cert.SogReference.main (F := Bits))) ⟨m, fun _ => 0, g⟩ fun r =>
      ∀ c : Dev Cert.SogReference.nD,
        r.2.mem ((c.tc : Thread Cert.SogReference.nD Cert.SogReference.τ).loc Cert.SogReference.main_v3)
          = Cert.SogReferenceIdeal.Read.val_main_v3 (F := Bits) (m ((c.tc : Thread Cert.SogReference.nD Cert.SogReference.τ).loc Cert.SogReference.main_arg0))
            (m ((c.tc : Thread Cert.SogReference.nD Cert.SogReference.τ).loc Cert.SogReference.main_arg1))
        ∧ r.2.mem ((c.tc : Thread Cert.SogReference.nD Cert.SogReference.τ).loc Cert.SogReference.main_arg0)
          = m ((c.tc : Thread Cert.SogReference.nD Cert.SogReference.τ).loc Cert.SogReference.main_arg0)
        ∧ r.2.mem ((c.tc : Thread Cert.SogReference.nD Cert.SogReference.τ).loc Cert.SogReference.main_arg1)
          = m ((c.tc : Thread Cert.SogReference.nD Cert.SogReference.τ).loc Cert.SogReference.main_arg1)

/-- The two printed references are one text. -/
theorem same_text : RefBits = RefRun := by sl_kernel_rfl

theorem ref_bits : RefBits := fun m g => Cert.SogReferenceIdeal.Value.run (F := Bits) m g

theorem run_reference_bits : RefRun := same_text ▸ ref_bits

theorem frame_reference_bits : Cert.quiescent_SogReference := by
  intro m g _
  exact (θ_run Cert.SogReference.defs _ _).mono (fun r h => ⟨fun c => (h c).2, sem_eq_zero_of_no_sems (by decide) r.2⟩) (run_reference_bits m g)

/-- In floats too the sum is the reference's, bit for bit. -/
theorem bitexact : Cert.bitexact_SogKernel_SogReference := by
  pair_intro
  · run_from Cert.SogKernel.Value.run m g
  · run_from run_reference_bits m' g'
    exact Cert.SogReferenceIdeal.Meaning.total_eq ..

/-- The sum is the reference's. -/
theorem algebraic : Cert.algebraic_SogKernelIdeal_SogReferenceIdeal := by
  pair_intro
  · run_from Cert.SogKernelIdeal.Value.run m g
  · run_from Cert.SogReferenceIdeal.Value.run m' g'
    exact (Cert.SogReferenceIdeal.Read.val_main_v3_eq ..).trans (Cert.SogReferenceIdeal.Meaning.total_eq ..)

end Cert.Proof.Sog
-- ==== Proof.Sco.Blocks.lean ====
/- The sum of a chip's part of a gradient with the three received: the result array after the run. -/
module

public import proofs.«01_k».proof.Proof.Gen.ScoKernel.Frame
public import proofs.«01_k».proof.Proof.Gen.ScoKernelIdeal.Frame
public import Idealize.ShloMosaic.Lib.Pipeline.ValueKit
public import Idealize.ShloMosaic.Lib.StableHlo.ReadAt

@[expose] public section

set_option maxRecDepth 16384

noncomputable section

namespace Cert.ScoKernel.Value

open Idealize.ShloMosaic Idealize.ShloMosaic.TcCoe Idealize.SL.Sem
open Cert.ScoKernel Cert.ScoKernel.Gen

/-- The word the host prefetches: the first half, or the first chip, of the two. -/
def zeros : pre0.Contents (Elt Bits) := fun
  | 0 => fun _ => (0#32 : BitVec 32)
  | ⟨_ + 1, h⟩ => absurd h (Nat.not_lt.2 (Nat.le_add_left _ _))

theorem tbl_eq (m : (ℓ : Loc nD τ sig) → Buf (Elt Bits) ℓ) : tbl m = zeros := by
  funext j
  match j with
  | ⟨0, _⟩ =>
    funext i
    unfold tbl
    show V m (0 : Dev nD) main_v0 i = _
    entry_read; rfl

theorem ok_zeros : ok0 (F := Bits) zeros := by decide +kernel

/-- Every block the index maps place at it is inside its array. -/
theorem ok (m : (ℓ : Loc nD τ sig) → Buf (Elt Bits) ℓ) : Ok m := by
  unfold Ok; rw [tbl_eq]; exact ok_zeros

end Cert.ScoKernel.Value

namespace Cert.ScoKernelIdeal.Value

open Idealize.ShloMosaic Idealize.ShloMosaic.TcCoe Idealize.SL.Sem
open Idealize.ShloMosaic.Pipeline (Dat)
open Cert.ScoKernelIdeal Cert.ScoKernelIdeal.Gen

/-- The word the host prefetches: the first half, or the first chip, of the two. -/
def zeros : pre0.Contents (Elt Ideal) := fun
  | 0 => fun _ => (0#32 : BitVec 32)
  | ⟨_ + 1, h⟩ => absurd h (Nat.not_lt.2 (Nat.le_add_left _ _))

theorem tbl_eq (m : (ℓ : Loc nD τ sig) → Buf (Elt Ideal) ℓ) : tbl m = zeros := by
  funext j
  match j with
  | ⟨0, _⟩ =>
    funext i
    unfold tbl
    show V m (0 : Dev nD) main_v0 i = _
    entry_read; rfl

theorem ok_zeros : ok0 (F := Ideal) zeros := by decide +kernel

/-- Every block the index maps place at it is inside its array. -/
theorem ok (m : (ℓ : Loc nD τ sig) → Buf (Elt Ideal) ℓ) : Ok m := by
  unfold Ok; rw [tbl_eq]; exact ok_zeros

variable (m : (ℓ : Loc nD τ sig) → Buf (Elt Ideal) ℓ)

theorem idx0 : ∀ t : Fin grid0.N, cc0_transform_0 (F := Ideal) inb_S1_S1_0 numel1_S1 zeros (grid0.coords t) = ![0, t.val, 0] := by
  decide +kernel

theorem idx (hO : Ok m) (t : Fin (cfgM m hO).N) : ((cfgM m hO).win 0).index t = ![0, t.val, 0] ∧ ((cfgM m hO).win 1).index t = ![0, t.val, 0]
    ∧ ((cfgM m hO).win 2).index t = ![t.val, 0] ∧ t.val < 1 := by
  refine ⟨?_, (by decide +kernel : ∀ t : Fin grid0.N, cc0_transform_1 (grid0.coords t) = ![0, t.val, 0]) t,
    (by decide +kernel : ∀ t : Fin grid0.N, cc0_transform_2 (grid0.coords t) = ![t.val, 0]) t, t.isLt⟩
  show cc0_transform_0 (F := Ideal) inb_S1_S1_0 numel1_S1 (tbl m) (grid0.coords t) = _
  rw [tbl_eq]; exact idx0 t

theorem covers (hO : Ok m) : ((cfgM m hO).win 2).Covers := by
  have e : ((cfg0 (F := Ideal) ⟨zeros, ok_zeros⟩).win 2).Covers := by decide +kernel
  exact e

abbrev A0 (c : Dev nD) : FVec Ideal S4x256x1024 .bf16 := m ((c.tc : Thread nD τ).loc main_arg0)
abbrev A1 (c : Dev nD) : FVec Ideal S3x256x1024 .bf16 := m ((c.tc : Thread nD τ).loc main_arg1)

/-- The result: the chip's own part and the three it received, added in pairs. -/
def total (a : FVec Ideal S4x256x1024 .bf16) (b : FVec Ideal S3x256x1024 .bf16) : FVec Ideal S256x1024 .f32 :=
  fun j => (a (ix3 0 (j 0) (j 1)) + b (ix3 0 (j 0) (j 1))) + (b (ix3 1 (j 0) (j 1)) + b (ix3 2 (j 0) (j 1)))

theorem own_at (hO : Ok m) (c : Dev nD) (t : Fin (cfgM m hO).N) (p : Fin 256) (q : Fin 1024) :
    (iblk m hO c 0 t : Vec Ideal S1x256x1024 .bf16) (ix3 0 p q) = A0 m c (ix3 0 p q) := by
  have := (idx m hO t).2.2.2
  blk_point [iblk, V, idx m hO t]

theorem other_at (hO : Ok m) (c : Dev nD) (t : Fin (cfgM m hO).N) (k : Fin 3) (p : Fin 256) (q : Fin 1024) :
    (iblk m hO c 1 t : Vec Ideal S3x256x1024 .bf16) (ix3 k p q) = A1 m c (ix3 k p q) := by
  have := (idx m hO t).2.2.2
  blk_point [iblk, V, idx m hO t]

/-- What a point leaves: its own block and the three received, added in pairs. -/
theorem out_at (c : Dev nD) (i : grid0.Coords) (arg2 : Memref sig .tc .vmem S1x256x1024 .bf16) (harg2 : arg2.IsWhole)
    (arg3 : Memref sig .tc .vmem S3x256x1024 .bf16) (harg3 : arg3.IsWhole) (arg4 : Memref sig .tc .vmem S256x1024 .f32) (harg4 : arg4.IsWhole)
    (x0 : Vec Ideal S1x256x1024 .bf16) (x1 : Vec Ideal S3x256x1024 .bf16) (xt0 : TbBuf0 (F := Ideal) c tbM0_0) (p : Fin 256) (q : Fin 1024) :
    out0_A_2 c i arg2 harg2 arg3 harg3 arg4 harg4 x0 x1 xt0 (ix2 p q)
      = (x0 (ix3 0 p q) + x1 (ix3 0 p q)) + (x1 (ix3 1 p q) + x1 (ix3 2 p q)) := by
  frame_out
  pointwise [k0_pay1]

/-- The result array after the run. -/
theorem final2 (hO : Ok m) (c : Dev nD) : (dats m hO 0 c).arrAt 2 (cfgM m hO).N = total (A0 m c) (A1 m c) := by
  refine (dats m hO 0 c).arrAt_eq_of_covers 2 _ (covers m hO) fun t hf y => ?_
  have key : ∀ (p : Fin 256) (q : Fin 1024), outsAt0 m hO c t (ix2 p q) = total (A0 m c) (A1 m c) (ix2 p q) := by
    intro p q
    have h0 := own_at m hO c t p q
    exact (out_at c _ _ _ _ _ _ _ _ _ _ p q).trans (congrArg₂ (· + ·) (congrArg₂ (· + ·) h0 (other_at m hO c t 0 p q))
      (congrArg₂ (· + ·) (other_at m hO c t 1 p q) (other_at m hO c t 2 p q)))
  obtain ⟨z, hz⟩ : ∃ z : S256x1024.Idx, z = y := ⟨y, rfl⟩
  have e : ∀ X : S256x1024.Idx → EReal, X ((((cfgM m hO).win 2).blk t).view.emb y) = X (ix2 (z 0) (z 1)) := fun X => by
    have := (idx m hO t).2.2.2
    subst hz
    blk_point [idx m hO t]
  have hy : outsAt0 m hO c t z = _ := (congrArg (outsAt0 m hO c t) (eq_ix2 z)).trans (key (z 0) (z 1))
  blk_simp
  rw [after0_2]
  subst hz
  exact hy.trans (e (total (A0 m c) (A1 m c))).symm

/-- The run: its result, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1) = total (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final2 m (ok m) c), h.2 c⟩)
    (θ_run_and (run_main m ρ (ok m)) (unchanged m ρ (ok m)))

end Cert.ScoKernelIdeal.Value
-- ==== Proof.Sco.Reference.lean ====
/- The reference of the sum over chips, read at coordinates. -/
module

public import proofs.«01_k».proof.Proof.Gen.ScoReferenceIdeal.Read
public import proofs.«01_k».proof.Proof.Gen.ScoReferenceIdeal.Run
public import proofs.«01_k».proof.Proof.Sco.Blocks

@[expose] public section

set_option maxRecDepth 16384

noncomputable section

namespace Cert.ScoReferenceIdeal.Meaning

open Idealize.ShloMosaic Idealize.SL.Sem
open Cert.ScoReferenceIdeal Cert.ScoReferenceIdeal.Read

/-- The reference's result is the chip's own part and the three received, added. -/
theorem total_eq (a : FVec Ideal S4x256x1024 .bf16) (b : FVec Ideal S3x256x1024 .bf16) :
    val_main_v5 (F := Ideal) a b = Cert.ScoKernelIdeal.Value.total a b := by
  funext j; rw [eq_ix2 j]
  have e : val_main_v1 (F := Ideal) a (ix2 (j 0) (j 1)) = a (ix3 0 (j 0) (j 1)) := by
    rw [val_main_v1_apply, val_main_v0_apply]
    refine congrArg a (funext fun x => Fin.ext ?_)
    have h0 : (j 0).val < 256 := (j 0).isLt; have h1 : (j 1).val < 1024 := (j 1).isLt
    fin_cases x
    · rfl
    · show ((j 0).val * 1024 + (j 1).val) / 1024 % 256 = (j 0).val; omega
    · show ((j 0).val * 1024 + (j 1).val) % 1024 = (j 1).val; omega
  have z : ∀ i, (val_main_cst (F := Ideal)) i = 0 := fun i => by pointwise [val_main_cst]
  have s : ∀ k : Fin 3, val_main_v3 (F := Ideal) b (idx_main_v4 (ix2 (j 0) (j 1)) k) = b (ix3 k (j 0) (j 1)) := fun k => by
    rw [val_main_v3_apply]
    refine congrArg b (funext fun x => Fin.ext ?_)
    fin_cases x <;> rfl
  have e2 : val_main_v2 (F := Ideal) a (ix2 (j 0) (j 1)) = a (ix3 0 (j 0) (j 1)) := e
  have e4 : val_main_v4 (F := Ideal) b (ix2 (j 0) (j 1)) = b (ix3 0 (j 0) (j 1)) + (b (ix3 1 (j 0) (j 1)) + b (ix3 2 (j 0) (j 1))) := by
    rw [val_main_v4_apply, z, zero_add, Fin.sum_univ_three, s, s, s, add_assoc]
  rw [val_main_v5_apply, e2, e4]
  exact (add_assoc (G := EReal) _ _ _).symm

end Cert.ScoReferenceIdeal.Meaning
-- ==== Proof.Sco.Claims.lean ====
/- The claims about the sum over chips: the frames, and the result against the reference's. -/
module

public import proofs.«01_k».proof.Defs
public import proofs.«01_k».proof.Proof.Sco.Reference
public import Idealize.ShloMosaic.Lib.Claim

@[expose] public section

set_option maxRecDepth 16384

noncomputable section

namespace Cert.Proof.Sco

open Idealize.ShloMosaic Idealize.SL.Sem

theorem frame_kernel : Cert.quiescent_ScoKernel := fun m ρ _ => Cert.ScoKernel.Gen.frame m ρ (Cert.ScoKernel.Value.ok m)
theorem frame_kernel_ideal : Cert.quiescent_ScoKernelIdeal := fun m ρ _ => Cert.ScoKernelIdeal.Gen.frame m ρ (Cert.ScoKernelIdeal.Value.ok m)
theorem frame_reference : Cert.quiescent_ScoReferenceIdeal := by
  intro m g _
  exact (θ_run Cert.ScoReferenceIdeal.defs _ _).mono (fun r h => ⟨fun c => (h c).2, sem_eq_zero_of_no_sems (by decide) r.2⟩)
    (Cert.ScoReferenceIdeal.Value.run m g)

/-- The sum is the reference's. -/
theorem algebraic : Cert.algebraic_ScoKernelIdeal_ScoReferenceIdeal := by
  pair_intro
  · run_from Cert.ScoKernelIdeal.Value.run m g
  · run_from Cert.ScoReferenceIdeal.Value.run m' g'
    exact (Cert.ScoReferenceIdeal.Read.val_main_v5_eq ..).trans (Cert.ScoReferenceIdeal.Meaning.total_eq ..)

end Cert.Proof.Sco
-- ==== Proof.Scg.Blocks.lean ====
/- The sum of a chip's part of a gradient with the three received: the result array after the run. -/
module

public import proofs.«01_k».proof.Proof.Gen.ScgKernel.Frame
public import proofs.«01_k».proof.Proof.Gen.ScgKernelIdeal.Frame
public import Idealize.ShloMosaic.Lib.Pipeline.ValueKit
public import Idealize.ShloMosaic.Lib.StableHlo.ReadAt

@[expose] public section

set_option maxRecDepth 16384

noncomputable section

namespace Cert.ScgKernel.Value

open Idealize.ShloMosaic Idealize.ShloMosaic.TcCoe Idealize.SL.Sem
open Cert.ScgKernel Cert.ScgKernel.Gen

/-- The word the host prefetches: the first half, or the first chip, of the two. -/
def zeros : pre0.Contents (Elt Bits) := fun
  | 0 => fun _ => (0#32 : BitVec 32)
  | ⟨_ + 1, h⟩ => absurd h (Nat.not_lt.2 (Nat.le_add_left _ _))

theorem tbl_eq (m : (ℓ : Loc nD τ sig) → Buf (Elt Bits) ℓ) : tbl m = zeros := by
  funext j
  match j with
  | ⟨0, _⟩ =>
    funext i
    unfold tbl
    show V m (0 : Dev nD) main_v0 i = _
    entry_read; rfl

theorem ok_zeros : ok0 (F := Bits) zeros := by decide +kernel

/-- Every block the index maps place at it is inside its array. -/
theorem ok (m : (ℓ : Loc nD τ sig) → Buf (Elt Bits) ℓ) : Ok m := by
  unfold Ok; rw [tbl_eq]; exact ok_zeros

end Cert.ScgKernel.Value

namespace Cert.ScgKernelIdeal.Value

open Idealize.ShloMosaic Idealize.ShloMosaic.TcCoe Idealize.SL.Sem
open Idealize.ShloMosaic.Pipeline (Dat)
open Cert.ScgKernelIdeal Cert.ScgKernelIdeal.Gen

/-- The word the host prefetches: the first half, or the first chip, of the two. -/
def zeros : pre0.Contents (Elt Ideal) := fun
  | 0 => fun _ => (0#32 : BitVec 32)
  | ⟨_ + 1, h⟩ => absurd h (Nat.not_lt.2 (Nat.le_add_left _ _))

theorem tbl_eq (m : (ℓ : Loc nD τ sig) → Buf (Elt Ideal) ℓ) : tbl m = zeros := by
  funext j
  match j with
  | ⟨0, _⟩ =>
    funext i
    unfold tbl
    show V m (0 : Dev nD) main_v0 i = _
    entry_read; rfl

theorem ok_zeros : ok0 (F := Ideal) zeros := by decide +kernel

/-- Every block the index maps place at it is inside its array. -/
theorem ok (m : (ℓ : Loc nD τ sig) → Buf (Elt Ideal) ℓ) : Ok m := by
  unfold Ok; rw [tbl_eq]; exact ok_zeros

variable (m : (ℓ : Loc nD τ sig) → Buf (Elt Ideal) ℓ)

theorem idx0 : ∀ t : Fin grid0.N, cc0_transform_0 (F := Ideal) inb_S1_S1_0 numel1_S1 zeros (grid0.coords t) = ![0, t.val, 0] := by
  decide +kernel

theorem idx (hO : Ok m) (t : Fin (cfgM m hO).N) : ((cfgM m hO).win 0).index t = ![0, t.val, 0] ∧ ((cfgM m hO).win 1).index t = ![0, t.val, 0]
    ∧ ((cfgM m hO).win 2).index t = ![t.val, 0] ∧ t.val < 1 := by
  refine ⟨?_, (by decide +kernel : ∀ t : Fin grid0.N, cc0_transform_1 (grid0.coords t) = ![0, t.val, 0]) t,
    (by decide +kernel : ∀ t : Fin grid0.N, cc0_transform_2 (grid0.coords t) = ![t.val, 0]) t, t.isLt⟩
  show cc0_transform_0 (F := Ideal) inb_S1_S1_0 numel1_S1 (tbl m) (grid0.coords t) = _
  rw [tbl_eq]; exact idx0 t

theorem covers (hO : Ok m) : ((cfgM m hO).win 2).Covers := by
  have e : ((cfg0 (F := Ideal) ⟨zeros, ok_zeros⟩).win 2).Covers := by decide +kernel
  exact e

abbrev A0 (c : Dev nD) : FVec Ideal S4x128x256 .bf16 := m ((c.tc : Thread nD τ).loc main_arg0)
abbrev A1 (c : Dev nD) : FVec Ideal S3x128x256 .bf16 := m ((c.tc : Thread nD τ).loc main_arg1)

/-- The result: the chip's own part and the three it received, added in pairs. -/
def total (a : FVec Ideal S4x128x256 .bf16) (b : FVec Ideal S3x128x256 .bf16) : FVec Ideal S128x256 .f32 :=
  fun j => (a (ix3 0 (j 0) (j 1)) + b (ix3 0 (j 0) (j 1))) + (b (ix3 1 (j 0) (j 1)) + b (ix3 2 (j 0) (j 1)))

theorem own_at (hO : Ok m) (c : Dev nD) (t : Fin (cfgM m hO).N) (p : Fin 128) (q : Fin 256) :
    (iblk m hO c 0 t : Vec Ideal S1x128x256 .bf16) (ix3 0 p q) = A0 m c (ix3 0 p q) := by
  have := (idx m hO t).2.2.2
  blk_point [iblk, V, idx m hO t]

theorem other_at (hO : Ok m) (c : Dev nD) (t : Fin (cfgM m hO).N) (k : Fin 3) (p : Fin 128) (q : Fin 256) :
    (iblk m hO c 1 t : Vec Ideal S3x128x256 .bf16) (ix3 k p q) = A1 m c (ix3 k p q) := by
  have := (idx m hO t).2.2.2
  blk_point [iblk, V, idx m hO t]

/-- What a point leaves: its own block and the three received, added in pairs. -/
theorem out_at (c : Dev nD) (i : grid0.Coords) (arg2 : Memref sig .tc .vmem S1x128x256 .bf16) (harg2 : arg2.IsWhole)
    (arg3 : Memref sig .tc .vmem S3x128x256 .bf16) (harg3 : arg3.IsWhole) (arg4 : Memref sig .tc .vmem S128x256 .f32) (harg4 : arg4.IsWhole)
    (x0 : Vec Ideal S1x128x256 .bf16) (x1 : Vec Ideal S3x128x256 .bf16) (xt0 : TbBuf0 (F := Ideal) c tbM0_0) (p : Fin 128) (q : Fin 256) :
    out0_A_2 c i arg2 harg2 arg3 harg3 arg4 harg4 x0 x1 xt0 (ix2 p q)
      = (x0 (ix3 0 p q) + x1 (ix3 0 p q)) + (x1 (ix3 1 p q) + x1 (ix3 2 p q)) := by
  frame_out
  pointwise [k0_pay1]

/-- The result array after the run. -/
theorem final2 (hO : Ok m) (c : Dev nD) : (dats m hO 0 c).arrAt 2 (cfgM m hO).N = total (A0 m c) (A1 m c) := by
  refine (dats m hO 0 c).arrAt_eq_of_covers 2 _ (covers m hO) fun t hf y => ?_
  have key : ∀ (p : Fin 128) (q : Fin 256), outsAt0 m hO c t (ix2 p q) = total (A0 m c) (A1 m c) (ix2 p q) := by
    intro p q
    have h0 := own_at m hO c t p q
    exact (out_at c _ _ _ _ _ _ _ _ _ _ p q).trans (congrArg₂ (· + ·) (congrArg₂ (· + ·) h0 (other_at m hO c t 0 p q))
      (congrArg₂ (· + ·) (other_at m hO c t 1 p q) (other_at m hO c t 2 p q)))
  obtain ⟨z, hz⟩ : ∃ z : S128x256.Idx, z = y := ⟨y, rfl⟩
  have e : ∀ X : S128x256.Idx → EReal, X ((((cfgM m hO).win 2).blk t).view.emb y) = X (ix2 (z 0) (z 1)) := fun X => by
    have := (idx m hO t).2.2.2
    subst hz
    blk_point [idx m hO t]
  have hy : outsAt0 m hO c t z = _ := (congrArg (outsAt0 m hO c t) (eq_ix2 z)).trans (key (z 0) (z 1))
  blk_simp
  rw [after0_2]
  subst hz
  exact hy.trans (e (total (A0 m c) (A1 m c))).symm

/-- The run: its result, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1) = total (A0 m c) (A1 m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h.1 c).1 2).trans (final2 m (ok m) c), h.2 c⟩)
    (θ_run_and (run_main m ρ (ok m)) (unchanged m ρ (ok m)))

end Cert.ScgKernelIdeal.Value
-- ==== Proof.Scg.Reference.lean ====
/- The reference of the sum over chips, read at coordinates. -/
module

public import proofs.«01_k».proof.Proof.Gen.ScgReferenceIdeal.Read
public import proofs.«01_k».proof.Proof.Gen.ScgReferenceIdeal.Run
public import proofs.«01_k».proof.Proof.Scg.Blocks

@[expose] public section

set_option maxRecDepth 16384

noncomputable section

namespace Cert.ScgReferenceIdeal.Meaning

open Idealize.ShloMosaic Idealize.SL.Sem
open Cert.ScgReferenceIdeal Cert.ScgReferenceIdeal.Read

/-- The reference's result is the chip's own part and the three received, added. -/
theorem total_eq (a : FVec Ideal S4x128x256 .bf16) (b : FVec Ideal S3x128x256 .bf16) :
    val_main_v5 (F := Ideal) a b = Cert.ScgKernelIdeal.Value.total a b := by
  funext j; rw [eq_ix2 j]
  have e : val_main_v1 (F := Ideal) a (ix2 (j 0) (j 1)) = a (ix3 0 (j 0) (j 1)) := by
    rw [val_main_v1_apply, val_main_v0_apply]
    refine congrArg a (funext fun x => Fin.ext ?_)
    have h0 : (j 0).val < 128 := (j 0).isLt; have h1 : (j 1).val < 256 := (j 1).isLt
    fin_cases x
    · rfl
    · show ((j 0).val * 256 + (j 1).val) / 256 % 128 = (j 0).val; omega
    · show ((j 0).val * 256 + (j 1).val) % 256 = (j 1).val; omega
  have z : ∀ i, (val_main_cst (F := Ideal)) i = 0 := fun i => by pointwise [val_main_cst]
  have s : ∀ k : Fin 3, val_main_v3 (F := Ideal) b (idx_main_v4 (ix2 (j 0) (j 1)) k) = b (ix3 k (j 0) (j 1)) := fun k => by
    rw [val_main_v3_apply]
    refine congrArg b (funext fun x => Fin.ext ?_)
    fin_cases x <;> rfl
  have e2 : val_main_v2 (F := Ideal) a (ix2 (j 0) (j 1)) = a (ix3 0 (j 0) (j 1)) := e
  have e4 : val_main_v4 (F := Ideal) b (ix2 (j 0) (j 1)) = b (ix3 0 (j 0) (j 1)) + (b (ix3 1 (j 0) (j 1)) + b (ix3 2 (j 0) (j 1))) := by
    rw [val_main_v4_apply, z, zero_add, Fin.sum_univ_three, s, s, s, add_assoc]
  rw [val_main_v5_apply, e2, e4]
  exact (add_assoc (G := EReal) _ _ _).symm

end Cert.ScgReferenceIdeal.Meaning
-- ==== Proof.Scg.Claims.lean ====
/- The claims about the sum over chips: the frames, and the result against the reference's. -/
module

public import proofs.«01_k».proof.Defs
public import proofs.«01_k».proof.Proof.Scg.Reference
public import Idealize.ShloMosaic.Lib.Claim

@[expose] public section

set_option maxRecDepth 16384

noncomputable section

namespace Cert.Proof.Scg

open Idealize.ShloMosaic Idealize.SL.Sem

theorem frame_kernel : Cert.quiescent_ScgKernel := fun m ρ _ => Cert.ScgKernel.Gen.frame m ρ (Cert.ScgKernel.Value.ok m)
theorem frame_kernel_ideal : Cert.quiescent_ScgKernelIdeal := fun m ρ _ => Cert.ScgKernelIdeal.Gen.frame m ρ (Cert.ScgKernelIdeal.Value.ok m)
theorem frame_reference : Cert.quiescent_ScgReferenceIdeal := by
  intro m g _
  exact (θ_run Cert.ScgReferenceIdeal.defs _ _).mono (fun r h => ⟨fun c => (h c).2, sem_eq_zero_of_no_sems (by decide) r.2⟩)
    (Cert.ScgReferenceIdeal.Value.run m g)

/-- The sum is the reference's. -/
theorem algebraic : Cert.algebraic_ScgKernelIdeal_ScgReferenceIdeal := by
  pair_intro
  · run_from Cert.ScgKernelIdeal.Value.run m g
  · run_from Cert.ScgReferenceIdeal.Value.run m' g'
    exact (Cert.ScgReferenceIdeal.Read.val_main_v5_eq ..).trans (Cert.ScgReferenceIdeal.Meaning.total_eq ..)

end Cert.Proof.Scg
-- ==== Proof.Ado.Blocks.lean ====
/- The optimiser's step of the output projection: its four result arrays after the run. -/
module

public import proofs.«01_k».proof.Proof.Gen.AdoKernel.Frame
public import proofs.«01_k».proof.Proof.Gen.AdoKernelIdeal.Frame
public import Idealize.ShloMosaic.Lib.Pipeline.ValueKit
public import Idealize.ShloMosaic.Lib.StableHlo.ReadAt
public import Mathlib.Tactic.IntervalCases

@[expose] public section

set_option maxRecDepth 16384

noncomputable section

namespace Cert.AdoKernel.Value

open Idealize.ShloMosaic Idealize.ShloMosaic.TcCoe Idealize.SL.Sem
open Cert.AdoKernel Cert.AdoKernel.Gen

/-- The word the host prefetches: the first half, or the first chip, of the two. -/
def zeros : pre0.Contents (Elt Bits) := fun
  | 0 => fun _ => (0#32 : BitVec 32)
  | ⟨_ + 1, h⟩ => absurd h (Nat.not_lt.2 (Nat.le_add_left _ _))

theorem tbl_eq (m : (ℓ : Loc nD τ sig) → Buf (Elt Bits) ℓ) : tbl m = zeros := by
  funext j
  match j with
  | ⟨0, _⟩ =>
    funext i
    unfold tbl
    show V m (0 : Dev nD) main_v0 i = _
    entry_read; rfl

theorem ok_zeros : ok0 (F := Bits) zeros := by trivial

/-- Every block the index maps place at it is inside its array. -/
theorem ok (m : (ℓ : Loc nD τ sig) → Buf (Elt Bits) ℓ) : Ok m := by
  unfold Ok; rw [tbl_eq]; exact ok_zeros

end Cert.AdoKernel.Value

namespace Cert.AdoKernelIdeal.Value

open Idealize.ShloMosaic Idealize.ShloMosaic.TcCoe Idealize.SL.Sem
open Idealize.ShloMosaic.Pipeline (Dat)
open Cert.AdoKernelIdeal Cert.AdoKernelIdeal.Gen

/-- The word the host prefetches: the first half, or the first chip, of the two. -/
def zeros : pre0.Contents (Elt Ideal) := fun
  | 0 => fun _ => (0#32 : BitVec 32)
  | ⟨_ + 1, h⟩ => absurd h (Nat.not_lt.2 (Nat.le_add_left _ _))

theorem tbl_eq (m : (ℓ : Loc nD τ sig) → Buf (Elt Ideal) ℓ) : tbl m = zeros := by
  funext j
  match j with
  | ⟨0, _⟩ =>
    funext i
    unfold tbl
    show V m (0 : Dev nD) main_v0 i = _
    entry_read; rfl

theorem ok_zeros : ok0 (F := Ideal) zeros := by trivial

/-- Every block the index maps place at it is inside its array. -/
theorem ok (m : (ℓ : Loc nD τ sig) → Buf (Elt Ideal) ℓ) : Ok m := by
  unfold Ok; rw [tbl_eq]; exact ok_zeros

variable (m : (ℓ : Loc nD τ sig) → Buf (Elt Ideal) ℓ)

theorem idx (hO : Ok m) (t : Fin (cfgM m hO).N) : ((cfgM m hO).win 0).index t = ![0, 0] ∧ ((cfgM m hO).win 1).index t = ![0, 0]
    ∧ ((cfgM m hO).win 2).index t = ![t.val, 0]
    ∧ ((cfgM m hO).win 3).index t = ![t.val, 0]
    ∧ ((cfgM m hO).win 4).index t = ![t.val, 0]
    ∧ ((cfgM m hO).win 5).index t = ![t.val, 0]
    ∧ ((cfgM m hO).win 6).index t = ![t.val, 0]
    ∧ ((cfgM m hO).win 7).index t = ![t.val, 0]
    ∧ ((cfgM m hO).win 8).index t = ![t.val, 0]
    ∧ (grid0.coords t 0).val = t.val ∧ t.val < 2 :=
  ⟨(by decide +kernel : ∀ t : Fin grid0.N, cc0_transform_0 (grid0.coords t) = ![0, 0]) t,
    (by decide +kernel : ∀ t : Fin grid0.N, cc0_transform_1 (grid0.coords t) = ![0, 0]) t,
    (by decide +kernel : ∀ t : Fin grid0.N, cc0_transform_2 (grid0.coords t) = ![t.val, 0]) t,
    (by decide +kernel : ∀ t : Fin grid0.N, cc0_transform_3 (grid0.coords t) = ![t.val, 0]) t,
    (by decide +kernel : ∀ t : Fin grid0.N, cc0_transform_4 (grid0.coords t) = ![t.val, 0]) t,
    (by decide +kernel : ∀ t : Fin grid0.N, cc0_transform_5 (grid0.coords t) = ![t.val, 0]) t,
    (by decide +kernel : ∀ t : Fin grid0.N, cc0_transform_6 (grid0.coords t) = ![t.val, 0]) t,
    (by decide +kernel : ∀ t : Fin grid0.N, cc0_transform_7 (grid0.coords t) = ![t.val, 0]) t,
    (by decide +kernel : ∀ t : Fin grid0.N, cc0_transform_8 (grid0.coords t) = ![t.val, 0]) t,
    (by decide +kernel : ∀ t : Fin grid0.N, (grid0.coords t 0).val = t.val) t, t.isLt⟩

theorem lt (hO : Ok m) (t : Fin (cfgM m hO).N) : t.val < 2 := t.isLt

/-- A number the optimiser multiplies or divides by. -/
abbrev lit (b : BitVec 32) : EReal := FloatOps.ofBits (F := Ideal) .f32 b

/-- The first moment after the step. -/
def mean (g a : EReal) : EReal := lit 0x3F666666#32 * a + lit 0x3DCCCCCD#32 * g
/-- The second moment after the step. -/
def var (g b : EReal) : EReal := lit 0x3F7FBE77#32 * b + lit 0x3A83126F#32 * (g * g)
/-- The change of the weight. -/
def delta (g w a b : EReal) : EReal :=
  lit 0xBA83126F#32 * (Ideal.div (Ideal.div (mean g a) (lit 0x3F26BD02#32)) (Ideal.sqrt (Ideal.div (var g b) (lit 0x3C231ACC#32)) + lit 0x322BCC77#32)
    + lit 0x3C23D70A#32 * w)

section

variable (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole)
  (x0 x1 : Vec Ideal S256x1024 .f32) (x2 x3 x4 : Vec Ideal S256x1024 .f32) (xt0 : TbBuf0 (F := Ideal) c tbM0_0)

theorem out5_at (hx : xt0 = fun _ => (0#32 : BitVec 32)) (p : Fin 256) (q : Fin 1024) : out0_A_5 c i arg3 harg3 arg4 harg4 arg5 harg5 arg6 harg6 arg7 harg7 arg8 harg8 arg9 harg9 arg10 harg10 arg11 harg11 x0 x1 x2 x3 x4 xt0 (ix2 p q)
    = if (i 0).val = 0 then x0 (ix2 p q) else x1 (ix2 p q) := by
  frame_out
  pointwise [k0_pay1]
  subst hx
  have h : (i 0).val < 2 := (i 0).isLt
  show Scalar.select (Scalar.cmpi .eq (BitVec.ofNat 32 (i 0).val) (0#32 : BitVec 32)) _ _ = _
  generalize (i 0).val = k at h ⊢
  interval_cases k <;> rfl

theorem out7_at (p : Fin 256) (q : Fin 1024) : out0_A_7 c i arg3 harg3 arg4 harg4 arg5 harg5 arg6 harg6 arg7 harg7 arg8 harg8 arg9 harg9 arg10 harg10 arg11 harg11 x0 x1 x2 x3 x4 xt0 (ix2 p q)
    = mean (out0_A_5 c i arg3 harg3 arg4 harg4 arg5 harg5 arg6 harg6 arg7 harg7 arg8 harg8 arg9 harg9 arg10 harg10 arg11 harg11 x0 x1 x2 x3 x4 xt0 (ix2 p q)) (x3 (ix2 p q)) := by
  frame_out
  pointwise [k0_pay2]
  rfl

theorem out8_at (p : Fin 256) (q : Fin 1024) : out0_A_8 c i arg3 harg3 arg4 harg4 arg5 harg5 arg6 harg6 arg7 harg7 arg8 harg8 arg9 harg9 arg10 harg10 arg11 harg11 x0 x1 x2 x3 x4 xt0 (ix2 p q)
    = var (out0_A_5 c i arg3 harg3 arg4 harg4 arg5 harg5 arg6 harg6 arg7 harg7 arg8 harg8 arg9 harg9 arg10 harg10 arg11 harg11 x0 x1 x2 x3 x4 xt0 (ix2 p q)) (x4 (ix2 p q)) := by
  frame_out
  pointwise [k0_pay3]
  rfl

theorem out6_at (p : Fin 256) (q : Fin 1024) : out0_A_6 c i arg3 harg3 arg4 harg4 arg5 harg5 arg6 harg6 arg7 harg7 arg8 harg8 arg9 harg9 arg10 harg10 arg11 harg11 x0 x1 x2 x3 x4 xt0 (ix2 p q)
    = delta (out0_A_5 c i arg3 harg3 arg4 harg4 arg5 harg5 arg6 harg6 arg7 harg7 arg8 harg8 arg9 harg9 arg10 harg10 arg11 harg11 x0 x1 x2 x3 x4 xt0 (ix2 p q)) (x2 (ix2 p q)) (x3 (ix2 p q)) (x4 (ix2 p q)) := by
  frame_out
  pointwise [k0_pay4, k0_pay3, k0_pay2, k0_pay1]
  rfl

end

abbrev A0 (c : Dev nD) : FVec Ideal S256x1024 .f32 := m ((c.tc : Thread nD τ).loc main_arg0)
abbrev A1 (c : Dev nD) : FVec Ideal S256x1024 .f32 := m ((c.tc : Thread nD τ).loc main_arg1)
abbrev A2 (c : Dev nD) : FVec Ideal S512x1024 .f32 := m ((c.tc : Thread nD τ).loc main_arg2)
abbrev A3 (c : Dev nD) : FVec Ideal S512x1024 .f32 := m ((c.tc : Thread nD τ).loc main_arg3)
abbrev A4 (c : Dev nD) : FVec Ideal S512x1024 .f32 := m ((c.tc : Thread nD τ).loc main_arg4)

/-- The gradient: the upper 256 rows from the one half, the others from the other. -/
def grad (a b : FVec Ideal S256x1024 .f32) : FVec Ideal S512x1024 .f32 := fun j =>
  have h0 : (j 0).val < 512 := (j 0).isLt
  if (j 0).val < 256 then a (ix2 ⟨(j 0).val % 256, by omega⟩ (j 1))
  else b (ix2 ⟨(j 0).val % 256, by omega⟩ (j 1))

/-- Where element `(p, q)` of a point's block stands in an array of 512 by 1024. -/
abbrev spot (hO : Ok m) (t : Fin (cfgM m hO).N) (p : Fin 256) (q : Fin 1024) : S512x1024.Idx :=
  ix2 ⟨t.val * 256 + p.val, by have := lt m hO t; omega⟩ q

theorem own_at (hO : Ok m) (c : Dev nD) (t : Fin (cfgM m hO).N) (p : Fin 256) (q : Fin 1024) :
    (iblk m hO c 0 t : Vec Ideal S256x1024 .f32) (ix2 p q) = A0 m c (ix2 p q) := by
  blk_point [iblk, V, idx m hO t]

theorem other_at (hO : Ok m) (c : Dev nD) (t : Fin (cfgM m hO).N) (p : Fin 256) (q : Fin 1024) :
    (iblk m hO c 1 t : Vec Ideal S256x1024 .f32) (ix2 p q) = A1 m c (ix2 p q) := by
  blk_point [iblk, V, idx m hO t]

theorem weight_at (hO : Ok m) (c : Dev nD) (t : Fin (cfgM m hO).N) (p : Fin 256) (q : Fin 1024) :
    (iblk m hO c 2 t : Vec Ideal S256x1024 .f32) (ix2 p q) = A2 m c (spot m hO t p q) := by
  blk_point [iblk, V, idx m hO t] <;> rfl

theorem mean_at (hO : Ok m) (c : Dev nD) (t : Fin (cfgM m hO).N) (p : Fin 256) (q : Fin 1024) :
    (iblk m hO c 3 t : Vec Ideal S256x1024 .f32) (ix2 p q) = A3 m c (spot m hO t p q) := by
  blk_point [iblk, V, idx m hO t] <;> rfl

theorem var_at (hO : Ok m) (c : Dev nD) (t : Fin (cfgM m hO).N) (p : Fin 256) (q : Fin 1024) :
    (iblk m hO c 4 t : Vec Ideal S256x1024 .f32) (ix2 p q) = A4 m c (spot m hO t p q) := by
  blk_point [iblk, V, idx m hO t] <;> rfl

theorem word_zero : (tbl m 0 : TbBuf0 (F := Ideal) (0 : Dev nD) tbM0_0) = fun _ => (0#32 : BitVec 32) := by
  rw [tbl_eq]; rfl

/-- The four blocks a point writes. -/
theorem outs (hO : Ok m) (c : Dev nD) (t : Fin (cfgM m hO).N) : outsAt0 m hO c t
    = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)) := rfl

theorem fst_of {α β : Type} {x : α × β} {a : α} {b : β} (h : x = (a, b)) : x.1 = a := by rw [h]
theorem snd_of {α β : Type} {x : α × β} {a : α} {b : β} (h : x = (a, b)) : x.2 = b := by rw [h]

/-- What a point writes of the gradient. -/
theorem grad_at (hO : Ok m) (c : Dev nD) (t : Fin (cfgM m hO).N) (p : Fin 256) (q : Fin 1024) :
    (outsAt0 m hO c t).1 (ix2 p q) = grad (A0 m c) (A1 m c) (spot m hO t p q) := by
  have ht := lt m hO t
  have hp := p.isLt; have hq := q.isLt
  have h0 := own_at m hO c t p q
  have h1 := other_at m hO c t p q
  have hc : (grid0.coords t 0).val = t.val := (idx m hO t).2.2.2.2.2.2.2.2.2.1
  refine (congrFun (fst_of (outs m hO c t)) (ix2 p q)).trans ?_
  refine (out5_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (word_zero m) p q).trans ?_
  have f : ∀ X : FVec Ideal S256x1024 .f32, X (ix2 p q) = X (ix2 ⟨(t.val * 256 + p.val) % 256, by omega⟩ q) := fun X =>
    congrArg X (by
      funext x; apply Fin.ext
      fin_cases x
      · show p.val = (t.val * 256 + p.val) % 256; omega
      · rfl)
  show _ = if t.val * 256 + p.val < 256 then _ else _
  by_cases hk : t.val = 0
  · exact (if_pos (hc.trans hk)).trans ((h0.trans (f _)).trans (if_pos (show t.val * 256 + p.val < 256 by omega)).symm)
  · exact (if_neg (fun e => hk (hc.symm.trans e))).trans ((h1.trans (f _)).trans (if_neg (show ¬ t.val * 256 + p.val < 256 by omega)).symm)

/-- What a point writes of the first moment, the second and the weight's change. -/
theorem others_at (hO : Ok m) (c : Dev nD) (t : Fin (cfgM m hO).N) (p : Fin 256) (q : Fin 1024) :
    (outsAt0 m hO c t).2.1 (ix2 p q) = delta (grad (A0 m c) (A1 m c) (spot m hO t p q)) (A2 m c (spot m hO t p q)) (A3 m c (spot m hO t p q)) (A4 m c (spot m hO t p q))
    ∧ (outsAt0 m hO c t).2.2.1 (ix2 p q) = mean (grad (A0 m c) (A1 m c) (spot m hO t p q)) (A3 m c (spot m hO t p q))
    ∧ (outsAt0 m hO c t).2.2.2 (ix2 p q) = var (grad (A0 m c) (A1 m c) (spot m hO t p q)) (A4 m c (spot m hO t p q)) := by
  have hg := grad_at m hO c t p q
  replace hg := (congrFun (fst_of (outs m hO c t)) (ix2 p q)).symm.trans hg
  have h2 := weight_at m hO c t p q
  have h3 := mean_at m hO c t p q
  have h4 := var_at m hO c t p q
  have d : ∀ {g g' w w' a a' b b' : EReal}, g = g' → w = w' → a = a' → b = b' → delta g w a b = delta g' w' a' b' := by
    rintro _ _ _ _ _ _ _ _ rfl rfl rfl rfl; rfl
  exact ⟨(congrFun (fst_of (snd_of (outs m hO c t))) (ix2 p q)).trans <| (out6_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (d hg h2 h3 h4),
    (congrFun (fst_of (snd_of (snd_of (outs m hO c t)))) (ix2 p q)).trans <| (out7_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (congrArg₂ mean hg h3),
    (congrFun (snd_of (snd_of (snd_of (outs m hO c t)))) (ix2 p q)).trans <| (out8_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (congrArg₂ var hg h4)⟩

/-- The gradient after the run. -/
theorem final5 (hO : Ok m) (c : Dev nD) : (dats m hO 0 c).arrAt 5 (cfgM m hO).N = (grad (A0 m c) (A1 m c) : FVec Ideal S512x1024 .f32) := by
  have cov : ((cfgM m hO).win 5).Covers := by
    have e : ((cfg0 (F := Ideal) ⟨zeros, ok_zeros⟩).win 5).Covers := by decide +kernel
    exact e
  refine (dats m hO 0 c).arrAt_eq_of_covers 5 _ cov fun t hf y => ?_
  obtain ⟨z, hz⟩ : ∃ z : S256x1024.Idx, z = y := ⟨y, rfl⟩
  have e : ∀ X : S512x1024.Idx → EReal, X ((((cfgM m hO).win 5).blk t).view.emb y) = X (spot m hO t (z 0) (z 1)) := fun X => by
    subst hz
    blk_point [idx m hO t] <;> rfl
  have hy : (outsAt0 m hO c t).1 z = _ := (congrArg (outsAt0 m hO c t).1 (eq_ix2 z)).trans (grad_at m hO c t (z 0) (z 1))
  blk_simp
  rw [after0_5]
  subst hz
  exact hy.trans (e (grad (A0 m c) (A1 m c))).symm

/-- The weight's change after the run. -/
theorem final6 (hO : Ok m) (c : Dev nD) : (dats m hO 0 c).arrAt 6 (cfgM m hO).N = (fun j => delta (grad (A0 m c) (A1 m c) j) (A2 m c j) (A3 m c j) (A4 m c j) : FVec Ideal S512x1024 .f32) := by
  have cov : ((cfgM m hO).win 6).Covers := by
    have e : ((cfg0 (F := Ideal) ⟨zeros, ok_zeros⟩).win 6).Covers := by decide +kernel
    exact e
  refine (dats m hO 0 c).arrAt_eq_of_covers 6 _ cov fun t hf y => ?_
  obtain ⟨z, hz⟩ : ∃ z : S256x1024.Idx, z = y := ⟨y, rfl⟩
  have e : ∀ X : S512x1024.Idx → EReal, X ((((cfgM m hO).win 6).blk t).view.emb y) = X (spot m hO t (z 0) (z 1)) := fun X => by
    subst hz
    blk_point [idx m hO t] <;> rfl
  have hy : (outsAt0 m hO c t).2.1 z = _ := (congrArg (outsAt0 m hO c t).2.1 (eq_ix2 z)).trans ((others_at m hO c t (z 0) (z 1)).1)
  blk_simp
  rw [after0_6]
  subst hz
  exact hy.trans (e (fun j => delta (grad (A0 m c) (A1 m c) j) (A2 m c j) (A3 m c j) (A4 m c j))).symm

/-- The first moment after the run. -/
theorem final7 (hO : Ok m) (c : Dev nD) : (dats m hO 0 c).arrAt 7 (cfgM m hO).N = (fun j => mean (grad (A0 m c) (A1 m c) j) (A3 m c j) : FVec Ideal S512x1024 .f32) := by
  have cov : ((cfgM m hO).win 7).Covers := by
    have e : ((cfg0 (F := Ideal) ⟨zeros, ok_zeros⟩).win 7).Covers := by decide +kernel
    exact e
  refine (dats m hO 0 c).arrAt_eq_of_covers 7 _ cov fun t hf y => ?_
  obtain ⟨z, hz⟩ : ∃ z : S256x1024.Idx, z = y := ⟨y, rfl⟩
  have e : ∀ X : S512x1024.Idx → EReal, X ((((cfgM m hO).win 7).blk t).view.emb y) = X (spot m hO t (z 0) (z 1)) := fun X => by
    subst hz
    blk_point [idx m hO t] <;> rfl
  have hy : (outsAt0 m hO c t).2.2.1 z = _ := (congrArg (outsAt0 m hO c t).2.2.1 (eq_ix2 z)).trans ((others_at m hO c t (z 0) (z 1)).2.1)
  blk_simp
  rw [after0_7]
  subst hz
  exact hy.trans (e (fun j => mean (grad (A0 m c) (A1 m c) j) (A3 m c j))).symm

/-- The second moment after the run. -/
theorem final8 (hO : Ok m) (c : Dev nD) : (dats m hO 0 c).arrAt 8 (cfgM m hO).N = (fun j => var (grad (A0 m c) (A1 m c) j) (A4 m c j) : FVec Ideal S512x1024 .f32) := by
  have cov : ((cfgM m hO).win 8).Covers := by
    have e : ((cfg0 (F := Ideal) ⟨zeros, ok_zeros⟩).win 8).Covers := by decide +kernel
    exact e
  refine (dats m hO 0 c).arrAt_eq_of_covers 8 _ cov fun t hf y => ?_
  obtain ⟨z, hz⟩ : ∃ z : S256x1024.Idx, z = y := ⟨y, rfl⟩
  have e : ∀ X : S512x1024.Idx → EReal, X ((((cfgM m hO).win 8).blk t).view.emb y) = X (spot m hO t (z 0) (z 1)) := fun X => by
    subst hz
    blk_point [idx m hO t] <;> rfl
  have hy : (outsAt0 m hO c t).2.2.2 z = _ := (congrArg (outsAt0 m hO c t).2.2.2 (eq_ix2 z)).trans ((others_at m hO c t (z 0) (z 1)).2.2)
  blk_simp
  rw [after0_8]
  subst hz
  exact hy.trans (e (fun j => var (grad (A0 m c) (A1 m c) j) (A4 m c j))).symm

/-- The run: its results, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1_0) = grad (A0 m c) (A1 m c)
      ∧ r.2.mem ((c.tc : Thread nD τ).loc main_v1_1) = (fun j => delta (grad (A0 m c) (A1 m c) j) (A2 m c j) (A3 m c j) (A4 m c j) : FVec Ideal S512x1024 .f32)
      ∧ r.2.mem ((c.tc : Thread nD τ).loc main_v1_2) = (fun j => mean (grad (A0 m c) (A1 m c) j) (A3 m c j) : FVec Ideal S512x1024 .f32)
      ∧ r.2.mem ((c.tc : Thread nD τ).loc main_v1_3) = (fun j => var (grad (A0 m c) (A1 m c) j) (A4 m c j) : FVec Ideal S512x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (final5 m (ok m) c), ((h.1 c).1 6).trans (final6 m (ok m) c),
      ((h.1 c).1 7).trans (final7 m (ok m) c), ((h.1 c).1 8).trans (final8 m (ok m) c), h.2 c⟩)
    (θ_run_and (run_main m ρ (ok m)) (unchanged m ρ (ok m)))

end Cert.AdoKernelIdeal.Value
-- ==== Proof.Ado.Reference.lean ====
/- The reference of the optimiser's step of the output projection, read at coordinates. -/
module

public import proofs.«01_k».proof.Proof.Gen.AdoReferenceIdeal.Read
public import proofs.«01_k».proof.Proof.Gen.AdoReferenceIdeal.Run
public import proofs.«01_k».proof.Proof.Ado.Blocks

@[expose] public section

set_option maxRecDepth 16384

noncomputable section

namespace Cert.AdoReferenceIdeal.Meaning

open Idealize.ShloMosaic Idealize.SL.Sem
open Cert.AdoReferenceIdeal Cert.AdoReferenceIdeal.Read

open Cert.AdoKernelIdeal.Value (grad delta mean var)

/-- The reference's gradient is the two halves below each other. -/
theorem grad_eq (a b : FVec Ideal S256x1024 .f32) : val_main_v0 (F := Ideal) a b = grad a b := by
  funext j; rw [eq_ix2 j]
  have h0 : (j 0).val < 512 := (j 0).isLt
  have f : ∀ (X : FVec Ideal S256x1024 .f32) (k : ℕ) (hk : k < 256), k = (j 0).val % 256 →
      X (ix2 ⟨k, hk⟩ (j 1)) = X (ix2 ⟨(j 0).val % 256, by omega⟩ (j 1)) := by
    rintro X k hk rfl; rfl
  by_cases h : (j 0).val < 256
  · refine Eq.trans ?_ ((f a (j 0).val h (by omega)).trans (if_pos (show (j 0).val < 256 from h)).symm)
    unfold val_main_v0
    refine concatenate_pair_apply_left (t := S512x1024) (s₁ := S256x1024) (s₂ := S256x1024) 0 a b _ _ rfl _ fun x => ?_
    fin_cases x <;> rfl
  · refine Eq.trans ?_ ((f b ((j 0).val - 256) (by omega) (by omega)).trans (if_neg (show ¬ (j 0).val < 256 from h)).symm)
    unfold val_main_v0
    refine concatenate_pair_apply_right (t := S512x1024) (s₁ := S256x1024) (s₂ := S256x1024) 0 a b _ _ rfl rfl _ (fun x hx => ?_) ?_
    · fin_cases x
      · exact absurd rfl hx
      · rfl
    · show (j 0).val - 256 + 256 = (j 0).val; omega

theorem mean_eq (a b : FVec Ideal S256x1024 .f32) (m : FVec Ideal S512x1024 .f32) : val_main_v5 (F := Ideal) a b m = fun j => mean (grad a b j) (m j) := by
  funext j
  rw [val_main_v5_apply, val_main_v2_apply, val_main_v4_apply, grad_eq]
  pointwise [val_main_v1, val_main_v3, val_main_cst, val_main_cst_0]
  rfl

theorem var_eq (a b : FVec Ideal S256x1024 .f32) (v : FVec Ideal S512x1024 .f32) : val_main_v11 (F := Ideal) a b v = fun j => var (grad a b j) (v j) := by
  funext j
  rw [val_main_v11_apply, val_main_v7_apply, val_main_v10_apply, val_main_v8_apply, grad_eq]
  pointwise [val_main_v6, val_main_v9, val_main_cst_1, val_main_cst_2]
  rfl

theorem delta_eq (a b : FVec Ideal S256x1024 .f32) (w m v : FVec Ideal S512x1024 .f32) :
    val_main_v24 (F := Ideal) a b w m v = fun j => delta (grad a b j) (w j) (m j) (v j) := by
  funext j
  rw [val_main_v24_apply, val_main_v22_apply, val_main_v19_apply, val_main_v18_apply, val_main_v16_apply, val_main_v15_apply, val_main_v13_apply,
    val_main_v21_apply, mean_eq, var_eq]
  pointwise [val_main_v12, val_main_v14, val_main_v17, val_main_v20, val_main_v23, val_main_cst_3, val_main_cst_4, val_main_cst_5, val_main_cst_6, val_main_cst_7]
  rfl

end Cert.AdoReferenceIdeal.Meaning
-- ==== Proof.Ado.Claims.lean ====
/- The claims about the optimiser's step of the output projection: the frames, and the four results against the reference's. -/
module

public import proofs.«01_k».proof.Defs
public import proofs.«01_k».proof.Proof.Ado.Reference
public import Idealize.ShloMosaic.Lib.Claim

@[expose] public section

set_option maxRecDepth 16384

noncomputable section

namespace Cert.Proof.Ado

open Idealize.ShloMosaic Idealize.SL.Sem

theorem frame_kernel : Cert.quiescent_AdoKernel := fun m ρ _ => Cert.AdoKernel.Gen.frame m ρ (Cert.AdoKernel.Value.ok m)
theorem frame_kernel_ideal : Cert.quiescent_AdoKernelIdeal := fun m ρ _ => Cert.AdoKernelIdeal.Gen.frame m ρ (Cert.AdoKernelIdeal.Value.ok m)
theorem frame_reference : Cert.quiescent_AdoReferenceIdeal := by
  intro m g _
  exact (θ_run Cert.AdoReferenceIdeal.defs _ _).mono (fun r h => ⟨fun c => (h c).2.2.2.2, sem_eq_zero_of_no_sems (by decide) r.2⟩)
    (Cert.AdoReferenceIdeal.Value.run m g)

/-- The gradient, the weight's change and the two moments are the reference's. -/
theorem algebraic : Cert.algebraic_AdoKernelIdeal_AdoReferenceIdeal := by
  pair_intro
  · run_from Cert.AdoKernelIdeal.Value.run m g
  · run_from Cert.AdoReferenceIdeal.Value.run m' g'
    · exact (Cert.AdoReferenceIdeal.Read.val_main_v0_eq ..).trans (Cert.AdoReferenceIdeal.Meaning.grad_eq ..)
    · exact (Cert.AdoReferenceIdeal.Read.val_main_v24_eq ..).trans (Cert.AdoReferenceIdeal.Meaning.delta_eq ..)
    · exact (Cert.AdoReferenceIdeal.Read.val_main_v5_eq ..).trans (Cert.AdoReferenceIdeal.Meaning.mean_eq ..)
    · exact (Cert.AdoReferenceIdeal.Read.val_main_v11_eq ..).trans (Cert.AdoReferenceIdeal.Meaning.var_eq ..)

end Cert.Proof.Ado
-- ==== Proof.Adg.Blocks.lean ====
/- The optimiser's step of a gate of the recurrence: its four result arrays after the run. -/
module

public import proofs.«01_k».proof.Proof.Gen.AdgKernel.Frame
public import proofs.«01_k».proof.Proof.Gen.AdgKernelIdeal.Frame
public import Idealize.ShloMosaic.Lib.Pipeline.ValueKit
public import Idealize.ShloMosaic.Lib.StableHlo.ReadAt
public import Mathlib.Tactic.IntervalCases

@[expose] public section

set_option maxRecDepth 16384

noncomputable section

namespace Cert.AdgKernel.Value

open Idealize.ShloMosaic Idealize.ShloMosaic.TcCoe Idealize.SL.Sem
open Cert.AdgKernel Cert.AdgKernel.Gen

/-- The word the host prefetches: the first half, or the first chip, of the two. -/
def zeros : pre0.Contents (Elt Bits) := fun
  | 0 => fun _ => (0#32 : BitVec 32)
  | ⟨_ + 1, h⟩ => absurd h (Nat.not_lt.2 (Nat.le_add_left _ _))

theorem tbl_eq (m : (ℓ : Loc nD τ sig) → Buf (Elt Bits) ℓ) : tbl m = zeros := by
  funext j
  match j with
  | ⟨0, _⟩ =>
    funext i
    unfold tbl
    show V m (0 : Dev nD) main_v0 i = _
    entry_read; rfl

theorem ok_zeros : ok0 (F := Bits) zeros := by trivial

/-- Every block the index maps place at it is inside its array. -/
theorem ok (m : (ℓ : Loc nD τ sig) → Buf (Elt Bits) ℓ) : Ok m := by
  unfold Ok; rw [tbl_eq]; exact ok_zeros

end Cert.AdgKernel.Value

namespace Cert.AdgKernelIdeal.Value

open Idealize.ShloMosaic Idealize.ShloMosaic.TcCoe Idealize.SL.Sem
open Idealize.ShloMosaic.Pipeline (Dat)
open Cert.AdgKernelIdeal Cert.AdgKernelIdeal.Gen

/-- The word the host prefetches: the first half, or the first chip, of the two. -/
def zeros : pre0.Contents (Elt Ideal) := fun
  | 0 => fun _ => (0#32 : BitVec 32)
  | ⟨_ + 1, h⟩ => absurd h (Nat.not_lt.2 (Nat.le_add_left _ _))

theorem tbl_eq (m : (ℓ : Loc nD τ sig) → Buf (Elt Ideal) ℓ) : tbl m = zeros := by
  funext j
  match j with
  | ⟨0, _⟩ =>
    funext i
    unfold tbl
    show V m (0 : Dev nD) main_v0 i = _
    entry_read; rfl

theorem ok_zeros : ok0 (F := Ideal) zeros := by trivial

/-- Every block the index maps place at it is inside its array. -/
theorem ok (m : (ℓ : Loc nD τ sig) → Buf (Elt Ideal) ℓ) : Ok m := by
  unfold Ok; rw [tbl_eq]; exact ok_zeros

variable (m : (ℓ : Loc nD τ sig) → Buf (Elt Ideal) ℓ)

theorem idx (hO : Ok m) (t : Fin (cfgM m hO).N) : ((cfgM m hO).win 0).index t = ![0, 0] ∧ ((cfgM m hO).win 1).index t = ![0, 0]
    ∧ ((cfgM m hO).win 2).index t = ![t.val, 0]
    ∧ ((cfgM m hO).win 3).index t = ![t.val, 0]
    ∧ ((cfgM m hO).win 4).index t = ![t.val, 0]
    ∧ ((cfgM m hO).win 5).index t = ![t.val, 0]
    ∧ ((cfgM m hO).win 6).index t = ![t.val, 0]
    ∧ ((cfgM m hO).win 7).index t = ![t.val, 0]
    ∧ ((cfgM m hO).win 8).index t = ![t.val, 0]
    ∧ (grid0.coords t 0).val = t.val ∧ t.val < 2 :=
  ⟨(by decide +kernel : ∀ t : Fin grid0.N, cc0_transform_0 (grid0.coords t) = ![0, 0]) t,
    (by decide +kernel : ∀ t : Fin grid0.N, cc0_transform_1 (grid0.coords t) = ![0, 0]) t,
    (by decide +kernel : ∀ t : Fin grid0.N, cc0_transform_2 (grid0.coords t) = ![t.val, 0]) t,
    (by decide +kernel : ∀ t : Fin grid0.N, cc0_transform_3 (grid0.coords t) = ![t.val, 0]) t,
    (by decide +kernel : ∀ t : Fin grid0.N, cc0_transform_4 (grid0.coords t) = ![t.val, 0]) t,
    (by decide +kernel : ∀ t : Fin grid0.N, cc0_transform_5 (grid0.coords t) = ![t.val, 0]) t,
    (by decide +kernel : ∀ t : Fin grid0.N, cc0_transform_6 (grid0.coords t) = ![t.val, 0]) t,
    (by decide +kernel : ∀ t : Fin grid0.N, cc0_transform_7 (grid0.coords t) = ![t.val, 0]) t,
    (by decide +kernel : ∀ t : Fin grid0.N, cc0_transform_8 (grid0.coords t) = ![t.val, 0]) t,
    (by decide +kernel : ∀ t : Fin grid0.N, (grid0.coords t 0).val = t.val) t, t.isLt⟩

theorem lt (hO : Ok m) (t : Fin (cfgM m hO).N) : t.val < 2 := t.isLt

/-- A number the optimiser multiplies or divides by. -/
abbrev lit (b : BitVec 32) : EReal := FloatOps.ofBits (F := Ideal) .f32 b

/-- The first moment after the step. -/
def mean (g a : EReal) : EReal := lit 0x3F666666#32 * a + lit 0x3DCCCCCD#32 * g
/-- The second moment after the step. -/
def var (g b : EReal) : EReal := lit 0x3F7FBE77#32 * b + lit 0x3A83126F#32 * (g * g)
/-- The change of the weight. -/
def delta (g w a b : EReal) : EReal :=
  lit 0xBA83126F#32 * (Ideal.div (Ideal.div (mean g a) (lit 0x3F26BD02#32)) (Ideal.sqrt (Ideal.div (var g b) (lit 0x3C231ACC#32)) + lit 0x322BCC77#32)
    + lit 0x3C23D70A#32 * w)

section

variable (c : Dev nD) (i : grid0.Coords) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x256 .f32) (harg11 : arg11.IsWhole)
  (x0 x1 : Vec Ideal S128x256 .f32) (x2 x3 x4 : Vec Ideal S128x256 .f32) (xt0 : TbBuf0 (F := Ideal) c tbM0_0)

theorem out5_at (hx : xt0 = fun _ => (0#32 : BitVec 32)) (p : Fin 128) (q : Fin 256) : out0_A_5 c i arg3 harg3 arg4 harg4 arg5 harg5 arg6 harg6 arg7 harg7 arg8 harg8 arg9 harg9 arg10 harg10 arg11 harg11 x0 x1 x2 x3 x4 xt0 (ix2 p q)
    = if (i 0).val = 0 then x0 (ix2 p q) else x1 (ix2 p q) := by
  frame_out
  pointwise [k0_pay1]
  subst hx
  have h : (i 0).val < 2 := (i 0).isLt
  show Scalar.select (Scalar.cmpi .eq (BitVec.ofNat 32 (i 0).val) (0#32 : BitVec 32)) _ _ = _
  generalize (i 0).val = k at h ⊢
  interval_cases k <;> rfl

theorem out7_at (p : Fin 128) (q : Fin 256) : out0_A_7 c i arg3 harg3 arg4 harg4 arg5 harg5 arg6 harg6 arg7 harg7 arg8 harg8 arg9 harg9 arg10 harg10 arg11 harg11 x0 x1 x2 x3 x4 xt0 (ix2 p q)
    = mean (out0_A_5 c i arg3 harg3 arg4 harg4 arg5 harg5 arg6 harg6 arg7 harg7 arg8 harg8 arg9 harg9 arg10 harg10 arg11 harg11 x0 x1 x2 x3 x4 xt0 (ix2 p q)) (x3 (ix2 p q)) := by
  frame_out
  pointwise [k0_pay2]
  rfl

theorem out8_at (p : Fin 128) (q : Fin 256) : out0_A_8 c i arg3 harg3 arg4 harg4 arg5 harg5 arg6 harg6 arg7 harg7 arg8 harg8 arg9 harg9 arg10 harg10 arg11 harg11 x0 x1 x2 x3 x4 xt0 (ix2 p q)
    = var (out0_A_5 c i arg3 harg3 arg4 harg4 arg5 harg5 arg6 harg6 arg7 harg7 arg8 harg8 arg9 harg9 arg10 harg10 arg11 harg11 x0 x1 x2 x3 x4 xt0 (ix2 p q)) (x4 (ix2 p q)) := by
  frame_out
  pointwise [k0_pay3]
  rfl

theorem out6_at (p : Fin 128) (q : Fin 256) : out0_A_6 c i arg3 harg3 arg4 harg4 arg5 harg5 arg6 harg6 arg7 harg7 arg8 harg8 arg9 harg9 arg10 harg10 arg11 harg11 x0 x1 x2 x3 x4 xt0 (ix2 p q)
    = delta (out0_A_5 c i arg3 harg3 arg4 harg4 arg5 harg5 arg6 harg6 arg7 harg7 arg8 harg8 arg9 harg9 arg10 harg10 arg11 harg11 x0 x1 x2 x3 x4 xt0 (ix2 p q)) (x2 (ix2 p q)) (x3 (ix2 p q)) (x4 (ix2 p q)) := by
  frame_out
  pointwise [k0_pay4, k0_pay3, k0_pay2, k0_pay1]
  rfl

end

abbrev A0 (c : Dev nD) : FVec Ideal S128x256 .f32 := m ((c.tc : Thread nD τ).loc main_arg0)
abbrev A1 (c : Dev nD) : FVec Ideal S128x256 .f32 := m ((c.tc : Thread nD τ).loc main_arg1)
abbrev A2 (c : Dev nD) : FVec Ideal S256x256 .f32 := m ((c.tc : Thread nD τ).loc main_arg2)
abbrev A3 (c : Dev nD) : FVec Ideal S256x256 .f32 := m ((c.tc : Thread nD τ).loc main_arg3)
abbrev A4 (c : Dev nD) : FVec Ideal S256x256 .f32 := m ((c.tc : Thread nD τ).loc main_arg4)

/-- The gradient: the upper 128 rows from the one half, the others from the other. -/
def grad (a b : FVec Ideal S128x256 .f32) : FVec Ideal S256x256 .f32 := fun j =>
  have h0 : (j 0).val < 256 := (j 0).isLt
  if (j 0).val < 128 then a (ix2 ⟨(j 0).val % 128, by omega⟩ (j 1))
  else b (ix2 ⟨(j 0).val % 128, by omega⟩ (j 1))

/-- Where element `(p, q)` of a point's block stands in an array of 256 by 256. -/
abbrev spot (hO : Ok m) (t : Fin (cfgM m hO).N) (p : Fin 128) (q : Fin 256) : S256x256.Idx :=
  ix2 ⟨t.val * 128 + p.val, by have := lt m hO t; omega⟩ q

theorem own_at (hO : Ok m) (c : Dev nD) (t : Fin (cfgM m hO).N) (p : Fin 128) (q : Fin 256) :
    (iblk m hO c 0 t : Vec Ideal S128x256 .f32) (ix2 p q) = A0 m c (ix2 p q) := by
  blk_point [iblk, V, idx m hO t]

theorem other_at (hO : Ok m) (c : Dev nD) (t : Fin (cfgM m hO).N) (p : Fin 128) (q : Fin 256) :
    (iblk m hO c 1 t : Vec Ideal S128x256 .f32) (ix2 p q) = A1 m c (ix2 p q) := by
  blk_point [iblk, V, idx m hO t]

theorem weight_at (hO : Ok m) (c : Dev nD) (t : Fin (cfgM m hO).N) (p : Fin 128) (q : Fin 256) :
    (iblk m hO c 2 t : Vec Ideal S128x256 .f32) (ix2 p q) = A2 m c (spot m hO t p q) := by
  blk_point [iblk, V, idx m hO t] <;> rfl

theorem mean_at (hO : Ok m) (c : Dev nD) (t : Fin (cfgM m hO).N) (p : Fin 128) (q : Fin 256) :
    (iblk m hO c 3 t : Vec Ideal S128x256 .f32) (ix2 p q) = A3 m c (spot m hO t p q) := by
  blk_point [iblk, V, idx m hO t] <;> rfl

theorem var_at (hO : Ok m) (c : Dev nD) (t : Fin (cfgM m hO).N) (p : Fin 128) (q : Fin 256) :
    (iblk m hO c 4 t : Vec Ideal S128x256 .f32) (ix2 p q) = A4 m c (spot m hO t p q) := by
  blk_point [iblk, V, idx m hO t] <;> rfl

theorem word_zero : (tbl m 0 : TbBuf0 (F := Ideal) (0 : Dev nD) tbM0_0) = fun _ => (0#32 : BitVec 32) := by
  rw [tbl_eq]; rfl

/-- The four blocks a point writes. -/
theorem outs (hO : Ok m) (c : Dev nD) (t : Fin (cfgM m hO).N) : outsAt0 m hO c t
    = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0),
      out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)) := rfl

theorem fst_of {α β : Type} {x : α × β} {a : α} {b : β} (h : x = (a, b)) : x.1 = a := by rw [h]
theorem snd_of {α β : Type} {x : α × β} {a : α} {b : β} (h : x = (a, b)) : x.2 = b := by rw [h]

/-- What a point writes of the gradient. -/
theorem grad_at (hO : Ok m) (c : Dev nD) (t : Fin (cfgM m hO).N) (p : Fin 128) (q : Fin 256) :
    (outsAt0 m hO c t).1 (ix2 p q) = grad (A0 m c) (A1 m c) (spot m hO t p q) := by
  have ht := lt m hO t
  have hp := p.isLt; have hq := q.isLt
  have h0 := own_at m hO c t p q
  have h1 := other_at m hO c t p q
  have hc : (grid0.coords t 0).val = t.val := (idx m hO t).2.2.2.2.2.2.2.2.2.1
  refine (congrFun (fst_of (outs m hO c t)) (ix2 p q)).trans ?_
  refine (out5_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) (word_zero m) p q).trans ?_
  have f : ∀ X : FVec Ideal S128x256 .f32, X (ix2 p q) = X (ix2 ⟨(t.val * 128 + p.val) % 128, by omega⟩ q) := fun X =>
    congrArg X (by
      funext x; apply Fin.ext
      fin_cases x
      · show p.val = (t.val * 128 + p.val) % 128; omega
      · rfl)
  show _ = if t.val * 128 + p.val < 128 then _ else _
  by_cases hk : t.val = 0
  · exact (if_pos (hc.trans hk)).trans ((h0.trans (f _)).trans (if_pos (show t.val * 128 + p.val < 128 by omega)).symm)
  · exact (if_neg (fun e => hk (hc.symm.trans e))).trans ((h1.trans (f _)).trans (if_neg (show ¬ t.val * 128 + p.val < 128 by omega)).symm)

/-- What a point writes of the first moment, the second and the weight's change. -/
theorem others_at (hO : Ok m) (c : Dev nD) (t : Fin (cfgM m hO).N) (p : Fin 128) (q : Fin 256) :
    (outsAt0 m hO c t).2.1 (ix2 p q) = delta (grad (A0 m c) (A1 m c) (spot m hO t p q)) (A2 m c (spot m hO t p q)) (A3 m c (spot m hO t p q)) (A4 m c (spot m hO t p q))
    ∧ (outsAt0 m hO c t).2.2.1 (ix2 p q) = mean (grad (A0 m c) (A1 m c) (spot m hO t p q)) (A3 m c (spot m hO t p q))
    ∧ (outsAt0 m hO c t).2.2.2 (ix2 p q) = var (grad (A0 m c) (A1 m c) (spot m hO t p q)) (A4 m c (spot m hO t p q)) := by
  have hg := grad_at m hO c t p q
  replace hg := (congrFun (fst_of (outs m hO c t)) (ix2 p q)).symm.trans hg
  have h2 := weight_at m hO c t p q
  have h3 := mean_at m hO c t p q
  have h4 := var_at m hO c t p q
  have d : ∀ {g g' w w' a a' b b' : EReal}, g = g' → w = w' → a = a' → b = b' → delta g w a b = delta g' w' a' b' := by
    rintro _ _ _ _ _ _ _ _ rfl rfl rfl rfl; rfl
  exact ⟨(congrFun (fst_of (snd_of (outs m hO c t))) (ix2 p q)).trans <| (out6_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (d hg h2 h3 h4),
    (congrFun (fst_of (snd_of (snd_of (outs m hO c t)))) (ix2 p q)).trans <| (out7_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (congrArg₂ mean hg h3),
    (congrFun (snd_of (snd_of (snd_of (outs m hO c t)))) (ix2 p q)).trans <| (out8_at c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) p q).trans (congrArg₂ var hg h4)⟩

/-- The gradient after the run. -/
theorem final5 (hO : Ok m) (c : Dev nD) : (dats m hO 0 c).arrAt 5 (cfgM m hO).N = (grad (A0 m c) (A1 m c) : FVec Ideal S256x256 .f32) := by
  have cov : ((cfgM m hO).win 5).Covers := by
    have e : ((cfg0 (F := Ideal) ⟨zeros, ok_zeros⟩).win 5).Covers := by decide +kernel
    exact e
  refine (dats m hO 0 c).arrAt_eq_of_covers 5 _ cov fun t hf y => ?_
  obtain ⟨z, hz⟩ : ∃ z : S128x256.Idx, z = y := ⟨y, rfl⟩
  have e : ∀ X : S256x256.Idx → EReal, X ((((cfgM m hO).win 5).blk t).view.emb y) = X (spot m hO t (z 0) (z 1)) := fun X => by
    subst hz
    blk_point [idx m hO t] <;> rfl
  have hy : (outsAt0 m hO c t).1 z = _ := (congrArg (outsAt0 m hO c t).1 (eq_ix2 z)).trans (grad_at m hO c t (z 0) (z 1))
  blk_simp
  rw [after0_5]
  subst hz
  exact hy.trans (e (grad (A0 m c) (A1 m c))).symm

/-- The weight's change after the run. -/
theorem final6 (hO : Ok m) (c : Dev nD) : (dats m hO 0 c).arrAt 6 (cfgM m hO).N = (fun j => delta (grad (A0 m c) (A1 m c) j) (A2 m c j) (A3 m c j) (A4 m c j) : FVec Ideal S256x256 .f32) := by
  have cov : ((cfgM m hO).win 6).Covers := by
    have e : ((cfg0 (F := Ideal) ⟨zeros, ok_zeros⟩).win 6).Covers := by decide +kernel
    exact e
  refine (dats m hO 0 c).arrAt_eq_of_covers 6 _ cov fun t hf y => ?_
  obtain ⟨z, hz⟩ : ∃ z : S128x256.Idx, z = y := ⟨y, rfl⟩
  have e : ∀ X : S256x256.Idx → EReal, X ((((cfgM m hO).win 6).blk t).view.emb y) = X (spot m hO t (z 0) (z 1)) := fun X => by
    subst hz
    blk_point [idx m hO t] <;> rfl
  have hy : (outsAt0 m hO c t).2.1 z = _ := (congrArg (outsAt0 m hO c t).2.1 (eq_ix2 z)).trans ((others_at m hO c t (z 0) (z 1)).1)
  blk_simp
  rw [after0_6]
  subst hz
  exact hy.trans (e (fun j => delta (grad (A0 m c) (A1 m c) j) (A2 m c j) (A3 m c j) (A4 m c j))).symm

/-- The first moment after the run. -/
theorem final7 (hO : Ok m) (c : Dev nD) : (dats m hO 0 c).arrAt 7 (cfgM m hO).N = (fun j => mean (grad (A0 m c) (A1 m c) j) (A3 m c j) : FVec Ideal S256x256 .f32) := by
  have cov : ((cfgM m hO).win 7).Covers := by
    have e : ((cfg0 (F := Ideal) ⟨zeros, ok_zeros⟩).win 7).Covers := by decide +kernel
    exact e
  refine (dats m hO 0 c).arrAt_eq_of_covers 7 _ cov fun t hf y => ?_
  obtain ⟨z, hz⟩ : ∃ z : S128x256.Idx, z = y := ⟨y, rfl⟩
  have e : ∀ X : S256x256.Idx → EReal, X ((((cfgM m hO).win 7).blk t).view.emb y) = X (spot m hO t (z 0) (z 1)) := fun X => by
    subst hz
    blk_point [idx m hO t] <;> rfl
  have hy : (outsAt0 m hO c t).2.2.1 z = _ := (congrArg (outsAt0 m hO c t).2.2.1 (eq_ix2 z)).trans ((others_at m hO c t (z 0) (z 1)).2.1)
  blk_simp
  rw [after0_7]
  subst hz
  exact hy.trans (e (fun j => mean (grad (A0 m c) (A1 m c) j) (A3 m c j))).symm

/-- The second moment after the run. -/
theorem final8 (hO : Ok m) (c : Dev nD) : (dats m hO 0 c).arrAt 8 (cfgM m hO).N = (fun j => var (grad (A0 m c) (A1 m c) j) (A4 m c j) : FVec Ideal S256x256 .f32) := by
  have cov : ((cfgM m hO).win 8).Covers := by
    have e : ((cfg0 (F := Ideal) ⟨zeros, ok_zeros⟩).win 8).Covers := by decide +kernel
    exact e
  refine (dats m hO 0 c).arrAt_eq_of_covers 8 _ cov fun t hf y => ?_
  obtain ⟨z, hz⟩ : ∃ z : S128x256.Idx, z = y := ⟨y, rfl⟩
  have e : ∀ X : S256x256.Idx → EReal, X ((((cfgM m hO).win 8).blk t).view.emb y) = X (spot m hO t (z 0) (z 1)) := fun X => by
    subst hz
    blk_point [idx m hO t] <;> rfl
  have hy : (outsAt0 m hO c t).2.2.2 z = _ := (congrArg (outsAt0 m hO c t).2.2.2 (eq_ix2 z)).trans ((others_at m hO c t (z 0) (z 1)).2.2)
  blk_simp
  rw [after0_8]
  subst hz
  exact hy.trans (e (fun j => var (grad (A0 m c) (A1 m c) j) (A4 m c j))).symm

/-- The run: its results, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v1_0) = grad (A0 m c) (A1 m c)
      ∧ r.2.mem ((c.tc : Thread nD τ).loc main_v1_1) = (fun j => delta (grad (A0 m c) (A1 m c) j) (A2 m c j) (A3 m c j) (A4 m c j) : FVec Ideal S256x256 .f32)
      ∧ r.2.mem ((c.tc : Thread nD τ).loc main_v1_2) = (fun j => mean (grad (A0 m c) (A1 m c) j) (A3 m c j) : FVec Ideal S256x256 .f32)
      ∧ r.2.mem ((c.tc : Thread nD τ).loc main_v1_3) = (fun j => var (grad (A0 m c) (A1 m c) j) (A4 m c j) : FVec Ideal S256x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (final5 m (ok m) c), ((h.1 c).1 6).trans (final6 m (ok m) c),
      ((h.1 c).1 7).trans (final7 m (ok m) c), ((h.1 c).1 8).trans (final8 m (ok m) c), h.2 c⟩)
    (θ_run_and (run_main m ρ (ok m)) (unchanged m ρ (ok m)))

end Cert.AdgKernelIdeal.Value
-- ==== Proof.Adg.Reference.lean ====
/- The reference of the optimiser's step of a gate of the recurrence, read at coordinates. -/
module

public import proofs.«01_k».proof.Proof.Gen.AdgReferenceIdeal.Read
public import proofs.«01_k».proof.Proof.Gen.AdgReferenceIdeal.Run
public import proofs.«01_k».proof.Proof.Adg.Blocks

@[expose] public section

set_option maxRecDepth 16384

noncomputable section

namespace Cert.AdgReferenceIdeal.Meaning

open Idealize.ShloMosaic Idealize.SL.Sem
open Cert.AdgReferenceIdeal Cert.AdgReferenceIdeal.Read

open Cert.AdgKernelIdeal.Value (grad delta mean var)

/-- The reference's gradient is the two halves below each other. -/
theorem grad_eq (a b : FVec Ideal S128x256 .f32) : val_main_v0 (F := Ideal) a b = grad a b := by
  funext j; rw [eq_ix2 j]
  have h0 : (j 0).val < 256 := (j 0).isLt
  have f : ∀ (X : FVec Ideal S128x256 .f32) (k : ℕ) (hk : k < 128), k = (j 0).val % 128 →
      X (ix2 ⟨k, hk⟩ (j 1)) = X (ix2 ⟨(j 0).val % 128, by omega⟩ (j 1)) := by
    rintro X k hk rfl; rfl
  by_cases h : (j 0).val < 128
  · refine Eq.trans ?_ ((f a (j 0).val h (by omega)).trans (if_pos (show (j 0).val < 128 from h)).symm)
    unfold val_main_v0
    refine concatenate_pair_apply_left (t := S256x256) (s₁ := S128x256) (s₂ := S128x256) 0 a b _ _ rfl _ fun x => ?_
    fin_cases x <;> rfl
  · refine Eq.trans ?_ ((f b ((j 0).val - 128) (by omega) (by omega)).trans (if_neg (show ¬ (j 0).val < 128 from h)).symm)
    unfold val_main_v0
    refine concatenate_pair_apply_right (t := S256x256) (s₁ := S128x256) (s₂ := S128x256) 0 a b _ _ rfl rfl _ (fun x hx => ?_) ?_
    · fin_cases x
      · exact absurd rfl hx
      · rfl
    · show (j 0).val - 128 + 128 = (j 0).val; omega

theorem mean_eq (a b : FVec Ideal S128x256 .f32) (m : FVec Ideal S256x256 .f32) : val_main_v5 (F := Ideal) a b m = fun j => mean (grad a b j) (m j) := by
  funext j
  rw [val_main_v5_apply, val_main_v2_apply, val_main_v4_apply, grad_eq]
  pointwise [val_main_v1, val_main_v3, val_main_cst, val_main_cst_0]
  rfl

theorem var_eq (a b : FVec Ideal S128x256 .f32) (v : FVec Ideal S256x256 .f32) : val_main_v11 (F := Ideal) a b v = fun j => var (grad a b j) (v j) := by
  funext j
  rw [val_main_v11_apply, val_main_v7_apply, val_main_v10_apply, val_main_v8_apply, grad_eq]
  pointwise [val_main_v6, val_main_v9, val_main_cst_1, val_main_cst_2]
  rfl

theorem delta_eq (a b : FVec Ideal S128x256 .f32) (w m v : FVec Ideal S256x256 .f32) :
    val_main_v24 (F := Ideal) a b w m v = fun j => delta (grad a b j) (w j) (m j) (v j) := by
  funext j
  rw [val_main_v24_apply, val_main_v22_apply, val_main_v19_apply, val_main_v18_apply, val_main_v16_apply, val_main_v15_apply, val_main_v13_apply,
    val_main_v21_apply, mean_eq, var_eq]
  pointwise [val_main_v12, val_main_v14, val_main_v17, val_main_v20, val_main_v23, val_main_cst_3, val_main_cst_4, val_main_cst_5, val_main_cst_6, val_main_cst_7]
  rfl

end Cert.AdgReferenceIdeal.Meaning
-- ==== Proof.Adg.Claims.lean ====
/- The claims about the optimiser's step of a gate of the recurrence: the frames, and the four results against the reference's. -/
module

public import proofs.«01_k».proof.Defs
public import proofs.«01_k».proof.Proof.Adg.Reference
public import Idealize.ShloMosaic.Lib.Claim

@[expose] public section

set_option maxRecDepth 16384

noncomputable section

namespace Cert.Proof.Adg

open Idealize.ShloMosaic Idealize.SL.Sem

theorem frame_kernel : Cert.quiescent_AdgKernel := fun m ρ _ => Cert.AdgKernel.Gen.frame m ρ (Cert.AdgKernel.Value.ok m)
theorem frame_kernel_ideal : Cert.quiescent_AdgKernelIdeal := fun m ρ _ => Cert.AdgKernelIdeal.Gen.frame m ρ (Cert.AdgKernelIdeal.Value.ok m)
theorem frame_reference : Cert.quiescent_AdgReferenceIdeal := by
  intro m g _
  exact (θ_run Cert.AdgReferenceIdeal.defs _ _).mono (fun r h => ⟨fun c => (h c).2.2.2.2, sem_eq_zero_of_no_sems (by decide) r.2⟩)
    (Cert.AdgReferenceIdeal.Value.run m g)

/-- The gradient, the weight's change and the two moments are the reference's. -/
theorem algebraic : Cert.algebraic_AdgKernelIdeal_AdgReferenceIdeal := by
  pair_intro
  · run_from Cert.AdgKernelIdeal.Value.run m g
  · run_from Cert.AdgReferenceIdeal.Value.run m' g'
    · exact (Cert.AdgReferenceIdeal.Read.val_main_v0_eq ..).trans (Cert.AdgReferenceIdeal.Meaning.grad_eq ..)
    · exact (Cert.AdgReferenceIdeal.Read.val_main_v24_eq ..).trans (Cert.AdgReferenceIdeal.Meaning.delta_eq ..)
    · exact (Cert.AdgReferenceIdeal.Read.val_main_v5_eq ..).trans (Cert.AdgReferenceIdeal.Meaning.mean_eq ..)
    · exact (Cert.AdgReferenceIdeal.Read.val_main_v11_eq ..).trans (Cert.AdgReferenceIdeal.Meaning.var_eq ..)

end Cert.Proof.Adg
-- ==== Proof.Asa.Claims.lean ====
/- The claims about the optimiser's step of the pre-norm, the convolution's weights and its bias: the frames, and the results against the reference's. -/
module

public import proofs.«01_k».proof.Defs
public import proofs.«01_k».proof.Proof.Gen.AsaKernel.Frame
public import proofs.«01_k».proof.Proof.Gen.AsaKernelIdeal.Value
public import proofs.«01_k».proof.Proof.Gen.AsaReferenceIdeal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Proof.Asa

open Idealize.ShloMosaic Idealize.SL.Sem

theorem frame_kernel : Cert.quiescent_AsaKernel := fun m ρ _ => Cert.AsaKernel.Gen.frame m ρ
theorem frame_kernel_ideal : Cert.quiescent_AsaKernelIdeal := fun m ρ _ => Cert.AsaKernelIdeal.Gen.frame m ρ
theorem frame_reference : Cert.quiescent_AsaReferenceIdeal := by
  intro m g _
  exact (θ_run Cert.AsaReferenceIdeal.defs _ _).mono (fun r h => ⟨fun c => (h c).2.2.2.2.2.2.2.2.2, sem_eq_zero_of_no_sems (by decide) r.2⟩)
    (Cert.AsaReferenceIdeal.Value.run m g)

/-- The weights' changes and the two moments are the reference's. -/
theorem algebraic : Cert.algebraic_AsaKernelIdeal_AsaReferenceIdeal := by
  pair_intro
  · run_from Cert.AsaKernelIdeal.Value.run m g
  · run_from Cert.AsaReferenceIdeal.Value.run m' g'
    all_goals
      funext j
      pointwise []

end Cert.Proof.Asa
-- ==== Proof.Asg.Claims.lean ====
/- The claims about the optimiser's step of the gates' biases: the frames, and the results against the reference's. -/
module

public import proofs.«01_k».proof.Defs
public import proofs.«01_k».proof.Proof.Gen.AsgKernel.Frame
public import proofs.«01_k».proof.Proof.Gen.AsgKernelIdeal.Value
public import proofs.«01_k».proof.Proof.Gen.AsgReferenceIdeal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Proof.Asg

open Idealize.ShloMosaic Idealize.SL.Sem

theorem frame_kernel : Cert.quiescent_AsgKernel := fun m ρ _ => Cert.AsgKernel.Gen.frame m ρ
theorem frame_kernel_ideal : Cert.quiescent_AsgKernelIdeal := fun m ρ _ => Cert.AsgKernelIdeal.Gen.frame m ρ
theorem frame_reference : Cert.quiescent_AsgReferenceIdeal := by
  intro m g _
  exact (θ_run Cert.AsgReferenceIdeal.defs _ _).mono (fun r h => ⟨fun c => (h c).2.2.2.2.2.2, sem_eq_zero_of_no_sems (by decide) r.2⟩)
    (Cert.AsgReferenceIdeal.Value.run m g)

/-- The weights' changes and the two moments are the reference's. -/
theorem algebraic : Cert.algebraic_AsgKernelIdeal_AsgReferenceIdeal := by
  pair_intro
  · run_from Cert.AsgKernelIdeal.Value.run m g
  · run_from Cert.AsgReferenceIdeal.Value.run m' g'
    all_goals
      funext j
      pointwise []

end Cert.Proof.Asg
-- ==== Proof.Asb.Claims.lean ====
/- The claims about the optimiser's step of the decay, the lower bound's logits and the two later norms: the frames, and the results against the reference's. -/
module

public import proofs.«01_k».proof.Defs
public import proofs.«01_k».proof.Proof.Gen.AsbKernel.Frame
public import proofs.«01_k».proof.Proof.Gen.AsbKernelIdeal.Value
public import proofs.«01_k».proof.Proof.Gen.AsbReferenceIdeal.Run
public import Idealize.ShloMosaic.Lib.Pipeline.ValueKit
public import Idealize.ShloMosaic.Lib.StableHlo.ReadAt
public import Idealize.ShloMosaic.Lib.Claim

@[expose] public section

set_option maxRecDepth 16384

noncomputable section

namespace Cert.Proof.Asb

open Idealize.ShloMosaic Idealize.SL.Sem

theorem frame_kernel : Cert.quiescent_AsbKernel := fun m ρ _ => Cert.AsbKernel.Gen.frame m ρ
theorem frame_kernel_ideal : Cert.quiescent_AsbKernelIdeal := fun m ρ _ => Cert.AsbKernelIdeal.Gen.frame m ρ
theorem frame_reference : Cert.quiescent_AsbReferenceIdeal := by
  intro m g _
  exact (θ_run Cert.AsbReferenceIdeal.defs _ _).mono (fun r h => ⟨fun c => (h c).2.2.2.2.2.2.2.2.2.2.2.2, sem_eq_zero_of_no_sems (by decide) r.2⟩)
    (Cert.AsbReferenceIdeal.Value.run m g)

/-- The weights' changes and the two moments are the reference's. -/
theorem algebraic : Cert.algebraic_AsbKernelIdeal_AsbReferenceIdeal := by
  pair_intro
  · run_from Cert.AsbKernelIdeal.Value.run m g
  · run_from Cert.AsbReferenceIdeal.Value.run m' g'
    all_goals
      funext j
      pointwise []

end Cert.Proof.Asb
-- ==== Proof.lean ====
module

public import proofs.«01_k».proof.Defs
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutKernelIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.Pre_out_finite
public import proofs.«01_k».proof.Proof.Gen.LruKernel
public import proofs.«01_k».proof.Proof.Gen.LruKernelIdeal
public import proofs.«01_k».proof.Proof.Gen.LruKernelIdeal.Skeleton
public import proofs.«01_k».proof.Proof.Gen.LruKernelIdeal.Loops
public import proofs.«01_k».proof.Proof.Gen.LruKernelIdeal.Launch
public import proofs.«01_k».proof.Proof.Gen.LruKernelIdeal.Regions
public import proofs.«01_k».proof.Proof.Gen.LruKernelIdeal.Points
public import proofs.«01_k».proof.Proof.Gen.LruReferenceIdeal
public import proofs.«01_k».proof.Proof.Gen.Pre_lru_finite
public import proofs.«01_k».proof.Proof.Gen.DxReferenceIdeal.Read
public import proofs.«01_k».proof.Proof.Gen.DxReferenceIdeal.Run
public import proofs.«01_k».proof.Proof.Gen.DxKernelIdeal.Value
public import proofs.«01_k».proof.Proof.Gen.DxKernel
public import proofs.«01_k».proof.Proof.Gen.DxKernel.Skeleton
public import proofs.«01_k».proof.Proof.Gen.DxKernel.Launch
public import proofs.«01_k».proof.Proof.Gen.DxKernel.Points
public import proofs.«01_k».proof.Proof.Gen.DxKernel.Frame
public import proofs.«01_k».proof.Proof.Gen.DxKernelIdeal
public import proofs.«01_k».proof.Proof.Gen.DxKernelIdeal.Skeleton
public import proofs.«01_k».proof.Proof.Gen.DxKernelIdeal.Launch
public import proofs.«01_k».proof.Proof.Gen.DxKernelIdeal.Points
public import proofs.«01_k».proof.Proof.Gen.DxKernelIdeal.Frame
public import proofs.«01_k».proof.Proof.Gen.DxReferenceIdeal
public import proofs.«01_k».proof.Proof.Gen.Pre_dx_finite
public import proofs.«01_k».proof.Proof.Out.Claims
public import proofs.«01_k».proof.Proof.Lru.Frames
public import proofs.«01_k».proof.Proof.Lru.Claims
public import proofs.«01_k».proof.Proof.Dx.Claims
public import proofs.«01_k».proof.Proof.Gen.FinKernel
public import proofs.«01_k».proof.Proof.Gen.FinKernel.Skeleton
public import proofs.«01_k».proof.Proof.Gen.FinKernel.Launch
public import proofs.«01_k».proof.Proof.Gen.FinKernel.Points
public import proofs.«01_k».proof.Proof.Gen.FinKernel.Frame
public import proofs.«01_k».proof.Proof.Gen.FinKernelIdeal
public import proofs.«01_k».proof.Proof.Gen.FinKernelIdeal.Skeleton
public import proofs.«01_k».proof.Proof.Gen.FinKernelIdeal.Launch
public import proofs.«01_k».proof.Proof.Gen.FinKernelIdeal.Points
public import proofs.«01_k».proof.Proof.Gen.FinKernelIdeal.Frame
public import proofs.«01_k».proof.Proof.Gen.FinKernelIdeal.Value
public import proofs.«01_k».proof.Proof.Gen.FinReferenceIdeal
public import proofs.«01_k».proof.Proof.Gen.FinReferenceIdeal.Run
public import proofs.«01_k».proof.Proof.Gen.FinReferenceIdeal.Read
public import proofs.«01_k».proof.Proof.Gen.Pre_fin_finite
public import proofs.«01_k».proof.Proof.Fin.Claims
public import Idealize.ShloMosaic.Adequacy
public import Idealize.ShloMosaic.Init
public import proofs.«01_k».proof.Proof.Gen.HgbKernel
public import proofs.«01_k».proof.Proof.Gen.HgbKernel.Frame
public import proofs.«01_k».proof.Proof.Gen.HgbKernelIdeal
public import proofs.«01_k».proof.Proof.Gen.HgbKernelIdeal.Frame
public import proofs.«01_k».proof.Proof.Gen.HgfKernel
public import proofs.«01_k».proof.Proof.Gen.HgfKernel.Frame
public import proofs.«01_k».proof.Proof.Gen.HgfKernelIdeal
public import proofs.«01_k».proof.Proof.Gen.HgfKernelIdeal.Frame
public import proofs.«01_k».proof.Proof.Gen.DwoKernelIdeal.Value
public import proofs.«01_k».proof.Proof.Gen.DwoReferenceIdeal.Run
public import proofs.«01_k».proof.Proof.Gen.DwoReferenceIdeal.Read
public import proofs.«01_k».proof.Proof.Dwo.Claims
public import proofs.«01_k».proof.Proof.Gen.DwiKernelIdeal.Value
public import proofs.«01_k».proof.Proof.Gen.DwiReferenceIdeal.Run
public import proofs.«01_k».proof.Proof.Gen.DwiReferenceIdeal.Read
public import proofs.«01_k».proof.Proof.Dwi.Claims
public import proofs.«01_k».proof.Proof.Gen.SohReference
public import proofs.«01_k».proof.Proof.Gen.SohReferenceIdeal.Run
public import proofs.«01_k».proof.Proof.Gen.SohReferenceIdeal.Read
public import proofs.«01_k».proof.Proof.Soh.Claims
public import proofs.«01_k».proof.Proof.Gen.SchReferenceIdeal.Run
public import proofs.«01_k».proof.Proof.Gen.SchReferenceIdeal.Read
public import proofs.«01_k».proof.Proof.Sch.Claims
public import proofs.«01_k».proof.Proof.Gen.AdbReferenceIdeal.Run
public import proofs.«01_k».proof.Proof.Gen.AdbReferenceIdeal.Read
public import proofs.«01_k».proof.Proof.Adb.Claims
public import proofs.«01_k».proof.Proof.Gen.SooReference
public import proofs.«01_k».proof.Proof.Gen.SooReferenceIdeal.Run
public import proofs.«01_k».proof.Proof.Gen.SooReferenceIdeal.Read
public import proofs.«01_k».proof.Proof.Soo.Claims
public import proofs.«01_k».proof.Proof.Gen.SogReference
public import proofs.«01_k».proof.Proof.Gen.SogReferenceIdeal.Run
public import proofs.«01_k».proof.Proof.Gen.SogReferenceIdeal.Read
public import proofs.«01_k».proof.Proof.Sog.Claims
public import proofs.«01_k».proof.Proof.Gen.ScoReferenceIdeal.Run
public import proofs.«01_k».proof.Proof.Gen.ScoReferenceIdeal.Read
public import proofs.«01_k».proof.Proof.Sco.Claims
public import proofs.«01_k».proof.Proof.Gen.ScgReferenceIdeal.Run
public import proofs.«01_k».proof.Proof.Gen.ScgReferenceIdeal.Read
public import proofs.«01_k».proof.Proof.Scg.Claims
public import proofs.«01_k».proof.Proof.Gen.AdoReferenceIdeal.Run
public import proofs.«01_k».proof.Proof.Gen.AdoReferenceIdeal.Read
public import proofs.«01_k».proof.Proof.Ado.Claims
public import proofs.«01_k».proof.Proof.Gen.AdgReferenceIdeal.Run
public import proofs.«01_k».proof.Proof.Gen.AdgReferenceIdeal.Read
public import proofs.«01_k».proof.Proof.Adg.Claims
public import proofs.«01_k».proof.Proof.Gen.AsaKernelIdeal.Value
public import proofs.«01_k».proof.Proof.Gen.AsaReferenceIdeal.Run
public import proofs.«01_k».proof.Proof.Asa.Claims
public import proofs.«01_k».proof.Proof.Gen.AsgKernelIdeal.Value
public import proofs.«01_k».proof.Proof.Gen.AsgReferenceIdeal.Run
public import proofs.«01_k».proof.Proof.Asg.Claims
public import proofs.«01_k».proof.Proof.Gen.AsbKernelIdeal.Value
public import proofs.«01_k».proof.Proof.Gen.AsbReferenceIdeal.Run
public import proofs.«01_k».proof.Proof.Asb.Claims

@[expose] public section

noncomputable section

namespace Cert.Proof

open Idealize.ShloMosaic Idealize.SL.Sem

theorem claim : Cert.Claim :=
  ⟨Cert.OutKernel.Gen.facts, Cert.OutKernelIdeal.Gen.facts, Cert.OutReferenceIdeal.Gen.facts,
    Cert.LruKernel.Gen.facts, Cert.LruKernelIdeal.Gen.facts, Cert.LruReferenceIdeal.Gen.facts,
    Cert.DxKernel.Gen.facts, Cert.DxKernelIdeal.Gen.facts, Cert.DxReferenceIdeal.Gen.facts,
    Cert.FinKernel.Gen.facts, Cert.FinKernelIdeal.Gen.facts, Cert.FinReferenceIdeal.Gen.facts,
    Cert.HgbKernel.Gen.facts, Cert.HgbKernelIdeal.Gen.facts,
    Cert.HgfKernel.Gen.facts, Cert.HgfKernelIdeal.Gen.facts,
    Cert.DwoKernel.Gen.facts, Cert.DwoKernelIdeal.Gen.facts, Cert.DwoReferenceIdeal.Gen.facts,
    Cert.DwiKernel.Gen.facts, Cert.DwiKernelIdeal.Gen.facts, Cert.DwiReferenceIdeal.Gen.facts,
    Cert.SohKernel.Gen.facts, Cert.SohKernelIdeal.Gen.facts, Cert.SohReferenceIdeal.Gen.facts, Cert.SohReference.Gen.facts,
    Cert.SooKernel.Gen.facts, Cert.SooKernelIdeal.Gen.facts, Cert.SooReferenceIdeal.Gen.facts, Cert.SooReference.Gen.facts,
    Cert.SogKernel.Gen.facts, Cert.SogKernelIdeal.Gen.facts, Cert.SogReferenceIdeal.Gen.facts, Cert.SogReference.Gen.facts,
    Cert.SchKernel.Gen.facts, Cert.SchKernelIdeal.Gen.facts, Cert.SchReferenceIdeal.Gen.facts,
    Cert.ScoKernel.Gen.facts, Cert.ScoKernelIdeal.Gen.facts, Cert.ScoReferenceIdeal.Gen.facts,
    Cert.ScgKernel.Gen.facts, Cert.ScgKernelIdeal.Gen.facts, Cert.ScgReferenceIdeal.Gen.facts,
    Cert.AdbKernel.Gen.facts, Cert.AdbKernelIdeal.Gen.facts, Cert.AdbReferenceIdeal.Gen.facts,
    Cert.AdoKernel.Gen.facts, Cert.AdoKernelIdeal.Gen.facts, Cert.AdoReferenceIdeal.Gen.facts,
    Cert.AdgKernel.Gen.facts, Cert.AdgKernelIdeal.Gen.facts, Cert.AdgReferenceIdeal.Gen.facts,
    Cert.AsaKernel.Gen.facts, Cert.AsaKernelIdeal.Gen.facts, Cert.AsaReferenceIdeal.Gen.facts,
    Cert.AsgKernel.Gen.facts, Cert.AsgKernelIdeal.Gen.facts, Cert.AsgReferenceIdeal.Gen.facts,
    Cert.AsbKernel.Gen.facts, Cert.AsbKernelIdeal.Gen.facts, Cert.AsbReferenceIdeal.Gen.facts,
    Cert.Pre_out_finite.Gen.facts, Cert.Pre_lru_finite.Gen.facts, Cert.Pre_dx_finite.Gen.facts, Cert.Pre_fin_finite.Gen.facts,
    Out.frame_kernel, Out.frame_kernel_ideal, Out.frame_kernel_ideal_pre, Out.frame_reference, Out.frame_reference_pre,
    Lru.frame_kernel, Lru.frame_kernel_ideal, Lru.frame_kernel_ideal_pre, Lru.Ref.frame_reference, Lru.Ref.frame_reference_pre,
    Dx.frame_kernel, Dx.frame_kernel_ideal, Dx.frame_kernel_ideal_pre, Dx.frame_reference, Dx.frame_reference_pre,
    Cert.Proof.Fin.frame_kernel, Cert.Proof.Fin.frame_kernel_ideal, Cert.Proof.Fin.frame_kernel_ideal_pre, Cert.Proof.Fin.frame_reference, Cert.Proof.Fin.frame_reference_pre,
    fun m ρ _ => Cert.HgbKernel.Gen.frame m ρ, fun m ρ _ => Cert.HgbKernelIdeal.Gen.frame m ρ,
    fun m ρ _ => Cert.HgfKernel.Gen.frame m ρ, fun m ρ _ => Cert.HgfKernelIdeal.Gen.frame m ρ,
    Dwo.frame_kernel, Dwo.frame_kernel_ideal, Dwo.frame_reference,
    Dwi.frame_kernel, Dwi.frame_kernel_ideal, Dwi.frame_reference,
    Soh.frame_kernel, Soh.frame_kernel_ideal, Soh.frame_reference, Soh.frame_reference_bits,
    Soo.frame_kernel, Soo.frame_kernel_ideal, Soo.frame_reference, Soo.frame_reference_bits,
    Sog.frame_kernel, Sog.frame_kernel_ideal, Sog.frame_reference, Sog.frame_reference_bits,
    Sch.frame_kernel, Sch.frame_kernel_ideal, Sch.frame_reference,
    Sco.frame_kernel, Sco.frame_kernel_ideal, Sco.frame_reference,
    Scg.frame_kernel, Scg.frame_kernel_ideal, Scg.frame_reference,
    Adb.frame_kernel, Adb.frame_kernel_ideal, Adb.frame_reference,
    Ado.frame_kernel, Ado.frame_kernel_ideal, Ado.frame_reference,
    Adg.frame_kernel, Adg.frame_kernel_ideal, Adg.frame_reference,
    Asa.frame_kernel, Asa.frame_kernel_ideal, Asa.frame_reference,
    Asg.frame_kernel, Asg.frame_kernel_ideal, Asg.frame_reference,
    Asb.frame_kernel, Asb.frame_kernel_ideal, Asb.frame_reference,
    trivial, Out.algebraic, Lru.preserves, Lru.algebraic, trivial, Dx.algebraic, trivial, Cert.Proof.Fin.algebraic, trivial, trivial,
    trivial, Dwo.algebraic, trivial, Dwi.algebraic, trivial, Soh.bitexact, Soh.algebraic,
    trivial, Soo.bitexact, Soo.algebraic, trivial, Sog.bitexact, Sog.algebraic,
    trivial, Sch.algebraic, trivial, Sco.algebraic, trivial, Scg.algebraic,
    trivial, Adb.algebraic, trivial, Ado.algebraic, trivial, Adg.algebraic,
    trivial, Asa.algebraic, trivial, Asg.algebraic, trivial, Asb.algebraic⟩

end Cert.Proof

end
